-- ==== Defs.lean ====
def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))) = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite_ple [hPre_finite_ple : Cert.Pre_finite_ple.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Sg (m : (ℓ : Loc Cert.Sg.nD Cert.Sg.τ Cert.Sg.sig) → Buf (Elt Bits) ℓ) : Prop :=
  True

def Pre_SgIdeal (m : (ℓ : Loc Cert.SgIdeal.nD Cert.SgIdeal.τ Cert.SgIdeal.sig) → Buf (Elt Ideal) ℓ) : Prop :=
  True

def Pre_SgIdeal_finite_sg [hPre_finite_sg : Cert.Pre_finite_sg.Facts] (m : (ℓ : Loc Cert.SgIdeal.nD Cert.SgIdeal.τ Cert.SgIdeal.sig) → Buf (Elt Ideal) ℓ) : Prop :=
  ∀ c : Dev Cert.SgIdeal.nD,
    (Cert.Pre_finite_sg.fn (F := Ideal) (m ((c.tc : Thread Cert.SgIdeal.nD Cert.SgIdeal.τ).loc Cert.SgIdeal.main_arg0)) (m ((c.tc : Thread Cert.SgIdeal.nD Cert.SgIdeal.τ).loc Cert.SgIdeal.main_arg1)) (m ((c.tc : Thread Cert.SgIdeal.nD Cert.SgIdeal.τ).loc Cert.SgIdeal.main_arg2)) (m ((c.tc : Thread Cert.SgIdeal.nD Cert.SgIdeal.τ).loc Cert.SgIdeal.main_arg3)) (m ((c.tc : Thread Cert.SgIdeal.nD Cert.SgIdeal.τ).loc Cert.SgIdeal.main_arg4)) (m ((c.tc : Thread Cert.SgIdeal.nD Cert.SgIdeal.τ).loc Cert.SgIdeal.main_arg5))) = (fun _ => 1#1)

def Pre_SgRefIdeal (m : (ℓ : Loc Cert.SgRefIdeal.nD Cert.SgRefIdeal.τ Cert.SgRefIdeal.sig) → Buf (Elt Ideal) ℓ) : Prop :=
  True

def Pre_SgRefIdeal_finite_sg [hPre_finite_sg : Cert.Pre_finite_sg.Facts] (m : (ℓ : Loc Cert.SgRefIdeal.nD Cert.SgRefIdeal.τ Cert.SgRefIdeal.sig) → Buf (Elt Ideal) ℓ) : Prop :=
  ∀ c : Dev Cert.SgRefIdeal.nD,
    (Cert.Pre_finite_sg.fn (F := Ideal) (m ((c.tc : Thread Cert.SgRefIdeal.nD Cert.SgRefIdeal.τ).loc Cert.SgRefIdeal.main_arg0)) (m ((c.tc : Thread Cert.SgRefIdeal.nD Cert.SgRefIdeal.τ).loc Cert.SgRefIdeal.main_arg1)) (m ((c.tc : Thread Cert.SgRefIdeal.nD Cert.SgRefIdeal.τ).loc Cert.SgRefIdeal.main_arg2)) (m ((c.tc : Thread Cert.SgRefIdeal.nD Cert.SgRefIdeal.τ).loc Cert.SgRefIdeal.main_arg3)) (m ((c.tc : Thread Cert.SgRefIdeal.nD Cert.SgRefIdeal.τ).loc Cert.SgRefIdeal.main_arg4)) (m ((c.tc : Thread Cert.SgRefIdeal.nD Cert.SgRefIdeal.τ).loc Cert.SgRefIdeal.main_arg5))) = (fun _ => 1#1)

def Pre_Attf (m : (ℓ : Loc Cert.Attf.nD Cert.Attf.τ Cert.Attf.sig) → Buf (Elt Bits) ℓ) : Prop :=
  True

def Pre_AttfIdeal (m : (ℓ : Loc Cert.AttfIdeal.nD Cert.AttfIdeal.τ Cert.AttfIdeal.sig) → Buf (Elt Ideal) ℓ) : Prop :=
  True

def Pre_AttfIdeal_finite_attf [hPre_finite_attf : Cert.Pre_finite_attf.Facts] (m : (ℓ : Loc Cert.AttfIdeal.nD Cert.AttfIdeal.τ Cert.AttfIdeal.sig) → Buf (Elt Ideal) ℓ) : Prop :=
  ∀ c : Dev Cert.AttfIdeal.nD,
    (Cert.Pre_finite_attf.fn (F := Ideal) (m ((c.tc : Thread Cert.AttfIdeal.nD Cert.AttfIdeal.τ).loc Cert.AttfIdeal.main_arg0)) (m ((c.tc : Thread Cert.AttfIdeal.nD Cert.AttfIdeal.τ).loc Cert.AttfIdeal.main_arg1))) = (fun _ => 1#1)

def Pre_AttfRefIdeal (m : (ℓ : Loc Cert.AttfRefIdeal.nD Cert.AttfRefIdeal.τ Cert.AttfRefIdeal.sig) → Buf (Elt Ideal) ℓ) : Prop :=
  True

def Pre_AttfRefIdeal_finite_attf [hPre_finite_attf : Cert.Pre_finite_attf.Facts] (m : (ℓ : Loc Cert.AttfRefIdeal.nD Cert.AttfRefIdeal.τ Cert.AttfRefIdeal.sig) → Buf (Elt Ideal) ℓ) : Prop :=
  ∀ c : Dev Cert.AttfRefIdeal.nD,
    (Cert.Pre_finite_attf.fn (F := Ideal) (m ((c.tc : Thread Cert.AttfRefIdeal.nD Cert.AttfRefIdeal.τ).loc Cert.AttfRefIdeal.main_arg0)) (m ((c.tc : Thread Cert.AttfRefIdeal.nD Cert.AttfRefIdeal.τ).loc Cert.AttfRefIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_inproj [hPre_finite_inproj : Cert.Pre_finite_inproj.Facts] (m : (ℓ : Loc Cert.InprojIdeal.nD Cert.InprojIdeal.τ Cert.InprojIdeal.sig) → Buf (Elt Ideal) ℓ) : Prop :=
  ∀ c : Dev Cert.InprojIdeal.nD,
    (Cert.Pre_finite_inproj.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_inproj [hPre_finite_inproj : Cert.Pre_finite_inproj.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_merge [hPre_finite_merge : Cert.Pre_finite_merge.Facts] (m : (ℓ : Loc Cert.MergeIdeal.nD Cert.MergeIdeal.τ Cert.MergeIdeal.sig) → Buf (Elt Ideal) ℓ) : Prop :=
  ∀ c : Dev Cert.MergeIdeal.nD,
    (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_merge [hPre_finite_merge : Cert.Pre_finite_merge.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))) = (fun _ => 1#1)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_PleRefIdeal_pre_finite_ple [hPleRefIdeal : Cert.PleRefIdeal.Facts] [hPre_finite_ple : Cert.Pre_finite_ple.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite_ple m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Sg [hSg : Cert.Sg.Facts] : Prop :=
  ∀ (m : (ℓ : Loc Cert.Sg.nD Cert.Sg.τ Cert.Sg.sig) → Buf (Elt Bits) ℓ) (g : Dev Cert.Sg.nD → PrngReg), Pre_Sg m →
    θ_run (Cert.Sg.defs (F := Bits)) (onTc (τ := Cert.Sg.τ) (Cert.Sg.main (F := Bits))) ⟨m, fun _ => 0, g⟩ (fun r => (∀ c : Dev Cert.Sg.nD,
      r.2.mem ((c.tc : Thread Cert.Sg.nD Cert.Sg.τ).loc Cert.Sg.main_arg0) = m ((c.tc : Thread Cert.Sg.nD Cert.Sg.τ).loc Cert.Sg.main_arg0)
      ∧ r.2.mem ((c.tc : Thread Cert.Sg.nD Cert.Sg.τ).loc Cert.Sg.main_arg1) = m ((c.tc : Thread Cert.Sg.nD Cert.Sg.τ).loc Cert.Sg.main_arg1)
      ∧ r.2.mem ((c.tc : Thread Cert.Sg.nD Cert.Sg.τ).loc Cert.Sg.main_arg2) = m ((c.tc : Thread Cert.Sg.nD Cert.Sg.τ).loc Cert.Sg.main_arg2)
      ∧ r.2.mem ((c.tc : Thread Cert.Sg.nD Cert.Sg.τ).loc Cert.Sg.main_arg3) = m ((c.tc : Thread Cert.Sg.nD Cert.Sg.τ).loc Cert.Sg.main_arg3)
      ∧ r.2.mem ((c.tc : Thread Cert.Sg.nD Cert.Sg.τ).loc Cert.Sg.main_arg4) = m ((c.tc : Thread Cert.Sg.nD Cert.Sg.τ).loc Cert.Sg.main_arg4)
      ∧ r.2.mem ((c.tc : Thread Cert.Sg.nD Cert.Sg.τ).loc Cert.Sg.main_arg5) = m ((c.tc : Thread Cert.Sg.nD Cert.Sg.τ).loc Cert.Sg.main_arg5))
      ∧ r.2.sem = fun _ => 0)

def quiescent_SgIdeal [hSgIdeal : Cert.SgIdeal.Facts] : Prop :=
  ∀ (m : (ℓ : Loc Cert.SgIdeal.nD Cert.SgIdeal.τ Cert.SgIdeal.sig) → Buf (Elt Ideal) ℓ) (g : Dev Cert.SgIdeal.nD → PrngReg), Pre_SgIdeal m →
    θ_run (Cert.SgIdeal.defs (F := Ideal)) (onTc (τ := Cert.SgIdeal.τ) (Cert.SgIdeal.main (F := Ideal))) ⟨m, fun _ => 0, g⟩ (fun r => (∀ c : Dev Cert.SgIdeal.nD,
      r.2.mem ((c.tc : Thread Cert.SgIdeal.nD Cert.SgIdeal.τ).loc Cert.SgIdeal.main_arg0) = m ((c.tc : Thread Cert.SgIdeal.nD Cert.SgIdeal.τ).loc Cert.SgIdeal.main_arg0)
      ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
      ∧ r.2.mem ((c.tc : Thread Cert.SgIdeal.nD Cert.SgIdeal.τ).loc Cert.SgIdeal.main_arg2) = m ((c.tc : Thread Cert.SgIdeal.nD Cert.SgIdeal.τ).loc Cert.SgIdeal.main_arg2)
      ∧ r.2.mem ((c.tc : Thread Cert.SgIdeal.nD Cert.SgIdeal.τ).loc Cert.SgIdeal.main_arg3) = m ((c.tc : Thread Cert.SgIdeal.nD Cert.SgIdeal.τ).loc Cert.SgIdeal.main_arg3)
      ∧ r.2.mem ((c.tc : Thread Cert.SgIdeal.nD Cert.SgIdeal.τ).loc Cert.SgIdeal.main_arg4) = m ((c.tc : Thread Cert.SgIdeal.nD Cert.SgIdeal.τ).loc Cert.SgIdeal.main_arg4)
      ∧ r.2.mem ((c.tc : Thread Cert.SgIdeal.nD Cert.SgIdeal.τ).loc Cert.SgIdeal.main_arg5) = m ((c.tc : Thread Cert.SgIdeal.nD Cert.SgIdeal.τ).loc Cert.SgIdeal.main_arg5))
      ∧ r.2.sem = fun _ => 0)

def quiescent_SgIdeal_pre_finite_sg [hSgIdeal : Cert.SgIdeal.Facts] [hPre_finite_sg : Cert.Pre_finite_sg.Facts] : Prop :=
  ∀ (m : (ℓ : Loc Cert.SgIdeal.nD Cert.SgIdeal.τ Cert.SgIdeal.sig) → Buf (Elt Ideal) ℓ) (g : Dev Cert.SgIdeal.nD → PrngReg), Pre_SgIdeal_finite_sg m →
    θ_run (Cert.SgIdeal.defs (F := Ideal)) (onTc (τ := Cert.SgIdeal.τ) (Cert.SgIdeal.main (F := Ideal))) ⟨m, fun _ => 0, g⟩ (fun r => (∀ c : Dev Cert.SgIdeal.nD,
      r.2.mem ((c.tc : Thread Cert.SgIdeal.nD Cert.SgIdeal.τ).loc Cert.SgIdeal.main_arg0) = m ((c.tc : Thread Cert.SgIdeal.nD Cert.SgIdeal.τ).loc Cert.SgIdeal.main_arg0)
      ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
      ∧ r.2.mem ((c.tc : Thread Cert.SgIdeal.nD Cert.SgIdeal.τ).loc Cert.SgIdeal.main_arg2) = m ((c.tc : Thread Cert.SgIdeal.nD Cert.SgIdeal.τ).loc Cert.SgIdeal.main_arg2)
      ∧ r.2.mem ((c.tc : Thread Cert.SgIdeal.nD Cert.SgIdeal.τ).loc Cert.SgIdeal.main_arg3) = m ((c.tc : Thread Cert.SgIdeal.nD Cert.SgIdeal.τ).loc Cert.SgIdeal.main_arg3)
      ∧ r.2.mem ((c.tc : Thread Cert.SgIdeal.nD Cert.SgIdeal.τ).loc Cert.SgIdeal.main_arg4) = m ((c.tc : Thread Cert.SgIdeal.nD Cert.SgIdeal.τ).loc Cert.SgIdeal.main_arg4)
      ∧ r.2.mem ((c.tc : Thread Cert.SgIdeal.nD Cert.SgIdeal.τ).loc Cert.SgIdeal.main_arg5) = m ((c.tc : Thread Cert.SgIdeal.nD Cert.SgIdeal.τ).loc Cert.SgIdeal.main_arg5))
      ∧ r.2.sem = fun _ => 0)

def quiescent_SgRefIdeal [hSgRefIdeal : Cert.SgRefIdeal.Facts] : Prop :=
  ∀ (m : (ℓ : Loc Cert.SgRefIdeal.nD Cert.SgRefIdeal.τ Cert.SgRefIdeal.sig) → Buf (Elt Ideal) ℓ) (g : Dev Cert.SgRefIdeal.nD → PrngReg), Pre_SgRefIdeal m →
    θ_run (Cert.SgRefIdeal.defs (F := Ideal)) (onTc (τ := Cert.SgRefIdeal.τ) (Cert.SgRefIdeal.main (F := Ideal))) ⟨m, fun _ => 0, g⟩ (fun r => (∀ c : Dev Cert.SgRefIdeal.nD,
      r.2.mem ((c.tc : Thread Cert.SgRefIdeal.nD Cert.SgRefIdeal.τ).loc Cert.SgRefIdeal.main_arg0) = m ((c.tc : Thread Cert.SgRefIdeal.nD Cert.SgRefIdeal.τ).loc Cert.SgRefIdeal.main_arg0)
      ∧ r.2.mem ((c.tc : Thread Cert.SgRefIdeal.nD Cert.SgRefIdeal.τ).loc Cert.SgRefIdeal.main_arg1) = m ((c.tc : Thread Cert.SgRefIdeal.nD Cert.SgRefIdeal.τ).loc Cert.SgRefIdeal.main_arg1)
      ∧ r.2.mem ((c.tc : Thread Cert.SgRefIdeal.nD Cert.SgRefIdeal.τ).loc Cert.SgRefIdeal.main_arg2) = m ((c.tc : Thread Cert.SgRefIdeal.nD Cert.SgRefIdeal.τ).loc Cert.SgRefIdeal.main_arg2)
      ∧ r.2.mem ((c.tc : Thread Cert.SgRefIdeal.nD Cert.SgRefIdeal.τ).loc Cert.SgRefIdeal.main_arg3) = m ((c.tc : Thread Cert.SgRefIdeal.nD Cert.SgRefIdeal.τ).loc Cert.SgRefIdeal.main_arg3)
      ∧ r.2.mem ((c.tc : Thread Cert.SgRefIdeal.nD Cert.SgRefIdeal.τ).loc Cert.SgRefIdeal.main_arg4) = m ((c.tc : Thread Cert.SgRefIdeal.nD Cert.SgRefIdeal.τ).loc Cert.SgRefIdeal.main_arg4)
      ∧ r.2.mem ((c.tc : Thread Cert.SgRefIdeal.nD Cert.SgRefIdeal.τ).loc Cert.SgRefIdeal.main_arg5) = m ((c.tc : Thread Cert.SgRefIdeal.nD Cert.SgRefIdeal.τ).loc Cert.SgRefIdeal.main_arg5))
      ∧ r.2.sem = fun _ => 0)

def quiescent_SgRefIdeal_pre_finite_sg [hSgRefIdeal : Cert.SgRefIdeal.Facts] [hPre_finite_sg : Cert.Pre_finite_sg.Facts] : Prop :=
  ∀ (m : (ℓ : Loc Cert.SgRefIdeal.nD Cert.SgRefIdeal.τ Cert.SgRefIdeal.sig) → Buf (Elt Ideal) ℓ) (g : Dev Cert.SgRefIdeal.nD → PrngReg), Pre_SgRefIdeal_finite_sg m →
    θ_run (Cert.SgRefIdeal.defs (F := Ideal)) (onTc (τ := Cert.SgRefIdeal.τ) (Cert.SgRefIdeal.main (F := Ideal))) ⟨m, fun _ => 0, g⟩ (fun r => (∀ c : Dev Cert.SgRefIdeal.nD,
      r.2.mem ((c.tc : Thread Cert.SgRefIdeal.nD Cert.SgRefIdeal.τ).loc Cert.SgRefIdeal.main_arg0) = m ((c.tc : Thread Cert.SgRefIdeal.nD Cert.SgRefIdeal.τ).loc Cert.SgRefIdeal.main_arg0)
      ∧ r.2.mem ((c.tc : Thread Cert.SgRefIdeal.nD Cert.SgRefIdeal.τ).loc Cert.SgRefIdeal.main_arg1) = m ((c.tc : Thread Cert.SgRefIdeal.nD Cert.SgRefIdeal.τ).loc Cert.SgRefIdeal.main_arg1)
      ∧ r.2.mem ((c.tc : Thread Cert.SgRefIdeal.nD Cert.SgRefIdeal.τ).loc Cert.SgRefIdeal.main_arg2) = m ((c.tc : Thread Cert.SgRefIdeal.nD Cert.SgRefIdeal.τ).loc Cert.SgRefIdeal.main_arg2)
      ∧ r.2.mem ((c.tc : Thread Cert.SgRefIdeal.nD Cert.SgRefIdeal.τ).loc Cert.SgRefIdeal.main_arg3) = m ((c.tc : Thread Cert.SgRefIdeal.nD Cert.SgRefIdeal.τ).loc Cert.SgRefIdeal.main_arg3)
      ∧ r.2.mem ((c.tc : Thread Cert.SgRefIdeal.nD Cert.SgRefIdeal.τ).loc Cert.SgRefIdeal.main_arg4) = m ((c.tc : Thread Cert.SgRefIdeal.nD Cert.SgRefIdeal.τ).loc Cert.SgRefIdeal.main_arg4)
      ∧ r.2.mem ((c.tc : Thread Cert.SgRefIdeal.nD Cert.SgRefIdeal.τ).loc Cert.SgRefIdeal.main_arg5) = m ((c.tc : Thread Cert.SgRefIdeal.nD Cert.SgRefIdeal.τ).loc Cert.SgRefIdeal.main_arg5))
      ∧ r.2.sem = fun _ => 0)

def quiescent_Attf [hAttf : Cert.Attf.Facts] : Prop :=
  ∀ (m : (ℓ : Loc Cert.Attf.nD Cert.Attf.τ Cert.Attf.sig) → Buf (Elt Bits) ℓ) (g : Dev Cert.Attf.nD → PrngReg), Pre_Attf m →
    θ_run (Cert.Attf.defs (F := Bits)) (onTc (τ := Cert.Attf.τ) (Cert.Attf.main (F := Bits))) ⟨m, fun _ => 0, g⟩ (fun r => (∀ c : Dev Cert.Attf.nD,
      r.2.mem ((c.tc : Thread Cert.Attf.nD Cert.Attf.τ).loc Cert.Attf.main_arg0) = m ((c.tc : Thread Cert.Attf.nD Cert.Attf.τ).loc Cert.Attf.main_arg0)
      ∧ r.2.mem ((c.tc : Thread Cert.Attf.nD Cert.Attf.τ).loc Cert.Attf.main_arg1) = m ((c.tc : Thread Cert.Attf.nD Cert.Attf.τ).loc Cert.Attf.main_arg1))
      ∧ r.2.sem = fun _ => 0)

def quiescent_AttfIdeal [hAttfIdeal : Cert.AttfIdeal.Facts] : Prop :=
  ∀ (m : (ℓ : Loc Cert.AttfIdeal.nD Cert.AttfIdeal.τ Cert.AttfIdeal.sig) → Buf (Elt Ideal) ℓ) (g : Dev Cert.AttfIdeal.nD → PrngReg), Pre_AttfIdeal m →
    θ_run (Cert.AttfIdeal.defs (F := Ideal)) (onTc (τ := Cert.AttfIdeal.τ) (Cert.AttfIdeal.main (F := Ideal))) ⟨m, fun _ => 0, g⟩ (fun r => (∀ c : Dev Cert.AttfIdeal.nD,
      r.2.mem ((c.tc : Thread Cert.AttfIdeal.nD Cert.AttfIdeal.τ).loc Cert.AttfIdeal.main_arg0) = m ((c.tc : Thread Cert.AttfIdeal.nD Cert.AttfIdeal.τ).loc Cert.AttfIdeal.main_arg0)
      ∧ r.2.mem ((c.tc : Thread Cert.AttfIdeal.nD Cert.AttfIdeal.τ).loc Cert.AttfIdeal.main_arg1) = m ((c.tc : Thread Cert.AttfIdeal.nD Cert.AttfIdeal.τ).loc Cert.AttfIdeal.main_arg1))
      ∧ r.2.sem = fun _ => 0)

def quiescent_AttfIdeal_pre_finite_attf [hAttfIdeal : Cert.AttfIdeal.Facts] [hPre_finite_attf : Cert.Pre_finite_attf.Facts] : Prop :=
  ∀ (m : (ℓ : Loc Cert.AttfIdeal.nD Cert.AttfIdeal.τ Cert.AttfIdeal.sig) → Buf (Elt Ideal) ℓ) (g : Dev Cert.AttfIdeal.nD → PrngReg), Pre_AttfIdeal_finite_attf m →
    θ_run (Cert.AttfIdeal.defs (F := Ideal)) (onTc (τ := Cert.AttfIdeal.τ) (Cert.AttfIdeal.main (F := Ideal))) ⟨m, fun _ => 0, g⟩ (fun r => (∀ c : Dev Cert.AttfIdeal.nD,
      r.2.mem ((c.tc : Thread Cert.AttfIdeal.nD Cert.AttfIdeal.τ).loc Cert.AttfIdeal.main_arg0) = m ((c.tc : Thread Cert.AttfIdeal.nD Cert.AttfIdeal.τ).loc Cert.AttfIdeal.main_arg0)
      ∧ r.2.mem ((c.tc : Thread Cert.AttfIdeal.nD Cert.AttfIdeal.τ).loc Cert.AttfIdeal.main_arg1) = m ((c.tc : Thread Cert.AttfIdeal.nD Cert.AttfIdeal.τ).loc Cert.AttfIdeal.main_arg1))
      ∧ r.2.sem = fun _ => 0)

def quiescent_AttfRefIdeal [hAttfRefIdeal : Cert.AttfRefIdeal.Facts] : Prop :=
  ∀ (m : (ℓ : Loc Cert.AttfRefIdeal.nD Cert.AttfRefIdeal.τ Cert.AttfRefIdeal.sig) → Buf (Elt Ideal) ℓ) (g : Dev Cert.AttfRefIdeal.nD → PrngReg), Pre_AttfRefIdeal m →
    θ_run (Cert.AttfRefIdeal.defs (F := Ideal)) (onTc (τ := Cert.AttfRefIdeal.τ) (Cert.AttfRefIdeal.main (F := Ideal))) ⟨m, fun _ => 0, g⟩ (fun r => (∀ c : Dev Cert.AttfRefIdeal.nD,
      r.2.mem ((c.tc : Thread Cert.AttfRefIdeal.nD Cert.AttfRefIdeal.τ).loc Cert.AttfRefIdeal.main_arg0) = m ((c.tc : Thread Cert.AttfRefIdeal.nD Cert.AttfRefIdeal.τ).loc Cert.AttfRefIdeal.main_arg0)
      ∧ r.2.mem ((c.tc : Thread Cert.AttfRefIdeal.nD Cert.AttfRefIdeal.τ).loc Cert.AttfRefIdeal.main_arg1) = m ((c.tc : Thread Cert.AttfRefIdeal.nD Cert.AttfRefIdeal.τ).loc Cert.AttfRefIdeal.main_arg1))
      ∧ r.2.sem = fun _ => 0)

def quiescent_AttfRefIdeal_pre_finite_attf [hAttfRefIdeal : Cert.AttfRefIdeal.Facts] [hPre_finite_attf : Cert.Pre_finite_attf.Facts] : Prop :=
  ∀ (m : (ℓ : Loc Cert.AttfRefIdeal.nD Cert.AttfRefIdeal.τ Cert.AttfRefIdeal.sig) → Buf (Elt Ideal) ℓ) (g : Dev Cert.AttfRefIdeal.nD → PrngReg), Pre_AttfRefIdeal_finite_attf m →
    θ_run (Cert.AttfRefIdeal.defs (F := Ideal)) (onTc (τ := Cert.AttfRefIdeal.τ) (Cert.AttfRefIdeal.main (F := Ideal))) ⟨m, fun _ => 0, g⟩ (fun r => (∀ c : Dev Cert.AttfRefIdeal.nD,
      r.2.mem ((c.tc : Thread Cert.AttfRefIdeal.nD Cert.AttfRefIdeal.τ).loc Cert.AttfRefIdeal.main_arg0) = m ((c.tc : Thread Cert.AttfRefIdeal.nD Cert.AttfRefIdeal.τ).loc Cert.AttfRefIdeal.main_arg0)
      ∧ r.2.mem ((c.tc : Thread Cert.AttfRefIdeal.nD Cert.AttfRefIdeal.τ).loc Cert.AttfRefIdeal.main_arg1) = m ((c.tc : Thread Cert.AttfRefIdeal.nD Cert.AttfRefIdeal.τ).loc Cert.AttfRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojIdeal_pre_finite_inproj [hInprojIdeal : Cert.InprojIdeal.Facts] [hPre_finite_inproj : Cert.Pre_finite_inproj.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_inproj m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_InprojRefIdeal_pre_finite_inproj [hInprojRefIdeal : Cert.InprojRefIdeal.Facts] [hPre_finite_inproj : Cert.Pre_finite_inproj.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_inproj m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeIdeal_pre_finite_merge [hMergeIdeal : Cert.MergeIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_merge m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeRefIdeal_pre_finite_merge [hMergeRefIdeal : Cert.MergeRefIdeal.Facts] [hPre_finite_merge : Cert.Pre_finite_merge.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_merge m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def preserves_Ple_PleIdeal : Prop :=
  True

def algebraic_PleIdeal_PleRefIdeal_pre_finite_ple [hPleIdeal : Cert.PleIdeal.Facts] [hPleRefIdeal : Cert.PleRefIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite_ple m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v4_3)) (v1 : (c : Dev Cert.PleIdeal.nD) → Buf (Elt Ideal) ((c.tc : Thread Cert.PleIdeal.nD Cert.PleIdeal.τ).loc Cert.PleIdeal.main_v6_0)) (v2 : (c : Dev Cert.PleIdeal.nD) → Buf (Elt Ideal) ((c.tc : Thread Cert.PleIdeal.nD Cert.PleIdeal.τ).loc Cert.PleIdeal.main_v6_1)) (v3 : (c : Dev Cert.PleIdeal.nD) → Buf (Elt Ideal) ((c.tc : Thread Cert.PleIdeal.nD Cert.PleIdeal.τ).loc Cert.PleIdeal.main_v6_2)) (v4 : (c : Dev Cert.PleIdeal.nD) → Buf (Elt Ideal) ((c.tc : Thread Cert.PleIdeal.nD Cert.PleIdeal.τ).loc Cert.PleIdeal.main_v6_3)) (v5 : (c : Dev Cert.PleIdeal.nD) → Buf (Elt Ideal) ((c.tc : Thread Cert.PleIdeal.nD Cert.PleIdeal.τ).loc Cert.PleIdeal.main_v6_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4_3) = v0 c
          ∧ r.2.mem ((c.tc : Thread Cert.PleIdeal.nD Cert.PleIdeal.τ).loc Cert.PleIdeal.main_v6_0) = v1 c
          ∧ r.2.mem ((c.tc : Thread Cert.PleIdeal.nD Cert.PleIdeal.τ).loc Cert.PleIdeal.main_v6_1) = v2 c
          ∧ r.2.mem ((c.tc : Thread Cert.PleIdeal.nD Cert.PleIdeal.τ).loc Cert.PleIdeal.main_v6_2) = v3 c
          ∧ r.2.mem ((c.tc : Thread Cert.PleIdeal.nD Cert.PleIdeal.τ).loc Cert.PleIdeal.main_v6_3) = v4 c
          ∧ r.2.mem ((c.tc : Thread Cert.PleIdeal.nD Cert.PleIdeal.τ).loc Cert.PleIdeal.main_v6_4) = v5 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v33) = v0 c
          ∧ r.2.mem ((c.tc : Thread Cert.PleRefIdeal.nD Cert.PleRefIdeal.τ).loc Cert.PleRefIdeal.main_v63) = v1 c
          ∧ r.2.mem ((c.tc : Thread Cert.PleRefIdeal.nD Cert.PleRefIdeal.τ).loc Cert.PleRefIdeal.main_v64) = v2 c
          ∧ r.2.mem ((c.tc : Thread Cert.PleRefIdeal.nD Cert.PleRefIdeal.τ).loc Cert.PleRefIdeal.main_v62) = v3 c
          ∧ r.2.mem ((c.tc : Thread Cert.PleRefIdeal.nD Cert.PleRefIdeal.τ).loc Cert.PleRefIdeal.main_v65) = v4 c
          ∧ r.2.mem ((c.tc : Thread Cert.PleRefIdeal.nD Cert.PleRefIdeal.τ).loc Cert.PleRefIdeal.main_v66) = v5 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v83_0)) (v1 : (c : Dev Cert.AttnIdeal.nD) → Buf (Elt Ideal) ((c.tc : Thread Cert.AttnIdeal.nD Cert.AttnIdeal.τ).loc Cert.AttnIdeal.main_v83_1)) (v2 : (c : Dev Cert.AttnIdeal.nD) → Buf (Elt Ideal) ((c.tc : Thread Cert.AttnIdeal.nD Cert.AttnIdeal.τ).loc Cert.AttnIdeal.main_v103)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v83_0) = v0 c
          ∧ r.2.mem ((c.tc : Thread Cert.AttnIdeal.nD Cert.AttnIdeal.τ).loc Cert.AttnIdeal.main_v83_1) = v1 c
          ∧ r.2.mem ((c.tc : Thread Cert.AttnIdeal.nD Cert.AttnIdeal.τ).loc Cert.AttnIdeal.main_v103) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v106) = v0 c
          ∧ r.2.mem ((c.tc : Thread Cert.AttnRefIdeal.nD Cert.AttnRefIdeal.τ).loc Cert.AttnRefIdeal.main_v107) = v1 c
          ∧ r.2.mem ((c.tc : Thread Cert.AttnRefIdeal.nD Cert.AttnRefIdeal.τ).loc Cert.AttnRefIdeal.main_v99) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Sg_SgIdeal : Prop :=
  IdealRules.named_const.Statement Cert.SgIdeal.κ "gelu_a" .f32 0x3D372713#32 ((8943 / 200000 : ℝ) : EReal)
  ∧ IdealRules.named_const.Statement Cert.SgIdeal.κ "gelu_3a" .f32 0x3E095D4F#32 ((26829 / 200000 : ℝ) : EReal)

def algebraic_SgIdeal_SgRefIdeal_pre_finite_sg [hSgIdeal : Cert.SgIdeal.Facts] [hSgRefIdeal : Cert.SgRefIdeal.Facts] [hPre_finite_sg : Cert.Pre_finite_sg.Facts] : Prop :=
  ∀ (m : (ℓ : Loc Cert.SgIdeal.nD Cert.SgIdeal.τ Cert.SgIdeal.sig) → Buf (Elt Ideal) ℓ) (g : Dev Cert.SgIdeal.nD → PrngReg)
    (m' : (ℓ : Loc Cert.SgRefIdeal.nD Cert.SgRefIdeal.τ Cert.SgRefIdeal.sig) → Buf (Elt Ideal) ℓ) (g' : Dev Cert.SgRefIdeal.nD → PrngReg), Pre_SgIdeal_finite_sg m →
    (∀ c : Dev Cert.SgIdeal.nD,
      m' ((c.tc : Thread Cert.SgRefIdeal.nD Cert.SgRefIdeal.τ).loc Cert.SgRefIdeal.main_arg0) = m ((c.tc : Thread Cert.SgIdeal.nD Cert.SgIdeal.τ).loc Cert.SgIdeal.main_arg0)
      ∧ m' ((c.tc : Thread Cert.SgRefIdeal.nD Cert.SgRefIdeal.τ).loc Cert.SgRefIdeal.main_arg1) = m ((c.tc : Thread Cert.SgIdeal.nD Cert.SgIdeal.τ).loc Cert.SgIdeal.main_arg1)
      ∧ m' ((c.tc : Thread Cert.SgRefIdeal.nD Cert.SgRefIdeal.τ).loc Cert.SgRefIdeal.main_arg2) = m ((c.tc : Thread Cert.SgIdeal.nD Cert.SgIdeal.τ).loc Cert.SgIdeal.main_arg2)
      ∧ m' ((c.tc : Thread Cert.SgRefIdeal.nD Cert.SgRefIdeal.τ).loc Cert.SgRefIdeal.main_arg3) = m ((c.tc : Thread Cert.SgIdeal.nD Cert.SgIdeal.τ).loc Cert.SgIdeal.main_arg3)
      ∧ m' ((c.tc : Thread Cert.SgRefIdeal.nD Cert.SgRefIdeal.τ).loc Cert.SgRefIdeal.main_arg4) = m ((c.tc : Thread Cert.SgIdeal.nD Cert.SgIdeal.τ).loc Cert.SgIdeal.main_arg4)
      ∧ m' ((c.tc : Thread Cert.SgRefIdeal.nD Cert.SgRefIdeal.τ).loc Cert.SgRefIdeal.main_arg5) = m ((c.tc : Thread Cert.SgIdeal.nD Cert.SgIdeal.τ).loc Cert.SgIdeal.main_arg5)) →
    ∃ (v0 : (c : Dev Cert.SgIdeal.nD) → Buf (Elt Ideal) ((c.tc : Thread Cert.SgIdeal.nD Cert.SgIdeal.τ).loc Cert.SgIdeal.main_v3)) (v1 : (c : Dev Cert.SgIdeal.nD) → Buf (Elt Ideal) ((c.tc : Thread Cert.SgIdeal.nD Cert.SgIdeal.τ).loc Cert.SgIdeal.main_v4_0)) (v2 : (c : Dev Cert.SgIdeal.nD) → Buf (Elt Ideal) ((c.tc : Thread Cert.SgIdeal.nD Cert.SgIdeal.τ).loc Cert.SgIdeal.main_v4_1)) (v3 : (c : Dev Cert.SgIdeal.nD) → Buf (Elt Ideal) ((c.tc : Thread Cert.SgIdeal.nD Cert.SgIdeal.τ).loc Cert.SgIdeal.main_v5)) (v4 : (c : Dev Cert.SgIdeal.nD) → Buf (Elt Ideal) ((c.tc : Thread Cert.SgIdeal.nD Cert.SgIdeal.τ).loc Cert.SgIdeal.main_v6)) (v5 : (c : Dev Cert.SgIdeal.nD) → Buf (Elt Ideal) ((c.tc : Thread Cert.SgIdeal.nD Cert.SgIdeal.τ).loc Cert.SgIdeal.main_v7)),
      θ_run (Cert.SgIdeal.defs (F := Ideal)) (onTc (τ := Cert.SgIdeal.τ) (Cert.SgIdeal.main (F := Ideal))) ⟨m, fun _ => 0, g⟩ (fun r => ∀ c : Dev Cert.SgIdeal.nD,
          r.2.mem ((c.tc : Thread Cert.SgIdeal.nD Cert.SgIdeal.τ).loc Cert.SgIdeal.main_v3) = v0 c
          ∧ r.2.mem ((c.tc : Thread Cert.SgIdeal.nD Cert.SgIdeal.τ).loc Cert.SgIdeal.main_v4_0) = v1 c
          ∧ r.2.mem ((c.tc : Thread Cert.SgIdeal.nD Cert.SgIdeal.τ).loc Cert.SgIdeal.main_v4_1) = v2 c
          ∧ r.2.mem ((c.tc : Thread Cert.SgIdeal.nD Cert.SgIdeal.τ).loc Cert.SgIdeal.main_v5) = v3 c
          ∧ r.2.mem ((c.tc : Thread Cert.SgIdeal.nD Cert.SgIdeal.τ).loc Cert.SgIdeal.main_v6) = v4 c
          ∧ r.2.mem ((c.tc : Thread Cert.SgIdeal.nD Cert.SgIdeal.τ).loc Cert.SgIdeal.main_v7) = v5 c
          ∧ r.2.mem ((c.tc : Thread Cert.SgIdeal.nD Cert.SgIdeal.τ).loc Cert.SgIdeal.main_arg0) = m ((c.tc : Thread Cert.SgIdeal.nD Cert.SgIdeal.τ).loc Cert.SgIdeal.main_arg0)
          ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
          ∧ r.2.mem ((c.tc : Thread Cert.SgIdeal.nD Cert.SgIdeal.τ).loc Cert.SgIdeal.main_arg2) = m ((c.tc : Thread Cert.SgIdeal.nD Cert.SgIdeal.τ).loc Cert.SgIdeal.main_arg2)
          ∧ r.2.mem ((c.tc : Thread Cert.SgIdeal.nD Cert.SgIdeal.τ).loc Cert.SgIdeal.main_arg3) = m ((c.tc : Thread Cert.SgIdeal.nD Cert.SgIdeal.τ).loc Cert.SgIdeal.main_arg3)
          ∧ r.2.mem ((c.tc : Thread Cert.SgIdeal.nD Cert.SgIdeal.τ).loc Cert.SgIdeal.main_arg4) = m ((c.tc : Thread Cert.SgIdeal.nD Cert.SgIdeal.τ).loc Cert.SgIdeal.main_arg4)
          ∧ r.2.mem ((c.tc : Thread Cert.SgIdeal.nD Cert.SgIdeal.τ).loc Cert.SgIdeal.main_arg5) = m ((c.tc : Thread Cert.SgIdeal.nD Cert.SgIdeal.τ).loc Cert.SgIdeal.main_arg5))
      ∧ θ_run (Cert.SgRefIdeal.defs (F := Ideal)) (onTc (τ := Cert.SgRefIdeal.τ) (Cert.SgRefIdeal.main (F := Ideal))) ⟨m', fun _ => 0, g'⟩ (fun r => ∀ c : Dev Cert.SgRefIdeal.nD,
          r.2.mem ((c.tc : Thread Cert.SgRefIdeal.nD Cert.SgRefIdeal.τ).loc Cert.SgRefIdeal.main_v163) = v0 c
          ∧ r.2.mem ((c.tc : Thread Cert.SgRefIdeal.nD Cert.SgRefIdeal.τ).loc Cert.SgRefIdeal.main_v164) = v1 c
          ∧ r.2.mem ((c.tc : Thread Cert.SgRefIdeal.nD Cert.SgRefIdeal.τ).loc Cert.SgRefIdeal.main_v103) = v2 c
          ∧ r.2.mem ((c.tc : Thread Cert.SgRefIdeal.nD Cert.SgRefIdeal.τ).loc Cert.SgRefIdeal.main_v98) = v3 c
          ∧ r.2.mem ((c.tc : Thread Cert.SgRefIdeal.nD Cert.SgRefIdeal.τ).loc Cert.SgRefIdeal.main_v113) = v4 c
          ∧ r.2.mem ((c.tc : Thread Cert.SgRefIdeal.nD Cert.SgRefIdeal.τ).loc Cert.SgRefIdeal.main_v107) = v5 c
          ∧ r.2.mem ((c.tc : Thread Cert.SgRefIdeal.nD Cert.SgRefIdeal.τ).loc Cert.SgRefIdeal.main_arg0) = m' ((c.tc : Thread Cert.SgRefIdeal.nD Cert.SgRefIdeal.τ).loc Cert.SgRefIdeal.main_arg0)
          ∧ r.2.mem ((c.tc : Thread Cert.SgRefIdeal.nD Cert.SgRefIdeal.τ).loc Cert.SgRefIdeal.main_arg1) = m' ((c.tc : Thread Cert.SgRefIdeal.nD Cert.SgRefIdeal.τ).loc Cert.SgRefIdeal.main_arg1)
          ∧ r.2.mem ((c.tc : Thread Cert.SgRefIdeal.nD Cert.SgRefIdeal.τ).loc Cert.SgRefIdeal.main_arg2) = m' ((c.tc : Thread Cert.SgRefIdeal.nD Cert.SgRefIdeal.τ).loc Cert.SgRefIdeal.main_arg2)
          ∧ r.2.mem ((c.tc : Thread Cert.SgRefIdeal.nD Cert.SgRefIdeal.τ).loc Cert.SgRefIdeal.main_arg3) = m' ((c.tc : Thread Cert.SgRefIdeal.nD Cert.SgRefIdeal.τ).loc Cert.SgRefIdeal.main_arg3)
          ∧ r.2.mem ((c.tc : Thread Cert.SgRefIdeal.nD Cert.SgRefIdeal.τ).loc Cert.SgRefIdeal.main_arg4) = m' ((c.tc : Thread Cert.SgRefIdeal.nD Cert.SgRefIdeal.τ).loc Cert.SgRefIdeal.main_arg4)
          ∧ r.2.mem ((c.tc : Thread Cert.SgRefIdeal.nD Cert.SgRefIdeal.τ).loc Cert.SgRefIdeal.main_arg5) = m' ((c.tc : Thread Cert.SgRefIdeal.nD Cert.SgRefIdeal.τ).loc Cert.SgRefIdeal.main_arg5))

def preserves_Attf_AttfIdeal : Prop :=
  IdealRules.named_const.Statement Cert.AttfIdeal.κ "mask" .f32 0xF149F2CA#32 ⊥

def algebraic_AttfIdeal_AttfRefIdeal_pre_finite_attf [hAttfIdeal : Cert.AttfIdeal.Facts] [hAttfRefIdeal : Cert.AttfRefIdeal.Facts] [hPre_finite_attf : Cert.Pre_finite_attf.Facts] : Prop :=
  ∀ (m : (ℓ : Loc Cert.AttfIdeal.nD Cert.AttfIdeal.τ Cert.AttfIdeal.sig) → Buf (Elt Ideal) ℓ) (g : Dev Cert.AttfIdeal.nD → PrngReg)
    (m' : (ℓ : Loc Cert.AttfRefIdeal.nD Cert.AttfRefIdeal.τ Cert.AttfRefIdeal.sig) → Buf (Elt Ideal) ℓ) (g' : Dev Cert.AttfRefIdeal.nD → PrngReg), Pre_AttfIdeal_finite_attf m →
    (∀ c : Dev Cert.AttfIdeal.nD,
      m' ((c.tc : Thread Cert.AttfRefIdeal.nD Cert.AttfRefIdeal.τ).loc Cert.AttfRefIdeal.main_arg0) = m ((c.tc : Thread Cert.AttfIdeal.nD Cert.AttfIdeal.τ).loc Cert.AttfIdeal.main_arg0)
      ∧ m' ((c.tc : Thread Cert.AttfRefIdeal.nD Cert.AttfRefIdeal.τ).loc Cert.AttfRefIdeal.main_arg1) = m ((c.tc : Thread Cert.AttfIdeal.nD Cert.AttfIdeal.τ).loc Cert.AttfIdeal.main_arg1)) →
    ∃ (v0 : (c : Dev Cert.AttfIdeal.nD) → Buf (Elt Ideal) ((c.tc : Thread Cert.AttfIdeal.nD Cert.AttfIdeal.τ).loc Cert.AttfIdeal.main_v16_0)),
      θ_run (Cert.AttfIdeal.defs (F := Ideal)) (onTc (τ := Cert.AttfIdeal.τ) (Cert.AttfIdeal.main (F := Ideal))) ⟨m, fun _ => 0, g⟩ (fun r => ∀ c : Dev Cert.AttfIdeal.nD,
          r.2.mem ((c.tc : Thread Cert.AttfIdeal.nD Cert.AttfIdeal.τ).loc Cert.AttfIdeal.main_v16_0) = v0 c
          ∧ r.2.mem ((c.tc : Thread Cert.AttfIdeal.nD Cert.AttfIdeal.τ).loc Cert.AttfIdeal.main_arg0) = m ((c.tc : Thread Cert.AttfIdeal.nD Cert.AttfIdeal.τ).loc Cert.AttfIdeal.main_arg0)
          ∧ r.2.mem ((c.tc : Thread Cert.AttfIdeal.nD Cert.AttfIdeal.τ).loc Cert.AttfIdeal.main_arg1) = m ((c.tc : Thread Cert.AttfIdeal.nD Cert.AttfIdeal.τ).loc Cert.AttfIdeal.main_arg1))
      ∧ θ_run (Cert.AttfRefIdeal.defs (F := Ideal)) (onTc (τ := Cert.AttfRefIdeal.τ) (Cert.AttfRefIdeal.main (F := Ideal))) ⟨m', fun _ => 0, g'⟩ (fun r => ∀ c : Dev Cert.AttfRefIdeal.nD,
          r.2.mem ((c.tc : Thread Cert.AttfRefIdeal.nD Cert.AttfRefIdeal.τ).loc Cert.AttfRefIdeal.main_v54) = v0 c
          ∧ r.2.mem ((c.tc : Thread Cert.AttfRefIdeal.nD Cert.AttfRefIdeal.τ).loc Cert.AttfRefIdeal.main_arg0) = m' ((c.tc : Thread Cert.AttfRefIdeal.nD Cert.AttfRefIdeal.τ).loc Cert.AttfRefIdeal.main_arg0)
          ∧ r.2.mem ((c.tc : Thread Cert.AttfRefIdeal.nD Cert.AttfRefIdeal.τ).loc Cert.AttfRefIdeal.main_arg1) = m' ((c.tc : Thread Cert.AttfRefIdeal.nD Cert.AttfRefIdeal.τ).loc Cert.AttfRefIdeal.main_arg1))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3_2)) (v1 : (c : Dev Cert.FfnIdeal.nD) → Buf (Elt Ideal) ((c.tc : Thread Cert.FfnIdeal.nD Cert.FfnIdeal.τ).loc Cert.FfnIdeal.main_v5_1)) (v2 : (c : Dev Cert.FfnIdeal.nD) → Buf (Elt Ideal) ((c.tc : Thread Cert.FfnIdeal.nD Cert.FfnIdeal.τ).loc Cert.FfnIdeal.main_v5_2)) (v3 : (c : Dev Cert.FfnIdeal.nD) → Buf (Elt Ideal) ((c.tc : Thread Cert.FfnIdeal.nD Cert.FfnIdeal.τ).loc Cert.FfnIdeal.main_v5_3)) (v4 : (c : Dev Cert.FfnIdeal.nD) → Buf (Elt Ideal) ((c.tc : Thread Cert.FfnIdeal.nD Cert.FfnIdeal.τ).loc Cert.FfnIdeal.main_v5_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_2) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_v5_2) = v2 c
          ∧ r.2.mem ((c.tc : Thread Cert.FfnIdeal.nD Cert.FfnIdeal.τ).loc Cert.FfnIdeal.main_v5_3) = v3 c
          ∧ r.2.mem ((c.tc : Thread Cert.FfnIdeal.nD Cert.FfnIdeal.τ).loc Cert.FfnIdeal.main_v5_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_v55) = v1 c
          ∧ r.2.mem ((c.tc : Thread Cert.FfnRefIdeal.nD Cert.FfnRefIdeal.τ).loc Cert.FfnRefIdeal.main_v56) = v2 c
          ∧ r.2.mem ((c.tc : Thread Cert.FfnRefIdeal.nD Cert.FfnRefIdeal.τ).loc Cert.FfnRefIdeal.main_v54) = v3 c
          ∧ r.2.mem ((c.tc : Thread Cert.FfnRefIdeal.nD Cert.FfnRefIdeal.τ).loc Cert.FfnRefIdeal.main_v57) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Inproj_InprojIdeal : Prop :=
  True

def algebraic_InprojIdeal_InprojRefIdeal_pre_finite_inproj [hInprojIdeal : Cert.InprojIdeal.Facts] [hInprojRefIdeal : Cert.InprojRefIdeal.Facts] [hPre_finite_inproj : Cert.Pre_finite_inproj.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_inproj m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v3_0)) (v1 : (c : Dev Cert.InprojIdeal.nD) → Buf (Elt Ideal) ((c.tc : Thread Cert.InprojIdeal.nD Cert.InprojIdeal.τ).loc Cert.InprojIdeal.main_v3_1)) (v2 : (c : Dev Cert.InprojIdeal.nD) → Buf (Elt Ideal) ((c.tc : Thread Cert.InprojIdeal.nD Cert.InprojIdeal.τ).loc Cert.InprojIdeal.main_v3_2)) (v3 : (c : Dev Cert.InprojIdeal.nD) → Buf (Elt Ideal) ((c.tc : Thread Cert.InprojIdeal.nD Cert.InprojIdeal.τ).loc Cert.InprojIdeal.main_v3_3)) (v4 : (c : Dev Cert.InprojIdeal.nD) → Buf (Elt Ideal) ((c.tc : Thread Cert.InprojIdeal.nD Cert.InprojIdeal.τ).loc Cert.InprojIdeal.main_v3_4)) (v5 : (c : Dev Cert.InprojIdeal.nD) → Buf (Elt Ideal) ((c.tc : Thread Cert.InprojIdeal.nD Cert.InprojIdeal.τ).loc Cert.InprojIdeal.main_v3_5)) (v6 : (c : Dev Cert.InprojIdeal.nD) → Buf (Elt Ideal) ((c.tc : Thread Cert.InprojIdeal.nD Cert.InprojIdeal.τ).loc Cert.InprojIdeal.main_v15_0)) (v7 : (c : Dev Cert.InprojIdeal.nD) → Buf (Elt Ideal) ((c.tc : Thread Cert.InprojIdeal.nD Cert.InprojIdeal.τ).loc Cert.InprojIdeal.main_v15_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3_0) = v0 c
          ∧ r.2.mem ((c.tc : Thread Cert.InprojIdeal.nD Cert.InprojIdeal.τ).loc Cert.InprojIdeal.main_v3_1) = v1 c
          ∧ r.2.mem ((c.tc : Thread Cert.InprojIdeal.nD Cert.InprojIdeal.τ).loc Cert.InprojIdeal.main_v3_2) = v2 c
          ∧ r.2.mem ((c.tc : Thread Cert.InprojIdeal.nD Cert.InprojIdeal.τ).loc Cert.InprojIdeal.main_v3_3) = v3 c
          ∧ r.2.mem ((c.tc : Thread Cert.InprojIdeal.nD Cert.InprojIdeal.τ).loc Cert.InprojIdeal.main_v3_4) = v4 c
          ∧ r.2.mem ((c.tc : Thread Cert.InprojIdeal.nD Cert.InprojIdeal.τ).loc Cert.InprojIdeal.main_v3_5) = v5 c
          ∧ r.2.mem ((c.tc : Thread Cert.InprojIdeal.nD Cert.InprojIdeal.τ).loc Cert.InprojIdeal.main_v15_0) = v6 c
          ∧ r.2.mem ((c.tc : Thread Cert.InprojIdeal.nD Cert.InprojIdeal.τ).loc Cert.InprojIdeal.main_v15_1) = v7 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v40) = v0 c
          ∧ r.2.mem ((c.tc : Thread Cert.InprojRefIdeal.nD Cert.InprojRefIdeal.τ).loc Cert.InprojRefIdeal.main_v41) = v1 c
          ∧ r.2.mem ((c.tc : Thread Cert.InprojRefIdeal.nD Cert.InprojRefIdeal.τ).loc Cert.InprojRefIdeal.main_v42) = v2 c
          ∧ r.2.mem ((c.tc : Thread Cert.InprojRefIdeal.nD Cert.InprojRefIdeal.τ).loc Cert.InprojRefIdeal.main_v43) = v3 c
          ∧ r.2.mem ((c.tc : Thread Cert.InprojRefIdeal.nD Cert.InprojRefIdeal.τ).loc Cert.InprojRefIdeal.main_v44) = v4 c
          ∧ r.2.mem ((c.tc : Thread Cert.InprojRefIdeal.nD Cert.InprojRefIdeal.τ).loc Cert.InprojRefIdeal.main_v45) = v5 c
          ∧ r.2.mem ((c.tc : Thread Cert.InprojRefIdeal.nD Cert.InprojRefIdeal.τ).loc Cert.InprojRefIdeal.main_v39) = v6 c
          ∧ r.2.mem ((c.tc : Thread Cert.InprojRefIdeal.nD Cert.InprojRefIdeal.τ).loc Cert.InprojRefIdeal.main_v46) = v7 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def preserves_Merge_MergeIdeal : Prop :=
  True

def algebraic_MergeIdeal_MergeRefIdeal_pre_finite_merge [hMergeIdeal : Cert.MergeIdeal.Facts] [hMergeRefIdeal : Cert.MergeRefIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_merge m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v16_2)) (v1 : (c : Dev Cert.MergeIdeal.nD) → Buf (Elt Ideal) ((c.tc : Thread Cert.MergeIdeal.nD Cert.MergeIdeal.τ).loc Cert.MergeIdeal.main_v16_3)) (v2 : (c : Dev Cert.MergeIdeal.nD) → Buf (Elt Ideal) ((c.tc : Thread Cert.MergeIdeal.nD Cert.MergeIdeal.τ).loc Cert.MergeIdeal.main_v17_1)) (v3 : (c : Dev Cert.MergeIdeal.nD) → Buf (Elt Ideal) ((c.tc : Thread Cert.MergeIdeal.nD Cert.MergeIdeal.τ).loc Cert.MergeIdeal.main_v17_2)) (v4 : (c : Dev Cert.MergeIdeal.nD) → Buf (Elt Ideal) ((c.tc : Thread Cert.MergeIdeal.nD Cert.MergeIdeal.τ).loc Cert.MergeIdeal.main_v17_3)) (v5 : (c : Dev Cert.MergeIdeal.nD) → Buf (Elt Ideal) ((c.tc : Thread Cert.MergeIdeal.nD Cert.MergeIdeal.τ).loc Cert.MergeIdeal.main_v17_4)) (v6 : (c : Dev Cert.MergeIdeal.nD) → Buf (Elt Ideal) ((c.tc : Thread Cert.MergeIdeal.nD Cert.MergeIdeal.τ).loc Cert.MergeIdeal.main_v17_5)) (v7 : (c : Dev Cert.MergeIdeal.nD) → Buf (Elt Ideal) ((c.tc : Thread Cert.MergeIdeal.nD Cert.MergeIdeal.τ).loc Cert.MergeIdeal.main_v17_6)) (v8 : (c : Dev Cert.MergeIdeal.nD) → Buf (Elt Ideal) ((c.tc : Thread Cert.MergeIdeal.nD Cert.MergeIdeal.τ).loc Cert.MergeIdeal.main_v17_7)) (v9 : (c : Dev Cert.MergeIdeal.nD) → Buf (Elt Ideal) ((c.tc : Thread Cert.MergeIdeal.nD Cert.MergeIdeal.τ).loc Cert.MergeIdeal.main_v18)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_2) = v0 c
          ∧ r.2.mem ((c.tc : Thread Cert.MergeIdeal.nD Cert.MergeIdeal.τ).loc Cert.MergeIdeal.main_v16_3) = v1 c
          ∧ r.2.mem ((c.tc : Thread Cert.MergeIdeal.nD Cert.MergeIdeal.τ).loc Cert.MergeIdeal.main_v17_1) = v2 c
          ∧ r.2.mem ((c.tc : Thread Cert.MergeIdeal.nD Cert.MergeIdeal.τ).loc Cert.MergeIdeal.main_v17_2) = v3 c
          ∧ r.2.mem ((c.tc : Thread Cert.MergeIdeal.nD Cert.MergeIdeal.τ).loc Cert.MergeIdeal.main_v17_3) = v4 c
          ∧ r.2.mem ((c.tc : Thread Cert.MergeIdeal.nD Cert.MergeIdeal.τ).loc Cert.MergeIdeal.main_v17_4) = v5 c
          ∧ r.2.mem ((c.tc : Thread Cert.MergeIdeal.nD Cert.MergeIdeal.τ).loc Cert.MergeIdeal.main_v17_5) = v6 c
          ∧ r.2.mem ((c.tc : Thread Cert.MergeIdeal.nD Cert.MergeIdeal.τ).loc Cert.MergeIdeal.main_v17_6) = v7 c
          ∧ r.2.mem ((c.tc : Thread Cert.MergeIdeal.nD Cert.MergeIdeal.τ).loc Cert.MergeIdeal.main_v17_7) = v8 c
          ∧ r.2.mem ((c.tc : Thread Cert.MergeIdeal.nD Cert.MergeIdeal.τ).loc Cert.MergeIdeal.main_v18) = v9 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_v21) = v1 c
          ∧ r.2.mem ((c.tc : Thread Cert.MergeRefIdeal.nD Cert.MergeRefIdeal.τ).loc Cert.MergeRefIdeal.main_v36) = v2 c
          ∧ r.2.mem ((c.tc : Thread Cert.MergeRefIdeal.nD Cert.MergeRefIdeal.τ).loc Cert.MergeRefIdeal.main_v39) = v3 c
          ∧ r.2.mem ((c.tc : Thread Cert.MergeRefIdeal.nD Cert.MergeRefIdeal.τ).loc Cert.MergeRefIdeal.main_v32) = v4 c
          ∧ r.2.mem ((c.tc : Thread Cert.MergeRefIdeal.nD Cert.MergeRefIdeal.τ).loc Cert.MergeRefIdeal.main_v41) = v5 c
          ∧ r.2.mem ((c.tc : Thread Cert.MergeRefIdeal.nD Cert.MergeRefIdeal.τ).loc Cert.MergeRefIdeal.main_v43) = v6 c
          ∧ r.2.mem ((c.tc : Thread Cert.MergeRefIdeal.nD Cert.MergeRefIdeal.τ).loc Cert.MergeRefIdeal.main_v45) = v7 c
          ∧ r.2.mem ((c.tc : Thread Cert.MergeRefIdeal.nD Cert.MergeRefIdeal.τ).loc Cert.MergeRefIdeal.main_v47) = v8 c
          ∧ r.2.mem ((c.tc : Thread Cert.MergeRefIdeal.nD Cert.MergeRefIdeal.τ).loc Cert.MergeRefIdeal.main_v30) = v9 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def Claim : Prop :=
  ∃ (hPle : Cert.Ple.Facts) (hPleIdeal : Cert.PleIdeal.Facts) (hPleRefIdeal : Cert.PleRefIdeal.Facts) (hAttn : Cert.Attn.Facts) (hAttnIdeal : Cert.AttnIdeal.Facts) (hAttnRefIdeal : Cert.AttnRefIdeal.Facts) (hSg : Cert.Sg.Facts) (hSgIdeal : Cert.SgIdeal.Facts) (hSgRefIdeal : Cert.SgRefIdeal.Facts) (hAttf : Cert.Attf.Facts) (hAttfIdeal : Cert.AttfIdeal.Facts) (hAttfRefIdeal : Cert.AttfRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hPre_finite_ple : Cert.Pre_finite_ple.Facts) (hPre_finite_attn : Cert.Pre_finite_attn.Facts) (hPre_finite_sg : Cert.Pre_finite_sg.Facts) (hPre_finite_attf : Cert.Pre_finite_attf.Facts) (hPre_finite_ffn : Cert.Pre_finite_ffn.Facts) (hPre_finite_inproj : Cert.Pre_finite_inproj.Facts) (hPre_finite_merge : Cert.Pre_finite_merge.Facts),
    quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_PleRefIdeal (hPleRefIdeal := hPleRefIdeal)
    ∧ quiescent_PleRefIdeal_pre_finite_ple (hPleRefIdeal := hPleRefIdeal) (hPre_finite_ple := hPre_finite_ple)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Sg (hSg := hSg)
    ∧ quiescent_SgIdeal (hSgIdeal := hSgIdeal)
    ∧ quiescent_SgIdeal_pre_finite_sg (hSgIdeal := hSgIdeal) (hPre_finite_sg := hPre_finite_sg)
    ∧ quiescent_SgRefIdeal (hSgRefIdeal := hSgRefIdeal)
    ∧ quiescent_SgRefIdeal_pre_finite_sg (hSgRefIdeal := hSgRefIdeal) (hPre_finite_sg := hPre_finite_sg)
    ∧ quiescent_Attf (hAttf := hAttf)
    ∧ quiescent_AttfIdeal (hAttfIdeal := hAttfIdeal)
    ∧ quiescent_AttfIdeal_pre_finite_attf (hAttfIdeal := hAttfIdeal) (hPre_finite_attf := hPre_finite_attf)
    ∧ quiescent_AttfRefIdeal (hAttfRefIdeal := hAttfRefIdeal)
    ∧ quiescent_AttfRefIdeal_pre_finite_attf (hAttfRefIdeal := hAttfRefIdeal) (hPre_finite_attf := hPre_finite_attf)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Inproj (hInproj := hInproj)
    ∧ quiescent_InprojIdeal (hInprojIdeal := hInprojIdeal)
    ∧ quiescent_InprojIdeal_pre_finite_inproj (hInprojIdeal := hInprojIdeal) (hPre_finite_inproj := hPre_finite_inproj)
    ∧ quiescent_InprojRefIdeal (hInprojRefIdeal := hInprojRefIdeal)
    ∧ quiescent_InprojRefIdeal_pre_finite_inproj (hInprojRefIdeal := hInprojRefIdeal) (hPre_finite_inproj := hPre_finite_inproj)
    ∧ quiescent_Merge (hMerge := hMerge)
    ∧ quiescent_MergeIdeal (hMergeIdeal := hMergeIdeal)
    ∧ quiescent_MergeIdeal_pre_finite_merge (hMergeIdeal := hMergeIdeal) (hPre_finite_merge := hPre_finite_merge)
    ∧ quiescent_MergeRefIdeal (hMergeRefIdeal := hMergeRefIdeal)
    ∧ quiescent_MergeRefIdeal_pre_finite_merge (hMergeRefIdeal := hMergeRefIdeal) (hPre_finite_merge := hPre_finite_merge)
    ∧ preserves_Ple_PleIdeal
    ∧ algebraic_PleIdeal_PleRefIdeal_pre_finite_ple (hPleIdeal := hPleIdeal) (hPleRefIdeal := hPleRefIdeal) (hPre_finite_ple := hPre_finite_ple)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Sg_SgIdeal
    ∧ algebraic_SgIdeal_SgRefIdeal_pre_finite_sg (hSgIdeal := hSgIdeal) (hSgRefIdeal := hSgRefIdeal) (hPre_finite_sg := hPre_finite_sg)
    ∧ preserves_Attf_AttfIdeal
    ∧ algebraic_AttfIdeal_AttfRefIdeal_pre_finite_attf (hAttfIdeal := hAttfIdeal) (hAttfRefIdeal := hAttfRefIdeal) (hPre_finite_attf := hPre_finite_attf)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Inproj_InprojIdeal
    ∧ algebraic_InprojIdeal_InprojRefIdeal_pre_finite_inproj (hInprojIdeal := hInprojIdeal) (hInprojRefIdeal := hInprojRefIdeal) (hPre_finite_inproj := hPre_finite_inproj)
    ∧ preserves_Merge_MergeIdeal
    ∧ algebraic_MergeIdeal_MergeRefIdeal_pre_finite_merge (hMergeIdeal := hMergeIdeal) (hMergeRefIdeal := hMergeRefIdeal) (hPre_finite_merge := hPre_finite_merge)
-- ==== Pre_finite_attf.lean ====
abbrev S16384x1536 : Shape := ⟨2, ![16384, 1536]⟩
abbrev S8x320 : Shape := ⟨2, ![8, 320]⟩
abbrev S_ : Shape := ⟨0, ![]⟩

class Facts : Prop where
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S8x320 : S_.BroadcastsInDim S8x320 (![] : Fin 0 → Fin S8x320.rank)
  reducesTo_S8x320_S_d0_1 : S8x320.ReducesTo [0, 1] S_

variable [Facts]

def fn {F : FTy → Type} [FloatOps F] (main_arg0 : FVec F S16384x1536 .f32) (main_arg1 : FVec F S8x320 .f32) : IVec S_ 1 :=
  let main_v0 : FVec F S16384x1536 .f32 := Host.absf main_arg0
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_c : IVec S_ 1 := constantI S_ 1 1#1
  let main_v3 : IVec S_ 1 := (fun x v => Host.reduce IntOp.andi x v reducesTo_S16384x1536_S_d0_1 h_S_) main_v2 main_c
  let main_v4 : FVec F S8x320 .f32 := Host.absf main_arg1
  let main_cst_0 : FVec F S_ .f32 := constant S_ .f32 0x7F800000#32
  let main_v5 : FVec F S8x320 .f32 := broadcastInDim S8x320 ![] bcast_S_S8x320 main_cst_0
  let main_v6 : IVec S8x320 1 := cmpf .olt main_v4 main_v5
  let main_c_1 : IVec S_ 1 := constantI S_ 1 1#1
  let main_v7 : IVec S_ 1 := (fun x v => Host.reduce IntOp.andi x v reducesTo_S8x320_S_d0_1 h_S_) main_v6 main_c_1
  let main_v8 : IVec S_ 1 := andi main_v3 main_v7
  main_v8
-- ==== Pre_finite_attn.lean ====
abbrev S16384x1536 : Shape := ⟨2, ![16384, 1536]⟩
abbrev S8x320 : Shape := ⟨2, ![8, 320]⟩
abbrev S16384x512 : Shape := ⟨2, ![16384, 512]⟩
abbrev S_ : Shape := ⟨0, ![]⟩

class Facts : Prop where
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S8x320 : S_.BroadcastsInDim S8x320 (![] : Fin 0 → Fin S8x320.rank)
  reducesTo_S8x320_S_d0_1 : S8x320.ReducesTo [0, 1] S_
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16384x1536 .f32) (main_arg1 : FVec F S8x320 .f32) (main_arg2 : FVec F S16384x512 .f32) : IVec S_ 1 :=
  let main_v0 : FVec F S16384x1536 .f32 := Host.absf main_arg0
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_c : IVec S_ 1 := constantI S_ 1 1#1
  let main_v3 : IVec S_ 1 := (fun x v => Host.reduce IntOp.andi x v reducesTo_S16384x1536_S_d0_1 h_S_) main_v2 main_c
  let main_v4 : FVec F S8x320 .f32 := Host.absf main_arg1
  let main_cst_0 : FVec F S_ .f32 := constant S_ .f32 0x7F800000#32
  let main_v5 : FVec F S8x320 .f32 := broadcastInDim S8x320 ![] bcast_S_S8x320 main_cst_0
  let main_v6 : IVec S8x320 1 := cmpf .olt main_v4 main_v5
  let main_c_1 : IVec S_ 1 := constantI S_ 1 1#1
  let main_v7 : IVec S_ 1 := (fun x v => Host.reduce IntOp.andi x v reducesTo_S8x320_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  main_v13
-- ==== Pre_finite_ffn.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S16384x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  main_v23

def fn {F : FTy → Type} [FloatOps F] (main_arg0 : FVec F S16384x1024 .f32) (main_arg1 : FVec F S1024 .f32) (main_arg2 : FVec F S1024x4096 .f32) (main_arg3 : FVec F S4096x1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_finite_inproj.lean ====
abbrev S16384x1024 : Shape := ⟨2, ![16384, 1024]⟩
abbrev S1024 : Shape := ⟨1, ![1024]⟩
abbrev S1024x5136 : Shape := ⟨2, ![1024, 5136]⟩
abbrev S16384x5136 : Shape := ⟨2, ![16384, 5136]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5136 : S_.BroadcastsInDim S1024x5136 (![] : Fin 0 → Fin S1024x5136.rank)
  reducesTo_S1024x5136_S_d0_1 : S1024x5136.ReducesTo [0, 1] S_
  bcast_S_S16384x5136 : S_.BroadcastsInDim S16384x5136 (![] : Fin 0 → Fin S16384x5136.rank)
  reducesTo_S16384x5136_S_d0_1 : S16384x5136.ReducesTo [0, 1] S_

variable [Facts]

def fn_part1 {F : FTy → Type} [FloatOps F] (main_arg4 : FVec F S16384x1024 .f32) (main_arg5 : FVec F S16384x5136 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S16384x5136 .f32 := Host.absf main_arg5
  let main_cst_8 : FVec F S_ .f32 := constant S_ .f32 0x7F800000#32
  let main_v25 : FVec F S16384x5136 .f32 := broadcastInDim S16384x5136 ![] bcast_S_S16384x5136 main_cst_8
  let main_v26 : IVec S16384x5136 1 := cmpf .olt main_v24 main_v25
  let main_c_9 : IVec S_ 1 := constantI S_ 1 1#1
  let main_v27 : IVec S_ 1 := (fun x v => Host.reduce IntOp.andi x v reducesTo_S16384x5136_S_d0_1 h_S_) main_v26 main_c_9
  let main_v28 : IVec S_ 1 := andi main_v23 main_v27
  main_v28

def fn {F : FTy → Type} [FloatOps F] (main_arg0 : FVec F S16384x1024 .f32) (main_arg1 : FVec F S1024 .f32) (main_arg2 : FVec F S1024x5136 .f32) (main_arg3 : FVec F S16384x1024 .f32) (main_arg4 : FVec F S16384x1024 .f32) (main_arg5 : FVec F S16384x5136 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5136 .f32 := Host.absf main_arg2
  let main_cst_2 : FVec F S_ .f32 := constant S_ .f32 0x7F800000#32
  let main_v10 : FVec F S1024x5136 .f32 := broadcastInDim S1024x5136 ![] bcast_S_S1024x5136 main_cst_2
  let main_v11 : IVec S1024x5136 1 := cmpf .olt main_v9 main_v10
  let main_c_3 : IVec S_ 1 := constantI S_ 1 1#1
  let main_v12 : IVec S_ 1 := (fun x v => Host.reduce IntOp.andi x v reducesTo_S1024x5136_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_v13 main_v16
-- ==== Pre_finite_merge.lean ====
abbrev S16384x1024 : Shape := ⟨2, ![16384, 1024]⟩
abbrev S4x16384x512 : Shape := ⟨3, ![4, 16384, 512]⟩
abbrev S4x1024x1024 : Shape := ⟨3, ![4, 1024, 1024]⟩
abbrev S4x1024 : Shape := ⟨2, ![4, 1024]⟩
abbrev S4x512x1024 : Shape := ⟨3, ![4, 512, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x16384x512 : S_.BroadcastsInDim S4x16384x512 (![] : Fin 0 → Fin S4x16384x512.rank)
  reducesTo_S4x16384x512_S_d0_1_2 : S4x16384x512.ReducesTo [0, 1, 2] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4x512x1024 : S_.BroadcastsInDim S4x512x1024 (![] : Fin 0 → Fin S4x512x1024.rank)
  reducesTo_S4x512x1024_S_d0_1_2 : S4x512x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S16384x1024 .f32) (main_v33 : IVec S_ 1) : IVec S_ 1 :=
  let main_v34 : FVec F S16384x1024 .f32 := Host.absf main_arg7
  let main_cst_12 : FVec F S_ .f32 := constant S_ .f32 0x7F800000#32
  let main_v35 : FVec F S16384x1024 .f32 := broadcastInDim S16384x1024 ![] bcast_S_S16384x1024 main_cst_12
  let main_v36 : IVec S16384x1024 1 := cmpf .olt main_v34 main_v35
  let main_c_13 : IVec S_ 1 := constantI S_ 1 1#1
  let main_v37 : IVec S_ 1 := (fun x v => Host.reduce IntOp.andi x v reducesTo_S16384x1024_S_d0_1 h_S_) main_v36 main_c_13
  let main_v38 : IVec S_ 1 := andi main_v33 main_v37
  main_v38

def fn_part1 {F : FTy → Type} [FloatOps F] (main_arg4 : FVec F S4x1024 .f32) (main_arg5 : FVec F S4x512x1024 .f32) (main_arg6 : FVec F S1024x1024 .f32) (main_arg7 : FVec F S16384x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x512x1024 .f32 := Host.absf main_arg5
  let main_cst_8 : FVec F S_ .f32 := constant S_ .f32 0x7F800000#32
  let main_v25 : FVec F S4x512x1024 .f32 := broadcastInDim S4x512x1024 ![] bcast_S_S4x512x1024 main_cst_8
  let main_v26 : IVec S4x512x1024 1 := cmpf .olt main_v24 main_v25
  let main_c_9 : IVec S_ 1 := constantI S_ 1 1#1
  let main_v27 : IVec S_ 1 := (fun x v => Host.reduce IntOp.andi x v reducesTo_S4x512x1024_S_d0_1_2 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S16384x1024 .f32) (main_arg1 : FVec F S16384x1024 .f32) (main_arg2 : FVec F S4x16384x512 .f32) (main_arg3 : FVec F S4x1024x1024 .f32) (main_arg4 : FVec F S4x1024 .f32) (main_arg5 : FVec F S4x512x1024 .f32) (main_arg6 : FVec F S1024x1024 .f32) (main_arg7 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S4x16384x512 .f32 := Host.absf main_arg2
  let main_cst_2 : FVec F S_ .f32 := constant S_ .f32 0x7F800000#32
  let main_v10 : FVec F S4x16384x512 .f32 := broadcastInDim S4x16384x512 ![] bcast_S_S4x16384x512 main_cst_2
  let main_v11 : IVec S4x16384x512 1 := cmpf .olt main_v9 main_v10
  let main_c_3 : IVec S_ 1 := constantI S_ 1 1#1
  let main_v12 : IVec S_ 1 := (fun x v => Host.reduce IntOp.andi x v reducesTo_S4x16384x512_S_d0_1_2 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_arg7 main_v13 main_v16
-- ==== Pre_finite_ple.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg5 : FVec F S256x1024 .f32) (main_arg6 : FVec F S16384x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256x1024 .f32 := Host.absf main_arg5
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S16384x1024 .f32 := Host.absf main_arg6
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  main_v28

def fn {F : FTy → Type} [FloatOps F] (main_arg0 : FVec F S16384x1024 .f32) (main_arg1 : FVec F S16384x256 .f32) (main_arg2 : FVec F S1024 .f32) (main_arg3 : FVec F S1024x1024 .f32) (main_arg4 : FVec F S1024 .f32) (main_arg5 : FVec F S256x1024 .f32) (main_arg6 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_v13 main_v16
-- ==== Pre_finite_sg.lean ====
abbrev S16384x1024 : Shape := ⟨2, ![16384, 1024]⟩
abbrev S512 : Shape := ⟨1, ![512]⟩
abbrev S4x128x128 : Shape := ⟨3, ![4, 128, 128]⟩
abbrev S4x128 : Shape := ⟨2, ![4, 128]⟩
abbrev S16384x512 : Shape := ⟨2, ![16384, 512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S16384x512 : S_.BroadcastsInDim S16384x512 (![] : Fin 0 → Fin S16384x512.rank)
  reducesTo_S16384x512_S_d0_1 : S16384x512.ReducesTo [0, 1] S_

variable [Facts]

def fn_part1 {F : FTy → Type} [FloatOps F] (main_arg4 : FVec F S4x128 .f32) (main_arg5 : FVec F S16384x512 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S16384x512 .f32 := Host.absf main_arg5
  let main_cst_8 : FVec F S_ .f32 := constant S_ .f32 0x7F800000#32
  let main_v25 : FVec F S16384x512 .f32 := broadcastInDim S16384x512 ![] bcast_S_S16384x512 main_cst_8
  let main_v26 : IVec S16384x512 1 := cmpf .olt main_v24 main_v25
  let main_c_9 : IVec S_ 1 := constantI S_ 1 1#1
  let main_v27 : IVec S_ 1 := (fun x v => Host.reduce IntOp.andi x v reducesTo_S16384x512_S_d0_1 h_S_) main_v26 main_c_9
  let main_v28 : IVec S_ 1 := andi main_v23 main_v27
  main_v28

def fn {F : FTy → Type} [FloatOps F] (main_arg0 : FVec F S16384x1024 .f32) (main_arg1 : FVec F S512 .f32) (main_arg2 : FVec F S512 .f32) (main_arg3 : FVec F S4x128x128 .f32) (main_arg4 : FVec F S4x128 .f32) (main_arg5 : FVec F S16384x512 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_v13 main_v16
-- ==== Ple.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 21
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S256x1024, .f32⟩
  | .hbm, ⟨6, _⟩ => ⟨S16384x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S1x1024, .f32⟩
  | .hbm, ⟨11, _⟩ => ⟨S16384x1024, .bf16⟩
  | .hbm, ⟨12, _⟩ => ⟨S16384x256, .bf16⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .bf16⟩
  | .hbm, ⟨17, _⟩ => ⟨S16384x1024, .bf16⟩
  | .hbm, ⟨18, _⟩ => ⟨S16384x1024, .f32⟩
  | .hbm, ⟨19, _⟩ => ⟨S1x1024, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S256x1024, .bf16⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x256, .bf16⟩
  | .local _ .vmem, ⟨23, _⟩ => ⟨S512x256, .bf16⟩
  | .local _ .vmem, ⟨24, _⟩ => ⟨S1x1024, .f32⟩
  | .local _ .vmem, ⟨25, _⟩ => ⟨S1024x1024, .bf16⟩
  | .local _ .vmem, ⟨26, _⟩ => ⟨S256x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .f32⟩
  | .local _ .vmem, ⟨32, _⟩ => ⟨S512x1024, .f32⟩
  | .local _ .vmem, ⟨33, _⟩ => ⟨S1x1024, .f32⟩
  | .local _ .vmem, ⟨34, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg11_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem11_0 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== PleRefIdeal.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S256x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .bf16⟩
  | .hbm, ⟨86, _⟩ => ⟨S16384x1024, .bf16⟩
  | .hbm, ⟨87, _⟩ => ⟨S1x1024, .f32⟩
  | .hbm, ⟨88, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Attn.lean ====
abbrev S16384x1536 : Shape := ⟨2, ![16384, 1536]⟩
abbrev S8x320 : Shape := ⟨2, ![8, 320]⟩
abbrev S16384x512 : Shape := ⟨2, ![16384, 512]⟩
abbrev S64 : Shape := ⟨1, ![64]⟩
abbrev S64x1x1 : Shape := ⟨3, ![64, 1, 1]⟩
abbrev S256 : Shape := ⟨1, ![256]⟩
abbrev S256x1 : Shape := ⟨2, ![256, 1]⟩
abbrev S768 : Shape := ⟨1, ![768]⟩
abbrev S1x768 : Shape := ⟨2, ![1, 768]⟩
abbrev S64x256x8x64 : Shape := ⟨4, ![64, 256, 8, 64]⟩
abbrev S_ : Shape := ⟨0, ![]⟩
abbrev S512x512 : Shape := ⟨2, ![512, 512]⟩
abbrev S16896x512 : Shape := ⟨2, ![16896, 512]⟩
abbrev S66x256x8x64 : Shape := ⟨4, ![66, 256, 8, 64]⟩
abbrev S64x768x8x64 : Shape := ⟨4, ![64, 768, 8, 64]⟩
abbrev S256x768 : Shape := ⟨2, ![256, 768]⟩
abbrev S1x1x768 : Shape := ⟨3, ![1, 1, 768]⟩
abbrev S64x1x768 : Shape := ⟨3, ![64, 1, 768]⟩
abbrev S1x256x768 : Shape := ⟨3, ![1, 256, 768]⟩
abbrev S64x256x768 : Shape := ⟨3, ![64, 256, 768]⟩
abbrev S64x8x256x768 : Shape := ⟨4, ![64, 8, 256, 768]⟩
abbrev S256x768x1 : Shape := ⟨3, ![256, 768, 1]⟩
abbrev S8x256x768 : Shape := ⟨3, ![8, 256, 768]⟩
abbrev S1x8x256x768 : Shape := ⟨4, ![1, 8, 256, 768]⟩
abbrev S64x1x256x768 : Shape := ⟨4, ![64, 1, 256, 768]⟩
abbrev S64x8x256 : Shape := ⟨3, ![64, 8, 256]⟩
abbrev S64x8x256x1 : Shape := ⟨4, ![64, 8, 256, 1]⟩
abbrev S64x256x8x768 : Shape := ⟨4, ![64, 256, 8, 768]⟩
abbrev S16384x6144 : Shape := ⟨2, ![16384, 6144]⟩
abbrev S16384x1024 : Shape := ⟨2, ![16384, 1024]⟩
abbrev S256x1536 : Shape := ⟨2, ![256, 1536]⟩
abbrev S256x512 : Shape := ⟨2, ![256, 512]⟩
abbrev S256x6144 : Shape := ⟨2, ![256, 6144]⟩
abbrev S256x1024 : Shape := ⟨2, ![256, 1024]⟩
abbrev S768x1024 : Shape := ⟨2, ![768, 1024]⟩
abbrev S256x64 : Shape := ⟨2, ![256, 64]⟩
abbrev S768x64 : Shape := ⟨2, ![768, 64]⟩

abbrev nBuf : Space → Nat
  | .hbm => 148
  | .vmem => 18
  | .smem => 0
  | _ => 0

abbrev hbmTy0_0 (i : Nat) : BufTy := match i % 128 with
  | 0 => ⟨S16384x1536, .f32⟩
  | 1 => ⟨S8x320, .f32⟩
  | 2 => ⟨S16384x512, .f32⟩
  | 3 => ⟨S64, .i32⟩
  | 4 => ⟨S64x1x1, .i32⟩
  | 5 => ⟨S256, .i32⟩
  | 6 => ⟨S256x1, .i32⟩
  | 7 => ⟨S768, .i32⟩
  | 8 => ⟨S1x768, .i32⟩
  | 9 => ⟨S16384x512, .f32⟩
  | 10 => ⟨S64x256x8x64, .f32⟩
  | 11 => ⟨S_, .f32⟩
  | 12 => ⟨S512x512, .f32⟩
  | 13 => ⟨S16384x512, .f32⟩
  | 14 => ⟨S16896x512, .f32⟩
  | 15 => ⟨S66x256x8x64, .f32⟩
  | 16 => ⟨S64x256x8x64, .f32⟩
  | 17 => ⟨S64x256x8x64, .f32⟩
  | 18 => ⟨S64x256x8x64, .f32⟩
  | 19 => ⟨S64x768x8x64, .f32⟩
  | 20 => ⟨S_, .i32⟩
  | 21 => ⟨S256x1, .i32⟩
  | 22 => ⟨S256x1, .i32⟩
  | 23 => ⟨S_, .i32⟩
  | 24 => ⟨S256x1, .i32⟩
  | 25 => ⟨S256x1, .i32⟩
  | 26 => ⟨S_, .i32⟩
  | 27 => ⟨S1x768, .i32⟩
  | 28 => ⟨S1x768, .i32⟩
  | 29 => ⟨S256x768, .i32⟩
  | 30 => ⟨S256x768, .i32⟩
  | 31 => ⟨S256x768, .i32⟩
  | 32 => ⟨S_, .i32⟩
  | 33 => ⟨S256x768, .i32⟩
  | 34 => ⟨S256x768, .i1⟩
  | 35 => ⟨S_, .i32⟩
  | 36 => ⟨S256x768, .i32⟩
  | 37 => ⟨S256x768, .i1⟩
  | 38 => ⟨S256x768, .i1⟩
  | 39 => ⟨S_, .i32⟩
  | 40 => ⟨S64x1x1, .i32⟩
  | 41 => ⟨S64x1x1, .i32⟩
  | 42 => ⟨S1x1x768, .i32⟩
  | 43 => ⟨S64x1x768, .i32⟩
  | 44 => ⟨S64x1x768, .i32⟩
  | 45 => ⟨S64x1x768, .i32⟩
  | 46 => ⟨S_, .i32⟩
  | 47 => ⟨S64x1x768, .i32⟩
  | 48 => ⟨S64x1x768, .i1⟩
  | 49 => ⟨S1x256x768, .i1⟩
  | 50 => ⟨S64x256x768, .i1⟩
  | 51 => ⟨S64x256x768, .i1⟩
  | 52 => ⟨S64x256x768, .i1⟩
  | 53 => ⟨S64x8x256x768, .f32⟩
  | 54 => ⟨S_, .f32⟩
  | 55 => ⟨S64x8x256x768, .f32⟩
  | 56 => ⟨S64x8x256x768, .f32⟩
  | 57 => ⟨S256, .i32⟩
  | 58 => ⟨S256x1, .i32⟩
  | 59 => ⟨S_, .i32⟩
  | 60 => ⟨S256x1, .i32⟩
  | 61 => ⟨S256x1, .i32⟩
  | 62 => ⟨S768, .i32⟩
  | 63 => ⟨S1x768, .i32⟩
  | 64 => ⟨S256x768, .i32⟩
  | 65 => ⟨S256x768, .i32⟩
  | 66 => ⟨S256x768, .i32⟩
  | 67 => ⟨S_, .i32⟩
  | 68 => ⟨S_, .i32⟩
  | 69 => ⟨S_, .i32⟩
  | 70 => ⟨S256x768, .i32⟩
  | 71 => ⟨S256x768, .i32⟩
  | 72 => ⟨S_, .i32⟩
  | 73 => ⟨S256x768, .i32⟩
  | 74 => ⟨S256x768, .i32⟩
  | 75 => ⟨S_, .i32⟩
  | 76 => ⟨S256x768, .i32⟩
  | 77 => ⟨S256x768, .i32⟩
  | 78 => ⟨S_, .i32⟩
  | 79 => ⟨S256x768, .i32⟩
  | 80 => ⟨S256x768, .i1⟩
  | 81 => ⟨S_, .i32⟩
  | 82 => ⟨S256x768, .i32⟩
  | 83 => ⟨S256x768, .i32⟩
  | 84 => ⟨S256x768, .i32⟩
  | 85 => ⟨S256x768x1, .i32⟩
  | 86 => ⟨S8x256x768, .f32⟩
  | 87 => ⟨S1x8x256x768, .f32⟩
  | 88 => ⟨S64x8x256x768, .f32⟩
  | 89 => ⟨S64x8x256x768, .f32⟩
  | 90 => ⟨S64x1x256x768, .i1⟩
  | 91 => ⟨S_, .f32⟩
  | 92 => ⟨S_, .f32⟩
  | 93 => ⟨S64x8x256x768, .i1⟩
  | 94 => ⟨S64x8x256x768, .f32⟩
  | 95 => ⟨S64x8x256x768, .f32⟩
  | 96 => ⟨S_, .f32⟩
  | 97 => ⟨S64x8x256, .f32⟩
  | 98 => ⟨S_, .f32⟩
  | 99 => ⟨S64x8x256, .f32⟩
  | 100 => ⟨S64x8x256, .f32⟩
  | 101 => ⟨S64x8x256x1, .f32⟩
  | 102 => ⟨S64x8x256x768, .f32⟩
  | 103 => ⟨S64x8x256x768, .f32⟩
  | 104 => ⟨S64x8x256x768, .f32⟩
  | 105 => ⟨S_, .f32⟩
  | 106 => ⟨S64x8x256, .f32⟩
  | 107 => ⟨S64x8x256x1, .f32⟩
  | 108 => ⟨S64x8x256x768, .f32⟩
  | 109 => ⟨S64x8x256x768, .f32⟩
  | 110 => ⟨S64x256x8x768, .f32⟩
  | 111 => ⟨S16384x6144, .f32⟩
  | 112 => ⟨S16384x6144, .bf16⟩
  | 113 => ⟨S16384x512, .bf16⟩
  | 114 => ⟨S16384x1024, .bf16⟩
  | 115 => ⟨S8x256x768, .f32⟩
  | 116 => ⟨S_, .f32⟩
  | 117 => ⟨S8x320, .f32⟩
  | 118 => ⟨S256, .i32⟩
  | 119 => ⟨S256x1, .i32⟩
  | 120 => ⟨S_, .i32⟩
  | 121 => ⟨S256x1, .i32⟩
  | 122 => ⟨S256x1, .i32⟩
  | 123 => ⟨S768, .i32⟩
  | 124 => ⟨S1x768, .i32⟩
  | 125 => ⟨S256x768, .i32⟩
  | 126 => ⟨S256x768, .i32⟩
  | 127 => ⟨S256x768, .i32⟩
  | _ => ⟨S16384x1536, .f32⟩

abbrev hbmTy0_1 (i : Nat) : BufTy := match i % 128 with
  | 0 => ⟨S_, .i32⟩
  | 1 => ⟨S_, .i32⟩
  | 2 => ⟨S_, .i32⟩
  | 3 => ⟨S256x768, .i32⟩
  | 4 => ⟨S256x768, .i32⟩
  | 5 => ⟨S_, .i32⟩
  | 6 => ⟨S256x768, .i32⟩
  | 7 => ⟨S256x768, .i32⟩
  | 8 => ⟨S_, .i32⟩
  | 9 => ⟨S256x768, .i32⟩
  | 10 => ⟨S256x768, .i32⟩
  | 11 => ⟨S_, .i32⟩
  | 12 => ⟨S256x768, .i32⟩
  | 13 => ⟨S256x768, .i1⟩
  | 14 => ⟨S_, .i32⟩
  | 15 => ⟨S256x768, .i32⟩
  | 16 => ⟨S256x768, .i32⟩
  | 17 => ⟨S256x768, .i32⟩
  | 18 => ⟨S256x768x1, .i32⟩
  | 19 => ⟨S8x320, .f32⟩
  | _ => ⟨S16384x1536, .f32⟩

abbrev hbmTy (i : Nat) : BufTy := match i / 128 with
  | 0 => hbmTy0_0 i
  | 1 => hbmTy0_1 i
  | _ => ⟨S16384x1536, .f32⟩

abbrev bufTy : (tb : Table) → Fin (tcTables nBuf tb) → BufTy
  | .hbm, ⟨i, _⟩ => hbmTy i
  | .local _ .vmem, ⟨0, _⟩ => ⟨S256x1536, .f32⟩
  | .local _ .vmem, ⟨1, _⟩ => ⟨S256x1536, .f32⟩
  | .local _ .vmem, ⟨2, _⟩ => ⟨S256x512, .f32⟩
  | .local _ .vmem, ⟨3, _⟩ => ⟨S256x512, .f32⟩
  | .local _ .vmem, ⟨4, _⟩ => ⟨S256x6144, .bf16⟩
  | .local _ .vmem, ⟨5, _⟩ => ⟨S256x6144, .bf16⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S256x1024, .bf16⟩
  | .local _ .vmem, ⟨14, _⟩ => ⟨S8x256x768, .f32⟩
  | .local _ .vmem, ⟨15, _⟩ => ⟨S768x1024, .bf16⟩
  | .local _ .vmem, ⟨16, _⟩ => ⟨S256x1024, .f32⟩
  | .local _ .vmem, ⟨17, _⟩ => ⟨S256x1024, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_8 : Ref sig .tc := ⟨.hbm, 67, rfl⟩
abbrev main_c_9 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83_0 : Ref sig .tc := ⟨.hbm, 113, rfl⟩
abbrev main_v83_1 : Ref sig .tc := ⟨.hbm, 114, rfl⟩
abbrev main_v83_2 : Ref sig .tc := ⟨.hbm, 115, rfl⟩
abbrev main_cst_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_19 : Ref sig .tc := ⟨.hbm, 128, rfl⟩
abbrev main_c_20 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_v94 : Ref sig .tc := ⟨.hbm, 135, rfl⟩
abbrev main_c_21 : Ref sig .tc := ⟨.hbm, 136, rfl⟩
abbrev main_v95 : Ref sig .tc := ⟨.hbm, 137, rfl⟩
abbrev main_v96 : Ref sig .tc := ⟨.hbm, 138, rfl⟩
abbrev main_c_22 : Ref sig .tc := ⟨.hbm, 139, rfl⟩
abbrev main_v97 : Ref sig .tc := ⟨.hbm, 140, rfl⟩
abbrev main_v98 : Ref sig .tc := ⟨.hbm, 141, rfl⟩
abbrev main_c_23 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let v1 : BitVec 32 := Scalar.muli v0 c1_i32
  let c0_i32 : BitVec 32 := 0#32
  let v2 : BitVec 1 := Scalar.cmpi .sgt v0 c0_i32
  let v3 : BitVec 32 := Scalar.extui v2
  let v4 : BitVec 32 := Scalar.subi v1 v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let v1 : BitVec 32 := Scalar.muli v0 c1_i32
  let c0_i32 : BitVec 32 := 0#32
  let v2 : BitVec 1 := Scalar.cmpi .sgt v0 c0_i32
  let v3 : BitVec 32 := Scalar.extui v2
  let v4 : BitVec 32 := Scalar.subi v1 v3
  let c1_i32_0 : BitVec 32 := 1#32
  let v5 : BitVec 1 := Scalar.cmpi .sgt v0 c1_i32_0
  let v6 : BitVec 32 := Scalar.extui v5
  let v7 : BitVec 32 := Scalar.subi v4 v6
  let c0_i32_1 : BitVec 32 := 0#32
  let c0_i32_2 : BitVec 32 := 0#32
  ![v7.toNat, c0_i32_1.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AttnRefIdeal.lean ====
abbrev S16384x1536 : Shape := ⟨2, ![16384, 1536]⟩
abbrev S8x320 : Shape := ⟨2, ![8, 320]⟩
abbrev S16384x512 : Shape := ⟨2, ![16384, 512]⟩
abbrev S16384 : Shape := ⟨1, ![16384]⟩
abbrev S16384x1 : Shape := ⟨2, ![16384, 1]⟩
abbrev S1x16384 : Shape := ⟨2, ![1, 16384]⟩
abbrev S_ : Shape := ⟨0, ![]⟩
abbrev S16384x16384 : Shape := ⟨2, ![16384, 16384]⟩
abbrev S16384x16384x1 : Shape := ⟨3, ![16384, 16384, 1]⟩
abbrev S8x16384x16384 : Shape := ⟨3, ![8, 16384, 16384]⟩
abbrev S16384x8x64 : Shape := ⟨3, ![16384, 8, 64]⟩
abbrev S8x16384 : Shape := ⟨2, ![8, 16384]⟩
abbrev S8x16384x1 : Shape := ⟨3, ![8, 16384, 1]⟩
abbrev S8x64x16384 : Shape := ⟨3, ![8, 64, 16384]⟩
abbrev S8x16384x64 : Shape := ⟨3, ![8, 16384, 64]⟩
abbrev S16384x1024 : Shape := ⟨2, ![16384, 1024]⟩

abbrev nBuf : Space → Nat
  | .hbm => 151
  | .vmem => 0
  | .smem => 0
  | _ => 0

abbrev hbmTy0_0 (i : Nat) : BufTy := match i % 128 with
  | 0 => ⟨S16384x1536, .f32⟩
  | 1 => ⟨S8x320, .f32⟩
  | 2 => ⟨S16384x512, .f32⟩
  | 3 => ⟨S16384x512, .f32⟩
  | 4 => ⟨S16384x512, .f32⟩
  | 5 => ⟨S16384x512, .f32⟩
  | 6 => ⟨S16384, .i32⟩
  | 7 => ⟨S16384x1, .i32⟩
  | 8 => ⟨S16384, .i32⟩
  | 9 => ⟨S1x16384, .i32⟩
  | 10 => ⟨S_, .i32⟩
  | 11 => ⟨S16384x1, .i32⟩
  | 12 => ⟨S16384x1, .i32⟩
  | 13 => ⟨S_, .i32⟩
  | 14 => ⟨S1x16384, .i32⟩
  | 15 => ⟨S1x16384, .i32⟩
  | 16 => ⟨S16384x16384, .i32⟩
  | 17 => ⟨S16384x16384, .i32⟩
  | 18 => ⟨S16384x16384, .i32⟩
  | 19 => ⟨S16384x16384, .i32⟩
  | 20 => ⟨S16384x16384, .i32⟩
  | 21 => ⟨S16384x16384, .i32⟩
  | 22 => ⟨S_, .i32⟩
  | 23 => ⟨S_, .i32⟩
  | 24 => ⟨S_, .i32⟩
  | 25 => ⟨S16384x16384, .i32⟩
  | 26 => ⟨S16384x16384, .i32⟩
  | 27 => ⟨S_, .i32⟩
  | 28 => ⟨S16384x16384, .i32⟩
  | 29 => ⟨S16384x16384, .i32⟩
  | 30 => ⟨S_, .i32⟩
  | 31 => ⟨S16384x16384, .i32⟩
  | 32 => ⟨S16384x16384, .i32⟩
  | 33 => ⟨S_, .i32⟩
  | 34 => ⟨S16384x16384, .i32⟩
  | 35 => ⟨S16384x16384, .i1⟩
  | 36 => ⟨S_, .i32⟩
  | 37 => ⟨S16384x16384, .i32⟩
  | 38 => ⟨S16384x16384, .i32⟩
  | 39 => ⟨S16384x16384, .i32⟩
  | 40 => ⟨S16384x16384x1, .i32⟩
  | 41 => ⟨S8x16384x16384, .f32⟩
  | 42 => ⟨S16384x8x64, .f32⟩
  | 43 => ⟨S16384x8x64, .f32⟩
  | 44 => ⟨S8x16384x16384, .f32⟩
  | 45 => ⟨S_, .f32⟩
  | 46 => ⟨S8x16384x16384, .f32⟩
  | 47 => ⟨S8x16384x16384, .f32⟩
  | 48 => ⟨S8x16384x16384, .f32⟩
  | 49 => ⟨S_, .i32⟩
  | 50 => ⟨S16384x16384, .i32⟩
  | 51 => ⟨S16384x16384, .i1⟩
  | 52 => ⟨S_, .i32⟩
  | 53 => ⟨S16384x16384, .i32⟩
  | 54 => ⟨S16384x16384, .i1⟩
  | 55 => ⟨S16384x16384, .i1⟩
  | 56 => ⟨S_, .f32⟩
  | 57 => ⟨S_, .f32⟩
  | 58 => ⟨S8x16384x16384, .i1⟩
  | 59 => ⟨S8x16384x16384, .f32⟩
  | 60 => ⟨S8x16384x16384, .f32⟩
  | 61 => ⟨S_, .f32⟩
  | 62 => ⟨S8x16384x16384, .f32⟩
  | 63 => ⟨S_, .f32⟩
  | 64 => ⟨S8x16384, .f32⟩
  | 65 => ⟨S8x16384x1, .f32⟩
  | 66 => ⟨S8x16384x16384, .f32⟩
  | 67 => ⟨S8x16384x16384, .i1⟩
  | 68 => ⟨S8x16384x16384, .f32⟩
  | 69 => ⟨S_, .f32⟩
  | 70 => ⟨S8x16384, .f32⟩
  | 71 => ⟨S_, .f32⟩
  | 72 => ⟨S8x16384, .f32⟩
  | 73 => ⟨S8x16384, .f32⟩
  | 74 => ⟨S_, .f32⟩
  | 75 => ⟨S8x16384, .f32⟩
  | 76 => ⟨S8x16384, .i1⟩
  | 77 => ⟨S_, .f32⟩
  | 78 => ⟨S8x16384, .f32⟩
  | 79 => ⟨S8x16384, .i1⟩
  | 80 => ⟨S_, .f32⟩
  | 81 => ⟨S8x16384, .f32⟩
  | 82 => ⟨S_, .f32⟩
  | 83 => ⟨S8x16384, .f32⟩
  | 84 => ⟨S_, .f32⟩
  | 85 => ⟨S8x16384, .f32⟩
  | 86 => ⟨S8x16384, .f32⟩
  | 87 => ⟨S8x16384, .f32⟩
  | 88 => ⟨S8x16384x1, .f32⟩
  | 89 => ⟨S8x16384x16384, .f32⟩
  | 90 => ⟨S8x16384x16384, .f32⟩
  | 91 => ⟨S8x16384x16384, .f32⟩
  | 92 => ⟨S_, .f32⟩
  | 93 => ⟨S8x16384, .f32⟩
  | 94 => ⟨S8x16384x1, .f32⟩
  | 95 => ⟨S8x16384x16384, .f32⟩
  | 96 => ⟨S8x16384x16384, .f32⟩
  | 97 => ⟨S8x16384x1, .f32⟩
  | 98 => ⟨S_, .f32⟩
  | 99 => ⟨S8x16384x1, .f32⟩
  | 100 => ⟨S8x16384x1, .f32⟩
  | 101 => ⟨S16384x8x64, .f32⟩
  | 102 => ⟨S8x64x16384, .f32⟩
  | 103 => ⟨S16384x8x64, .f32⟩
  | 104 => ⟨S16384x512, .f32⟩
  | 105 => ⟨S16384x8x64, .f32⟩
  | 106 => ⟨S8x64x16384, .f32⟩
  | 107 => ⟨S8x16384x16384, .f32⟩
  | 108 => ⟨S8x64x16384, .f32⟩
  | 109 => ⟨S16384x8x64, .f32⟩
  | 110 => ⟨S16384x512, .f32⟩
  | 111 => ⟨S8x16384x16384, .f32⟩
  | 112 => ⟨S8x16384x16384, .f32⟩
  | 113 => ⟨S8x16384x16384, .f32⟩
  | 114 => ⟨S_, .f32⟩
  | 115 => ⟨S8x16384, .f32⟩
  | 116 => ⟨S8x16384x1, .f32⟩
  | 117 => ⟨S8x16384x1, .f32⟩
  | 118 => ⟨S8x16384x16384, .f32⟩
  | 119 => ⟨S8x16384x16384, .f32⟩
  | 120 => ⟨S_, .f32⟩
  | 121 => ⟨S8x16384, .f32⟩
  | 122 => ⟨S8x16384x16384, .f32⟩
  | 123 => ⟨S8x16384x16384, .f32⟩
  | 124 => ⟨S8x16384x16384, .f32⟩
  | 125 => ⟨S_, .f32⟩
  | 126 => ⟨S8x16384x16384, .f32⟩
  | 127 => ⟨S8x16384x16384, .f32⟩
  | _ => ⟨S16384x1536, .f32⟩

abbrev hbmTy0_1 (i : Nat) : BufTy := match i % 128 with
  | 0 => ⟨S_, .f32⟩
  | 1 => ⟨S8x16384x16384, .f32⟩
  | 2 => ⟨S8x16384x16384, .f32⟩
  | 3 => ⟨S8x16384x64, .f32⟩
  | 4 => ⟨S16384x8x64, .f32⟩
  | 5 => ⟨S8x16384x64, .f32⟩
  | 6 => ⟨S16384x8x64, .f32⟩
  | 7 => ⟨S16384x512, .f32⟩
  | 8 => ⟨S16384x512, .f32⟩
  | 9 => ⟨S_, .f32⟩
  | 10 => ⟨S8x320, .f32⟩
  | 11 => ⟨S8x320, .f32⟩
  | 12 => ⟨S_, .f32⟩
  | 13 => ⟨S16384x1536, .f32⟩
  | 14 => ⟨S_, .f32⟩
  | 15 => ⟨S16384x1536, .f32⟩
  | 16 => ⟨S16384x1536, .f32⟩
  | 17 => ⟨S_, .f32⟩
  | 18 => ⟨S16384x1536, .f32⟩
  | 19 => ⟨S16384x1536, .f32⟩
  | 20 => ⟨S16384x1536, .bf16⟩
  | 21 => ⟨S16384x512, .bf16⟩
  | 22 => ⟨S16384x1024, .bf16⟩
  | _ => ⟨S16384x1536, .f32⟩

abbrev hbmTy (i : Nat) : BufTy := match i / 128 with
  | 0 => hbmTy0_0 i
  | 1 => hbmTy0_1 i
  | _ => ⟨S16384x1536, .f32⟩

abbrev bufTy : (tb : Table) → Fin (tcTables nBuf tb) → BufTy
  | .hbm, ⟨i, _⟩ => hbmTy i
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_call1_v0 : Ref sig .tc := ⟨.hbm, 57, rfl⟩
abbrev main_v38_1 : Ref sig .tc := ⟨.hbm, 58, rfl⟩
abbrev main_call1_v2 : Ref sig .tc := ⟨.hbm, 59, rfl⟩
abbrev main_v38_0 : Ref sig .tc := ⟨.hbm, 60, rfl⟩
abbrev main_call1_cst : Ref sig .tc := ⟨.hbm, 61, rfl⟩
abbrev main_v38_2 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_v48 : Ref sig .tc := ⟨.hbm, 76, rfl⟩
abbrev main_cst_13 : Ref sig .tc := ⟨.hbm, 77, rfl⟩
abbrev main_v49 : Ref sig .tc := ⟨.hbm, 78, rfl⟩
abbrev main_v50 : Ref sig .tc := ⟨.hbm, 79, rfl⟩
abbrev main_cst_14 : Ref sig .tc := ⟨.hbm, 80, rfl⟩
abbrev main_v51 : Ref sig .tc := ⟨.hbm, 81, rfl⟩
abbrev main_cst_15 : Ref sig .tc := ⟨.hbm, 82, rfl⟩
abbrev main_v52 : Ref sig .tc := ⟨.hbm, 83, rfl⟩
abbrev main_cst_16 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_17 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_18 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_19 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_20 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_call2_cst : Ref sig .tc := ⟨.hbm, 125, rfl⟩
abbrev main_call2_v0 : Ref sig .tc := ⟨.hbm, 126, rfl⟩
abbrev main_v89 : Ref sig .tc := ⟨.hbm, 127, rfl⟩
abbrev main_cst_21 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_22 : Ref sig .tc := ⟨.hbm, 137, rfl⟩
abbrev main_v98 : Ref sig .tc := ⟨.hbm, 138, rfl⟩
abbrev main_v99 : Ref sig .tc := ⟨.hbm, 139, rfl⟩
abbrev main_cst_23 : Ref sig .tc := ⟨.hbm, 140, rfl⟩
abbrev main_v100 : Ref sig .tc := ⟨.hbm, 141, rfl⟩
abbrev main_cst_24 : Ref sig .tc := ⟨.hbm, 142, rfl⟩
abbrev main_v101 : Ref sig .tc := ⟨.hbm, 143, rfl⟩
abbrev main_v102 : Ref sig .tc := ⟨.hbm, 144, rfl⟩
abbrev main_cst_25 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]
-- ==== Sg.lean ====
abbrev S16384x1024 : Shape := ⟨2, ![16384, 1024]⟩
abbrev S512 : Shape := ⟨1, ![512]⟩
abbrev S4x128x128 : Shape := ⟨3, ![4, 128, 128]⟩
abbrev S4x128 : Shape := ⟨2, ![4, 128]⟩
abbrev S16384x512 : Shape := ⟨2, ![16384, 512]⟩
abbrev S1x512 : Shape := ⟨2, ![1, 512]⟩
abbrev S128x4 : Shape := ⟨2, ![128, 4]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S128x128 : Shape := ⟨2, ![128, 128]⟩
abbrev S1x128x128 : Shape := ⟨3, ![1, 128, 128]⟩
abbrev S128x1024 : Shape := ⟨2, ![128, 1024]⟩
abbrev S128x1 : Shape := ⟨2, ![128, 1]⟩
abbrev S128x512 : Shape := ⟨2, ![128, 512]⟩
abbrev S128 : Shape := ⟨1, ![128]⟩

abbrev nBuf : Space → Nat
  | .hbm => 18
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S16384x512, .f32⟩
  | .hbm, ⟨6, _⟩ => ⟨S1x512, .f32⟩
  | .hbm, ⟨7, _⟩ => ⟨S1x512, .f32⟩
  | .hbm, ⟨8, _⟩ => ⟨S128x4, .f32⟩
  | .hbm, ⟨9, _⟩ => ⟨S16384x512, .bf16⟩
  | .hbm, ⟨10, _⟩ => ⟨S16384x1024, .bf16⟩
  | .hbm, ⟨11, _⟩ => ⟨S4x128x128, .f32⟩
  | .hbm, ⟨12, _⟩ => ⟨S128x4, .f32⟩
  | .hbm, ⟨13, _⟩ => ⟨S1x512, .f32⟩
  | .hbm, ⟨14, _⟩ => ⟨S1x512, .f32⟩
  | .hbm, ⟨15, _⟩ => ⟨S4x128, .f32⟩
  | .hbm, ⟨16, _⟩ => ⟨S512, .f32⟩
  | .hbm, ⟨17, _⟩ => ⟨S512, .f32⟩
  | .local _ .vmem, ⟨0, _⟩ => ⟨S1024x1024, .f32⟩
  | .local _ .vmem, ⟨1, _⟩ => ⟨S1024x1024, .f32⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x4, .f32⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | .local _ .vmem, ⟨14, _⟩ => ⟨S4x128x128, .f32⟩
  | .local _ .vmem, ⟨15, _⟩ => ⟨S128x4, .f32⟩
  | .local _ .vmem, ⟨16, _⟩ => ⟨S1024x1024, .bf16⟩
  | .local _ .vmem, ⟨17, _⟩ => ⟨S1024x1024, .bf16⟩
  | .local _ .vmem, ⟨18, _⟩ => ⟨S4x128x128, .f32⟩
  | .local _ .vmem, ⟨19, _⟩ => ⟨S128x4, .f32⟩
  | .local _ .vmem, ⟨20, _⟩ => ⟨S1x512, .f32⟩
  | .local _ .vmem, ⟨21, _⟩ => ⟨S1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem8_0 : DmaSem sig := 19
abbrev cc1_sem9_0 : DmaSem sig := 20
abbrev cc1_sem10_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S4x128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== SgIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== SgRefIdeal.lean ====
abbrev S16384x1024 : Shape := ⟨2, ![16384, 1024]⟩
abbrev S512 : Shape := ⟨1, ![512]⟩
abbrev S4x128x128 : Shape := ⟨3, ![4, 128, 128]⟩
abbrev S4x128 : Shape := ⟨2, ![4, 128]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S128x128x4x128 : Shape := ⟨4, ![128, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x128x128x128 : Shape := ⟨4, ![4, 128, 128, 128]⟩
abbrev S128x4 : Shape := ⟨2, ![128, 4]⟩
abbrev S1x128x4x1 : Shape := ⟨4, ![1, 128, 4, 1]⟩

abbrev nBuf : Space → Nat
  | .hbm => 253
  | .vmem => 0
  | .smem => 0
  | _ => 0

abbrev hbmTy0_0 (i : Nat) : BufTy := match i % 128 with
  | 0 => ⟨S16384x1024, .f32⟩
  | 1 => ⟨S512, .f32⟩
  | 2 => ⟨S512, .f32⟩
  | 3 => ⟨S4x128x128, .f32⟩
  | 4 => ⟨S4x128, .f32⟩
  | 5 => ⟨S16384x512, .f32⟩
  | 6 => ⟨S16384x512, .f32⟩
  | 7 => ⟨S_, .f32⟩
  | 8 => ⟨S_, .f32⟩
  | 9 => ⟨S_, .f32⟩
  | 10 => ⟨S16384x512, .f32⟩
  | 11 => ⟨S16384x512, .f32⟩
  | 12 => ⟨S16384x512, .f32⟩
  | 13 => ⟨S_, .f32⟩
  | 14 => ⟨S16384x512, .f32⟩
  | 15 => ⟨S16384x512, .f32⟩
  | 16 => ⟨S_, .f32⟩
  | 17 => ⟨S16384x512, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .f32⟩
  | 24 => ⟨S_, .f32⟩
  | 25 => ⟨S16384x512, .f32⟩
  | 26 => ⟨S16384x512, .f32⟩
  | 27 => ⟨S_, .f32⟩
  | 28 => ⟨S16384x512, .f32⟩
  | 29 => ⟨S16384x512, .f32⟩
  | 30 => ⟨S16384x512, .f32⟩
  | 31 => ⟨S_, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S16384x512, .f32⟩
  | 38 => ⟨S16384x512, .f32⟩
  | 39 => ⟨S_, .f32⟩
  | 40 => ⟨S_, .f32⟩
  | 41 => ⟨S_, .f32⟩
  | 42 => ⟨S16384x512, .f32⟩
  | 43 => ⟨S16384x512, .f32⟩
  | 44 => ⟨S16384x512, .f32⟩
  | 45 => ⟨S_, .f32⟩
  | 46 => ⟨S16384x512, .f32⟩
  | 47 => ⟨S16384x512, .f32⟩
  | 48 => ⟨S_, .f32⟩
  | 49 => ⟨S16384x512, .f32⟩
  | 50 => ⟨S16384x512, .f32⟩
  | 51 => ⟨S16384x512, .f32⟩
  | 52 => ⟨S_, .f32⟩
  | 53 => ⟨S16384x512, .f32⟩
  | 54 => ⟨S16384x512, .f32⟩
  | 55 => ⟨S16384x512, .f32⟩
  | 56 => ⟨S_, .f32⟩
  | 57 => ⟨S16384x512, .f32⟩
  | 58 => ⟨S16384x512, .f32⟩
  | 59 => ⟨S_, .f32⟩
  | 60 => ⟨S16384x512, .f32⟩
  | 61 => ⟨S16384x512, .f32⟩
  | 62 => ⟨S16384x512, .f32⟩
  | 63 => ⟨S_, .f32⟩
  | 64 => ⟨S16384x512, .f32⟩
  | 65 => ⟨S16384x512, .f32⟩
  | 66 => ⟨S_, .f32⟩
  | 67 => ⟨S16384x512, .f32⟩
  | 68 => ⟨S16384x512, .f32⟩
  | 69 => ⟨S16384x512, .f32⟩
  | 70 => ⟨S_, .f32⟩
  | 71 => ⟨S16384, .f32⟩
  | 72 => ⟨S16384x1, .f32⟩
  | 73 => ⟨S_, .f32⟩
  | 74 => ⟨S16384x1, .f32⟩
  | 75 => ⟨S16384x1, .f32⟩
  | 76 => ⟨S16384x512, .f32⟩
  | 77 => ⟨S16384x512, .f32⟩
  | 78 => ⟨S16384x512, .f32⟩
  | 79 => ⟨S_, .f32⟩
  | 80 => ⟨S16384, .f32⟩
  | 81 => ⟨S16384x1, .f32⟩
  | 82 => ⟨S_, .f32⟩
  | 83 => ⟨S16384x1, .f32⟩
  | 84 => ⟨S16384x1, .f32⟩
  | 85 => ⟨S_, .f32⟩
  | 86 => ⟨S16384x1, .f32⟩
  | 87 => ⟨S16384x1, .f32⟩
  | 88 => ⟨S16384x1, .f32⟩
  | 89 => ⟨S16384x1, .f32⟩
  | 90 => ⟨S_, .f32⟩
  | 91 => ⟨S16384x1, .f32⟩
  | 92 => ⟨S16384x1, .f32⟩
  | 93 => ⟨S16384x512, .f32⟩
  | 94 => ⟨S16384x512, .f32⟩
  | 95 => ⟨S1x512, .f32⟩
  | 96 => ⟨S16384x512, .f32⟩
  | 97 => ⟨S16384x512, .f32⟩
  | 98 => ⟨S1x512, .f32⟩
  | 99 => ⟨S16384x512, .f32⟩
  | 100 => ⟨S16384x512, .f32⟩
  | 101 => ⟨S128x128x4x128, .f32⟩
  | 102 => ⟨S128, .i32⟩
  | 103 => ⟨S1x128, .i32⟩
  | 104 => ⟨S_, .i32⟩
  | 105 => ⟨S_, .i32⟩
  | 106 => ⟨S1x128, .i32⟩
  | 107 => ⟨S1x128, .i32⟩
  | 108 => ⟨S1x128, .i32⟩
  | 109 => ⟨S_, .i32⟩
  | 110 => ⟨S1x128, .i32⟩
  | 111 => ⟨S1x128, .i1⟩
  | 112 => ⟨S1x128, .i32⟩
  | 113 => ⟨S1x128, .i32⟩
  | 114 => ⟨S_, .i32⟩
  | 115 => ⟨S1x128, .i32⟩
  | 116 => ⟨S1x128, .i1⟩
  | 117 => ⟨S1x128, .i1⟩
  | 118 => ⟨S_, .i32⟩
  | 119 => ⟨S1x128, .i32⟩
  | 120 => ⟨S1x128, .i32⟩
  | 121 => ⟨S1x128, .i32⟩
  | 122 => ⟨S128x1, .i32⟩
  | 123 => ⟨S_, .i32⟩
  | 124 => ⟨S_, .i32⟩
  | 125 => ⟨S128x1, .i32⟩
  | 126 => ⟨S128x1, .i32⟩
  | 127 => ⟨S128x1, .i32⟩
  | _ => ⟨S16384x1024, .f32⟩

abbrev hbmTy0_1 (i : Nat) : BufTy := match i % 128 with
  | 0 => ⟨S_, .i32⟩
  | 1 => ⟨S128x1, .i32⟩
  | 2 => ⟨S128x1, .i1⟩
  | 3 => ⟨S128x1, .i32⟩
  | 4 => ⟨S128x1, .i32⟩
  | 5 => ⟨S_, .i32⟩
  | 6 => ⟨S128x1, .i32⟩
  | 7 => ⟨S128x1, .i1⟩
  | 8 => ⟨S128x1, .i1⟩
  | 9 => ⟨S_, .i32⟩
  | 10 => ⟨S128x1, .i32⟩
  | 11 => ⟨S128x1, .i32⟩
  | 12 => ⟨S128x1, .i32⟩
  | 13 => ⟨S128x128, .i32⟩
  | 14 => ⟨S128x128, .i32⟩
  | 15 => ⟨S128x128, .i1⟩
  | 16 => ⟨S1x128x128, .i1⟩
  | 17 => ⟨S_, .f32⟩
  | 18 => ⟨S_, .f32⟩
  | 19 => ⟨S4x128x128, .i1⟩
  | 20 => ⟨S4x128x128, .f32⟩
  | 21 => ⟨S4x128x128, .f32⟩
  | 22 => ⟨S_, .f32⟩
  | 23 => ⟨S4x128x128, .f32⟩
  | 24 => ⟨S4x128x128x128, .f32⟩
  | 25 => ⟨S128x128x4x128, .f32⟩
  | 26 => ⟨S128x4, .f32⟩
  | 27 => ⟨S1x128x4x1, .f32⟩
  | 28 => ⟨S128x128x4x128, .f32⟩
  | 29 => ⟨S128x128x4x128, .f32⟩
  | 30 => ⟨S16384x512, .f32⟩
  | 31 => ⟨S16384x512, .f32⟩
  | 32 => ⟨S16384x512, .f32⟩
  | 33 => ⟨S16384x512, .f32⟩
  | 34 => ⟨S128x128x4x128, .f32⟩
  | 35 => ⟨S_, .f32⟩
  | 36 => ⟨S128x4, .f32⟩
  | 37 => ⟨S1x128x4x1, .f32⟩
  | 38 => ⟨S_, .f32⟩
  | 39 => ⟨S128x4, .f32⟩
  | 40 => ⟨S4x128, .f32⟩
  | 41 => ⟨S4x128x128x128, .f32⟩
  | 42 => ⟨S4x128x128, .f32⟩
  | 43 => ⟨S4x128x128x128, .f32⟩
  | 44 => ⟨S128x128x4x128, .f32⟩
  | 45 => ⟨S_, .f32⟩
  | 46 => ⟨S4x128x128, .f32⟩
  | 47 => ⟨S4x128x128, .f32⟩
  | 48 => ⟨S16384x512, .f32⟩
  | 49 => ⟨S_, .f32⟩
  | 50 => ⟨S512, .f32⟩
  | 51 => ⟨S1x512, .f32⟩
  | 52 => ⟨S_, .f32⟩
  | 53 => ⟨S512, .f32⟩
  | 54 => ⟨S16384x512, .f32⟩
  | 55 => ⟨S_, .f32⟩
  | 56 => ⟨S512, .f32⟩
  | 57 => ⟨S1x512, .f32⟩
  | 58 => ⟨S16384x512, .f32⟩
  | 59 => ⟨S16384x512, .f32⟩
  | 60 => ⟨S_, .f32⟩
  | 61 => ⟨S512, .f32⟩
  | 62 => ⟨S16384x512, .f32⟩
  | 63 => ⟨S_, .f32⟩
  | 64 => ⟨S16384, .f32⟩
  | 65 => ⟨S16384x1, .f32⟩
  | 66 => ⟨S16384x512, .f32⟩
  | 67 => ⟨S16384x512, .f32⟩
  | 68 => ⟨S16384x1, .f32⟩
  | 69 => ⟨S_, .f32⟩
  | 70 => ⟨S16384x1, .f32⟩
  | 71 => ⟨S16384x1, .f32⟩
  | 72 => ⟨S_, .f32⟩
  | 73 => ⟨S16384, .f32⟩
  | 74 => ⟨S16384x512, .f32⟩
  | 75 => ⟨S16384x512, .f32⟩
  | 76 => ⟨S16384x512, .f32⟩
  | 77 => ⟨S16384x512, .f32⟩
  | 78 => ⟨S16384x512, .f32⟩
  | 79 => ⟨S16384x512, .f32⟩
  | 80 => ⟨S_, .f32⟩
  | 81 => ⟨S16384, .f32⟩
  | 82 => ⟨S16384x1, .f32⟩
  | 83 => ⟨S_, .f32⟩
  | 84 => ⟨S16384x1, .f32⟩
  | 85 => ⟨S16384x1, .f32⟩
  | 86 => ⟨S_, .f32⟩
  | 87 => ⟨S16384, .f32⟩
  | 88 => ⟨S16384x512, .f32⟩
  | 89 => ⟨S16384x512, .f32⟩
  | 90 => ⟨S16384x512, .f32⟩
  | 91 => ⟨S16384x512, .f32⟩
  | 92 => ⟨S_, .f32⟩
  | 93 => ⟨S16384x512, .f32⟩
  | 94 => ⟨S16384x512, .f32⟩
  | 95 => ⟨S16384x512, .f32⟩
  | 96 => ⟨S_, .f32⟩
  | 97 => ⟨S16384x512, .f32⟩
  | 98 => ⟨S16384x512, .f32⟩
  | 99 => ⟨S16384x512, .f32⟩
  | 100 => ⟨S16384x512, .f32⟩
  | 101 => ⟨S16384x512, .f32⟩
  | 102 => ⟨S16384x512, .f32⟩
  | 103 => ⟨S16384x512, .f32⟩
  | 104 => ⟨S_, .f32⟩
  | 105 => ⟨S16384x1024, .f32⟩
  | 106 => ⟨S16384x512, .f32⟩
  | 107 => ⟨S16384x512, .f32⟩
  | 108 => ⟨S_, .f32⟩
  | 109 => ⟨S16384x512, .f32⟩
  | 110 => ⟨S16384x512, .f32⟩
  | 111 => ⟨S16384x512, .f32⟩
  | 112 => ⟨S_, .f32⟩
  | 113 => ⟨S16384x512, .f32⟩
  | 114 => ⟨S16384x512, .f32⟩
  | 115 => ⟨S16384x512, .f32⟩
  | 116 => ⟨S16384x512, .f32⟩
  | 117 => ⟨S16384x512, .f32⟩
  | 118 => ⟨S16384x512, .f32⟩
  | 119 => ⟨S16384x512, .f32⟩
  | 120 => ⟨S_, .f32⟩
  | 121 => ⟨S16384x1024, .f32⟩
  | 122 => ⟨S16384x1024, .f32⟩
  | 123 => ⟨S16384x512, .bf16⟩
  | 124 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_17 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_20 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_v5 : Ref sig .tc := ⟨.hbm, 110, rfl⟩
abbrev main_call0_v6 : Ref sig .tc := ⟨.hbm, 111, rfl⟩
abbrev main_call0_v7 : Ref sig .tc := ⟨.hbm, 112, rfl⟩
abbrev main_call0_v8 : Ref sig .tc := ⟨.hbm, 113, rfl⟩
abbrev main_call0_c : Ref sig .tc := ⟨.hbm, 114, rfl⟩
abbrev main_call0_v9 : Ref sig .tc := ⟨.hbm, 115, rfl⟩
abbrev main_call0_v10 : Ref sig .tc := ⟨.hbm, 116, rfl⟩
abbrev main_call0_v11 : Ref sig .tc := ⟨.hbm, 117, rfl⟩
abbrev main_call0_c_0 : Ref sig .tc := ⟨.hbm, 118, rfl⟩
abbrev main_call0_v12 : Ref sig .tc := ⟨.hbm, 119, rfl⟩
abbrev main_call0_v13 : Ref sig .tc := ⟨.hbm, 120, rfl⟩
abbrev main_v76 : Ref sig .tc := ⟨.hbm, 121, rfl⟩
abbrev main_v77 : Ref sig .tc := ⟨.hbm, 122, rfl⟩
abbrev main_c_21 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_v5 : Ref sig .tc := ⟨.hbm, 129, rfl⟩
abbrev main_call1_v6 : Ref sig .tc := ⟨.hbm, 130, rfl⟩
abbrev main_call1_v7 : Ref sig .tc := ⟨.hbm, 131, rfl⟩
abbrev main_call1_v8 : Ref sig .tc := ⟨.hbm, 132, rfl⟩
abbrev main_call1_c : Ref sig .tc := ⟨.hbm, 133, rfl⟩
abbrev main_call1_v9 : Ref sig .tc := ⟨.hbm, 134, rfl⟩
abbrev main_call1_v10 : Ref sig .tc := ⟨.hbm, 135, rfl⟩
abbrev main_call1_v11 : Ref sig .tc := ⟨.hbm, 136, rfl⟩
abbrev main_call1_c_0 : Ref sig .tc := ⟨.hbm, 137, rfl⟩
abbrev main_call1_v12 : Ref sig .tc := ⟨.hbm, 138, rfl⟩
abbrev main_call1_v13 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_22 : Ref sig .tc := ⟨.hbm, 145, rfl⟩
abbrev main_call2_v0 : Ref sig .tc := ⟨.hbm, 146, rfl⟩
abbrev main_v83_1 : Ref sig .tc := ⟨.hbm, 147, rfl⟩
abbrev main_call2_v2 : Ref sig .tc := ⟨.hbm, 148, rfl⟩
abbrev main_v83_0 : Ref sig .tc := ⟨.hbm, 149, rfl⟩
abbrev main_call2_cst : Ref sig .tc := ⟨.hbm, 150, rfl⟩
abbrev main_v83_2 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_cst_23 : Ref sig .tc := ⟨.hbm, 163, rfl⟩
abbrev main_v95 : Ref sig .tc := ⟨.hbm, 164, rfl⟩
abbrev main_v96 : Ref sig .tc := ⟨.hbm, 165, rfl⟩
abbrev main_cst_24 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_call3_cst : Ref sig .tc := ⟨.hbm, 173, rfl⟩
abbrev main_call3_v0 : Ref sig .tc := ⟨.hbm, 174, rfl⟩
abbrev main_v103 : Ref sig .tc := ⟨.hbm, 175, rfl⟩
abbrev main_v104 : Ref sig .tc := ⟨.hbm, 176, rfl⟩
abbrev main_cst_25 : Ref sig .tc := ⟨.hbm, 177, rfl⟩
abbrev main_v105 : Ref sig .tc := ⟨.hbm, 178, rfl⟩
abbrev main_v106 : Ref sig .tc := ⟨.hbm, 179, rfl⟩
abbrev main_cst_26 : Ref sig .tc := ⟨.hbm, 180, rfl⟩
abbrev main_v107 : Ref sig .tc := ⟨.hbm, 181, rfl⟩
abbrev main_v108 : Ref sig .tc := ⟨.hbm, 182, rfl⟩
abbrev main_cst_27 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_cst_28 : Ref sig .tc := ⟨.hbm, 188, rfl⟩
abbrev main_v113 : Ref sig .tc := ⟨.hbm, 189, rfl⟩
abbrev main_v114 : Ref sig .tc := ⟨.hbm, 190, rfl⟩
abbrev main_cst_29 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_cst_30 : Ref sig .tc := ⟨.hbm, 197, rfl⟩
abbrev main_v120 : Ref sig .tc := ⟨.hbm, 198, rfl⟩
abbrev main_v121 : Ref sig .tc := ⟨.hbm, 199, rfl⟩
abbrev main_cst_31 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_cst_32 : Ref sig .tc := ⟨.hbm, 208, rfl⟩
abbrev main_v129 : Ref sig .tc := ⟨.hbm, 209, rfl⟩
abbrev main_v130 : Ref sig .tc := ⟨.hbm, 210, rfl⟩
abbrev main_cst_33 : Ref sig .tc := ⟨.hbm, 211, rfl⟩
abbrev main_v131 : Ref sig .tc := ⟨.hbm, 212, rfl⟩
abbrev main_v132 : Ref sig .tc := ⟨.hbm, 213, rfl⟩
abbrev main_cst_34 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_cst_35 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_cst_36 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_cst_37 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_cst_38 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_cst_39 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_cst_40 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩

abbrev nD : Nat := 1
abbrev τ : Topo := Topo.v7x

variable {F : FTy → Type} [FloatOps F]
-- ==== Attf.lean ====
abbrev S16384x1536 : Shape := ⟨2, ![16384, 1536]⟩
abbrev S8x320 : Shape := ⟨2, ![8, 320]⟩
abbrev S64 : Shape := ⟨1, ![64]⟩
abbrev S64x1 : Shape := ⟨2, ![64, 1]⟩
abbrev S576 : Shape := ⟨1, ![576]⟩
abbrev S1x576 : Shape := ⟨2, ![1, 576]⟩
abbrev S_ : Shape := ⟨0, ![]⟩
abbrev S64x576 : Shape := ⟨2, ![64, 576]⟩
abbrev S1x36864 : Shape := ⟨2, ![1, 36864]⟩
abbrev S8x36864 : Shape := ⟨2, ![8, 36864]⟩
abbrev S1x4096 : Shape := ⟨2, ![1, 4096]⟩
abbrev S8x4096 : Shape := ⟨2, ![8, 4096]⟩
abbrev S320x4096 : Shape := ⟨2, ![320, 4096]⟩
abbrev S8x64x576 : Shape := ⟨3, ![8, 64, 576]⟩
abbrev S8x256x768 : Shape := ⟨3, ![8, 256, 768]⟩
abbrev S1x64x576 : Shape := ⟨3, ![1, 64, 576]⟩
abbrev S1x256x768 : Shape := ⟨3, ![1, 256, 768]⟩
abbrev S64x192 : Shape := ⟨2, ![64, 192]⟩
abbrev S64x768 : Shape := ⟨2, ![64, 768]⟩
abbrev S1x64x768 : Shape := ⟨3, ![1, 64, 768]⟩
abbrev S64x64 : Shape := ⟨2, ![64, 64]⟩
abbrev S64x128 : Shape := ⟨2, ![64, 128]⟩
abbrev S16384x512 : Shape := ⟨2, ![16384, 512]⟩
abbrev S16384x6144 : Shape := ⟨2, ![16384, 6144]⟩
abbrev S256x1536 : Shape := ⟨2, ![256, 1536]⟩
abbrev S256x512 : Shape := ⟨2, ![256, 512]⟩
abbrev S256x6144 : Shape := ⟨2, ![256, 6144]⟩
abbrev S768x1024 : Shape := ⟨2, ![768, 1024]⟩
abbrev S256x1024 : Shape := ⟨2, ![256, 1024]⟩
abbrev S256x768 : Shape := ⟨2, ![256, 768]⟩
abbrev S256x64 : Shape := ⟨2, ![256, 64]⟩
abbrev S768x64 : Shape := ⟨2, ![768, 64]⟩
abbrev S256 : Shape := ⟨1, ![256]⟩
abbrev S256x1 : Shape := ⟨2, ![256, 1]⟩

abbrev nBuf : Space → Nat
  | .hbm => 29
  | .vmem => 21
  | .smem => 0
  | _ => 0

abbrev bufTy : (tb : Table) → Fin (tcTables nBuf tb) → BufTy
  | .hbm, ⟨0, _⟩ => ⟨S16384x1536, .f32⟩
  | .hbm, ⟨1, _⟩ => ⟨S8x320, .f32⟩
  | .hbm, ⟨2, _⟩ => ⟨S64, .i32⟩
  | .hbm, ⟨3, _⟩ => ⟨S64x1, .i32⟩
  | .hbm, ⟨4, _⟩ => ⟨S576, .i32⟩
  | .hbm, ⟨5, _⟩ => ⟨S1x576, .i32⟩
  | .hbm, ⟨6, _⟩ => ⟨S_, .i32⟩
  | .hbm, ⟨7, _⟩ => ⟨S64x1, .i32⟩
  | .hbm, ⟨8, _⟩ => ⟨S64x1, .i32⟩
  | .hbm, ⟨9, _⟩ => ⟨S64x576, .i32⟩
  | .hbm, ⟨10, _⟩ => ⟨S64x576, .i32⟩
  | .hbm, ⟨11, _⟩ => ⟨S64x576, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64x576, .i32⟩
  | .hbm, ⟨16, _⟩ => ⟨S64x576, .i32⟩
  | .hbm, ⟨17, _⟩ => ⟨S_, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S64x576, .i32⟩
  | .hbm, ⟨22, _⟩ => ⟨S64x576, .i32⟩
  | .hbm, ⟨23, _⟩ => ⟨S1x36864, .i32⟩
  | .hbm, ⟨24, _⟩ => ⟨S8x36864, .f32⟩
  | .hbm, ⟨25, _⟩ => ⟨S8x64x576, .f32⟩
  | .hbm, ⟨26, _⟩ => ⟨S8x256x768, .f32⟩
  | .hbm, ⟨27, _⟩ => ⟨S16384x512, .bf16⟩
  | .hbm, ⟨28, _⟩ => ⟨S16384x6144, .bf16⟩
  | .local _ .vmem, ⟨0, _⟩ => ⟨S8x320, .f32⟩
  | .local _ .vmem, ⟨1, _⟩ => ⟨S1x4096, .i32⟩
  | .local _ .vmem, ⟨2, _⟩ => ⟨S1x4096, .i32⟩
  | .local _ .vmem, ⟨3, _⟩ => ⟨S8x4096, .f32⟩
  | .local _ .vmem, ⟨4, _⟩ => ⟨S8x4096, .f32⟩
  | .local _ .vmem, ⟨5, _⟩ => ⟨S1x64x576, .f32⟩
  | .local _ .vmem, ⟨6, _⟩ => ⟨S1x64x576, .f32⟩
  | .local _ .vmem, ⟨7, _⟩ => ⟨S1x256x768, .f32⟩
  | .local _ .vmem, ⟨8, _⟩ => ⟨S1x256x768, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S8x256x768, .f32⟩
  | .local _ .vmem, ⟨16, _⟩ => ⟨S256x512, .bf16⟩
  | .local _ .vmem, ⟨17, _⟩ => ⟨S256x512, .bf16⟩
  | .local _ .vmem, ⟨18, _⟩ => ⟨S256x6144, .bf16⟩
  | .local _ .vmem, ⟨19, _⟩ => ⟨S256x6144, .bf16⟩
  | .local _ .vmem, ⟨20, _⟩ => ⟨S768x1024, .bf16⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_scratch0 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x576 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![64], ![false]⟩

def k2_cond2 (i : grid2.Coords) : BitVec 1 :=
  let arg0 : BitVec 32 := BitVec.ofNat 32 (i 0).val
  let c2_i32_15 : BitVec 32 := 2#32
  let v33 : BitVec 1 := Scalar.cmpi .slt arg0 c2_i32_15
  let v34 : BitVec 32 := Scalar.extui v33
  let c0_i32_16 : BitVec 32 := 0#32
  let v35 : BitVec 1 := Scalar.cmpi .ne v34 c0_i32_16
  v35

def k2_cond3 (i : grid2.Coords) : BitVec 1 :=
  let arg0 : BitVec 32 := BitVec.ofNat 32 (i 0).val
  let c2_i32_17 : BitVec 32 := 2#32
  let v36 : BitVec 1 := Scalar.cmpi .sge arg0 c2_i32_17
  let v37 : BitVec 32 := Scalar.extui v36
  let c0_i32_18 : BitVec 32 := 0#32
  let v38 : BitVec 1 := Scalar.cmpi .ne v37 c0_i32_18
  v38

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 1 := Scalar.cmpi .sgt arg0 c0_i32
  let v2 : BitVec 32 := Scalar.extui v1
  let v3 : BitVec 32 := Scalar.subi v0 v2
  let c0_i32_0 : BitVec 32 := 0#32
  let c0_i32_1 : BitVec 32 := 0#32
  ![v3.toNat, c0_i32_0.toNat]

def cc2_transform_2 (i : grid2.Coords) : Fin 2 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 1 := Scalar.cmpi .sgt arg0 c0_i32
  let v2 : BitVec 32 := Scalar.extui v1
  let v3 : BitVec 32 := Scalar.subi v0 v2
  let c1_i32_0 : BitVec 32 := 1#32
  let v4 : BitVec 1 := Scalar.cmpi .sgt arg0 c1_i32_0
  let v5 : BitVec 32 := Scalar.extui v4
  let v6 : BitVec 32 := Scalar.subi v3 v5
  let c0_i32_1 : BitVec 32 := 0#32
  let c0_i32_2 : BitVec 32 := 0#32
  ![v6.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1536 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1536 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x256x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x6144 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== AttfIdeal.lean ====
variable {F : FTy → Type} [FloatOps F] [Named F]
def κ : String → Option EReal := fun
  | "mask" => some ⊥
  | _ => none
-- ==== AttfRefIdeal.lean ====
abbrev S16384x1536 : Shape := ⟨2, ![16384, 1536]⟩
abbrev S8x320 : Shape := ⟨2, ![8, 320]⟩
abbrev S16384x512 : Shape := ⟨2, ![16384, 512]⟩
abbrev S16384 : Shape := ⟨1, ![16384]⟩
abbrev S16384x1 : Shape := ⟨2, ![16384, 1]⟩
abbrev S1x16384 : Shape := ⟨2, ![1, 16384]⟩
abbrev S_ : Shape := ⟨0, ![]⟩
abbrev S16384x16384 : Shape := ⟨2, ![16384, 16384]⟩
abbrev S16384x16384x1 : Shape := ⟨3, ![16384, 16384, 1]⟩
abbrev S8x16384x16384 : Shape := ⟨3, ![8, 16384, 16384]⟩
abbrev S16384x8x64 : Shape := ⟨3, ![16384, 8, 64]⟩
abbrev S8x16384 : Shape := ⟨2, ![8, 16384]⟩
abbrev S8x16384x1 : Shape := ⟨3, ![8, 16384, 1]⟩
abbrev S8x64x16384 : Shape := ⟨3, ![8, 64, 16384]⟩

abbrev nBuf : Space → Nat
  | .hbm => 79
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S8x320, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384, .i32⟩
  | .hbm, ⟨6, _⟩ => ⟨S16384x1, .i32⟩
  | .hbm, ⟨7, _⟩ => ⟨S16384, .i32⟩
  | .hbm, ⟨8, _⟩ => ⟨S1x16384, .i32⟩
  | .hbm, ⟨9, _⟩ => ⟨S_, .i32⟩
  | .hbm, ⟨10, _⟩ => ⟨S16384x1, .i32⟩
  | .hbm, ⟨11, _⟩ => ⟨S16384x1, .i32⟩
  | .hbm, ⟨12, _⟩ => ⟨S_, .i32⟩
  | .hbm, ⟨13, _⟩ => ⟨S1x16384, .i32⟩
  | .hbm, ⟨14, _⟩ => ⟨S1x16384, .i32⟩
  | .hbm, ⟨15, _⟩ => ⟨S16384x16384, .i32⟩
  | .hbm, ⟨16, _⟩ => ⟨S16384x16384, .i32⟩
  | .hbm, ⟨17, _⟩ => ⟨S16384x16384, .i32⟩
  | .hbm, ⟨18, _⟩ => ⟨S16384x16384, .i32⟩
  | .hbm, ⟨19, _⟩ => ⟨S16384x16384, .i32⟩
  | .hbm, ⟨20, _⟩ => ⟨S16384x16384, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S16384x16384, .i32⟩
  | .hbm, ⟨25, _⟩ => ⟨S16384x16384, .i32⟩
  | .hbm, ⟨26, _⟩ => ⟨S_, .i32⟩
  | .hbm, ⟨27, _⟩ => ⟨S16384x16384, .i32⟩
  | .hbm, ⟨28, _⟩ => ⟨S16384x16384, .i32⟩
  | .hbm, ⟨29, _⟩ => ⟨S_, .i32⟩
  | .hbm, ⟨30, _⟩ => ⟨S16384x16384, .i32⟩
  | .hbm, ⟨31, _⟩ => ⟨S16384x16384, .i32⟩
  | .hbm, ⟨32, _⟩ => ⟨S_, .i32⟩
  | .hbm, ⟨33, _⟩ => ⟨S16384x16384, .i32⟩
  | .hbm, ⟨34, _⟩ => ⟨S16384x16384, .i1⟩
  | .hbm, ⟨35, _⟩ => ⟨S_, .i32⟩
  | .hbm, ⟨36, _⟩ => ⟨S16384x16384, .i32⟩
  | .hbm, ⟨37, _⟩ => ⟨S16384x16384, .i32⟩
  | .hbm, ⟨38, _⟩ => ⟨S16384x16384, .i32⟩
  | .hbm, ⟨39, _⟩ => ⟨S16384x16384x1, .i32⟩
  | .hbm, ⟨40, _⟩ => ⟨S8x16384x16384, .f32⟩
  | .hbm, ⟨41, _⟩ => ⟨S16384x8x64, .f32⟩
  | .hbm, ⟨42, _⟩ => ⟨S16384x8x64, .f32⟩
  | .hbm, ⟨43, _⟩ => ⟨S8x16384x16384, .f32⟩
  | .hbm, ⟨44, _⟩ => ⟨S_, .f32⟩
  | .hbm, ⟨45, _⟩ => ⟨S8x16384x16384, .f32⟩
  | .hbm, ⟨46, _⟩ => ⟨S8x16384x16384, .f32⟩
  | .hbm, ⟨47, _⟩ => ⟨S8x16384x16384, .f32⟩
  | .hbm, ⟨48, _⟩ => ⟨S_, .i32⟩
  | .hbm, ⟨49, _⟩ => ⟨S16384x16384, .i32⟩
  | .hbm, ⟨50, _⟩ => ⟨S16384x16384, .i1⟩
  | .hbm, ⟨51, _⟩ => ⟨S_, .i32⟩
  | .hbm, ⟨52, _⟩ => ⟨S16384x16384, .i32⟩
  | .hbm, ⟨53, _⟩ => ⟨S16384x16384, .i1⟩
  | .hbm, ⟨54, _⟩ => ⟨S16384x16384, .i1⟩
  | .hbm, ⟨55, _⟩ => ⟨S_, .f32⟩
  | .hbm, ⟨56, _⟩ => ⟨S_, .f32⟩
  | .hbm, ⟨57, _⟩ => ⟨S8x16384x16384, .i1⟩
  | .hbm, ⟨58, _⟩ => ⟨S8x16384x16384, .f32⟩
  | .hbm, ⟨59, _⟩ => ⟨S8x16384x16384, .f32⟩
  | .hbm, ⟨60, _⟩ => ⟨S_, .f32⟩
  | .hbm, ⟨61, _⟩ => ⟨S8x16384, .f32⟩
  | .hbm, ⟨62, _⟩ => ⟨S_, .f32⟩
  | .hbm, ⟨63, _⟩ => ⟨S8x16384, .f32⟩
  | .hbm, ⟨64, _⟩ => ⟨S8x16384, .f32⟩
  | .hbm, ⟨65, _⟩ => ⟨S8x16384x1, .f32⟩
  | .hbm, ⟨66, _⟩ => ⟨S8x16384x16384, .f32⟩
  | .hbm, ⟨67, _⟩ => ⟨S8x16384x16384, .f32⟩
  | .hbm, ⟨68, _⟩ => ⟨S8x16384x16384, .f32⟩
  | .hbm, ⟨69, _⟩ => ⟨S_, .f32⟩
  | .hbm, ⟨70, _⟩ => ⟨S8x16384, .f32⟩
  | .hbm, ⟨71, _⟩ => ⟨S8x16384x1, .f32⟩
  | .hbm, ⟨72, _⟩ => ⟨S8x16384x16384, .f32⟩
  | .hbm, ⟨73, _⟩ => ⟨S8x16384x16384, .f32⟩
  | .hbm, ⟨74, _⟩ => ⟨S16384x8x64, .f32⟩
  | .hbm, ⟨75, _⟩ => ⟨S8x64x16384, .f32⟩
  | .hbm, ⟨76, _⟩ => ⟨S16384x8x64, .f32⟩
  | .hbm, ⟨77, _⟩ => ⟨S16384x512, .f32⟩
  | .hbm, ⟨78, _⟩ => ⟨S16384x512, .bf16⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S16384x4096 : Shape := ⟨2, ![16384, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 17
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S16384x1024, .bf16⟩
  | .hbm, ⟨9, _⟩ => ⟨S16384x4096, .f32⟩
  | .hbm, ⟨10, _⟩ => ⟨S16384x1024, .f32⟩
  | .hbm, ⟨11, _⟩ => ⟨S1x1024, .f32⟩
  | .hbm, ⟨12, _⟩ => ⟨S16384x1024, .bf16⟩
  | .hbm, ⟨13, _⟩ => ⟨S16384x4096, .bf16⟩
  | .hbm, ⟨14, _⟩ => ⟨S16384x4096, .bf16⟩
  | .hbm, ⟨15, _⟩ => ⟨S16384x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S512x1024, .bf16⟩
  | .local _ .vmem, ⟨6, _⟩ => ⟨S512x1024, .bf16⟩
  | .local _ .vmem, ⟨7, _⟩ => ⟨S512x4096, .f32⟩
  | .local _ .vmem, ⟨8, _⟩ => ⟨S512x4096, .f32⟩
  | .local _ .vmem, ⟨9, _⟩ => ⟨S512x1024, .f32⟩
  | .local _ .vmem, ⟨10, _⟩ => ⟨S512x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x4096, .f32⟩
  | .local _ .vmem, ⟨16, _⟩ => ⟨S256x4096, .f32⟩
  | .local _ .vmem, ⟨17, _⟩ => ⟨S1x1024, .f32⟩
  | .local _ .vmem, ⟨18, _⟩ => ⟨S1024x4096, .bf16⟩
  | .local _ .vmem, ⟨19, _⟩ => ⟨S4096x1024, .bf16⟩
  | .local _ .vmem, ⟨20, _⟩ => ⟨S256x1024, .bf16⟩
  | .local _ .vmem, ⟨21, _⟩ => ⟨S256x1024, .bf16⟩
  | .local _ .vmem, ⟨22, _⟩ => ⟨S256x4096, .bf16⟩
  | .local _ .vmem, ⟨23, _⟩ => ⟨S256x4096, .bf16⟩
  | .local _ .vmem, ⟨24, _⟩ => ⟨S256x4096, .bf16⟩
  | .local _ .vmem, ⟨25, _⟩ => ⟨S256x4096, .bf16⟩
  | .local _ .vmem, ⟨26, _⟩ => ⟨S256x1024, .f32⟩
  | .local _ .vmem, ⟨27, _⟩ => ⟨S256x1024, .f32⟩
  | .local _ .vmem, ⟨28, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x4096 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== FfnRefIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384x4096 : Shape := ⟨2, ![16384, 4096]⟩
abbrev S16384 : Shape := ⟨1, ![16384]⟩
abbrev S16384x1 : Shape := ⟨2, ![16384, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384x4096, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .i1⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S_, .f32⟩
  | .hbm, ⟨39, _⟩ => ⟨S16384x4096, .f32⟩
  | .hbm, ⟨40, _⟩ => ⟨S16384x4096, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x4096, .bf16⟩
  | .hbm, ⟨77, _⟩ => ⟨S16384x4096, .bf16⟩
  | .hbm, ⟨78, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x5136 : Shape := ⟨2, ![1024, 5136]⟩
abbrev S16384x5136 : Shape := ⟨2, ![16384, 5136]⟩
abbrev S5136x1024 : Shape := ⟨2, ![5136, 1024]⟩
abbrev S1x1024 : Shape := ⟨2, ![1, 1024]⟩
abbrev S16384x1536 : Shape := ⟨2, ![16384, 1536]⟩
abbrev S16384x16 : Shape := ⟨2, ![16384, 16]⟩
abbrev S512x1024 : Shape := ⟨2, ![512, 1024]⟩
abbrev S512x1536 : Shape := ⟨2, ![512, 1536]⟩
abbrev S512x16 : Shape := ⟨2, ![512, 16]⟩
abbrev S512 : Shape := ⟨1, ![512]⟩
abbrev S512x1 : Shape := ⟨2, ![512, 1]⟩
abbrev S1024x1024 : Shape := ⟨2, ![1024, 1024]⟩
abbrev S1536x1024 : Shape := ⟨2, ![1536, 1024]⟩
abbrev S16x1024 : Shape := ⟨2, ![16, 1024]⟩
abbrev S16384x1552 : Shape := ⟨2, ![16384, 1552]⟩
abbrev S16384x512 : Shape := ⟨2, ![16384, 512]⟩
abbrev S512x1552 : Shape := ⟨2, ![512, 1552]⟩
abbrev S512x512 : Shape := ⟨2, ![512, 512]⟩
abbrev S1552x1024 : Shape := ⟨2, ![1552, 1024]⟩

abbrev nBuf : Space → Nat
  | .hbm => 28
  | .vmem => 37
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5136, .f32⟩
  | .hbm, ⟨3, _⟩ => ⟨S16384x1024, .f32⟩
  | .hbm, ⟨4, _⟩ => ⟨S16384x1024, .f32⟩
  | .hbm, ⟨5, _⟩ => ⟨S16384x5136, .f32⟩
  | .hbm, ⟨6, _⟩ => ⟨S1024x5136, .bf16⟩
  | .hbm, ⟨7, _⟩ => ⟨S5136x1024, .bf16⟩
  | .hbm, ⟨8, _⟩ => ⟨S1x1024, .f32⟩
  | .hbm, ⟨9, _⟩ => ⟨S16384x1024, .bf16⟩
  | .hbm, ⟨10, _⟩ => ⟨S16384x1024, .f32⟩
  | .hbm, ⟨11, _⟩ => ⟨S16384x1536, .f32⟩
  | .hbm, ⟨12, _⟩ => ⟨S16384x16, .f32⟩
  | .hbm, ⟨13, _⟩ => ⟨S16384x1536, .f32⟩
  | .hbm, ⟨14, _⟩ => ⟨S16384x1024, .f32⟩
  | .hbm, ⟨15, _⟩ => ⟨S16384x1024, .f32⟩
  | .hbm, ⟨16, _⟩ => ⟨S16384x1024, .bf16⟩
  | .hbm, ⟨17, _⟩ => ⟨S16384x1552, .f32⟩
  | .hbm, ⟨18, _⟩ => ⟨S16384x1552, .bf16⟩
  | .hbm, ⟨19, _⟩ => ⟨S16384x512, .f32⟩
  | .hbm, ⟨20, _⟩ => ⟨S16384x512, .bf16⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S16384x1024, .bf16⟩
  | .hbm, ⟨25, _⟩ => ⟨S1x1024, .f32⟩
  | .hbm, ⟨26, _⟩ => ⟨S16384x1024, .f32⟩
  | .hbm, ⟨27, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5136x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1536, .f32⟩
  | .local _ .vmem, ⟨9, _⟩ => ⟨S512x1536, .f32⟩
  | .local _ .vmem, ⟨10, _⟩ => ⟨S512x16, .f32⟩
  | .local _ .vmem, ⟨11, _⟩ => ⟨S512x16, .f32⟩
  | .local _ .vmem, ⟨12, _⟩ => ⟨S512x1536, .f32⟩
  | .local _ .vmem, ⟨13, _⟩ => ⟨S512x1536, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1552, .bf16⟩
  | .local _ .vmem, ⟨25, _⟩ => ⟨S512x1552, .bf16⟩
  | .local _ .vmem, ⟨26, _⟩ => ⟨S512x512, .bf16⟩
  | .local _ .vmem, ⟨27, _⟩ => ⟨S512x512, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S1x1024, .f32⟩
  | .local _ .vmem, ⟨33, _⟩ => ⟨S5136x1024, .bf16⟩
  | .local _ .vmem, ⟨34, _⟩ => ⟨S512x1024, .f32⟩
  | .local _ .vmem, ⟨35, _⟩ => ⟨S512x1024, .f32⟩
  | .local _ .vmem, ⟨36, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem9_0 : DmaSem sig := 33
abbrev cc1_sem10_0 : DmaSem sig := 34
abbrev cc1_sem10_1 : DmaSem sig := 35
abbrev cc1_sem11_0 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5136x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1552 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S5136x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== InprojRefIdeal.lean ====
abbrev S16384x1024 : Shape := ⟨2, ![16384, 1024]⟩
abbrev S1024 : Shape := ⟨1, ![1024]⟩
abbrev S1024x5136 : Shape := ⟨2, ![1024, 5136]⟩
abbrev S16384x5136 : Shape := ⟨2, ![16384, 5136]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩
abbrev S16384x16 : Shape := ⟨2, ![16384, 16]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5136, .f32⟩
  | .hbm, ⟨3, _⟩ => ⟨S16384x1024, .f32⟩
  | .hbm, ⟨4, _⟩ => ⟨S16384x1024, .f32⟩
  | .hbm, ⟨5, _⟩ => ⟨S16384x5136, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x5136, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .bf16⟩
  | .hbm, ⟨56, _⟩ => ⟨S16384x1024, .f32⟩
  | .hbm, ⟨57, _⟩ => ⟨S16384x1536, .f32⟩
  | .hbm, ⟨58, _⟩ => ⟨S16384x16, .f32⟩
  | .hbm, ⟨59, _⟩ => ⟨S16384x1536, .f32⟩
  | .hbm, ⟨60, _⟩ => ⟨S16384x1024, .f32⟩
  | .hbm, ⟨61, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Merge.lean ====
abbrev S16384x1024 : Shape := ⟨2, ![16384, 1024]⟩
abbrev S4x16384x512 : Shape := ⟨3, ![4, 16384, 512]⟩
abbrev S4x1024x1024 : Shape := ⟨3, ![4, 1024, 1024]⟩
abbrev S4x1024 : Shape := ⟨2, ![4, 1024]⟩
abbrev S4x512x1024 : Shape := ⟨3, ![4, 512, 1024]⟩
abbrev S1024x1024 : Shape := ⟨2, ![1024, 1024]⟩
abbrev S1x16384x512 : Shape := ⟨3, ![1, 16384, 512]⟩
abbrev S16384x512 : Shape := ⟨2, ![16384, 512]⟩
abbrev S16384x4096 : Shape := ⟨2, ![16384, 4096]⟩
abbrev S512x1024 : Shape := ⟨2, ![512, 1024]⟩
abbrev S512x512 : Shape := ⟨2, ![512, 512]⟩
abbrev S512x4096 : Shape := ⟨2, ![512, 4096]⟩
abbrev S1x1024x1024 : Shape := ⟨3, ![1, 1024, 1024]⟩
abbrev S1x1024 : Shape := ⟨2, ![1, 1024]⟩
abbrev S1x512x1024 : Shape := ⟨3, ![1, 512, 1024]⟩
abbrev S1x4096 : Shape := ⟨2, ![1, 4096]⟩
abbrev S256x1024 : Shape := ⟨2, ![256, 1024]⟩
abbrev S256x4096 : Shape := ⟨2, ![256, 4096]⟩
abbrev S256x512 : Shape := ⟨2, ![256, 512]⟩
abbrev S1024 : Shape := ⟨1, ![1024]⟩

abbrev nBuf : Space → Nat
  | .hbm => 38
  | .vmem => 50
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x512, .f32⟩
  | .hbm, ⟨3, _⟩ => ⟨S4x1024x1024, .f32⟩
  | .hbm, ⟨4, _⟩ => ⟨S4x1024, .f32⟩
  | .hbm, ⟨5, _⟩ => ⟨S4x512x1024, .f32⟩
  | .hbm, ⟨6, _⟩ => ⟨S1024x1024, .f32⟩
  | .hbm, ⟨7, _⟩ => ⟨S16384x1024, .f32⟩
  | .hbm, ⟨8, _⟩ => ⟨S4x1024x1024, .bf16⟩
  | .hbm, ⟨9, _⟩ => ⟨S4x512x1024, .bf16⟩
  | .hbm, ⟨10, _⟩ => ⟨S1024x1024, .bf16⟩
  | .hbm, ⟨11, _⟩ => ⟨S1x16384x512, .f32⟩
  | .hbm, ⟨12, _⟩ => ⟨S16384x512, .f32⟩
  | .hbm, ⟨13, _⟩ => ⟨S16384x512, .bf16⟩
  | .hbm, ⟨14, _⟩ => ⟨S1x16384x512, .f32⟩
  | .hbm, ⟨15, _⟩ => ⟨S16384x512, .f32⟩
  | .hbm, ⟨16, _⟩ => ⟨S16384x512, .bf16⟩
  | .hbm, ⟨17, _⟩ => ⟨S1x16384x512, .f32⟩
  | .hbm, ⟨18, _⟩ => ⟨S16384x512, .f32⟩
  | .hbm, ⟨19, _⟩ => ⟨S16384x512, .bf16⟩
  | .hbm, ⟨20, _⟩ => ⟨S1x16384x512, .f32⟩
  | .hbm, ⟨21, _⟩ => ⟨S16384x512, .f32⟩
  | .hbm, ⟨22, _⟩ => ⟨S16384x512, .bf16⟩
  | .hbm, ⟨23, _⟩ => ⟨S16384x1024, .bf16⟩
  | .hbm, ⟨24, _⟩ => ⟨S16384x4096, .bf16⟩
  | .hbm, ⟨25, _⟩ => ⟨S16384x4096, .bf16⟩
  | .hbm, ⟨26, _⟩ => ⟨S16384x1024, .bf16⟩
  | .hbm, ⟨27, _⟩ => ⟨S16384x1024, .f32⟩
  | .hbm, ⟨28, _⟩ => ⟨S16384x1024, .bf16⟩
  | .hbm, ⟨29, _⟩ => ⟨S16384x4096, .bf16⟩
  | .hbm, ⟨30, _⟩ => ⟨S16384x4096, .bf16⟩
  | .hbm, ⟨31, _⟩ => ⟨S16384x1024, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S1x4096, .f32⟩
  | .hbm, ⟨37, _⟩ => ⟨S4x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S4x1024x1024, .bf16⟩
  | .local _ .vmem, ⟨13, _⟩ => ⟨S4x1024, .f32⟩
  | .local _ .vmem, ⟨14, _⟩ => ⟨S4x512x1024, .bf16⟩
  | .local _ .vmem, ⟨15, _⟩ => ⟨S1024x1024, .bf16⟩
  | .local _ .vmem, ⟨16, _⟩ => ⟨S512x4096, .bf16⟩
  | .local _ .vmem, ⟨17, _⟩ => ⟨S512x4096, .bf16⟩
  | .local _ .vmem, ⟨18, _⟩ => ⟨S512x4096, .bf16⟩
  | .local _ .vmem, ⟨19, _⟩ => ⟨S512x4096, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S256x1024, .f32⟩
  | .local _ .vmem, ⟨25, _⟩ => ⟨S256x1024, .f32⟩
  | .local _ .vmem, ⟨26, _⟩ => ⟨S256x4096, .bf16⟩
  | .local _ .vmem, ⟨27, _⟩ => ⟨S256x4096, .bf16⟩
  | .local _ .vmem, ⟨28, _⟩ => ⟨S256x4096, .bf16⟩
  | .local _ .vmem, ⟨29, _⟩ => ⟨S256x4096, .bf16⟩
  | .local _ .vmem, ⟨30, _⟩ => ⟨S4x1024x1024, .bf16⟩
  | .local _ .vmem, ⟨31, _⟩ => ⟨S4x512x1024, .bf16⟩
  | .local _ .vmem, ⟨32, _⟩ => ⟨S1024x1024, .bf16⟩
  | .local _ .vmem, ⟨33, _⟩ => ⟨S256x1024, .bf16⟩
  | .local _ .vmem, ⟨34, _⟩ => ⟨S256x1024, .bf16⟩
  | .local _ .vmem, ⟨35, _⟩ => ⟨S256x4096, .bf16⟩
  | .local _ .vmem, ⟨36, _⟩ => ⟨S256x4096, .bf16⟩
  | .local _ .vmem, ⟨37, _⟩ => ⟨S256x4096, .bf16⟩
  | .local _ .vmem, ⟨38, _⟩ => ⟨S256x4096, .bf16⟩
  | .local _ .vmem, ⟨39, _⟩ => ⟨S256x1024, .f32⟩
  | .local _ .vmem, ⟨40, _⟩ => ⟨S256x1024, .f32⟩
  | .local _ .vmem, ⟨41, _⟩ => ⟨S256x512, .f32⟩
  | .local _ .vmem, ⟨42, _⟩ => ⟨S256x512, .f32⟩
  | .local _ .vmem, ⟨43, _⟩ => ⟨S256x512, .f32⟩
  | .local _ .vmem, ⟨44, _⟩ => ⟨S256x512, .f32⟩
  | .local _ .vmem, ⟨45, _⟩ => ⟨S256x512, .f32⟩
  | .local _ .vmem, ⟨46, _⟩ => ⟨S256x512, .f32⟩
  | .local _ .vmem, ⟨47, _⟩ => ⟨S256x512, .f32⟩
  | .local _ .vmem, ⟨48, _⟩ => ⟨S256x512, .f32⟩
  | .local _ .vmem, ⟨49, _⟩ => ⟨S1x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_v17_5 : Ref sig .tc := ⟨.hbm, 33, rfl⟩
abbrev main_v17_6 : Ref sig .tc := ⟨.hbm, 34, rfl⟩
abbrev main_v17_7 : Ref sig .tc := ⟨.hbm, 35, rfl⟩
abbrev main_v17_8 : Ref sig .tc := ⟨.hbm, 36, rfl⟩
abbrev main_v18 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg6_1 : Ref sig .tc := ⟨.vmem, 34, rfl⟩
abbrev cc1_stg7_0 : Ref sig .tc := ⟨.vmem, 35, rfl⟩
abbrev cc1_stg7_1 : Ref sig .tc := ⟨.vmem, 36, rfl⟩
abbrev cc1_stg8_0 : Ref sig .tc := ⟨.vmem, 37, rfl⟩
abbrev cc1_stg8_1 : Ref sig .tc := ⟨.vmem, 38, rfl⟩
abbrev cc1_stg9_0 : Ref sig .tc := ⟨.vmem, 39, rfl⟩
abbrev cc1_stg9_1 : Ref sig .tc := ⟨.vmem, 40, rfl⟩
abbrev cc1_stg10_0 : Ref sig .tc := ⟨.vmem, 41, rfl⟩
abbrev cc1_stg10_1 : Ref sig .tc := ⟨.vmem, 42, rfl⟩
abbrev cc1_stg11_0 : Ref sig .tc := ⟨.vmem, 43, rfl⟩
abbrev cc1_stg11_1 : Ref sig .tc := ⟨.vmem, 44, rfl⟩
abbrev cc1_stg12_0 : Ref sig .tc := ⟨.vmem, 45, rfl⟩
abbrev cc1_stg12_1 : Ref sig .tc := ⟨.vmem, 46, rfl⟩
abbrev cc1_stg13_0 : Ref sig .tc := ⟨.vmem, 47, rfl⟩
abbrev cc1_stg13_1 : Ref sig .tc := ⟨.vmem, 48, rfl⟩
abbrev cc1_stg14_0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem4_0 : DmaSem sig := 31
abbrev cc1_sem5_0 : DmaSem sig := 32
abbrev cc1_sem6_0 : DmaSem sig := 33
abbrev cc1_sem6_1 : DmaSem sig := 34
abbrev cc1_sem7_0 : DmaSem sig := 35
abbrev cc1_sem7_1 : DmaSem sig := 36
abbrev cc1_sem8_0 : DmaSem sig := 37
abbrev cc1_sem8_1 : DmaSem sig := 38
abbrev cc1_sem9_0 : DmaSem sig := 39
abbrev cc1_sem9_1 : DmaSem sig := 40
abbrev cc1_sem10_0 : DmaSem sig := 41
abbrev cc1_sem10_1 : DmaSem sig := 42
abbrev cc1_sem11_0 : DmaSem sig := 43
abbrev cc1_sem11_1 : DmaSem sig := 44
abbrev cc1_sem12_0 : DmaSem sig := 45
abbrev cc1_sem12_1 : DmaSem sig := 46
abbrev cc1_sem13_0 : DmaSem sig := 47
abbrev cc1_sem13_1 : DmaSem sig := 48
abbrev cc1_sem14_0 : DmaSem sig := 49

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x512x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x4096 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S1x4096 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]
-- ==== MergeRefIdeal.lean ====
abbrev S16384x1024 : Shape := ⟨2, ![16384, 1024]⟩
abbrev S4x16384x512 : Shape := ⟨3, ![4, 16384, 512]⟩
abbrev S4x1024x1024 : Shape := ⟨3, ![4, 1024, 1024]⟩
abbrev S4x1024 : Shape := ⟨2, ![4, 1024]⟩
abbrev S4x512x1024 : Shape := ⟨3, ![4, 512, 1024]⟩
abbrev S1024x1024 : Shape := ⟨2, ![1024, 1024]⟩
abbrev S_ : Shape := ⟨0, ![]⟩
abbrev S4x16384x1024 : Shape := ⟨3, ![4, 16384, 1024]⟩
abbrev S4x1x1024 : Shape := ⟨3, ![4, 1, 1024]⟩
abbrev S16384x4x1024 : Shape := ⟨3, ![16384, 4, 1024]⟩
abbrev S16384x4096 : Shape := ⟨2, ![16384, 4096]⟩
abbrev S1x16384x512 : Shape := ⟨3, ![1, 16384, 512]⟩
abbrev S16384x512 : Shape := ⟨2, ![16384, 512]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x512, .f32⟩
  | .hbm, ⟨3, _⟩ => ⟨S4x1024x1024, .f32⟩
  | .hbm, ⟨4, _⟩ => ⟨S4x1024, .f32⟩
  | .hbm, ⟨5, _⟩ => ⟨S4x512x1024, .f32⟩
  | .hbm, ⟨6, _⟩ => ⟨S1024x1024, .f32⟩
  | .hbm, ⟨7, _⟩ => ⟨S16384x1024, .f32⟩
  | .hbm, ⟨8, _⟩ => ⟨S_, .f32⟩
  | .hbm, ⟨9, _⟩ => ⟨S4x16384x1024, .f32⟩
  | .hbm, ⟨10, _⟩ => ⟨S4x16384x1024, .f32⟩
  | .hbm, ⟨11, _⟩ => ⟨S4x16384x1024, .f32⟩
  | .hbm, ⟨12, _⟩ => ⟨S4x1x1024, .f32⟩
  | .hbm, ⟨13, _⟩ => ⟨S4x16384x1024, .f32⟩
  | .hbm, ⟨14, _⟩ => ⟨S4x16384x1024, .f32⟩
  | .hbm, ⟨15, _⟩ => ⟨S4x16384x1024, .f32⟩
  | .hbm, ⟨16, _⟩ => ⟨S4x16384x1024, .f32⟩
  | .hbm, ⟨17, _⟩ => ⟨S4x16384x1024, .f32⟩
  | .hbm, ⟨18, _⟩ => ⟨S_, .f32⟩
  | .hbm, ⟨19, _⟩ => ⟨S4x16384x1024, .f32⟩
  | .hbm, ⟨20, _⟩ => ⟨S4x16384x1024, .f32⟩
  | .hbm, ⟨21, _⟩ => ⟨S_, .f32⟩
  | .hbm, ⟨22, _⟩ => ⟨S4x16384x1024, .f32⟩
  | .hbm, ⟨23, _⟩ => ⟨S4x16384x1024, .f32⟩
  | .hbm, ⟨24, _⟩ => ⟨S_, .f32⟩
  | .hbm, ⟨25, _⟩ => ⟨S4x16384x1024, .f32⟩
  | .hbm, ⟨26, _⟩ => ⟨S4x16384x1024, .f32⟩
  | .hbm, ⟨27, _⟩ => ⟨S4x16384x1024, .f32⟩
  | .hbm, ⟨28, _⟩ => ⟨S4x16384x1024, .f32⟩
  | .hbm, ⟨29, _⟩ => ⟨S4x16384x1024, .f32⟩
  | .hbm, ⟨30, _⟩ => ⟨S4x16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S4x16384x1024, .f32⟩
  | .hbm, ⟨37, _⟩ => ⟨S4x16384x1024, .f32⟩
  | .hbm, ⟨38, _⟩ => ⟨S4x16384x1024, .f32⟩
  | .hbm, ⟨39, _⟩ => ⟨S4x16384x512, .f32⟩
  | .hbm, ⟨40, _⟩ => ⟨S4x16384x1024, .f32⟩
  | .hbm, ⟨41, _⟩ => ⟨S_, .f32⟩
  | .hbm, ⟨42, _⟩ => ⟨S4x1024, .f32⟩
  | .hbm, ⟨43, _⟩ => ⟨S4x1x1024, .f32⟩
  | .hbm, ⟨44, _⟩ => ⟨S_, .f32⟩
  | .hbm, ⟨45, _⟩ => ⟨S4x1024, .f32⟩
  | .hbm, ⟨46, _⟩ => ⟨S4x16384x1024, .f32⟩
  | .hbm, ⟨47, _⟩ => ⟨S_, .f32⟩
  | .hbm, ⟨48, _⟩ => ⟨S16384x1024, .f32⟩
  | .hbm, ⟨49, _⟩ => ⟨S16384x1024, .bf16⟩
  | .hbm, ⟨50, _⟩ => ⟨S16384x4x1024, .f32⟩
  | .hbm, ⟨51, _⟩ => ⟨S16384x4096, .f32⟩
  | .hbm, ⟨52, _⟩ => ⟨S16384x4096, .bf16⟩
  | .hbm, ⟨53, _⟩ => ⟨S16384x4x1024, .f32⟩
  | .hbm, ⟨54, _⟩ => ⟨S16384x4096, .f32⟩
  | .hbm, ⟨55, _⟩ => ⟨S16384x4096, .bf16⟩
  | .hbm, ⟨56, _⟩ => ⟨S1x16384x512, .f32⟩
  | .hbm, ⟨57, _⟩ => ⟨S16384x512, .f32⟩
  | .hbm, ⟨58, _⟩ => ⟨S1x16384x512, .f32⟩
  | .hbm, ⟨59, _⟩ => ⟨S16384x512, .f32⟩
  | .hbm, ⟨60, _⟩ => ⟨S1x16384x512, .f32⟩
  | .hbm, ⟨61, _⟩ => ⟨S16384x512, .f32⟩
  | .hbm, ⟨62, _⟩ => ⟨S1x16384x512, .f32⟩
  | .hbm, ⟨63, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Proof.Reals.lean ====
module
public import Idealize.ShloMosaic.Lib.Pipeline.ValueKit
public import Idealize.ShloMosaic.Lib.ReduceAll
public import Idealize.ShloMosaic.Lib.Affine

/-! Arithmetic on the extended reals at finite values: sums, quotients, reciprocal roots and sigmoids of real numbers are
    real numbers, the literals of the programs are the rationals they spell, and a test `all (abs x < inf)` that holds
    says that every element is a real number. -/

@[expose] public section

noncomputable section

namespace Cert.Reals

open Idealize.ShloMosaic

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((√x)⁻¹ : ℝ) : EReal) := by
  rw [Ideal.rsqrt_coe, if_neg h.le.not_gt, if_neg h.ne']

/-- The sigmoid of a real number, as both programs spell it. -/
def sig (x : ℝ) : ℝ := 1 / (1 + Real.exp (-x))

/-- The sigmoid of any extended real is a real number. -/
theorem exists_sig (x : EReal) : ∃ r : ℝ, Ideal.div 1 (1 + Ideal.exp (-x)) = (r : EReal) := by
  induction x using EReal.rec with
  | bot => exact ⟨0, by rw [EReal.neg_bot, Ideal.exp_top, show (1 : EReal) + ⊤ = ⊤ from rfl]; simp [Ideal.div]⟩
  | top => exact ⟨1, by simp [Ideal.div]⟩
  | coe x =>
    have h : (1 + Real.exp (-x)) ≠ 0 := by positivity
    refine ⟨1 / (1 + Real.exp (-x)), ?_⟩
    rw [← EReal.coe_neg, Ideal.exp_coe, ← EReal.coe_one, ← EReal.coe_add, div_real _ h]

/-- The constant added to a mean of squares. -/
def eps : ℝ := (Ideal.ofBits .f32 897988541#32 : EReal).toReal

theorem eps_eq : (Ideal.ofBits .f32 897988541#32 : EReal) = ((8796093 / 2 ^ 43 : ℝ) : EReal) := by
  simp [Ideal.ofBits, Ideal.ieee, -EReal.coe_mul]; norm_num

theorem lit_eps : (Ideal.ofBits .f32 897988541#32 : EReal) = (eps : EReal) := by
  unfold eps; rw [eps_eq, EReal.toReal_coe]

theorem eps_pos : 0 < eps := by
  unfold eps; rw [eps_eq, EReal.toReal_coe]; positivity

theorem lit_1024 : (Ideal.ofBits .f32 1149239296#32 : EReal) = ((1024 : ℝ) : EReal) := by
  simp [Ideal.ofBits, Ideal.ieee, -EReal.coe_mul]; norm_num

theorem lit_neg_half : (Ideal.ofBits .f32 3204448256#32 : EReal) = ((-1 / 2 : ℝ) : EReal) := by
  simp [Ideal.ofBits, Ideal.ieee, -EReal.coe_mul]; norm_num

/-- A sum that starts at the literal zero. -/
theorem lit_zero_add (x : EReal) : (FloatOps.ofBits (F := Ideal) .f32 0x00000000#32 : EReal) + x = x := by
  have : (FloatOps.ofBits (F := Ideal) .f32 0x00000000#32 : EReal) = 0 := by
    simp [FloatOps.ofBits, Ideal.ofBits, Ideal.ieee]
  rw [this, zero_add]

theorem lit_inf : (Ideal.ofBits .f32 2139095040#32 : EReal) = ⊤ := by
  simp [Ideal.ofBits, Ideal.ieee]

/-- A mean of squares plus the constant is positive. -/
theorem ms_pos {n : ℕ} (f : Fin n → ℝ) : 0 < (∑ x, f x * f x) / 1024 + eps :=
  add_pos_of_nonneg_of_pos (div_nonneg (Finset.sum_nonneg fun x _ => mul_self_nonneg _) (by norm_num)) eps_pos

/-- The reciprocal root mean square of a row of 1024. -/
def rs {n : ℕ} (f : Fin n → ℝ) : ℝ := (√((∑ x, f x * f x) / 1024 + eps))⁻¹

theorem rsqrt_ms {n : ℕ} (f : Fin n → ℝ) :
    Ideal.rsqrt ((((∑ x, f x * f x) / 1024 + eps : ℝ)) : EReal) = ((rs f : ℝ) : EReal) := rsqrt_real (ms_pos f)

theorem rs_sq {n : ℕ} (f : Fin n → ℝ) : rs f / ((∑ x, f x * f x) / 1024 + eps) = rs f * (rs f * rs f) := by
  have h := ms_pos f
  unfold rs
  rw [← mul_inv, Real.mul_self_sqrt h.le, div_eq_mul_inv]

/-- The gradient of a row `f · rs f` of 1024, at the cotangent `u`. -/
def rmsBack {n : ℕ} (f u : Fin n → ℝ) (k : Fin n) : ℝ :=
  rs f * (u k - f k * rs f * ((∑ x, u x * (f x * rs f)) / 1024))

/-- The same gradient, through the mean of squares. -/
theorem rmsBack_eq {n : ℕ} (f u : Fin n → ℝ) (k : Fin n) :
    rmsBack f u k = u k * rs f + (f k * ((∑ x, f x * u x) * (-1 / 2 * (rs f * (rs f * rs f))) / 1024)
      + ((∑ x, f x * u x) * (-1 / 2 * (rs f * (rs f * rs f))) / 1024) * f k) := by
  have h : ∑ x, u x * (f x * rs f) = (∑ x, f x * u x) * rs f := by
    rw [Finset.sum_mul]; exact Finset.sum_congr rfl fun x _ => by ring
  unfold rmsBack; rw [h]; ring

/-- An extended real whose absolute value is below infinity is a real number. -/
theorem coe_of_abs_lt {x : EReal} (h : max x (-x) < ⊤) : x = ((x.toReal : ℝ) : EReal) := by
  induction x using EReal.rec with
  | bot => simp at h
  | top => simp at h
  | coe x => simp

/-- Where the test `all (abs x < inf)` holds, every element of the array is a real number. -/
theorem real_of_all {s t u : Shape} {axes : List (Fin s.rank)} [Subsingleton t.Idx] (x y : FVec Ideal s .f32)
    (hy : ∀ i, y i = (⊤ : EReal)) (v : IVec u 1) (h : s.ReducesTo axes t) (hu : 0 < u.numel) (j : t.Idx)
    (e : Host.reduce IntOp.andi (cmpf .olt (Host.absf x) y) v h hu j = 1#1) :
    x = fun i => ((EReal.toReal (x i) : ℝ) : EReal) := by
  funext i
  have := Host.reduce_andi_all _ v h hu j e i
  have h2 : max (x i : EReal) (-(x i : EReal)) < ⊤ := by
    have h1 : Ideal.cmp .olt (max (x i : EReal) (-(x i : EReal))) (y i) = 1#1 := this
    rw [hy i] at h1
    by_contra hn
    simp [Ideal.cmp, hn] at h1
  exact coe_of_abs_lt h2

theorem and_one {a b : BitVec 1} (h : IntOp.andi a b = 1#1) : a = 1#1 ∧ b = 1#1 := by
  revert a b; decide

/-- A load of a whole two-axis block is the block. -/
theorem ld_all {Val : EltTy → Type} {e : EltTy} {n k : ℕ} (inb)
    (X : (⟨2, ![n, k]⟩ : Shape).Idx → Val e) :
    View.ld X (Rect.unit (s := ⟨2, ![n, k]⟩) ![0, 0] (⟨2, ![n, k]⟩ : Shape).size inb) = X :=
  View.ld_unit_zero (funext fun a => by fin_cases a <;> rfl) inb X

/-- An element of a block of a matrix against the matrix's element at the block's place. -/
theorem at_place {n k : ℕ} (S : Fin n → Fin k → EReal) {x : EReal} {r r' : Fin n} {l l' : Fin k} (h : x = S r l)
    (hr : r.val = r'.val) (hl : l.val = l'.val) : x = S r' l' := by
  rw [h, Fin.ext hr, Fin.ext hl]

/-- Row `r` of block `t`, of blocks of 512 rows. -/
def row (t : Fin 32) (r : Fin 512) : Fin 16384 := ⟨t.val * 512 + r.val, by omega⟩

theorem one_row {k : ℕ} (j : (⟨2, ![1, k]⟩ : Shape).Idx) : ∃ l : Fin k, j = ix2 (0 : Fin 1) l :=
  ⟨j 1, (eq_ix2 j).trans (congrArg (fun a : Fin 1 => ix2 a (j 1)) (Subsingleton.elim _ _))⟩

/-- A sum over blocks of rows is the sum over the rows. -/
theorem sum_rows {N n k : ℕ} (rw : Fin n → Fin k → Fin N) (hN : N = n * k)
    (hrow : ∀ t r, (rw t r).val = t.val * k + r.val) (f : Fin N → ℝ) : ∑ t, ∑ r, f (rw t r) = ∑ i, f i := by
  subst hN
  rw [← Fintype.sum_prod_type']
  refine Fintype.sum_equiv finProdFinEquiv _ _ fun p => congrArg f (Fin.ext ?_)
  rw [hrow]; simp [finProdFinEquiv]; ring

end Cert.Reals
-- ==== Proof.Ple.Spec.lean ====
module
public import proofs.«01_k».proof.Proof.Reals

/-! The gated embedding layer and its gradients over the reals: `h + sigmoid (norm h · g · W + b) · (p · w)`. -/

@[expose] public section

noncomputable section

namespace Cert.PleSpec

open Idealize.ShloMosaic Cert.Reals

variable (H : Fin 16384 → Fin 1024 → ℝ) (P : Fin 16384 → Fin 256 → ℝ) (g : Fin 1024 → ℝ)
  (W : Fin 1024 → Fin 1024 → ℝ) (b : Fin 1024 → EReal) (E : Fin 256 → Fin 1024 → ℝ) (D : Fin 16384 → Fin 1024 → ℝ)

/-- The normalised row times the norm's weight. -/
def hn (r : Fin 16384) (l : Fin 1024) : ℝ := H r l * rs (H r) * g l
/-- The gate; the bias may be any extended real. -/
def gate (r : Fin 16384) (l : Fin 1024) : ℝ :=
  (Ideal.div 1 (1 + Ideal.exp (-(((∑ x, hn H g r x * W x l : ℝ) : EReal) + b l)))).toReal
/-- The projected embedding. -/
def pe (r : Fin 16384) (l : Fin 1024) : ℝ := ∑ q, P r q * E q l
def out (r : Fin 16384) (l : Fin 1024) : ℝ := H r l + gate H g W b r l * pe P E r l
/-- The gradient at the gate's argument. -/
def dgp (r : Fin 16384) (l : Fin 1024) : ℝ :=
  D r l * pe P E r l * (gate H g W b r l * (1 - gate H g W b r l))
/-- The gradient at the projected embedding. -/
def dpe (r : Fin 16384) (l : Fin 1024) : ℝ := D r l * gate H g W b r l
/-- The gradient at the norm's result. -/
def dn (r : Fin 16384) (k : Fin 1024) : ℝ := ∑ l, dgp H P g W b E D r l * W k l
def dh (r : Fin 16384) (k : Fin 1024) : ℝ :=
  D r k + rmsBack (H r) (fun l => dn H P g W b E D r l * g l) k
def db (l : Fin 1024) : ℝ := ∑ r, dgp H P g W b E D r l
def dg (l : Fin 1024) : ℝ := ∑ r, dn H P g W b E D r l * (H r l * rs (H r))

theorem gate_coe (r : Fin 16384) (l : Fin 1024) :
    Ideal.div 1 (1 + Ideal.exp (-(((∑ x, hn H g r x * W x l : ℝ) : EReal) + b l))) = (gate H g W b r l : EReal) := by
  obtain ⟨s, hs⟩ := exists_sig (((∑ x, hn H g r x * W x l : ℝ) : EReal) + b l)
  unfold gate; rw [hs, EReal.toReal_coe]

end Cert.PleSpec
-- ==== Proof.Ple.Blocks.lean ====
module
public import proofs.«01_k».proof.Proof.Gen.PleIdeal.Frame
public import proofs.«01_k».proof.Proof.Ple.Spec

/-! What one grid point of the two calls computes from its blocks, at finite blocks. -/

@[expose] public section

set_option maxRecDepth 16384

noncomputable section

namespace Cert.PleIdeal

open Idealize.ShloMosaic Idealize.ShloMosaic.TcCoe Idealize.ShloMosaic.Tactic Cert.Reals
open Gen

variable {H : Fin 16384 → Fin 1024 → ℝ} {P : Fin 16384 → Fin 256 → ℝ} {g : Fin 1024 → ℝ}
  {W : Fin 1024 → Fin 1024 → ℝ} {b : Fin 1024 → EReal} {E : Fin 256 → Fin 1024 → ℝ} {D : Fin 16384 → Fin 1024 → ℝ}
  {row : Fin 512 → Fin 16384}
  {h d pg : Vec Ideal S512x1024 .f32} {p : Vec Ideal S512x256 .f32} {pb : Vec Ideal S512x256 .bf16} {g1 b1 : Vec Ideal S1x1024 .f32}
  {w : Vec Ideal S1024x1024 .bf16} {e : Vec Ideal S256x1024 .bf16}
  (hh : ∀ r l, h (ix2 r l) = (H (row r) l : EReal)) (hd : ∀ r l, d (ix2 r l) = (D (row r) l : EReal))
  (hp : ∀ r l, p (ix2 r l) = (P (row r) l : EReal)) (hpb : ∀ r l, pb (ix2 r l) = (P (row r) l : EReal))
  (hg : ∀ l, g1 (ix2 0 l) = (g l : EReal)) (hb : ∀ l, b1 (ix2 0 l) = b l)
  (hw : ∀ r l, w (ix2 r l) = (W r l : EReal)) (he : ∀ r l, e (ix2 r l) = (E r l : EReal))
  (hpg : ∀ r l, pg (ix2 r l) = (PleSpec.gate H g W b (row r) l : EReal))

include hh hg hw hb in
theorem gate_block (r : Fin 512) (l : Fin 1024) :
    k0_pay4 (F := Ideal) h g1 w b1 (ix2 r l) = (PleSpec.gate H g W b (row r) l : EReal) := by
  pointwise [k0_pay4, k0_pay2]
  simp only [hh, hg, hw, hb, ← EReal.coe_mul, coe_sum, lit_1024, lit_eps, div_real _ (show (1024 : ℝ) ≠ 0 by norm_num),
    ← EReal.coe_add, rsqrt_ms, zero_sub]
  exact PleSpec.gate_coe H g W b (row r) l

include hp he in
theorem pe_block (r : Fin 512) (l : Fin 1024) :
    k0_pay5 (F := Ideal) p e (ix2 r l) = (PleSpec.pe P E (row r) l : EReal) := by
  pointwise [k0_pay5, k0_pay3]
  simp only [hp, he, ← EReal.coe_mul, coe_sum]
  rfl

include hd hpb he hpg in
theorem dgp_block (r : Fin 512) (l : Fin 1024) :
    k1_pay9 (F := Ideal) d pg pb e (ix2 r l) = (PleSpec.dgp H P g W b E D (row r) l : EReal) := by
  pointwise [k1_pay9, k1_pay8]
  simp only [hd, hpb, he, hpg, ← EReal.coe_mul, coe_sum, ← EReal.coe_one, ← EReal.coe_sub]
  rfl

include hd hpg in
theorem dpe_block (r : Fin 512) (l : Fin 1024) :
    k1_pay11 (F := Ideal) d pg (ix2 r l) = (PleSpec.dpe H g W b D (row r) l : EReal) := by
  pointwise [k1_pay11, k1_pay8]
  simp only [hd, hpg, ← EReal.coe_mul]
  rfl

include hd hpb he hpg hw in
theorem dn_block (r : Fin 512) (l : Fin 1024) :
    k1_pay12 (F := Ideal) d pg pb e w (ix2 r l) = (PleSpec.dn H P g W b E D (row r) l : EReal) := by
  have := dgp_block hd hpb he hpg
  pointwise [k1_pay12, k1_pay10]
  simp only [this, hw, ← EReal.coe_mul, coe_sum]
  rfl

include hh hd hpb he hpg hw hg in
theorem dh_block (r : Fin 512) (l : Fin 1024) :
    k1_pay3 (F := Ideal) d h (k1_pay12 d pg pb e w) (k1_pay13 g1) (k1_pay14 h) k1_pay15 (ix2 r l)
      = (PleSpec.dh H P g W b E D (row r) l : EReal) := by
  have := dn_block hd hpb hw he hpg
  pointwise [k1_pay3, k1_pay2, k1_pay1, k1_pay13, k1_pay14, k1_pay15]
  simp only [this, hh, hg, hd, ← EReal.coe_mul, coe_sum, lit_1024, lit_eps, div_real _ (show (1024 : ℝ) ≠ 0 by norm_num),
    ← EReal.coe_add, rsqrt_ms, ← EReal.coe_sub]
  rfl

include hd hpb he hpg in
theorem db_block (o : Vec Ideal S1x1024 .f32) (l : Fin 1024) :
    k1_pay4 (F := Ideal) (k1_pay9 d pg pb e) o (ix2 0 l)
      = o (ix2 0 l) + ((∑ r, PleSpec.dgp H P g W b E D (row r) l : ℝ) : EReal) := by
  have := dgp_block hd hpb he hpg
  pointwise [k1_pay4]
  simp only [this, coe_sum]

include hh hd hpb he hpg hw in
theorem dg_block (o : Vec Ideal S1x1024 .f32) (l : Fin 1024) :
    k1_pay5 (F := Ideal) h (k1_pay12 d pg pb e w) (k1_pay14 h) k1_pay15 o (ix2 0 l)
      = o (ix2 0 l) + ((∑ r, PleSpec.dn H P g W b E D (row r) l * (H (row r) l * rs (H (row r))) : ℝ) : EReal) := by
  have := dn_block hd hpb hw he hpg
  pointwise [k1_pay5, k1_pay2, k1_pay1, k1_pay14, k1_pay15]
  simp only [this, hh, ← EReal.coe_mul, coe_sum, lit_1024, lit_eps, div_real _ (show (1024 : ℝ) ≠ 0 by norm_num),
    ← EReal.coe_add, rsqrt_ms]

end Cert.PleIdeal
-- ==== Proof.Ple.Arrays.lean ====
module
public import proofs.«01_k».proof.Proof.Ple.Blocks

/-! The arrays that the two calls leave, from the arrays they are entered with. -/

@[expose] public section

set_option maxRecDepth 16384

noncomputable section

namespace Cert.PleIdeal

open Idealize.ShloMosaic Idealize.ShloMosaic.TcCoe Idealize.ShloMosaic.Tactic Cert.Reals
open Gen

variable {H : Fin 16384 → Fin 1024 → ℝ} {P : Fin 16384 → Fin 256 → ℝ} {g : Fin 1024 → ℝ}
  {W : Fin 1024 → Fin 1024 → ℝ} {b : Fin 1024 → EReal} {E : Fin 256 → Fin 1024 → ℝ} {D : Fin 16384 → Fin 1024 → ℝ}
  (V : (c : Dev nD) → (b : Ref sig .tc) → Buf (Elt Ideal) ((c : Thread nD τ).loc b)) (c : Dev nD)

section Forward

variable (hh : ∀ r l, V c main_arg0 (ix2 r l) = (H r l : EReal)) (hp : ∀ r l, V c main_arg1 (ix2 r l) = (P r l : EReal))
  (hg : ∀ l, V c main_v2 (ix2 0 l) = (g l : EReal)) (hb : ∀ l, V c main_v3 (ix2 0 l) = b l)
  (hw : ∀ r l, V c main_v0 (ix2 r l) = (W r l : EReal)) (he : ∀ r l, V c main_v1 (ix2 r l) = (E r l : EReal))

include hh in
theorem blk0_0 (t : Fin cfg0.N) (r : Fin 512) (l : Fin 1024) : iblk0 V c 0 t (ix2 r l) = (H (row t r) l : EReal) := by
  obtain ⟨e0, e1⟩ := (by decide +kernel : ∀ t : Fin cfg0.N, win0_0.index t 0 = t.val ∧ win0_0.index t 1 = 0) t
  rw [← hh]; blk_ext [iblk0, e0, e1, row]
include hp in
theorem blk0_1 (t : Fin cfg0.N) (r : Fin 512) (l : Fin 256) : iblk0 V c 1 t (ix2 r l) = (P (row t r) l : EReal) := by
  obtain ⟨e0, e1⟩ := (by decide +kernel : ∀ t : Fin cfg0.N, win0_1.index t 0 = t.val ∧ win0_1.index t 1 = 0) t
  rw [← hp]; blk_ext [iblk0, e0, e1, row]
include hg in
theorem blk0_2 (t : Fin cfg0.N) (l : Fin 1024) : iblk0 V c 2 t (ix2 0 l) = (g l : EReal) := by
  obtain ⟨e0, e1⟩ := (by decide +kernel : ∀ t : Fin cfg0.N, win0_2.index t 0 = 0 ∧ win0_2.index t 1 = 0) t
  rw [← hg]; blk_ext [iblk0, e0, e1]
include hw in
theorem blk0_3 (t : Fin cfg0.N) (r : Fin 1024) (l : Fin 1024) : iblk0 V c 3 t (ix2 r l) = (W r l : EReal) := by
  obtain ⟨e0, e1⟩ := (by decide +kernel : ∀ t : Fin cfg0.N, win0_3.index t 0 = 0 ∧ win0_3.index t 1 = 0) t
  rw [← hw]; blk_ext [iblk0, e0, e1]
include hb in
theorem blk0_4 (t : Fin cfg0.N) (l : Fin 1024) : iblk0 V c 4 t (ix2 0 l) = b l := by
  obtain ⟨e0, e1⟩ := (by decide +kernel : ∀ t : Fin cfg0.N, win0_4.index t 0 = 0 ∧ win0_4.index t 1 = 0) t
  rw [← hb]; blk_ext [iblk0, e0, e1]
include he in
theorem blk0_5 (t : Fin cfg0.N) (r : Fin 256) (l : Fin 1024) : iblk0 V c 5 t (ix2 r l) = (E r l : EReal) := by
  obtain ⟨e0, e1⟩ := (by decide +kernel : ∀ t : Fin cfg0.N, win0_5.index t 0 = 0 ∧ win0_5.index t 1 = 0) t
  rw [← he]; blk_ext [iblk0, e0, e1]

include hh hg hb hw in
theorem arr_gate : (dat0 (F := Ideal) V c).arrAt 8 cfg0.N = fun i => (PleSpec.gate H g W b (i 0) (i 1) : EReal) := by
  refine (dat0 V c).arrAt_eq_of_covers 8 _ (by decide +kernel) fun t hf y => ?_
  obtain ⟨e0, e1⟩ := (by decide +kernel : ∀ t : Fin cfg0.N, win0_8.index t 0 = t.val ∧ win0_8.index t 1 = 0) t
  obtain ⟨r, l, rfl⟩ : ∃ (r : Fin 512) (l : Fin 1024), y = ix2 r l := ⟨y 0, y 1, eq_ix2 y⟩
  refine at_place (fun r l => (PleSpec.gate H g W b r l : EReal)) (r := row t r) (l := l) ?_ ?_ ?_
  · blk_simp; rw [after0_8]; frame_out
    unfold k0_pay6; simp only [ld_all]
    exact gate_block (blk0_0 V c hh t) (blk0_2 V c hg t) (blk0_4 V c hb t) (blk0_3 V c hw t) r l
  · blk_simp [e0, e1, row]
  · blk_simp [e0, e1, row]

include hp in
theorem arr_pb : (dat0 (F := Ideal) V c).arrAt 7 cfg0.N = fun i => (P (i 0) (i 1) : EReal) := by
  refine (dat0 V c).arrAt_eq_of_covers 7 _ (by decide +kernel) fun t hf y => ?_
  obtain ⟨e0, e1⟩ := (by decide +kernel : ∀ t : Fin cfg0.N, win0_7.index t 0 = t.val ∧ win0_7.index t 1 = 0) t
  obtain ⟨r, l, rfl⟩ : ∃ (r : Fin 512) (l : Fin 256), y = ix2 r l := ⟨y 0, y 1, eq_ix2 y⟩
  refine at_place (fun r l => (P r l : EReal)) (r := row t r) (l := l) ?_ ?_ ?_
  · blk_simp; rw [after0_7]; frame_out
    pointwise [k0_pay3]
    exact blk0_1 V c hp t r l
  · blk_simp [e0, e1, row]
  · blk_simp [e0, e1, row]

include hh hp hg hb hw he in
theorem arr_out : (dat0 (F := Ideal) V c).arrAt 9 cfg0.N = fun i => (PleSpec.out H P g W b E (i 0) (i 1) : EReal) := by
  refine (dat0 V c).arrAt_eq_of_covers 9 _ (by decide +kernel) fun t hf y => ?_
  obtain ⟨e0, e1⟩ := (by decide +kernel : ∀ t : Fin cfg0.N, win0_9.index t 0 = t.val ∧ win0_9.index t 1 = 0) t
  obtain ⟨r, l, rfl⟩ : ∃ (r : Fin 512) (l : Fin 1024), y = ix2 r l := ⟨y 0, y 1, eq_ix2 y⟩
  refine at_place (fun r l => (PleSpec.out H P g W b E r l : EReal)) (r := row t r) (l := l) ?_ ?_ ?_
  · blk_simp; rw [after0_9]; frame_out
    unfold k0_pay6; simp only [ld_all]
    have hgate := gate_block (blk0_0 V c hh t) (blk0_2 V c hg t) (blk0_4 V c hb t) (blk0_3 V c hw t) r l
    have hpe := pe_block (blk0_1 V c hp t) (blk0_5 V c he t) r l
    pointwise [k0_pay1]
    simp only [hgate, hpe, blk0_0 V c hh t, ← EReal.coe_mul, ← EReal.coe_add]
    rfl
  · blk_simp [e0, e1, row]
  · blk_simp [e0, e1, row]

end Forward

section Backward

variable (hd : ∀ r l, V c main_arg6 (ix2 r l) = (D r l : EReal)) (hh : ∀ r l, V c main_arg0 (ix2 r l) = (H r l : EReal))
  (hpg : ∀ r l, V c main_v4_2 (ix2 r l) = (PleSpec.gate H g W b r l : EReal))
  (hpb : ∀ r l, V c main_v4_1 (ix2 r l) = (P r l : EReal)) (hg : ∀ l, V c main_v5 (ix2 0 l) = (g l : EReal))
  (hw : ∀ r l, V c main_v0 (ix2 r l) = (W r l : EReal)) (he : ∀ r l, V c main_v1 (ix2 r l) = (E r l : EReal))

include hd in
theorem blk1_0 (t : Fin cfg1.N) (r : Fin 512) (l : Fin 1024) : iblk1 V c 0 t (ix2 r l) = (D (row t r) l : EReal) := by
  obtain ⟨e0, e1⟩ := (by decide +kernel : ∀ t : Fin cfg1.N, win1_0.index t 0 = t.val ∧ win1_0.index t 1 = 0) t
  rw [← hd]; blk_ext [iblk1, e0, e1, row]
include hh in
theorem blk1_1 (t : Fin cfg1.N) (r : Fin 512) (l : Fin 1024) : iblk1 V c 1 t (ix2 r l) = (H (row t r) l : EReal) := by
  obtain ⟨e0, e1⟩ := (by decide +kernel : ∀ t : Fin cfg1.N, win1_1.index t 0 = t.val ∧ win1_1.index t 1 = 0) t
  rw [← hh]; blk_ext [iblk1, e0, e1, row]
include hpg in
theorem blk1_2 (t : Fin cfg1.N) (r : Fin 512) (l : Fin 1024) : iblk1 V c 2 t (ix2 r l) = (PleSpec.gate H g W b (row t r) l : EReal) := by
  obtain ⟨e0, e1⟩ := (by decide +kernel : ∀ t : Fin cfg1.N, win1_2.index t 0 = t.val ∧ win1_2.index t 1 = 0) t
  rw [← hpg]; blk_ext [iblk1, e0, e1, row]
include hpb in
theorem blk1_3 (t : Fin cfg1.N) (r : Fin 512) (l : Fin 256) : iblk1 V c 3 t (ix2 r l) = (P (row t r) l : EReal) := by
  obtain ⟨e0, e1⟩ := (by decide +kernel : ∀ t : Fin cfg1.N, win1_3.index t 0 = t.val ∧ win1_3.index t 1 = 0) t
  rw [← hpb]; blk_ext [iblk1, e0, e1, row]
include hg in
theorem blk1_4 (t : Fin cfg1.N) (l : Fin 1024) : iblk1 V c 4 t (ix2 0 l) = (g l : EReal) := by
  obtain ⟨e0, e1⟩ := (by decide +kernel : ∀ t : Fin cfg1.N, win1_4.index t 0 = 0 ∧ win1_4.index t 1 = 0) t
  rw [← hg]; blk_ext [iblk1, e0, e1]
include hw in
theorem blk1_5 (t : Fin cfg1.N) (r : Fin 1024) (l : Fin 1024) : iblk1 V c 5 t (ix2 r l) = (W r l : EReal) := by
  obtain ⟨e0, e1⟩ := (by decide +kernel : ∀ t : Fin cfg1.N, win1_5.index t 0 = 0 ∧ win1_5.index t 1 = 0) t
  rw [← hw]; blk_ext [iblk1, e0, e1]
include he in
theorem blk1_6 (t : Fin cfg1.N) (r : Fin 256) (l : Fin 1024) : iblk1 V c 6 t (ix2 r l) = (E r l : EReal) := by
  obtain ⟨e0, e1⟩ := (by decide +kernel : ∀ t : Fin cfg1.N, win1_6.index t 0 = 0 ∧ win1_6.index t 1 = 0) t
  rw [← he]; blk_ext [iblk1, e0, e1]

include hd hpg hpb he in
theorem arr_dgp : (dat1 (F := Ideal) V c).arrAt 7 cfg1.N = fun i => (PleSpec.dgp H P g W b E D (i 0) (i 1) : EReal) := by
  refine (dat1 V c).arrAt_eq_of_covers 7 _ (by decide +kernel) fun t hf y => ?_
  obtain ⟨e0, e1⟩ := (by decide +kernel : ∀ t : Fin cfg1.N, win1_7.index t 0 = t.val ∧ win1_7.index t 1 = 0) t
  obtain ⟨r, l, rfl⟩ : ∃ (r : Fin 512) (l : Fin 1024), y = ix2 r l := ⟨y 0, y 1, eq_ix2 y⟩
  refine at_place (fun r l => (PleSpec.dgp H P g W b E D r l : EReal)) (r := row t r) (l := l) ?_ ?_ ?_
  · have key := dgp_block (blk1_0 V c hd t) (blk1_3 V c hpb t) (blk1_6 V c he t) (blk1_2 V c hpg t) r l
    blk_simp; rw [after1_7]
    by_cases h : t.val % 32 = 0
    · rw [outsAt1_A V c t h]; frame_out; exact key
    · rw [outsAt1_B V c t h]; frame_out; exact key
  · blk_simp [e0, e1, row]
  · blk_simp [e0, e1, row]

include hd hpg in
theorem arr_dpe : (dat1 (F := Ideal) V c).arrAt 8 cfg1.N = fun i => (PleSpec.dpe H g W b D (i 0) (i 1) : EReal) := by
  refine (dat1 V c).arrAt_eq_of_covers 8 _ (by decide +kernel) fun t hf y => ?_
  obtain ⟨e0, e1⟩ := (by decide +kernel : ∀ t : Fin cfg1.N, win1_8.index t 0 = t.val ∧ win1_8.index t 1 = 0) t
  obtain ⟨r, l, rfl⟩ : ∃ (r : Fin 512) (l : Fin 1024), y = ix2 r l := ⟨y 0, y 1, eq_ix2 y⟩
  refine at_place (fun r l => (PleSpec.dpe H g W b D r l : EReal)) (r := row t r) (l := l) ?_ ?_ ?_
  · have key := dpe_block (blk1_0 V c hd t) (blk1_2 V c hpg t) r l
    blk_simp; rw [after1_8]
    by_cases h : t.val % 32 = 0
    · rw [outsAt1_A V c t h]; frame_out; exact key
    · rw [outsAt1_B V c t h]; frame_out; exact key
  · blk_simp [e0, e1, row]
  · blk_simp [e0, e1, row]

include hd hh hpg hpb hg hw he in
theorem arr_dh : (dat1 (F := Ideal) V c).arrAt 9 cfg1.N = fun i => (PleSpec.dh H P g W b E D (i 0) (i 1) : EReal) := by
  refine (dat1 V c).arrAt_eq_of_covers 9 _ (by decide +kernel) fun t hf y => ?_
  obtain ⟨e0, e1⟩ := (by decide +kernel : ∀ t : Fin cfg1.N, win1_9.index t 0 = t.val ∧ win1_9.index t 1 = 0) t
  obtain ⟨r, l, rfl⟩ : ∃ (r : Fin 512) (l : Fin 1024), y = ix2 r l := ⟨y 0, y 1, eq_ix2 y⟩
  refine at_place (fun r l => (PleSpec.dh H P g W b E D r l : EReal)) (r := row t r) (l := l) ?_ ?_ ?_
  · have key := dh_block (blk1_1 V c hh t) (blk1_0 V c hd t) (blk1_3 V c hpb t) (blk1_4 V c hg t) (blk1_5 V c hw t) (blk1_6 V c he t) (blk1_2 V c hpg t) r l
    blk_simp; rw [after1_9]
    by_cases h : t.val % 32 = 0
    · rw [outsAt1_A V c t h]; frame_out; exact key
    · rw [outsAt1_B V c t h]; frame_out; exact key
  · blk_simp [e0, e1, row]
  · blk_simp [e0, e1, row]

/-- The last grid point. -/
def last1 : Fin cfg1.N := ⟨31, by decide⟩

include hd hpg hpb he in
theorem arr_db : (dat1 (F := Ideal) V c).arrAt 10 cfg1.N = fun i => (PleSpec.db H P g W b E D (i 1) : EReal) := by
  refine (dat1 V c).arrAt_eq_of_after_last 10 last1 (by decide +kernel) _ fun j => ?_
  obtain ⟨l, rfl⟩ : ∃ l : Fin 1024, j = ix2 0 l := one_row j
  blk_simp; rw [after1_10]
  refine (Pipeline.eq_sum_fin_of_reset_step_apply_last (fun n h => (outsAt1 V c n h).2.2.2.1) 32 (fun _ => (0 : EReal))
    (fun t j => ((∑ r, PleSpec.dgp H P g W b E D (row t r) (j 1) : ℝ) : EReal)) (fun t h j => ?_) (fun t h j => ?_) (by decide) last1 rfl
    (ix2 0 l)).trans ?_
  · obtain ⟨l, rfl⟩ : ∃ l : Fin 1024, j = ix2 0 l := one_row j
    beta_reduce; rw [outsAt1_A V c t h]; frame_out
    refine (db_block (blk1_0 V c hd t) (blk1_3 V c hpb t) (blk1_6 V c he t) (blk1_2 V c hpg t) _ l).trans ?_
    pointwise [k1_pay6, k1_pay7]
  · obtain ⟨l, rfl⟩ : ∃ l : Fin 1024, j = ix2 0 l := one_row j
    beta_reduce; rw [outsAt1_B V c t h]; frame_out
    exact (db_block (blk1_0 V c hd t) (blk1_3 V c hpb t) (blk1_6 V c he t) (blk1_2 V c hpg t) _ l)
  · rw [coe_sum, zero_add]
    exact congrArg Real.toEReal (sum_rows row rfl (fun _ _ => rfl) (fun r => PleSpec.dgp H P g W b E D r l))

include hd hh hpg hpb hw he in
theorem arr_dg : (dat1 (F := Ideal) V c).arrAt 11 cfg1.N = fun i => (PleSpec.dg H P g W b E D (i 1) : EReal) := by
  refine (dat1 V c).arrAt_eq_of_after_last 11 last1 (by decide +kernel) _ fun j => ?_
  obtain ⟨l, rfl⟩ : ∃ l : Fin 1024, j = ix2 0 l := one_row j
  blk_simp; rw [after1_11]
  refine (Pipeline.eq_sum_fin_of_reset_step_apply_last (fun n h => (outsAt1 V c n h).2.2.2.2) 32 (fun _ => (0 : EReal))
    (fun t j => ((∑ r, PleSpec.dn H P g W b E D (row t r) (j 1) * (H (row t r) (j 1) * rs (H (row t r))) : ℝ) : EReal)) (fun t h j => ?_) (fun t h j => ?_) (by decide) last1 rfl
    (ix2 0 l)).trans ?_
  · obtain ⟨l, rfl⟩ : ∃ l : Fin 1024, j = ix2 0 l := one_row j
    beta_reduce; rw [outsAt1_A V c t h]; frame_out
    refine (dg_block (blk1_1 V c hh t) (blk1_0 V c hd t) (blk1_3 V c hpb t) (blk1_5 V c hw t) (blk1_6 V c he t) (blk1_2 V c hpg t) _ l).trans ?_
    pointwise [k1_pay6, k1_pay7]
  · obtain ⟨l, rfl⟩ : ∃ l : Fin 1024, j = ix2 0 l := one_row j
    beta_reduce; rw [outsAt1_B V c t h]; frame_out
    exact (dg_block (blk1_1 V c hh t) (blk1_0 V c hd t) (blk1_3 V c hpb t) (blk1_5 V c hw t) (blk1_6 V c he t) (blk1_2 V c hpg t) _ l)
  · rw [coe_sum, zero_add]
    exact congrArg Real.toEReal (sum_rows row rfl (fun _ _ => rfl)
      (fun r => PleSpec.dn H P g W b E D r l * (H r l * rs (H r))))

end Backward

end Cert.PleIdeal
-- ==== Proof.Ple.Run.lean ====
module
public import proofs.«01_k».proof.Proof.Ple.Arrays

/-! The run of the two calls: every array of the machine ends at the contents that the last region leaves, and the
    results among them are the real arrays of `Spec`. -/

@[expose] public section

set_option maxRecDepth 16384

noncomputable section

namespace Cert.PleIdeal

open Idealize.ShloMosaic Idealize.ShloMosaic.TcCoe Idealize.ShloMosaic.Tactic Cert.Reals
open Idealize.SL Idealize.SL.RA Idealize.SL.BI Idealize.SL.BI.BIBase Idealize.SL.BI.Laws Idealize.SL.ProofMode Idealize.SL.Sem
open scoped Idealize.SL.BI
open Idealize.ShloMosaic.Rounds
open Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unfolding definitions in a metavariable's type
set_option backward.isDefEq.respectTransparency.types false in
/-- Every buffer of the TensorCore ends at the contents after the last region. -/
theorem run_contents : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Run

section Values

variable (m : (ℓ : Loc nD τ sig) → Buf (Elt Ideal) ℓ) (ρ : Dev nD → PrngReg) (c : Dev nD)

variable {H : Fin 16384 → Fin 1024 → ℝ} {P : Fin 16384 → Fin 256 → ℝ} {g : Fin 1024 → ℝ}
  {W : Fin 1024 → Fin 1024 → ℝ} {b : Fin 1024 → EReal} {E : Fin 256 → Fin 1024 → ℝ} {D : Fin 16384 → Fin 1024 → ℝ}
  (hH : ∀ r l, m ((c : Thread nD τ).loc main_arg0) (ix2 r l) = (H r l : EReal))
  (hP : ∀ r l, m ((c : Thread nD τ).loc main_arg1) (ix2 r l) = (P r l : EReal))
  (hg : ∀ l, m ((c : Thread nD τ).loc main_arg2) (ix1 l) = (g l : EReal))
  (hW : ∀ r l, m ((c : Thread nD τ).loc main_arg3) (ix2 r l) = (W r l : EReal))
  (hb : ∀ l, m ((c : Thread nD τ).loc main_arg4) (ix1 l) = b l)
  (hE : ∀ r l, m ((c : Thread nD τ).loc main_arg5) (ix2 r l) = (E r l : EReal))
  (hD : ∀ r l, m ((c : Thread nD τ).loc main_arg6) (ix2 r l) = (D r l : EReal))

include hW in
theorem v1_w (r l : Fin 1024) : V1 m ρ c main_v0 (ix2 r l) = (W r l : EReal) := by
  rw [← hW, V1]; after_results_simp; rfl
include hE in
theorem v1_e (r : Fin 256) (l : Fin 1024) : V1 m ρ c main_v1 (ix2 r l) = (E r l : EReal) := by
  rw [← hE, V1]; after_results_simp; rfl
include hg in
theorem v1_g (l : Fin 1024) : V1 m ρ c main_v2 (ix2 0 l) = (g l : EReal) := by
  rw [← hg, V1]; after_results_simp; pointwise
include hb in
theorem v1_b (l : Fin 1024) : V1 m ρ c main_v3 (ix2 0 l) = b l := by
  rw [← hb, V1]; after_results_simp; pointwise
include hg in
theorem v3_g (l : Fin 1024) : V3 m ρ c main_v5 (ix2 0 l) = (g l : EReal) := by
  have : V3 m ρ c main_v5 (ix2 0 l) = W2 m ρ c (Proc.devRef .tc main_arg2) (ix1 l) := by
    rw [V3]; after_results_simp; pointwise
  rw [this, W2_args m ρ c main_arg2 (by decide), hg]
include hH in
theorem v1_h (r : Fin 16384) (l : Fin 1024) : V1 m ρ c main_arg0 (ix2 r l) = (H r l : EReal) := by
  rw [V1, W1_args m ρ c main_arg0 (by decide), hH]
include hP in
theorem v1_p (r : Fin 16384) (l : Fin 256) : V1 m ρ c main_arg1 (ix2 r l) = (P r l : EReal) := by
  rw [V1, W1_args m ρ c main_arg1 (by decide), hP]
include hH in
theorem v3_h (r : Fin 16384) (l : Fin 1024) : V3 m ρ c main_arg0 (ix2 r l) = (H r l : EReal) := by
  rw [V3, W3_args m ρ c main_arg0 (by decide), hH]
include hD in
theorem v3_d (r : Fin 16384) (l : Fin 1024) : V3 m ρ c main_arg6 (ix2 r l) = (D r l : EReal) := by
  rw [V3, W3_args m ρ c main_arg6 (by decide), hD]
include hW in
theorem v3_w (r l : Fin 1024) : V3 m ρ c main_v0 (ix2 r l) = (W r l : EReal) := by
  rw [show V3 m ρ c main_v0 = V1 m ρ c main_v0 from
    (W3_of m ρ c main_v0 (by decide)).trans (W2_of m ρ c main_v0 (by decide)), v1_w m ρ c hW]
include hE in
theorem v3_e (r : Fin 256) (l : Fin 1024) : V3 m ρ c main_v1 (ix2 r l) = (E r l : EReal) := by
  rw [show V3 m ρ c main_v1 = V1 m ρ c main_v1 from
    (W3_of m ρ c main_v1 (by decide)).trans (W2_of m ρ c main_v1 (by decide)), v1_e m ρ c hE]
include hP in
theorem v3_pb (r : Fin 16384) (l : Fin 256) : V3 m ρ c main_v4_1 (ix2 r l) = (P r l : EReal) := by
  rw [show V3 m ρ c main_v4_1 = (dat0 (V1 m ρ) c).arrAt 7 cfg0.N from
    (W3_of m ρ c main_v4_1 (by decide)).trans (W2_arr m ρ c 7), arr_pb (V1 m ρ) c (v1_p m ρ c hP)]; rfl
include hH hg hW hb in
theorem v3_pg (r : Fin 16384) (l : Fin 1024) : V3 m ρ c main_v4_2 (ix2 r l) = (PleSpec.gate H g W b r l : EReal) := by
  rw [show V3 m ρ c main_v4_2 = (dat0 (V1 m ρ) c).arrAt 8 cfg0.N from
    (W3_of m ρ c main_v4_2 (by decide)).trans (W2_arr m ρ c 8),
    arr_gate (V1 m ρ) c (v1_h m ρ c hH) (v1_g m ρ c hg) (v1_b m ρ c hb) (v1_w m ρ c hW)]; rfl

include hH hP hg hW hb hE in
theorem w4_out : W4 m ρ c main_v4_3 = fun i => (PleSpec.out H P g W b E (i 0) (i 1) : EReal) := by
  rw [show W4 m ρ c main_v4_3 = (dat0 (V1 m ρ) c).arrAt 9 cfg0.N from
    (W4_of m ρ c main_v4_3 (by decide)).trans ((W3_of m ρ c main_v4_3 (by decide)).trans (W2_arr m ρ c 9)),
    arr_out (V1 m ρ) c (v1_h m ρ c hH) (v1_p m ρ c hP) (v1_g m ρ c hg) (v1_b m ρ c hb) (v1_w m ρ c hW) (v1_e m ρ c hE)]
include hH hP hg hW hb hE hD in
theorem w4_dgp : W4 m ρ c main_v6_0 = fun i => (PleSpec.dgp H P g W b E D (i 0) (i 1) : EReal) :=
  (W4_arr m ρ c 7).trans (arr_dgp (V3 m ρ) c (v3_d m ρ c hD) (v3_pg m ρ c hH hg hW hb) (v3_pb m ρ c hP) (v3_e m ρ c hE))
include hH hg hW hb hD in
theorem w4_dpe : W4 m ρ c main_v6_1 = fun i => (PleSpec.dpe H g W b D (i 0) (i 1) : EReal) :=
  (W4_arr m ρ c 8).trans (arr_dpe (V3 m ρ) c (v3_d m ρ c hD) (v3_pg m ρ c hH hg hW hb))
include hH hP hg hW hb hE hD in
theorem w4_dh : W4 m ρ c main_v6_2 = fun i => (PleSpec.dh H P g W b E D (i 0) (i 1) : EReal) :=
  (W4_arr m ρ c 9).trans (arr_dh (V3 m ρ) c (v3_d m ρ c hD) (v3_h m ρ c hH) (v3_pg m ρ c hH hg hW hb) (v3_pb m ρ c hP)
    (v3_g m ρ c hg) (v3_w m ρ c hW) (v3_e m ρ c hE))
include hH hP hg hW hb hE hD in
theorem w4_db : W4 m ρ c main_v6_3 = fun i => (PleSpec.db H P g W b E D (i 1) : EReal) :=
  (W4_arr m ρ c 10).trans (arr_db (V3 m ρ) c (v3_d m ρ c hD) (v3_pg m ρ c hH hg hW hb) (v3_pb m ρ c hP) (v3_e m ρ c hE))
include hH hP hg hW hb hE hD in
theorem w4_dg : W4 m ρ c main_v6_4 = fun i => (PleSpec.dg H P g W b E D (i 1) : EReal) :=
  (W4_arr m ρ c 11).trans (arr_dg (V3 m ρ) c (v3_d m ρ c hD) (v3_h m ρ c hH) (v3_pg m ρ c hH hg hW hb) (v3_pb m ρ c hP)
    (v3_w m ρ c hW) (v3_e m ρ c hE))

end Values

end Cert.PleIdeal
-- ==== Proof.Ple.Ref.lean ====
module
public import proofs.«01_k».proof.Proof.Gen.PleRefIdeal.Run
public import proofs.«01_k».proof.Proof.Gen.PleRefIdeal.Read
public import proofs.«01_k».proof.Proof.Ple.Spec

/-! What the reference computes at finite arguments, value by value. -/

@[expose] public section

set_option maxRecDepth 16384

noncomputable section

namespace Cert.PleRefIdeal

open Idealize.ShloMosaic Idealize.ShloMosaic.TcCoe Idealize.ShloMosaic.Tactic Idealize.SL.Sem Cert.Reals
open Gen Read

variable {H : Fin 16384 → Fin 1024 → ℝ} {P : Fin 16384 → Fin 256 → ℝ} {g : Fin 1024 → ℝ}
  {W : Fin 1024 → Fin 1024 → ℝ} {b : Fin 1024 → EReal} {E : Fin 256 → Fin 1024 → ℝ} {D : Fin 16384 → Fin 1024 → ℝ}
  {x0 x6 : FVec Ideal S16384x1024 .f32} {x1 : FVec Ideal S16384x256 .f32} {x2 x4 : FVec Ideal S1024 .f32}
  {x3 : FVec Ideal S1024x1024 .f32} {x5 : FVec Ideal S256x1024 .f32}
  (hH : ∀ r l, x0 (ix2 r l) = (H r l : EReal)) (hP : ∀ r l, x1 (ix2 r l) = (P r l : EReal))
  (hg : ∀ l, x2 (ix1 l) = (g l : EReal)) (hW : ∀ r l, x3 (ix2 r l) = (W r l : EReal)) (hb : ∀ l, x4 (ix1 l) = b l)
  (hE : ∀ r l, x5 (ix2 r l) = (E r l : EReal)) (hD : ∀ r l, x6 (ix2 r l) = (D r l : EReal))

include hP hE in
theorem pe_ref (r : Fin 16384) (l : Fin 1024) : val_main_v0 (F := Ideal) x1 x5 (ix2 r l) = (PleSpec.pe P E r l : EReal) := by
  pointwise [val_main_v0]
  simp only [hP, hE, ← EReal.coe_mul, coe_sum]
  rfl

include hH in
theorem ms_ref (r : Fin 16384) :
    val_main_v8 (F := Ideal) x0 (ix2 r 0) = (((∑ x, H r x * H r x) / 1024 + eps : ℝ) : EReal) := by
  pointwise [val_main_v8, val_main_v7, val_main_v6, val_main_v5, val_main_v4, val_main_v3, val_main_v2, val_main_cst_0,
    val_main_cst_1, val_main_cst_2]
  simp only [hH, ← EReal.coe_mul, coe_sum, lit_1024, lit_eps, div_real _ (show (1024 : ℝ) ≠ 0 by norm_num),
    ← EReal.coe_add]

include hH in
theorem rs_ref (r : Fin 16384) : val_main_v9 (F := Ideal) x0 (ix2 r 0) = (rs (H r) : EReal) := by
  have := ms_ref hH r
  pointwise [val_main_v9]
  rw [this, rsqrt_ms]

include hH in
theorem drs_ref (r : Fin 16384) (k : Fin 1) :
    val_main_v12 (F := Ideal) x0 (ix2 r k) = ((-1 / 2 * (rs (H r) * (rs (H r) * rs (H r))) : ℝ) : EReal) := by
  have h8 := ms_ref hH r
  have h9 := rs_ref hH r
  obtain rfl := Subsingleton.elim k 0
  pointwise [val_main_v12, val_main_v11, val_main_v10, val_main_cst_3]
  rw [h8, h9, lit_neg_half, div_real _ (ms_pos (H r)).ne', rs_sq, ← EReal.coe_mul]

include hH hg hW hb in
theorem gate_ref (r : Fin 16384) (l : Fin 1024) :
    val_main_v28 (F := Ideal) x0 x2 x3 x4 (ix2 r l) = (PleSpec.gate H g W b r l : EReal) := by
  have h9 := rs_ref hH
  pointwise [val_main_v28, val_main_v27, val_main_v26, val_main_v25, val_main_v24, val_main_v23, val_main_v22,
    val_main_v21, val_main_v20, val_main_v19, val_main_v18, val_main_v17, val_main_v16, val_main_v15, val_main_v14,
    val_main_v13, val_main_v1, val_main_cst, val_main_cst_4, val_main_cst_5]
  simp only [hH, hg, hW, hb, h9, ← EReal.coe_mul, coe_sum]
  exact PleSpec.gate_coe H g W b r l

include hH hP hg hW hb hE in
theorem out_ref (r : Fin 16384) (l : Fin 1024) :
    val_main_v33 (F := Ideal) x0 x1 x2 x3 x4 x5 (ix2 r l) = (PleSpec.out H P g W b E r l : EReal) := by
  have h1 := gate_ref hH hg hW hb r l
  have h2 := pe_ref hP hE r l
  pointwise [val_main_v33, val_main_v32]
  rw [h1, h2, hH, ← EReal.coe_mul, ← EReal.coe_add]
  rfl

include hH hP hg hW hb hE hD in
theorem dgp_ref (r : Fin 16384) (l : Fin 1024) :
    val_main_v37 (F := Ideal) x0 x1 x2 x3 x4 x5 x6 (ix2 r l) = (PleSpec.dgp H P g W b E D r l : EReal) := by
  have h1 := gate_ref hH hg hW hb r l
  have h2 := pe_ref hP hE r l
  pointwise [val_main_v37, val_main_v36, val_main_v34, val_main_v31, val_main_v30, val_main_v29, val_main_cst_6]
  simp only [h1, h2, hD, ← EReal.coe_mul, ← EReal.coe_one, ← EReal.coe_sub]
  rfl

include hH hg hW hb hD in
theorem dpe_ref (r : Fin 16384) (l : Fin 1024) :
    val_main_v64 (F := Ideal) x0 x2 x3 x4 x6 (ix2 r l) = (PleSpec.dpe H g W b D r l : EReal) := by
  have h1 := gate_ref hH hg hW hb r l
  pointwise [val_main_v64, val_main_v35, val_main_v34]
  rw [h1, hD, ← EReal.coe_mul, mul_comm]
  rfl

include hH hP hg hW hb hE hD in
theorem dn_ref (r : Fin 16384) (l : Fin 1024) :
    val_main_v41 (F := Ideal) x0 x1 x2 x3 x4 x5 x6 (ix2 r l) = (PleSpec.dn H P g W b E D r l : EReal) := by
  have h1 := dgp_ref hH hP hg hW hb hE hD
  pointwise [val_main_v41]
  simp only [h1, hW, ← EReal.coe_mul, coe_sum]
  rfl

include hH hP hg hW hb hE hD in
theorem dh_ref (r : Fin 16384) (l : Fin 1024) :
    val_main_v62 (F := Ideal) x0 x1 x2 x3 x4 x5 x6 (ix2 r l) = (PleSpec.dh H P g W b E D r l : EReal) := by
  have h1 := dn_ref hH hP hg hW hb hE hD
  have h9 := rs_ref hH
  have h12 := drs_ref hH
  pointwise [val_main_v62, val_main_v61, val_main_v60, val_main_v59, val_main_v58, val_main_v57, val_main_v56,
    val_main_v55, val_main_v54, val_main_v53, val_main_v52, val_main_v51, val_main_v50, val_main_v49, val_main_v48,
    val_main_v46, val_main_v45, val_main_v15, val_main_cst_11, val_main_cst_12, val_main_cst_13]
  simp only [h1, h9, h12, hH, hg, hD, ← EReal.coe_mul, coe_sum, lit_1024, div_real _ (show (1024 : ℝ) ≠ 0 by norm_num),
    ← EReal.coe_add, Fin.sum_univ_one]
  refine congrArg Real.toEReal ?_
  unfold PleSpec.dh; rw [rmsBack_eq]; ring

include hH hP hg hW hb hE hD in
theorem db_sum (l : Fin 1024) :
    val_main_v38 (F := Ideal) x0 x1 x2 x3 x4 x5 x6 (ix1 l) = (PleSpec.db H P g W b E D l : EReal) := by
  have h1 := dgp_ref hH hP hg hW hb hE hD
  pointwise [val_main_v38, val_main_cst_7]
  simp only [h1, coe_sum]
  rfl

include hH hP hg hW hb hE hD in
theorem db_ref (l : Fin 1024) :
    val_main_v65 (F := Ideal) x0 x1 x2 x3 x4 x5 x6 (ix2 0 l) = (PleSpec.db H P g W b E D l : EReal) := by
  rw [val_main_v65_apply, val_main_v40_apply, Fin.sum_univ_one, val_main_v39_apply, val_main_cst_8_apply]
  refine (lit_zero_add _).trans (Eq.trans (congrArg _ ?_) (db_sum hH hP hg hW hb hE hD l))
  rw [eq_ix1 (idx_main_v39 _)]
  exact congrArg ix1 (Fin.ext (by simp))

include hH hP hg hW hb hE hD in
theorem dg_sum (l : Fin 1024) :
    val_main_v43 (F := Ideal) x0 x1 x2 x3 x4 x5 x6 (ix1 l) = (PleSpec.dg H P g W b E D l : EReal) := by
  have h1 := dn_ref hH hP hg hW hb hE hD
  have h9 := rs_ref hH
  pointwise [val_main_v43, val_main_v42, val_main_v14, val_main_v13, val_main_cst_9]
  simp only [h1, h9, hH, ← EReal.coe_mul, coe_sum]
  exact congrArg Real.toEReal (Finset.sum_congr rfl fun r _ => mul_comm _ _)

include hH hP hg hW hb hE hD in
theorem dg_ref (l : Fin 1024) :
    val_main_v66 (F := Ideal) x0 x1 x2 x3 x4 x5 x6 (ix2 0 l) = (PleSpec.dg H P g W b E D l : EReal) := by
  rw [val_main_v66_apply, val_main_v47_apply, Fin.sum_univ_one, val_main_v44_apply, val_main_cst_10_apply]
  refine (lit_zero_add _).trans (Eq.trans (congrArg _ ?_) (dg_sum hH hP hg hW hb hE hD l))
  rw [eq_ix1 (idx_main_v44 _)]
  exact congrArg ix1 (Fin.ext (by simp))

/-- A buffer of a device's TensorCore. -/
abbrev at_ (m : (ℓ : Loc nD τ sig) → Buf (Elt Ideal) ℓ) (c : Dev nD) (b : Ref sig .tc) : Buf (Elt Ideal) ((c.tc : Thread nD τ).loc b) :=
  m ((c.tc : Thread nD τ).loc b)

/-- The reference's run: its results are the named values, its arguments end unchanged and it has no semaphore. -/
theorem ref_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      at_ r.2.mem c main_v33 = val_main_v33 (F := Ideal) (at_ m c main_arg0) (at_ m c main_arg1) (at_ m c main_arg2) (at_ m c main_arg3) (at_ m c main_arg4) (at_ m c main_arg5)
      ∧ at_ r.2.mem c main_v63 = val_main_v63 (F := Ideal) (at_ m c main_arg0) (at_ m c main_arg1) (at_ m c main_arg2) (at_ m c main_arg3) (at_ m c main_arg4) (at_ m c main_arg5) (at_ m c main_arg6)
      ∧ at_ r.2.mem c main_v64 = val_main_v64 (F := Ideal) (at_ m c main_arg0) (at_ m c main_arg2) (at_ m c main_arg3) (at_ m c main_arg4) (at_ m c main_arg6)
      ∧ at_ r.2.mem c main_v62 = val_main_v62 (F := Ideal) (at_ m c main_arg0) (at_ m c main_arg1) (at_ m c main_arg2) (at_ m c main_arg3) (at_ m c main_arg4) (at_ m c main_arg5) (at_ m c main_arg6)
      ∧ at_ r.2.mem c main_v65 = val_main_v65 (F := Ideal) (at_ m c main_arg0) (at_ m c main_arg1) (at_ m c main_arg2) (at_ m c main_arg3) (at_ m c main_arg4) (at_ m c main_arg5) (at_ m c main_arg6)
      ∧ at_ r.2.mem c main_v66 = val_main_v66 (F := Ideal) (at_ m c main_arg0) (at_ m c main_arg1) (at_ m c main_arg2) (at_ m c main_arg3) (at_ m c main_arg4) (at_ m c main_arg5) (at_ m c main_arg6)
      ∧ at_ r.2.mem c main_arg0 = at_ m c main_arg0
      ∧ at_ r.2.mem c main_arg1 = at_ m c main_arg1
      ∧ at_ r.2.mem c main_arg2 = at_ m c main_arg2
      ∧ at_ r.2.mem c main_arg3 = at_ m c main_arg3
      ∧ at_ r.2.mem c main_arg4 = at_ m c main_arg4
      ∧ at_ r.2.mem c main_arg5 = at_ m c main_arg5
      ∧ at_ r.2.mem c main_arg6 = at_ m c main_arg6) ∧ r.2.sem = fun _ => 0 :=
  (θ_run _ _ _).mono (fun r h => And.intro (fun c => ⟨(h c).1.trans (val_main_v33_eq _ _ _ _ _ _),
      (h c).2.1.trans (val_main_v63_eq _ _ _ _ _ _ _),
      (h c).2.2.1.trans (val_main_v64_eq _ _ _ _ _),
      (h c).2.2.2.1.trans (val_main_v62_eq _ _),
      (h c).2.2.2.2.1.trans (val_main_v65_eq _ _ _ _ _ _ _),
      (h c).2.2.2.2.2.1.trans (val_main_v66_eq _ _ _ _ _ _ _),
      (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩)
    (sem_eq_zero_of_no_sems (by decide) r.2)) (Value.run m ρ)

end Cert.PleRefIdeal
-- ==== Proof.Ple.Claim.lean ====
module
public import proofs.«01_k».proof.Defs
public import proofs.«01_k».proof.Proof.Gen.Ple.Frame
public import proofs.«01_k».proof.Proof.Gen.Pre_finite_ple
public import proofs.«01_k».proof.Proof.Ple.Run
public import proofs.«01_k».proof.Proof.Ple.Ref

/-! The claims about the gated residual: the three frames, and that the two calls' results are the reference's at finite
    arguments. -/

@[expose] public section

set_option maxRecDepth 16384

noncomputable section

namespace Cert.PleClaim

open Idealize.ShloMosaic Idealize.ShloMosaic.TcCoe Idealize.ShloMosaic.Tactic Idealize.SL.Sem Cert.Reals

open Cert.Pre_finite_ple in
/-- Where the precondition holds the arguments it names are real numbers. -/
theorem finite_of_pre {x0 x6 : FVec Ideal S16384x1024 .f32} {x1 : FVec Ideal S16384x256 .f32} {x2 x4 : FVec Ideal S1024 .f32}
    {x3 : FVec Ideal S1024x1024 .f32} {x5 : FVec Ideal S256x1024 .f32} (h : fn x0 x1 x2 x3 x4 x5 x6 = fun _ => 1#1) :
    x0 = (fun i => ((EReal.toReal (x0 i) : ℝ) : EReal)) ∧ x1 = (fun i => ((EReal.toReal (x1 i) : ℝ) : EReal))
    ∧ x2 = (fun i => ((EReal.toReal (x2 i) : ℝ) : EReal)) ∧ x3 = (fun i => ((EReal.toReal (x3 i) : ℝ) : EReal))
    ∧ x5 = (fun i => ((EReal.toReal (x5 i) : ℝ) : EReal)) ∧ x6 = (fun i => ((EReal.toReal (x6 i) : ℝ) : EReal)) := by
  have : Subsingleton S_.Idx := ⟨fun _ _ => funext fun a => a.elim0⟩
  have h := congrFun h (fun a => a.elim0)
  dsimp only [fn, fn_part1] at h
  obtain ⟨h, h6⟩ := and_one h
  obtain ⟨h, h5⟩ := and_one h
  obtain ⟨h, h3⟩ := and_one h
  obtain ⟨h, h2⟩ := and_one h
  obtain ⟨h0, h1⟩ := and_one h
  exact ⟨real_of_all _ _ (fun _ => lit_inf) _ _ _ _ h0, real_of_all _ _ (fun _ => lit_inf) _ _ _ _ h1,
    real_of_all _ _ (fun _ => lit_inf) _ _ _ _ h2, real_of_all _ _ (fun _ => lit_inf) _ _ _ _ h3,
    real_of_all _ _ (fun _ => lit_inf) _ _ _ _ h5, real_of_all _ _ (fun _ => lit_inf) _ _ _ _ h6⟩

/-- The reference leaves its arguments as they were. -/
theorem frame_ref (m : (ℓ : Loc PleRefIdeal.nD PleRefIdeal.τ PleRefIdeal.sig) → Buf (Elt Ideal) ℓ)
    (ρ : Dev PleRefIdeal.nD → PrngReg) :
    θ_run (PleRefIdeal.defs (F := Ideal)) (onTc (τ := PleRefIdeal.τ) (PleRefIdeal.main (F := Ideal))) ⟨m, fun _ => 0, ρ⟩
      (fun r => (∀ c : Dev PleRefIdeal.nD,
        r.2.mem ((c.tc : Thread PleRefIdeal.nD PleRefIdeal.τ).loc PleRefIdeal.main_arg0) = m ((c.tc : Thread PleRefIdeal.nD PleRefIdeal.τ).loc PleRefIdeal.main_arg0)
        ∧ r.2.mem ((c.tc : Thread PleRefIdeal.nD PleRefIdeal.τ).loc PleRefIdeal.main_arg1) = m ((c.tc : Thread PleRefIdeal.nD PleRefIdeal.τ).loc PleRefIdeal.main_arg1)
        ∧ r.2.mem ((c.tc : Thread PleRefIdeal.nD PleRefIdeal.τ).loc PleRefIdeal.main_arg2) = m ((c.tc : Thread PleRefIdeal.nD PleRefIdeal.τ).loc PleRefIdeal.main_arg2)
        ∧ r.2.mem ((c.tc : Thread PleRefIdeal.nD PleRefIdeal.τ).loc PleRefIdeal.main_arg3) = m ((c.tc : Thread PleRefIdeal.nD PleRefIdeal.τ).loc PleRefIdeal.main_arg3)
        ∧ r.2.mem ((c.tc : Thread PleRefIdeal.nD PleRefIdeal.τ).loc PleRefIdeal.main_arg4) = m ((c.tc : Thread PleRefIdeal.nD PleRefIdeal.τ).loc PleRefIdeal.main_arg4)
        ∧ r.2.mem ((c.tc : Thread PleRefIdeal.nD PleRefIdeal.τ).loc PleRefIdeal.main_arg5) = m ((c.tc : Thread PleRefIdeal.nD PleRefIdeal.τ).loc PleRefIdeal.main_arg5)
        ∧ r.2.mem ((c.tc : Thread PleRefIdeal.nD PleRefIdeal.τ).loc PleRefIdeal.main_arg6) = m ((c.tc : Thread PleRefIdeal.nD PleRefIdeal.τ).loc PleRefIdeal.main_arg6)) ∧ r.2.sem = fun _ => 0) :=
  (θ_run _ _ _).mono (fun _ h => ⟨fun c => (h.1 c).2.2.2.2.2.2, h.2⟩) (PleRefIdeal.ref_run m ρ)

theorem algebraic : Cert.algebraic_PleIdeal_PleRefIdeal_pre_finite_ple := by
  intro m g m' g' hpre hargs
  refine ⟨fun c => PleIdeal.Gen.W4 m g c PleIdeal.main_v4_3, fun c => PleIdeal.Gen.W4 m g c PleIdeal.main_v6_0,
    fun c => PleIdeal.Gen.W4 m g c PleIdeal.main_v6_1, fun c => PleIdeal.Gen.W4 m g c PleIdeal.main_v6_2,
    fun c => PleIdeal.Gen.W4 m g c PleIdeal.main_v6_3, fun c => PleIdeal.Gen.W4 m g c PleIdeal.main_v6_4, ?_, ?_⟩
  · refine (θ_run _ _ _).mono (fun r h c => ?_) (PleIdeal.run_contents m g)
    have hm := fun b hb => h c (Proc.devRef .tc b) (PleIdeal.Gen.mem_uc b hb)
    exact ⟨hm _ (by decide), hm _ (by decide), hm _ (by decide), hm _ (by decide), hm _ (by decide), hm _ (by decide),
      (hm _ (by decide)).trans (PleIdeal.Gen.W4_main_arg0 m g c), (hm _ (by decide)).trans (PleIdeal.Gen.W4_main_arg1 m g c),
      (hm _ (by decide)).trans (PleIdeal.Gen.W4_main_arg2 m g c), (hm _ (by decide)).trans (PleIdeal.Gen.W4_main_arg3 m g c),
      (hm _ (by decide)).trans (PleIdeal.Gen.W4_main_arg4 m g c), (hm _ (by decide)).trans (PleIdeal.Gen.W4_main_arg5 m g c),
      (hm _ (by decide)).trans (PleIdeal.Gen.W4_main_arg6 m g c)⟩
  · refine (θ_run _ _ _).mono (fun r h c => ?_) (PleRefIdeal.ref_run m' g')
    obtain ⟨a0, a1, a2, a3, a4, a5, a6⟩ := hargs c
    obtain ⟨f0, f1, f2, f3, f5, f6⟩ := finite_of_pre (hpre c)
    have H0 := fun r l => congrFun f0 (ix2 r l)
    have H1 := fun r l => congrFun f1 (ix2 r l)
    have H2 := fun l => congrFun f2 (ix1 l)
    have H3 := fun r l => congrFun f3 (ix2 r l)
    have H4 : ∀ l, m ((c.tc : Thread PleIdeal.nD PleIdeal.τ).loc PleIdeal.main_arg4) (ix1 l) = _ := fun l => rfl
    have H5 := fun r l => congrFun f5 (ix2 r l)
    have H6 := fun r l => congrFun f6 (ix2 r l)
    obtain ⟨h1, h2, h3, h4, h5, h6, hrest⟩ := h.1 c
    refine ⟨h1.trans ?_,
      h2.trans ?_,
      h3.trans ?_,
      h4.trans ?_,
      h5.trans ?_,
      h6.trans ?_, hrest⟩
    · dsimp only [PleRefIdeal.at_]
      rw [a0, a1, a2, a3, a4, a5, PleIdeal.w4_out m g c H0 H1 H2 H3 H4 H5]
      funext i; rw [eq_ix2 i]
      exact PleRefIdeal.out_ref H0 H1 H2 H3 H4 H5 _ _
    · dsimp only [PleRefIdeal.at_]
      rw [a0, a1, a2, a3, a4, a5, a6, PleIdeal.w4_dgp m g c H0 H1 H2 H3 H4 H5 H6]
      funext i; rw [eq_ix2 i]
      exact PleRefIdeal.dgp_ref H0 H1 H2 H3 H4 H5 H6 _ _
    · dsimp only [PleRefIdeal.at_]
      rw [a0, a2, a3, a4, a6, PleIdeal.w4_dpe m g c H0 H2 H3 H4 H6]
      funext i; rw [eq_ix2 i]
      exact PleRefIdeal.dpe_ref H0 H2 H3 H4 H6 _ _
    · dsimp only [PleRefIdeal.at_]
      rw [a0, a1, a2, a3, a4, a5, a6, PleIdeal.w4_dh m g c H0 H1 H2 H3 H4 H5 H6]
      funext i; rw [eq_ix2 i]
      exact PleRefIdeal.dh_ref H0 H1 H2 H3 H4 H5 H6 _ _
    · dsimp only [PleRefIdeal.at_]
      rw [a0, a1, a2, a3, a4, a5, a6, PleIdeal.w4_db m g c H0 H1 H2 H3 H4 H5 H6]
      funext i; obtain ⟨l, rfl⟩ := one_row i
      exact PleRefIdeal.db_ref H0 H1 H2 H3 H4 H5 H6 _
    · dsimp only [PleRefIdeal.at_]
      rw [a0, a1, a2, a3, a4, a5, a6, PleIdeal.w4_dg m g c H0 H1 H2 H3 H4 H5 H6]
      funext i; obtain ⟨l, rfl⟩ := one_row i
      exact PleRefIdeal.dg_ref H0 H1 H2 H3 H4 H5 H6 _

end Cert.PleClaim
-- ==== Proof.Words.lean ====
module
public import proofs.«01_k».proof.Proof.Reals
public import Idealize.ShloMosaic.Lib.Affine

/-! Signed 32-bit words by the integers they spell. -/

@[expose] public section

namespace Cert.Reals

open Idealize.ShloMosaic

theorem isInt_iff {x : BitVec 32} {e : ℤ} : Affine.IsInt x e ↔ x.toInt = e := by
  unfold Affine.IsInt; exact Iff.rfl

theorem int_ofNat (n : ℕ) (h : n < 2 ^ 31) : (BitVec.ofNat 32 n).toInt = n := by
  have := (isInt_iff).1 (Affine.ofNat n ⟨rfl, h⟩); exact this

theorem int_sub (a b : BitVec 32) (h : -2 ^ 31 ≤ a.toInt - b.toInt ∧ a.toInt - b.toInt < 2 ^ 31) :
    (IntOp.subi a b).toInt = a.toInt - b.toInt :=
  (isInt_iff).1 (Affine.subi (isInt_iff.2 rfl) (isInt_iff.2 rfl) ⟨rfl, h⟩)

theorem int_add (a b : BitVec 32) (h : -2 ^ 31 ≤ a.toInt + b.toInt ∧ a.toInt + b.toInt < 2 ^ 31) :
    (IntOp.addi a b).toInt = a.toInt + b.toInt :=
  (isInt_iff).1 (Affine.addi (isInt_iff.2 rfl) (isInt_iff.2 rfl) ⟨rfl, h⟩)

theorem int_div (u : ArithUnit) (a : BitVec 32) (h : 0 ≤ a.toInt) : (IntOp.divsi u a 64#32).toInt = a.toInt / 64 := by
  have h64 : (64#32).toInt = 64 := by decide
  have := (isInt_iff).1 (Affine.divsi (a := a) (b := 64#32) (isInt_iff.2 rfl) (isInt_iff.2 rfl)
    ⟨rfl, h, by rw [h64]; norm_num⟩)
  rw [h64] at this
  rw [← this, Scalar.divsi, IntOp.divsi, IntOp.divsi]
  have hc : ¬ IntOp.SDivCorner a 64#32 := by
    rintro (h0 | ⟨-, h1⟩)
    · exact absurd h0 (by decide)
    · exact absurd h1 (by decide)
  rw [if_neg hc, if_neg hc]

theorem int_max (a b : BitVec 32) : (IntOp.maxsi a b).toInt = max a.toInt b.toInt := by
  unfold IntOp.maxsi
  split
  · next h => have := BitVec.slt_iff_toInt_lt.1 h; omega
  · next h => have := mt BitVec.slt_iff_toInt_lt.2 h; omega

theorem int_min (a b : BitVec 32) : (IntOp.minsi a b).toInt = min a.toInt b.toInt := by
  unfold IntOp.minsi
  split
  · next h => have := BitVec.slt_iff_toInt_lt.1 h; omega
  · next h => have := mt BitVec.slt_iff_toInt_lt.2 h; omega

theorem ofBool_iff (b : Bool) : BitVec.ofBool b = 1#1 ↔ b = true := by
  cases b <;> decide

theorem sge_iff (a b : BitVec 32) : IntOp.cmpi .sge a b = 1#1 ↔ b.toInt ≤ a.toInt := by
  rw [← BitVec.sle_iff_toInt_le]; exact ofBool_iff _

theorem sle_iff (a b : BitVec 32) : IntOp.cmpi .sle a b = 1#1 ↔ a.toInt ≤ b.toInt := by
  rw [← BitVec.sle_iff_toInt_le]; exact ofBool_iff _

theorem slt_iff (a b : BitVec 32) : IntOp.cmpi .slt a b = 1#1 ↔ a.toInt < b.toInt := by
  rw [← BitVec.slt_iff_toInt_lt]; exact ofBool_iff _

theorem sgt_iff (a b : BitVec 32) : IntOp.cmpi .sgt a b = 1#1 ↔ b.toInt < a.toInt := by
  rw [← BitVec.slt_iff_toInt_lt]; exact ofBool_iff _

end Cert.Reals
-- ==== Proof.Attn.Spec.lean ====
module
public import proofs.«01_k».proof.Proof.Reals

/-! The attention over a band of keys, and its gradients, over the real numbers: a query sees the keys of its own
    group of 64 rows and of the eight groups before. -/

@[expose] public section

noncomputable section

namespace Cert.AttnSpec

/-- Key `y` is in reach of query `x`. -/
def near (x y : Fin 16384) : Prop := y.val / 64 ≤ x.val / 64 ∧ x.val / 64 ≤ y.val / 64 + 8

instance (x y : Fin 16384) : Decidable (near x y) := by unfold near; infer_instance

/-- The row of the bias table for the distance from `y` to `x`. -/
def dist (x y : ℕ) : Fin 320 := ⟨(min 256 (max (-63) ((x : ℤ) - y)) + 63).toNat, by omega⟩

/-- Row `r` of the `t`-th block of 256 rows. -/
def xi (t : Fin 64) (r : Fin 256) : Fin 16384 := ⟨256 * t.val + r.val, by omega⟩

/-- The query, the key and the value of a head, where a row holds the 8 heads of each side by side. -/
def qs (P : Fin 16384 → Fin 1536 → ℝ) (x : Fin 16384) (h : Fin 8) (d : Fin 64) : ℝ := P x ⟨h.val * 64 + d.val, by omega⟩
def ks (P : Fin 16384 → Fin 1536 → ℝ) (x : Fin 16384) (h : Fin 8) (d : Fin 64) : ℝ := P x ⟨512 + (h.val * 64 + d.val), by omega⟩
def vs (P : Fin 16384 → Fin 1536 → ℝ) (x : Fin 16384) (h : Fin 8) (d : Fin 64) : ℝ := P x ⟨1024 + (h.val * 64 + d.val), by omega⟩
def os (D : Fin 16384 → Fin 512 → ℝ) (x : Fin 16384) (h : Fin 8) (d : Fin 64) : ℝ := D x ⟨h.val * 64 + d.val, by omega⟩

section Forward

variable (Q K V : Fin 16384 → Fin 8 → Fin 64 → ℝ) (B : Fin 8 → Fin 320 → ℝ)

def score (h : Fin 8) (x y : Fin 16384) : ℝ := (∑ d, Q x h d * K y h d) * (1 / 8) + B h (dist x y)

def weight (h : Fin 8) (x y : Fin 16384) : ℝ := if near x y then Real.exp (score Q K B h x y) else 0

def prob (h : Fin 8) (x y : Fin 16384) : ℝ := weight Q K B h x y / ∑ y', weight Q K B h x y'

theorem weight_nonneg (h : Fin 8) (x y : Fin 16384) : 0 ≤ weight Q K B h x y := by
  unfold weight; split
  · exact (Real.exp_pos _).le
  · exact le_rfl

theorem near_self (x : Fin 16384) : near x x := ⟨le_rfl, Nat.le_add_right _ _⟩

theorem total_pos (h : Fin 8) (x : Fin 16384) : 0 < ∑ y, weight Q K B h x y :=
  Finset.sum_pos' (fun y _ => weight_nonneg Q K B h x y)
    ⟨x, Finset.mem_univ _, by unfold weight; rw [if_pos (near_self x)]; exact Real.exp_pos _⟩

theorem prob_far {h : Fin 8} {x y : Fin 16384} (hn : ¬ near x y) : prob Q K B h x y = 0 := by
  unfold prob weight; rw [if_neg hn, zero_div]

end Forward

section Backward

variable (Q K V : Fin 16384 → Fin 8 → Fin 64 → ℝ) (B : Fin 8 → Fin 320 → ℝ) (O : Fin 16384 → Fin 8 → Fin 64 → ℝ)

/-- The gradient of a probability. -/
def dprob (h : Fin 8) (x y : Fin 16384) : ℝ := ∑ d, O x h d * V y h d

/-- The gradient of a score. -/
def dscore (h : Fin 8) (x y : Fin 16384) : ℝ :=
  prob Q K B h x y * (dprob V O h x y - ∑ y', dprob V O h x y' * prob Q K B h x y')

def dq (x : Fin 16384) (h : Fin 8) (d : Fin 64) : ℝ := (∑ y, dscore Q K V B O h x y * K y h d) * (1 / 8)

def dk (y : Fin 16384) (h : Fin 8) (d : Fin 64) : ℝ := ∑ x, dscore Q K V B O h x y * (Q x h d * (1 / 8))

def dv (y : Fin 16384) (h : Fin 8) (d : Fin 64) : ℝ := ∑ x, prob Q K B h x y * O x h d

/-- The gradients of key and value side by side: 8 heads of the first, then 8 of the second. -/
def dkv (y : Fin 16384) (j : Fin 1024) : ℝ :=
  if j.val < 512 then dk Q K V B O y ⟨j.val / 64 % 8, by omega⟩ ⟨j.val % 64, by omega⟩
  else dv Q K B O y ⟨j.val / 64 % 8, by omega⟩ ⟨j.val % 64, by omega⟩

def drel (h : Fin 8) (r : Fin 320) : ℝ := ∑ x : Fin 16384, ∑ y : Fin 16384, if dist x y = r then dscore Q K V B O h x y else 0

theorem dscore_far {h : Fin 8} {x y : Fin 16384} (hn : ¬ near x y) : dscore Q K V B O h x y = 0 := by
  unfold dscore; rw [prob_far Q K B hn, zero_mul]

end Backward

end Cert.AttnSpec
-- ==== Proof.Attn.Soft.lean ====
module
public import proofs.«01_k».proof.Proof.Reals
public import proofs.«01_k».proof.Proof.Words
public import proofs.«01_k».proof.Proof.Attn.Spec

/-! A softmax over the unmasked entries of a row, read in the extended reals, and the words that name a column of the
    bias table. -/

@[expose] public section

noncomputable section

namespace Cert.AttnSoft

open Idealize.ShloMosaic Cert.Reals

theorem lit_neg_inf : (Ideal.ofBits .f32 4286578688#32 : EReal) = ⊥ := by simp [Ideal.ofBits, Ideal.ieee]

theorem lit_eighth : (Ideal.ofBits .f32 1040187392#32 : EReal) = ((1 / 8 : ℝ) : EReal) := by
  simp [Ideal.ofBits, Ideal.ieee, -EReal.coe_mul]; norm_num

theorem lit_one : (Ideal.ofBits .f32 1065353216#32 : EReal) = ((1 : ℝ) : EReal) := by
  simp [Ideal.ofBits, Ideal.ieee, -EReal.coe_mul]; norm_num

theorem max_low (b x : EReal) (hb : b = ⊥) : max b x = x := by rw [hb]; exact max_eq_right bot_le

section Rows

variable {ι : Type} [Fintype ι] (near : ι → Prop) [DecidablePred near] (s : ι → ℝ)

/-- A row's entries: the masked ones are minus infinity. -/
def masked (y : ι) : EReal := if near y then (s y : EReal) else ⊥

def wt (y : ι) : ℝ := if near y then Real.exp (s y) else 0

/-- The greatest entry of a row that is not masked throughout is a real number. -/
theorem top_real (y : ι) (hy : near y) : ∃ m : ℝ, Finset.univ.fold max (⊥ : EReal) (masked near s) = m := by
  have hs : Finset.univ.fold max (⊥ : EReal) (masked near s) = Finset.univ.sup (masked near s) := rfl
  have hb : Finset.univ.sup (masked near s) ≠ ⊥ := fun e => by
    have := (Finset.le_sup (f := masked near s) (Finset.mem_univ y)).trans e.le
    rw [masked, if_pos hy] at this
    exact absurd this (not_le.2 (EReal.bot_lt_coe _))
  have ht : Finset.univ.sup (masked near s) < ⊤ := (Finset.sup_lt_iff (bot_lt_top)).2 fun z _ => by
    unfold masked; split
    · exact EReal.coe_lt_top _
    · exact bot_lt_top
  exact ⟨_, hs.trans (EReal.coe_toReal ht.ne hb).symm⟩

theorem fold_real (b : EReal) (f : ι → EReal) (hb : b = ⊥) (hf : ∀ y, f y = masked near s y) (y : ι) (hy : near y) :
    ∃ m : ℝ, Finset.univ.fold max b f = m := by
  rw [hb, funext hf]; exact top_real near s y hy

theorem exp_masked (m : ℝ) (y : ι) :
    Ideal.exp (masked near s y - (m : EReal)) = ((wt near s y * Real.exp (-m) : ℝ) : EReal) := by
  unfold masked wt
  split
  · rw [← EReal.coe_sub, Ideal.exp_coe, sub_eq_add_neg, Real.exp_add]
  · rw [sub_eq_add_neg, EReal.bot_add, Ideal.exp_bot, zero_mul, EReal.coe_zero]

theorem wt_pos (y : ι) (hy : near y) : 0 < ∑ z, wt near s z :=
  Finset.sum_pos' (fun z _ => by unfold wt; split; exacts [(Real.exp_pos _).le, le_rfl])
    ⟨y, Finset.mem_univ _, by unfold wt; rw [if_pos hy]; exact Real.exp_pos _⟩

theorem total_pos (m : ℝ) (y : ι) (hy : near y) : 0 < ∑ z, wt near s z * Real.exp (-m) := by
  rw [← Finset.sum_mul]; exact mul_pos (wt_pos near s y hy) (Real.exp_pos _)

theorem share (m : ℝ) (y : ι) : wt near s y * Real.exp (-m) / ∑ z, wt near s z * Real.exp (-m) = wt near s y / ∑ z, wt near s z := by
  rw [← Finset.sum_mul, mul_div_mul_right _ _ (Real.exp_pos _).ne']

end Rows

/-- The column of the table for the distance `e`, where the word `w` spells it. -/
theorem column (w : BitVec 32) (e : ℤ) (hw : w.toInt = e) :
    (Scalar.select (IntOp.cmpi .slt (IntOp.addi (IntOp.minsi 256#32 (IntOp.maxsi 4294967233#32 w)) 63#32) 0#32)
      (IntOp.addi (IntOp.addi (IntOp.minsi 256#32 (IntOp.maxsi 4294967233#32 w)) 63#32) 320#32)
      (IntOp.addi (IntOp.minsi 256#32 (IntOp.maxsi 4294967233#32 w)) 63#32)).toInt
      = min 256 (max (-63) e) + 63 := by
  have c1 : (256#32).toInt = 256 := by decide
  have c2 : (4294967233#32).toInt = -63 := by decide
  have c3 : (63#32).toInt = 63 := by decide
  have c4 : (0#32).toInt = 0 := by decide
  have hc : (IntOp.minsi 256#32 (IntOp.maxsi 4294967233#32 w)).toInt = min 256 (max (-63) e) := by
    rw [int_min, int_max, c1, c2, hw]
  have ha : (IntOp.addi (IntOp.minsi 256#32 (IntOp.maxsi 4294967233#32 w)) 63#32).toInt = min 256 (max (-63) e) + 63 := by
    rw [int_add _ _ (by rw [hc, c3]; omega), hc, c3]
  have hn : ¬ IntOp.cmpi .slt (IntOp.addi (IntOp.minsi 256#32 (IntOp.maxsi 4294967233#32 w)) 63#32) 0#32 = 1#1 := by
    rw [slt_iff, ha, c4]; omega
  have hs : ∀ (k : BitVec 1) (p q : BitVec 32), ¬ k = 1#1 → Scalar.select k p q = q := fun k p q h => if_neg h
  rw [hs _ _ _ hn, ha]

theorem dist_val (x y : ℕ) : ((AttnSpec.dist x y).val : ℤ) = min 256 (max (-63) ((x : ℤ) - y)) + 63 := by
  unfold AttnSpec.dist; dsimp only; omega

end Cert.AttnSoft
-- ==== Proof.Attn.Blocks.lean ====
module
public import proofs.«01_k».proof.Proof.Gen.AttnIdeal.Frame
public import proofs.«01_k».proof.Proof.Attn.Soft

/-! One block of 256 queries: what each head adds to the gradients, with the head a variable. -/

@[expose] public section

set_option maxRecDepth 16384

noncomputable section

namespace Cert.AttnIdeal

open Idealize.ShloMosaic Idealize.ShloMosaic.TcCoe Idealize.ShloMosaic.Tactic Cert.Reals
open Gen

theorem head_lt (h : Fin 8) (d : Fin 64) : 64 * h.val + d.val < 512 := by omega
theorem prob_lt (h : Fin 8) (n : Fin 768) : 768 * h.val + n.val < 6144 := by omega
theorem key_lt (h : Fin 8) (d : Fin 64) : 64 * h.val + d.val < 1024 := by omega
theorem value_lt (h : Fin 8) (d : Fin 64) : 512 + 64 * h.val + d.val < 1024 := by omega

section Heads

variable (q dO : FVec Ideal S256x512 .bf16) (pb : FVec Ideal S256x6144 .bf16) (kv : FVec Ideal S768x1024 .bf16) (h : Fin 8)

theorem cut_slices : S256x512.Slices ![0, 64 * h.val] S256x64 := by revert h; decide
theorem pb_inb : ∀ a, ![0, 768 * h.val] a + S256x768.size a ≤ S256x6144.size a := by revert h; decide
theorem k_inb : ∀ a, ![0, 64 * h.val] a + S768x64.size a ≤ S768x1024.size a := by revert h; decide
theorem v_inb : ∀ a, ![0, 512 + 64 * h.val] a + S768x64.size a ≤ S768x1024.size a := by revert h; decide

/-- A head's columns of the queries. -/
def cut : FVec Ideal S256x64 .bf16 := extractStridedSlice S256x64 ![0, 64 * h.val] q (cut_slices h)
def probH : FVec Ideal S256x768 .bf16 :=
  shapeCast S256x768 (View.ld (Val := Elt Ideal) (e' := .bf16) pb (Rect.unit ![0, 768 * h.val] S256x768.size (pb_inb h))) shapeCasts_S256x768_S256x768
def keyH : FVec Ideal S768x64 .bf16 := View.ld (Val := Elt Ideal) (e' := .bf16) kv (Rect.unit ![0, 64 * h.val] S768x64.size (k_inb h))
def valueH : FVec Ideal S768x64 .bf16 := View.ld (Val := Elt Ideal) (e' := .bf16) kv (Rect.unit ![0, 512 + 64 * h.val] S768x64.size (v_inb h))

def dprobH : FVec Ideal S256x768 .f32 :=
  matmul dot_S256x64_S768x64_S256x768_1_1_0_0_n_n none (cut dO h) (valueH kv h) (constant S256x768 .f32 0x00000000#32)
def dscoreH : FVec Ideal S256x768 .f32 :=
  mulf (extf .f32 (probH pb h) bitsLt_bf16_f32) (subf (dprobH dO kv h) (broadcastTo S256x768 (shapeCast S256x1
    (multiReduction .add [1] S256 (mulf (dprobH dO kv h) (extf .f32 (probH pb h) bitsLt_bf16_f32)) 0x00000000#32
      reduces_S256x768_S256 (.inl rfl) rfl) shapeCasts_S256_S256x1) broadcasts_S256x1_S256x768))
def dqH : FVec Ideal S256x64 .f32 :=
  mulf (matmul dot_S256x768_S768x64_S256x64_1_0_0_1_n_n none (truncf .bf16 (dscoreH dO pb kv h) bitsLt_bf16_f32) (keyH kv h)
    (constant S256x64 .f32 0x00000000#32)) (broadcast S256x64 (Scalar.ofBits .f32 0x3E000000#32))
def dkH : FVec Ideal S768x64 .f32 :=
  matmul dot_S256x768_S256x64_S768x64_0_0_1_1_n_n none (truncf .bf16 (dscoreH dO pb kv h) bitsLt_bf16_f32) (cut q h)
    (constant S768x64 .f32 0x00000000#32)
def dvH : FVec Ideal S768x64 .f32 :=
  matmul dot_S256x768_S256x64_S768x64_0_0_1_1_n_n none (probH pb h) (cut dO h) (constant S768x64 .f32 0x00000000#32)

/-- The heads of keys, then those of values. -/
def dkvH (n : Fin 16) : FVec Ideal S768x64 .f32 :=
  if hn : n.val < 8 then dkH q dO pb kv ⟨n.val, hn⟩ else dvH dO pb ⟨n.val - 8, by omega⟩

end Heads

section Values

variable {q dO : FVec Ideal S256x512 .bf16} {pb : FVec Ideal S256x6144 .bf16} {kv : FVec Ideal S768x1024 .bf16}
  {Q O : Fin 256 → Fin 8 → Fin 64 → ℝ} {K V : Fin 768 → Fin 8 → Fin 64 → ℝ} {P : Fin 256 → Fin 8 → Fin 768 → ℝ}
  (hq : ∀ r (h : Fin 8) (d : Fin 64), q (ix2 r ⟨64 * h.val + d.val, head_lt h d⟩) = (Q r h d : EReal))
  (ho : ∀ r (h : Fin 8) (d : Fin 64), dO (ix2 r ⟨64 * h.val + d.val, head_lt h d⟩) = (O r h d : EReal))
  (hp : ∀ r (h : Fin 8) (n : Fin 768), pb (ix2 r ⟨768 * h.val + n.val, prob_lt h n⟩) = (P r h n : EReal))
  (hk : ∀ n (h : Fin 8) (d : Fin 64), kv (ix2 n ⟨64 * h.val + d.val, key_lt h d⟩) = (K n h d : EReal))
  (hv : ∀ n (h : Fin 8) (d : Fin 64), kv (ix2 n ⟨512 + 64 * h.val + d.val, value_lt h d⟩) = (V n h d : EReal))
  (h : Fin 8)

/-- The gradient of a score within a block. -/
def dsR (O : Fin 256 → Fin 8 → Fin 64 → ℝ) (V : Fin 768 → Fin 8 → Fin 64 → ℝ) (P : Fin 256 → Fin 8 → Fin 768 → ℝ)
    (r : Fin 256) (h : Fin 8) (n : Fin 768) : ℝ :=
  P r h n * ((∑ d, O r h d * V n h d) - ∑ n', (∑ d, O r h d * V n' h d) * P r h n')

include hp in
theorem probH_at (r : Fin 256) (n : Fin 768) : probH pb h (ix2 r n) = (P r h n : EReal) := by
  pointwise [probH]; exact hp r h n

include hk in
theorem keyH_at (n : Fin 768) (d : Fin 64) : keyH kv h (ix2 n d) = (K n h d : EReal) := by
  pointwise [keyH]; exact hk n h d

include ho hv in
theorem dprobH_at (r : Fin 256) (n : Fin 768) : dprobH dO kv h (ix2 r n) = ((∑ d, O r h d * V n h d : ℝ) : EReal) := by
  pointwise [dprobH, cut, valueH]
  simp only [ho, hv, ← EReal.coe_mul, coe_sum]

include ho hp hv in
theorem dscoreH_at (r : Fin 256) (n : Fin 768) : dscoreH dO pb kv h (ix2 r n) = (dsR O V P r h n : EReal) := by
  have h1 := probH_at hp h r
  have h2 := dprobH_at ho hv h r
  pointwise [dscoreH]
  simp only [h1, h2, ← EReal.coe_mul, coe_sum, ← EReal.coe_sub]
  rfl

include ho hp hk hv in
theorem dqH_at (r : Fin 256) (d : Fin 64) :
    dqH dO pb kv h (ix2 r d) = (((∑ n, dsR O V P r h n * K n h d) * (1 / 8) : ℝ) : EReal) := by
  have h1 := dscoreH_at ho hp hv h r
  have h2 := keyH_at hk h
  pointwise [dqH]
  simp only [h1, h2, ← EReal.coe_mul, coe_sum, AttnSoft.lit_eighth]

include hq ho hp hv in
theorem dkH_at (n : Fin 768) (d : Fin 64) :
    dkH q dO pb kv h (ix2 n d) = ((∑ r, dsR O V P r h n * Q r h d : ℝ) : EReal) := by
  have h1 := dscoreH_at ho hp hv h
  pointwise [dkH, cut]
  simp only [h1, hq, ← EReal.coe_mul, coe_sum]

include ho hp in
theorem dvH_at (n : Fin 768) (d : Fin 64) : dvH dO pb h (ix2 n d) = ((∑ r, P r h n * O r h d : ℝ) : EReal) := by
  have h1 := probH_at hp h
  pointwise [dvH, cut]
  simp only [h1, ho, ← EReal.coe_mul, coe_sum]

end Values

end Cert.AttnIdeal
-- ==== Proof.Attn.Stack.lean ====
module
public import proofs.«01_k».proof.Proof.Reals
import Idealize.ShloMosaic.Lib.Pipeline.ReadBack

/-! Three blocks of 256 rows kept one below the other, and what is read from them. -/

@[expose] public section

set_option maxRecDepth 16384

noncomputable section

namespace Cert.AttnStack

open Idealize.ShloMosaic Idealize.ShloMosaic.TcCoe Idealize.ShloMosaic.Tactic

abbrev S256x1024 : Shape := ⟨2, ![256, 1024]⟩
abbrev S768x1024 : Shape := ⟨2, ![768, 1024]⟩

/-- The window of 768 rows: three blocks, one below the other. -/
def stack (a b c : FVec Ideal S256x1024 .bf16) : FVec Ideal S768x1024 .bf16 := fun y =>
  if h : (y 0).val < 256 then a (ix2 ⟨(y 0).val, h⟩ (y 1))
  else if h' : (y 0).val < 512 then b (ix2 ⟨(y 0).val - 256, by omega⟩ (y 1))
  else c (ix2 ⟨(y 0).val - 512, by have : (y 0).val < 768 := (y 0).isLt; omega⟩ (y 1))

theorem stack_canon (a b c : FVec Ideal S256x1024 .bf16) (L : List (View.Piece (Elt Ideal) S768x1024 .bf16)) (i0 i1 i2) :
    View.canon ((⟨Rect.unit ![512, 0] S256x1024.size i2, c⟩ : View.Piece (Elt Ideal) S768x1024 .bf16)
      :: ⟨Rect.unit ![256, 0] S256x1024.size i1, b⟩ :: ⟨Rect.unit ![0, 0] S256x1024.size i0, a⟩ :: L) = stack a b c := by
  funext y
  have hy : (y 0).val < 768 := (y 0).isLt
  have mem : ∀ (o : ℕ) (i : ∀ x, (![o, 0] : Fin 2 → ℕ) x + S256x1024.size x ≤ S768x1024.size x),
      y ∈ (Rect.unit (s := S768x1024) ![o, 0] S256x1024.size i).set ↔ o ≤ (y 0).val ∧ (y 0).val < o + 256 := by
    intro o i
    rw [Rect.mem_set_unit, Fin.forall_fin_two]
    exact ⟨fun h => h.1, fun h => ⟨h, Nat.zero_le _, by have : (y 1).val < 1024 := (y 1).isLt; show (y 1).val < 0 + 1024; omega⟩⟩
  have emb : ∀ (o : ℕ) (i : ∀ x, (![o, 0] : Fin 2 → ℕ) x + S256x1024.size x ≤ S768x1024.size x) (r : Fin 256),
      o + r.val = (y 0).val → y = (Rect.unit (s := S768x1024) ![o, 0] S256x1024.size i).emb (ix2 r (y 1)) := by
    intro o i r h
    funext x; apply Fin.ext
    fin_cases x
    · show (y 0).val = o + 1 * r.val; omega
    · show (y 1).val = 0 + 1 * (y 1).val; omega
  unfold stack
  by_cases h0 : (y 0).val < 256
  · rw [dif_pos h0, View.canon_cons_of_not_mem _ _ (by rw [mem]; omega), View.canon_cons_of_not_mem _ _ (by rw [mem]; omega)]
    conv_lhs => rw [emb 0 i0 ⟨(y 0).val, h0⟩ (Nat.zero_add _)]
    exact View.canon_cons_emb ..
  by_cases h1 : (y 0).val < 512
  · rw [dif_neg h0, dif_pos h1, View.canon_cons_of_not_mem _ _ (by rw [mem]; omega)]
    conv_lhs => rw [emb 256 i1 ⟨(y 0).val - 256, by omega⟩ (by show 256 + ((y 0).val - 256) = (y 0).val; omega)]
    exact View.canon_cons_emb ..
  · rw [dif_neg h0, dif_neg h1]
    conv_lhs => rw [emb 512 i2 ⟨(y 0).val - 512, by omega⟩ (by show 512 + ((y 0).val - 512) = (y 0).val; omega)]
    exact View.canon_cons_emb ..

theorem stack_read (a b c : FVec Ideal S256x1024 .bf16) {sig : RefSig} (v : View sig .tc .vmem S768x1024 .bf16)
    (L : List (View.Piece (Elt Ideal) S768x1024 .bf16)) (i0 i1 i2) (r : Rect S768x1024) :
    v.readCov ((⟨Rect.unit ![512, 0] ![256, 1024] i2, c⟩ : View.Piece (Elt Ideal) S768x1024 .bf16)
      :: ⟨Rect.unit ![256, 0] ![256, 1024] i1, b⟩ :: ⟨Rect.unit ![0, 0] ![256, 1024] i0, a⟩ :: L) r.toLoadRect
      = View.ld (stack a b c) r := by
  rw [View.readCov_eq_canon', stack_canon]

end Cert.AttnStack
-- ==== Proof.Attn.Point.lean ====
module
public import proofs.«01_k».proof.Proof.Attn.Blocks
public import proofs.«01_k».proof.Proof.Attn.Stack
import Idealize.ShloMosaic.Lib.Pipeline.ReadBack

/-! What one point of the call leaves: the heads of the block side by side, the sum with what the points before kept. -/

@[expose] public section

set_option maxRecDepth 16384

noncomputable section

namespace Cert.AttnIdeal

open Idealize.ShloMosaic Idealize.ShloMosaic.TcCoe Idealize.ShloMosaic.Tactic Cert.Reals
open Gen AttnStack

section Whole

variable (q dO : FVec Ideal S256x512 .bf16) (pb : FVec Ideal S256x6144 .bf16) (kv : FVec Ideal S768x1024 .bf16)

/-- The eight heads' gradients of the queries side by side. -/
def dqAll : FVec Ideal S256x512 .bf16 :=
  truncf .bf16 (concatenate S256x512 1 (List.ofFn fun h : Fin 8 => ⟨S256x64, dqH dO pb kv h⟩)
    concatenates_S256x64_S256x64_S256x64_S256x64_S256x64_S256x64_S256x64_S256x64_S256x512_d1) bitsLt_bf16_f32

/-- The gradients of keys and values of the window. -/
def dkvAll : FVec Ideal S768x1024 .f32 :=
  concatenate S768x1024 1 (List.ofFn fun n : Fin 16 => ⟨S768x64, dkvH q dO pb kv n⟩)
    concatenates_S768x64_S768x64_S768x64_S768x64_S768x64_S768x64_S768x64_S768x64_S768x64_S768x64_S768x64_S768x64_S768x64_S768x64_S768x64_S768x64_S768x1024_d1

theorem dkv_heads : concatenate S768x1024 1 [
    ⟨S768x64, k0_pay21 q dO (View.ld (Val := Elt Ideal) (e' := .bf16) pb (Rect.unit ![0, 0] ![256, 768] inb_S256x6144_S256x768_0_0)) (View.ld (Val := Elt Ideal) (e' := .bf16) kv (Rect.unit ![0, 512] ![768, 64] inb_S768x1024_S768x64_0_512))⟩,
    ⟨S768x64, k0_pay31 q (k0_pay24 (View.ld (Val := Elt Ideal) (e' := .bf16) pb (Rect.unit ![0, 768] ![256, 768] inb_S256x6144_S256x768_0_768))) (k0_pay25 dO (View.ld (Val := Elt Ideal) (e' := .bf16) kv (Rect.unit ![0, 576] ![768, 64] inb_S768x1024_S768x64_0_576))) (k0_pay26 dO (View.ld (Val := Elt Ideal) (e' := .bf16) pb (Rect.unit ![0, 768] ![256, 768] inb_S256x6144_S256x768_0_768)) (View.ld (Val := Elt Ideal) (e' := .bf16) kv (Rect.unit ![0, 576] ![768, 64] inb_S768x1024_S768x64_0_576)))⟩,
    ⟨S768x64, k0_pay39 q (k0_pay34 dO (View.ld (Val := Elt Ideal) (e' := .bf16) pb (Rect.unit ![0, 1536] ![256, 768] inb_S256x6144_S256x768_0_1536)) (View.ld (Val := Elt Ideal) (e' := .bf16) kv (Rect.unit ![0, 640] ![768, 64] inb_S768x1024_S768x64_0_640)))⟩,
    ⟨S768x64, k0_pay47 (k0_pay44 dO (View.ld (Val := Elt Ideal) (e' := .bf16) pb (Rect.unit ![0, 2304] ![256, 768] inb_S256x6144_S256x768_0_2304)) (View.ld (Val := Elt Ideal) (e' := .bf16) kv (Rect.unit ![0, 704] ![768, 64] inb_S768x1024_S768x64_0_704))) (k0_pay46 q) (constant S768x64 .f32 0x00000000#32)⟩,
    ⟨S768x64, k0_pay54 q dO (View.ld (Val := Elt Ideal) (e' := .bf16) pb (Rect.unit ![0, 3072] ![256, 768] inb_S256x6144_S256x768_0_3072)) (View.ld (Val := Elt Ideal) (e' := .bf16) kv (Rect.unit ![0, 768] ![768, 64] inb_S768x1024_S768x64_0_768))⟩,
    ⟨S768x64, k0_pay63 q (k0_pay57 (View.ld (Val := Elt Ideal) (e' := .bf16) pb (Rect.unit ![0, 3840] ![256, 768] inb_S256x6144_S256x768_0_3840))) (k0_pay58 dO) (View.ld (Val := Elt Ideal) (e' := .bf16) kv (Rect.unit ![0, 832] ![768, 64] inb_S768x1024_S768x64_0_832)) (constant S256x768 .f32 0x00000000#32)⟩,
    ⟨S768x64, k0_pay71 q (k0_pay66 dO (View.ld (Val := Elt Ideal) (e' := .bf16) pb (Rect.unit ![0, 4608] ![256, 768] inb_S256x6144_S256x768_0_4608)) (View.ld (Val := Elt Ideal) (e' := .bf16) kv (Rect.unit ![0, 896] ![768, 64] inb_S768x1024_S768x64_0_896)))⟩,
    ⟨S768x64, k0_pay1 q (k0_pay76 dO (View.ld (Val := Elt Ideal) (e' := .bf16) pb (Rect.unit ![0, 5376] ![256, 768] inb_S256x6144_S256x768_0_5376)) (View.ld (Val := Elt Ideal) (e' := .bf16) kv (Rect.unit ![0, 960] ![768, 64] inb_S768x1024_S768x64_0_960)))⟩,
    ⟨S768x64, k0_pay22 dO (View.ld (Val := Elt Ideal) (e' := .bf16) pb (Rect.unit ![0, 0] ![256, 768] inb_S256x6144_S256x768_0_0))⟩,
    ⟨S768x64, k0_pay32 dO (k0_pay23 (View.ld (Val := Elt Ideal) (e' := .bf16) pb (Rect.unit ![0, 768] ![256, 768] inb_S256x6144_S256x768_0_768)))⟩,
    ⟨S768x64, k0_pay40 dO (k0_pay33 (View.ld (Val := Elt Ideal) (e' := .bf16) pb (Rect.unit ![0, 1536] ![256, 768] inb_S256x6144_S256x768_0_1536)))⟩,
    ⟨S768x64, k0_pay48 dO (k0_pay41 (View.ld (Val := Elt Ideal) (e' := .bf16) pb (Rect.unit ![0, 2304] ![256, 768] inb_S256x6144_S256x768_0_2304)))⟩,
    ⟨S768x64, k0_pay55 dO (View.ld (Val := Elt Ideal) (e' := .bf16) pb (Rect.unit ![0, 3072] ![256, 768] inb_S256x6144_S256x768_0_3072))⟩,
    ⟨S768x64, k0_pay64 dO (k0_pay56 (View.ld (Val := Elt Ideal) (e' := .bf16) pb (Rect.unit ![0, 3840] ![256, 768] inb_S256x6144_S256x768_0_3840)))⟩,
    ⟨S768x64, k0_pay72 dO (k0_pay65 (View.ld (Val := Elt Ideal) (e' := .bf16) pb (Rect.unit ![0, 4608] ![256, 768] inb_S256x6144_S256x768_0_4608)))⟩,
    ⟨S768x64, k0_pay2 dO (k0_pay73 (View.ld (Val := Elt Ideal) (e' := .bf16) pb (Rect.unit ![0, 5376] ![256, 768] inb_S256x6144_S256x768_0_5376)))⟩]
    concatenates_S768x64_S768x64_S768x64_S768x64_S768x64_S768x64_S768x64_S768x64_S768x64_S768x64_S768x64_S768x64_S768x64_S768x64_S768x64_S768x64_S768x1024_d1
    = dkvAll q dO pb kv := by
  rfl

theorem dq_heads : k0_pay3
    (k0_pay20 dO (View.ld (Val := Elt Ideal) (e' := .bf16) pb (Rect.unit ![0, 0] ![256, 768] inb_S256x6144_S256x768_0_0)) (View.ld (Val := Elt Ideal) (e' := .bf16) kv (Rect.unit ![0, 512] ![768, 64] inb_S768x1024_S768x64_0_512)) (View.ld (Val := Elt Ideal) (e' := .bf16) kv (Rect.unit ![0, 0] ![768, 64] inb_S768x1024_S768x64_0_0)))
    (k0_pay30 (k0_pay24 (View.ld (Val := Elt Ideal) (e' := .bf16) pb (Rect.unit ![0, 768] ![256, 768] inb_S256x6144_S256x768_0_768))) (k0_pay25 dO (View.ld (Val := Elt Ideal) (e' := .bf16) kv (Rect.unit ![0, 576] ![768, 64] inb_S768x1024_S768x64_0_576))) (k0_pay26 dO (View.ld (Val := Elt Ideal) (e' := .bf16) pb (Rect.unit ![0, 768] ![256, 768] inb_S256x6144_S256x768_0_768)) (View.ld (Val := Elt Ideal) (e' := .bf16) kv (Rect.unit ![0, 576] ![768, 64] inb_S768x1024_S768x64_0_576))) (View.ld (Val := Elt Ideal) (e' := .bf16) kv (Rect.unit ![0, 64] ![768, 64] inb_S768x1024_S768x64_0_64)))
    (k0_pay38 (k0_pay34 dO (View.ld (Val := Elt Ideal) (e' := .bf16) pb (Rect.unit ![0, 1536] ![256, 768] inb_S256x6144_S256x768_0_1536)) (View.ld (Val := Elt Ideal) (e' := .bf16) kv (Rect.unit ![0, 640] ![768, 64] inb_S768x1024_S768x64_0_640))) (View.ld (Val := Elt Ideal) (e' := .bf16) kv (Rect.unit ![0, 128] ![768, 64] inb_S768x1024_S768x64_0_128)))
    (k0_pay45 dO (View.ld (Val := Elt Ideal) (e' := .bf16) pb (Rect.unit ![0, 2304] ![256, 768] inb_S256x6144_S256x768_0_2304)) (View.ld (Val := Elt Ideal) (e' := .bf16) kv (Rect.unit ![0, 704] ![768, 64] inb_S768x1024_S768x64_0_704)) (View.ld (Val := Elt Ideal) (e' := .bf16) kv (Rect.unit ![0, 192] ![768, 64] inb_S768x1024_S768x64_0_192)))
    (k0_pay53 dO (View.ld (Val := Elt Ideal) (e' := .bf16) pb (Rect.unit ![0, 3072] ![256, 768] inb_S256x6144_S256x768_0_3072)) (View.ld (Val := Elt Ideal) (e' := .bf16) kv (Rect.unit ![0, 768] ![768, 64] inb_S768x1024_S768x64_0_768)) (View.ld (Val := Elt Ideal) (e' := .bf16) kv (Rect.unit ![0, 256] ![768, 64] inb_S768x1024_S768x64_0_256)))
    (k0_pay62 (k0_pay57 (View.ld (Val := Elt Ideal) (e' := .bf16) pb (Rect.unit ![0, 3840] ![256, 768] inb_S256x6144_S256x768_0_3840))) (k0_pay58 dO) (View.ld (Val := Elt Ideal) (e' := .bf16) kv (Rect.unit ![0, 832] ![768, 64] inb_S768x1024_S768x64_0_832)) (constant S256x768 .f32 0x00000000#32) (View.ld (Val := Elt Ideal) (e' := .bf16) kv (Rect.unit ![0, 320] ![768, 64] inb_S768x1024_S768x64_0_320)))
    (k0_pay70 (k0_pay66 dO (View.ld (Val := Elt Ideal) (e' := .bf16) pb (Rect.unit ![0, 4608] ![256, 768] inb_S256x6144_S256x768_0_4608)) (View.ld (Val := Elt Ideal) (e' := .bf16) kv (Rect.unit ![0, 896] ![768, 64] inb_S768x1024_S768x64_0_896))) (View.ld (Val := Elt Ideal) (e' := .bf16) kv (Rect.unit ![0, 384] ![768, 64] inb_S768x1024_S768x64_0_384)))
    (k0_pay77 dO (View.ld (Val := Elt Ideal) (e' := .bf16) pb (Rect.unit ![0, 5376] ![256, 768] inb_S256x6144_S256x768_0_5376)) (View.ld (Val := Elt Ideal) (e' := .bf16) kv (Rect.unit ![0, 960] ![768, 64] inb_S768x1024_S768x64_0_960)) (View.ld (Val := Elt Ideal) (e' := .bf16) kv (Rect.unit ![0, 448] ![768, 64] inb_S768x1024_S768x64_0_448))) (FloatOps.ofBits .f32 0x3E000000#32) = dqAll dO pb kv := by
  rfl

theorem acc_inb (h : Fin 8) : ∀ a, ![h.val, 0, 0] a + S1x256x768.size a ≤ S8x256x768.size a := by revert h; decide

/-- A head's scores added to what is kept. -/
def accH (acc : FVec Ideal S8x256x768 .f32) (h : Fin 8) : FVec Ideal S1x256x768 .f32 :=
  shapeCast S1x256x768 (addf (shapeCast S256x768
    (View.ld (Val := Elt Ideal) (e' := .f32) acc (Rect.unit ![h.val, 0, 0] S1x256x768.size (acc_inb h))) shapeCasts_S1x256x768_S256x768)
    (dscoreH dO pb kv h)) shapeCasts_S256x768_S1x256x768

/-- Head `7 - k`, the `k`-th stored last. -/
def back (k : Fin 8) : Fin 8 := ⟨7 - k.val, by omega⟩

def accG (acc : FVec Ideal S8x256x768 .f32) : FVec Ideal S8x256x768 .f32 := fun y => acc y + dscoreH dO pb kv (y 0) (ix2 (y 1) (y 2))

theorem cast_up (x : FVec Ideal S256x768 .f32) (r : Fin 256) (n : Fin 768) :
    shapeCast S1x256x768 x shapeCasts_S256x768_S1x256x768 (ix3 (0 : Fin 1) r n) = x (ix2 r n) := by
  pointwise

theorem cast_down (x : FVec Ideal S1x256x768 .f32) (r : Fin 256) (n : Fin 768) :
    shapeCast S256x768 x shapeCasts_S1x256x768_S256x768 (ix2 r n) = x (ix3 (0 : Fin 1) r n) := by
  pointwise

theorem ld_acc (acc : FVec Ideal S8x256x768 .f32) (h : Fin 8) (r : Fin 256) (n : Fin 768) :
    View.ld (Val := Elt Ideal) (e' := .f32) acc (Rect.unit ![h.val, 0, 0] S1x256x768.size (acc_inb h)) (ix3 (0 : Fin 1) r n)
      = acc (ix3 h r n) := by
  refine congrArg acc (funext fun a => Fin.ext ?_)
  fin_cases a
  · show h.val + 1 * 0 = h.val; omega
  · show 0 + 1 * r.val = r.val; omega
  · show 0 + 1 * n.val = n.val; omega

theorem accH_at (acc : FVec Ideal S8x256x768 .f32) (h : Fin 8) (r : Fin 256) (n : Fin 768) :
    accH dO pb kv acc h (ix3 (0 : Fin 1) r n) = acc (ix3 h r n) + dscoreH dO pb kv h (ix2 r n) :=
  (cast_up _ r n).trans (congrArg (· + dscoreH dO pb kv h (ix2 r n)) ((cast_down _ r n).trans (ld_acc acc h r n)))

theorem acc_heads (acc : FVec Ideal S8x256x768 .f32) (L : List (View.Piece (Elt Ideal) S8x256x768 .f32)) :
    View.canon (Val := Elt Ideal) (s := S8x256x768) (e := .f32) (
    ⟨Rect.unit ![7, 0, 0] ![1, 256, 768] inb_S8x256x768_S1x256x768_7_0_0, k0_pay75 dO (View.ld (Val := Elt Ideal) (e' := .bf16) pb (Rect.unit ![0, 5376] ![256, 768] inb_S256x6144_S256x768_0_5376)) (View.ld (Val := Elt Ideal) (e' := .bf16) kv (Rect.unit ![0, 960] ![768, 64] inb_S768x1024_S768x64_0_960)) (View.ld (Val := Elt Ideal) (e' := .f32) acc (Rect.unit ![7, 0, 0] ![1, 256, 768] inb_S8x256x768_S1x256x768_7_0_0))⟩ ::
    ⟨Rect.unit ![6, 0, 0] ![1, 256, 768] inb_S8x256x768_S1x256x768_6_0_0, k0_pay68 (k0_pay67 dO (View.ld (Val := Elt Ideal) (e' := .bf16) pb (Rect.unit ![0, 4608] ![256, 768] inb_S256x6144_S256x768_0_4608)) (View.ld (Val := Elt Ideal) (e' := .bf16) kv (Rect.unit ![0, 896] ![768, 64] inb_S768x1024_S768x64_0_896)) (View.ld (Val := Elt Ideal) (e' := .f32) acc (Rect.unit ![6, 0, 0] ![1, 256, 768] inb_S8x256x768_S1x256x768_6_0_0)))⟩ ::
    ⟨Rect.unit ![5, 0, 0] ![1, 256, 768] inb_S8x256x768_S1x256x768_5_0_0, k0_pay60 (k0_pay57 (View.ld (Val := Elt Ideal) (e' := .bf16) pb (Rect.unit ![0, 3840] ![256, 768] inb_S256x6144_S256x768_0_3840))) (k0_pay58 dO) (View.ld (Val := Elt Ideal) (e' := .bf16) kv (Rect.unit ![0, 832] ![768, 64] inb_S768x1024_S768x64_0_832)) (constant S256x768 .f32 0x00000000#32) (View.ld (Val := Elt Ideal) (e' := .f32) acc (Rect.unit ![5, 0, 0] ![1, 256, 768] inb_S8x256x768_S1x256x768_5_0_0))⟩ ::
    ⟨Rect.unit ![4, 0, 0] ![1, 256, 768] inb_S8x256x768_S1x256x768_4_0_0, k0_pay51 dO (View.ld (Val := Elt Ideal) (e' := .bf16) pb (Rect.unit ![0, 3072] ![256, 768] inb_S256x6144_S256x768_0_3072)) (View.ld (Val := Elt Ideal) (e' := .bf16) kv (Rect.unit ![0, 768] ![768, 64] inb_S768x1024_S768x64_0_768)) (View.ld (Val := Elt Ideal) (e' := .f32) acc (Rect.unit ![4, 0, 0] ![1, 256, 768] inb_S8x256x768_S1x256x768_4_0_0))⟩ ::
    ⟨Rect.unit ![3, 0, 0] ![1, 256, 768] inb_S8x256x768_S1x256x768_3_0_0, k0_pay43 dO (View.ld (Val := Elt Ideal) (e' := .bf16) pb (Rect.unit ![0, 2304] ![256, 768] inb_S256x6144_S256x768_0_2304)) (View.ld (Val := Elt Ideal) (e' := .bf16) kv (Rect.unit ![0, 704] ![768, 64] inb_S768x1024_S768x64_0_704)) (View.ld (Val := Elt Ideal) (e' := .f32) acc (Rect.unit ![3, 0, 0] ![1, 256, 768] inb_S8x256x768_S1x256x768_3_0_0))⟩ ::
    ⟨Rect.unit ![2, 0, 0] ![1, 256, 768] inb_S8x256x768_S1x256x768_2_0_0, k0_pay36 (k0_pay35 dO (View.ld (Val := Elt Ideal) (e' := .bf16) pb (Rect.unit ![0, 1536] ![256, 768] inb_S256x6144_S256x768_0_1536)) (View.ld (Val := Elt Ideal) (e' := .bf16) kv (Rect.unit ![0, 640] ![768, 64] inb_S768x1024_S768x64_0_640)) (View.ld (Val := Elt Ideal) (e' := .f32) acc (Rect.unit ![2, 0, 0] ![1, 256, 768] inb_S8x256x768_S1x256x768_2_0_0)))⟩ ::
    ⟨Rect.unit ![1, 0, 0] ![1, 256, 768] inb_S8x256x768_S1x256x768_1_0_0, k0_pay28 (k0_pay24 (View.ld (Val := Elt Ideal) (e' := .bf16) pb (Rect.unit ![0, 768] ![256, 768] inb_S256x6144_S256x768_0_768))) (k0_pay25 dO (View.ld (Val := Elt Ideal) (e' := .bf16) kv (Rect.unit ![0, 576] ![768, 64] inb_S768x1024_S768x64_0_576))) (k0_pay26 dO (View.ld (Val := Elt Ideal) (e' := .bf16) pb (Rect.unit ![0, 768] ![256, 768] inb_S256x6144_S256x768_0_768)) (View.ld (Val := Elt Ideal) (e' := .bf16) kv (Rect.unit ![0, 576] ![768, 64] inb_S768x1024_S768x64_0_576))) (View.ld (Val := Elt Ideal) (e' := .f32) acc (Rect.unit ![1, 0, 0] ![1, 256, 768] inb_S8x256x768_S1x256x768_1_0_0))⟩ ::
    ⟨Rect.unit ![0, 0, 0] ![1, 256, 768] inb_S8x256x768_S1x256x768_0_0_0, k0_pay18 dO (View.ld (Val := Elt Ideal) (e' := .bf16) pb (Rect.unit ![0, 0] ![256, 768] inb_S256x6144_S256x768_0_0)) (View.ld (Val := Elt Ideal) (e' := .bf16) kv (Rect.unit ![0, 512] ![768, 64] inb_S768x1024_S768x64_0_512)) (View.ld (Val := Elt Ideal) (e' := .f32) acc (Rect.unit ![0, 0, 0] ![1, 256, 768] inb_S8x256x768_S1x256x768_0_0_0))⟩ :: L)
    = View.canon ((List.ofFn fun k : Fin 8 => (⟨Rect.unit ![(back k).val, 0, 0] S1x256x768.size (acc_inb (back k)),
      accH dO pb kv acc (back k)⟩ : View.Piece (Elt Ideal) S8x256x768 .f32)) ++ L) := by
  rfl

theorem acc_at (acc : FVec Ideal S8x256x768 .f32) (L : List (View.Piece (Elt Ideal) S8x256x768 .f32)) (i : Fin 8) (r : Fin 256) (n : Fin 768) :
    View.canon ((List.ofFn fun k : Fin 8 => (⟨Rect.unit ![(back k).val, 0, 0] S1x256x768.size (acc_inb (back k)),
      accH dO pb kv acc (back k)⟩ : View.Piece (Elt Ideal) S8x256x768 .f32)) ++ L) (ix3 i r n)
    = acc (ix3 i r n) + dscoreH dO pb kv i (ix2 r n) := by
  refine View.canon_append_of_pieces (accG dO pb kv acc) L _ ?_ (ix3 i r n) ?_
  · intro p hp x
    obtain ⟨k, rfl⟩ := List.mem_ofFn.mp hp
    have hx : x = ix3 (0 : Fin 1) (x 1) (x 2) := by
      funext a; apply Fin.ext; fin_cases a
      · show (x 0).val = 0; have : (x 0).val < 1 := (x 0).isLt; omega
      · rfl
      · rfl
    have he : (Rect.unit (s := S8x256x768) ![(back k).val, 0, 0] S1x256x768.size (acc_inb (back k))).emb x = ix3 (back k) (x 1) (x 2) := by
      funext a; apply Fin.ext; fin_cases a
      · show (back k).val + 1 * (x 0).val = (back k).val; have : (x 0).val < 1 := (x 0).isLt; omega
      · show 0 + 1 * (x 1).val = (x 1).val; omega
      · show 0 + 1 * (x 2).val = (x 2).val; omega
    show accH dO pb kv acc (back k) x = accG dO pb kv acc _
    rw [he]
    exact (congrArg _ hx).trans (accH_at dO pb kv acc (back k) (x 1) (x 2))
  · refine ⟨_, List.mem_ofFn.mpr ⟨back i, rfl⟩, (Rect.mem_set_unit (inb := acc_inb (back (back i)))).mpr fun a => ?_⟩
    have hb : (back (back i)).val = i.val := by unfold back; show 7 - (7 - i.val) = i.val; omega
    fin_cases a
    · show (back (back i)).val ≤ i.val ∧ i.val < (back (back i)).val + 1; omega
    · show 0 ≤ r.val ∧ r.val < 0 + 256; omega
    · show 0 ≤ n.val ∧ n.val < 0 + 768; omega

end Whole

variable (m : (ℓ : Loc nD τ sig) → Buf (Elt Ideal) ℓ) (c : Dev nD) (t : Fin cfg0.N)

def qT : FVec Ideal S256x512 .bf16 := k0_pay14 (View.ld (Val := Elt Ideal) (e' := .f32) (iblk m c 0 t) (Rect.unit ![0, 0] ![256, 512] inb_S256x1536_S256x512_0_0))
def oT : FVec Ideal S256x512 .bf16 := k0_pay15 (View.ld (Val := Elt Ideal) (e' := .f32) (iblk m c 1 t) (Rect.unit ![0, 0] ![256, 512] inb_S256x512_S256x512_0_0))
def kvT : FVec Ideal S768x1024 .bf16 := stack
  (k0_pay11 (grid0.coords t) (View.ld (Val := Elt Ideal) (e' := .f32) (iblk m c 4 t) (Rect.unit ![0, 512] ![256, 1024] inb_S256x1536_S256x1024_0_512)))
  (k0_pay12 (grid0.coords t) (View.ld (Val := Elt Ideal) (e' := .f32) (iblk m c 3 t) (Rect.unit ![0, 512] ![256, 1024] inb_S256x1536_S256x1024_0_512)))
  (k0_pay13 (View.ld (Val := Elt Ideal) (e' := .f32) (iblk m c 0 t) (Rect.unit ![0, 512] ![256, 1024] inb_S256x1536_S256x1024_0_512)))

theorem oT_eq : k0_pay15 (iblk m c 1 t) = oT m c t :=
  (congrArg _ (View.ld_unit_zero (S := S256x512) (by funext a; fin_cases a <;> rfl) _ _)).symm

theorem dq_of (h : t.val % 64 = 0) : (outsAt0 m c t.val t.isLt).1 = dqAll (oT m c t) (iblk m c 2 t) (kvT m c t) := by
  rw [outsAt0_A m c t h]; frame_open
  simp only []
  frame_out
  repeat rw [stack_read]
  exact (dq_heads (k0_pay15 (iblk m c 1 t)) (iblk m c 2 t) (kvT m c t)).trans (by rw [oT_eq])

theorem dq_of' (h : ¬ t.val % 64 = 0) : (outsAt0 m c t.val t.isLt).1 = dqAll (oT m c t) (iblk m c 2 t) (kvT m c t) := by
  rw [outsAt0_B m c t h]; frame_open
  simp only []
  frame_out
  repeat rw [stack_read]
  exact (dq_heads (k0_pay15 (iblk m c 1 t)) (iblk m c 2 t) (kvT m c t)).trans (by rw [oT_eq])

end Cert.AttnIdeal
-- ==== Proof.Attn.Outs.lean ====
module
public import proofs.«01_k».proof.Proof.Attn.Point
import Idealize.ShloMosaic.Lib.Pipeline.ReadBack
/-! The values one point of the call stores, as the heads of its block and what the points before kept. -/

@[expose] public section
set_option maxRecDepth 16384
noncomputable section
namespace Cert.AttnIdeal
open Idealize.ShloMosaic Idealize.ShloMosaic.TcCoe Idealize.ShloMosaic.Tactic Cert.Reals
open Gen AttnStack
variable (m : (ℓ : Loc nD τ sig) → Buf (Elt Ideal) ℓ) (c : Dev nD) (t : Fin cfg0.N)
theorem out_B (h : ¬ t.val % 64 = 0) : (outsAt0 m c t.val t.isLt).2.1
    = k0_pay4 (dkvAll (qT m c t) (oT m c t) (iblk m c 2 t) (kvT m c t)) (outsAt0 m c (t.val - 1) (by have := t.isLt; omega)).2.2.2.2 := by
  rw [outsAt0_B m c t h]; frame_open
  simp only []
  frame_out
  repeat rw [stack_read]
  repeat rw [Memref.IsWhole.read_unread]
  rw [read_unread_whole]
  exact congrArg (fun x => k0_pay4 x _) (dkv_heads (qT m c t) (oT m c t) (iblk m c 2 t) (kvT m c t))

theorem two_B (h : ¬ t.val % 64 = 0) : (outsAt0 m c t.val t.isLt).2.2.2.2
    = k0_pay5 (dkvAll (qT m c t) (oT m c t) (iblk m c 2 t) (kvT m c t)) (outsAt0 m c (t.val - 1) (by have := t.isLt; omega)).2.2.2.1 := by
  rw [outsAt0_B m c t h]; frame_open
  simp only []
  frame_out
  repeat rw [stack_read]
  repeat rw [Memref.IsWhole.read_unread]
  rw [read_unread_whole]
  exact congrArg (fun x => k0_pay5 x _) (dkv_heads (qT m c t) (oT m c t) (iblk m c 2 t) (kvT m c t))

theorem one_B (h : ¬ t.val % 64 = 0) : (outsAt0 m c t.val t.isLt).2.2.2.1
    = k0_pay6 (dkvAll (qT m c t) (oT m c t) (iblk m c 2 t) (kvT m c t)) := by
  rw [outsAt0_B m c t h]; frame_open
  simp only []
  frame_out
  repeat rw [stack_read]
  repeat rw [Memref.IsWhole.read_unread]
  exact congrArg (fun x => k0_pay6 x) (dkv_heads (qT m c t) (oT m c t) (iblk m c 2 t) (kvT m c t))

theorem out_A (h : t.val % 64 = 0) : (outsAt0 m c t.val t.isLt).2.1
    = k0_pay4 (dkvAll (qT m c t) (oT m c t) (iblk m c 2 t) (kvT m c t)) (k0_pay10 (F := Ideal)) := by
  rw [outsAt0_A m c t h]; frame_open
  simp only []
  frame_out
  repeat rw [stack_read]
  repeat rw [Memref.IsWhole.read_unread]
  exact congrArg (fun x => k0_pay4 x _) (dkv_heads (qT m c t) (oT m c t) (iblk m c 2 t) (kvT m c t))

theorem two_A (h : t.val % 64 = 0) : (outsAt0 m c t.val t.isLt).2.2.2.2
    = k0_pay5 (dkvAll (qT m c t) (oT m c t) (iblk m c 2 t) (kvT m c t)) (k0_pay9 (F := Ideal)) := by
  rw [outsAt0_A m c t h]; frame_open
  simp only []
  frame_out
  repeat rw [stack_read]
  repeat rw [Memref.IsWhole.read_unread]
  exact congrArg (fun x => k0_pay5 x _) (dkv_heads (qT m c t) (oT m c t) (iblk m c 2 t) (kvT m c t))

theorem one_A (h : t.val % 64 = 0) : (outsAt0 m c t.val t.isLt).2.2.2.1
    = k0_pay6 (dkvAll (qT m c t) (oT m c t) (iblk m c 2 t) (kvT m c t)) := by
  rw [outsAt0_A m c t h]; frame_open
  simp only []
  frame_out
  repeat rw [stack_read]
  repeat rw [Memref.IsWhole.read_unread]
  exact congrArg (fun x => k0_pay6 x) (dkv_heads (qT m c t) (oT m c t) (iblk m c 2 t) (kvT m c t))

theorem acc_B (h : ¬ t.val % 64 = 0) (i : Fin 8) (r : Fin 256) (n : Fin 768) : (outsAt0 m c t.val t.isLt).2.2.1 (ix3 i r n)
    = (outsAt0 m c (t.val - 1) (by have := t.isLt; omega)).2.2.1 (ix3 i r n)
      + dscoreH (oT m c t) (iblk m c 2 t) (kvT m c t) i (ix2 r n) := by
  rw [outsAt0_B m c t h]; frame_open
  simp only []
  frame_out
  repeat rw [stack_read]
  exact (congrFun (acc_heads (k0_pay15 (iblk m c 1 t)) (iblk m c 2 t) (kvT m c t) _ []) _).trans ((acc_at ..).trans (by rw [oT_eq]))

theorem acc_A (h : t.val % 64 = 0) (i : Fin 8) (r : Fin 256) (n : Fin 768) : (outsAt0 m c t.val t.isLt).2.2.1 (ix3 i r n)
    = k0_pay7 (F := Ideal) (ix3 i r n) + dscoreH (oT m c t) (iblk m c 2 t) (kvT m c t) i (ix2 r n) := by
  rw [outsAt0_A m c t h]; frame_open
  simp (disch := decide) only [↓ View.readCov_skip, ↓ View.readCov_cons_toLoadRect, ↓ View.readCov_fill]
  frame_out
  repeat rw [stack_read]
  exact (congrFun (acc_heads (k0_pay15 (iblk m c 1 t)) (iblk m c 2 t) (kvT m c t) (k0_pay7 (F := Ideal)) _) _).trans
    ((acc_at ..).trans (by rw [oT_eq]))

end Cert.AttnIdeal
-- ==== Proof.Attn.Window.lean ====
module
public import proofs.«01_k».proof.Proof.Attn.Spec

/-! A block of 256 queries sees a window of 768 keys: sums over the window are sums over all keys, and what a key
    receives comes from its own block of queries and the two blocks after it. -/

@[expose] public section

set_option maxRecDepth 16384

noncomputable section

namespace Cert.AttnWin

open Cert.AttnSpec Cert.Reals

/-- Place `n` of the window of block `b`: 0 before the first key. -/
def win (f : Fin 16384 → ℝ) (b : Fin 64) (n : Fin 768) : ℝ :=
  if h : 512 ≤ 256 * b.val + n.val then f ⟨256 * b.val + n.val - 512, by omega⟩ else 0

theorem win_mul (f g : Fin 16384 → ℝ) (b : Fin 64) (n : Fin 768) : win f b n * win g b n = win (fun y => f y * g y) b n := by
  unfold win; split <;> simp

theorem win_scale (f : Fin 16384 → ℝ) (c : ℝ) (b : Fin 64) (n : Fin 768) : win f b n * c = win (fun y => f y * c) b n := by
  unfold win; split <;> simp

theorem win_sum {ι : Type} [Fintype ι] (f : ι → Fin 16384 → ℝ) (b : Fin 64) (n : Fin 768) :
    ∑ i, win (f i) b n = win (fun y => ∑ i, f i y) b n := by
  unfold win; split <;> simp

theorem sum_win (f : Fin 16384 → ℝ) (b : Fin 64) (r : Fin 256) (h0 : ∀ y, ¬ near (xi b r) y → f y = 0) :
    ∑ n, win f b n = ∑ y, f y := by
  have e1 : ∑ n, win f b n = ∑ n ∈ Finset.univ.filter (fun n : Fin 768 => 512 ≤ 256 * b.val + n.val), win f b n := by
    symm
    refine Finset.sum_filter_of_ne fun n _ hn => ?_
    by_contra hc
    exact hn (by unfold win; rw [dif_neg hc])
  rw [e1]
  refine Finset.sum_of_injOn (fun n : Fin 768 => (⟨256 * b.val + n.val - 512, by omega⟩ : Fin 16384)) ?_ (fun _ _ => Finset.mem_coe.mpr (Finset.mem_univ _)) ?_ ?_
  · intro n hn n' hn' h
    have h1 : 512 ≤ 256 * b.val + n.val := by simpa using hn
    have h2 : 512 ≤ 256 * b.val + n'.val := by simpa using hn'
    have h3 := congrArg Fin.val h
    simp only at h3
    exact Fin.ext (by omega)
  · intro y _ hy
    refine h0 y fun hnear => hy ?_
    have hr := r.isLt
    have hx : (xi b r).val = 256 * b.val + r.val := rfl
    obtain ⟨ha, hb⟩ := hnear
    rw [hx] at ha hb
    refine ⟨⟨y.val + 512 - 256 * b.val, by omega⟩, ?_, ?_⟩
    · simp only [Finset.coe_filter, Finset.mem_univ, true_and, Set.mem_setOf_eq]; omega
    · exact Fin.ext (by simp only; omega)
  · intro n hn
    have h1 : 512 ≤ 256 * b.val + n.val := by simpa using hn
    unfold win; rw [dif_pos h1]

/-- What the queries of block `k` add to key `y`. -/
def part (T : Fin 16384 → Fin 16384 → ℝ) (k : ℕ) (y : Fin 16384) : ℝ := if h : k < 64 then ∑ r, T (xi ⟨k, h⟩ r) y else 0

theorem sum_blocks (f : Fin 16384 → ℝ) : ∑ x, f x = ∑ b, ∑ r, f (xi b r) :=
  (sum_rows (N := 16384) (n := 64) (k := 256) xi (by norm_num)
    (fun t r => by show 256 * t.val + r.val = t.val * 256 + r.val; omega) f).symm

theorem sum_parts (T : Fin 16384 → Fin 16384 → ℝ) (far : ∀ x y, ¬ near x y → T x y = 0) (b : Fin 64) (s : Fin 256) :
    ∑ x, T x (xi b s) = part T b.val (xi b s) + (part T (b.val + 1) (xi b s) + part T (b.val + 2) (xi b s)) := by
  have e1 : ∑ x, T x (xi b s) = ∑ k ∈ Finset.range 64, part T k (xi b s) := by
    rw [sum_blocks, ← Fin.sum_univ_eq_sum_range (fun k => part T k (xi b s)) 64]
    exact Finset.sum_congr rfl fun k _ => by unfold part; rw [dif_pos k.isLt]
  have zero : ∀ k, k ∉ ({b.val, b.val + 1, b.val + 2} : Finset ℕ) → part T k (xi b s) = 0 := by
    intro k hk
    simp only [Finset.mem_insert, Finset.mem_singleton, not_or] at hk
    unfold part
    split
    · rename_i h
      refine Finset.sum_eq_zero fun r _ => far _ _ fun hn => ?_
      obtain ⟨h1, h2⟩ := hn
      have e1 : (xi ⟨k, h⟩ r).val = 256 * k + r.val := rfl
      have e2 : (xi b s).val = 256 * b.val + s.val := rfl
      rw [e1, e2] at h1 h2
      have := r.isLt; have := s.isLt
      omega
    · rfl
  have e2 : ∑ k ∈ Finset.range 64, part T k (xi b s) = ∑ k ∈ Finset.range 66, part T k (xi b s) := by
    refine Finset.sum_subset (fun k hk => by simp only [Finset.mem_range] at hk ⊢; omega) fun k _ hk => ?_
    unfold part
    rw [dif_neg (by simpa using hk)]
  have e3 : ∑ k ∈ ({b.val, b.val + 1, b.val + 2} : Finset ℕ), part T k (xi b s) = ∑ k ∈ Finset.range 66, part T k (xi b s) := by
    refine Finset.sum_subset (fun k hk => ?_) fun k _ hk => zero k hk
    simp only [Finset.mem_insert, Finset.mem_singleton] at hk
    have := b.isLt
    simp only [Finset.mem_range]; omega
  rw [e1, e2, ← e3, Finset.sum_insert (by simp), Finset.sum_insert (by simp), Finset.sum_singleton]

end Cert.AttnWin
-- ==== Proof.Attn.Views.lean ====
module
public import proofs.«01_k».proof.Proof.Attn.Outs
public import proofs.«01_k».proof.Proof.Attn.Window

/-! What the windows of the call hold at each point, and one point's heads over them. -/

@[expose] public section

set_option maxRecDepth 16384

noncomputable section

namespace Cert.AttnIdeal

open Idealize.ShloMosaic Idealize.ShloMosaic.TcCoe Idealize.ShloMosaic.Tactic Cert.Reals
open Gen AttnSpec AttnWin AttnStack

variable {P : Fin 16384 → Fin 1536 → ℝ} {B : Fin 8 → Fin 320 → ℝ} {D : Fin 16384 → Fin 512 → ℝ}
  (m : (ℓ : Loc nD τ sig) → Buf (Elt Ideal) ℓ) (c : Dev nD)
  (hP : ∀ r l, V m c main_arg0 (ix2 r l) = (P r l : EReal)) (hD : ∀ r l, V m c main_arg2 (ix2 r l) = (D r l : EReal))
  (hS : ∀ b r (h : Fin 8) (n : Fin 768), V m c main_v82 (ix2 (xi b r) ⟨768 * h.val + n.val, prob_lt h n⟩)
    = (win (prob (qs P) (ks P) B h (xi b r)) b n : EReal))

/-- The block of queries of a point: the last comes first. -/
def bk (t : Fin cfg0.N) : Fin 64 := ⟨63 - t.val, by omega⟩

include hP in
theorem blk_0 (t : Fin cfg0.N) (r : Fin 256) (l : Fin 1536) : iblk m c 0 t (ix2 r l) = (P (xi (bk t) r) l : EReal) := by
  obtain ⟨e0, e1⟩ := (by decide +kernel : ∀ t : Fin cfg0.N, win0_0.index t 0 = 63 - t.val ∧ win0_0.index t 1 = 0) t
  rw [← hP]; blk_ext [iblk, e0, e1, xi, bk]
include hD in
theorem blk_1 (t : Fin cfg0.N) (r : Fin 256) (l : Fin 512) : iblk m c 1 t (ix2 r l) = (D (xi (bk t) r) l : EReal) := by
  obtain ⟨e0, e1⟩ := (by decide +kernel : ∀ t : Fin cfg0.N, win0_1.index t 0 = 63 - t.val ∧ win0_1.index t 1 = 0) t
  rw [← hD]; blk_ext [iblk, e0, e1, xi, bk]
include hS in
theorem blk_2 (t : Fin cfg0.N) (r : Fin 256) (h : Fin 8) (n : Fin 768) : iblk m c 2 t (ix2 r ⟨768 * h.val + n.val, prob_lt h n⟩)
    = (win (prob (qs P) (ks P) B h (xi (bk t) r)) (bk t) n : EReal) := by
  obtain ⟨e0, e1⟩ := (by decide +kernel : ∀ t : Fin cfg0.N, win0_2.index t 0 = 63 - t.val ∧ win0_2.index t 1 = 0) t
  rw [← hS]; blk_ext [iblk, e0, e1, xi, bk]
include hP in
theorem blk_3 (t : Fin cfg0.N) (r : Fin 256) (l : Fin 1536) :
    iblk m c 3 t (ix2 r l) = (P (xi ⟨62 - t.val, by omega⟩ r) l : EReal) := by
  obtain ⟨e0, e1⟩ := (by decide +kernel : ∀ t : Fin cfg0.N, win0_3.index t 0 = 62 - t.val ∧ win0_3.index t 1 = 0) t
  rw [← hP]; blk_ext [iblk, e0, e1, xi]
include hP in
theorem blk_4 (t : Fin cfg0.N) (r : Fin 256) (l : Fin 1536) :
    iblk m c 4 t (ix2 r l) = (P (xi ⟨61 - t.val, by omega⟩ r) l : EReal) := by
  obtain ⟨e0, e1⟩ := (by decide +kernel : ∀ t : Fin cfg0.N, win0_4.index t 0 = 61 - t.val ∧ win0_4.index t 1 = 0) t
  rw [← hP]; blk_ext [iblk, e0, e1, xi]

include hP in
theorem qT_at (t : Fin cfg0.N) (r : Fin 256) (h : Fin 8) (d : Fin 64) :
    qT m c t (ix2 r ⟨64 * h.val + d.val, head_lt h d⟩) = (qs P (xi (bk t) r) h d * (1 / 8) : ℝ) := by
  have h0 := blk_0 m c hP t r ⟨64 * h.val + d.val, by omega⟩
  pointwise [qT, k0_pay14]
  rw [h0, AttnSoft.lit_eighth, ← EReal.coe_mul]
  unfold qs
  simp only [Nat.mul_comm]

include hD in
theorem oT_at (t : Fin cfg0.N) (r : Fin 256) (h : Fin 8) (d : Fin 64) :
    oT m c t (ix2 r ⟨64 * h.val + d.val, head_lt h d⟩) = (os D (xi (bk t) r) h d : EReal) := by
  have h0 := blk_1 m c hD t r ⟨64 * h.val + d.val, by omega⟩
  pointwise [oT, k0_pay15]
  rw [h0]
  unfold os
  simp only [Nat.mul_comm]

theorem above_1 : ∀ t : Fin cfg0.N, Scalar.cmpi .sgt (Scalar.subi 63#32 (BitVec.ofNat 32 (grid0.coords t 0).val)) 1#32
    = if t.val < 62 then 1#1 else 0#1 := by decide +kernel
theorem above_0 : ∀ t : Fin cfg0.N, Scalar.cmpi .sgt (Scalar.subi 63#32 (BitVec.ofNat 32 (grid0.coords t 0).val)) 0#32
    = if t.val < 63 then 1#1 else 0#1 := by decide +kernel

include hP in
theorem low_at (t : Fin cfg0.N) (r : Fin 256) (l : Fin 1024) :
    k0_pay11 (grid0.coords t) (View.ld (Val := Elt Ideal) (e' := .f32) (iblk m c 4 t) (Rect.unit ![0, 512] ![256, 1024] inb_S256x1536_S256x1024_0_512))
      (ix2 r l) = (if t.val < 62 then (P (xi ⟨61 - t.val, by omega⟩ r) ⟨512 + l.val, by omega⟩) else 0 : ℝ) := by
  have h0 := blk_4 m c hP t r ⟨512 + l.val, by omega⟩
  unfold k0_pay11
  rw [above_1 t]
  split
  · pointwise
    exact h0
  · pointwise
    rfl

include hP in
theorem mid_at (t : Fin cfg0.N) (r : Fin 256) (l : Fin 1024) :
    k0_pay12 (grid0.coords t) (View.ld (Val := Elt Ideal) (e' := .f32) (iblk m c 3 t) (Rect.unit ![0, 512] ![256, 1024] inb_S256x1536_S256x1024_0_512))
      (ix2 r l) = (if t.val < 63 then (P (xi ⟨62 - t.val, by omega⟩ r) ⟨512 + l.val, by omega⟩) else 0 : ℝ) := by
  have h0 := blk_3 m c hP t r ⟨512 + l.val, by omega⟩
  unfold k0_pay12
  rw [above_0 t]
  split
  · pointwise
    exact h0
  · pointwise
    rfl

include hP in
theorem own_at (t : Fin cfg0.N) (r : Fin 256) (l : Fin 1024) :
    k0_pay13 (View.ld (Val := Elt Ideal) (e' := .f32) (iblk m c 0 t) (Rect.unit ![0, 512] ![256, 1024] inb_S256x1536_S256x1024_0_512))
      (ix2 r l) = (P (xi (bk t) r) ⟨512 + l.val, by omega⟩ : EReal) := by
  have h0 := blk_0 m c hP t r ⟨512 + l.val, by omega⟩
  pointwise [k0_pay13]
  exact h0

include hP in
theorem kvT_at (t : Fin cfg0.N) (n : Fin 768) (j : Fin 1024) :
    kvT m c t (ix2 n j) = (win (fun y => P y ⟨512 + j.val, by omega⟩) (bk t) n : EReal) := by
  have ht : t.val < 64 := t.isLt
  have hb : (bk t).val = 63 - t.val := rfl
  have key : ∀ (b : Fin 64) (r : Fin 256), 256 * b.val + r.val + 512 = 256 * (63 - t.val) + n.val →
      win (fun y => P y ⟨512 + j.val, by omega⟩) (bk t) n = P (xi b r) ⟨512 + j.val, by omega⟩ := by
    intro b r h
    unfold win
    rw [dif_pos (show 512 ≤ 256 * (bk t).val + n.val by omega)]
    refine congrArg (fun y => P y _) (Fin.ext ?_)
    show 256 * (63 - t.val) + n.val - 512 = 256 * b.val + r.val
    omega
  have none : 256 * (63 - t.val) + n.val < 512 → win (fun y => P y ⟨512 + j.val, by omega⟩) (bk t) n = 0 := by
    intro h
    unfold win
    rw [dif_neg (show ¬ 512 ≤ 256 * (bk t).val + n.val by omega)]
  unfold kvT stack
  by_cases h0 : n.val < 256
  · rw [dif_pos (show ((ix2 n j : S768x1024.Idx) 0).val < 256 from h0)]
    refine (low_at m c hP t ⟨n.val, h0⟩ j).trans (congrArg _ ?_)
    split
    · exact (key _ _ (by show 256 * (61 - t.val) + n.val + 512 = _; omega)).symm
    · exact (none (by omega)).symm
  by_cases h1 : n.val < 512
  · rw [dif_neg (show ¬ ((ix2 n j : S768x1024.Idx) 0).val < 256 from h0), dif_pos (show ((ix2 n j : S768x1024.Idx) 0).val < 512 from h1)]
    refine (mid_at m c hP t ⟨n.val - 256, by omega⟩ j).trans (congrArg _ ?_)
    split
    · exact (key _ _ (by show 256 * (62 - t.val) + (n.val - 256) + 512 = _; omega)).symm
    · exact (none (by omega)).symm
  · rw [dif_neg (show ¬ ((ix2 n j : S768x1024.Idx) 0).val < 256 from h0), dif_neg (show ¬ ((ix2 n j : S768x1024.Idx) 0).val < 512 from h1)]
    refine (own_at m c hP t ⟨n.val - 512, by omega⟩ j).trans (congrArg _ ?_)
    exact (key _ _ (by show 256 * (63 - t.val) + (n.val - 512) + 512 = _; omega)).symm

include hP in
theorem key_at (t : Fin cfg0.N) (n : Fin 768) (h : Fin 8) (d : Fin 64) :
    kvT m c t (ix2 n ⟨64 * h.val + d.val, key_lt h d⟩) = (win (fun y => ks P y h d) (bk t) n : EReal) := by
  rw [kvT_at m c hP]
  unfold ks
  simp only [Nat.mul_comm]

include hP in
theorem value_at (t : Fin cfg0.N) (n : Fin 768) (h : Fin 8) (d : Fin 64) :
    kvT m c t (ix2 n ⟨512 + 64 * h.val + d.val, value_lt h d⟩) = (win (fun y => vs P y h d) (bk t) n : EReal) := by
  rw [kvT_at m c hP]
  refine congrArg (fun f => ((win f (bk t) n : ℝ) : EReal)) (funext fun y => congrArg (P y) (Fin.ext ?_))
  show 512 + (512 + 64 * h.val + d.val) = 1024 + (h.val * 64 + d.val)
  omega

section Heads

variable (P) (B) (D)

/-- The gradient of a score within a window is that of the whole row of keys. -/
theorem dsR_win (b : Fin 64) (r : Fin 256) (h : Fin 8) (n : Fin 768) :
    dsR (fun r h d => os D (xi b r) h d) (fun n h d => win (fun y => vs P y h d) b n)
      (fun r h n => win (prob (qs P) (ks P) B h (xi b r)) b n) r h n
    = win (dscore (qs P) (ks P) (vs P) B (os D) h (xi b r)) b n := by
  have e : ∀ n, (∑ d, os D (xi b r) h d * win (fun y => vs P y h d) b n) = win (dprob (vs P) (os D) h (xi b r)) b n := by
    intro n
    simp only [mul_comm (os D (xi b r) h _), win_scale, win_sum]
    refine congrArg (fun f => win f b n) (funext fun y => Finset.sum_congr rfl fun d _ => mul_comm _ _)
  unfold dsR
  simp only [e, win_mul]
  rw [sum_win _ b r fun y hy => by rw [prob_far _ _ _ hy, mul_zero], mul_sub, win_mul, win_scale]
  unfold dscore win
  split
  · ring
  · ring

end Heads

end Cert.AttnIdeal
-- ==== Proof.Attn.Arrays.lean ====
module
public import proofs.«01_k».proof.Proof.Attn.Views

/-! The arrays that the call leaves, from the arrays it is entered with. -/

@[expose] public section

set_option maxRecDepth 16384

noncomputable section

namespace Cert.AttnIdeal

open Idealize.ShloMosaic Idealize.ShloMosaic.TcCoe Idealize.ShloMosaic.Tactic Cert.Reals
open Gen AttnSpec AttnWin

section Sums

variable (P : Fin 16384 → Fin 1536 → ℝ) (B : Fin 8 → Fin 320 → ℝ) (D : Fin 16384 → Fin 512 → ℝ)

/-- What query `x` adds to column `j` of the gradients of key `y` and its value. -/
def toKey (j : Fin 1024) (x y : Fin 16384) : ℝ :=
  if j.val < 512 then dscore (qs P) (ks P) (vs P) B (os D) ⟨j.val / 64 % 8, by omega⟩ x y * (qs P x ⟨j.val / 64 % 8, by omega⟩ ⟨j.val % 64, by omega⟩ * (1 / 8))
  else prob (qs P) (ks P) B ⟨j.val / 64 % 8, by omega⟩ x y * os D x ⟨j.val / 64 % 8, by omega⟩ ⟨j.val % 64, by omega⟩

theorem sum_toKey (j : Fin 1024) (y : Fin 16384) : ∑ x, toKey P B D j x y = dkv (qs P) (ks P) (vs P) B (os D) y j := by
  unfold toKey dkv
  split
  · rfl
  · rfl

theorem toKey_far (j : Fin 1024) (x y : Fin 16384) (h : ¬ near x y) : toKey P B D j x y = 0 := by
  unfold toKey
  split
  · rw [dscore_far _ _ _ _ _ h, zero_mul]
  · rw [prob_far _ _ _ h, zero_mul]

/-- What block `b` adds to the rows of its window. -/
def adds (b : Fin 64) (n : Fin 768) (j : Fin 1024) : ℝ := win (part (toKey P B D j) b.val) b n

theorem win_own (f : Fin 16384 → ℝ) (b : Fin 64) (s : Fin 256) : win f b ⟨512 + s.val, by omega⟩ = f (xi b s) := by
  unfold win
  rw [dif_pos (show 512 ≤ 256 * b.val + (512 + s.val) by omega)]
  exact congrArg f (Fin.ext (by show 256 * b.val + (512 + s.val) - 512 = 256 * b.val + s.val; omega))

theorem win_mid (f : Fin 16384 → ℝ) (b b' : Fin 64) (h : b'.val = b.val + 1) (s : Fin 256) :
    win f b' ⟨256 + s.val, by omega⟩ = f (xi b s) := by
  unfold win
  rw [dif_pos (show 512 ≤ 256 * b'.val + (256 + s.val) by omega)]
  exact congrArg f (Fin.ext (by show 256 * b'.val + (256 + s.val) - 512 = 256 * b.val + s.val; omega))

theorem win_low (f : Fin 16384 → ℝ) (b b' : Fin 64) (h : b'.val = b.val + 2) (s : Fin 256) :
    win f b' ⟨s.val, by omega⟩ = f (xi b s) := by
  unfold win
  rw [dif_pos (show 512 ≤ 256 * b'.val + s.val by omega)]
  exact congrArg f (Fin.ext (by show 256 * b'.val + s.val - 512 = 256 * b.val + s.val; omega))

end Sums

theorem dqAll_at (dO : FVec Ideal S256x512 .bf16) (pb : FVec Ideal S256x6144 .bf16) (kv : FVec Ideal S768x1024 .bf16) (r : Fin 256) (j : Fin 512) :
    dqAll dO pb kv (ix2 r j) = dqH dO pb kv ⟨j.val / 64, by omega⟩ (ix2 r ⟨j.val % 64, by omega⟩) :=
  concatenate_ofFn_apply (t := S256x512) 1 (fun h : Fin 8 => dqH dO pb kv h) concatenates_S256x64_S256x64_S256x64_S256x64_S256x64_S256x64_S256x64_S256x64_S256x512_d1 rfl 64 rfl (ix2 r j) ⟨j.val / 64, by omega⟩ rfl
    (ix2 r ⟨j.val % 64, by omega⟩) rfl (fun a ha => by fin_cases a; exacts [rfl, absurd rfl ha])

theorem dkvAll_at (q dO : FVec Ideal S256x512 .bf16) (pb : FVec Ideal S256x6144 .bf16) (kv : FVec Ideal S768x1024 .bf16) (n : Fin 768) (j : Fin 1024) :
    dkvAll q dO pb kv (ix2 n j) = dkvH q dO pb kv ⟨j.val / 64, by omega⟩ (ix2 n ⟨j.val % 64, by omega⟩) :=
  concatenate_ofFn_apply (t := S768x1024) 1 (fun h : Fin 16 => dkvH q dO pb kv h)
    concatenates_S768x64_S768x64_S768x64_S768x64_S768x64_S768x64_S768x64_S768x64_S768x64_S768x64_S768x64_S768x64_S768x64_S768x64_S768x64_S768x64_S768x1024_d1 rfl 64 rfl (ix2 n j) ⟨j.val / 64, by omega⟩ rfl
    (ix2 n ⟨j.val % 64, by omega⟩) rfl (fun a ha => by fin_cases a; exacts [rfl, absurd rfl ha])

variable {P : Fin 16384 → Fin 1536 → ℝ} {B : Fin 8 → Fin 320 → ℝ} {D : Fin 16384 → Fin 512 → ℝ}
  (m : (ℓ : Loc nD τ sig) → Buf (Elt Ideal) ℓ) (c : Dev nD)
  (hP : ∀ r l, V m c main_arg0 (ix2 r l) = (P r l : EReal)) (hD : ∀ r l, V m c main_arg2 (ix2 r l) = (D r l : EReal))
  (hS : ∀ b r (h : Fin 8) (n : Fin 768), V m c main_v82 (ix2 (xi b r) ⟨768 * h.val + n.val, prob_lt h n⟩)
    = (win (prob (qs P) (ks P) B h (xi b r)) b n : EReal))

include hP hD hS in
theorem score_pt (t : Fin cfg0.N) (h : Fin 8) (r : Fin 256) (n : Fin 768) :
    dscoreH (oT m c t) (iblk m c 2 t) (kvT m c t) h (ix2 r n)
      = (win (dscore (qs P) (ks P) (vs P) B (os D) h (xi (bk t) r)) (bk t) n : EReal) := by
  rw [← dsR_win P B D (bk t) r h n]
  exact dscoreH_at (oT_at m c hD t) (blk_2 m c hS t) (value_at m c hP t) h r n

include hP hD hS in
theorem dq_pt (t : Fin cfg0.N) (r : Fin 256) (j : Fin 512) :
    (outsAt0 m c t.val t.isLt).1 (ix2 r j)
      = (dq (qs P) (ks P) (vs P) B (os D) (xi (bk t) r) ⟨j.val / 64, by omega⟩ ⟨j.val % 64, by omega⟩ : EReal) := by
  have e : (outsAt0 m c t.val t.isLt).1 = dqAll (oT m c t) (iblk m c 2 t) (kvT m c t) := by
    by_cases h : t.val % 64 = 0
    · exact dq_of m c t h
    · exact dq_of' m c t h
  rw [e, dqAll_at, dqH_at (oT_at m c hD t) (blk_2 m c hS t) (key_at m c hP t) (value_at m c hP t)]
  refine congrArg Real.toEReal ?_
  simp only [dsR_win, win_mul]
  rw [sum_win _ _ r fun y hy => by rw [dscore_far _ _ _ _ _ hy, zero_mul]]
  rfl

include hP hD hS in
theorem dkv_pt (t : Fin cfg0.N) (n : Fin 768) (j : Fin 1024) :
    dkvAll (qT m c t) (oT m c t) (iblk m c 2 t) (kvT m c t) (ix2 n j) = (adds P B D (bk t) n j : EReal) := by
  have hb : ∀ y, part (toKey P B D j) (bk t).val y = ∑ r, toKey P B D j (xi (bk t) r) y := fun y => dif_pos (bk t).isLt
  have hj : j.val / 64 < 16 := by omega
  rw [dkvAll_at]
  unfold dkvH adds
  rw [show part (toKey P B D j) (bk t).val = fun y => ∑ r, toKey P B D j (xi (bk t) r) y from funext hb]
  by_cases h : j.val < 512
  · have e : (⟨j.val / 64, by omega⟩ : Fin 8) = ⟨j.val / 64 % 8, by omega⟩ := Fin.ext (by simp only; omega)
    rw [dif_pos (show j.val / 64 < 8 by omega), dkH_at (qT_at m c hP t) (oT_at m c hD t) (blk_2 m c hS t) (value_at m c hP t)]
    simp only [dsR_win, win_scale, win_sum, toKey, if_pos h, e]
  · have e : (⟨j.val / 64 - 8, by omega⟩ : Fin 8) = ⟨j.val / 64 % 8, by omega⟩ := Fin.ext (by simp only; omega)
    rw [dif_neg (show ¬ j.val / 64 < 8 by omega), dvH_at (oT_at m c hD t) (blk_2 m c hS t)]
    simp only [win_scale, win_sum, toKey, if_neg h, e]

theorem pay6_at (X : FVec Ideal S768x1024 .f32) (s : Fin 256) (j : Fin 1024) : k0_pay6 X (ix2 s j) = X (ix2 ⟨s.val, by omega⟩ j) := by
  pointwise [k0_pay6]
theorem pay5_at (X : FVec Ideal S768x1024 .f32) (Y : FVec Ideal S256x1024 .f32) (s : Fin 256) (j : Fin 1024) :
    k0_pay5 X Y (ix2 s j) = X (ix2 ⟨256 + s.val, by omega⟩ j) + Y (ix2 s j) := by
  pointwise [k0_pay5]
theorem pay4_at (X : FVec Ideal S768x1024 .f32) (Y : FVec Ideal S256x1024 .f32) (s : Fin 256) (j : Fin 1024) :
    k0_pay4 X Y (ix2 s j) = X (ix2 ⟨512 + s.val, by omega⟩ j) + Y (ix2 s j) := by
  pointwise [k0_pay4]
theorem pay9_at (s : Fin 256) (j : Fin 1024) : k0_pay9 (F := Ideal) (ix2 s j) = 0 := by pointwise [k0_pay9]
theorem pay10_at (s : Fin 256) (j : Fin 1024) : k0_pay10 (F := Ideal) (ix2 s j) = 0 := by pointwise [k0_pay10]
theorem pay7_at (h : Fin 8) (r : Fin 256) (n : Fin 768) : k0_pay7 (F := Ideal) (ix3 h r n) = 0 := by pointwise [k0_pay7]

include hP hD hS in
theorem one_pt (t : Fin cfg0.N) (s : Fin 256) (j : Fin 1024) :
    (outsAt0 m c t.val t.isLt).2.2.2.1 (ix2 s j) = (adds P B D (bk t) ⟨s.val, by omega⟩ j : EReal) := by
  have e : (outsAt0 m c t.val t.isLt).2.2.2.1 = k0_pay6 (dkvAll (qT m c t) (oT m c t) (iblk m c 2 t) (kvT m c t)) := by
    by_cases h : t.val % 64 = 0
    · exact one_A m c t h
    · exact one_B m c t h
  rw [e, pay6_at, dkv_pt m c hP hD hS]

include hP hD hS in
theorem two_pt_first (t : Fin cfg0.N) (h : t.val % 64 = 0) (s : Fin 256) (j : Fin 1024) :
    (outsAt0 m c t.val t.isLt).2.2.2.2 (ix2 s j) = (adds P B D (bk t) ⟨256 + s.val, by omega⟩ j : EReal) := by
  rw [two_A m c t h, pay5_at, dkv_pt m c hP hD hS, pay9_at, add_zero]

include hP hD hS in
theorem two_pt (t : Fin cfg0.N) (h : ¬ t.val % 64 = 0) (s : Fin 256) (j : Fin 1024) :
    (outsAt0 m c t.val t.isLt).2.2.2.2 (ix2 s j) = (adds P B D (bk t) ⟨256 + s.val, by omega⟩ j
      + adds P B D (bk ⟨t.val - 1, by have := t.isLt; omega⟩) ⟨s.val, by omega⟩ j : ℝ) := by
  rw [two_B m c t h, pay5_at, dkv_pt m c hP hD hS, one_pt m c hP hD hS ⟨t.val - 1, by have := t.isLt; omega⟩, EReal.coe_add]

include hP hD hS in
theorem out_pt (t : Fin cfg0.N) (s : Fin 256) (j : Fin 1024) :
    (outsAt0 m c t.val t.isLt).2.1 (ix2 s j) = (dkv (qs P) (ks P) (vs P) B (os D) (xi (bk t) s) j : EReal) := by
  have ht : t.val < 64 := t.isLt
  have hb : (bk t).val = 63 - t.val := rfl
  have over : ∀ k y, 64 ≤ k → part (toKey P B D j) k y = 0 := fun k y hk => dif_neg (by omega)
  rw [← sum_toKey, sum_parts _ (toKey_far P B D j)]
  by_cases h : t.val % 64 = 0
  · rw [out_A m c t h, pay4_at, dkv_pt m c hP hD hS, pay10_at, add_zero, over ((bk t).val + 1) _ (by omega), over ((bk t).val + 2) _ (by omega), add_zero, add_zero]
    exact congrArg Real.toEReal (win_own _ _ s)
  rw [out_B m c t h, pay4_at, dkv_pt m c hP hD hS]
  have e0 : adds P B D (bk t) ⟨512 + s.val, by omega⟩ j = part (toKey P B D j) (bk t).val (xi (bk t) s) := win_own _ _ s
  have e1 : adds P B D (bk ⟨t.val - 1, by omega⟩) ⟨256 + s.val, by omega⟩ j = part (toKey P B D j) ((bk t).val + 1) (xi (bk t) s) := by
    have hb1 : (bk ⟨t.val - 1, by omega⟩).val = (bk t).val + 1 := by show 63 - (t.val - 1) = 63 - t.val + 1; omega
    exact (win_mid _ _ _ hb1 s).trans (by rw [hb1])
  by_cases h1 : (t.val - 1) % 64 = 0
  · rw [two_pt_first m c hP hD hS ⟨t.val - 1, by omega⟩ h1, over ((bk t).val + 2) _ (by omega), add_zero, e0, e1, ← EReal.coe_add]
  · have e2 : adds P B D (bk ⟨t.val - 1 - 1, by omega⟩) ⟨s.val, by omega⟩ j = part (toKey P B D j) ((bk t).val + 2) (xi (bk t) s) := by
      have hb2 : (bk ⟨t.val - 1 - 1, by omega⟩).val = (bk t).val + 2 := by show 63 - (t.val - 1 - 1) = 63 - t.val + 2; omega
      exact (win_low _ _ _ hb2 s).trans (by rw [hb2])
    rw [two_pt m c hP hD hS ⟨t.val - 1, by omega⟩ h1, e0, e1, e2, ← EReal.coe_add]

include hP hD hS in
theorem arr_dq : (dats (F := Ideal) m 0 c).arrAt 5 cfg0.N = fun i =>
    (dq (qs P) (ks P) (vs P) B (os D) (i 0) ⟨(i 1).val / 64, by have : (i 1).val < 512 := (i 1).isLt; omega⟩ ⟨(i 1).val % 64, by omega⟩ : EReal) := by
  refine (dats m 0 c).arrAt_eq_of_covers 5 _ (by decide +kernel) fun t hf y => ?_
  obtain ⟨e0, e1⟩ := (by decide +kernel : ∀ t : Fin cfg0.N, win0_5.index t 0 = 63 - t.val ∧ win0_5.index t 1 = 0) t
  obtain ⟨r, l, rfl⟩ : ∃ (r : Fin 256) (l : Fin 512), y = ix2 r l := ⟨y 0, y 1, eq_ix2 y⟩
  refine at_place (fun r (l : Fin 512) => (dq (qs P) (ks P) (vs P) B (os D) r ⟨l.val / 64, by omega⟩ ⟨l.val % 64, by omega⟩ : EReal))
    (r := xi (bk t) r) (l := l) ?_ ?_ ?_
  · blk_simp; rw [after0_5]
    exact dq_pt m c hP hD hS t r l
  · blk_simp [e0, e1, xi, bk]; show 256 * (63 - t.val) + r.val = (63 - t.val) * 256 + r.val; omega
  · blk_simp [e0, e1, xi, bk]

include hP hD hS in
theorem arr_dkv : (dats (F := Ideal) m 0 c).arrAt 6 cfg0.N = fun i => (dkv (qs P) (ks P) (vs P) B (os D) (i 0) (i 1) : EReal) := by
  refine (dats m 0 c).arrAt_eq_of_covers 6 _ (by decide +kernel) fun t hf y => ?_
  obtain ⟨e0, e1⟩ := (by decide +kernel : ∀ t : Fin cfg0.N, win0_6.index t 0 = 63 - t.val ∧ win0_6.index t 1 = 0) t
  obtain ⟨r, l, rfl⟩ : ∃ (r : Fin 256) (l : Fin 1024), y = ix2 r l := ⟨y 0, y 1, eq_ix2 y⟩
  refine at_place (fun r l => (dkv (qs P) (ks P) (vs P) B (os D) r l : EReal)) (r := xi (bk t) r) (l := l) ?_ ?_ ?_
  · blk_simp; rw [after0_6]
    exact out_pt m c hP hD hS t r l
  · blk_simp [e0, e1, xi, bk]; show 256 * (63 - t.val) + r.val = (63 - t.val) * 256 + r.val; omega
  · blk_simp [e0, e1, xi, bk]

/-- The last point. -/
def last0 : Fin cfg0.N := ⟨63, by decide⟩

include hP hD hS in
theorem arr_bias : (dats (F := Ideal) m 0 c).arrAt 7 cfg0.N = fun i =>
    ((∑ b, win (dscore (qs P) (ks P) (vs P) B (os D) (i 0) (xi b (i 1))) b (i 2) : ℝ) : EReal) := by
  refine (dats m 0 c).arrAt_eq_of_after_last 7 last0 (by decide +kernel) _ fun j => ?_
  obtain ⟨h, r, n, rfl⟩ : ∃ (h : Fin 8) (r : Fin 256) (n : Fin 768), j = ix3 h r n := ⟨j 0, j 1, j 2, eq_ix3 j⟩
  blk_simp; rw [after0_7]
  refine (Pipeline.eq_sum_fin_of_reset_step_apply_last (fun n h => (outsAt0 m c n h).2.2.1) 64 (fun _ => (0 : EReal))
    (fun t j => (win (dscore (qs P) (ks P) (vs P) B (os D) (j 0) (xi (bk t) (j 1))) (bk t) (j 2) : EReal)) (fun t ht j => ?_) (fun t ht j => ?_)
    (by decide) last0 rfl (ix3 h r n)).trans ?_
  · obtain ⟨h, r, n, rfl⟩ : ∃ (h : Fin 8) (r : Fin 256) (n : Fin 768), j = ix3 h r n := ⟨j 0, j 1, j 2, eq_ix3 j⟩
    beta_reduce
    rw [acc_A m c t ht, pay7_at, score_pt m c hP hD hS]
    rfl
  · obtain ⟨h, r, n, rfl⟩ : ∃ (h : Fin 8) (r : Fin 256) (n : Fin 768), j = ix3 h r n := ⟨j 0, j 1, j 2, eq_ix3 j⟩
    beta_reduce
    rw [acc_B m c t ht, score_pt m c hP hD hS]
    rfl
  · rw [coe_sum, zero_add]
    refine congrArg Real.toEReal ?_
    exact Fintype.sum_equiv (Fin.revPerm (n := 64)) _
      (fun b => win (dscore (qs P) (ks P) (vs P) B (os D) h (xi b r)) b n) fun t => by
        rw [show Fin.revPerm t = bk t from Fin.ext (by show 64 - (t.val + 1) = 63 - t.val; omega)]
        rfl

end Cert.AttnIdeal
-- ==== Proof.Attn.Table.lean ====
module
public import proofs.«01_k».proof.Proof.Reals

/-! A table of 8 rows and 320 columns, taken at an array of columns, and the sum that the gradient of that makes. -/

@[expose] public section

set_option maxRecDepth 16384

noncomputable section

namespace Cert.AttnTable

open Idealize.ShloMosaic

variable {A B : ℕ}

abbrev takeCols (A B : ℕ)
    (wf : GatherDims.WF ⟨2, ![8, 320]⟩ ⟨3, ![A, B, 1]⟩ ⟨3, ![8, A, B]⟩ [0] [1] [] [1] [] 2 ![8, 1]) :
    GatherDims ⟨2, ![8, 320]⟩ ⟨3, ![A, B, 1]⟩ ⟨3, ![8, A, B]⟩ where
  offsetDims := [0]
  collapsedSliceDims := [1]
  operandBatchingDims := []
  startIndicesBatchingDims := []
  startIndexMap := [1]
  indexVectorDim := 2
  sliceSizes := ![8, 1]
  wf := wf

/-- The table taken at the columns `idx`, read at one place. -/
theorem take_apply {α : Type} (wf) (x : (⟨2, ![8, 320]⟩ : Shape).Idx → α) (idx : IVec ⟨3, ![A, B, 1]⟩ 32) (h : Fin 8)
    (a : Fin A) (b : Fin B) :
    Host.gather (takeCols A B wf) x idx (ix3 h a b) = x (ix2 h ⟨min (idx (ix3 a b 0)).toInt.toNat 319, by omega⟩) := by
  unfold Host.gather
  congr 1
  funext e
  refine Fin.ext ?_
  show (takeCols A B wf).start (ix3 h a b) idx e + (takeCols A B wf).batchCoord (ix3 h a b) e
      + (takeCols A B wf).offCoord (ix3 h a b) e = _
  rw [GatherDims.batchCoord_eq_zero _ _ _ List.not_mem_nil]
  have two : e = 0 ∨ e = 1 := by
    match e with
    | ⟨0, _⟩ => exact Or.inl rfl
    | ⟨1, _⟩ => exact Or.inr rfl
  rcases two with rfl | rfl
  · unfold GatherDims.start GatherDims.offCoord
    rw [dif_neg (show ¬ (0 : Fin 2) ∈ (takeCols A B wf).startIndexMap from by simp),
      dif_pos (show (0 : Fin 2) ∈ (takeCols A B wf).sKept from
        (GatherDims.mem_sKept _ _).mpr ⟨by simp, List.not_mem_nil⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeCols A B wf).startIndexMap from List.mem_singleton.mpr rfl)]
    have hsi : (takeCols A B wf).siIdx (ix3 h a b) ⟨List.idxOf (1 : Fin 2) (takeCols A B wf).startIndexMap,
        List.idxOf_lt_length_iff.2 (List.mem_singleton.mpr rfl)⟩ = ix3 a b 0 := by
      funext e; refine Fin.ext ?_
      match e with
      | ⟨0, _⟩ => rfl
      | ⟨1, _⟩ => rfl
      | ⟨2, _⟩ => rfl
    rw [hsi]
    rfl

abbrev addCols (A B : ℕ) (wf : ScatterDims.WF ⟨2, ![8, 320]⟩ ⟨3, ![A, B, 1]⟩ ⟨3, ![8, A, B]⟩ [0] [1] [1] 2) :
    ScatterDims ⟨2, ![8, 320]⟩ ⟨3, ![A, B, 1]⟩ ⟨3, ![8, A, B]⟩ where
  updateWindowDims := [0]
  insertedWindowDims := [1]
  scatterDimsToOperandDims := [1]
  indexVectorDim := 2
  wf := wf

theorem at_iff (wf) (idx : IVec ⟨3, ![A, B, 1]⟩ 32) (h : Fin 8) (a : Fin A) (b : Fin B) (g : Fin 8) (r : Fin 320) :
    (addCols A B wf).resultIdx? (ix3 h a b) idx = some (ix2 g r) ↔ h = g ∧ (idx (ix3 a b 0)).toInt = r := by
  have s0 : (addCols A B wf).start (ix3 h a b) idx 0 = 0 := by
    unfold ScatterDims.start; rw [dif_neg (by simp)]
  have s1 : (addCols A B wf).start (ix3 h a b) idx 1 = (idx (ix3 a b 0)).toInt := by
    unfold ScatterDims.start
    rw [dif_pos (show (1 : Fin 2) ∈ (addCols A B wf).scatterDimsToOperandDims from List.mem_singleton.mpr rfl)]
    congr 2
    funext e; refine Fin.ext ?_
    match e with
    | ⟨0, _⟩ => rfl
    | ⟨1, _⟩ => rfl
    | ⟨2, _⟩ => rfl
  have w0 : (addCols A B wf).window (ix3 h a b) 0 = h.val := by
    unfold ScatterDims.window; rw [dif_pos (by simp [ScatterDims.sKept, Shape.kept])]; rfl
  have w1 : (addCols A B wf).window (ix3 h a b) 1 = 0 := by
    unfold ScatterDims.window; rw [dif_neg (by simp [ScatterDims.sKept, Shape.kept])]
  unfold ScatterDims.resultIdx?
  constructor
  · intro e
    split at e
    · rename_i hin
      have e := Option.some.inj e
      have e0 := congrArg (fun f => (f 0).val) e
      have e1 := congrArg (fun f => (f 1).val) e
      have n1 := (hin 1).1
      simp only [s0, s1, w0, w1] at e0 e1 n1
      change (0 + (h.val : ℤ)).toNat = g.val at e0
      change ((idx (ix3 a b 0)).toInt + ((0 : ℕ) : ℤ)).toNat = r.val at e1
      exact ⟨Fin.ext (by omega), by omega⟩
    · cases e
  · rintro ⟨rfl, e⟩
    rw [dif_pos]
    · congr 1
      funext e'
      refine Fin.ext ?_
      match e' with
      | ⟨0, _⟩ => show ((addCols A B wf).start (ix3 h a b) idx 0 + (addCols A B wf).window (ix3 h a b) 0).toNat = h.val; rw [s0, w0]; omega
      | ⟨1, _⟩ => show ((addCols A B wf).start (ix3 h a b) idx 1 + (addCols A B wf).window (ix3 h a b) 1).toNat = r.val; rw [s1, w1, e]; omega
    · intro e'
      match e' with
      | ⟨0, _⟩ =>
        show 0 ≤ (addCols A B wf).start (ix3 h a b) idx 0 + (addCols A B wf).window (ix3 h a b) 0 ∧
          (addCols A B wf).start (ix3 h a b) idx 0 + (addCols A B wf).window (ix3 h a b) 0 < (8 : ℕ)
        rw [s0, w0]; have := h.isLt; omega
      | ⟨1, _⟩ =>
        show 0 ≤ (addCols A B wf).start (ix3 h a b) idx 1 + (addCols A B wf).window (ix3 h a b) 1 ∧
          (addCols A B wf).start (ix3 h a b) idx 1 + (addCols A B wf).window (ix3 h a b) 1 < (320 : ℕ)
        rw [s1, w1, e]; have := r.isLt; omega

/-- What is added up at one place of the table. -/
theorem add_apply (wf) (x : FVec Ideal ⟨2, ![8, 320]⟩ .f32) (idx : IVec ⟨3, ![A, B, 1]⟩ 32)
    (u : FVec Ideal ⟨3, ![8, A, B]⟩ .f32) (h : Fin 8) (r : Fin 320) :
    Host.scatterAdd (addCols A B wf) x idx u (ix2 h r)
      = x (ix2 h r) + ∑ a, ∑ b, if (idx (ix3 a b 0)).toInt = r then u (ix3 h a b) else 0 := by
  show x (ix2 h r) + ∑ j ∈ Finset.univ.filter (fun j => (addCols A B wf).resultIdx? j idx = some (ix2 h r)), u j = _
  congr 1
  rw [Finset.sum_filter, sum_idx3, Finset.sum_eq_single h]
  · simp only [at_iff, true_and]
  · intro g _ hg
    simp only [at_iff, hg, false_and, if_false, Finset.sum_const_zero]
  · intro n; exact absurd (Finset.mem_univ _) n

end Cert.AttnTable
-- ==== Proof.Attn.Chunk.lean ====
module
public import proofs.«01_k».proof.Proof.Attn.Soft
public import proofs.«01_k».proof.Proof.Attn.Window

/-! The softmax of one query over the 768 keys of its window is its softmax over all keys. -/

@[expose] public section

noncomputable section

namespace Cert.AttnWin

open Cert.AttnSpec

/-- The score of query `r` of block `t` and row `n` of its window, whether or not the query sees it. -/
def scoreW (P : Fin 16384 → Fin 1536 → ℝ) (B : Fin 8 → Fin 320 → ℝ) (t : Fin 64) (h : Fin 8) (r : Fin 256) (n : Fin 768) : ℝ :=
  (∑ d, qs P (xi t r) h d * win (fun y => ks P y h d) t n) * (1 / 8) + B h (AttnSpec.dist (512 + r.val) n.val)

/-- Whether it does. -/
def nearW (t : Fin 64) (r : Fin 256) (n : Fin 768) : Prop :=
  ∃ hn : 512 ≤ 256 * t.val + n.val, near (xi t r) ⟨256 * t.val + n.val - 512, by omega⟩

instance (t : Fin 64) (r : Fin 256) (n : Fin 768) : Decidable (nearW t r n) := by unfold nearW; infer_instance

theorem near_own (t : Fin 64) (r : Fin 256) : nearW t r ⟨512 + r.val, by omega⟩ :=
  ⟨by show 512 ≤ 256 * t.val + (512 + r.val); omega, by
    rw [show (⟨256 * t.val + (512 + r.val) - 512, by omega⟩ : Fin 16384) = xi t r from Fin.ext (by show 256 * t.val + (512 + r.val) - 512 = 256 * t.val + r.val; omega)]
    exact near_self _⟩

variable (P : Fin 16384 → Fin 1536 → ℝ) (B : Fin 8 → Fin 320 → ℝ)

theorem wt_win (t : Fin 64) (h : Fin 8) (r : Fin 256) (n : Fin 768) : AttnSoft.wt (nearW t r) (scoreW P B t h r) n
    = win (weight (qs P) (ks P) B h (xi t r)) t n := by
  unfold AttnSoft.wt win weight
  by_cases hn : 512 ≤ 256 * t.val + n.val
  · rw [dif_pos hn]
    by_cases hc : near (xi t r) ⟨256 * t.val + n.val - 512, by omega⟩
    · rw [if_pos ⟨hn, hc⟩, if_pos hc]
      refine congrArg Real.exp ?_
      unfold scoreW score win
      simp only [dif_pos hn]
      refine congrArg₂ (· + ·) rfl (congrArg (B h) (Fin.ext ?_))
      unfold AttnSpec.dist xi
      dsimp only
      omega
    · rw [if_neg (fun e => hc e.2), if_neg hc]
  · rw [dif_neg hn, if_neg fun e => hn e.1]

theorem share_win (t : Fin 64) (h : Fin 8) (r : Fin 256) (n : Fin 768) :
    AttnSoft.wt (nearW t r) (scoreW P B t h r) n / ∑ n', AttnSoft.wt (nearW t r) (scoreW P B t h r) n'
      = win (prob (qs P) (ks P) B h (xi t r)) t n := by
  simp only [wt_win]
  rw [sum_win _ _ _ fun y hy => by unfold weight; rw [if_neg hy]]
  unfold prob win
  split
  · rfl
  · exact zero_div _

end Cert.AttnWin
-- ==== Proof.Attn.Host.lean ====
module
public import proofs.«01_k».proof.Proof.Attn.Arrays
public import proofs.«01_k».proof.Proof.Attn.Table
public import proofs.«01_k».proof.Proof.Attn.Chunk
public import Idealize.ShloMosaic.Lib.StableHlo.RunRead
public import Idealize.ShloMosaic.Lib.StableHlo.ReadAt

/-! The attention probabilities that the host lines save for the backward call: one row of 768 keys for each query and
    head, zero where the query does not see the key. -/

@[expose] public section

set_option maxRecDepth 16384

noncomputable section

namespace Cert.AttnIdeal

open Idealize.ShloMosaic Idealize.ShloMosaic.TcCoe Idealize.ShloMosaic.Tactic Cert.Reals
open Gen AttnSpec AttnWin

variable {P : Fin 16384 → Fin 1536 → ℝ} {B : Fin 8 → Fin 320 → ℝ}
  (m : (ℓ : Loc nD τ sig) → Buf (Elt Ideal) ℓ) (c : Dev nD)
  (hP : ∀ r l, m ((c : Thread nD τ).loc main_arg0) (ix2 r l) = (P r l : EReal))
  (hB : ∀ h r, m ((c : Thread nD τ).loc main_arg1) (ix2 h r) = (B h r : EReal))

theorem words_at (r : Fin 256) (n : Fin 768) : (V m c main_v62 (ix3 r n 0)).toInt = (AttnSpec.dist (512 + r.val) n.val).val := by
  unfold V V0
  after_reads_at
  rw [AttnSoft.dist_val]
  have hr : (BitVec.ofNat 32 r.val).toInt = r.val := int_ofNat _ (by omega)
  have hn : (BitVec.ofNat 32 n.val).toInt = n.val := int_ofNat _ (by omega)
  have h5 : (512#32).toInt = 512 := by decide
  have ha : (IntOp.addi (BitVec.ofNat 32 r.val) 512#32).toInt = r.val + 512 := by rw [int_add _ _ (by rw [hr, h5]; omega), hr, h5]
  refine AttnSoft.column (IntOp.subi (IntOp.addi (BitVec.ofNat 32 r.val) 512#32) (BitVec.ofNat 32 n.val)) _ ?_
  rw [int_sub _ _ (by rw [ha, hn]; omega), ha, hn]
  omega

theorem seen_at (t : Fin 64) (r : Fin 256) (n : Fin 768) : V m c main_v41 (ix3 t r n) = 1#1
    ↔ ∃ hn : 512 ≤ 256 * t.val + n.val, near (xi t r) ⟨256 * t.val + n.val - 512, by omega⟩ := by
  have hr : (BitVec.ofNat 32 r.val).toInt = r.val := int_ofNat _ (by omega)
  have hn : (BitVec.ofNat 32 n.val).toInt = n.val := int_ofNat _ (by omega)
  have h5 : (512#32).toInt = 512 := by decide
  have hm : (IntOp.muli (256#32) (BitVec.ofNat 32 t.val)).toInt = 256 * t.val := by
    rw [show IntOp.muli (256#32) (BitVec.ofNat 32 t.val) = BitVec.ofNat 32 (256 * t.val) from (BitVec.ofNat_mul 256 t.val).symm, int_ofNat _ (by omega)]
    omega
  have ha : (IntOp.addi (BitVec.ofNat 32 r.val) 512#32).toInt = r.val + 512 := by rw [int_add _ _ (by rw [hr, h5]; omega), hr, h5]
  have hk : (IntOp.addi (BitVec.ofNat 32 n.val) (IntOp.muli (256#32) (BitVec.ofNat 32 t.val))).toInt = n.val + 256 * t.val := by
    rw [int_add _ _ (by rw [hn, hm]; omega), hn, hm]
  have dx : (IntOp.divsi .host (IntOp.addi (BitVec.ofNat 32 r.val) 512#32) 64#32).toInt = (r.val + 512 : ℤ) / 64 := by
    rw [int_div _ _ (by omega), ha]
  have dy : (IntOp.divsi .host (BitVec.ofNat 32 n.val) 64#32).toInt = n.val / 64 := by rw [int_div _ _ (by omega), hn]
  have hd : (IntOp.subi (IntOp.divsi .host (IntOp.addi (BitVec.ofNat 32 r.val) 512#32) 64#32) (IntOp.divsi .host (BitVec.ofNat 32 n.val) 64#32)).toInt
      = (r.val + 512 : ℤ) / 64 - n.val / 64 := by rw [int_sub _ _ (by rw [dx, dy]; omega), dx, dy]
  unfold V V0
  after_reads_at
  rw [IntOp.andi_eq_one, IntOp.andi_eq_one, sge_iff, sle_iff, sge_iff, hd, hk, h5, show (0#32).toInt = 0 by decide,
    show (8#32).toInt = 8 by decide]
  unfold near xi
  constructor
  · rintro ⟨⟨h1, h2⟩, h3⟩
    exact ⟨by omega, by dsimp only; omega, by dsimp only; omega⟩
  · rintro ⟨h3, h1, h2⟩
    dsimp only at h1 h2
    omega

include hP in
theorem query_at (t : Fin 64) (r : Fin 256) (h : Fin 8) (d : Fin 64) : V m c main_v7 (ix4 t r h d) = (qs P (xi t r) h d : EReal) := by
  unfold V V0
  after_reads_at
  refine (hP _ _).trans (congrArg Real.toEReal ?_)
  exact congrArg₂ P (Fin.ext (by show t.val * 256 + r.val = 256 * t.val + r.val; omega)) rfl

include hP in
theorem padded_at (u : Fin 66) (r : Fin 256) (h : Fin 8) (d : Fin 64) : V m c main_v11 (ix4 u r h d)
    = ((if hu : u.val < 2 then 0 else ks P (xi ⟨u.val - 2, by omega⟩ r) h d : ℝ) : EReal) := by
  unfold V V0
  after_reads_at
  by_cases hu : u.val < 2
  · rw [dif_pos (by omega), dif_pos hu]
    after_reads_at
    rfl
  · rw [dif_neg (by omega), dif_neg hu]
    after_reads_at
    refine (hP _ _).trans (congrArg Real.toEReal ?_)
    exact congrArg₂ P (Fin.ext (by show u.val * 256 + r.val - 512 = 256 * (u.val - 2) + r.val; omega)) rfl

theorem slice0_eq : V m c main_v12 = extractStridedSlice S64x256x8x64 ![0, 0, 0, 0] (V m c main_v11) slices_S66x256x8x64_S64x256x8x64_0_0_0_0 := by
  unfold V V0; after_reads_simp
theorem slice1_eq : V m c main_v13 = extractStridedSlice S64x256x8x64 ![1, 0, 0, 0] (V m c main_v11) slices_S66x256x8x64_S64x256x8x64_1_0_0_0 := by
  unfold V V0; after_reads_simp
theorem slice2_eq : V m c main_v14 = extractStridedSlice S64x256x8x64 ![2, 0, 0, 0] (V m c main_v11) slices_S66x256x8x64_S64x256x8x64_2_0_0_0 := by
  unfold V V0; after_reads_simp

theorem window_eq : V m c main_v15 = concatenate S64x768x8x64 1 [⟨S64x256x8x64, V m c main_v12⟩, ⟨S64x256x8x64, V m c main_v13⟩,
    ⟨S64x256x8x64, V m c main_v14⟩] concatenates_S64x256x8x64_S64x256x8x64_S64x256x8x64_S64x768x8x64_d1 := by
  unfold V V0
  after_reads_simp
  rfl

/-- Three consecutive blocks of the padded keys, read at one place. -/
theorem three_at (X : FVec Ideal S66x256x8x64 .f32) (t : Fin 64) (n : Fin 768) (h : Fin 8) (d : Fin 64) :
    concatenate S64x768x8x64 1 [⟨S64x256x8x64, extractStridedSlice S64x256x8x64 ![0, 0, 0, 0] X slices_S66x256x8x64_S64x256x8x64_0_0_0_0⟩,
      ⟨S64x256x8x64, extractStridedSlice S64x256x8x64 ![1, 0, 0, 0] X slices_S66x256x8x64_S64x256x8x64_1_0_0_0⟩,
      ⟨S64x256x8x64, extractStridedSlice S64x256x8x64 ![2, 0, 0, 0] X slices_S66x256x8x64_S64x256x8x64_2_0_0_0⟩]
      concatenates_S64x256x8x64_S64x256x8x64_S64x256x8x64_S64x768x8x64_d1 (ix4 t n h d)
      = X (ix4 ⟨t.val + n.val / 256, by omega⟩ ⟨n.val % 256, by omega⟩ h d) := by
  pointwise []
  split
  · exact congrArg X (congrArg₂ (fun u s => ix4 u s h d) (Fin.ext (by show t.val = t.val + n.val / 256; omega)) (Fin.ext (by show n.val = n.val % 256; omega)))
  split
  · exact congrArg X (congrArg₂ (fun u s => ix4 u s h d) (Fin.ext (by show 1 + t.val = t.val + n.val / 256; omega)) (Fin.ext (by show n.val - 256 = n.val % 256; omega)))
  · exact congrArg X (congrArg₂ (fun u s => ix4 u s h d) (Fin.ext (by show 2 + t.val = t.val + n.val / 256; omega)) (Fin.ext (by show n.val - 256 - 256 = n.val % 256; omega)))

include hP in
theorem window_at (t : Fin 64) (n : Fin 768) (h : Fin 8) (d : Fin 64) : V m c main_v15 (ix4 t n h d)
    = (win (fun y => ks P y h d) t n : EReal) := by
  rw [window_eq, slice0_eq, slice1_eq, slice2_eq, three_at, padded_at m c hP]
  refine congrArg Real.toEReal ?_
  unfold win
  by_cases hu : t.val + n.val / 256 < 2
  · rw [dif_pos hu, dif_neg (by omega)]
  · rw [dif_neg hu, dif_pos (by omega)]
    exact congrArg (fun y => ks P y h d) (Fin.ext (by
      show 256 * (t.val + n.val / 256 - 2) + n.val % 256 = 256 * t.val + n.val - 512; omega))

include hB in
theorem bias_at (t : Fin 64) (h : Fin 8) (r : Fin 256) (n : Fin 768) :
    V m c main_v65 (ix4 t h r n) = (B h (AttnSpec.dist (512 + r.val) n.val) : EReal) := by
  have hw := words_at m c r n
  have e : V m c main_v65 = broadcastInDim S64x8x256x768 ![0, 1, 2, 3] bcast_S1x8x256x768_S64x8x256x768_0_1_2_3
      (broadcastInDim S1x8x256x768 ![1, 2, 3] bcast_S8x256x768_S1x8x256x768_1_2_3
        (Host.gather gather_S8x320_S256x768x1_S8x256x768_0_1_n_n_1_2_81 (m ((c : Thread nD τ).loc main_arg1)) (V m c main_v62))) := by
    unfold V V0; after_reads_simp
  rw [e]
  generalize V m c main_v62 = w at hw
  pointwise []
  refine (AttnTable.take_apply gather_S8x320_S256x768x1_S8x256x768_0_1_n_n_1_2_81.wf _ w h r n).trans ?_
  rw [hB]
  refine congrArg (fun r => (B h r : EReal)) (Fin.ext ?_)
  dsimp only
  have := (AttnSpec.dist (512 + r.val) n.val).isLt
  omega

include hP hB in
theorem score_at (t : Fin 64) (h : Fin 8) (r : Fin 256) (n : Fin 768) :
    V m c main_v66 (ix4 t h r n) = (scoreW P B t h r n : EReal) := by
  have e : V m c main_v66 = (addf (mulf (Host.dotGeneral (F := Ideal) (φ₁ := .f32) (φ₂ := .f32) dot_S64x256x8x64_S64x768x8x64_S64x8x256x768_3_3_1_1_02_02 none (V m c main_v7) (V m c main_v15))
      (broadcastInDim S64x8x256x768 ![] bcast_S_S64x8x256x768 (constant S_ .f32 1040187392#32))) (V m c main_v65) : FVec Ideal S64x8x256x768 .f32) := by
    unfold V V0; after_reads_simp
  have hq := query_at m c hP
  have hk := window_at m c hP
  have hb := bias_at m c hB
  rw [e]
  generalize V m c main_v7 = q at hq
  generalize V m c main_v15 = k at hk
  generalize V m c main_v65 = b at hb
  pointwise []
  simp only [hq, hk, hb, ← EReal.coe_mul, coe_sum, AttnSoft.lit_eighth, ← EReal.coe_add]
  rfl

include hP hB in
theorem masked_at (t : Fin 64) (h : Fin 8) (r : Fin 256) (n : Fin 768) :
    V m c main_v68 (ix4 t h r n) = AttnSoft.masked (nearW t r) (scoreW P B t h r) n := by
  have e : V m c main_v68 = (select (broadcastInDim S64x8x256x768 ![0, 1, 2, 3] bcast_S64x1x256x768_S64x8x256x768_0_1_2_3
      (broadcastInDim S64x1x256x768 ![0, 2, 3] bcast_S64x256x768_S64x1x256x768_0_2_3 (V m c main_v41))) (V m c main_v66)
      (broadcastInDim S64x8x256x768 ![] bcast_S_S64x8x256x768 (constant S_ .f32 0xFF800000#32)) : FVec Ideal S64x8x256x768 .f32) := by
    unfold V V0; after_reads_simp; rfl
  have hs := score_at m c hP hB t h r n
  have hn := seen_at m c t r n
  rw [e]
  generalize V m c main_v66 = s at hs
  generalize V m c main_v41 = w at hn
  pointwise []
  rw [hs]
  unfold AttnSoft.masked
  by_cases hc : nearW t r n
  · rw [if_pos hc]; exact if_pos (hn.2 hc)
  · rw [if_neg hc]; exact (if_neg fun e => hc (hn.1 e)).trans AttnSoft.lit_neg_inf

/-- The greatest entry of each row. -/
def greatest (s : FVec Ideal S64x8x256x768 .f32) : FVec Ideal S64x8x256 .f32 :=
  Host.reduce FloatOps.maximumf s (constant S_ .f32 0xFF800000#32) reducesTo_S64x8x256x768_S64x8x256_d3 h_S_

/-- The sum of each row. -/
def rowSum (s : FVec Ideal S64x8x256x768 .f32) : FVec Ideal S64x8x256 .f32 :=
  Host.reduceAdd s (constant S_ .f32 0x00000000#32) reducesTo_S64x8x256x768_S64x8x256_d3 h_S_

theorem greatest_real (s : FVec Ideal S64x8x256x768 .f32) (t : Fin 64) (h : Fin 8) (r : Fin 256) (near : Fin 768 → Prop) [DecidablePred near]
    (f : Fin 768 → ℝ) (hs : ∀ n, s (ix4 t h r n) = AttnSoft.masked near f n) (n : Fin 768) (hn : near n) :
    ∃ a : ℝ, greatest s (ix3 t h r) = (a : EReal) := by
  pointwise [greatest]
  obtain ⟨a, ha⟩ := AttnSoft.fold_real near f (Ideal.ofBits .f32 4286578688#32) (fun x => s (ix4 t h r x)) AttnSoft.lit_neg_inf hs n hn
  exact ⟨a, ha⟩

theorem low_of (z y : FVec Ideal S64x8x256 .f32)
    (e : y = maximumf (broadcastInDim S64x8x256 ![] bcast_S_S64x8x256 (constant S_ .f32 0xFF800000#32)) z)
    (t : Fin 64) (h : Fin 8) (r : Fin 256) : y (ix3 t h r) = z (ix3 t h r) := by
  rw [e]
  pointwise []
  exact AttnSoft.max_low _ _ AttnSoft.lit_neg_inf

theorem rowSum_at (s : FVec Ideal S64x8x256x768 .f32) (t : Fin 64) (h : Fin 8) (r : Fin 256) (f : Fin 768 → ℝ)
    (hs : ∀ n, s (ix4 t h r n) = (f n : EReal)) : rowSum s (ix3 t h r) = ((∑ n, f n : ℝ) : EReal) := by
  pointwise [rowSum]
  simp only [hs, coe_sum]

include hP hB in
theorem top_at (t : Fin 64) (h : Fin 8) (r : Fin 256) : ∃ a : ℝ, V m c main_v71 (ix3 t h r) = (a : EReal) := by
  have e : V m c main_v71 = (maximumf (broadcastInDim S64x8x256 ![] bcast_S_S64x8x256 (constant S_ .f32 0xFF800000#32))
      (greatest (V m c main_v68)) : FVec Ideal S64x8x256 .f32) := by
    unfold V V0 greatest; after_reads_simp
  have hs := masked_at m c hP hB t h r
  obtain ⟨a, ha⟩ := greatest_real (V m c main_v68) t h r (nearW t r) (scoreW P B t h r) hs _ (near_own t r)
  have hl := low_of (greatest (V m c main_v68)) (V m c main_v71) e t h r
  rw [ha] at hl
  exact ⟨a, hl⟩

include hP hB in
theorem exp_at (t : Fin 64) (h : Fin 8) (r : Fin 256) : ∃ a : ℝ, ∀ n, V m c main_v75 (ix4 t h r n)
    = ((AttnSoft.wt (nearW t r) (scoreW P B t h r) n * Real.exp (-a) : ℝ) : EReal) := by
  have e : V m c main_v75 = (Host.exp (subf (V m c main_v68) (broadcastInDim S64x8x256x768 ![0, 1, 2, 3] bcast_S64x8x256x1_S64x8x256x768_0_1_2_3
      (broadcastInDim S64x8x256x1 ![0, 1, 2] bcast_S64x8x256_S64x8x256x1_0_1_2 (V m c main_v71)))) : FVec Ideal S64x8x256x768 .f32) := by
    unfold V V0; after_reads_simp
  obtain ⟨a, ha⟩ := top_at m c hP hB t h r
  refine ⟨a, fun n => ?_⟩
  have hs := masked_at m c hP hB t h r n
  rw [e]
  generalize V m c main_v68 = s at hs
  generalize V m c main_v71 = u at ha
  pointwise []
  rw [hs, ha]
  exact AttnSoft.exp_masked _ _ a n

include hP hB in
theorem share_at (t : Fin 64) (h : Fin 8) (r : Fin 256) (n : Fin 768) : V m c main_v79 (ix4 t h r n)
    = ((AttnSoft.wt (nearW t r) (scoreW P B t h r) n / ∑ n', AttnSoft.wt (nearW t r) (scoreW P B t h r) n' : ℝ) : EReal) := by
  have e : V m c main_v79 = (Host.divf (V m c main_v75) (broadcastInDim S64x8x256x768 ![0, 1, 2, 3] bcast_S64x8x256x1_S64x8x256x768_0_1_2_3
      (broadcastInDim S64x8x256x1 ![0, 1, 2] bcast_S64x8x256_S64x8x256x1_0_1_2
        (rowSum (V m c main_v75)))) : FVec Ideal S64x8x256x768 .f32) := by
    unfold V V0 rowSum; after_reads_simp
  obtain ⟨a, ha⟩ := exp_at m c hP hB t h r
  have hz := rowSum_at (V m c main_v75) t h r _ ha
  rw [e]
  generalize rowSum (V m c main_v75) = z at hz
  generalize V m c main_v75 = s at ha
  pointwise []
  rw [ha, hz, div_real _ (AttnSoft.total_pos _ _ a _ (near_own t r)).ne', AttnSoft.share]

include hP hB in
/-- The saved probabilities. -/
theorem saved_at (b : Fin 64) (r : Fin 256) (h : Fin 8) (n : Fin 768) :
    V m c main_v82 (ix2 (xi b r) ⟨768 * h.val + n.val, prob_lt h n⟩) = (win (prob (qs P) (ks P) B h (xi b r)) b n : EReal) := by
  have e : V m c main_v82 = (truncf .bf16 (shapeCast S16384x6144 (transpose S64x256x8x768 [0, 2, 1, 3] (V m c main_v79)
      transposes_S64x8x256x768_S64x256x8x768_0_2_1_3) shapeCasts_S64x256x8x768_S16384x6144) bitsLt_bf16_f32 : FVec Ideal S16384x6144 .bf16) := by
    unfold V V0; after_reads_simp; rfl
  have hs := share_at m c hP hB b h r n
  rw [e]
  generalize V m c main_v79 = s at hs
  pointwise []
  have e1 : (⟨(xi b r).val / 256, by omega⟩ : Fin 64) = b := Fin.ext (by show (256 * b.val + r.val) / 256 = b.val; omega)
  have e2 : (⟨(xi b r).val % 256, by omega⟩ : Fin 256) = r := Fin.ext (by show (256 * b.val + r.val) % 256 = r.val; omega)
  rw [e1, e2, hs]
  exact congrArg Real.toEReal (share_win P B b h r n)

end Cert.AttnIdeal
-- ==== Proof.Attn.Run.lean ====
module
public import proofs.«01_k».proof.Proof.Attn.Host

/-! The call's results from the arguments: the saved probabilities, the call, and the lines after it that sum the
    gradient of the bias over the distances. -/

@[expose] public section

set_option maxRecDepth 16384

noncomputable section

namespace Cert.AttnIdeal

open Idealize.ShloMosaic Idealize.ShloMosaic.TcCoe Idealize.ShloMosaic.Tactic Idealize.SL.Sem Cert.Reals
open Gen AttnSpec AttnWin

variable {P : Fin 16384 → Fin 1536 → ℝ} {B : Fin 8 → Fin 320 → ℝ} {D : Fin 16384 → Fin 512 → ℝ}
  (m : (ℓ : Loc nD τ sig) → Buf (Elt Ideal) ℓ) (ρ : Dev nD → PrngReg) (c : Dev nD)
  (hP : ∀ r l, m ((c : Thread nD τ).loc main_arg0) (ix2 r l) = (P r l : EReal))
  (hB : ∀ h r, m ((c : Thread nD τ).loc main_arg1) (ix2 h r) = (B h r : EReal))
  (hD : ∀ r l, m ((c : Thread nD τ).loc main_arg2) (ix2 r l) = (D r l : EReal))

include hP in
theorem v_p (r : Fin 16384) (l : Fin 1536) : V m c main_arg0 (ix2 r l) = (P r l : EReal) := by rw [V_main_arg0, hP]
include hD in
theorem v_d (r : Fin 16384) (l : Fin 512) : V m c main_arg2 (ix2 r l) = (D r l : EReal) := by rw [V_main_arg2, hD]

include hP hB hD in
theorem run_dq : (dats (F := Ideal) m 0 c).arrAt 5 cfg0.N = fun i =>
    (dq (qs P) (ks P) (vs P) B (os D) (i 0) ⟨(i 1).val / 64, by have : (i 1).val < 512 := (i 1).isLt; omega⟩ ⟨(i 1).val % 64, by omega⟩ : EReal) :=
  arr_dq m c (v_p m c hP) (v_d m c hD) (saved_at m c hP hB)

include hP hB hD in
theorem run_dkv : (dats (F := Ideal) m 0 c).arrAt 6 cfg0.N = fun i => (dkv (qs P) (ks P) (vs P) B (os D) (i 0) (i 1) : EReal) :=
  arr_dkv m c (v_p m c hP) (v_d m c hD) (saved_at m c hP hB)

/-- The words of the table's columns after the call, as `words_at` before it. -/
def tail (w : Valuation τ sig (Elt Ideal)) : Valuation τ sig (Elt Ideal) := StableHlo.after (List.flatten [hostOps1, hostOps1_1, hostOps1_2]) w

variable (w : Valuation τ sig (Elt Ideal))

theorem tail_words (r : Fin 256) (n : Fin 768) : (tail w (Proc.devRef .tc main_v102) (ix3 r n 0)).toInt = (AttnSpec.dist (512 + r.val) n.val).val := by
  unfold tail
  after_reads_at
  rw [AttnSoft.dist_val]
  have hr : (BitVec.ofNat 32 r.val).toInt = r.val := int_ofNat _ (by omega)
  have hn : (BitVec.ofNat 32 n.val).toInt = n.val := int_ofNat _ (by omega)
  have h5 : (512#32).toInt = 512 := by decide
  have ha : (IntOp.addi (BitVec.ofNat 32 r.val) 512#32).toInt = r.val + 512 := by rw [int_add _ _ (by rw [hr, h5]; omega), hr, h5]
  refine AttnSoft.column (IntOp.subi (IntOp.addi (BitVec.ofNat 32 r.val) 512#32) (BitVec.ofNat 32 n.val)) _ ?_
  rw [int_sub _ _ (by rw [ha, hn]; omega), ha, hn]
  omega

theorem tail_eq : tail w (Proc.devRef .tc main_v103) = (Host.scatterAdd scatter_S8x320_S256x768x1_S8x256x768_0_1_1_2
    (broadcastInDim S8x320 ![] bcast_S_S8x320 (constant S_ .f32 0x00000000#32)) (tail w (Proc.devRef .tc main_v102)) (w (Proc.devRef .tc main_v83_2))
      : FVec Ideal S8x320 .f32) := by
  unfold tail
  after_reads_simp

/-- The sum over a window's rows of the gradients at one distance, over all blocks, is the sum over all pairs. -/
theorem bias_sum (f : Fin 16384 → Fin 16384 → ℝ) (far : ∀ x y, ¬ near x y → f x y = 0) (ρ : Fin 320) :
    ∑ r : Fin 256, ∑ n : Fin 768, (if AttnSpec.dist (512 + r.val) n.val = ρ then ∑ b, win (f (xi b r)) b n else 0)
      = ∑ x : Fin 16384, ∑ y : Fin 16384, if AttnSpec.dist x y = ρ then f x y else 0 := by
  have e : ∀ (b : Fin 64) (r : Fin 256), ∑ n : Fin 768, (if AttnSpec.dist (512 + r.val) n.val = ρ then win (f (xi b r)) b n else 0)
      = ∑ y : Fin 16384, if AttnSpec.dist (xi b r) y = ρ then f (xi b r) y else 0 := fun b r => by
    rw [← sum_win (fun y : Fin 16384 => if AttnSpec.dist (xi b r) y = ρ then f (xi b r) y else 0) b r
      fun y hy => by simp only [far _ _ hy, ite_self]]
    refine Finset.sum_congr rfl fun n _ => ?_
    unfold win
    by_cases hn : 512 ≤ 256 * b.val + n.val
    · rw [dif_pos hn, dif_pos hn]
      have : AttnSpec.dist (512 + r.val) n.val = AttnSpec.dist (xi b r).val (256 * b.val + n.val - 512) := Fin.ext (by
        unfold AttnSpec.dist xi; dsimp only; omega)
      rw [this]
    · rw [dif_neg hn, dif_neg hn, ite_self]
  refine Eq.trans ?_ ((sum_blocks fun x : Fin 16384 => ∑ y : Fin 16384, if AttnSpec.dist x y = ρ then f x y else 0).trans
    (Finset.sum_comm (s := Finset.univ) (t := Finset.univ)
      (f := fun (b : Fin 64) (r : Fin 256) => ∑ y : Fin 16384, if AttnSpec.dist (xi b r) y = ρ then f (xi b r) y else 0))).symm
  refine Finset.sum_congr rfl fun r _ => ?_
  refine Eq.trans ?_ (Finset.sum_congr rfl fun b _ => e b r)
  rw [Finset.sum_comm]
  refine Finset.sum_congr rfl fun n _ => ?_
  split
  · rfl
  · exact Finset.sum_const_zero.symm

/-- The lines after the call add up each column of the window's gradient at its distance. -/
theorem added (z : IVec S256x768x1 32) (u : FVec Ideal S8x256x768 .f32) (X : Fin 8 → Fin 256 → Fin 768 → ℝ)
    (hz : ∀ r n, (z (ix3 r n 0)).toInt = (AttnSpec.dist (512 + r.val) n.val).val) (hX : ∀ h r n, u (ix3 h r n) = (X h r n : EReal))
    (h : Fin 8) (k : Fin 320) : Host.scatterAdd scatter_S8x320_S256x768x1_S8x256x768_0_1_1_2
      (broadcastInDim S8x320 ![] bcast_S_S8x320 (constant S_ .f32 0x00000000#32)) z u (ix2 h k)
      = ((∑ r : Fin 256, ∑ n : Fin 768, if AttnSpec.dist (512 + r.val) n.val = k then X h r n else 0 : ℝ) : EReal) := by
  refine (AttnTable.add_apply scatter_S8x320_S256x768x1_S8x256x768_0_1_1_2.wf _ _ _ h k).trans ?_
  have h0 : (broadcastInDim S8x320 ![] bcast_S_S8x320 (constant S_ .f32 0x00000000#32) : FVec Ideal S8x320 .f32) (ix2 h k) = 0 := by
    pointwise []
  rw [h0, zero_add]
  have ht : ∀ r n, (if (z (ix3 r n 0)).toInt = (k.val : ℤ) then u (ix3 h r n) else 0)
      = ((if AttnSpec.dist (512 + r.val) n.val = k then X h r n else 0 : ℝ) : EReal) := fun r n => by
    have : (z (ix3 r n 0)).toInt = (k.val : ℤ) ↔ AttnSpec.dist (512 + r.val) n.val = k := by
      rw [hz, Fin.ext_iff]; omega
    by_cases hc : AttnSpec.dist (512 + r.val) n.val = k
    · rw [if_pos (this.2 hc), if_pos hc, hX]
    · rw [if_neg fun e => hc (this.1 e), if_neg hc, EReal.coe_zero]
  refine (Finset.sum_congr rfl fun x _ => Finset.sum_congr rfl fun y _ => ht x y).trans ?_
  simp only [coe_sum]

theorem bias_tail (X : Fin 8 → Fin 256 → Fin 768 → ℝ) (hX : ∀ h r n, w (Proc.devRef .tc main_v83_2) (ix3 h r n) = (X h r n : EReal))
    (h : Fin 8) (k : Fin 320) : tail w (Proc.devRef .tc main_v103) (ix2 h k)
      = ((∑ r : Fin 256, ∑ n : Fin 768, if AttnSpec.dist (512 + r.val) n.val = k then X h r n else 0 : ℝ) : EReal) :=
  (congrFun (tail_eq w) _).trans (added _ _ X (tail_words w) hX h k)

theorem entry_bias : Pipeline.withArrays spec0 c (V0 m c) (fun w => (dats (F := Ideal) m 0 c).arrAt w cfg0.N) (Proc.devRef .tc main_v83_2)
    = (dats (F := Ideal) m 0 c).arrAt 7 cfg0.N :=
  Pipeline.withArrays_arr_shared spec0 c (V0 m c) _
    ((dats (F := Ideal) m 0 c).arrAt_sharedIn sharedIn0 (V0 m c) (A_eq m c) cfg0.N) 7

include hP hB hD in
theorem run_bias (i : S8x320.Idx) : Pipeline.afterTail₀ cfgs (dats (F := Ideal) m) 0 (V0 m) [hostOps1, hostOps1_1, hostOps1_2] c main_v103 i
    = (drel (qs P) (ks P) (vs P) B (os D) (i 0) (i 1) : EReal) := by
  obtain ⟨h, k, rfl⟩ : ∃ (h : Fin 8) (k : Fin 320), i = ix2 h k := ⟨i 0, i 1, eq_ix2 i⟩
  refine (bias_tail _ (fun h r n => ∑ b, win (dscore (qs P) (ks P) (vs P) B (os D) h (xi b r)) b n) (fun h r n => ?_) h k).trans ?_
  · refine (congrFun (entry_bias m c) _).trans ?_
    rw [arr_bias m c (v_p m c hP) (v_d m c hD) (saved_at m c hP hB)]
    rfl
  · rw [bias_sum _ (fun x y hn => dscore_far _ _ _ _ _ hn)]
    rfl

end Cert.AttnIdeal
-- ==== Proof.Attn.Ref.lean ====
module
public import proofs.«01_k».proof.Proof.Attn.Soft
public import proofs.«01_k».proof.Proof.Attn.Table
public import proofs.«01_k».proof.Proof.Gen.AttnRefIdeal.Run
public import proofs.«01_k».proof.Proof.Gen.AttnRefIdeal.Read

/-! What the reference of the attention computes, stage by stage, over the real numbers. -/

@[expose] public section

set_option maxRecDepth 16384

noncomputable section

namespace Cert.AttnRefIdeal

open Idealize.ShloMosaic Idealize.ShloMosaic.TcCoe Idealize.ShloMosaic.Tactic Idealize.SL.Sem Cert.Reals Cert.AttnSpec
open Cert.AttnSoft (masked wt lit_neg_inf lit_eighth lit_one exp_masked top_real share)
open Gen Read

theorem words (x y : Fin 16384) : (val_main_v25 (F := Ideal) (ix3 x y 0)).toInt = (dist x y).val := by
  pointwise [val_main_v25, val_main_v24, val_main_v21, val_main_v20, val_main_v23, val_main_v22, val_main_v19, val_main_v18, val_main_v17, val_main_call0_v0, val_main_call0_v1, val_main_call0_v2, val_main_call0_v3, val_main_call0_v4, val_main_v16, val_main_v15, val_main_v14, val_main_v4, val_main_v3, val_main_v6, val_main_v5, val_main_c_1, val_main_c_2, val_main_c_3, val_main_c_4, val_main_c_5]
  rw [AttnSoft.dist_val]
  refine AttnSoft.column (IntOp.subi (BitVec.ofNat 32 x.val) (BitVec.ofNat 32 y.val)) _ ?_
  rw [int_sub _ _ (by rw [int_ofNat _ (by omega), int_ofNat _ (by omega)]; omega), int_ofNat _ (by omega), int_ofNat _ (by omega)]

theorem seen (h : Fin 8) (x y : Fin 16384) : val_main_v38_1 (F := Ideal) (ix3 h x y) = 1#1 ↔ near x y := by
  have hx : (BitVec.ofNat 32 x.val).toInt = x.val := int_ofNat _ (by omega)
  have hy : (BitVec.ofNat 32 y.val).toInt = y.val := int_ofNat _ (by omega)
  have dx : (IntOp.divsi .host (BitVec.ofNat 32 x.val) 64#32).toInt = x.val / 64 := by rw [int_div _ _ (by omega), hx]
  have dy : (IntOp.divsi .host (BitVec.ofNat 32 y.val) 64#32).toInt = y.val / 64 := by rw [int_div _ _ (by omega), hy]
  have hd : (IntOp.subi (IntOp.divsi .host (BitVec.ofNat 32 x.val) 64#32) (IntOp.divsi .host (BitVec.ofNat 32 y.val) 64#32)).toInt
      = (x.val / 64 : ℤ) - y.val / 64 := by rw [int_sub _ _ (by rw [dx, dy]; omega), dx, dy]
  pointwise [val_main_v38_1, val_main_v37, val_main_v36, val_main_v35, val_main_v34, val_main_v33, val_main_v13, val_main_v12, val_main_v11, val_main_v10, val_main_v9, val_main_v8, val_main_v7, val_main_v4, val_main_v3, val_main_v6, val_main_v5, val_main_c, val_main_c_0, val_main_c_6, val_main_c_7]
  rw [IntOp.andi_eq_one]
  refine (and_congr ((sge_iff _ _).trans (iff_of_eq (congrArg₂ (· ≤ ·) (show (0#32).toInt = 0 by decide) hd)))
    ((sle_iff _ _).trans (iff_of_eq (congrArg₂ (· ≤ ·) hd (show (8#32).toInt = 8 by decide))))).trans ?_
  unfold near; omega

variable {P : Fin 16384 → Fin 1536 → ℝ} {B : Fin 8 → Fin 320 → ℝ} {D : Fin 16384 → Fin 512 → ℝ}
  {x0 : FVec Ideal S16384x1536 .f32} {x1 : FVec Ideal S8x320 .f32} {x2 : FVec Ideal S16384x512 .f32}
  (hP : ∀ r l, x0 (ix2 r l) = (P r l : EReal)) (hB : ∀ h r, x1 (ix2 h r) = (B h r : EReal))
  (hD : ∀ r l, x2 (ix2 r l) = (D r l : EReal))

include hB in
theorem bias_ref (h : Fin 8) (x y : Fin 16384) : val_main_v26 (F := Ideal) x1 (ix3 h x y) = (B h (dist x y) : EReal) := by
  have hw := words x y
  refine (AttnTable.take_apply gather_S8x320_S16384x16384x1_S8x16384x16384_0_1_n_n_1_2_81.wf x1 val_main_v25 h x y).trans ?_
  rw [hB]
  refine congrArg (fun r => (B h r : EReal)) (Fin.ext ?_)
  dsimp only
  have := (dist x y).isLt
  omega

include hP hB in
theorem score_ref (h : Fin 8) (x y : Fin 16384) :
    val_main_v32 (F := Ideal) x0 x1 (ix3 h x y) = (score (qs P) (ks P) B h x y : EReal) := by
  have hb := bias_ref hB h x y
  pointwise [val_main_v32, val_main_v31, val_main_v30, val_main_v29, val_main_v27, val_main_v28, val_main_v0, val_main_v1, val_main_cst]
  simp only [hP, ← EReal.coe_mul, coe_sum, lit_eighth]
  rw [hb, ← EReal.coe_add]
  rfl

include hP hB in
theorem masked_ref (h : Fin 8) (x y : Fin 16384) :
    val_main_v38_0 (F := Ideal) x0 x1 (ix3 h x y) = masked (near x) (score (qs P) (ks P) B h x) y := by
  have hs := score_ref hP hB h x y
  have hn := seen h x y
  pointwise [val_main_v38_0, val_main_call1_v2, val_main_call1_v0, val_main_cst_8]
  rw [hs]
  unfold masked
  by_cases hc : near x y
  · rw [if_pos hc]; exact if_pos (hn.2 hc)
  · rw [if_neg hc]; exact (if_neg fun e => hc (hn.1 e)).trans lit_neg_inf

include hP hB in
theorem low_ref (h : Fin 8) (x : Fin 16384) : ∃ m : ℝ, val_main_v39 (F := Ideal) x0 x1 (ix2 h x) = m := by
  unfold val_main_v39
  pointwise []
  exact AttnSoft.fold_real (near x) (score (qs P) (ks P) B h x) _ _ lit_neg_inf (masked_ref hP hB h x) x (near_self x)

include hP hB in
theorem top_ref (h : Fin 8) (x : Fin 16384) : ∃ m : ℝ, val_main_v46 (F := Ideal) x0 x1 (ix2 h x) = m := by
  obtain ⟨m, hm⟩ := low_ref hP hB h x
  refine ⟨m, ?_⟩
  rw [val_main_v46_apply, hm]
  refine AttnSoft.max_low _ _ ?_
  pointwise [val_main_v45, val_main_cst_11]
  exact lit_neg_inf

/-- The exponentials of a row, and their sum, up to a common positive factor. -/
theorem exps_ref (hP : ∀ r l, x0 (ix2 r l) = (P r l : EReal)) (hB : ∀ h r, x1 (ix2 h r) = (B h r : EReal)) (h : Fin 8) (x : Fin 16384) :
    ∃ m : ℝ, 0 < m ∧ (∀ y, val_main_v59 (F := Ideal) x0 x1 (ix3 h x y) = ((weight (qs P) (ks P) B h x y * m : ℝ) : EReal))
      ∧ val_main_v60 (F := Ideal) x0 x1 (ix2 h x) = ((((∑ y, weight (qs P) (ks P) B h x y) * m : ℝ)) : EReal) := by
  obtain ⟨m, hm⟩ := top_ref hP hB h x
  have hs := masked_ref hP hB h x
  have he : ∀ y, val_main_v59 (F := Ideal) x0 x1 (ix3 h x y) = ((weight (qs P) (ks P) B h x y * Real.exp (-m) : ℝ) : EReal) := fun y => by
    have hy := hs y
    pointwise [val_main_v59, val_main_v58, val_main_v57, val_main_v56]
    rw [hy, hm]
    exact exp_masked _ _ m y
  refine ⟨Real.exp (-m), Real.exp_pos _, he, ?_⟩
  pointwise [val_main_v60, val_main_cst_17]
  simp only [he, coe_sum, ← Finset.sum_mul]

include hP hB in
theorem prob_ref (h : Fin 8) (x y : Fin 16384) : val_main_v63 (F := Ideal) x0 x1 (ix3 h x y) = (prob (qs P) (ks P) B h x y : EReal) := by
  obtain ⟨m, hm, he, hz⟩ := exps_ref hP hB h x
  have hy := he y
  have hp := total_pos (qs P) (ks P) B h x
  pointwise [val_main_v63, val_main_v62, val_main_v61]
  rw [hy, hz, div_real _ (mul_pos hp hm).ne', mul_div_mul_right _ _ hm.ne']
  rfl

include hP hD in
theorem dprob_ref (h : Fin 8) (x y : Fin 16384) :
    val_main_v73 (F := Ideal) x0 x2 (ix3 h x y) = (dprob (vs P) (os D) h x y : EReal) := by
  pointwise [val_main_v73, val_main_v72, val_main_v71, val_main_v67, val_main_v2]
  simp only [hP, hD, ← EReal.coe_mul, coe_sum]
  refine congrArg Real.toEReal (Finset.sum_congr rfl fun d _ => ?_)
  first | rfl | exact mul_comm _ _

include hP hB hD in
theorem dscore_ref (h : Fin 8) (x y : Fin 16384) :
    val_main_v89 (F := Ideal) x0 x1 x2 (ix3 h x y) = (dscore (qs P) (ks P) (vs P) B (os D) h x y : EReal) := by
  obtain ⟨m, hm, he, hz⟩ := exps_ref hP hB h x
  have hd := dprob_ref hP hD h x
  have hn := seen h x y
  have hp := total_pos (qs P) (ks P) B h x
  have h88 : val_main_v88 (F := Ideal) x0 x1 x2 (ix3 h x y) = (dscore (qs P) (ks P) (vs P) B (os D) h x y : EReal) := by
    have h66 : val_main_v66 (F := Ideal) x0 x1 (ix3 h x 0) = ((1 / (((∑ y, weight (qs P) (ks P) B h x y) * m) * ((∑ y, weight (qs P) (ks P) B h x y) * m)) : ℝ) : EReal) := by
      pointwise [val_main_v66, val_main_v65, val_main_v64, val_main_v61, val_main_cst_18]
      rw [hz, ← EReal.coe_mul, ← EReal.coe_one, div_real _ (mul_pos (mul_pos hp hm) (mul_pos hp hm)).ne']
    have h80 : val_main_v80 (F := Ideal) x0 x1 x2 (ix2 h x) = ((∑ y, dprob (vs P) (os D) h x y * (1 / (((∑ y, weight (qs P) (ks P) B h x y) * m) * ((∑ y, weight (qs P) (ks P) B h x y) * m))) * (weight (qs P) (ks P) B h x y * m) : ℝ) : EReal) := by
      pointwise [val_main_v80, val_main_v79, val_main_v78, val_main_v77, val_main_cst_19]
      simp only [hd, h66, he, ← EReal.coe_mul, coe_sum]
    have h85 : val_main_v85 (F := Ideal) x0 x1 x2 (ix2 h x) = ((-∑ y, dprob (vs P) (os D) h x y * (1 / (((∑ y, weight (qs P) (ks P) B h x y) * m) * ((∑ y, weight (qs P) (ks P) B h x y) * m))) * (weight (qs P) (ks P) B h x y * m) : ℝ) : EReal) := by
      pointwise [val_main_v85, val_main_v82, val_main_v81, val_main_cst_20]
      simp only [h80, Fin.sum_univ_one, EReal.coe_neg]
    have hdy := hd y
    have hey := he y
    pointwise [val_main_v88, val_main_v87, val_main_v86, val_main_v84, val_main_v83, val_main_v61]
    rw [hdy, hey, hz, h85, div_real _ (mul_pos hp hm).ne', ← EReal.coe_add, ← EReal.coe_mul]
    refine congrArg Real.toEReal ?_
    unfold dscore prob
    have h1 : ∀ y', dprob (vs P) (os D) h x y' * (1 / (((∑ y, weight (qs P) (ks P) B h x y) * m) * ((∑ y, weight (qs P) (ks P) B h x y) * m))) * (weight (qs P) (ks P) B h x y' * m)
        = dprob (vs P) (os D) h x y' * (weight (qs P) (ks P) B h x y' / ∑ y, weight (qs P) (ks P) B h x y) * (1 / ((∑ y, weight (qs P) (ks P) B h x y) * m)) := fun y' => by
      field_simp
    rw [Finset.sum_congr rfl fun y' _ => h1 y', ← Finset.sum_mul]
    field_simp
    ring
  pointwise [val_main_v89, val_main_call2_v0, val_main_call2_cst]
  rw [h88]
  by_cases hc : near x y
  · exact if_pos (hn.2 hc)
  · refine (if_neg fun e => hc (hn.1 e)).trans ?_
    rw [dscore_far _ _ _ _ _ hc]
    simp

include hP hB hD in
theorem dscaled_ref (h : Fin 8) (x y : Fin 16384) :
    val_main_v91 (F := Ideal) x0 x1 x2 (ix3 h x y) = ((dscore (qs P) (ks P) (vs P) B (os D) h x y * (1 / 8) : ℝ) : EReal) := by
  have h1 := dscore_ref hP hB hD h x y
  pointwise [val_main_v91, val_main_v90, val_main_cst_21]
  rw [h1, lit_eighth, ← EReal.coe_mul]

include hP hB hD in
theorem drel_ref (h : Fin 8) (r : Fin 320) :
    val_main_v99 (F := Ideal) x0 x1 x2 (ix2 h r) = (drel (qs P) (ks P) (vs P) B (os D) h r : EReal) := by
  have h1 := dscore_ref hP hB hD h
  refine (AttnTable.add_apply scatter_S8x320_S16384x16384x1_S8x16384x16384_0_1_1_2.wf _ _ _ h r).trans ?_
  have h0 : val_main_v98 (F := Ideal) (ix2 h r) = 0 := by
    pointwise [val_main_v98, val_main_cst_22]
  rw [h0, zero_add]
  have ht : ∀ x y, (if ((val_main_v25 (F := Ideal) (ix3 x y 0)).toInt = (r.val : ℤ)) then val_main_v89 (F := Ideal) x0 x1 x2 (ix3 h x y) else 0)
      = ((if dist x y = r then dscore (qs P) (ks P) (vs P) B (os D) h x y else 0 : ℝ) : EReal) := fun x y => by
    have : ((val_main_v25 (F := Ideal) (ix3 x y 0)).toInt = (r.val : ℤ)) ↔ dist x y = r := by
      rw [words, Fin.ext_iff]; omega
    by_cases hc : dist x y = r
    · rw [if_pos (this.2 hc), if_pos hc, h1]
    · rw [if_neg fun e => hc (this.1 e), if_neg hc, EReal.coe_zero]
  refine (Finset.sum_congr rfl fun x _ => Finset.sum_congr rfl fun y _ => ht x y).trans ?_
  simp only [coe_sum]
  rfl

include hP in
theorem q_ref (x : Fin 16384) (h : Fin 8) (d : Fin 64) : val_main_v27 (F := Ideal) x0 (ix3 x h d) = (qs P x h d : EReal) := by
  pointwise [val_main_v27, val_main_v0]; exact hP _ _

include hP in
theorem k_ref (x : Fin 16384) (h : Fin 8) (d : Fin 64) : val_main_v28 (F := Ideal) x0 (ix3 x h d) = (ks P x h d : EReal) := by
  pointwise [val_main_v28, val_main_v1]; exact hP _ _

include hD in
theorem o_ref (x : Fin 16384) (h : Fin 8) (d : Fin 64) : val_main_v72 (F := Ideal) x2 (ix3 h d x) = (os D x h d : EReal) := by
  pointwise [val_main_v72, val_main_v71]; exact hD _ _

include hP hB hD in
theorem dq_ref (x : Fin 16384) (j : Fin 512) :
    val_main_v97 (F := Ideal) x0 x1 x2 (ix2 x j) = (dq (qs P) (ks P) (vs P) B (os D) x ⟨j.val / 64, by omega⟩ ⟨j.val % 64, by omega⟩ : EReal) := by
  have h1 := dscaled_ref hP hB hD
  have h2 := k_ref hP
  pointwise [val_main_v97, val_main_v95, val_main_v94]
  simp only [h1, h2, ← EReal.coe_mul, coe_sum]
  refine congrArg Real.toEReal ?_
  unfold dq
  rw [Finset.sum_mul]
  exact Finset.sum_congr rfl fun y _ => mul_right_comm _ _ _

include hP hB hD in
theorem dk_ref (x : Fin 16384) (j : Fin 512) :
    val_main_v96 (F := Ideal) x0 x1 x2 (ix2 x j) = (dk (qs P) (ks P) (vs P) B (os D) x ⟨j.val / 64, by omega⟩ ⟨j.val % 64, by omega⟩ : EReal) := by
  have h1 := dscaled_ref hP hB hD
  have h2 := q_ref hP
  pointwise [val_main_v96, val_main_v93, val_main_v92]
  simp only [h1, h2, ← EReal.coe_mul, coe_sum]
  refine congrArg Real.toEReal ?_
  unfold dk
  exact Finset.sum_congr rfl fun y _ => (mul_assoc _ _ _).trans (congrArg _ (mul_comm _ _))

include hP hB hD in
theorem dv_ref (x : Fin 16384) (j : Fin 512) :
    val_main_v76 (F := Ideal) x0 x1 x2 (ix2 x j) = (dv (qs P) (ks P) B (os D) x ⟨j.val / 64, by omega⟩ ⟨j.val % 64, by omega⟩ : EReal) := by
  have h1 := prob_ref hP hB
  have h2 := o_ref hD
  pointwise [val_main_v76, val_main_v75, val_main_v74]
  simp only [h1, h2, ← EReal.coe_mul, coe_sum]
  refine congrArg Real.toEReal ?_
  unfold dv
  exact Finset.sum_congr rfl fun y _ => mul_comm _ _

include hP hB hD in
theorem dq_out (x : Fin 16384) (j : Fin 512) :
    val_main_v106 (F := Ideal) x0 x1 x2 (ix2 x j) = (dq (qs P) (ks P) (vs P) B (os D) x ⟨j.val / 64, by omega⟩ ⟨j.val % 64, by omega⟩ : EReal) := by
  have h1 := dq_ref hP hB hD x j
  pointwise [val_main_v106, val_main_v105, val_main_v104, val_main_v103, val_main_v102, val_main_v101, val_main_v100, val_main_cst_23, val_main_cst_24, val_main_cst_25]
  rw [dif_neg (by omega), dif_neg (fun e => e.1), h1, zero_add, zero_add]

include hP hB hD in
theorem dkv_out (x : Fin 16384) (j : Fin 1024) :
    val_main_v107 (F := Ideal) x0 x1 x2 (ix2 x j) = (dkv (qs P) (ks P) (vs P) B (os D) x j : EReal) := by
  have h1 := dk_ref hP hB hD x
  have h2 := dv_ref hP hB hD x
  pointwise [val_main_v107, val_main_v105, val_main_v104, val_main_v103, val_main_v102, val_main_v101, val_main_v100, val_main_cst_23, val_main_cst_24, val_main_cst_25]
  by_cases hj : j.val < 512
  · rw [dif_neg (by omega), dif_pos hj, zero_add, h1, dkv, if_pos hj]
    exact congrArg (fun a => (dk (qs P) (ks P) (vs P) B (os D) x a ⟨j.val % 64, by omega⟩ : EReal)) (Fin.ext (by dsimp only; omega))
  · rw [dif_pos (by omega), dif_neg hj, add_zero, h2, dkv, if_neg hj]
    exact congrArg₂ (fun a b => (dv (qs P) (ks P) B (os D) x a b : EReal)) (Fin.ext (by dsimp only; omega)) (Fin.ext (by dsimp only; omega))

/-- A buffer of a device's TensorCore. -/
abbrev at_ (m : (ℓ : Loc nD τ sig) → Buf (Elt Ideal) ℓ) (c : Dev nD) (b : Ref sig .tc) : Buf (Elt Ideal) ((c.tc : Thread nD τ).loc b) :=
  m ((c.tc : Thread nD τ).loc b)

/-- The reference's run: its results are the named values, its arguments end unchanged and it has no semaphore. -/
theorem ref_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      at_ r.2.mem c main_v106 = val_main_v106 (F := Ideal) (at_ m c main_arg0) (at_ m c main_arg1) (at_ m c main_arg2)
      ∧ at_ r.2.mem c main_v107 = val_main_v107 (F := Ideal) (at_ m c main_arg0) (at_ m c main_arg1) (at_ m c main_arg2)
      ∧ at_ r.2.mem c main_v99 = val_main_v99 (F := Ideal) (at_ m c main_arg0) (at_ m c main_arg1) (at_ m c main_arg2)
      ∧ at_ r.2.mem c main_arg0 = at_ m c main_arg0
      ∧ at_ r.2.mem c main_arg1 = at_ m c main_arg1
      ∧ at_ r.2.mem c main_arg2 = at_ m c main_arg2) ∧ r.2.sem = fun _ => 0 :=
  (θ_run _ _ _).mono (fun r h => And.intro (fun c => ⟨(h c).1.trans (val_main_v106_eq _),
      (h c).2.1.trans (val_main_v107_eq _),
      (h c).2.2.1.trans (val_main_v99_eq _),
      (h c).2.2.2.1, (h c).2.2.2.2.1, (h c).2.2.2.2.2⟩)
    (sem_eq_zero_of_no_sems (by decide) r.2)) (Value.run m ρ)

end Cert.AttnRefIdeal
-- ==== Proof.Attn.Claim.lean ====
module
public import proofs.«01_k».proof.Defs
public import proofs.«01_k».proof.Proof.Gen.Attn.Frame
public import proofs.«01_k».proof.Proof.Gen.Pre_finite_attn
public import proofs.«01_k».proof.Proof.Attn.Run
public import proofs.«01_k».proof.Proof.Attn.Ref

/-! The claims about the attention's backward call: the three frames, and that its results are the reference's at finite
    arguments. -/

@[expose] public section

set_option maxRecDepth 16384

noncomputable section

namespace Cert.AttnClaim

open Idealize.ShloMosaic Idealize.ShloMosaic.TcCoe Idealize.ShloMosaic.Tactic Idealize.SL.Sem Cert.Reals

open Cert.Pre_finite_attn in
/-- Where the precondition holds the arguments are real numbers. -/
theorem finite_of_pre {x0 : FVec Ideal S16384x1536 .f32} {x1 : FVec Ideal S8x320 .f32} {x2 : FVec Ideal S16384x512 .f32}
    (h : fn x0 x1 x2 = fun _ => 1#1) :
    x0 = (fun i => ((EReal.toReal (x0 i) : ℝ) : EReal)) ∧ x1 = (fun i => ((EReal.toReal (x1 i) : ℝ) : EReal))
    ∧ x2 = (fun i => ((EReal.toReal (x2 i) : ℝ) : EReal)) := by
  have : Subsingleton S_.Idx := ⟨fun _ _ => funext fun a => a.elim0⟩
  have h := congrFun h (fun a => a.elim0)
  dsimp only [fn] at h
  obtain ⟨h, h2⟩ := and_one h
  obtain ⟨h0, h1⟩ := and_one h
  exact ⟨real_of_all _ _ (fun _ => lit_inf) _ _ _ _ h0, real_of_all _ _ (fun _ => lit_inf) _ _ _ _ h1,
    real_of_all _ _ (fun _ => lit_inf) _ _ _ _ h2⟩

/-- The reference leaves its arguments as they were. -/
theorem frame_ref (m : (ℓ : Loc AttnRefIdeal.nD AttnRefIdeal.τ AttnRefIdeal.sig) → Buf (Elt Ideal) ℓ)
    (ρ : Dev AttnRefIdeal.nD → PrngReg) :
    θ_run (AttnRefIdeal.defs (F := Ideal)) (onTc (τ := AttnRefIdeal.τ) (AttnRefIdeal.main (F := Ideal))) ⟨m, fun _ => 0, ρ⟩
      (fun r => (∀ c : Dev AttnRefIdeal.nD,
        r.2.mem ((c.tc : Thread AttnRefIdeal.nD AttnRefIdeal.τ).loc AttnRefIdeal.main_arg0) = m ((c.tc : Thread AttnRefIdeal.nD AttnRefIdeal.τ).loc AttnRefIdeal.main_arg0)
        ∧ r.2.mem ((c.tc : Thread AttnRefIdeal.nD AttnRefIdeal.τ).loc AttnRefIdeal.main_arg1) = m ((c.tc : Thread AttnRefIdeal.nD AttnRefIdeal.τ).loc AttnRefIdeal.main_arg1)
        ∧ r.2.mem ((c.tc : Thread AttnRefIdeal.nD AttnRefIdeal.τ).loc AttnRefIdeal.main_arg2) = m ((c.tc : Thread AttnRefIdeal.nD AttnRefIdeal.τ).loc AttnRefIdeal.main_arg2)) ∧ r.2.sem = fun _ => 0) :=
  (θ_run _ _ _).mono (fun _ h => ⟨fun c => (h.1 c).2.2.2, h.2⟩) (AttnRefIdeal.ref_run m ρ)

theorem algebraic : Cert.algebraic_AttnIdeal_AttnRefIdeal_pre_finite_attn := by
  intro m g m' g' hpre hargs
  refine ⟨fun c => (AttnIdeal.Gen.dats (F := Ideal) m 0 c).arrAt 5 AttnIdeal.cfg0.N,
    fun c => (AttnIdeal.Gen.dats (F := Ideal) m 0 c).arrAt 6 AttnIdeal.cfg0.N,
    fun c => Pipeline.afterTail₀ AttnIdeal.cfgs (AttnIdeal.Gen.dats (F := Ideal) m) 0 (AttnIdeal.Gen.V0 m)
      [AttnIdeal.Gen.hostOps1, AttnIdeal.Gen.hostOps1_1, AttnIdeal.Gen.hostOps1_2] c AttnIdeal.main_v103, ?_, ?_⟩
  · refine (θ_run _ _ _).mono (fun r h c => ?_) (θ_run_and (AttnIdeal.Gen.run_main m g) (AttnIdeal.Gen.unchanged m g))
    obtain ⟨h, hu⟩ := h
    exact ⟨(h c).1 5, (h c).1 6,
      (h c).2 AttnIdeal.main_v103 (Pipeline.mem_restRefs_of AttnIdeal.main_v103 (by decide) (by decide)), hu c⟩
  · refine (θ_run _ _ _).mono (fun r h c => ?_) (AttnRefIdeal.ref_run m' g')
    obtain ⟨a0, a1, a2⟩ := hargs c
    obtain ⟨f0, f1, f2⟩ := finite_of_pre (hpre c)
    have H0 := fun r l => congrFun f0 (ix2 r l)
    have H1 := fun r l => congrFun f1 (ix2 r l)
    have H2 := fun r l => congrFun f2 (ix2 r l)
    obtain ⟨h1, h2, h3, hrest⟩ := h.1 c
    refine ⟨h1.trans ?_, h2.trans ?_, h3.trans ?_, hrest⟩
    · dsimp only [AttnRefIdeal.at_]
      rw [a0, a1, a2, AttnIdeal.run_dq m c H0 H1 H2]
      funext i; rw [eq_ix2 i]
      exact AttnRefIdeal.dq_out H0 H1 H2 _ _
    · dsimp only [AttnRefIdeal.at_]
      rw [a0, a1, a2, AttnIdeal.run_dkv m c H0 H1 H2]
      funext i; rw [eq_ix2 i]
      exact AttnRefIdeal.dkv_out H0 H1 H2 _ _
    · dsimp only [AttnRefIdeal.at_]
      rw [a0, a1, a2]
      funext i
      refine Eq.trans ?_ (AttnIdeal.run_bias m c H0 H1 H2 i).symm
      rw [eq_ix2 i]
      exact AttnRefIdeal.drel_ref H0 H1 H2 _ _

end Cert.AttnClaim
-- ==== Proof.Sg.Spec.lean ====
module
public import proofs.«01_k».proof.Proof.Reals
public import Mathlib.Analysis.SpecialFunctions.Trigonometric.DerivHyp

/-! The spatial gating, its gelus and its layer norm, and their gradients, over the reals. -/

@[expose] public section

noncomputable section

namespace Cert.SgSpec

open Idealize.ShloMosaic Cert.Reals

/-- The word that stands for the square root of 2 / π, as the number it is. -/
def root : ℝ := (Ideal.ofBits .f32 1061962282#32 : EReal).toReal

theorem lit_root : (Ideal.ofBits .f32 1061962282#32 : EReal) = (root : EReal) := by
  have : (Ideal.ofBits .f32 1061962282#32 : EReal) = ((13386282 / 2 ^ 24 : ℝ) : EReal) := by
    simp [Ideal.ofBits, Ideal.ieee, -EReal.coe_mul]; norm_num
  rw [root, this, EReal.toReal_coe]

/-- The cubic coefficient of the gelu. -/
def cubic : ℝ := 8943 / 200000

/-- The hyperbolic tangent in the gelu. -/
def th (x : ℝ) : ℝ := Real.tanh (root * (x + cubic * x * x * x))

def gelu (x : ℝ) : ℝ := 1 / 2 * x * (1 + th x)

/-- The gelu's derivative. -/
def dgelu (x : ℝ) : ℝ := 1 / 2 * (1 + th x) + 1 / 2 * x * (1 - th x * th x) * root * (1 + 3 * cubic * x * x)

/-- The mean of 512 numbers. -/
def mean (f : Fin 512 → ℝ) : ℝ := (∑ x, f x) / 512

/-- The variance of 512 numbers, with the small number added to it. -/
def var (f : Fin 512 → ℝ) : ℝ := (∑ x, (f x - mean f) * (f x - mean f)) / 512 + eps

theorem var_pos (f : Fin 512 → ℝ) : 0 < var f :=
  add_pos_of_nonneg_of_pos (div_nonneg (Finset.sum_nonneg fun _ _ => mul_self_nonneg _) (by norm_num)) eps_pos

def rstd (f : Fin 512 → ℝ) : ℝ := (√(var f))⁻¹

theorem rsqrt_var (f : Fin 512 → ℝ) : Ideal.rsqrt (var f : EReal) = (rstd f : EReal) := rsqrt_real (var_pos f)

theorem rstd_div (f : Fin 512 → ℝ) : rstd f / var f = rstd f * (rstd f * rstd f) := by
  have h : rstd f * rstd f = (var f)⁻¹ := by
    unfold rstd; rw [← mul_inv, Real.mul_self_sqrt (var_pos f).le]
  rw [h]; rfl

/-- A row's entry, normalised. -/
def hat (f : Fin 512 → ℝ) (k : Fin 512) : ℝ := (f k - mean f) * rstd f

/-- The layer norm's gradient of a row from the gradient of the normalised row. -/
def lnBack (f u : Fin 512 → ℝ) (k : Fin 512) : ℝ := rstd f * (u k - mean u - hat f k * mean (fun x => u x * hat f x))

theorem sum_centred (f : Fin 512 → ℝ) : ∑ x, (f x - mean f) = 0 := by
  rw [Finset.sum_sub_distrib, Finset.sum_const, Finset.card_univ, Fintype.card_fin]
  unfold mean
  rw [nsmul_eq_mul]; push_cast; ring

/-- The gradient by the chain rule through the mean, the variance and the root, as the reference forms it. -/
theorem lnBack_eq (f u : Fin 512 → ℝ) (k : Fin 512) :
    (u k * rstd f + (f k - mean f) * ((∑ x, (f x - mean f) * u x) * (-1 / 2 * (rstd f / var f)) / 512)
        + ((∑ x, (f x - mean f) * u x) * (-1 / 2 * (rstd f / var f)) / 512) * (f k - mean f))
      + (∑ x, -(u x * rstd f + (f x - mean f) * ((∑ x, (f x - mean f) * u x) * (-1 / 2 * (rstd f / var f)) / 512)
        + ((∑ x, (f x - mean f) * u x) * (-1 / 2 * (rstd f / var f)) / 512) * (f x - mean f))) / 512 = lnBack f u k := by
  rw [rstd_div]
  generalize ha : (∑ x, (f x - mean f) * u x) = a
  have h0 := sum_centred f
  have hs : ∑ x, -(u x * rstd f + (f x - mean f) * (a * (-1 / 2 * (rstd f * (rstd f * rstd f))) / 512)
        + (a * (-1 / 2 * (rstd f * (rstd f * rstd f))) / 512) * (f x - mean f)) = -((∑ x, u x) * rstd f) := by
    rw [Finset.sum_neg_distrib, Finset.sum_add_distrib, Finset.sum_add_distrib, ← Finset.sum_mul, ← Finset.sum_mul,
      ← Finset.mul_sum, h0]
    ring
  have hh : mean (fun x => u x * hat f x) = a * rstd f / 512 := by
    unfold mean hat
    rw [← ha, Finset.sum_mul]
    exact congrArg (· / 512) (Finset.sum_congr rfl fun x _ => by ring)
  rw [hs, lnBack, hh]
  unfold hat mean
  ring

/-- Position `i` of block `n`, and channel `c` of group `g`. -/
def pos (n i : Fin 128) : Fin 16384 := ⟨n.val * 128 + i.val, by omega⟩

def ch (g : Fin 4) (c : Fin 128) : Fin 512 := ⟨g.val * 128 + c.val, by omega⟩

def low (k : Fin 512) : Fin 1024 := ⟨k.val, by omega⟩

def high (k : Fin 512) : Fin 1024 := ⟨512 + k.val, by omega⟩

def blockOf (r : Fin 16384) : Fin 128 := ⟨r.val / 128, by omega⟩

def inBlock (r : Fin 16384) : Fin 128 := ⟨r.val % 128, by omega⟩

def groupOf (k : Fin 512) : Fin 4 := ⟨k.val / 128, by omega⟩

def inGroup (k : Fin 512) : Fin 128 := ⟨k.val % 128, by omega⟩

theorem pos_eq (r : Fin 16384) : pos (blockOf r) (inBlock r) = r := Fin.ext (by unfold pos blockOf inBlock; dsimp only; omega)

theorem ch_eq (k : Fin 512) : ch (groupOf k) (inGroup k) = k := Fin.ext (by unfold ch groupOf inGroup; dsimp only; omega)

theorem block_pos (n i : Fin 128) : blockOf (pos n i) = n := Fin.ext (by unfold pos blockOf; dsimp only; omega)

theorem in_pos (n i : Fin 128) : inBlock (pos n i) = i := Fin.ext (by unfold pos inBlock; dsimp only; omega)

theorem group_ch (g : Fin 4) (c : Fin 128) : groupOf (ch g c) = g := Fin.ext (by unfold ch groupOf; dsimp only; omega)

theorem in_ch (g : Fin 4) (c : Fin 128) : inGroup (ch g c) = c := Fin.ext (by unfold ch inGroup; dsimp only; omega)

theorem sum_pos (f : Fin 16384 → ℝ) : ∑ n, ∑ i, f (pos n i) = ∑ r, f r :=
  sum_rows (N := 16384) (n := 128) (k := 128) pos (by norm_num) (fun _ _ => rfl) f

/-- The positions that a position reads: those of its own chunk of 64 and of the chunks before it. -/
def sees (i j : Fin 128) : Prop := j.val / 64 ≤ i.val / 64

instance (i j : Fin 128) : Decidable (sees i j) := by unfold sees; infer_instance

variable (A : Fin 16384 → Fin 1024 → ℝ) (lg lb : Fin 512 → ℝ) (W : Fin 4 → Fin 128 → Fin 128 → ℝ) (B : Fin 4 → Fin 128 → ℝ)
  (D : Fin 16384 → Fin 512 → ℝ)

def gu (r : Fin 16384) (k : Fin 512) : ℝ := gelu (A r (low k))

def gv (r : Fin 16384) (k : Fin 512) : ℝ := gelu (A r (high k))

/-- The layer norm of the second half. -/
def vn (r : Fin 16384) (k : Fin 512) : ℝ := hat (gv A r) k * lg k + lb k

/-- The weights that take part. -/
def wm (g : Fin 4) (i j : Fin 128) : ℝ := if sees i j then W g i j else 0

def mixed (n i : Fin 128) (g : Fin 4) (c : Fin 128) : ℝ := (∑ j, wm W g i j * vn A lg lb (pos n j) (ch g c)) + B g i

def mix (r : Fin 16384) (k : Fin 512) : ℝ := mixed A lg lb W B (blockOf r) (inBlock r) (groupOf k) (inGroup k)

def out (r : Fin 16384) (k : Fin 512) : ℝ := gu A r k * mix A lg lb W B r k

/-- The gradients: of the first half, of what was mixed, of the layer norm's result, of the weights, the biases, the gain
    and the offset, and of the second half. -/
def dsu (r : Fin 16384) (k : Fin 512) : ℝ := D r k * mix A lg lb W B r k * dgelu (A r (low k))

def dm (r : Fin 16384) (k : Fin 512) : ℝ := D r k * gu A r k

def dmixed (n j : Fin 128) (g : Fin 4) (c : Fin 128) : ℝ := ∑ i, wm W g i j * dm A D (pos n i) (ch g c)

def dvn (r : Fin 16384) (k : Fin 512) : ℝ := dmixed A W D (blockOf r) (inBlock r) (groupOf k) (inGroup k)

def dw (g : Fin 4) (i j : Fin 128) : ℝ :=
  if sees i j then ∑ n, ∑ c, dm A D (pos n i) (ch g c) * vn A lg lb (pos n j) (ch g c) else 0

def db (g : Fin 4) (i : Fin 128) : ℝ := ∑ n, ∑ c, dm A D (pos n i) (ch g c)

def dlg (k : Fin 512) : ℝ := ∑ r, dvn A W D r k * hat (gv A r) k

def dlb (k : Fin 512) : ℝ := ∑ r, dvn A W D r k

def dgv (r : Fin 16384) (k : Fin 512) : ℝ := lnBack (gv A r) (fun x => dvn A W D r x * lg x) k

def dsv (r : Fin 16384) (k : Fin 512) : ℝ := dgv A lg W D r k * dgelu (A r (high k))

/-- The gradient of both halves, side by side. -/
def da (r : Fin 16384) (l : Fin 1024) : ℝ :=
  if h : l.val < 512 then dsu A lg lb W B D r ⟨l.val, h⟩ else dsv A lg W D r ⟨l.val - 512, by omega⟩

end Cert.SgSpec

end
-- ==== Proof.Sg.Blocks.lean ====
module
public import proofs.«01_k».proof.Proof.Gen.SgIdeal.Frame
public import proofs.«01_k».proof.Proof.Sg.Spec

/-! One point of each of the two calls of the spatial gating: 1024 positions, that is eight blocks of 128. -/

@[expose] public section

set_option maxRecDepth 16384

noncomputable section

namespace Cert.SgIdeal

open Idealize.ShloMosaic Idealize.ShloMosaic.TcCoe Idealize.ShloMosaic.Tactic Cert.Reals
open Gen SgSpec

/-- Position `r` of point `t`, block `q` of point `t`, and position `j` of block `q`. -/
def slab (t : Fin 16) (r : Fin 1024) : Fin 16384 := ⟨t.val * 1024 + r.val, by omega⟩

def blkOf (t : Fin 16) (q : Fin 8) : Fin 128 := ⟨t.val * 8 + q.val, by omega⟩

def loc (q : Fin 8) (j : Fin 128) : Fin 1024 := ⟨q.val * 128 + j.val, by omega⟩

theorem slab_loc (t : Fin 16) (q : Fin 8) (j : Fin 128) : slab t (loc q j) = pos (blkOf t q) j :=
  Fin.ext (show t.val * 1024 + (q.val * 128 + j.val) = (t.val * 8 + q.val) * 128 + j.val by omega)

theorem exists_loc (r : Fin 1024) : ∃ q j, r = loc q j :=
  ⟨⟨r.val / 128, by omega⟩, ⟨r.val % 128, by omega⟩, Fin.ext (show r.val = r.val / 128 * 128 + r.val % 128 by omega)⟩

theorem exists_ch (k : Fin 512) : ∃ g c, k = ch g c := ⟨groupOf k, inGroup k, (ch_eq k).symm⟩

theorem loc_div (q : Fin 8) (c : Fin 128) : (loc q c).val / 128 = q.val := by unfold loc; dsimp only; omega

theorem loc_mod (q : Fin 8) (c : Fin 128) : (loc q c).val % 128 = c.val := by unfold loc; dsimp only; omega

theorem ch_div (g : Fin 4) (c : Fin 128) : (ch g c).val / 128 = g.val := by unfold ch; dsimp only; omega

theorem ch_mod (g : Fin 4) (c : Fin 128) : (ch g c).val % 128 = c.val := by unfold ch; dsimp only; omega

section Layout

variable {φ : FTy}

/-- Eight blocks side by side. -/
theorem beside8 (a0 a1 a2 a3 a4 a5 a6 a7 : FVec Ideal S128x128 φ)
    (h : Shape.Concatenates [S128x128, S128x128, S128x128, S128x128, S128x128, S128x128, S128x128, S128x128] S128x1024 1)
    (q : Fin 8) (j c : Fin 128) :
    concatenate S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] h (ix2 j (loc q c))
      = (![a0, a1, a2, a3, a4, a5, a6, a7] : Fin 8 → FVec Ideal S128x128 φ) q (ix2 j c) :=
  concatenate_ofFn_apply (t := S128x1024) 1 (![a0, a1, a2, a3, a4, a5, a6, a7] : Fin 8 → FVec Ideal S128x128 φ) h rfl 128 rfl
    (ix2 j (loc q c)) q (loc_div q c) (ix2 j c) (loc_mod q c).symm (fun a ha => by fin_cases a; exacts [rfl, absurd rfl ha])

/-- Four groups side by side. -/
theorem beside4 (a0 a1 a2 a3 : FVec Ideal S128x128 φ) (h : Shape.Concatenates [S128x128, S128x128, S128x128, S128x128] S128x512 1)
    (g : Fin 4) (j c : Fin 128) :
    concatenate S128x512 1 [⟨S128x128, a0⟩, ⟨S128x128, a1⟩, ⟨S128x128, a2⟩, ⟨S128x128, a3⟩] h (ix2 j (ch g c))
      = (![a0, a1, a2, a3] : Fin 4 → FVec Ideal S128x128 φ) g (ix2 j c) :=
  concatenate_ofFn_apply (t := S128x512) 1 (![a0, a1, a2, a3] : Fin 4 → FVec Ideal S128x128 φ) h rfl 128 rfl
    (ix2 j (ch g c)) g (ch_div g c) (ix2 j c) (ch_mod g c).symm (fun a ha => by fin_cases a; exacts [rfl, absurd rfl ha])

/-- Eight blocks of rows, one below the other. -/
theorem below8 (a0 a1 a2 a3 a4 a5 a6 a7 : FVec Ideal S128x512 φ)
    (h : Shape.Concatenates [S128x512, S128x512, S128x512, S128x512, S128x512, S128x512, S128x512, S128x512] S1024x512 0)
    (q : Fin 8) (j : Fin 128) (k : Fin 512) :
    concatenate S1024x512 0 [⟨S128x512, a0⟩, ⟨S128x512, a1⟩, ⟨S128x512, a2⟩, ⟨S128x512, a3⟩, ⟨S128x512, a4⟩, ⟨S128x512, a5⟩, ⟨S128x512, a6⟩, ⟨S128x512, a7⟩] h (ix2 (loc q j) k)
      = (![a0, a1, a2, a3, a4, a5, a6, a7] : Fin 8 → FVec Ideal S128x512 φ) q (ix2 j k) :=
  concatenate_ofFn_apply (t := S1024x512) 0 (![a0, a1, a2, a3, a4, a5, a6, a7] : Fin 8 → FVec Ideal S128x512 φ) h rfl 128 rfl
    (ix2 (loc q j) k) q (loc_div q j) (ix2 j k) (loc_mod q j).symm (fun a ha => by fin_cases a; exacts [absurd rfl ha, rfl])

/-- The four columns of the biases side by side. -/
theorem columns4 (a0 a1 a2 a3 : FVec Ideal S128x1 φ) (h : Shape.Concatenates [S128x1, S128x1, S128x1, S128x1] S128x4 1)
    (g : Fin 4) (j : Fin 128) :
    concatenate S128x4 1 [⟨S128x1, a0⟩, ⟨S128x1, a1⟩, ⟨S128x1, a2⟩, ⟨S128x1, a3⟩] h (ix2 j g)
      = (![a0, a1, a2, a3] : Fin 4 → FVec Ideal S128x1 φ) g (ix2 j 0) :=
  concatenate_ofFn_apply (t := S128x4) 1 (![a0, a1, a2, a3] : Fin 4 → FVec Ideal S128x1 φ) h rfl 1 rfl
    (ix2 j g) g (Nat.div_one _) (ix2 j 0) (Nat.mod_one _).symm (fun a ha => by fin_cases a; exacts [rfl, absurd rfl ha])

/-- A block's rows and a group's channels cut out. -/
theorem cut_block (x : FVec Ideal S1024x512 φ) (o0 o1 : ℕ) (h : S1024x512.Slices ![o0, o1] S128x128) (q : Fin 8) (g : Fin 4)
    (h0 : o0 = q.val * 128) (h1 : o1 = g.val * 128) (j c : Fin 128) :
    extractStridedSlice S128x128 ![o0, o1] x h (ix2 j c) = x (ix2 (loc q j) (ch g c)) := by
  subst h0 h1
  exact extractStridedSlice_apply _ x h _ _ (fun a => by fin_cases a <;> rfl)

/-- A block's columns cut out. -/
theorem cut_cols (x : FVec Ideal S128x1024 φ) (o1 : ℕ) (h : S128x1024.Slices ![0, o1] S128x128) (q : Fin 8)
    (h1 : o1 = q.val * 128) (j c : Fin 128) :
    extractStridedSlice S128x128 ![0, o1] x h (ix2 j c) = x (ix2 j (loc q c)) := by
  subst h1
  exact extractStridedSlice_apply _ x h _ _ (fun a => by fin_cases a <;> first | rfl | exact (Nat.zero_add _).symm)

/-- The eight blocks of a group's channels, side by side. -/
theorem folded (x : FVec Ideal S1024x512 φ) (o : ℕ) (g : Fin 4) (ho : o = g.val * 128) (h0 : S1024x512.Slices ![0, o] S128x128)
    (h1 : S1024x512.Slices ![128, o] S128x128) (h2 : S1024x512.Slices ![256, o] S128x128) (h3 : S1024x512.Slices ![384, o] S128x128)
    (h4 : S1024x512.Slices ![512, o] S128x128) (h5 : S1024x512.Slices ![640, o] S128x128) (h6 : S1024x512.Slices ![768, o] S128x128)
    (h7 : S1024x512.Slices ![896, o] S128x128)
    (h : Shape.Concatenates [S128x128, S128x128, S128x128, S128x128, S128x128, S128x128, S128x128, S128x128] S128x1024 1)
    (q : Fin 8) (j c : Fin 128) :
    concatenate S128x1024 1 [⟨S128x128, extractStridedSlice S128x128 ![0, o] x h0⟩, ⟨S128x128, extractStridedSlice S128x128 ![128, o] x h1⟩,
      ⟨S128x128, extractStridedSlice S128x128 ![256, o] x h2⟩, ⟨S128x128, extractStridedSlice S128x128 ![384, o] x h3⟩,
      ⟨S128x128, extractStridedSlice S128x128 ![512, o] x h4⟩, ⟨S128x128, extractStridedSlice S128x128 ![640, o] x h5⟩,
      ⟨S128x128, extractStridedSlice S128x128 ![768, o] x h6⟩, ⟨S128x128, extractStridedSlice S128x128 ![896, o] x h7⟩] h (ix2 j (loc q c))
      = x (ix2 (loc q j) (ch g c)) := by
  refine (beside8 _ _ _ _ _ _ _ _ h q j c).trans ?_
  match q with
  | 0 => exact cut_block x 0 o h0 0 g rfl ho j c
  | 1 => exact cut_block x 128 o h1 1 g rfl ho j c
  | 2 => exact cut_block x 256 o h2 2 g rfl ho j c
  | 3 => exact cut_block x 384 o h3 3 g rfl ho j c
  | 4 => exact cut_block x 512 o h4 4 g rfl ho j c
  | 5 => exact cut_block x 640 o h5 5 g rfl ho j c
  | 6 => exact cut_block x 768 o h6 6 g rfl ho j c
  | 7 => exact cut_block x 896 o h7 7 g rfl ho j c

theorem folded16 (x : FVec Ideal S1024x512 .f32) (o : ℕ) (g : Fin 4) (ho : o = g.val * 128) (h0 : S1024x512.Slices ![0, o] S128x128)
    (h1 : S1024x512.Slices ![128, o] S128x128) (h2 : S1024x512.Slices ![256, o] S128x128) (h3 : S1024x512.Slices ![384, o] S128x128)
    (h4 : S1024x512.Slices ![512, o] S128x128) (h5 : S1024x512.Slices ![640, o] S128x128) (h6 : S1024x512.Slices ![768, o] S128x128)
    (h7 : S1024x512.Slices ![896, o] S128x128)
    (h : Shape.Concatenates [S128x128, S128x128, S128x128, S128x128, S128x128, S128x128, S128x128, S128x128] S128x1024 1)
    (hb : FTy.bf16.bits < FTy.f32.bits) (q : Fin 8) (j c : Fin 128) :
    truncf (F := Ideal) .bf16 (concatenate S128x1024 1 [⟨S128x128, extractStridedSlice S128x128 ![0, o] x h0⟩,
      ⟨S128x128, extractStridedSlice S128x128 ![128, o] x h1⟩,
      ⟨S128x128, extractStridedSlice S128x128 ![256, o] x h2⟩, ⟨S128x128, extractStridedSlice S128x128 ![384, o] x h3⟩,
      ⟨S128x128, extractStridedSlice S128x128 ![512, o] x h4⟩, ⟨S128x128, extractStridedSlice S128x128 ![640, o] x h5⟩,
      ⟨S128x128, extractStridedSlice S128x128 ![768, o] x h6⟩, ⟨S128x128, extractStridedSlice S128x128 ![896, o] x h7⟩] h) hb (ix2 j (loc q c))
      = x (ix2 (loc q j) (ch g c)) :=
  folded x o g ho h0 h1 h2 h3 h4 h5 h6 h7 h q j c

/-- A block of the four groups, side by side. -/
theorem groups (y0 y1 y2 y3 : FVec Ideal S128x1024 φ) (o : ℕ) (q : Fin 8) (ho : o = q.val * 128) (h0 h1 h2 h3 : S128x1024.Slices ![0, o] S128x128)
    (h : Shape.Concatenates [S128x128, S128x128, S128x128, S128x128] S128x512 1) (g : Fin 4) (j c : Fin 128) :
    concatenate S128x512 1 [⟨S128x128, extractStridedSlice S128x128 ![0, o] y0 h0⟩, ⟨S128x128, extractStridedSlice S128x128 ![0, o] y1 h1⟩,
      ⟨S128x128, extractStridedSlice S128x128 ![0, o] y2 h2⟩, ⟨S128x128, extractStridedSlice S128x128 ![0, o] y3 h3⟩] h (ix2 j (ch g c))
      = (![y0, y1, y2, y3] : Fin 4 → FVec Ideal S128x1024 φ) g (ix2 j (loc q c)) := by
  refine (beside4 _ _ _ _ h g j c).trans ?_
  match g with
  | 0 => exact cut_cols y0 o h0 q ho j c
  | 1 => exact cut_cols y1 o h1 q ho j c
  | 2 => exact cut_cols y2 o h2 q ho j c
  | 3 => exact cut_cols y3 o h3 q ho j c

end Layout

/-- The two named numbers. -/
theorem named_a : (Named.named (F := Ideal) κ "gelu_a" (φ := .f32) 0x3D372713#32 : EReal) = (cubic : EReal) := by
  simp [Named.named, κ, cubic]

theorem named_3a : (Named.named (F := Ideal) κ "gelu_3a" (φ := .f32) 0x3E095D4F#32 : EReal) = ((3 * cubic : ℝ) : EReal) := by
  have h : (Named.named (F := Ideal) κ "gelu_3a" (φ := .f32) 0x3E095D4F#32 : EReal) = ((26829 / 200000 : ℝ) : EReal) := by
    simp [Named.named, κ]
  rw [h]
  congr 1; unfold cubic; norm_num

theorem lit_512 : (Ideal.ofBits .f32 1140850688#32 : EReal) = ((512 : ℝ) : EReal) := by
  simp [Ideal.ofBits, Ideal.ieee, -EReal.coe_mul]; norm_num

theorem lit_half : (Ideal.ofBits .f32 1056964608#32 : EReal) = ((1 / 2 : ℝ) : EReal) := by
  simp [Ideal.ofBits, Ideal.ieee, -EReal.coe_mul]; norm_num

theorem tanh_real (x : ℝ) : Ideal.tanh (x : EReal) = ((Real.tanh x : ℝ) : EReal) := rfl

theorem ge_word : ∀ i : Fin 128, IntOp.cmpi .sge (BitVec.ofNat 32 i.val) 64#32 = if 64 ≤ i.val then 1#1 else 0#1 := by decide +kernel

theorem lt_word : ∀ i : Fin 128, IntOp.cmpi .slt (BitVec.ofNat 32 i.val) 64#32 = if i.val < 64 then 1#1 else 0#1 := by decide +kernel

theorem sees_iff (i j : Fin 128) : sees i j ↔ 64 ≤ i.val ∨ j.val < 64 := by unfold sees; omega

theorem or_word (p q : Prop) [Decidable p] [Decidable q] :
    IntOp.ori (if p then 1#1 else 0#1) (if q then 1#1 else 0#1) = if p ∨ q then 1#1 else 0#1 := by
  by_cases hp : p <;> by_cases hq : q <;> simp [hp, hq] <;> rfl

theorem mask0 (i j : Fin 128) : k0_pay8 (ix2 i j) = if sees i j then 1#1 else 0#1 := by
  have h1 := ge_word i
  have h2 := lt_word j
  pointwise [k0_pay8]
  rw [h1, h2, or_word]
  simp only [sees_iff]

/-- The weights' block with the mask. -/
theorem masked {m : IVec S128x128 1} {x : FVec Ideal S128x128 .f32} {W : Fin 128 → Fin 128 → ℝ}
    (hm : ∀ i j, m (ix2 i j) = if sees i j then 1#1 else 0#1) (hx : ∀ i j, x (ix2 i j) = (W i j : EReal)) (i j : Fin 128) :
    select m x (broadcast S128x128 (Scalar.ofBits (F := Ideal) .f32 0x00000000#32)) (ix2 i j) = ((if sees i j then W i j else 0 : ℝ) : EReal) := by
  show Scalar.select (m (ix2 i j)) (x (ix2 i j)) (Ideal.ofBits .f32 0x00000000#32 : EReal) = _
  rw [hm, hx]
  by_cases hs : sees i j
  · rw [if_pos hs, if_pos hs]; exact if_pos rfl
  · rw [if_neg hs, if_neg hs]; exact (if_neg (by decide)).trans Ideal.ofBits_zero_f32

variable {A : Fin 16384 → Fin 1024 → ℝ} {lg lb : Fin 512 → ℝ} {W : Fin 4 → Fin 128 → Fin 128 → ℝ} {B : Fin 4 → Fin 128 → ℝ}
  {D : Fin 16384 → Fin 512 → ℝ} {t : Fin 16}

section Forward

variable {x : FVec Ideal S1024x1024 .f32} (hx : ∀ r l, x (ix2 r l) = (A (slab t r) l : EReal))

include hx in
theorem first_half (r : Fin 1024) (k : Fin 512) : k0_pay5 (F := Ideal) x (ix2 r k) = (gu A (slab t r) k : EReal) := by
  have h : x (ix2 r ⟨k.val, by omega⟩) = (A (slab t r) (low k) : EReal) := hx r (low k)
  pointwise [k0_pay5]
  rw [h, named_a, lit_root, lit_half]
  simp only [← EReal.coe_one, ← EReal.coe_mul, ← EReal.coe_add, tanh_real]
  rfl

include hx in
theorem centred (r : Fin 1024) (k : Fin 512) :
    k0_pay6 (F := Ideal) x (ix2 r k) = ((gv A (slab t r) k - mean (gv A (slab t r)) : ℝ) : EReal) := by
  have h (k : Fin 512) : x (ix2 r ⟨512 + k.val, by omega⟩) = (A (slab t r) (high k) : EReal) := hx r (high k)
  pointwise [k0_pay6]
  simp only [h, named_a, lit_root, lit_half, lit_512, ← EReal.coe_one, ← EReal.coe_mul, ← EReal.coe_add, tanh_real, coe_sum,
    div_real _ (show (512 : ℝ) ≠ 0 by norm_num), ← EReal.coe_sub]
  rfl

end Forward

theorem normed {x : FVec Ideal S1024x512 .f32} {v2 v4 : FVec Ideal S1x512 .f32}
    (hx : ∀ r k, x (ix2 r k) = ((gv A (slab t r) k - mean (gv A (slab t r)) : ℝ) : EReal))
    (hg : ∀ k, v2 (ix2 0 k) = (lg k : EReal)) (hb : ∀ k, v4 (ix2 0 k) = (lb k : EReal)) (r : Fin 1024) (k : Fin 512) :
    k0_pay7 (F := Ideal) v2 v4 x (ix2 r k) = (vn A lg lb (slab t r) k : EReal) := by
  have hv : Ideal.rsqrt (((∑ x, (gv A (slab t r) x - mean (gv A (slab t r))) * (gv A (slab t r) x - mean (gv A (slab t r)))) / 512 + eps : ℝ) : EReal)
      = (rstd (gv A (slab t r)) : EReal) := rsqrt_var _
  pointwise [k0_pay7]
  simp only [hx, hg, hb, lit_512, lit_eps, ← EReal.coe_mul, coe_sum, div_real _ (show (512 : ℝ) ≠ 0 by norm_num), ← EReal.coe_add, hv]
  rfl

theorem product (w : FVec Ideal S128x128 .bf16) (v : FVec Ideal S128x1024 .bf16) (i : Fin 128) (l : Fin 1024) :
    matmul dot_S128x128_S128x1024_S128x1024_1_0_0_1_n_n none w v (constant (F := Ideal) S128x1024 .f32 0x00000000#32) (ix2 i l)
      = (∑ k : Fin 128, w (ix2 i k) * v (ix2 k l) : EReal) := by
  pointwise []

theorem product_t (w : FVec Ideal S128x128 .bf16) (v : FVec Ideal S128x1024 .bf16) (i : Fin 128) (l : Fin 1024) :
    matmul dot_S128x128_S128x1024_S128x1024_0_0_1_1_n_n none w v (constant (F := Ideal) S128x1024 .f32 0x00000000#32) (ix2 i l)
      = (∑ k : Fin 128, w (ix2 k i) * v (ix2 k l) : EReal) := by
  pointwise []

theorem product_r (u v : FVec Ideal S128x1024 .bf16) (i j : Fin 128) :
    matmul dot_S128x1024_S128x1024_S128x128_1_1_0_0_n_n none u v (constant (F := Ideal) S128x128 .f32 0x00000000#32) (ix2 i j)
      = (∑ l : Fin 1024, u (ix2 i l) * v (ix2 j l) : EReal) := by
  pointwise []

/-- A group's mixing over the positions of a block, with its biases. -/
theorem mixing {w : FVec Ideal S128x128 .bf16} {v : FVec Ideal S128x1024 .bf16} {b : FVec Ideal S128x1 .f32} {g : Fin 4}
    (hw : ∀ i j, w (ix2 i j) = (wm W g i j : EReal))
    (hv : ∀ j q c, v (ix2 j (loc q c)) = (vn A lg lb (slab t (loc q j)) (ch g c) : EReal))
    (hb : ∀ i, b (ix2 i 0) = (B g i : EReal)) (h : S128x1.Broadcasts S128x1024) (i : Fin 128) (q : Fin 8) (c : Fin 128) :
    addf (matmul dot_S128x128_S128x1024_S128x1024_1_0_0_1_n_n none w v (constant (F := Ideal) S128x1024 .f32 0x00000000#32))
      (broadcastTo S128x1024 b h) (ix2 i (loc q c)) = (mixed A lg lb W B (blkOf t q) i g c : EReal) := by
  have hp := product w v i (loc q c)
  simp only [hw, hv, slab_loc, ← EReal.coe_mul, coe_sum] at hp
  have hc : broadcastTo S128x1024 b h (ix2 i (loc q c)) = (B g i : EReal) := by
    rw [← hb]; pointwise []
  refine (congrArg₂ (fun a b : EReal => a + b) hp hc).trans ?_
  rw [← EReal.coe_add]
  rfl

section Mixing

variable {v2 v4 : FVec Ideal S1x512 .f32} {v6 : FVec Ideal S128x4 .f32} {x y : FVec Ideal S1024x512 .f32} {g : Fin 4}
  {w : FVec Ideal S1x128x128 .f32} {m : IVec S128x128 1}
  (hc : ∀ r k, x (ix2 r k) = ((gv A (slab t r) k - mean (gv A (slab t r)) : ℝ) : EReal))
  (hy : ∀ r k, y (ix2 r k) = (vn A lg lb (slab t r) k : EReal))
  (hg : ∀ k, v2 (ix2 0 k) = (lg k : EReal)) (hb : ∀ k, v4 (ix2 0 k) = (lb k : EReal)) (hB : ∀ i g, v6 (ix2 i g) = (B g i : EReal))
  (hm : ∀ i j, m (ix2 i j) = if sees i j then 1#1 else 0#1)

theorem flat {w : FVec Ideal S1x128x128 .f32} {W : Fin 128 → Fin 128 → ℝ} (hw : ∀ i j, w (ix3 0 i j) = (W i j : EReal))
    (h : S1x128x128.ShapeCasts S128x128) (i j : Fin 128) : shapeCast S128x128 w h (ix2 i j) = (W i j : EReal) := by
  rw [← hw]; pointwise []

include hB in
theorem bias (o : ℕ) (g : Fin 4) (ho : o = g.val) (h : S128x4.Slices ![0, o] S128x1) (i : Fin 128) :
    extractStridedSlice S128x1 ![0, o] v6 h (ix2 i 0) = (B g i : EReal) := by
  subst ho
  rw [← hB]
  exact extractStridedSlice_apply _ v6 h _ _ (fun a => by fin_cases a <;> first | rfl | exact (Nat.zero_add _).symm)

include hc hg hb hB in
theorem mix0 (hw : ∀ i j, w (ix3 0 i j) = (W 0 i j : EReal)) (i : Fin 128) (q : Fin 8) (c : Fin 128) :
    k0_pay9 (F := Ideal) v2 v4 v6 x w (ix2 i (loc q c)) = (mixed A lg lb W B (blkOf t q) i 0 c : EReal) := by
  unfold k0_pay9
  exact mixing (masked mask0 (flat hw _))
    (fun j q c => (folded16 _ 0 0 rfl _ _ _ _ _ _ _ _ _ _ q j c).trans (normed hc hg hb _ _)) (bias hB 0 0 rfl _) _ i q c

include hy hB in
theorem mix1 (h0 : S1024x512.Slices ![0, 128] S128x128) (hw : ∀ i j, w (ix3 0 i j) = (W 1 i j : EReal)) (i : Fin 128) (q : Fin 8) (c : Fin 128) :
    k0_pay12 (F := Ideal) v6 y (k0_pay10 w) (extractStridedSlice S128x128 ![0, 128] y h0) (ix2 i (loc q c))
      = (mixed A lg lb W B (blkOf t q) i 1 c : EReal) := by
  unfold k0_pay12 k0_pay10
  exact mixing (masked mask0 (flat hw _))
    (fun j q c => (folded16 _ 128 1 rfl _ _ _ _ _ _ _ _ _ _ q j c).trans (hy _ _)) (bias hB 1 1 rfl _) _ i q c

include hy hB hm in
theorem mix2 (hw : ∀ i j, w (ix3 0 i j) = (W 2 i j : EReal)) (i : Fin 128) (q : Fin 8) (c : Fin 128) :
    k0_pay13 (F := Ideal) v6 y m w (ix2 i (loc q c)) = (mixed A lg lb W B (blkOf t q) i 2 c : EReal) := by
  unfold k0_pay13
  exact mixing (masked hm (flat hw _))
    (fun j q c => (folded16 _ 256 2 rfl _ _ _ _ _ _ _ _ _ _ q j c).trans (hy _ _)) (bias hB 2 2 rfl _) _ i q c

include hy hB hm in
theorem mix3 (h : S128x1.Broadcasts S128x1024) (hw : ∀ i j, w (ix3 0 i j) = (W 3 i j : EReal)) (i : Fin 128) (q : Fin 8) (c : Fin 128) :
    addf (k0_pay14 (F := Ideal) y m w) (broadcastTo S128x1024 (k0_pay15 v6) h) (ix2 i (loc q c))
      = (mixed A lg lb W B (blkOf t q) i 3 c : EReal) := by
  unfold k0_pay14 k0_pay15
  dsimp only
  refine mixing ?_ ?_ ?_ h i q c
  · exact masked hm (flat hw _)
  · exact fun j q c => (folded16 _ 384 3 rfl _ _ _ _ _ _ _ _ _ _ q j c).trans (hy _ _)
  · exact bias hB 3 3 rfl _

end Mixing

theorem mix_loc (q : Fin 8) (i : Fin 128) (g : Fin 4) (c : Fin 128) :
    mix A lg lb W B (slab t (loc q i)) (ch g c) = mixed A lg lb W B (blkOf t q) i g c := by
  rw [slab_loc]; unfold mix; rw [block_pos, in_pos, group_ch, in_ch]

theorem dvn_loc (q : Fin 8) (i : Fin 128) (g : Fin 4) (c : Fin 128) :
    dvn A W D (slab t (loc q i)) (ch g c) = dmixed A W D (blkOf t q) i g c := by
  rw [slab_loc]; unfold dvn; rw [block_pos, in_pos, group_ch, in_ch]

/-- The first call's block. -/
theorem out_block {u : FVec Ideal S1024x512 .f32} {U : Fin 1024 → Fin 512 → ℝ} {y0 y1 y2 y3 : FVec Ideal S128x1024 .f32} {b : FVec Ideal S128x1 .f32}
    (hu : ∀ r k, u (ix2 r k) = (U r k : EReal))
    (h0 : ∀ i q c, y0 (ix2 i (loc q c)) = (mixed A lg lb W B (blkOf t q) i 0 c : EReal))
    (h1 : ∀ i q c, y1 (ix2 i (loc q c)) = (mixed A lg lb W B (blkOf t q) i 1 c : EReal))
    (h2 : ∀ i q c, y2 (ix2 i (loc q c)) = (mixed A lg lb W B (blkOf t q) i 2 c : EReal))
    (h3 : ∀ (h : S128x1.Broadcasts S128x1024) i q c, addf y3 (broadcastTo S128x1024 b h) (ix2 i (loc q c)) = (mixed A lg lb W B (blkOf t q) i 3 c : EReal))
    (r : Fin 1024) (k : Fin 512) : k0_pay1 (F := Ideal) u y0 y1 y2 y3 b (ix2 r k) = (U r k * mix A lg lb W B (slab t r) k : ℝ) := by
  obtain ⟨q, i, rfl⟩ := exists_loc r
  obtain ⟨g, c, rfl⟩ := exists_ch k
  rw [mix_loc, EReal.coe_mul]
  unfold k0_pay1
  refine (congrArg₂ (fun a b : EReal => a * b) (hu _ _) ?_)
  refine (below8 _ _ _ _ _ _ _ _ _ q i _).trans ?_
  have hall : ∀ g q, (![y0, y1, y2, addf y3 (broadcastTo S128x1024 b broadcasts_S128x1_S128x1024)] : Fin 4 → FVec Ideal S128x1024 .f32) g (ix2 i (loc q c))
      = (mixed A lg lb W B (blkOf t q) i g c : EReal) := fun g q => by
    match g with
    | 0 => exact h0 i q c
    | 1 => exact h1 i q c
    | 2 => exact h2 i q c
    | 3 => exact h3 _ i q c
  refine Eq.trans ?_ (hall g q)
  match q with
  | 0 => exact groups _ _ _ _ 0 0 rfl _ _ _ _ concatenates_S128x128_S128x128_S128x128_S128x128_S128x512_d1 g i c
  | 1 => exact groups _ _ _ _ 128 1 rfl _ _ _ _ concatenates_S128x128_S128x128_S128x128_S128x128_S128x512_d1 g i c
  | 2 => exact groups _ _ _ _ 256 2 rfl _ _ _ _ concatenates_S128x128_S128x128_S128x128_S128x128_S128x512_d1 g i c
  | 3 => exact groups _ _ _ _ 384 3 rfl _ _ _ _ concatenates_S128x128_S128x128_S128x128_S128x128_S128x512_d1 g i c
  | 4 => exact groups _ _ _ _ 512 4 rfl _ _ _ _ concatenates_S128x128_S128x128_S128x128_S128x128_S128x512_d1 g i c
  | 5 => exact groups _ _ _ _ 640 5 rfl _ _ _ _ concatenates_S128x128_S128x128_S128x128_S128x128_S128x512_d1 g i c
  | 6 => exact groups _ _ _ _ 768 6 rfl _ _ _ _ concatenates_S128x128_S128x128_S128x128_S128x128_S128x512_d1 g i c
  | 7 => exact groups _ _ _ _ 896 7 rfl _ _ _ _ concatenates_S128x128_S128x128_S128x128_S128x128_S128x512_d1 g i c

/-! The second call's point. -/

section Backward

variable {x : FVec Ideal S1024x1024 .f32} (hx : ∀ r l, x (ix2 r l) = (A (slab t r) l : EReal))

include hx in
theorem u_block (r : Fin 1024) (k : Fin 512) : k1_pay8 (F := Ideal) x (ix2 r k) = (A (slab t r) (low k) : EReal) := by
  have h : x (ix2 r ⟨k.val, by omega⟩) = (A (slab t r) (low k) : EReal) := hx r (low k)
  pointwise [k1_pay8]
  exact h

include hx in
theorem v_block (r : Fin 1024) (k : Fin 512) : k1_pay9 (F := Ideal) x (ix2 r k) = (A (slab t r) (high k) : EReal) := by
  have h : x (ix2 r ⟨512 + k.val, by omega⟩) = (A (slab t r) (high k) : EReal) := hx r (high k)
  pointwise [k1_pay9]
  exact h

include hx in
theorem th_u (r : Fin 1024) (k : Fin 512) : k1_pay10 (F := Ideal) x (ix2 r k) = (th (A (slab t r) (low k)) : EReal) := by
  have h := u_block hx r k
  pointwise [k1_pay10]
  rw [h, named_a, lit_root]
  simp only [← EReal.coe_mul, ← EReal.coe_add, tanh_real]
  rfl

include hx in
theorem gu_block (r : Fin 1024) (k : Fin 512) : k1_pay11 (F := Ideal) x (ix2 r k) = (gu A (slab t r) k : EReal) := by
  have h := u_block hx r k
  have h' := th_u hx r k
  pointwise [k1_pay11]
  rw [h, h', lit_half]
  simp only [← EReal.coe_one, ← EReal.coe_mul, ← EReal.coe_add]
  rfl

include hx in
theorem th_v (r : Fin 1024) (k : Fin 512) : k1_pay12 (F := Ideal) x (ix2 r k) = (th (A (slab t r) (high k)) : EReal) := by
  have h := v_block hx r k
  pointwise [k1_pay12]
  rw [h, named_a, lit_root]
  simp only [← EReal.coe_mul, ← EReal.coe_add, tanh_real]
  rfl

include hx in
theorem gv_block (r : Fin 1024) (k : Fin 512) : k1_pay13 (F := Ideal) x (ix2 r k) = (gv A (slab t r) k : EReal) := by
  have h := v_block hx r k
  have h' := th_v hx r k
  pointwise [k1_pay13]
  rw [h, h', lit_half]
  simp only [← EReal.coe_one, ← EReal.coe_mul, ← EReal.coe_add]
  rfl

include hx in
theorem gv_sum (r : Fin 1024) : k1_pay14 (F := Ideal) x (ix1 r) = ((∑ k, gv A (slab t r) k : ℝ) : EReal) := by
  have h := gv_block hx r
  pointwise [k1_pay14]
  simp only [h, coe_sum]

end Backward

section Norm

variable {y : FVec Ideal S1024x512 .f32} {z : FVec Ideal S1024 .f32} {v4 v7 : FVec Ideal S1x512 .f32}
  (hy : ∀ r k, y (ix2 r k) = (gv A (slab t r) k : EReal)) (hz : ∀ r, z (ix1 r) = ((∑ k, gv A (slab t r) k : ℝ) : EReal))
  (hg : ∀ k, v4 (ix2 0 k) = (lg k : EReal)) (hb : ∀ k, v7 (ix2 0 k) = (lb k : EReal))

include hy hz in
theorem centred1 (r : Fin 1024) (k : Fin 512) :
    k1_pay15 (F := Ideal) y z (ix2 r k) = ((gv A (slab t r) k - mean (gv A (slab t r)) : ℝ) : EReal) := by
  pointwise [k1_pay15]
  simp only [hy, hz, lit_512, div_real _ (show (512 : ℝ) ≠ 0 by norm_num), ← EReal.coe_sub]
  rfl

include hy hz in
theorem rstd1 (r : Fin 1024) (j : Fin 1) : k1_pay16 (F := Ideal) y z (ix2 r j) = (rstd (gv A (slab t r)) : EReal) := by
  have h := centred1 hy hz r
  have hv : Ideal.rsqrt (((∑ x, (gv A (slab t r) x - mean (gv A (slab t r))) * (gv A (slab t r) x - mean (gv A (slab t r)))) / 512 + eps : ℝ) : EReal)
      = (rstd (gv A (slab t r)) : EReal) := rsqrt_var _
  pointwise [k1_pay16]
  simp only [h, lit_512, lit_eps, ← EReal.coe_mul, coe_sum, div_real _ (show (512 : ℝ) ≠ 0 by norm_num), ← EReal.coe_add, hv]

include hy hz in
theorem hat1 (r : Fin 1024) (k : Fin 512) : k1_pay17 (F := Ideal) y z (ix2 r k) = (hat (gv A (slab t r)) k : EReal) := by
  have h := centred1 hy hz r k
  have h' := rstd1 hy hz r 0
  pointwise [k1_pay17]
  rw [h, h', ← EReal.coe_mul]
  rfl

include hy hz hg hb in
theorem vn1 (r : Fin 1024) (k : Fin 512) : k1_pay18 (F := Ideal) v4 v7 y z (ix2 r k) = (vn A lg lb (slab t r) k : EReal) := by
  have h := hat1 hy hz r k
  pointwise [k1_pay18]
  rw [h, hg, hb, ← EReal.coe_mul, ← EReal.coe_add]
  rfl

include hy hz hg hb in
theorem vfold0 (j : Fin 128) (q : Fin 8) (c : Fin 128) :
    k1_pay21 (F := Ideal) v4 v7 y z (ix2 j (loc q c)) = (vn A lg lb (slab t (loc q j)) (ch 0 c) : EReal) := by
  unfold k1_pay21
  exact (folded16 _ 0 0 rfl _ _ _ _ _ _ _ _ _ _ q j c).trans (vn1 hy hz hg hb _ _)

end Norm

theorem mask1 : ∀ i j : Fin 128, k1_pay19 (ix2 i j) = if sees i j then 1#1 else 0#1 := mask0

theorem mask2 : ∀ i j : Fin 128, k1_pay42 (ix2 i j) = if sees i j then 1#1 else 0#1 := mask0

/-- The eight blocks of a group's channels of a matrix of numbers. -/
theorem folded_real {x : FVec Ideal S1024x512 .f32} {X : Fin 16384 → Fin 512 → ℝ} (hx : ∀ r k, x (ix2 r k) = (X (slab t r) k : EReal)) (g : Fin 4)
    {v : FVec Ideal S128x1024 .f32} (hv : ∀ j q c, v (ix2 j (loc q c)) = x (ix2 (loc q j) (ch g c))) (j : Fin 128) (q : Fin 8) (c : Fin 128) :
    v (ix2 j (loc q c)) = (X (slab t (loc q j)) (ch g c) : EReal) := (hv j q c).trans (hx _ _)

section Folds

variable {x : FVec Ideal S1024x512 .f32} {X : Fin 16384 → Fin 512 → ℝ} (hx : ∀ r k, x (ix2 r k) = (X (slab t r) k : EReal))

include hx in
theorem fold1 (j : Fin 128) (q : Fin 8) (c : Fin 128) : k1_pay49 (F := Ideal) x (ix2 j (loc q c)) = (X (slab t (loc q j)) (ch 1 c) : EReal) := by
  unfold k1_pay49
  exact (folded _ 128 1 rfl _ _ _ _ _ _ _ _ _ q j c).trans (hx _ _)

include hx in
theorem fold2 (j : Fin 128) (q : Fin 8) (c : Fin 128) : k1_pay54 (F := Ideal) x (ix2 j (loc q c)) = (X (slab t (loc q j)) (ch 2 c) : EReal) := by
  unfold k1_pay54
  exact (folded _ 256 2 rfl _ _ _ _ _ _ _ _ _ q j c).trans (hx _ _)

include hx in
theorem fold3 (j : Fin 128) (q : Fin 8) (c : Fin 128) : k1_pay59 (F := Ideal) x (ix2 j (loc q c)) = (X (slab t (loc q j)) (ch 3 c) : EReal) := by
  unfold k1_pay59
  exact (folded _ 384 3 rfl _ _ _ _ _ _ _ _ _ q j c).trans (hx _ _)

include hx in
theorem fold1' (j : Fin 128) (q : Fin 8) (c : Fin 128) : k1_pay24 (F := Ideal) x (ix2 j (loc q c)) = (X (slab t (loc q j)) (ch 1 c) : EReal) := by
  unfold k1_pay24
  exact (folded16 _ 128 1 rfl _ _ _ _ _ _ _ _ _ _ q j c).trans (hx _ _)

include hx in
theorem fold2' (j : Fin 128) (q : Fin 8) (c : Fin 128) : k1_pay27 (F := Ideal) x (ix2 j (loc q c)) = (X (slab t (loc q j)) (ch 2 c) : EReal) := by
  unfold k1_pay27
  exact (folded16 _ 256 2 rfl _ _ _ _ _ _ _ _ _ _ q j c).trans (hx _ _)

include hx in
theorem fold3' (j : Fin 128) (q : Fin 8) (c : Fin 128) :
    k1_pay37 (F := Ideal) x (k1_pay30 x) (k1_pay31 x) (k1_pay32 x) (k1_pay33 x) (k1_pay34 x) (k1_pay35 x) (k1_pay36 x) (ix2 j (loc q c))
      = (X (slab t (loc q j)) (ch 3 c) : EReal) := by
  unfold k1_pay37 k1_pay30 k1_pay31 k1_pay32 k1_pay33 k1_pay34 k1_pay35 k1_pay36
  exact (folded16 _ 384 3 rfl _ _ _ _ _ _ _ _ _ _ q j c).trans (hx _ _)

end Folds

theorem fold0 {u d : FVec Ideal S1024x512 .f32} {X : Fin 16384 → Fin 512 → ℝ}
    (hx : ∀ r k, k1_pay41 (F := Ideal) u d (ix2 r k) = (X (slab t r) k : EReal)) (j : Fin 128) (q : Fin 8) (c : Fin 128) :
    k1_pay43 (F := Ideal) u d (ix2 j (loc q c)) = (X (slab t (loc q j)) (ch 0 c) : EReal) := by
  unfold k1_pay43
  exact (folded _ 0 0 rfl _ _ _ _ _ _ _ _ _ q j c).trans (hx _ _)

theorem dm_block {u d : FVec Ideal S1024x512 .f32} (hu : ∀ r k, u (ix2 r k) = (gu A (slab t r) k : EReal))
    (hd : ∀ r k, d (ix2 r k) = (D (slab t r) k : EReal)) (r : Fin 1024) (k : Fin 512) :
    k1_pay41 (F := Ideal) u d (ix2 r k) = (dm A D (slab t r) k : EReal) := by
  pointwise [k1_pay41]
  rw [hu, hd, ← EReal.coe_mul]
  rfl

end Cert.SgIdeal

end
-- ==== Proof.Sg.Back.lean ====
module
public import proofs.«01_k».proof.Proof.Sg.Blocks

/-! The second call's point: the gradients of a block of 1024 positions from its rows. -/

@[expose] public section

set_option maxRecDepth 16384

noncomputable section

namespace Cert.SgIdeal

open Idealize.ShloMosaic Idealize.ShloMosaic.TcCoe Idealize.ShloMosaic.Tactic Cert.Reals Cert.SgSpec
open Gen

variable {A : Fin 16384 → Fin 1024 → ℝ} {lg lb : Fin 512 → ℝ} {W : Fin 4 → Fin 128 → Fin 128 → ℝ} {B : Fin 4 → Fin 128 → ℝ}
  {D : Fin 16384 → Fin 512 → ℝ} {t : Fin 16}

/-- What a block adds to the gradient of the weights, and to that of the biases. -/
def wT (A : Fin 16384 → Fin 1024 → ℝ) (lg lb : Fin 512 → ℝ) (D : Fin 16384 → Fin 512 → ℝ) (t : Fin 16) (g : Fin 4) (i j : Fin 128) : ℝ :=
  if sees i j then ∑ q, ∑ c, dm A D (slab t (loc q i)) (ch g c) * vn A lg lb (slab t (loc q j)) (ch g c) else 0

def bT (A : Fin 16384 → Fin 1024 → ℝ) (D : Fin 16384 → Fin 512 → ℝ) (t : Fin 16) (g : Fin 4) (i : Fin 128) : ℝ :=
  ∑ q, ∑ c, dm A D (slab t (loc q i)) (ch g c)

theorem sum_loc (f : Fin 1024 → ℝ) : ∑ q, ∑ c, f (loc q c) = ∑ l, f l :=
  sum_rows (N := 1024) (n := 8) (k := 128) loc (by norm_num) (fun _ _ => rfl) f

/-- A sum over 1024 columns of numbers known by block and channel. -/
theorem sum_known {f : Fin 1024 → EReal} {F : Fin 8 → Fin 128 → ℝ} (h : ∀ q c, f (loc q c) = (F q c : EReal)) :
    ∑ l, f l = ((∑ q, ∑ c, F q c : ℝ) : EReal) := by
  have hf : ∀ l, f l = ((f l).toReal : EReal) := fun l => by
    obtain ⟨q, c, rfl⟩ := exists_loc l
    rw [h, EReal.toReal_coe]
  rw [Finset.sum_congr rfl fun l _ => hf l, coe_sum, ← sum_loc]
  exact congrArg Real.toEReal (Finset.sum_congr rfl fun q _ => Finset.sum_congr rfl fun c _ => by rw [h, EReal.toReal_coe])

section Weights

variable {u v : FVec Ideal S128x1024 .bf16} {m : IVec S128x128 1} {g : Fin 4}
  (hu : ∀ i q c, u (ix2 i (loc q c)) = (dm A D (slab t (loc q i)) (ch g c) : EReal))
  (hv : ∀ i q c, v (ix2 i (loc q c)) = (vn A lg lb (slab t (loc q i)) (ch g c) : EReal))
  (hm : ∀ i j, m (ix2 i j) = if sees i j then 1#1 else 0#1)

include hu hv hm in
theorem weights (i j : Fin 128) :
    select m (matmul dot_S128x1024_S128x1024_S128x128_1_1_0_0_n_n none u v (constant (F := Ideal) S128x128 .f32 0x00000000#32))
      (broadcast S128x128 (Scalar.ofBits (F := Ideal) .f32 0x00000000#32)) (ix2 i j) = (wT A lg lb D t g i j : EReal) :=
  masked (W := fun i j => ∑ q, ∑ c, dm A D (slab t (loc q i)) (ch g c) * vn A lg lb (slab t (loc q j)) (ch g c)) hm
    (fun i j => (product_r u v i j).trans (sum_known fun q c => by rw [hu, hv, ← EReal.coe_mul])) i j

/-- The weights' gradient with a block's part added. -/
theorem added {p : FVec Ideal S128x128 .f32} {w : FVec Ideal S1x128x128 .f32} {x : EReal} {i j : Fin 128} (hp : p (ix2 i j) = x)
    (h : S1x128x128.ShapeCasts S128x128) (h' : S128x128.ShapeCasts S1x128x128) :
    shapeCast S1x128x128 (addf (shapeCast S128x128 w h) p) h' (ix3 0 i j) = w (ix3 0 i j) + x := by
  rw [← hp]; pointwise []

/-- The weights turned, times a group's columns. -/
theorem turned {w : FVec Ideal S128x128 .bf16} (hw : ∀ i j, w (ix2 i j) = (wm W g i j : EReal))
    (hu : ∀ i q c, u (ix2 i (loc q c)) = (dm A D (slab t (loc q i)) (ch g c) : EReal)) (j : Fin 128) (q : Fin 8) (c : Fin 128) :
    matmul dot_S128x128_S128x1024_S128x1024_0_0_1_1_n_n none w u (constant (F := Ideal) S128x1024 .f32 0x00000000#32) (ix2 j (loc q c))
      = (dmixed A W D (blkOf t q) j g c : EReal) := by
  refine (product_t w u j (loc q c)).trans ?_
  simp only [hw, hu, slab_loc, ← EReal.coe_mul, coe_sum]
  rfl

end Weights

/-- A group's part of the biases' gradient. -/
theorem column {y : FVec Ideal S128x1024 .f32} {g : Fin 4} (hy : ∀ i q c, y (ix2 i (loc q c)) = (dm A D (slab t (loc q i)) (ch g c) : EReal))
    (h : S128x1024.Reduces [1] S128) (h' : S128.ShapeCasts S128x1) (i : Fin 128) :
    shapeCast S128x1 (multiReduction (F := Ideal) .add [1] S128 y 0x00000000#32 h) h' (ix2 i 0) = (bT A D t g i : EReal) := by
  refine Eq.trans ?_ (sum_known (f := fun l => y (ix2 i l)) (fun q c => hy i q c))
  pointwise []

/-- The biases' gradient with a block's part added. -/
theorem biases {x : FVec Ideal S1024x512 .f32} {y2 : FVec Ideal S128x1024 .f32} {b0 b1 : FVec Ideal S128x1 .f32} {o : FVec Ideal S128x4 .f32}
    (h0 : ∀ i, b0 (ix2 i 0) = (bT A D t 0 i : EReal)) (h1 : ∀ i, b1 (ix2 i 0) = (bT A D t 1 i : EReal))
    (h2 : ∀ i q c, y2 (ix2 i (loc q c)) = (dm A D (slab t (loc q i)) (ch 2 c) : EReal))
    (h3 : ∀ r k, x (ix2 r k) = (dm A D (slab t r) k : EReal)) (i : Fin 128) (g : Fin 4) :
    k1_pay63 (F := Ideal) x b0 b1 y2 o (ix2 i g) = o (ix2 i g) + (bT A D t g i : EReal) := by
  unfold k1_pay63
  refine congrArg₂ (fun a b : EReal => a + b) ?_ ?_
  · pointwise []
  refine (columns4 _ _ _ _ _ g i).trans ?_
  match g with
  | 0 => exact h0 i
  | 1 => exact h1 i
  | 2 => exact column h2 _ _ i
  | 3 => exact column (fun i q c => fold3 h3 i q c) _ _ i

/-- The rows of the gradient of the layer norm's result. -/
theorem dvn_block {z0 z1 : FVec Ideal S128x1024 .f32} {w2 w3 : FVec Ideal S128x128 .bf16} {x : FVec Ideal S1024x512 .f32} {u : FVec Ideal S128x1024 .bf16}
    (h0 : ∀ j q c, z0 (ix2 j (loc q c)) = (dmixed A W D (blkOf t q) j 0 c : EReal))
    (h1 : ∀ j q c, z1 (ix2 j (loc q c)) = (dmixed A W D (blkOf t q) j 1 c : EReal))
    (h2 : ∀ j q c, k1_pay58 (F := Ideal) w2 u (ix2 j (loc q c)) = (dmixed A W D (blkOf t q) j 2 c : EReal))
    (h3 : ∀ j q c, k1_pay62 (F := Ideal) w3 x (ix2 j (loc q c)) = (dmixed A W D (blkOf t q) j 3 c : EReal)) (r : Fin 1024) (k : Fin 512) :
    k1_pay68 (F := Ideal) z0 z1 (k1_pay58 w2 u) (k1_pay62 w3 x) (k1_pay64 w2 w3 x z0 z1 u) (k1_pay65 z0) (k1_pay66 z1) (k1_pay67 w2 u) (ix2 r k)
      = (dvn A W D (slab t r) k : EReal) := by
  obtain ⟨q, i, rfl⟩ := exists_loc r
  obtain ⟨g, c, rfl⟩ := exists_ch k
  rw [dvn_loc]
  have hall : ∀ g q, (![z0, z1, k1_pay58 (F := Ideal) w2 u, k1_pay62 (F := Ideal) w3 x] : Fin 4 → FVec Ideal S128x1024 .f32) g (ix2 i (loc q c))
      = (dmixed A W D (blkOf t q) i g c : EReal) := fun g q => by
    match g with
    | 0 => exact h0 i q c
    | 1 => exact h1 i q c
    | 2 => exact h2 i q c
    | 3 => exact h3 i q c
  refine Eq.trans ?_ (hall g q)
  unfold k1_pay68 k1_pay64 k1_pay65 k1_pay66 k1_pay67
  refine (below8 _ _ _ _ _ _ _ _ _ q i _).trans ?_
  match q with
  | 0 => exact groups _ _ _ _ 0 0 rfl _ _ _ _ concatenates_S128x128_S128x128_S128x128_S128x128_S128x512_d1 g i c
  | 1 => exact groups _ _ _ _ 128 1 rfl _ _ _ _ concatenates_S128x128_S128x128_S128x128_S128x128_S128x512_d1 g i c
  | 2 => exact groups _ _ _ _ 256 2 rfl _ _ _ _ concatenates_S128x128_S128x128_S128x128_S128x128_S128x512_d1 g i c
  | 3 => exact groups _ _ _ _ 384 3 rfl _ _ _ _ concatenates_S128x128_S128x128_S128x128_S128x128_S128x512_d1 g i c
  | 4 => exact groups _ _ _ _ 512 4 rfl _ _ _ _ concatenates_S128x128_S128x128_S128x128_S128x128_S128x512_d1 g i c
  | 5 => exact groups _ _ _ _ 640 5 rfl _ _ _ _ concatenates_S128x128_S128x128_S128x128_S128x128_S128x512_d1 g i c
  | 6 => exact groups _ _ _ _ 768 6 rfl _ _ _ _ concatenates_S128x128_S128x128_S128x128_S128x128_S128x512_d1 g i c
  | 7 => exact groups _ _ _ _ 896 7 rfl _ _ _ _ concatenates_S128x128_S128x128_S128x128_S128x128_S128x512_d1 g i c

/-- The incoming gradient times what was mixed. -/
theorem mixD_block {d x : FVec Ideal S1024x512 .f32} {y0 y1 y2 : FVec Ideal S128x1024 .f32} {w : FVec Ideal S128x128 .bf16} {v9 : FVec Ideal S128x4 .f32}
    (hd : ∀ r k, d (ix2 r k) = (D (slab t r) k : EReal)) (hx : ∀ r k, x (ix2 r k) = (vn A lg lb (slab t r) k : EReal))
    (h0 : ∀ i q c, y0 (ix2 i (loc q c)) = (mixed A lg lb W B (blkOf t q) i 0 c : EReal))
    (h1 : ∀ i q c, y1 (ix2 i (loc q c)) = (mixed A lg lb W B (blkOf t q) i 1 c : EReal))
    (h2 : ∀ i q c, y2 (ix2 i (loc q c)) = (mixed A lg lb W B (blkOf t q) i 2 c : EReal))
    (hw : ∀ i j, w (ix2 i j) = (wm W 3 i j : EReal)) (hB : ∀ i g, v9 (ix2 i g) = (B g i : EReal)) (r : Fin 1024) (k : Fin 512) :
    k1_pay38 (F := Ideal) v9 x y0 y1 y2 w (k1_pay30 x) (k1_pay31 x) (k1_pay32 x) (k1_pay33 x) (k1_pay34 x) (k1_pay35 x) (k1_pay36 x) d (ix2 r k)
      = ((D (slab t r) k * mix A lg lb W B (slab t r) k : ℝ) : EReal) :=
  out_block (u := d) (y0 := y0) (y1 := y1) (y2 := y2)
    (y3 := matmul dot_S128x128_S128x1024_S128x1024_1_0_0_1_n_n none w (k1_pay37 x (k1_pay30 x) (k1_pay31 x) (k1_pay32 x) (k1_pay33 x) (k1_pay34 x) (k1_pay35 x) (k1_pay36 x)) (constant (F := Ideal) S128x1024 .f32 0x00000000#32))
    (b := k0_pay15 v9) (U := fun r k => D (slab t r) k) hd h0 h1 h2
    (fun h i q c => mixing hw (fun j q c => fold3' hx j q c) (bias hB 3 3 rfl slices_S128x4_o0_3_S128x1) h i q c) r k

/-- The gelu's derivative, as the second call forms it. -/
theorem dgelu_eq (x h : ℝ) (hh : h = th x) :
    1 / 2 * (1 + h) + 1 / 2 * x * (1 - h * h) * root * (1 + 3 * cubic * x * x) = dgelu x := by
  subst hh; rfl

theorem dsu_block {x h v : FVec Ideal S1024x512 .f32} (hx : ∀ r k, x (ix2 r k) = (A (slab t r) (low k) : EReal))
    (hh : ∀ r k, h (ix2 r k) = (th (A (slab t r) (low k)) : EReal))
    (hv : ∀ r k, v (ix2 r k) = ((D (slab t r) k * mix A lg lb W B (slab t r) k : ℝ) : EReal)) (r : Fin 1024) (k : Fin 512) :
    k1_pay40 (F := Ideal) x h v (k1_pay39 h) (Scalar.ofBits .f32 0x3F000000#32) (ix2 r k) = (dsu A lg lb W B D (slab t r) k : EReal) := by
  pointwise [k1_pay40, k1_pay39]
  rw [hx, hh, hv, lit_half, lit_root, named_3a]
  simp only [← EReal.coe_one, ← EReal.coe_mul, ← EReal.coe_add, ← EReal.coe_sub]
  rfl

section Norm

variable {v4 : FVec Ideal S1x512 .f32} {s : FVec Ideal S1024x1 .f32} {n : FVec Ideal S1024x512 .f32} {z0 z1 z2 z3 : FVec Ideal S128x1024 .f32}
  {r0 : FVec Ideal S128x512 .f32} {c0 c1 c2 : FVec Ideal S128x128 .f32}
  (hz : ∀ r k, k1_pay68 (F := Ideal) z0 z1 z2 z3 r0 c0 c1 c2 (ix2 r k) = (dvn A W D (slab t r) k : EReal))
  (hn : ∀ r k, n (ix2 r k) = (hat (gv A (slab t r)) k : EReal))

include hz hn in
theorem dgv_block (hg : ∀ k, v4 (ix2 0 k) = (lg k : EReal)) (hs : ∀ r, s (ix2 r 0) = (rstd (gv A (slab t r)) : EReal)) (r : Fin 1024) (k : Fin 512) :
    k1_pay69 (F := Ideal) v4 s n z0 z1 z2 z3 r0 c0 c1 c2 (ix2 r k) = (dgv A lg W D (slab t r) k : EReal) := by
  unfold k1_pay69
  generalize hx : k1_pay68 (F := Ideal) z0 z1 z2 z3 r0 c0 c1 c2 = x at hz ⊢
  pointwise []
  simp only [hz, hn, hg, hs, lit_512, ← EReal.coe_mul, coe_sum, div_real _ (show (512 : ℝ) ≠ 0 by norm_num), ← EReal.coe_sub]
  rfl

include hz hn in
theorem dlg_block (k : Fin 512) :
    k1_pay70 (F := Ideal) n z0 z1 z2 z3 r0 c0 c1 c2 (ix2 0 k) = ((∑ r, dvn A W D (slab t r) k * hat (gv A (slab t r)) k : ℝ) : EReal) := by
  unfold k1_pay70
  generalize hx : k1_pay68 (F := Ideal) z0 z1 z2 z3 r0 c0 c1 c2 = x at hz ⊢
  pointwise []
  simp only [hz, hn, ← EReal.coe_mul, coe_sum]

include hz in
theorem dlb_block (o : FVec Ideal S1x512 .f32) (k : Fin 512) :
    k1_pay72 (F := Ideal) (k1_pay68 z0 z1 z2 z3 r0 c0 c1 c2) o (ix2 0 k) = o (ix2 0 k) + ((∑ r, dvn A W D (slab t r) k : ℝ) : EReal) := by
  generalize hx : k1_pay68 (F := Ideal) z0 z1 z2 z3 r0 c0 c1 c2 = x at hz ⊢
  pointwise [k1_pay72]
  simp only [hz, coe_sum]

end Norm

theorem da_block {x h y g : FVec Ideal S1024x512 .f32} (hx : ∀ r k, x (ix2 r k) = (A (slab t r) (high k) : EReal))
    (hh : ∀ r k, h (ix2 r k) = (th (A (slab t r) (high k)) : EReal)) (hy : ∀ r k, y (ix2 r k) = (dsu A lg lb W B D (slab t r) k : EReal))
    (hg : ∀ r k, g (ix2 r k) = (dgv A lg W D (slab t r) k : EReal)) (r : Fin 1024) (l : Fin 1024) :
    k1_pay73 (F := Ideal) x h y g (ix2 r l) = (da A lg lb W B D (slab t r) l : EReal) := by
  unfold da
  by_cases hl : l.val < 512
  · rw [dif_pos hl]
    refine Eq.trans ?_ (hy r ⟨l.val, hl⟩)
    unfold k1_pay73
    exact concatenate_pair_apply_left (t := S1024x1024) 1 y _ concatenates_S1024x512_S1024x512_S1024x1024_d1 (ix2 r l) rfl (ix2 r ⟨l.val, hl⟩)
      (fun a => by fin_cases a <;> rfl)
  · rw [dif_neg hl]
    have hk : high ⟨l.val - 512, by omega⟩ = l := Fin.ext (by unfold high; dsimp only; omega)
    unfold k1_pay73
    refine (concatenate_pair_apply_right (t := S1024x1024) 1 y _ concatenates_S1024x512_S1024x512_S1024x1024_d1 (ix2 r l) rfl rfl
      (ix2 r ⟨l.val - 512, by omega⟩) (fun a ha => by fin_cases a; exacts [rfl, absurd rfl ha]) (Nat.sub_add_cancel (by omega))).trans ?_
    pointwise []
    rw [hx, hh, hg, lit_half, lit_root, named_3a]
    simp only [← EReal.coe_one, ← EReal.coe_mul, ← EReal.coe_add, ← EReal.coe_sub]
    rfl

end Cert.SgIdeal

end
-- ==== Proof.Sg.Point.lean ====
module
public import proofs.«01_k».proof.Proof.Sg.Back

/-! What the second call computes at a grid point, as a function of the blocks it reads, and its values. -/

@[expose] public section

set_option maxRecDepth 16384

noncomputable section

namespace Cert.SgIdeal

open Idealize.ShloMosaic Idealize.ShloMosaic.TcCoe Idealize.ShloMosaic.Tactic Cert.Reals Cert.SgSpec
open Gen

section Terms

variable (x0 : FVec Ideal S1024x1024 .f32) (x1 : FVec Ideal S1024x512 .f32) (x2 x3 : FVec Ideal S1x512 .f32)
  (w0 w1 w2 w3 : FVec Ideal S1x128x128 .f32) (x5 : FVec Ideal S128x4 .f32)

/-- The layer norm's result, and what is mixed times the incoming gradient. -/
def vnP : FVec Ideal S1024x512 .f32 := k1_pay18 (k1_pay5 x2) (k1_pay6 x3) (k1_pay13 x0) (k1_pay14 x0)

def dmP : FVec Ideal S1024x512 .f32 := k1_pay41 (k1_pay11 x0) x1

/-- The mixing's gradients of the first two groups. -/
def z0P : FVec Ideal S128x1024 .f32 := k1_pay48 (k1_pay20 w0) (k1_pay44 (k1_pay11 x0) x1)

def z1P : FVec Ideal S128x1024 .f32 := k1_pay53 (k1_pay23 k1_pay19 w1) (dmP x0 x1)

def dsuP : FVec Ideal S1024x512 .f32 :=
  k1_pay40 (k1_pay8 x0) (k1_pay10 x0)
    (k1_pay38 (k1_pay7 x5) (vnP x0 x2 x3) (k1_pay22 (k1_pay5 x2) (k1_pay6 x3) (k1_pay7 x5) (k1_pay13 x0) (k1_pay14 x0) w0)
      (k1_pay25 (k1_pay7 x5) (vnP x0 x2 x3) k1_pay19 w1) (k1_pay28 (k1_pay7 x5) (vnP x0 x2 x3) k1_pay19 w2) (k1_pay29 k1_pay19 w3)
      (k1_pay30 (vnP x0 x2 x3)) (k1_pay31 (vnP x0 x2 x3)) (k1_pay32 (vnP x0 x2 x3)) (k1_pay33 (vnP x0 x2 x3)) (k1_pay34 (vnP x0 x2 x3))
      (k1_pay35 (vnP x0 x2 x3)) (k1_pay36 (vnP x0 x2 x3)) x1)
    (k1_pay39 (k1_pay10 x0)) (Scalar.ofBits .f32 0x3F000000#32)

def dgvP : FVec Ideal S1024x512 .f32 :=
  k1_pay69 (k1_pay5 x2) (k1_pay16 (k1_pay13 x0) (k1_pay14 x0)) (k1_pay17 (k1_pay13 x0) (k1_pay14 x0)) (z0P x0 x1 w0) (z1P x0 x1 w1)
    (k1_pay58 (k1_pay26 k1_pay19 w2) (k1_pay55 (dmP x0 x1))) (k1_pay62 (k1_pay29 k1_pay19 w3) (dmP x0 x1))
    (k1_pay64 (k1_pay26 k1_pay19 w2) (k1_pay29 k1_pay19 w3) (dmP x0 x1) (z0P x0 x1 w0) (z1P x0 x1 w1) (k1_pay55 (dmP x0 x1)))
    (k1_pay65 (z0P x0 x1 w0)) (k1_pay66 (z1P x0 x1 w1)) (k1_pay67 (k1_pay26 k1_pay19 w2) (k1_pay55 (dmP x0 x1)))

def daP : FVec Ideal S1024x1024 .bf16 := k1_pay73 (k1_pay9 x0) (k1_pay12 x0) (dsuP x0 x1 x2 x3 w0 w1 w2 w3 x5) (dgvP x0 x1 x2 w0 w1 w2 w3)

def dlgP (o : FVec Ideal S1x512 .f32) : FVec Ideal S1x512 .f32 :=
  k1_pay71 (k1_pay70 (k1_pay17 (k1_pay13 x0) (k1_pay14 x0)) (z0P x0 x1 w0) (z1P x0 x1 w1)
    (k1_pay58 (k1_pay26 k1_pay19 w2) (k1_pay55 (dmP x0 x1))) (k1_pay62 (k1_pay29 k1_pay19 w3) (dmP x0 x1))
    (k1_pay64 (k1_pay26 k1_pay19 w2) (k1_pay29 k1_pay19 w3) (dmP x0 x1) (z0P x0 x1 w0) (z1P x0 x1 w1) (k1_pay55 (dmP x0 x1)))
    (k1_pay65 (z0P x0 x1 w0)) (k1_pay66 (z1P x0 x1 w1)) (k1_pay67 (k1_pay26 k1_pay19 w2) (k1_pay55 (dmP x0 x1)))) o

def dlbP (o : FVec Ideal S1x512 .f32) : FVec Ideal S1x512 .f32 :=
  k1_pay72 (k1_pay68 (z0P x0 x1 w0) (z1P x0 x1 w1)
    (k1_pay58 (k1_pay26 k1_pay19 w2) (k1_pay55 (dmP x0 x1))) (k1_pay62 (k1_pay29 k1_pay19 w3) (dmP x0 x1))
    (k1_pay64 (k1_pay26 k1_pay19 w2) (k1_pay29 k1_pay19 w3) (dmP x0 x1) (z0P x0 x1 w0) (z1P x0 x1 w1) (k1_pay55 (dmP x0 x1)))
    (k1_pay65 (z0P x0 x1 w0)) (k1_pay66 (z1P x0 x1 w1)) (k1_pay67 (k1_pay26 k1_pay19 w2) (k1_pay55 (dmP x0 x1)))) o

def dbP (o : FVec Ideal S128x4 .f32) : FVec Ideal S128x4 .f32 :=
  k1_pay63 (dmP x0 x1) (k1_pay47 (k1_pay46 (k1_pay11 x0) x1)) (k1_pay52 (dmP x0 x1)) (k1_pay54 (dmP x0 x1)) o

/-- The weights' gradient of each group, added to what is there. -/
def dw0P (o : FVec Ideal S1x128x128 .f32) : FVec Ideal S1x128x128 .f32 :=
  k1_pay45 (k1_pay11 x0) (k1_pay21 (k1_pay5 x2) (k1_pay6 x3) (k1_pay13 x0) (k1_pay14 x0)) x1 o

def dw1P (o : FVec Ideal S1x128x128 .f32) : FVec Ideal S1x128x128 .f32 := k1_pay51 (k1_pay24 (vnP x0 x2 x3)) (dmP x0 x1) k1_pay42 o

def dw2P (o : FVec Ideal S1x128x128 .f32) : FVec Ideal S1x128x128 .f32 :=
  k1_pay57 (k1_pay56 (k1_pay27 (vnP x0 x2 x3)) (dmP x0 x1) k1_pay42 o)

def dw3P (o : FVec Ideal S1x128x128 .f32) : FVec Ideal S1x128x128 .f32 :=
  k1_pay61 (k1_pay37 (vnP x0 x2 x3) (k1_pay30 (vnP x0 x2 x3)) (k1_pay31 (vnP x0 x2 x3)) (k1_pay32 (vnP x0 x2 x3)) (k1_pay33 (vnP x0 x2 x3))
    (k1_pay34 (vnP x0 x2 x3)) (k1_pay35 (vnP x0 x2 x3)) (k1_pay36 (vnP x0 x2 x3))) (dmP x0 x1) k1_pay42 o

end Terms

section Values

variable {A : Fin 16384 → Fin 1024 → ℝ} {lg lb : Fin 512 → ℝ} {W : Fin 4 → Fin 128 → Fin 128 → ℝ} {B : Fin 4 → Fin 128 → ℝ}
  {D : Fin 16384 → Fin 512 → ℝ} {t : Fin 16}
  {x0 : FVec Ideal S1024x1024 .f32} {x1 : FVec Ideal S1024x512 .f32} {x2 x3 : FVec Ideal S1x512 .f32}
  {w0 w1 w2 w3 : FVec Ideal S1x128x128 .f32} {x5 : FVec Ideal S128x4 .f32}
  (ha : ∀ r l, x0 (ix2 r l) = (A (slab t r) l : EReal)) (hd : ∀ r k, x1 (ix2 r k) = (D (slab t r) k : EReal))
  (hg : ∀ k, x2 (ix2 0 k) = (lg k : EReal)) (hb : ∀ k, x3 (ix2 0 k) = (lb k : EReal))
  (h0 : ∀ i j, w0 (ix3 0 i j) = (W 0 i j : EReal)) (h1 : ∀ i j, w1 (ix3 0 i j) = (W 1 i j : EReal))
  (h2 : ∀ i j, w2 (ix3 0 i j) = (W 2 i j : EReal)) (h3 : ∀ i j, w3 (ix3 0 i j) = (W 3 i j : EReal))
  (hB : ∀ i g, x5 (ix2 i g) = (B g i : EReal))

include hg in
theorem gain (k : Fin 512) : k1_pay5 (F := Ideal) x2 (ix2 0 k) = (lg k : EReal) := by rw [← hg]; pointwise [k1_pay5]

include hb in
theorem offset (k : Fin 512) : k1_pay6 (F := Ideal) x3 (ix2 0 k) = (lb k : EReal) := by rw [← hb]; pointwise [k1_pay6]

include hB in
theorem bias_in (i : Fin 128) (g : Fin 4) : k1_pay7 (F := Ideal) x5 (ix2 i g) = (B g i : EReal) := by rw [← hB]; pointwise [k1_pay7]

include ha hg hb in
theorem vnP_eq (r : Fin 1024) (k : Fin 512) : vnP x0 x2 x3 (ix2 r k) = (vn A lg lb (slab t r) k : EReal) :=
  vn1 (gv_block ha) (gv_sum ha) (gain hg) (offset hb) r k

include ha hd in
theorem dmP_eq (r : Fin 1024) (k : Fin 512) : dmP x0 x1 (ix2 r k) = (dm A D (slab t r) k : EReal) := dm_block (gu_block ha) hd r k

include h0 in
theorem weight0 (i j : Fin 128) : k1_pay20 (F := Ideal) w0 (ix2 i j) = (wm W 0 i j : EReal) := masked mask1 (flat h0 _) i j

include h1 in
theorem weight1 (i j : Fin 128) : k1_pay23 (F := Ideal) k1_pay19 w1 (ix2 i j) = (wm W 1 i j : EReal) := masked mask1 (flat h1 _) i j

include h2 in
theorem weight2 (i j : Fin 128) : k1_pay26 (F := Ideal) k1_pay19 w2 (ix2 i j) = (wm W 2 i j : EReal) := masked mask1 (flat h2 _) i j

include h3 in
theorem weight3 (i j : Fin 128) : k1_pay29 (F := Ideal) k1_pay19 w3 (ix2 i j) = (wm W 3 i j : EReal) := masked mask1 (flat h3 _) i j

include ha hd h0 in
theorem z0_eq (j : Fin 128) (q : Fin 8) (c : Fin 128) : z0P x0 x1 w0 (ix2 j (loc q c)) = (dmixed A W D (blkOf t q) j 0 c : EReal) :=
  turned (weight0 h0) (fun i q c => fold0 (dmP_eq ha hd) i q c) j q c

include ha hd h1 in
theorem z1_eq (j : Fin 128) (q : Fin 8) (c : Fin 128) : z1P x0 x1 w1 (ix2 j (loc q c)) = (dmixed A W D (blkOf t q) j 1 c : EReal) :=
  turned (weight1 h1) (fun i q c => fold1 (dmP_eq ha hd) i q c) j q c

include ha hd h2 in
theorem z2_eq (j : Fin 128) (q : Fin 8) (c : Fin 128) :
    k1_pay58 (F := Ideal) (k1_pay26 k1_pay19 w2) (k1_pay55 (dmP x0 x1)) (ix2 j (loc q c)) = (dmixed A W D (blkOf t q) j 2 c : EReal) :=
  turned (weight2 h2) (fun i q c => fold2 (dmP_eq ha hd) i q c) j q c

include ha hd h3 in
theorem z3_eq (j : Fin 128) (q : Fin 8) (c : Fin 128) :
    k1_pay62 (F := Ideal) (k1_pay29 k1_pay19 w3) (dmP x0 x1) (ix2 j (loc q c)) = (dmixed A W D (blkOf t q) j 3 c : EReal) :=
  turned (weight3 h3) (fun i q c => fold3 (dmP_eq ha hd) i q c) j q c

include ha hg hb h0 hB in
theorem mixed0_eq (i : Fin 128) (q : Fin 8) (c : Fin 128) :
    k1_pay22 (F := Ideal) (k1_pay5 x2) (k1_pay6 x3) (k1_pay7 x5) (k1_pay13 x0) (k1_pay14 x0) w0 (ix2 i (loc q c))
      = (mixed A lg lb W B (blkOf t q) i 0 c : EReal) :=
  mixing (weight0 h0) (fun j q c => vfold0 (gv_block ha) (gv_sum ha) (gain hg) (offset hb) j q c)
    (bias (bias_in hB) 0 0 rfl slices_S128x4_o0_0_S128x1) broadcasts_S128x1_S128x1024 i q c

include ha hg hb h1 hB in
theorem mixed1_eq (i : Fin 128) (q : Fin 8) (c : Fin 128) :
    k1_pay25 (F := Ideal) (k1_pay7 x5) (vnP x0 x2 x3) k1_pay19 w1 (ix2 i (loc q c)) = (mixed A lg lb W B (blkOf t q) i 1 c : EReal) :=
  mixing (weight1 h1) (fun j q c => fold1' (vnP_eq ha hg hb) j q c) (bias (bias_in hB) 1 1 rfl slices_S128x4_o0_1_S128x1) broadcasts_S128x1_S128x1024 i q c

include ha hg hb h2 hB in
theorem mixed2_eq (i : Fin 128) (q : Fin 8) (c : Fin 128) :
    k1_pay28 (F := Ideal) (k1_pay7 x5) (vnP x0 x2 x3) k1_pay19 w2 (ix2 i (loc q c)) = (mixed A lg lb W B (blkOf t q) i 2 c : EReal) :=
  mixing (weight2 h2) (fun j q c => fold2' (vnP_eq ha hg hb) j q c) (bias (bias_in hB) 2 2 rfl slices_S128x4_o0_2_S128x1) broadcasts_S128x1_S128x1024 i q c

include ha hd hg hb h0 h1 h2 h3 hB in
theorem dsuP_eq (r : Fin 1024) (k : Fin 512) : dsuP x0 x1 x2 x3 w0 w1 w2 w3 x5 (ix2 r k) = (dsu A lg lb W B D (slab t r) k : EReal) :=
  dsu_block (u_block ha) (th_u ha) (fun r k => mixD_block hd (vnP_eq ha hg hb) (fun i q c => mixed0_eq ha hg hb h0 hB i q c)
    (fun i q c => mixed1_eq ha hg hb h1 hB i q c) (fun i q c => mixed2_eq ha hg hb h2 hB i q c) (weight3 h3) (bias_in hB) r k) r k

include ha hd h0 h1 h2 h3 in
theorem rows_eq (r : Fin 1024) (k : Fin 512) : k1_pay68 (F := Ideal) (z0P x0 x1 w0) (z1P x0 x1 w1)
    (k1_pay58 (k1_pay26 k1_pay19 w2) (k1_pay55 (dmP x0 x1))) (k1_pay62 (k1_pay29 k1_pay19 w3) (dmP x0 x1))
    (k1_pay64 (k1_pay26 k1_pay19 w2) (k1_pay29 k1_pay19 w3) (dmP x0 x1) (z0P x0 x1 w0) (z1P x0 x1 w1) (k1_pay55 (dmP x0 x1)))
    (k1_pay65 (z0P x0 x1 w0)) (k1_pay66 (z1P x0 x1 w1)) (k1_pay67 (k1_pay26 k1_pay19 w2) (k1_pay55 (dmP x0 x1))) (ix2 r k)
      = (dvn A W D (slab t r) k : EReal) :=
  dvn_block (fun j q c => z0_eq ha hd h0 j q c) (fun j q c => z1_eq ha hd h1 j q c) (fun j q c => z2_eq ha hd h2 j q c)
    (fun j q c => z3_eq ha hd h3 j q c) r k

include ha hd hg hb h0 h1 h2 h3 hB in
theorem daP_eq (r l : Fin 1024) : daP x0 x1 x2 x3 w0 w1 w2 w3 x5 (ix2 r l) = (da A lg lb W B D (slab t r) l : EReal) :=
  da_block (v_block ha) (th_v ha) (dsuP_eq ha hd hg hb h0 h1 h2 h3 hB)
    (fun r k => dgv_block (rows_eq ha hd h0 h1 h2 h3) (hat1 (gv_block ha) (gv_sum ha)) (gain hg)
      (fun r => rstd1 (gv_block ha) (gv_sum ha) r 0) r k) r l

include ha hd h0 h1 h2 h3 in
theorem dlgP_eq (o : FVec Ideal S1x512 .f32) (k : Fin 512) :
    dlgP x0 x1 w0 w1 w2 w3 o (ix2 0 k) = o (ix2 0 k) + ((∑ r, dvn A W D (slab t r) k * hat (gv A (slab t r)) k : ℝ) : EReal) := by
  rw [← dlg_block (rows_eq ha hd h0 h1 h2 h3) (hat1 (gv_block ha) (gv_sum ha)) k]
  unfold dlgP k1_pay71
  refine congrArg₂ (fun a b : EReal => a + b) ?_ rfl
  pointwise []

include ha hd h0 h1 h2 h3 in
theorem dlbP_eq (o : FVec Ideal S1x512 .f32) (k : Fin 512) :
    dlbP x0 x1 w0 w1 w2 w3 o (ix2 0 k) = o (ix2 0 k) + ((∑ r, dvn A W D (slab t r) k : ℝ) : EReal) :=
  dlb_block (rows_eq ha hd h0 h1 h2 h3) o k

include ha hd in
theorem dbP_eq (o : FVec Ideal S128x4 .f32) (i : Fin 128) (g : Fin 4) : dbP x0 x1 o (ix2 i g) = o (ix2 i g) + (bT A D t g i : EReal) :=
  biases (fun i => column (fun i q c => fold0 (dmP_eq ha hd) i q c) _ _ i) (fun i => column (fun i q c => fold1 (dmP_eq ha hd) i q c) _ _ i)
    (fun i q c => fold2 (dmP_eq ha hd) i q c) (dmP_eq ha hd) i g

include ha hd hg hb in
theorem dw0_eq (o : FVec Ideal S1x128x128 .f32) (i j : Fin 128) :
    dw0P x0 x1 x2 x3 o (ix3 0 i j) = o (ix3 0 i j) + (wT A lg lb D t 0 i j : EReal) :=
  added (weights (fun i q c => fold0 (dmP_eq ha hd) i q c) (fun j q c => vfold0 (gv_block ha) (gv_sum ha) (gain hg) (offset hb) j q c) mask2 i j) _ _

include ha hd hg hb in
theorem dw1_eq (o : FVec Ideal S1x128x128 .f32) (i j : Fin 128) :
    dw1P x0 x1 x2 x3 o (ix3 0 i j) = o (ix3 0 i j) + (wT A lg lb D t 1 i j : EReal) :=
  added (weights (fun i q c => fold1 (dmP_eq ha hd) i q c) (fun j q c => fold1' (vnP_eq ha hg hb) j q c) mask2 i j) _ _

include ha hd hg hb in
theorem dw2_eq (o : FVec Ideal S1x128x128 .f32) (i j : Fin 128) :
    dw2P x0 x1 x2 x3 o (ix3 0 i j) = o (ix3 0 i j) + (wT A lg lb D t 2 i j : EReal) :=
  added (weights (fun i q c => fold2 (dmP_eq ha hd) i q c) (fun j q c => fold2' (vnP_eq ha hg hb) j q c) mask2 i j) _ _

include ha hd hg hb in
theorem dw3_eq (o : FVec Ideal S1x128x128 .f32) (i j : Fin 128) :
    dw3P x0 x1 x2 x3 o (ix3 0 i j) = o (ix3 0 i j) + (wT A lg lb D t 3 i j : EReal) :=
  added (weights (fun i q c => fold3 (dmP_eq ha hd) i q c) (fun j q c => fold3' (vnP_eq ha hg hb) j q c) mask2 i j) _ _

end Values

end Cert.SgIdeal

end
-- ==== Proof.Sg.Outs.lean ====
module
public import proofs.«01_k».proof.Proof.Sg.Point
import Idealize.ShloMosaic.Lib.Pipeline.ReadBack

/-! What the second call stores at a grid point, as the functions of `Point` of the blocks it reads. -/

@[expose] public section

set_option maxRecDepth 16384

noncomputable section

namespace Cert.SgIdeal

open Idealize.ShloMosaic Idealize.ShloMosaic.TcCoe Idealize.ShloMosaic.Tactic Cert.Reals Cert.SgSpec
open Gen

variable (V : (c : Dev nD) → (b : Ref sig .tc) → Buf (Elt Ideal) ((c : Thread nD τ).loc b)) (c : Dev nD) (t : Fin cfg1.N)

/-- A group's block of the weights. -/
def group0 (x : FVec Ideal S4x128x128 .f32) : FVec Ideal S1x128x128 .f32 := View.ld (Val := Elt Ideal) (e' := .f32) x r0_3
def group1 (x : FVec Ideal S4x128x128 .f32) : FVec Ideal S1x128x128 .f32 := View.ld (Val := Elt Ideal) (e' := .f32) x r0_4
def group2 (x : FVec Ideal S4x128x128 .f32) : FVec Ideal S1x128x128 .f32 := View.ld (Val := Elt Ideal) (e' := .f32) x r0_5
def group3 (x : FVec Ideal S4x128x128 .f32) : FVec Ideal S1x128x128 .f32 := View.ld (Val := Elt Ideal) (e' := .f32) x r0_6

theorem da_A (h : t.val % 16 = 0) : (outsAt1 V c t.val t.isLt).1
    = daP (iblk1 V c 0 t) (iblk1 V c 1 t) (iblk1 V c 2 t) (iblk1 V c 3 t) (group0 (iblk1 V c 4 t)) (group1 (iblk1 V c 4 t))
      (group2 (iblk1 V c 4 t)) (group3 (iblk1 V c 4 t)) (iblk1 V c 5 t) := by
  rw [outsAt1_A V c t h]; frame_out
  unfold group0 group1 group2 group3
  repeat rw [Memref.IsWhole.read_unread]
  repeat rw [ld_all]
  rfl

theorem da_B (h : ¬ t.val % 16 = 0) : (outsAt1 V c t.val t.isLt).1
    = daP (iblk1 V c 0 t) (iblk1 V c 1 t) (iblk1 V c 2 t) (iblk1 V c 3 t) (group0 (iblk1 V c 4 t)) (group1 (iblk1 V c 4 t))
      (group2 (iblk1 V c 4 t)) (group3 (iblk1 V c 4 t)) (iblk1 V c 5 t) := by
  rw [outsAt1_B V c t h]; frame_out
  unfold group0 group1 group2 group3
  repeat rw [Memref.IsWhole.read_unread]
  repeat rw [ld_all]
  rfl

theorem dlg_A (h : t.val % 16 = 0) : (outsAt1 V c t.val t.isLt).2.2.2.1
    = dlgP (iblk1 V c 0 t) (iblk1 V c 1 t) (group0 (iblk1 V c 4 t)) (group1 (iblk1 V c 4 t))
      (group2 (iblk1 V c 4 t)) (group3 (iblk1 V c 4 t)) k1_pay3 := by
  rw [outsAt1_A V c t h]; frame_out
  unfold group0 group1 group2 group3
  repeat rw [Memref.IsWhole.read_unread]
  repeat rw [ld_all]
  rfl

theorem dlb_A (h : t.val % 16 = 0) : (outsAt1 V c t.val t.isLt).2.2.2.2
    = dlbP (iblk1 V c 0 t) (iblk1 V c 1 t) (group0 (iblk1 V c 4 t)) (group1 (iblk1 V c 4 t))
      (group2 (iblk1 V c 4 t)) (group3 (iblk1 V c 4 t)) k1_pay4 := by
  rw [outsAt1_A V c t h]; frame_out
  unfold group0 group1 group2 group3
  repeat rw [Memref.IsWhole.read_unread]
  repeat rw [ld_all]
  rfl

theorem dlg_B (h : ¬ t.val % 16 = 0) : (outsAt1 V c t.val t.isLt).2.2.2.1
    = dlgP (iblk1 V c 0 t) (iblk1 V c 1 t) (group0 (iblk1 V c 4 t)) (group1 (iblk1 V c 4 t))
      (group2 (iblk1 V c 4 t)) (group3 (iblk1 V c 4 t)) (outsAt1 V c (t.val - 1) (Nat.lt_of_le_of_lt (Nat.sub_le _ _) t.isLt)).2.2.2.1 := by
  rw [outsAt1_B V c t h]; frame_out
  unfold group0 group1 group2 group3
  repeat rw [Memref.IsWhole.read_unread]
  repeat rw [ld_all]
  rfl

theorem dlb_B (h : ¬ t.val % 16 = 0) : (outsAt1 V c t.val t.isLt).2.2.2.2
    = dlbP (iblk1 V c 0 t) (iblk1 V c 1 t) (group0 (iblk1 V c 4 t)) (group1 (iblk1 V c 4 t))
      (group2 (iblk1 V c 4 t)) (group3 (iblk1 V c 4 t)) (outsAt1 V c (t.val - 1) (Nat.lt_of_le_of_lt (Nat.sub_le _ _) t.isLt)).2.2.2.2 := by
  rw [outsAt1_B V c t h]; frame_out
  unfold group0 group1 group2 group3
  repeat rw [Memref.IsWhole.read_unread]
  repeat rw [ld_all]
  rfl

theorem db_A (h : t.val % 16 = 0) : (outsAt1 V c t.val t.isLt).2.2.1
    = dbP (iblk1 V c 0 t) (iblk1 V c 1 t) k1_pay2 := by
  rw [outsAt1_A V c t h]; frame_out
  repeat rw [Memref.IsWhole.read_unread]
  repeat rw [ld_all]
  rfl

theorem db_B (h : ¬ t.val % 16 = 0) : (outsAt1 V c t.val t.isLt).2.2.1
    = dbP (iblk1 V c 0 t) (iblk1 V c 1 t) (outsAt1 V c (t.val - 1) (Nat.lt_of_le_of_lt (Nat.sub_le _ _) t.isLt)).2.2.1 := by
  rw [outsAt1_B V c t h]; frame_out
  repeat rw [Memref.IsWhole.read_unread]
  repeat rw [ld_all]
  rfl

theorem group_emb (o : ℕ) (h : ∀ x, (![o, 0, 0] : Fin 3 → ℕ) x + (![1, 128, 128] : Fin 3 → ℕ) x ≤ S4x128x128.size x) (g : Fin 4) (i j : Fin 128)
    (ho : o = g.val) : (Rect.unit (s := S4x128x128) ![o, 0, 0] ![1, 128, 128] h).emb (ix3 (0 : Fin 1) i j) = ix3 g i j := by
  funext x; apply Fin.ext
  fin_cases x
  · exact ho
  · show 0 + 1 * i.val = i.val; omega
  · show 0 + 1 * j.val = j.val; omega

theorem group_out (o : ℕ) (h : ∀ x, (![o, 0, 0] : Fin 3 → ℕ) x + (![1, 128, 128] : Fin 3 → ℕ) x ≤ S4x128x128.size x) (g : Fin 4) (i j : Fin 128)
    (ho : o ≠ g.val) : ix3 g i j ∉ (Rect.unit (s := S4x128x128) ![o, 0, 0] ![1, 128, 128] h).set := by
  intro hm
  rw [Rect.mem_set_unit] at hm
  obtain ⟨h1, h2⟩ : o ≤ g.val ∧ g.val < o + 1 := hm 0
  omega

section
variable (p : FVec Ideal S1x128x128 .f32) (L : List (View.Piece (Elt Ideal) S4x128x128 .f32)) (g : Fin 4) (i j : Fin 128)

theorem hit0 : View.canon ((⟨r0_3, p⟩ : View.Piece (Elt Ideal) S4x128x128 .f32) :: L) (ix3 0 i j) = p (ix3 0 i j) :=
  (congrArg (View.canon _) (group_emb 0 inb_S4x128x128_S1x128x128_0_0_0 0 i j rfl).symm).trans (View.canon_cons_emb r0_3 p L (ix3 0 i j))
theorem hit1 : View.canon ((⟨r0_4, p⟩ : View.Piece (Elt Ideal) S4x128x128 .f32) :: L) (ix3 1 i j) = p (ix3 0 i j) :=
  (congrArg (View.canon _) (group_emb 1 inb_S4x128x128_S1x128x128_1_0_0 1 i j rfl).symm).trans (View.canon_cons_emb r0_4 p L (ix3 0 i j))
theorem hit2 : View.canon ((⟨r0_5, p⟩ : View.Piece (Elt Ideal) S4x128x128 .f32) :: L) (ix3 2 i j) = p (ix3 0 i j) :=
  (congrArg (View.canon _) (group_emb 2 inb_S4x128x128_S1x128x128_2_0_0 2 i j rfl).symm).trans (View.canon_cons_emb r0_5 p L (ix3 0 i j))
theorem hit3 : View.canon ((⟨r0_6, p⟩ : View.Piece (Elt Ideal) S4x128x128 .f32) :: L) (ix3 3 i j) = p (ix3 0 i j) :=
  (congrArg (View.canon _) (group_emb 3 inb_S4x128x128_S1x128x128_3_0_0 3 i j rfl).symm).trans (View.canon_cons_emb r0_6 p L (ix3 0 i j))
theorem skip1 (h : 1 ≠ g.val) : View.canon ((⟨r0_4, p⟩ : View.Piece (Elt Ideal) S4x128x128 .f32) :: L) (ix3 g i j) = View.canon L (ix3 g i j) :=
  View.canon_cons_of_not_mem ⟨r0_4, p⟩ L (group_out 1 inb_S4x128x128_S1x128x128_1_0_0 g i j h)
theorem skip2 (h : 2 ≠ g.val) : View.canon ((⟨r0_5, p⟩ : View.Piece (Elt Ideal) S4x128x128 .f32) :: L) (ix3 g i j) = View.canon L (ix3 g i j) :=
  View.canon_cons_of_not_mem ⟨r0_5, p⟩ L (group_out 2 inb_S4x128x128_S1x128x128_2_0_0 g i j h)
theorem skip3 (h : 3 ≠ g.val) : View.canon ((⟨r0_6, p⟩ : View.Piece (Elt Ideal) S4x128x128 .f32) :: L) (ix3 g i j) = View.canon L (ix3 g i j) :=
  View.canon_cons_of_not_mem ⟨r0_6, p⟩ L (group_out 3 inb_S4x128x128_S1x128x128_3_0_0 g i j h)

end

/-- Four stores of a group each, over any before them, read at an element. -/
theorem canon_groups (p0 p1 p2 p3 : FVec Ideal S1x128x128 .f32) (L : List (View.Piece (Elt Ideal) S4x128x128 .f32)) (g : Fin 4) (i j : Fin 128) :
    View.canon ((⟨r0_6, p3⟩ : View.Piece (Elt Ideal) S4x128x128 .f32) :: ⟨r0_5, p2⟩ :: ⟨r0_4, p1⟩ :: ⟨r0_3, p0⟩ :: L) (ix3 g i j)
      = (![p0, p1, p2, p3] : Fin 4 → FVec Ideal S1x128x128 .f32) g (ix3 0 i j) :=
  match g with
  | 0 => (skip3 p3 _ 0 i j (by decide)).trans ((skip2 p2 _ 0 i j (by decide)).trans ((skip1 p1 _ 0 i j (by decide)).trans (hit0 p0 L i j)))
  | 1 => (skip3 p3 _ 1 i j (by decide)).trans ((skip2 p2 _ 1 i j (by decide)).trans (hit1 p1 _ i j))
  | 2 => (skip3 p3 _ 2 i j (by decide)).trans (hit2 p2 _ i j)
  | 3 => hit3 p3 _ i j

/-- The four groups' gradients of the weights, added to what is there. -/
def dwP (x0 : FVec Ideal S1024x1024 .f32) (x1 : FVec Ideal S1024x512 .f32) (x2 x3 : FVec Ideal S1x512 .f32) (o : FVec Ideal S4x128x128 .f32)
    (g : Fin 4) : FVec Ideal S1x128x128 .f32 :=
  ![dw0P x0 x1 x2 x3 (group0 o), dw1P x0 x1 x2 x3 (group1 o), dw2P x0 x1 x2 x3 (group2 o), dw3P x0 x1 x2 x3 (group3 o)] g

theorem dw_B (h : ¬ t.val % 16 = 0) (g : Fin 4) (i j : Fin 128) : (outsAt1 V c t.val t.isLt).2.1 (ix3 g i j)
    = dwP (iblk1 V c 0 t) (iblk1 V c 1 t) (iblk1 V c 2 t) (iblk1 V c 3 t) (outsAt1 V c (t.val - 1) (Nat.lt_of_le_of_lt (Nat.sub_le _ _) t.isLt)).2.1 g
      (ix3 0 i j) := by
  rw [outsAt1_B V c t h]; frame_out
  repeat rw [Memref.IsWhole.read_unread]
  repeat rw [ld_all]
  exact canon_groups _ _ _ _ _ g i j

section
variable (v : View sig .tc .vmem S4x128x128 .f32) (Z : FVec Ideal S4x128x128 .f32) (p0 p1 p2 : FVec Ideal S1x128x128 .f32)
  (inb : ∀ a : Fin S4x128x128.rank, (![0, 0, 0] : Fin S4x128x128.rank → ℕ) a + S4x128x128.size a ≤ S4x128x128.size a)

/-- The store of zeros over the whole block. -/
abbrev whole : (View.Piece (Elt Ideal) S4x128x128 .f32) := ⟨Rect.unit ![0, 0, 0] S4x128x128.size inb, Z⟩

theorem fill (r : Rect S4x128x128) : v.readCov (Val := Elt Ideal) [whole Z inb] r.toLoadRect = View.ld (Val := Elt Ideal) (e' := .f32) Z r :=
  View.readCov_fill (Val := Elt Ideal) v inb Z [] r (by decide)

theorem old1 : v.readCov (Val := Elt Ideal) [(⟨r0_3, p0⟩ : (View.Piece (Elt Ideal) S4x128x128 .f32)), whole Z inb] r0_4.toLoadRect = group1 Z :=
  (View.readCov_skip v _ _ _ _ rfl).trans (fill v Z inb _)
theorem old2 : v.readCov (Val := Elt Ideal) [(⟨r0_4, p1⟩ : (View.Piece (Elt Ideal) S4x128x128 .f32)), ⟨r0_3, p0⟩, whole Z inb] r0_5.toLoadRect = group2 Z :=
  (View.readCov_skip v _ _ _ _ rfl).trans ((View.readCov_skip v _ _ _ _ rfl).trans (fill v Z inb _))
theorem old3 : v.readCov (Val := Elt Ideal) [(⟨r0_5, p2⟩ : (View.Piece (Elt Ideal) S4x128x128 .f32)), ⟨r0_4, p1⟩, ⟨r0_3, p0⟩, whole Z inb] r0_6.toLoadRect = group3 Z :=
  (View.readCov_skip v _ _ _ _ rfl).trans ((View.readCov_skip v _ _ _ _ rfl).trans ((View.readCov_skip v _ _ _ _ rfl).trans (fill v Z inb _)))

end

theorem dw_A (h : t.val % 16 = 0) (g : Fin 4) (i j : Fin 128) : (outsAt1 V c t.val t.isLt).2.1 (ix3 g i j)
    = dwP (iblk1 V c 0 t) (iblk1 V c 1 t) (iblk1 V c 2 t) (iblk1 V c 3 t) k1_pay1 g (ix3 0 i j) := by
  rw [outsAt1_A V c t h]; frame_out
  repeat rw [Memref.IsWhole.read_unread]
  repeat rw [ld_all]
  refine (canon_groups _ _ _ _ _ g i j).trans ?_
  match g with
  | 0 => exact congrArg (fun o => dw0P (iblk1 V c 0 t) (iblk1 V c 1 t) (iblk1 V c 2 t) (iblk1 V c 3 t) o (ix3 0 i j)) (fill _ _ _ _)
  | 1 => exact congrArg (fun o => dw1P (iblk1 V c 0 t) (iblk1 V c 1 t) (iblk1 V c 2 t) (iblk1 V c 3 t) o (ix3 0 i j)) (old1 _ _ _ _)
  | 2 => exact congrArg (fun o => dw2P (iblk1 V c 0 t) (iblk1 V c 1 t) (iblk1 V c 2 t) (iblk1 V c 3 t) o (ix3 0 i j)) (old2 _ _ _ _ _)
  | 3 => exact congrArg (fun o => dw3P (iblk1 V c 0 t) (iblk1 V c 1 t) (iblk1 V c 2 t) (iblk1 V c 3 t) o (ix3 0 i j)) (old3 _ _ _ _ _ _)

end Cert.SgIdeal

end
-- ==== Proof.Sg.Arrays.lean ====
module
public import proofs.«01_k».proof.Proof.Sg.Outs

/-! The arrays that the two calls leave, from the arrays they are entered with. -/

@[expose] public section

set_option maxRecDepth 16384

noncomputable section

namespace Cert.SgIdeal

open Idealize.ShloMosaic Idealize.ShloMosaic.TcCoe Idealize.ShloMosaic.Tactic Cert.Reals Cert.SgSpec
open Gen

variable {A : Fin 16384 → Fin 1024 → ℝ} {lg lb : Fin 512 → ℝ} {W : Fin 4 → Fin 128 → Fin 128 → ℝ} {B : Fin 4 → Fin 128 → ℝ}
  {D : Fin 16384 → Fin 512 → ℝ}
  (V : (c : Dev nD) → (b : Ref sig .tc) → Buf (Elt Ideal) ((c : Thread nD τ).loc b)) (c : Dev nD)

variable (ha : ∀ r l, V c main_arg0 (ix2 r l) = (A r l : EReal)) (hd : ∀ r k, V c main_arg5 (ix2 r k) = (D r k : EReal))
  (hg : ∀ k, V c main_v0 (ix2 0 k) = (lg k : EReal)) (hb : ∀ k, V c main_v1 (ix2 0 k) = (lb k : EReal))
  (hw : ∀ g i j, V c main_arg3 (ix3 g i j) = (W g i j : EReal)) (hB : ∀ i g, V c main_v2 (ix2 i g) = (B g i : EReal))

/-- The part of the sequence that a grid point holds. -/
def at0 (t : Fin cfg0.N) : Fin 16 := t
def at1 (t : Fin cfg1.N) : Fin 16 := t

section Forward

include ha in
theorem blk0_0 (t : Fin cfg0.N) (r l : Fin 1024) : iblk0 V c 0 t (ix2 r l) = (A (slab (at0 t) r) l : EReal) := by
  obtain ⟨e0, e1⟩ := (by decide +kernel : ∀ t : Fin cfg0.N, win0_0.index t 0 = t.val ∧ win0_0.index t 1 = 0) t
  rw [← ha]; blk_ext [iblk0, e0, e1, slab, at0]
include hg in
theorem blk0_1 (t : Fin cfg0.N) (k : Fin 512) : iblk0 V c 1 t (ix2 0 k) = (lg k : EReal) := by
  obtain ⟨e0, e1⟩ := (by decide +kernel : ∀ t : Fin cfg0.N, win0_1.index t 0 = 0 ∧ win0_1.index t 1 = 0) t
  rw [← hg]; blk_ext [iblk0, e0, e1]
include hb in
theorem blk0_2 (t : Fin cfg0.N) (k : Fin 512) : iblk0 V c 2 t (ix2 0 k) = (lb k : EReal) := by
  obtain ⟨e0, e1⟩ := (by decide +kernel : ∀ t : Fin cfg0.N, win0_2.index t 0 = 0 ∧ win0_2.index t 1 = 0) t
  rw [← hb]; blk_ext [iblk0, e0, e1]
include hw in
theorem blk0_3 (t : Fin cfg0.N) (g : Fin 4) (i j : Fin 128) : iblk0 V c 3 t (ix3 g i j) = (W g i j : EReal) := by
  obtain ⟨e0, e1, e2⟩ := (by decide +kernel : ∀ t : Fin cfg0.N, win0_3.index t 0 = 0 ∧ win0_3.index t 1 = 0 ∧ win0_3.index t 2 = 0) t
  rw [← hw]; blk_ext [iblk0, e0, e1, e2]
include hB in
theorem blk0_4 (t : Fin cfg0.N) (i : Fin 128) (g : Fin 4) : iblk0 V c 4 t (ix2 i g) = (B g i : EReal) := by
  obtain ⟨e0, e1⟩ := (by decide +kernel : ∀ t : Fin cfg0.N, win0_4.index t 0 = 0 ∧ win0_4.index t 1 = 0) t
  rw [← hB]; blk_ext [iblk0, e0, e1]

theorem group_0 (x : FVec Ideal S4x128x128 .f32) (i j : Fin 128) : group0 x (ix3 0 i j) = x (ix3 0 i j) :=
  congrArg x (group_emb 0 inb_S4x128x128_S1x128x128_0_0_0 0 i j rfl)
theorem group_1 (x : FVec Ideal S4x128x128 .f32) (i j : Fin 128) : group1 x (ix3 0 i j) = x (ix3 1 i j) :=
  congrArg x (group_emb 1 inb_S4x128x128_S1x128x128_1_0_0 1 i j rfl)
theorem group_2 (x : FVec Ideal S4x128x128 .f32) (i j : Fin 128) : group2 x (ix3 0 i j) = x (ix3 2 i j) :=
  congrArg x (group_emb 2 inb_S4x128x128_S1x128x128_2_0_0 2 i j rfl)
theorem group_3 (x : FVec Ideal S4x128x128 .f32) (i j : Fin 128) : group3 x (ix3 0 i j) = x (ix3 3 i j) :=
  congrArg x (group_emb 3 inb_S4x128x128_S1x128x128_3_0_0 3 i j rfl)

/-- The first call's block from the blocks that it loads. -/
def outP (x0 : FVec Ideal S1024x1024 .f32) (x1 x2 : FVec Ideal S1x512 .f32) (w0 w1 w2 w3 : FVec Ideal S1x128x128 .f32)
    (x4 : FVec Ideal S128x4 .f32) : FVec Ideal S1024x512 .bf16 :=
  k0_pay1 (k0_pay5 x0) (k0_pay9 (k0_pay2 x1) (k0_pay3 x2) (k0_pay4 x4) (k0_pay6 x0) w0)
    (k0_pay12 (k0_pay4 x4) (k0_pay7 (k0_pay2 x1) (k0_pay3 x2) (k0_pay6 x0)) (k0_pay10 w1) (k0_pay11 (k0_pay2 x1) (k0_pay3 x2) (k0_pay6 x0)))
    (k0_pay13 (k0_pay4 x4) (k0_pay7 (k0_pay2 x1) (k0_pay3 x2) (k0_pay6 x0)) k0_pay8 w2)
    (k0_pay14 (k0_pay7 (k0_pay2 x1) (k0_pay3 x2) (k0_pay6 x0)) k0_pay8 w3) (k0_pay15 (k0_pay4 x4))

section Loads
variable (x0 : FVec Ideal S1024x1024 .f32) (x1 x2 : FVec Ideal S1x512 .f32) (x3 : FVec Ideal S4x128x128 .f32) (x4 : FVec Ideal S128x4 .f32)

theorem load16 : k0_pay16 (F := Ideal) x0 x1 x2 x3 x4 = k0_pay2 (F := Ideal) x1 := by unfold k0_pay16; rw [ld_all]
theorem load17 : k0_pay17 (F := Ideal) x0 x1 x2 x3 x4 = k0_pay3 (F := Ideal) x2 := by unfold k0_pay17; rw [ld_all]
theorem load18 : k0_pay18 (F := Ideal) x0 x1 x2 x3 x4 = k0_pay4 (F := Ideal) x4 := by unfold k0_pay18; rw [ld_all]
theorem load19 : k0_pay19 (F := Ideal) x0 x1 x2 x3 x4 = k0_pay6 (F := Ideal) x0 := by unfold k0_pay19; rw [ld_all]
theorem load20 : k0_pay20 (F := Ideal) x0 x1 x2 x3 x4 = k0_pay7 (F := Ideal) (k0_pay2 (F := Ideal) x1) (k0_pay3 (F := Ideal) x2) (k0_pay6 (F := Ideal) x0) := by
  unfold k0_pay20; rw [load16, load17, load19]

end Loads

theorem out_at (t : Fin cfg0.N) : out0_5 (iblk0 V c 0 t) (iblk0 V c 1 t) (iblk0 V c 2 t) (iblk0 V c 3 t) (iblk0 V c 4 t)
    = outP (iblk0 V c 0 t) (iblk0 V c 1 t) (iblk0 V c 2 t) (group0 (iblk0 V c 3 t)) (group1 (iblk0 V c 3 t)) (group2 (iblk0 V c 3 t))
      (group3 (iblk0 V c 3 t)) (iblk0 V c 4 t) := by
  frame_out
  unfold group0 group1 group2 group3
  rw [load16, load17, load18, load19, load20]
  rfl

include ha hg hb hw hB in
theorem out_value (t : Fin cfg0.N) (r : Fin 1024) (k : Fin 512) :
    outP (iblk0 V c 0 t) (iblk0 V c 1 t) (iblk0 V c 2 t) (group0 (iblk0 V c 3 t)) (group1 (iblk0 V c 3 t)) (group2 (iblk0 V c 3 t))
      (group3 (iblk0 V c 3 t)) (iblk0 V c 4 t) (ix2 r k) = (out A lg lb W B (slab (at0 t) r) k : EReal) := by
  have h1 : ∀ k, k0_pay2 (F := Ideal) (iblk0 V c 1 t) (ix2 0 k) = (lg k : EReal) := fun k => by
    pointwise [k0_pay2]; exact blk0_1 V c hg t k
  have h2 : ∀ k, k0_pay3 (F := Ideal) (iblk0 V c 2 t) (ix2 0 k) = (lb k : EReal) := fun k => by
    pointwise [k0_pay3]; exact blk0_2 V c hb t k
  have h4 : ∀ i g, k0_pay4 (F := Ideal) (iblk0 V c 4 t) (ix2 i g) = (B g i : EReal) := fun i g => by
    pointwise [k0_pay4]; exact blk0_4 V c hB t i g
  have hc := centred (t := at0 t) (blk0_0 V c ha t)
  have hn := normed hc h1 h2
  have e : k0_pay11 (F := Ideal) (k0_pay2 (iblk0 V c 1 t)) (k0_pay3 (iblk0 V c 2 t)) (k0_pay6 (iblk0 V c 0 t))
      = extractStridedSlice S128x128 ![0, 128] (k0_pay7 (k0_pay2 (iblk0 V c 1 t)) (k0_pay3 (iblk0 V c 2 t)) (k0_pay6 (iblk0 V c 0 t)))
        slices_S1024x512_o0_128_S128x128 := rfl
  unfold outP out
  rw [e]
  exact out_block (first_half (blk0_0 V c ha t))
    (fun i q l => mix0 hc h1 h2 h4 (fun i j => (group_0 _ i j).trans (blk0_3 V c hw t 0 i j)) i q l)
    (fun i q l => mix1 hn h4 slices_S1024x512_o0_128_S128x128 (fun i j => (group_1 _ i j).trans (blk0_3 V c hw t 1 i j)) i q l)
    (fun i q l => mix2 hn h4 mask0 (fun i j => (group_2 _ i j).trans (blk0_3 V c hw t 2 i j)) i q l)
    (fun h i q l => mix3 hn h4 mask0 h (fun i j => (group_3 _ i j).trans (blk0_3 V c hw t 3 i j)) i q l) r k

include ha hg hb hw hB in
theorem arr_out : (dat0 (F := Ideal) V c).arrAt 5 cfg0.N = fun i => (out A lg lb W B (i 0) (i 1) : EReal) := by
  refine (dat0 V c).arrAt_eq_of_covers 5 _ (by decide +kernel) fun t hf y => ?_
  obtain ⟨e0, e1⟩ := (by decide +kernel : ∀ t : Fin cfg0.N, win0_5.index t 0 = t.val ∧ win0_5.index t 1 = 0) t
  obtain ⟨r, k, rfl⟩ : ∃ (r : Fin 1024) (k : Fin 512), y = ix2 r k := ⟨y 0, y 1, eq_ix2 y⟩
  refine at_place (fun r l => (out A lg lb W B r l : EReal)) (r := slab (at0 t) r) (l := k) ?_ ?_ ?_
  · blk_simp; rw [after0_5, out_at]; exact out_value V c ha hg hb hw hB t r k
  · blk_simp [e0, e1, slab, at0]
  · blk_simp [e0, e1, slab, at0]

end Forward

section Backward

include ha in
theorem blk1_0 (t : Fin cfg1.N) (r l : Fin 1024) : iblk1 V c 0 t (ix2 r l) = (A (slab (at1 t) r) l : EReal) := by
  obtain ⟨e0, e1⟩ := (by decide +kernel : ∀ t : Fin cfg1.N, win1_0.index t 0 = t.val ∧ win1_0.index t 1 = 0) t
  rw [← ha]; blk_ext [iblk1, e0, e1, slab, at1]
include hd in
theorem blk1_1 (t : Fin cfg1.N) (r : Fin 1024) (k : Fin 512) : iblk1 V c 1 t (ix2 r k) = (D (slab (at1 t) r) k : EReal) := by
  obtain ⟨e0, e1⟩ := (by decide +kernel : ∀ t : Fin cfg1.N, win1_1.index t 0 = t.val ∧ win1_1.index t 1 = 0) t
  rw [← hd]; blk_ext [iblk1, e0, e1, slab, at1]
include hg in
theorem blk1_2 (t : Fin cfg1.N) (k : Fin 512) : iblk1 V c 2 t (ix2 0 k) = (lg k : EReal) := by
  obtain ⟨e0, e1⟩ := (by decide +kernel : ∀ t : Fin cfg1.N, win1_2.index t 0 = 0 ∧ win1_2.index t 1 = 0) t
  rw [← hg]; blk_ext [iblk1, e0, e1]
include hb in
theorem blk1_3 (t : Fin cfg1.N) (k : Fin 512) : iblk1 V c 3 t (ix2 0 k) = (lb k : EReal) := by
  obtain ⟨e0, e1⟩ := (by decide +kernel : ∀ t : Fin cfg1.N, win1_3.index t 0 = 0 ∧ win1_3.index t 1 = 0) t
  rw [← hb]; blk_ext [iblk1, e0, e1]
include hw in
theorem blk1_4 (t : Fin cfg1.N) (g : Fin 4) (i j : Fin 128) : iblk1 V c 4 t (ix3 g i j) = (W g i j : EReal) := by
  obtain ⟨e0, e1, e2⟩ := (by decide +kernel : ∀ t : Fin cfg1.N, win1_4.index t 0 = 0 ∧ win1_4.index t 1 = 0 ∧ win1_4.index t 2 = 0) t
  rw [← hw]; blk_ext [iblk1, e0, e1, e2]
include hB in
theorem blk1_5 (t : Fin cfg1.N) (i : Fin 128) (g : Fin 4) : iblk1 V c 5 t (ix2 i g) = (B g i : EReal) := by
  obtain ⟨e0, e1⟩ := (by decide +kernel : ∀ t : Fin cfg1.N, win1_5.index t 0 = 0 ∧ win1_5.index t 1 = 0) t
  rw [← hB]; blk_ext [iblk1, e0, e1]

include hw in
theorem weight0_at (t : Fin cfg1.N) (i j : Fin 128) : group0 (iblk1 V c 4 t) (ix3 0 i j) = (W 0 i j : EReal) :=
  (group_0 _ i j).trans (blk1_4 V c hw t 0 i j)
include hw in
theorem weight1_at (t : Fin cfg1.N) (i j : Fin 128) : group1 (iblk1 V c 4 t) (ix3 0 i j) = (W 1 i j : EReal) :=
  (group_1 _ i j).trans (blk1_4 V c hw t 1 i j)
include hw in
theorem weight2_at (t : Fin cfg1.N) (i j : Fin 128) : group2 (iblk1 V c 4 t) (ix3 0 i j) = (W 2 i j : EReal) :=
  (group_2 _ i j).trans (blk1_4 V c hw t 2 i j)
include hw in
theorem weight3_at (t : Fin cfg1.N) (i j : Fin 128) : group3 (iblk1 V c 4 t) (ix3 0 i j) = (W 3 i j : EReal) :=
  (group_3 _ i j).trans (blk1_4 V c hw t 3 i j)

def last1 : Fin cfg1.N := ⟨15, by decide⟩

include ha hd hg hb hw hB in
theorem arr_da : (dat1 (F := Ideal) V c).arrAt 6 cfg1.N = fun i => (da A lg lb W B D (i 0) (i 1) : EReal) := by
  refine (dat1 V c).arrAt_eq_of_covers 6 _ (by decide +kernel) fun t hf y => ?_
  obtain ⟨e0, e1⟩ := (by decide +kernel : ∀ t : Fin cfg1.N, win1_6.index t 0 = t.val ∧ win1_6.index t 1 = 0) t
  obtain ⟨r, l, rfl⟩ : ∃ r l : Fin 1024, y = ix2 r l := ⟨y 0, y 1, eq_ix2 y⟩
  have hv := daP_eq (t := at1 t) (blk1_0 V c ha t) (blk1_1 V c hd t) (blk1_2 V c hg t) (blk1_3 V c hb t) (weight0_at V c hw t)
    (weight1_at V c hw t) (weight2_at V c hw t) (weight3_at V c hw t) (blk1_5 V c hB t) r l
  refine at_place (fun r l => (da A lg lb W B D r l : EReal)) (r := slab (at1 t) r) (l := l) ?_ ?_ ?_
  · blk_simp; rw [after1_6]
    by_cases h : t.val % 16 = 0
    · rw [da_A V c t h]; exact hv
    · rw [da_B V c t h]; exact hv
  · blk_simp [e0, e1, slab, at1]
  · blk_simp [e0, e1, slab, at1]

theorem sum_slab (f : Fin 16384 → ℝ) : ∑ t, ∑ r, f (slab t r) = ∑ r, f r :=
  sum_rows (N := 16384) (n := 16) (k := 1024) slab (by norm_num) (fun _ _ => rfl) f

theorem sum_dlg (k : Fin 512) : ∑ t, ∑ r, dvn A W D (slab t r) k * hat (gv A (slab t r)) k = dlg A W D k :=
  sum_slab (fun r => dvn A W D r k * hat (gv A r) k)

theorem sum_dlb (k : Fin 512) : ∑ t, ∑ r, dvn A W D (slab t r) k = dlb A W D k := sum_slab (fun r => dvn A W D r k)

include ha hd hw in
theorem arr_dlg : (dat1 (F := Ideal) V c).arrAt 9 cfg1.N = fun i => (dlg A W D (i 1) : EReal) := by
  refine (dat1 V c).arrAt_eq_of_after_last 9 last1 (by decide +kernel) _ fun j => ?_
  obtain ⟨k, rfl⟩ := one_row j
  have hv (t : Fin cfg1.N) (o) := dlgP_eq (t := at1 t) (blk1_0 V c ha t) (blk1_1 V c hd t) (weight0_at V c hw t)
    (weight1_at V c hw t) (weight2_at V c hw t) (weight3_at V c hw t) o
  blk_simp; rw [after1_9]
  refine (Pipeline.eq_sum_fin_of_reset_step_apply_last (fun n h => (outsAt1 V c n h).2.2.2.1) 16 (fun _ => (0 : EReal))
    (fun t j => ((∑ r, dvn A W D (slab t r) (j 1) * hat (gv A (slab t r)) (j 1) : ℝ) : EReal)) (fun t h j => ?_) (fun t h j => ?_)
    (by decide) last1 rfl (ix2 0 k)).trans ?_
  · obtain ⟨l, rfl⟩ := one_row j
    refine (congrFun (dlg_A V c t h) _).trans ((hv t _ l).trans (congrArg (· + _) ?_))
    pointwise [k1_pay3]
  · obtain ⟨l, rfl⟩ := one_row j
    exact (congrFun (dlg_B V c t h) _).trans (hv t _ l)
  · rw [coe_sum, zero_add]; exact congrArg Real.toEReal (sum_dlg k)

include ha hd hw in
theorem arr_dlb : (dat1 (F := Ideal) V c).arrAt 10 cfg1.N = fun i => (dlb A W D (i 1) : EReal) := by
  refine (dat1 V c).arrAt_eq_of_after_last 10 last1 (by decide +kernel) _ fun j => ?_
  obtain ⟨k, rfl⟩ := one_row j
  have hv (t : Fin cfg1.N) (o) := dlbP_eq (t := at1 t) (blk1_0 V c ha t) (blk1_1 V c hd t) (weight0_at V c hw t)
    (weight1_at V c hw t) (weight2_at V c hw t) (weight3_at V c hw t) o
  blk_simp; rw [after1_10]
  refine (Pipeline.eq_sum_fin_of_reset_step_apply_last (fun n h => (outsAt1 V c n h).2.2.2.2) 16 (fun _ => (0 : EReal))
    (fun t j => ((∑ r, dvn A W D (slab t r) (j 1) : ℝ) : EReal)) (fun t h j => ?_) (fun t h j => ?_)
    (by decide) last1 rfl (ix2 0 k)).trans ?_
  · obtain ⟨l, rfl⟩ := one_row j
    refine (congrFun (dlb_A V c t h) _).trans ((hv t _ l).trans (congrArg (· + _) ?_))
    pointwise [k1_pay4]
  · obtain ⟨l, rfl⟩ := one_row j
    exact (congrFun (dlb_B V c t h) _).trans (hv t _ l)
  · rw [coe_sum, zero_add]; exact congrArg Real.toEReal (sum_dlb k)

theorem sum_blkOf (f : Fin 128 → ℝ) : ∑ t, ∑ q, f (blkOf t q) = ∑ n, f n :=
  sum_rows (N := 128) (n := 16) (k := 8) blkOf (by norm_num) (fun _ _ => rfl) f

theorem sum_bT (g : Fin 4) (i : Fin 128) : ∑ t, bT A D t g i = db A D g i := by
  unfold bT db
  simp only [slab_loc]
  exact sum_blkOf (fun n => ∑ c, dm A D (pos n i) (ch g c))

theorem sum_wT (g : Fin 4) (i j : Fin 128) : ∑ t, wT A lg lb D t g i j = dw A lg lb D g i j := by
  unfold wT dw
  by_cases h : sees i j
  · simp only [if_pos h, slab_loc]
    exact sum_blkOf (fun n => ∑ c, dm A D (pos n i) (ch g c) * vn A lg lb (pos n j) (ch g c))
  · simp only [if_neg h, Finset.sum_const_zero]

include ha hd in
theorem arr_db : (dat1 (F := Ideal) V c).arrAt 8 cfg1.N = fun i => (db A D (i 1) (i 0) : EReal) := by
  refine (dat1 V c).arrAt_eq_of_after_last 8 last1 (by decide +kernel) _ fun j => ?_
  obtain ⟨i, g, rfl⟩ : ∃ (i : Fin 128) (g : Fin 4), j = ix2 i g := ⟨j 0, j 1, eq_ix2 j⟩
  have hv (t : Fin cfg1.N) (o) := dbP_eq (t := at1 t) (blk1_0 V c ha t) (blk1_1 V c hd t) o
  blk_simp; rw [after1_8]
  refine (Pipeline.eq_sum_fin_of_reset_step_apply_last (fun n h => (outsAt1 V c n h).2.2.1) 16 (fun _ => (0 : EReal))
    (fun t j => (bT A D t (j 1) (j 0) : EReal)) (fun t h j => ?_) (fun t h j => ?_)
    (by decide) last1 rfl (ix2 i g)).trans ?_
  · obtain ⟨i, g, rfl⟩ : ∃ (i : Fin 128) (g : Fin 4), j = ix2 i g := ⟨j 0, j 1, eq_ix2 j⟩
    refine (congrFun (db_A V c t h) _).trans ((hv t _ i g).trans (congrArg (· + _) ?_))
    pointwise [k1_pay2]
  · obtain ⟨i, g, rfl⟩ : ∃ (i : Fin 128) (g : Fin 4), j = ix2 i g := ⟨j 0, j 1, eq_ix2 j⟩
    exact (congrFun (db_B V c t h) _).trans (hv t _ i g)
  · rw [coe_sum, zero_add]; exact congrArg Real.toEReal (sum_bT g i)

include ha hd hg hb in
/-- What a point adds to the gradient of the weights. -/
theorem dw_value (t : Fin cfg1.N) (o : FVec Ideal S4x128x128 .f32) (g : Fin 4) (i j : Fin 128) :
    dwP (iblk1 V c 0 t) (iblk1 V c 1 t) (iblk1 V c 2 t) (iblk1 V c 3 t) o g (ix3 0 i j)
      = o (ix3 g i j) + (wT A lg lb D (at1 t) g i j : EReal) := by
  have h0 := blk1_0 V c ha t
  have h1 := blk1_1 V c hd t
  have h2 := blk1_2 V c hg t
  have h3 := blk1_3 V c hb t
  match g with
  | 0 => exact (dw0_eq (t := at1 t) h0 h1 h2 h3 _ i j).trans (congrArg (· + _) (group_0 o i j))
  | 1 => exact (dw1_eq (t := at1 t) h0 h1 h2 h3 _ i j).trans (congrArg (· + _) (group_1 o i j))
  | 2 => exact (dw2_eq (t := at1 t) h0 h1 h2 h3 _ i j).trans (congrArg (· + _) (group_2 o i j))
  | 3 => exact (dw3_eq (t := at1 t) h0 h1 h2 h3 _ i j).trans (congrArg (· + _) (group_3 o i j))

include ha hd hg hb in
theorem arr_dw : (dat1 (F := Ideal) V c).arrAt 7 cfg1.N = fun i => (dw A lg lb D (i 0) (i 1) (i 2) : EReal) := by
  refine (dat1 V c).arrAt_eq_of_after_last 7 last1 (by decide +kernel) _ fun j => ?_
  obtain ⟨g, i, j, rfl⟩ : ∃ (g : Fin 4) (i k : Fin 128), j = ix3 g i k := ⟨j 0, j 1, j 2, eq_ix3 j⟩
  have hv (t : Fin cfg1.N) (o) := dw_value V c ha hd hg hb t o
  blk_simp; rw [after1_7]
  refine (Pipeline.eq_sum_fin_of_reset_step_apply_last (fun n h => (outsAt1 V c n h).2.1) 16 (fun _ => (0 : EReal))
    (fun t j => (wT A lg lb D t (j 0) (j 1) (j 2) : EReal)) (fun t h j => ?_) (fun t h j => ?_)
    (by decide) last1 rfl (ix3 g i j)).trans ?_
  · obtain ⟨g, i, j, rfl⟩ : ∃ (g : Fin 4) (i k : Fin 128), j = ix3 g i k := ⟨j 0, j 1, j 2, eq_ix3 j⟩
    refine (dw_A V c t h g i j).trans ((hv t _ g i j).trans (congrArg (· + _) ?_))
    pointwise [k1_pay1]
  · obtain ⟨g, i, j, rfl⟩ : ∃ (g : Fin 4) (i k : Fin 128), j = ix3 g i k := ⟨j 0, j 1, j 2, eq_ix3 j⟩
    exact (dw_B V c t h g i j).trans (hv t _ g i j)
  · rw [coe_sum, zero_add]; exact congrArg Real.toEReal (sum_wT g i j)

end Backward

end Cert.SgIdeal

end
-- ==== Proof.Sg.Run.lean ====
module
public import proofs.«01_k».proof.Proof.Sg.Arrays

/-! The run of the spatial gating's two calls and of the host lines around them: what every array ends at, and that the six
    results are the real arrays of `Spec`. -/

@[expose] public section

set_option maxRecDepth 16384

noncomputable section

namespace Cert.SgIdeal

open Idealize.ShloMosaic Idealize.ShloMosaic.TcCoe Idealize.ShloMosaic.Tactic Cert.Reals Cert.SgSpec
open Idealize.SL Idealize.SL.RA Idealize.SL.BI Idealize.SL.BI.BIBase Idealize.SL.BI.Laws Idealize.SL.ProofMode Idealize.SL.Sem
open scoped Idealize.SL.BI
open Idealize.ShloMosaic.Rounds
open Gen

section Run

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch's implicit arguments are found by unfolding definitions in a metavariable's type
set_option backward.isDefEq.respectTransparency.types false in
/-- Every buffer ends at the contents after the last host line. -/
theorem run_contents : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Run

section Values

variable (m : (ℓ : Loc nD τ sig) → Buf (Elt Ideal) ℓ) (ρ : Dev nD → PrngReg) (c : Dev nD)

variable {A : Fin 16384 → Fin 1024 → ℝ} {lg lb : Fin 512 → ℝ} {W : Fin 4 → Fin 128 → Fin 128 → ℝ} {B : Fin 4 → Fin 128 → ℝ}
  {D : Fin 16384 → Fin 512 → ℝ}
  (hA : ∀ r l, m ((c : Thread nD τ).loc main_arg0) (ix2 r l) = (A r l : EReal))
  (hg : ∀ k, m ((c : Thread nD τ).loc main_arg1) (ix1 k) = (lg k : EReal))
  (hb : ∀ k, m ((c : Thread nD τ).loc main_arg2) (ix1 k) = (lb k : EReal))
  (hW : ∀ g i j, m ((c : Thread nD τ).loc main_arg3) (ix3 g i j) = (W g i j : EReal))
  (hB : ∀ g i, m ((c : Thread nD τ).loc main_arg4) (ix2 g i) = (B g i : EReal))
  (hD : ∀ r k, m ((c : Thread nD τ).loc main_arg5) (ix2 r k) = (D r k : EReal))

include hA in
theorem v1_a (r : Fin 16384) (l : Fin 1024) : V1 m ρ c main_arg0 (ix2 r l) = (A r l : EReal) := by
  rw [V1, W1_args m ρ c main_arg0 (by decide), hA]
include hg in
theorem v1_g (k : Fin 512) : V1 m ρ c main_v0 (ix2 0 k) = (lg k : EReal) := by
  rw [← hg, V1]; after_results_simp; pointwise
include hb in
theorem v1_b (k : Fin 512) : V1 m ρ c main_v1 (ix2 0 k) = (lb k : EReal) := by
  rw [← hb, V1]; after_results_simp; pointwise
include hW in
theorem v1_w (g : Fin 4) (i j : Fin 128) : V1 m ρ c main_arg3 (ix3 g i j) = (W g i j : EReal) := by
  rw [V1, W1_args m ρ c main_arg3 (by decide), hW]
include hB in
theorem v1_bias (i : Fin 128) (g : Fin 4) : V1 m ρ c main_v2 (ix2 i g) = (B g i : EReal) := by
  rw [← hB, V1]; after_results_simp; pointwise

include hA in
theorem v2_a (r : Fin 16384) (l : Fin 1024) : V2 m ρ c main_arg0 (ix2 r l) = (A r l : EReal) := by
  rw [V2, W2_args m ρ c main_arg0 (by decide), hA]
include hD in
theorem v2_d (r : Fin 16384) (k : Fin 512) : V2 m ρ c main_arg5 (ix2 r k) = (D r k : EReal) := by
  rw [V2, W2_args m ρ c main_arg5 (by decide), hD]
include hW in
theorem v2_w (g : Fin 4) (i j : Fin 128) : V2 m ρ c main_arg3 (ix3 g i j) = (W g i j : EReal) := by
  rw [V2, W2_args m ρ c main_arg3 (by decide), hW]
include hg in
theorem v2_g (k : Fin 512) : V2 m ρ c main_v0 (ix2 0 k) = (lg k : EReal) := by
  rw [show V2 m ρ c main_v0 = V1 m ρ c main_v0 from W2_of m ρ c main_v0 (by decide), v1_g m ρ c hg]
include hb in
theorem v2_b (k : Fin 512) : V2 m ρ c main_v1 (ix2 0 k) = (lb k : EReal) := by
  rw [show V2 m ρ c main_v1 = V1 m ρ c main_v1 from W2_of m ρ c main_v1 (by decide), v1_b m ρ c hb]
include hB in
theorem v2_bias (i : Fin 128) (g : Fin 4) : V2 m ρ c main_v2 (ix2 i g) = (B g i : EReal) := by
  rw [show V2 m ρ c main_v2 = V1 m ρ c main_v2 from W2_of m ρ c main_v2 (by decide), v1_bias m ρ c hB]

include hA hg hb hW hB in
theorem w4_out : W4 m ρ c main_v3 = fun i => (out A lg lb W B (i 0) (i 1) : EReal) := by
  rw [show W4 m ρ c main_v3 = (dat0 (V1 m ρ) c).arrAt 5 cfg0.N from
    (W4_of m ρ c main_v3 (by decide)).trans ((W3_of m ρ c main_v3 (by decide)).trans (W2_arr m ρ c 5)),
    arr_out (V1 m ρ) c (v1_a m ρ c hA) (v1_g m ρ c hg) (v1_b m ρ c hb) (v1_w m ρ c hW) (v1_bias m ρ c hB)]
include hA hg hb hW hB hD in
theorem w4_da : W4 m ρ c main_v4_0 = fun i => (da A lg lb W B D (i 0) (i 1) : EReal) :=
  (W4_of m ρ c main_v4_0 (by decide)).trans ((W3_arr m ρ c 6).trans (arr_da (V2 m ρ) c (v2_a m ρ c hA) (v2_d m ρ c hD)
    (v2_g m ρ c hg) (v2_b m ρ c hb) (v2_w m ρ c hW) (v2_bias m ρ c hB)))
include hA hg hb hD in
theorem w4_dw : W4 m ρ c main_v4_1 = fun i => (dw A lg lb D (i 0) (i 1) (i 2) : EReal) :=
  (W4_of m ρ c main_v4_1 (by decide)).trans ((W3_arr m ρ c 7).trans (arr_dw (V2 m ρ) c (v2_a m ρ c hA) (v2_d m ρ c hD)
    (v2_g m ρ c hg) (v2_b m ρ c hb)))
include hA hD in
theorem w4_db (g : Fin 4) (i : Fin 128) : W4 m ρ c main_v5 (ix2 g i) = (db A D g i : EReal) := by
  have h : W3 m ρ c main_v4_2 = fun i => (db A D (i 1) (i 0) : EReal) :=
    (W3_arr m ρ c 8).trans (arr_db (V2 m ρ) c (v2_a m ρ c hA) (v2_d m ρ c hD))
  have e : W4 m ρ c main_v5 (ix2 g i) = W3 m ρ c main_v4_2 (ix2 i g) := by
    unfold W4; after_results_simp; pointwise
  rw [e, h]; rfl
include hA hW hD in
theorem w4_dlg (k : Fin 512) : W4 m ρ c main_v6 (ix1 k) = (dlg A W D k : EReal) := by
  have h : W3 m ρ c main_v4_3 = fun i => (dlg A W D (i 1) : EReal) :=
    (W3_arr m ρ c 9).trans (arr_dlg (V2 m ρ) c (v2_a m ρ c hA) (v2_d m ρ c hD) (v2_w m ρ c hW))
  have e : W4 m ρ c main_v6 (ix1 k) = W3 m ρ c main_v4_3 (ix2 0 k) := by
    unfold W4; after_results_simp; pointwise
  rw [e, h]; rfl
include hA hW hD in
theorem w4_dlb (k : Fin 512) : W4 m ρ c main_v7 (ix1 k) = (dlb A W D k : EReal) := by
  have h : W3 m ρ c main_v4_4 = fun i => (dlb A W D (i 1) : EReal) :=
    (W3_arr m ρ c 10).trans (arr_dlb (V2 m ρ) c (v2_a m ρ c hA) (v2_d m ρ c hD) (v2_w m ρ c hW))
  have e : W4 m ρ c main_v7 (ix1 k) = W3 m ρ c main_v4_4 (ix2 0 k) := by
    unfold W4; after_results_simp; pointwise
  rw [e, h]; rfl

end Values

end Cert.SgIdeal

end
-- ==== Proof.Sg.Ref.lean ====
module
public import proofs.«01_k».proof.Proof.Gen.SgRefIdeal.Run
public import proofs.«01_k».proof.Proof.Gen.SgRefIdeal.Read
public import proofs.«01_k».proof.Proof.Sg.Spec
public import Idealize.ShloMosaic.Lib.TwoAxisContraction
public import Idealize.ShloMosaic.Lib.KernelVsHost

/-! What the reference of the spatial gating computes at finite arguments, value by value. -/

@[expose] public section

set_option maxRecDepth 16384

noncomputable section

namespace Cert.SgRefIdeal

open Idealize.ShloMosaic Idealize.ShloMosaic.TcCoe Idealize.ShloMosaic.Tactic Idealize.SL.Sem Cert.Reals
open Gen Read SgSpec

theorem lit_512 : (Ideal.ofBits .f32 1140850688#32 : EReal) = ((512 : ℝ) : EReal) := by
  simp [Ideal.ofBits, Ideal.ieee, -EReal.coe_mul]; norm_num

theorem lit_half : (Ideal.ofBits .f32 1056964608#32 : EReal) = ((1 / 2 : ℝ) : EReal) := by
  simp [Ideal.ofBits, Ideal.ieee, -EReal.coe_mul]; norm_num

theorem lit_three : (Ideal.ofBits .f32 1077936128#32 : EReal) = ((3 : ℝ) : EReal) := by
  simp [Ideal.ofBits, Ideal.ieee, -EReal.coe_mul]; norm_num

theorem lit_44715 : (Ideal.ofBits .f32 1194240768#32 : EReal) = ((44715 : ℝ) : EReal) := by
  simp [Ideal.ofBits, Ideal.ieee, -EReal.coe_mul]; norm_num

theorem lit_million : (Ideal.ofBits .f32 1232348160#32 : EReal) = ((1000000 : ℝ) : EReal) := by
  simp [Ideal.ofBits, Ideal.ieee, -EReal.coe_mul]; norm_num

theorem lit_cubic : Ideal.div (Ideal.ofBits .f32 1194240768#32 : EReal) (Ideal.ofBits .f32 1232348160#32) = (cubic : EReal) := by
  rw [lit_44715, lit_million, div_real _ (by norm_num)]
  congr 1; unfold cubic; norm_num

theorem tanh_real (x : ℝ) : Ideal.tanh (x : EReal) = ((Real.tanh x : ℝ) : EReal) := rfl

theorem cubic_u : val_main_v7 (F := Ideal) ix0 = (cubic : EReal) := by
  unfold val_main_v7 val_main_v1
  exact lit_cubic

theorem cubic_v : val_main_v31 (F := Ideal) ix0 = (cubic : EReal) := by
  unfold val_main_v31 val_main_v25
  exact lit_cubic

variable {A : Fin 16384 → Fin 1024 → ℝ} {lg lb : Fin 512 → ℝ} {W : Fin 4 → Fin 128 → Fin 128 → ℝ} {B : Fin 4 → Fin 128 → ℝ}
  {D : Fin 16384 → Fin 512 → ℝ}
  {x0 : FVec Ideal S16384x1024 .f32} {x1 x2 : FVec Ideal S512 .f32} {x3 : FVec Ideal S4x128x128 .f32}
  {x4 : FVec Ideal S4x128 .f32} {x5 : FVec Ideal S16384x512 .f32}
  (hA : ∀ r l, x0 (ix2 r l) = (A r l : EReal)) (hg : ∀ l, x1 (ix1 l) = (lg l : EReal)) (hb : ∀ l, x2 (ix1 l) = (lb l : EReal))
  (hW : ∀ g i j, x3 (ix3 g i j) = (W g i j : EReal)) (hB : ∀ g i, x4 (ix2 g i) = (B g i : EReal))
  (hD : ∀ r l, x5 (ix2 r l) = (D r l : EReal))

include hA in
theorem u_ref (r : Fin 16384) (k : Fin 512) : val_main_v0 (F := Ideal) x0 (ix2 r k) = (A r (low k) : EReal) := by
  pointwise [val_main_v0]
  rw [← hA]; rfl

include hA in
theorem v_ref (r : Fin 16384) (k : Fin 512) : val_main_v24 (F := Ideal) x0 (ix2 r k) = (A r (high k) : EReal) := by
  pointwise [val_main_v24]
  rw [← hA]; rfl

include hA in
theorem th_u (r : Fin 16384) (k : Fin 512) : val_main_v13 (F := Ideal) x0 (ix2 r k) = (th (A r (low k)) : EReal) := by
  have h := u_ref hA r k
  pointwise [val_main_v13, val_main_v12, val_main_v11, val_main_v10, val_main_v9, val_main_v8, val_main_v3, val_main_v2,
    val_main_cst_2]
  rw [h, cubic_u, lit_root]
  simp only [← EReal.coe_mul, ← EReal.coe_add, tanh_real]
  unfold th
  congr 3; ring

include hA in
theorem th_v (r : Fin 16384) (k : Fin 512) : val_main_v37 (F := Ideal) x0 (ix2 r k) = (th (A r (high k)) : EReal) := by
  have h := v_ref hA r k
  pointwise [val_main_v37, val_main_v36, val_main_v35, val_main_v34, val_main_v33, val_main_v32, val_main_v27, val_main_v26,
    val_main_cst_10]
  rw [h, cubic_v, lit_root]
  simp only [← EReal.coe_mul, ← EReal.coe_add, tanh_real]
  unfold th
  congr 3; ring

include hA in
theorem gu_ref (r : Fin 16384) (k : Fin 512) : val_main_v23 (F := Ideal) x0 (ix2 r k) = (gu A r k : EReal) := by
  have h := u_ref hA r k
  have ht := th_u hA r k
  pointwise [val_main_v23, val_main_v22, val_main_v21, val_main_v20, val_main_v19, val_main_cst_5, val_main_cst_6]
  rw [h, ht, lit_half]
  simp only [← EReal.coe_one, ← EReal.coe_mul, ← EReal.coe_add]
  unfold gu gelu
  congr 1; ring

include hA in
theorem gv_ref (r : Fin 16384) (k : Fin 512) : val_main_v47 (F := Ideal) x0 (ix2 r k) = (gv A r k : EReal) := by
  have h := v_ref hA r k
  have ht := th_v hA r k
  pointwise [val_main_v47, val_main_v46, val_main_v45, val_main_v44, val_main_v43, val_main_cst_13, val_main_cst_14]
  rw [h, ht, lit_half]
  simp only [← EReal.coe_one, ← EReal.coe_mul, ← EReal.coe_add]
  unfold gv gelu
  congr 1; ring

include hA in
theorem mean_ref (r : Fin 16384) (k : Fin 1) : val_main_v51 (F := Ideal) x0 (ix2 r k) = (mean (gv A r) : EReal) := by
  have h := gv_ref hA r
  pointwise [val_main_v51, val_main_v50, val_main_v49, val_main_v48, val_main_cst_15, val_main_cst_16]
  simp only [h, coe_sum, lit_512, div_real _ (show (512 : ℝ) ≠ 0 by norm_num)]
  rfl

include hA in
theorem centred_ref (r : Fin 16384) (k : Fin 512) : val_main_v53 (F := Ideal) x0 (ix2 r k) = ((gv A r k - mean (gv A r) : ℝ) : EReal) := by
  have h := gv_ref hA r k
  have hm := mean_ref hA r 0
  pointwise [val_main_v53, val_main_v52]
  rw [h, hm, ← EReal.coe_sub]

include hA in
theorem var_ref (r : Fin 16384) (k : Fin 1) : val_main_v60 (F := Ideal) x0 (ix2 r k) = (var (gv A r) : EReal) := by
  have h := centred_ref hA r
  pointwise [val_main_v60, val_main_v59, val_main_v58, val_main_v57, val_main_v56, val_main_v55, val_main_v54, val_main_cst_17,
    val_main_cst_18, val_main_cst_19]
  simp only [h, ← EReal.coe_mul, coe_sum, lit_512, div_real _ (show (512 : ℝ) ≠ 0 by norm_num), lit_eps, ← EReal.coe_add]
  rfl

include hA in
theorem rstd_ref (r : Fin 16384) (k : Fin 1) : val_main_v61 (F := Ideal) x0 (ix2 r k) = (rstd (gv A r) : EReal) := by
  have h := var_ref hA r k
  pointwise [val_main_v61]
  rw [h, rsqrt_var]

include hA in
theorem drstd_ref (r : Fin 16384) (k : Fin 1) :
    val_main_v64 (F := Ideal) x0 (ix2 r k) = ((-1 / 2 * (rstd (gv A r) / var (gv A r)) : ℝ) : EReal) := by
  have h := var_ref hA r k
  have h' := rstd_ref hA r k
  pointwise [val_main_v64, val_main_v63, val_main_v62, val_main_cst_20]
  rw [h, h', lit_neg_half, div_real _ (var_pos _).ne', ← EReal.coe_mul]

include hA in
theorem hat_ref (r : Fin 16384) (k : Fin 512) : val_main_v66 (F := Ideal) x0 (ix2 r k) = (hat (gv A r) k : EReal) := by
  have h := centred_ref hA r k
  have h' := rstd_ref hA r 0
  pointwise [val_main_v66, val_main_v65]
  rw [h, h', ← EReal.coe_mul]
  rfl

include hA hg hb in
theorem vn_ref (r : Fin 16384) (k : Fin 512) : val_main_v72 (F := Ideal) x0 x1 x2 (ix2 r k) = (vn A lg lb r k : EReal) := by
  have h := hat_ref hA r k
  pointwise [val_main_v72, val_main_v71, val_main_v70, val_main_v69, val_main_v68, val_main_v67]
  rw [h, hg, hb, ← EReal.coe_mul, ← EReal.coe_add]
  rfl

/-- A column's chunk of 64, and a row's. -/
theorem chunk_col : ∀ j : Fin 128, val_main_v76 (F := Ideal) (ix2 0 j) = BitVec.ofNat 32 (j.val / 64) := by
  pointwise [val_main_v76, val_main_v75, val_main_v74, val_main_c, val_main_call0_v0, val_main_call0_v1, val_main_call0_v2,
    val_main_call0_v3, val_main_call0_v4, val_main_call0_v5, val_main_call0_v6, val_main_call0_v7, val_main_call0_v8, val_main_call0_v9,
    val_main_call0_v10, val_main_call0_v11, val_main_call0_v12, val_main_call0_v13, val_main_call0_c, val_main_call0_c_0]
  decide +kernel

theorem chunk_row : ∀ i : Fin 128, val_main_v78 (F := Ideal) (ix2 i 0) = BitVec.ofNat 32 (i.val / 64) := by
  pointwise [val_main_v78, val_main_v77, val_main_v74, val_main_c_21, val_main_call1_v0, val_main_call1_v1, val_main_call1_v2,
    val_main_call1_v3, val_main_call1_v4, val_main_call1_v5, val_main_call1_v6, val_main_call1_v7, val_main_call1_v8, val_main_call1_v9,
    val_main_call1_v10, val_main_call1_v11, val_main_call1_v12, val_main_call1_v13, val_main_call1_c, val_main_call1_c_0]
  decide +kernel

theorem le_words : ∀ a b : Fin 2, IntOp.cmpi .sle (BitVec.ofNat 32 a.val) (BitVec.ofNat 32 b.val) = if a ≤ b then 1#1 else 0#1 := by
  decide

theorem mask_ref (g : Fin 4) (i j : Fin 128) : val_main_v83_1 (F := Ideal) (ix3 g i j) = if sees i j then 1#1 else 0#1 := by
  have hc := chunk_col j
  have hr := chunk_row i
  pointwise [val_main_v83_1, val_main_v82, val_main_v81, val_main_v80, val_main_v79]
  rw [hc, hr]
  exact le_words ⟨j.val / 64, by omega⟩ ⟨i.val / 64, by omega⟩

include hW in
theorem wm_ref (g : Fin 4) (i j : Fin 128) : val_main_v83_0 (F := Ideal) x3 (ix3 g i j) = (wm W g i j : EReal) := by
  have h := mask_ref g i j
  pointwise [val_main_v83_0, val_main_call2_v2, val_main_call2_v0, val_main_cst_22]
  rw [h, hW]
  unfold wm
  by_cases hs : sees i j
  · rw [if_pos hs, if_pos hs]; exact if_pos rfl
  · rw [if_neg hs, if_neg hs]; exact (if_neg (by decide)).trans Ideal.ofBits_zero_f32

theorem split_place (n j : Fin 128) (g : Fin 4) (c : Fin 128) : idx_main_v73 (ix4 n j g c) = ix2 (pos n j) (ch g c) := by
  funext a
  match a with
  | ⟨0, _⟩ => exact Fin.ext (show (((n.val * 128 + j.val) * 4 + g.val) * 128 + c.val) / 512 = n.val * 128 + j.val by omega)
  | ⟨1, _⟩ => exact Fin.ext (show (((n.val * 128 + j.val) * 4 + g.val) * 128 + c.val) % 512 = g.val * 128 + c.val by omega)

theorem join_place (r : Fin 16384) (k : Fin 512) :
    idx_main_v90 (ix2 r k) = ix4 (blockOf r) (inBlock r) (groupOf k) (inGroup k) := by
  funext a
  match a with
  | ⟨0, _⟩ => exact Fin.ext (show (r.val * 512 + k.val) / 65536 = r.val / 128 by omega)
  | ⟨1, _⟩ => exact Fin.ext (show (r.val * 512 + k.val) / 512 % 128 = r.val % 128 by omega)
  | ⟨2, _⟩ => exact Fin.ext (show (r.val * 512 + k.val) / 128 % 4 = k.val / 128 by omega)
  | ⟨3, _⟩ => exact Fin.ext (show (r.val * 512 + k.val) % 128 = k.val % 128 by omega)

include hA hg hb in
theorem vb_ref (n j : Fin 128) (g : Fin 4) (c : Fin 128) :
    val_main_v73 (F := Ideal) x0 x1 x2 (ix4 n j g c) = (vn A lg lb (pos n j) (ch g c) : EReal) := by
  rw [val_main_v73_apply, split_place]
  exact vn_ref hA hg hb _ _

include hA hg hb hW hB in
theorem mixed_ref (n i : Fin 128) (g : Fin 4) (c : Fin 128) :
    val_main_v89 (F := Ideal) x0 x1 x2 x3 x4 (ix4 n i g c) = (mixed A lg lb W B n i g c : EReal) := by
  have hv := vb_ref hA hg hb
  have hw := wm_ref hW
  pointwise [val_main_v89, val_main_v88, val_main_v87, val_main_v86, val_main_v85, val_main_v84]
  simp only [hv, hw, hB, ← EReal.coe_mul, coe_sum, ← EReal.coe_add]
  unfold mixed
  simp only [mul_comm (wm W _ _ _)]

include hA hg hb hW hB in
theorem mix_ref (r : Fin 16384) (k : Fin 512) :
    val_main_v90 (F := Ideal) x0 x1 x2 x3 x4 (ix2 r k) = (mix A lg lb W B r k : EReal) := by
  rw [val_main_v90_apply, join_place]
  exact mixed_ref hA hg hb hW hB _ _ _ _

include hA hg hb hW hB in
theorem out_ref (r : Fin 16384) (k : Fin 512) :
    val_main_v91 (F := Ideal) x0 x1 x2 x3 x4 (ix2 r k) = (out A lg lb W B r k : EReal) := by
  have h1 := gu_ref hA r k
  have h2 := mix_ref hA hg hb hW hB r k
  pointwise [val_main_v91]
  rw [h1, h2, ← EReal.coe_mul]
  rfl

include hA hD in
theorem dm_ref (r : Fin 16384) (k : Fin 512) : val_main_v92 (F := Ideal) x0 x5 (ix2 r k) = (dm A D r k : EReal) := by
  have h1 := gu_ref hA r k
  pointwise [val_main_v92]
  rw [h1, hD, ← EReal.coe_mul, mul_comm]
  rfl

include hA hD in
theorem dmb_ref (n j : Fin 128) (g : Fin 4) (c : Fin 128) :
    val_main_v94 (F := Ideal) x0 x5 (ix4 n j g c) = (dm A D (pos n j) (ch g c) : EReal) := by
  rw [val_main_v94_apply]
  exact (congrArg _ (split_place n j g c)).trans (dm_ref hA hD _ _)

/-- The sum over the first and the last of four axes. -/
theorem sum_outer {n0 n3 : Nat} (h : (⟨4, ![n0, 128, 4, n3]⟩ : Shape).ReducesTo [0, 3] ⟨2, ![128, 4]⟩)
    (x : (⟨4, ![n0, 128, 4, n3]⟩ : Shape).Idx → EReal) (z : EReal) (i : Fin 128) (g : Fin 4) :
    Ideal.hostReduceAdd h x z (ix2 i g) = z + ∑ n : Fin n0, ∑ c : Fin n3, x (ix4 n i g c) := by
  have key (n : Fin n0) (i' : Fin 128) (g' : Fin 4) (c : Fin n3) : h.drop (ix4 n i' g' c) = ix2 i g ↔ i' = i ∧ g' = g := by
    have e : h.drop (ix4 n i' g' c) = ix2 i' g' := by
      funext a; apply Fin.ext
      match a with
      | ⟨0, _⟩ => exact h.drop_apply_val_of_eq _ ⟨0, by decide⟩ 1 (show 0 < 2 by decide) rfl
      | ⟨1, _⟩ => exact h.drop_apply_val_of_eq _ ⟨1, by decide⟩ 2 (show 1 < 2 by decide) rfl
    rw [e]
    exact ⟨fun t => ⟨congrFun t 0, congrFun t 1⟩, by rintro ⟨rfl, rfl⟩; rfl⟩
  unfold Ideal.hostReduceAdd
  rw [Finset.sum_filter, sum_idx4]
  refine congrArg (z + ·) (Finset.sum_congr rfl fun n _ => ?_)
  simp only [key]
  rw [Finset.sum_eq_single i, Finset.sum_eq_single g]
  · exact Finset.sum_congr rfl fun c _ => if_pos ⟨rfl, rfl⟩
  · exact fun g' _ hg => Finset.sum_eq_zero fun c _ => if_neg fun t => hg t.2
  · exact fun t => absurd (Finset.mem_univ _) t
  · exact fun i' _ hi => Finset.sum_eq_zero fun g' _ => Finset.sum_eq_zero fun c _ => if_neg fun t => hi t.1
  · exact fun t => absurd (Finset.mem_univ _) t

include hA hD in
theorem db_first (i : Fin 128) (g : Fin 4) : val_main_v95 (F := Ideal) x0 x5 (ix2 i g) = (db A D g i : EReal) := by
  have h := dmb_ref hA hD
  unfold val_main_v95
  refine (sum_outer _ _ _ i g).trans ?_
  refine (congrArg (· + _) Ideal.ofBits_zero_f32).trans ((zero_add _).trans ?_)
  simp only [h, coe_sum]
  rfl

theorem bias_place (i : Fin 128) (g : Fin 4) : idx_main_v96 (ix4 0 i g 0) = ix2 i g := by
  funext a
  match a with
  | ⟨0, _⟩ => exact Fin.ext (show (((0 * 128 + i.val) * 4 + g.val) * 1 + 0) / 4 = i.val by omega)
  | ⟨1, _⟩ => exact Fin.ext (show (((0 * 128 + i.val) * 4 + g.val) * 1 + 0) % 4 = g.val by omega)

include hA hD in
theorem db_ref (g : Fin 4) (i : Fin 128) : val_main_v98 (F := Ideal) x0 x5 (ix2 g i) = (db A D g i : EReal) := by
  have h := db_first hA hD i g
  have h2 : val_main_v97 (F := Ideal) x0 x5 (ix2 i g) = (db A D g i : EReal) := by
    unfold val_main_v97
    refine (sum_outer _ _ _ i g).trans ?_
    refine (congrArg (· + _) Ideal.ofBits_zero_f32).trans ((zero_add _).trans ?_)
    rw [Fin.sum_univ_one, Fin.sum_univ_one, val_main_v96_apply, bias_place]
    exact h
  pointwise [val_main_v98]
  exact h2

include hA hg hb hD in
theorem dw_full (g : Fin 4) (i j : Fin 128) : val_main_v100 (F := Ideal) x0 x1 x2 x5 (ix3 g i j)
    = ((∑ n, ∑ c, dm A D (pos n i) (ch g c) * vn A lg lb (pos n j) (ch g c) : ℝ) : EReal) := by
  have h1 := dmb_ref hA hD
  have h2 := vb_ref hA hg hb
  have h3 (n c : Fin 128) : val_main_v99 (F := Ideal) x0 x5 (ix4 g n c i) = (dm A D (pos n i) (ch g c) : EReal) := by
    pointwise [val_main_v99]
    exact h1 n i g c
  unfold val_main_v100
  generalize val_main_v99 (F := Ideal) x0 x5 = y at *
  generalize val_main_v73 (F := Ideal) x0 x1 x2 = z at *
  simp only [Host.dotGeneral]
  rw [Ideal.dotGeneral_apply, ValueIdx.sum_contr2 dot_S4x128x128x128_S128x128x4x128_S4x128x128_12_03_3_1_0_2 128 128 rfl rfl rfl]
  simp only [← coe_sum]
  refine Finset.sum_congr rfl fun n _ => Finset.sum_congr rfl fun c _ => ?_
  have k0 := ValueIdx.contrEquiv2_symm_val0 dot_S4x128x128x128_S128x128x4x128_S4x128x128_12_03_3_1_0_2 128 128 rfl rfl rfl (n, c)
  have k1 := ValueIdx.contrEquiv2_symm_val1 dot_S4x128x128x128_S128x128x4x128_S4x128x128_12_03_3_1_0_2 128 128 rfl rfl rfl (n, c)
  have el : dot_S4x128x128x128_S128x128x4x128_S4x128x128_12_03_3_1_0_2.lhsIdx (ix3 g i j)
      ((ValueIdx.contrEquiv2 dot_S4x128x128x128_S128x128x4x128_S4x128x128_12_03_3_1_0_2 128 128 rfl rfl rfl).symm (n, c))
      = ix4 g n c i := by
    funext a; apply Fin.ext
    match a with
    | ⟨0, _⟩ => rfl
    | ⟨1, _⟩ => exact k0
    | ⟨2, _⟩ => exact k1
    | ⟨3, _⟩ => rfl
  have er : dot_S4x128x128x128_S128x128x4x128_S4x128x128_12_03_3_1_0_2.rhsIdx (ix3 g i j)
      ((ValueIdx.contrEquiv2 dot_S4x128x128x128_S128x128x4x128_S4x128x128_12_03_3_1_0_2 128 128 rfl rfl rfl).symm (n, c))
      = ix4 n j g c := by
    funext a; apply Fin.ext
    match a with
    | ⟨0, _⟩ => exact k0
    | ⟨1, _⟩ => rfl
    | ⟨2, _⟩ => rfl
    | ⟨3, _⟩ => exact k1
  rw [el, er, h3, h2, ← EReal.coe_mul]

include hA hg hb hD in
theorem dw_ref (g : Fin 4) (i j : Fin 128) : val_main_v103 (F := Ideal) x0 x1 x2 x5 (ix3 g i j) = (dw A lg lb D g i j : EReal) := by
  have h := mask_ref g i j
  have h2 := dw_full hA hg hb hD g i j
  rw [val_main_v103_apply, h, h2]
  unfold dw
  by_cases hs : sees i j
  · rw [if_pos hs, if_pos hs]; exact if_pos rfl
  · rw [if_neg hs, if_neg hs]; exact (if_neg (by decide)).trans Ideal.ofBits_zero_f32

theorem join_place' (r : Fin 16384) (k : Fin 512) :
    idx_main_v104 (ix2 r k) = ix4 (blockOf r) (inBlock r) (groupOf k) (inGroup k) := join_place r k

include hA hW hD in
theorem dvn_ref (r : Fin 16384) (k : Fin 512) : val_main_v104 (F := Ideal) x0 x3 x5 (ix2 r k) = (dvn A W D r k : EReal) := by
  have h1 := dmb_ref hA hD
  have h2 := wm_ref hW
  rw [val_main_v104_apply, join_place']
  unfold dvn dmixed
  generalize blockOf r = n
  generalize inBlock r = j
  generalize groupOf k = g
  generalize inGroup k = c
  pointwise [val_main_v102, val_main_v101, val_main_v99]
  simp only [h1, h2, ← EReal.coe_mul, coe_sum]
  simp only [mul_comm (dm A D _ _)]

include hA hW hD in
theorem dlb_ref (k : Fin 512) : val_main_v107 (F := Ideal) x0 x3 x5 (ix1 k) = (dlb A W D k : EReal) := by
  have h := dvn_ref hA hW hD
  pointwise [val_main_v107, val_main_v106, val_main_v105, val_main_cst_25, val_main_cst_26]
  rw [Fin.sum_univ_one]
  simp only [h, coe_sum]
  rfl

include hA hW hD in
theorem dlg_ref (k : Fin 512) : val_main_v113 (F := Ideal) x0 x3 x5 (ix1 k) = (dlg A W D k : EReal) := by
  have h := dvn_ref hA hW hD
  have h2 := hat_ref hA
  pointwise [val_main_v113, val_main_v110, val_main_v109, val_main_v108, val_main_cst_27, val_main_cst_28]
  rw [Fin.sum_univ_one]
  simp only [h, h2, ← EReal.coe_mul, coe_sum]
  unfold dlg
  simp only [mul_comm (hat _ _)]

include hA hg hW hD in
theorem dhat_ref (r : Fin 16384) (k : Fin 512) :
    val_main_v112 (F := Ideal) x0 x1 x3 x5 (ix2 r k) = ((dvn A W D r k * lg k : ℝ) : EReal) := by
  have h := dvn_ref hA hW hD r k
  pointwise [val_main_v112, val_main_v111, val_main_v67]
  rw [h, hg, ← EReal.coe_mul]

include hA hg hW hD in
theorem dvar_ref (r : Fin 16384) : val_main_v122 (F := Ideal) x0 x1 x3 x5 (ix1 r)
    = (((∑ x, (gv A r x - mean (gv A r)) * (dvn A W D r x * lg x)) * (-1 / 2 * (rstd (gv A r) / var (gv A r))) / 512 : ℝ) : EReal) := by
  have h := dhat_ref hA hg hW hD r
  have h2 := centred_ref hA r
  have h3 := drstd_ref hA r 0
  pointwise [val_main_v122, val_main_v121, val_main_v120, val_main_v119, val_main_v116, val_main_v115, val_main_v114, val_main_cst_29,
    val_main_cst_30, val_main_cst_31]
  rw [Fin.sum_univ_one]
  simp only [h, h2, h3, ← EReal.coe_mul, coe_sum, lit_512, div_real _ (show (512 : ℝ) ≠ 0 by norm_num)]

include hA hg hW hD in
theorem back_ref (r : Fin 16384) (k : Fin 512) : val_main_v127 (F := Ideal) x0 x1 x3 x5 (ix2 r k)
    = ((dvn A W D r k * lg k * rstd (gv A r)
      + (gv A r k - mean (gv A r)) * ((∑ x, (gv A r x - mean (gv A r)) * (dvn A W D r x * lg x)) * (-1 / 2 * (rstd (gv A r) / var (gv A r))) / 512)
      + ((∑ x, (gv A r x - mean (gv A r)) * (dvn A W D r x * lg x)) * (-1 / 2 * (rstd (gv A r) / var (gv A r))) / 512) * (gv A r k - mean (gv A r)) : ℝ)
        : EReal) := by
  have h := dhat_ref hA hg hW hD r k
  have h2 := centred_ref hA r k
  have h3 := dvar_ref hA hg hW hD r
  have h4 := rstd_ref hA r 0
  pointwise [val_main_v127, val_main_v126, val_main_v125, val_main_v124, val_main_v123, val_main_v118, val_main_v117]
  rw [h, h2, h3, h4]
  simp only [← EReal.coe_mul, ← EReal.coe_add]

include hA hg hW hD in
theorem dgv_ref (r : Fin 16384) (k : Fin 512) : val_main_v135 (F := Ideal) x0 x1 x3 x5 (ix2 r k) = (dgv A lg W D r k : EReal) := by
  have h := back_ref hA hg hW hD r
  pointwise [val_main_v135, val_main_v134, val_main_v133, val_main_v132, val_main_v131, val_main_v130, val_main_v129, val_main_v128,
    val_main_cst_32, val_main_cst_33, val_main_cst_34]
  rw [Fin.sum_univ_one]
  simp only [h, ← EReal.coe_neg, coe_sum, lit_512, div_real _ (show (512 : ℝ) ≠ 0 by norm_num), ← EReal.coe_add]
  exact congrArg _ (lnBack_eq (gv A r) (fun x => dvn A W D r x * lg x) k)

include hA hg hW hD in
theorem dsv_ref (r : Fin 16384) (k : Fin 512) : val_main_v147 (F := Ideal) x0 x1 x3 x5 (ix2 r k) = (dsv A lg W D r k : EReal) := by
  have h := dgv_ref hA hg hW hD r k
  have hv := v_ref hA r k
  have ht := th_v hA r k
  pointwise [val_main_v147, val_main_v146, val_main_v145, val_main_v144, val_main_v143, val_main_v142, val_main_v141, val_main_v140,
    val_main_v139, val_main_v138, val_main_v137, val_main_v136, val_main_v46, val_main_v45, val_main_v44, val_main_v43, val_main_v42,
    val_main_v41, val_main_v40, val_main_v39, val_main_v38, val_main_v30, val_main_v29, val_main_v28, val_main_cst_9, val_main_cst_11,
    val_main_cst_12, val_main_cst_13, val_main_cst_14, val_main_cst_35, val_main_cst_36]
  rw [h, hv, ht, cubic_v, lit_half, lit_root, lit_three]
  simp only [← EReal.coe_one, ← EReal.coe_mul, ← EReal.coe_add, ← EReal.coe_sub]
  unfold dsv dgelu
  congr 1; ring

include hA hg hb hW hB hD in
theorem dsu_ref (r : Fin 16384) (k : Fin 512) :
    val_main_v160 (F := Ideal) x0 x1 x2 x3 x4 x5 (ix2 r k) = (dsu A lg lb W B D r k : EReal) := by
  have h := mix_ref hA hg hb hW hB r k
  have hv := u_ref hA r k
  have ht := th_u hA r k
  pointwise [val_main_v160, val_main_v159, val_main_v158, val_main_v157, val_main_v156, val_main_v155, val_main_v154, val_main_v153,
    val_main_v152, val_main_v151, val_main_v150, val_main_v149, val_main_v93, val_main_v22, val_main_v21, val_main_v20, val_main_v19,
    val_main_v18, val_main_v17, val_main_v16, val_main_v15, val_main_v14, val_main_v6, val_main_v5, val_main_v4, val_main_cst_1,
    val_main_cst_3, val_main_cst_4, val_main_cst_5, val_main_cst_6, val_main_cst_38, val_main_cst_39]
  rw [h, hv, ht, hD, cubic_u, lit_half, lit_root, lit_three]
  simp only [← EReal.coe_one, ← EReal.coe_mul, ← EReal.coe_add, ← EReal.coe_sub]
  unfold dsu dgelu
  congr 1; ring

include hA hg hb hW hB hD in
theorem da_ref (r : Fin 16384) (l : Fin 1024) :
    val_main_v162 (F := Ideal) x0 x1 x2 x3 x4 x5 (ix2 r l) = (da A lg lb W B D r l : EReal) := by
  have hu := dsu_ref hA hg hb hW hB hD r
  have hv := dsv_ref hA hg hW hD r
  show (val_main_v148 (F := Ideal) x0 x1 x3 x5 (ix2 r l) : EReal) + val_main_v161 (F := Ideal) x0 x1 x2 x3 x4 x5 (ix2 r l) = _
  unfold val_main_v148 val_main_v161 da
  by_cases hl : l.val < 512
  · rw [dif_pos hl]
    refine (congrArg₂ (fun a b : EReal => a + b)
      (pad_apply_of_not_inside _ _ _ _ _ _ _ _ 1 (fun t => absurd (show 512 ≤ l.val from t.1) (by omega)))
      (pad_apply_of_inside _ _ _ _ _ _ _ _ (ix2 r ⟨l.val, hl⟩) fun a => ?_)).trans ?_
    · match a with
      | ⟨0, _⟩ => exact (show r.val = 0 + r.val * (0 + 1) by omega)
      | ⟨1, _⟩ => exact (show l.val = 0 + l.val * (0 + 1) by omega)
    · rw [hu]
      exact (congrArg (· + _) Ideal.ofBits_zero_f32).trans (zero_add _)
  · rw [dif_neg hl]
    refine (congrArg₂ (fun a b : EReal => a + b)
      (pad_apply_of_inside _ _ _ _ _ _ _ _ (ix2 r ⟨l.val - 512, by omega⟩) fun a => ?_)
      (pad_apply_of_not_inside _ _ _ _ _ _ _ _ 1 (fun t => absurd (show (l.val - 0) / (0 + 1) < 512 from t.2.2) (by omega)))).trans ?_
    · match a with
      | ⟨0, _⟩ => exact (show r.val = 0 + r.val * (0 + 1) by omega)
      | ⟨1, _⟩ => exact (show l.val = 512 + (l.val - 512) * (0 + 1) by omega)
    · rw [hv]
      exact (congrArg (_ + ·) Ideal.ofBits_zero_f32).trans (add_zero _)

/-- A buffer of a device's TensorCore. -/
abbrev at_ (m : (ℓ : Loc nD τ sig) → Buf (Elt Ideal) ℓ) (c : Dev nD) (b : Ref sig .tc) : Buf (Elt Ideal) ((c.tc : Thread nD τ).loc b) :=
  m ((c.tc : Thread nD τ).loc b)

/-- The reference's run: its six results, and its arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      at_ r.2.mem c main_v163 = val_main_v163 (F := Ideal) (at_ m c main_arg0) (at_ m c main_arg1) (at_ m c main_arg2) (at_ m c main_arg3) (at_ m c main_arg4)
      ∧ at_ r.2.mem c main_v164 = val_main_v164 (F := Ideal) (at_ m c main_arg0) (at_ m c main_arg1) (at_ m c main_arg2) (at_ m c main_arg3) (at_ m c main_arg4) (at_ m c main_arg5)
      ∧ at_ r.2.mem c main_v103 = val_main_v103 (F := Ideal) (at_ m c main_arg0) (at_ m c main_arg1) (at_ m c main_arg2) (at_ m c main_arg5)
      ∧ at_ r.2.mem c main_v98 = val_main_v98 (F := Ideal) (at_ m c main_arg0) (at_ m c main_arg5)
      ∧ at_ r.2.mem c main_v113 = val_main_v113 (F := Ideal) (at_ m c main_arg0) (at_ m c main_arg3) (at_ m c main_arg5)
      ∧ at_ r.2.mem c main_v107 = val_main_v107 (F := Ideal) (at_ m c main_arg0) (at_ m c main_arg3) (at_ m c main_arg5)
      ∧ at_ r.2.mem c main_arg0 = at_ m c main_arg0
      ∧ at_ r.2.mem c main_arg1 = at_ m c main_arg1
      ∧ at_ r.2.mem c main_arg2 = at_ m c main_arg2
      ∧ at_ r.2.mem c main_arg3 = at_ m c main_arg3
      ∧ at_ r.2.mem c main_arg4 = at_ m c main_arg4
      ∧ at_ r.2.mem c main_arg5 = at_ m c main_arg5) ∧ r.2.sem = fun _ => 0 :=
  (θ_run _ _ _).mono (fun r h => And.intro (fun c => ⟨(h c).1.trans (val_main_v163_eq _),
      (h c).2.1.trans (val_main_v164_eq _),
      (h c).2.2.1.trans (val_main_v103_eq _),
      (h c).2.2.2.1.trans (val_main_v98_eq _),
      (h c).2.2.2.2.1.trans (val_main_v113_eq _),
      (h c).2.2.2.2.2.1.trans (val_main_v107_eq _),
      (h c).2.2.2.2.2.2⟩)
    (sem_eq_zero_of_no_sems (by decide) r.2)) (Value.run m ρ)

end Cert.SgRefIdeal

end
-- ==== Proof.Sg.Claim.lean ====
module
public import proofs.«01_k».proof.Defs
public import proofs.«01_k».proof.Proof.Gen.Sg.Frame
public import proofs.«01_k».proof.Proof.Gen.Pre_finite_sg
public import proofs.«01_k».proof.Proof.Sg.Run
public import proofs.«01_k».proof.Proof.Gen.SgRefIdeal.Run
public import proofs.«01_k».proof.Proof.Sg.Ref

/-! The claims about the spatial gating: its frames, the two named constants, and that the two calls' results are the
    reference's at finite arguments. -/

@[expose] public section

set_option maxRecDepth 16384

noncomputable section

namespace Cert.SgClaim

open Idealize.ShloMosaic Idealize.ShloMosaic.TcCoe Idealize.ShloMosaic.Tactic Idealize.SL.Sem Cert.Reals

/-- The two constants of the gelu are the numbers that their names stand for. -/
theorem preserves : Cert.preserves_Sg_SgIdeal := by
  refine ⟨?_, ?_⟩
  · exact IdealRules.named_const.statement Cert.SgIdeal.κ "gelu_a" .f32 0x3D372713#32 ((8943 / 200000 : ℝ) : EReal) rfl
  · exact IdealRules.named_const.statement Cert.SgIdeal.κ "gelu_3a" .f32 0x3E095D4F#32 ((26829 / 200000 : ℝ) : EReal) rfl

open Cert.Pre_finite_sg in
/-- Where the precondition holds the arguments are real numbers. -/
theorem finite_of_pre {x0 : FVec Ideal S16384x1024 .f32} {x1 x2 : FVec Ideal S512 .f32} {x3 : FVec Ideal S4x128x128 .f32}
    {x4 : FVec Ideal S4x128 .f32} {x5 : FVec Ideal S16384x512 .f32} (h : fn x0 x1 x2 x3 x4 x5 = fun _ => 1#1) :
    x0 = (fun i => ((EReal.toReal (x0 i) : ℝ) : EReal)) ∧ x1 = (fun i => ((EReal.toReal (x1 i) : ℝ) : EReal))
    ∧ x2 = (fun i => ((EReal.toReal (x2 i) : ℝ) : EReal)) ∧ x3 = (fun i => ((EReal.toReal (x3 i) : ℝ) : EReal))
    ∧ x4 = (fun i => ((EReal.toReal (x4 i) : ℝ) : EReal)) ∧ x5 = (fun i => ((EReal.toReal (x5 i) : ℝ) : EReal)) := by
  have : Subsingleton S_.Idx := ⟨fun _ _ => funext fun a => a.elim0⟩
  have h := congrFun h (fun a => a.elim0)
  dsimp only [fn, fn_part1] at h
  obtain ⟨h, h5⟩ := and_one h
  obtain ⟨h, h4⟩ := and_one h
  obtain ⟨h, h3⟩ := and_one h
  obtain ⟨h, h2⟩ := and_one h
  obtain ⟨h0, h1⟩ := and_one h
  exact ⟨real_of_all _ _ (fun _ => lit_inf) _ _ _ _ h0, real_of_all _ _ (fun _ => lit_inf) _ _ _ _ h1,
    real_of_all _ _ (fun _ => lit_inf) _ _ _ _ h2, real_of_all _ _ (fun _ => lit_inf) _ _ _ _ h3,
    real_of_all _ _ (fun _ => lit_inf) _ _ _ _ h4, real_of_all _ _ (fun _ => lit_inf) _ _ _ _ h5⟩

/-- The reference leaves its arguments as they were. -/
theorem frame_ref (m : (ℓ : Loc SgRefIdeal.nD SgRefIdeal.τ SgRefIdeal.sig) → Buf (Elt Ideal) ℓ)
    (ρ : Dev SgRefIdeal.nD → PrngReg) :
    θ_run (SgRefIdeal.defs (F := Ideal)) (onTc (τ := SgRefIdeal.τ) (SgRefIdeal.main (F := Ideal))) ⟨m, fun _ => 0, ρ⟩
      (fun r => (∀ c : Dev SgRefIdeal.nD,
        r.2.mem ((c.tc : Thread SgRefIdeal.nD SgRefIdeal.τ).loc SgRefIdeal.main_arg0) = m ((c.tc : Thread SgRefIdeal.nD SgRefIdeal.τ).loc SgRefIdeal.main_arg0)
        ∧ r.2.mem ((c.tc : Thread SgRefIdeal.nD SgRefIdeal.τ).loc SgRefIdeal.main_arg1) = m ((c.tc : Thread SgRefIdeal.nD SgRefIdeal.τ).loc SgRefIdeal.main_arg1)
        ∧ r.2.mem ((c.tc : Thread SgRefIdeal.nD SgRefIdeal.τ).loc SgRefIdeal.main_arg2) = m ((c.tc : Thread SgRefIdeal.nD SgRefIdeal.τ).loc SgRefIdeal.main_arg2)
        ∧ r.2.mem ((c.tc : Thread SgRefIdeal.nD SgRefIdeal.τ).loc SgRefIdeal.main_arg3) = m ((c.tc : Thread SgRefIdeal.nD SgRefIdeal.τ).loc SgRefIdeal.main_arg3)
        ∧ r.2.mem ((c.tc : Thread SgRefIdeal.nD SgRefIdeal.τ).loc SgRefIdeal.main_arg4) = m ((c.tc : Thread SgRefIdeal.nD SgRefIdeal.τ).loc SgRefIdeal.main_arg4)
        ∧ r.2.mem ((c.tc : Thread SgRefIdeal.nD SgRefIdeal.τ).loc SgRefIdeal.main_arg5) = m ((c.tc : Thread SgRefIdeal.nD SgRefIdeal.τ).loc SgRefIdeal.main_arg5)) ∧ r.2.sem = fun _ => 0) :=
  (θ_run _ _ _).mono (fun _ h => ⟨fun c => (h.1 c).2.2.2.2.2.2, h.2⟩) (SgRefIdeal.ref_run m ρ)

theorem algebraic : Cert.algebraic_SgIdeal_SgRefIdeal_pre_finite_sg := by
  intro m g m' g' hpre hargs
  refine ⟨fun c => SgIdeal.Gen.W4 m g c SgIdeal.main_v3, fun c => SgIdeal.Gen.W4 m g c SgIdeal.main_v4_0,
    fun c => SgIdeal.Gen.W4 m g c SgIdeal.main_v4_1, fun c => SgIdeal.Gen.W4 m g c SgIdeal.main_v5,
    fun c => SgIdeal.Gen.W4 m g c SgIdeal.main_v6, fun c => SgIdeal.Gen.W4 m g c SgIdeal.main_v7, ?_, ?_⟩
  · refine (θ_run _ _ _).mono (fun r h c => ?_) (SgIdeal.run_contents m g)
    have hm := fun b hb => h c (Proc.devRef .tc b) (SgIdeal.Gen.mem_uc b hb)
    exact ⟨hm _ (by decide), hm _ (by decide), hm _ (by decide), hm _ (by decide), hm _ (by decide), hm _ (by decide),
      (hm _ (by decide)).trans (SgIdeal.Gen.W4_main_arg0 m g c), (hm _ (by decide)).trans (SgIdeal.Gen.W4_main_arg1 m g c),
      (hm _ (by decide)).trans (SgIdeal.Gen.W4_main_arg2 m g c), (hm _ (by decide)).trans (SgIdeal.Gen.W4_main_arg3 m g c),
      (hm _ (by decide)).trans (SgIdeal.Gen.W4_main_arg4 m g c), (hm _ (by decide)).trans (SgIdeal.Gen.W4_main_arg5 m g c)⟩
  · refine (θ_run _ _ _).mono (fun r h c => ?_) (SgRefIdeal.ref_run m' g')
    obtain ⟨a0, a1, a2, a3, a4, a5⟩ := hargs c
    obtain ⟨f0, f1, f2, f3, f4, f5⟩ := finite_of_pre (hpre c)
    have H0 := fun r l => congrFun f0 (ix2 r l)
    have H1 := fun l => congrFun f1 (ix1 l)
    have H2 := fun l => congrFun f2 (ix1 l)
    have H3 := fun g i j => congrFun f3 (ix3 g i j)
    have H4 := fun g i => congrFun f4 (ix2 g i)
    have H5 := fun r l => congrFun f5 (ix2 r l)
    obtain ⟨h1, h2, h3, h4, h5, h6, hrest⟩ := h.1 c
    refine ⟨h1.trans ?_, h2.trans ?_, h3.trans ?_, h4.trans ?_, h5.trans ?_, h6.trans ?_, hrest⟩
    · dsimp only [SgRefIdeal.at_]
      rw [a0, a1, a2, a3, a4, SgIdeal.w4_out m g c H0 H1 H2 H3 H4]
      funext i; rw [eq_ix2 i]
      exact SgRefIdeal.out_ref H0 H1 H2 H3 H4 _ _
    · dsimp only [SgRefIdeal.at_]
      rw [a0, a1, a2, a3, a4, a5, SgIdeal.w4_da m g c H0 H1 H2 H3 H4 H5]
      funext i; rw [eq_ix2 i]
      exact SgRefIdeal.da_ref H0 H1 H2 H3 H4 H5 _ _
    · dsimp only [SgRefIdeal.at_]
      rw [a0, a1, a2, a5, SgIdeal.w4_dw m g c H0 H1 H2 H5]
      funext i; rw [eq_ix3 i]
      exact SgRefIdeal.dw_ref H0 H1 H2 H5 _ _ _
    · dsimp only [SgRefIdeal.at_]
      rw [a0, a5]
      funext i; rw [eq_ix2 i]
      exact (SgRefIdeal.db_ref H0 H5 _ _).trans (SgIdeal.w4_db m g c H0 H5 _ _).symm
    · dsimp only [SgRefIdeal.at_]
      rw [a0, a3, a5]
      funext i; obtain ⟨k, rfl⟩ : ∃ k : Fin 512, i = ix1 k := ⟨i 0, eq_ix1 i⟩
      exact (SgRefIdeal.dlg_ref H0 H3 H5 k).trans (SgIdeal.w4_dlg m g c H0 H3 H5 k).symm
    · dsimp only [SgRefIdeal.at_]
      rw [a0, a3, a5]
      funext i; obtain ⟨k, rfl⟩ : ∃ k : Fin 512, i = ix1 k := ⟨i 0, eq_ix1 i⟩
      exact (SgRefIdeal.dlb_ref H0 H3 H5 k).trans (SgIdeal.w4_dlb m g c H0 H3 H5 k).symm

end Cert.SgClaim
-- ==== Proof.Attf.Tile.lean ====
module
public import proofs.«01_k».proof.Proof.Gen.AttfIdeal.Frame
public import proofs.«01_k».proof.Proof.Attn.Soft

/-! The bias that a block of scores gets: the table of distances at its 64 by 576 places, and four copies of that, each
    64 places further right, in a block of 256 by 768. -/

@[expose] public section

set_option maxRecDepth 16384

noncomputable section

namespace Cert.AttfIdeal

open Idealize.ShloMosaic Idealize.ShloMosaic.TcCoe Idealize.ShloMosaic.Tactic Cert.Reals
open Gen

theorem named_mask : (Named.named (F := Ideal) (φ := .f32) κ "mask" 0xF149F2CA#32 : EReal) = ⊥ := rfl

/-- Row `l` of the copy that starts at place `o`. -/
def copyAt (o : ℕ) (x : FVec Ideal S1x64x576 .f32) (l : Fin 64) (n : Fin 768) : EReal :=
  if h : o ≤ n.val ∧ n.val < o + 576 then x (ix3 (0 : Fin 1) l ⟨n.val - o, by omega⟩) else ⊥

section Copies

variable (x : FVec Ideal S1x64x576 .f32) (l : Fin 64) (n : Fin 768)

theorem pay2_at : k1_pay2 (F := Ideal) x (ix3 (0 : Fin 1) l n) = copyAt 0 x l n := by
  pointwise [k1_pay2, k1_pay1]
  unfold copyAt
  split_ifs <;> first | rfl | (exfalso; omega)

theorem pay3_at : k1_pay3 (F := Ideal) x (ix3 (0 : Fin 1) l n) = copyAt 64 x l n := by
  pointwise [k1_pay3, k1_pay1]
  unfold copyAt
  by_cases h1 : n.val < 64
  · rw [dif_pos h1, dif_neg (by omega)]; rfl
  by_cases h2 : n.val - 64 < 576
  · rw [dif_neg h1, dif_pos h2, dif_pos ⟨by omega, by omega⟩]
  · rw [dif_neg h1, dif_neg h2, dif_neg (by omega)]; rfl

theorem pay4_at : k1_pay4 (F := Ideal) x (ix3 (0 : Fin 1) l n) = copyAt 128 x l n := by
  pointwise [k1_pay4, k1_pay1]
  unfold copyAt
  by_cases h1 : n.val < 128
  · rw [dif_pos h1, dif_neg (by omega)]; rfl
  by_cases h2 : n.val - 128 < 576
  · rw [dif_neg h1, dif_pos h2, dif_pos ⟨by omega, by omega⟩]
  · rw [dif_neg h1, dif_neg h2, dif_neg (by omega)]; rfl

theorem pay5_at : k1_pay5 (F := Ideal) x (ix3 (0 : Fin 1) l n) = copyAt 192 x l n := by
  pointwise [k1_pay5, k1_pay1]
  unfold copyAt
  by_cases h1 : n.val < 192
  · rw [dif_pos h1, dif_neg (by omega)]; rfl
  · rw [dif_neg h1, dif_pos ⟨by omega, by omega⟩]

end Copies

/-- Four copies, one below the other. -/
theorem rows_canon (a b d e : FVec Ideal S1x64x768 .f32) (i0 i1 i2 i3) (g : Fin 256) (n : Fin 768) :
    View.canon ([⟨Rect.unit ![0, 192, 0] S1x64x768.size i3, e⟩, ⟨Rect.unit ![0, 128, 0] S1x64x768.size i2, d⟩,
      ⟨Rect.unit ![0, 64, 0] S1x64x768.size i1, b⟩, ⟨Rect.unit ![0, 0, 0] S1x64x768.size i0, a⟩] : List (View.Piece (Elt Ideal) S1x256x768 .f32))
      (ix3 (0 : Fin 1) g n)
    = if g.val / 64 = 0 then a (ix3 (0 : Fin 1) ⟨g.val % 64, by omega⟩ n) else if g.val / 64 = 1 then b (ix3 (0 : Fin 1) ⟨g.val % 64, by omega⟩ n)
      else if g.val / 64 = 2 then d (ix3 (0 : Fin 1) ⟨g.val % 64, by omega⟩ n) else e (ix3 (0 : Fin 1) ⟨g.val % 64, by omega⟩ n) := by
  have mem : ∀ (o : ℕ) (i : ∀ x, (![0, o, 0] : Fin 3 → ℕ) x + S1x64x768.size x ≤ S1x256x768.size x),
      ix3 (0 : Fin 1) g n ∈ (Rect.unit (s := S1x256x768) ![0, o, 0] S1x64x768.size i).set ↔ o ≤ g.val ∧ g.val < o + 64 := by
    intro o i
    rw [Rect.mem_set_unit]
    constructor
    · intro h; exact h 1
    · intro h x
      fin_cases x
      · exact ⟨Nat.zero_le _, by show 0 < 0 + 1; omega⟩
      · exact h
      · exact ⟨Nat.zero_le _, by show n.val < 0 + 768; omega⟩
  have emb : ∀ (o : ℕ) (i : ∀ x, (![0, o, 0] : Fin 3 → ℕ) x + S1x64x768.size x ≤ S1x256x768.size x) (r : Fin 64),
      o + r.val = g.val → ix3 (0 : Fin 1) g n = (Rect.unit (s := S1x256x768) ![0, o, 0] S1x64x768.size i).emb (ix3 (0 : Fin 1) r n) := by
    intro o i r h
    funext x; apply Fin.ext
    fin_cases x
    · show 0 = 0 + 1 * 0; omega
    · show g.val = o + 1 * r.val; omega
    · show n.val = 0 + 1 * n.val; omega
  by_cases h0 : g.val / 64 = 0
  · rw [if_pos h0, View.canon_cons_of_not_mem _ _ (by rw [mem]; omega), View.canon_cons_of_not_mem _ _ (by rw [mem]; omega),
      View.canon_cons_of_not_mem _ _ (by rw [mem]; omega), emb 0 i0 ⟨g.val % 64, by omega⟩ (by show 0 + g.val % 64 = g.val; omega)]
    exact View.canon_cons_emb ..
  by_cases h1 : g.val / 64 = 1
  · rw [if_neg h0, if_pos h1, View.canon_cons_of_not_mem _ _ (by rw [mem]; omega), View.canon_cons_of_not_mem _ _ (by rw [mem]; omega),
      emb 64 i1 ⟨g.val % 64, by omega⟩ (by show 64 + g.val % 64 = g.val; omega)]
    exact View.canon_cons_emb ..
  by_cases h2 : g.val / 64 = 2
  · rw [if_neg h0, if_neg h1, if_pos h2, View.canon_cons_of_not_mem _ _ (by rw [mem]; omega),
      emb 128 i2 ⟨g.val % 64, by omega⟩ (by show 128 + g.val % 64 = g.val; omega)]
    exact View.canon_cons_emb ..
  · rw [if_neg h0, if_neg h1, if_neg h2, emb 192 i3 ⟨g.val % 64, by omega⟩ (by show 192 + g.val % 64 = g.val; omega)]
    exact View.canon_cons_emb ..

theorem tile_at (x : FVec Ideal S1x64x576 .f32) (g : Fin 256) (n : Fin 768) :
    out1_1 (F := Ideal) x (ix3 (0 : Fin 1) g n) = copyAt (64 * (g.val / 64)) x ⟨g.val % 64, by omega⟩ n := by
  have hg := g.isLt
  frame_out
  refine (rows_canon _ _ _ _ _ _ _ _ g n).trans ?_
  rw [pay2_at, pay3_at, pay4_at, pay5_at]
  split_ifs with h0 h1 h2
  · rw [h0]
  · rw [h1]
  · rw [h2]
  · rw [show g.val / 64 = 3 by omega]

section Expand

variable (b : FVec Ideal S8x320 .f32) (idx : IVec S1x4096 32) (B : Fin 8 → Fin 320 → ℝ) (d : Fin 4096 → Fin 320)

theorem onehot (a b : Fin 320) : (FloatOps.sitofp (F := Ideal) .f32 (BitVec.setWidth 32 (IntOp.cmpi .eq (BitVec.ofNat 32 a.val) (BitVec.ofNat 32 b.val))) : EReal)
    = ((if a = b then 1 else 0 : ℝ) : EReal) := by
  have one : (FloatOps.sitofp (F := Ideal) .f32 (BitVec.setWidth 32 (1#1)) : EReal) = ((1 : ℝ) : EReal) := by
    show (((BitVec.setWidth 32 (1#1)).toInt : ℝ) : EReal) = _
    norm_num
  have zero : (FloatOps.sitofp (F := Ideal) .f32 (BitVec.setWidth 32 (0#1)) : EReal) = ((0 : ℝ) : EReal) := by
    show (((BitVec.setWidth 32 (0#1)).toInt : ℝ) : EReal) = _
    norm_num
  by_cases h : a = b
  · rw [if_pos h, h, show IntOp.cmpi .eq (BitVec.ofNat 32 b.val) (BitVec.ofNat 32 b.val) = 1#1 from by simp [IntOp.cmpi], one]
  · have hne : ¬ BitVec.ofNat 32 a.val = BitVec.ofNat 32 b.val := fun e => h (Fin.ext (by
      have := congrArg BitVec.toNat e
      simp only [BitVec.toNat_ofNat] at this
      omega))
    rw [if_neg h, show IntOp.cmpi .eq (BitVec.ofNat 32 a.val) (BitVec.ofNat 32 b.val) = 0#1 from by
      show BitVec.ofBool (BitVec.ofNat 32 a.val == BitVec.ofNat 32 b.val) = 0#1
      rw [beq_false_of_ne hne]; rfl, zero]

theorem expand_at (hb : ∀ h r, b (ix2 h r) = (B h r : EReal)) (hi : ∀ j, idx (ix2 0 j) = BitVec.ofNat 32 (d j).val) (h : Fin 8) (j : Fin 4096) :
    k0_pay1 (F := Ideal) idx b (ix2 h j) = (B h (d j) : EReal) := by
  pointwise [k0_pay1]
  simp only [hi, hb, onehot, ← EReal.coe_sub, ← EReal.coe_mul, coe_sum, ← EReal.coe_add, sub_self, zero_mul, Finset.sum_const_zero, add_zero,
    mul_ite, mul_one, mul_zero, Finset.sum_ite_eq', Finset.mem_univ, if_true]

end Expand

end Cert.AttfIdeal
-- ==== Proof.Attf.Blocks.lean ====
module
public import proofs.«01_k».proof.Proof.Gen.AttfIdeal.Frame
public import proofs.«01_k».proof.Proof.Attn.Chunk

/-! One block of 256 queries of the forward attention: what each head gives, with the head a variable. -/

@[expose] public section

set_option maxRecDepth 16384

noncomputable section

namespace Cert.AttfIdeal

open Idealize.ShloMosaic Idealize.ShloMosaic.TcCoe Idealize.ShloMosaic.Tactic Cert.Reals
open Gen

theorem head_lt (h : Fin 8) (d : Fin 64) : 64 * h.val + d.val < 512 := by omega
theorem key_lt (h : Fin 8) (d : Fin 64) : 64 * h.val + d.val < 1024 := by omega
theorem value_lt (h : Fin 8) (d : Fin 64) : 512 + 64 * h.val + d.val < 1024 := by omega

section Heads

variable (q : FVec Ideal S256x512 .bf16) (kv : FVec Ideal S768x1024 .bf16) (b : FVec Ideal S8x256x768 .f32) (h : Fin 8)

theorem cut_slices : S256x512.Slices ![0, 64 * h.val] S256x64 := by revert h; decide
theorem b_inb : ∀ a, ![h.val, 0, 0] a + S1x256x768.size a ≤ S8x256x768.size a := by revert h; decide
theorem k_inb : ∀ a, ![0, 64 * h.val] a + S768x64.size a ≤ S768x1024.size a := by revert h; decide
theorem v_inb : ∀ a, ![0, 512 + 64 * h.val] a + S768x64.size a ≤ S768x1024.size a := by revert h; decide

def cut : FVec Ideal S256x64 .bf16 := extractStridedSlice S256x64 ![0, 64 * h.val] q (cut_slices h)
def biasH : FVec Ideal S256x768 .f32 :=
  shapeCast S256x768 (View.ld (Val := Elt Ideal) (e' := .f32) b (Rect.unit ![h.val, 0, 0] S1x256x768.size (b_inb h))) shapeCasts_S1x256x768_S256x768
def keyH : FVec Ideal S768x64 .bf16 := View.ld (Val := Elt Ideal) (e' := .bf16) kv (Rect.unit ![0, 64 * h.val] S768x64.size (k_inb h))
def valueH : FVec Ideal S768x64 .bf16 := View.ld (Val := Elt Ideal) (e' := .bf16) kv (Rect.unit ![0, 512 + 64 * h.val] S768x64.size (v_inb h))

/-- The scores of a head with the bias of the distance. -/
def scoreH : FVec Ideal S256x768 .f32 :=
  addf (matmul dot_S256x64_S768x64_S256x768_1_1_0_0_n_n none (cut q h) (keyH kv h) (constant S256x768 .f32 0x00000000#32)) (biasH b h)

/-- Scores of places before the first key are masked. -/
def hide (ok : IVec S256x768 1) (s : FVec Ideal S256x768 .f32) : FVec Ideal S256x768 .f32 :=
  select ok s (broadcast S256x768 (Named.named (F := Ideal) (φ := .f32) κ "mask" 0xF149F2CA#32))

def expH (s : FVec Ideal S256x768 .f32) : FVec Ideal S256x768 .f32 :=
  exp (subf s (broadcastTo S256x768 (shapeCast S256x1
    (multiReduction .maximumf [1] S256 s 0xFF800000#32 reduces_S256x768_S256 (.inl rfl) rfl) shapeCasts_S256_S256x1) broadcasts_S256x1_S256x768))

def shareH (e : FVec Ideal S256x768 .f32) : FVec Ideal S256x768 .bf16 :=
  truncf .bf16 (mulf e (broadcastTo S256x768 (divf (broadcast S256x1 (Scalar.ofBits .f32 0x3F800000#32)) (shapeCast S256x1
    (multiReduction .add [1] S256 e 0x00000000#32 reduces_S256x768_S256 (.inl rfl) rfl) shapeCasts_S256_S256x1)) broadcasts_S256x1_S256x768)) bitsLt_bf16_f32

def outH (s : FVec Ideal S256x768 .f32) : FVec Ideal S256x64 .f32 :=
  matmul dot_S256x768_S768x64_S256x64_1_0_0_1_n_n none (shareH (expH s)) (valueH kv h) (constant S256x64 .f32 0x00000000#32)

/-- The eight heads side by side, where `f` is what is done to the scores first. -/
def yAll (f : FVec Ideal S256x768 .f32 → FVec Ideal S256x768 .f32) : FVec Ideal S256x512 .bf16 :=
  truncf .bf16 (concatenate S256x512 1 (List.ofFn fun h : Fin 8 => ⟨S256x64, outH kv h (f (scoreH q kv b h))⟩)
    concatenates_S256x64_S256x64_S256x64_S256x64_S256x64_S256x64_S256x64_S256x64_S256x512_d1) bitsLt_bf16_f32

end Heads

section Values

variable {q : FVec Ideal S256x512 .bf16} {kv : FVec Ideal S768x1024 .bf16} {b : FVec Ideal S8x256x768 .f32}
  {Q : Fin 256 → Fin 8 → Fin 64 → ℝ} {K V : Fin 768 → Fin 8 → Fin 64 → ℝ} {B : Fin 8 → Fin 256 → Fin 768 → ℝ}
  {band : Fin 256 → Fin 768 → Prop} [∀ r n, Decidable (band r n)]
  (hq : ∀ r (h : Fin 8) (d : Fin 64), q (ix2 r ⟨64 * h.val + d.val, head_lt h d⟩) = (Q r h d : EReal))
  (hk : ∀ n (h : Fin 8) (d : Fin 64), kv (ix2 n ⟨64 * h.val + d.val, key_lt h d⟩) = (K n h d : EReal))
  (hv : ∀ n (h : Fin 8) (d : Fin 64), kv (ix2 n ⟨512 + 64 * h.val + d.val, value_lt h d⟩) = (V n h d : EReal))
  (hb : ∀ h r n, b (ix3 h r n) = if band r n then (B h r n : EReal) else ⊥)
  (h : Fin 8)

theorem cast_down (x : FVec Ideal S1x256x768 .f32) (r : Fin 256) (n : Fin 768) :
    shapeCast S256x768 x shapeCasts_S1x256x768_S256x768 (ix2 r n) = x (ix3 (0 : Fin 1) r n) := by
  pointwise

theorem ld_bias (x : FVec Ideal S8x256x768 .f32) (h : Fin 8) (r : Fin 256) (n : Fin 768) :
    View.ld (Val := Elt Ideal) (e' := .f32) x (Rect.unit ![h.val, 0, 0] S1x256x768.size (b_inb h)) (ix3 (0 : Fin 1) r n) = x (ix3 h r n) := by
  refine congrArg x (funext fun a => Fin.ext ?_)
  fin_cases a
  · show h.val + 1 * 0 = h.val; omega
  · show 0 + 1 * r.val = r.val; omega
  · show 0 + 1 * n.val = n.val; omega

include hb in
theorem biasH_at (r : Fin 256) (n : Fin 768) : biasH b h (ix2 r n) = if band r n then (B h r n : EReal) else ⊥ :=
  (cast_down _ r n).trans ((ld_bias b h r n).trans (hb h r n))

include hq hk hb in
theorem scoreH_at (r : Fin 256) (n : Fin 768) : scoreH q kv b h (ix2 r n)
    = AttnSoft.masked (band r) (fun n => (∑ d, Q r h d * K n h d) + B h r n) n := by
  have h1 := biasH_at hb h r n
  pointwise [scoreH, cut, keyH]
  simp only [h1, hq, hk, ← EReal.coe_mul, coe_sum]
  unfold AttnSoft.masked
  split
  · exact (EReal.coe_add _ _).symm
  · exact EReal.add_bot _

theorem hide_at (ok : IVec S256x768 1) (s : FVec Ideal S256x768 .f32) (r : Fin 256) (n : Fin 768) :
    hide ok s (ix2 r n) = if ok (ix2 r n) = 1#1 then s (ix2 r n) else ⊥ := by
  rfl

end Values

section Soft

variable {W : Fin 256 → Fin 768 → Prop} [∀ r n, Decidable (W r n)] {S : Fin 256 → Fin 768 → ℝ} {s : FVec Ideal S256x768 .f32}
  {kv : FVec Ideal S768x1024 .bf16} {V : Fin 768 → Fin 8 → Fin 64 → ℝ}
  (hs : ∀ r n, s (ix2 r n) = AttnSoft.masked (W r) (S r) n) (ho : ∀ r, ∃ n, W r n)
  (hv : ∀ n (h : Fin 8) (d : Fin 64), kv (ix2 n ⟨512 + 64 * h.val + d.val, value_lt h d⟩) = (V n h d : EReal))

include hs ho in
theorem expH_at (r : Fin 256) : ∃ m : ℝ, ∀ n, expH s (ix2 r n) = ((AttnSoft.wt (W r) (S r) n * Real.exp (-m) : ℝ) : EReal) := by
  obtain ⟨n0, h0⟩ := ho r
  obtain ⟨m, hm⟩ := AttnSoft.fold_real (W r) (S r) _ (fun n => s (ix2 r n)) AttnSoft.lit_neg_inf (fun n => hs r n) n0 h0
  refine ⟨m, fun n => ?_⟩
  pointwise [expH]
  rw [hs r n]
  refine Eq.trans ?_ (AttnSoft.exp_masked (W r) (S r) m n)
  exact congrArg (fun x => Ideal.exp (_ - x)) hm

include hs ho in
theorem shareH_at (r : Fin 256) (n : Fin 768) : shareH (expH s) (ix2 r n)
    = ((AttnSoft.wt (W r) (S r) n / ∑ n', AttnSoft.wt (W r) (S r) n' : ℝ) : EReal) := by
  obtain ⟨m, hm⟩ := expH_at hs ho r
  obtain ⟨n0, h0⟩ := ho r
  pointwise [shareH]
  simp only [hm, coe_sum, AttnSoft.lit_one]
  rw [← EReal.coe_one, div_real _ (AttnSoft.total_pos (W r) (S r) m n0 h0).ne', ← EReal.coe_mul, ← AttnSoft.share (W r) (S r) m n]
  exact congrArg Real.toEReal (by ring)

include hs ho hv in
theorem outH_at (h : Fin 8) (r : Fin 256) (d : Fin 64) : outH kv h s (ix2 r d)
    = ((∑ n, AttnSoft.wt (W r) (S r) n / (∑ n', AttnSoft.wt (W r) (S r) n') * V n h d : ℝ) : EReal) := by
  have h1 := shareH_at hs ho r
  pointwise [outH, valueH]
  simp only [h1, hv, ← EReal.coe_mul, coe_sum]

end Soft

end Cert.AttfIdeal
-- ==== Proof.Attf.Outs.lean ====
module
public import proofs.«01_k».proof.Proof.Attf.Blocks
public import proofs.«01_k».proof.Proof.Attn.Stack
import Idealize.ShloMosaic.Lib.Pipeline.ReadBack

/-! What one point of the attention's forward call stores: the eight heads of its block side by side. -/

@[expose] public section

set_option maxRecDepth 16384

noncomputable section

namespace Cert.AttfIdeal

open Idealize.ShloMosaic Idealize.ShloMosaic.TcCoe Idealize.ShloMosaic.Tactic Cert.Reals
open Gen AttnStack

variable (V : (c : Dev nD) → (b : Ref sig .tc) → Buf (Elt Ideal) ((c : Thread nD τ).loc b)) (c : Dev nD) (t : Fin cfg2.N)

def qT : FVec Ideal S256x512 .bf16 := k2_pay49 (View.ld (Val := Elt Ideal) (e' := .f32) (iblk2 V c 0 t) (Rect.unit ![0, 0] ![256, 512] inb_S256x1536_S256x512_0_0))
def kvT : FVec Ideal S768x1024 .bf16 := stack
  (k2_pay46 (grid2.coords t) (View.ld (Val := Elt Ideal) (e' := .f32) (iblk2 V c 2 t) (Rect.unit ![0, 512] ![256, 1024] inb_S256x1536_S256x1024_0_512)))
  (k2_pay47 (grid2.coords t) (View.ld (Val := Elt Ideal) (e' := .f32) (iblk2 V c 1 t) (Rect.unit ![0, 512] ![256, 1024] inb_S256x1536_S256x1024_0_512)))
  (k2_pay48 (View.ld (Val := Elt Ideal) (e' := .f32) (iblk2 V c 0 t) (Rect.unit ![0, 512] ![256, 1024] inb_S256x1536_S256x1024_0_512)))
/-- Which places of the window are keys. -/
def okT : IVec S256x768 1 := k2_pay1 (iota .tc S256x768 32 [1] iota_S256x768_d1_w32) (k2_pay50 (grid2.coords t))

theorem out_A (h : t.val % 64 = 0) (h1 : t.val < 2) : (outsAt2 V c t.val t.isLt).1
    = yAll (qT V c t) (kvT V c t) (iblk2 V c 3 t) (hide (okT t)) := by
  rw [outsAt2_A V c t h h1 (by omega)]; frame_open
  simp only []
  frame_out
  repeat rw [stack_read]
  rfl

theorem out_B (h : ¬ t.val % 64 = 0) (h1 : t.val < 2) : (outsAt2 V c t.val t.isLt).1
    = yAll (qT V c t) (kvT V c t) (iblk2 V c 3 t) (hide (okT t)) := by
  rw [outsAt2_B V c t h h1 (by omega)]; frame_open
  simp only []
  frame_out
  repeat rw [stack_read]
  rfl

theorem out_C (h : ¬ t.val % 64 = 0) (h1 : 2 ≤ t.val) : (outsAt2 V c t.val t.isLt).1
    = yAll (qT V c t) (kvT V c t) (iblk2 V c 3 t) (fun s => s) := by
  rw [outsAt2_C V c t h (by omega) h1]; frame_open
  simp only []
  frame_out
  repeat rw [stack_read]
  rfl

end Cert.AttfIdeal
-- ==== Proof.Attf.Views.lean ====
module
public import proofs.«01_k».proof.Proof.Attf.Outs

/-! What the windows of the attention's forward call hold at each point, and the array that the call leaves. -/

@[expose] public section

set_option maxRecDepth 16384

noncomputable section

namespace Cert.AttfIdeal

open Idealize.ShloMosaic Idealize.ShloMosaic.TcCoe Idealize.ShloMosaic.Tactic Cert.Reals
open Gen AttnSpec AttnWin AttnStack

/-- Row `r` of a block reaches place `n` of its window, as far as groups of 64 rows go. -/
def band (r : Fin 256) (n : Fin 768) : Prop := r.val / 64 ≤ n.val / 64 ∧ n.val / 64 ≤ r.val / 64 + 8

instance (r : Fin 256) (n : Fin 768) : Decidable (band r n) := by unfold band; infer_instance

theorem near_iff (t : Fin 64) (r : Fin 256) (n : Fin 768) : nearW t r n ↔ band r n ∧ 512 ≤ 256 * t.val + n.val := by
  unfold nearW band near xi
  dsimp only
  constructor
  · rintro ⟨h, h1, h2⟩; omega
  · rintro ⟨⟨h1, h2⟩, h3⟩; exact ⟨h3, by omega, by omega⟩

variable {P : Fin 16384 → Fin 1536 → ℝ} {B : Fin 8 → Fin 320 → ℝ}
  (V : (c : Dev nD) → (b : Ref sig .tc) → Buf (Elt Ideal) ((c : Thread nD τ).loc b)) (c : Dev nD)
  (hP : ∀ r l, V c main_arg0 (ix2 r l) = (P r l : EReal))
  (hB : ∀ h r n, V c main_v15 (ix3 h r n) = if band r n then (B h (AttnSpec.dist (512 + r.val) n.val) : EReal) else ⊥)

/-- The block of queries of a point. -/
def bk (t : Fin cfg2.N) : Fin 64 := t

include hP in
theorem blk_0 (t : Fin cfg2.N) (r : Fin 256) (l : Fin 1536) : iblk2 V c 0 t (ix2 r l) = (P (xi (bk t) r) l : EReal) := by
  obtain ⟨e0, e1⟩ := (by decide +kernel : ∀ t : Fin cfg2.N, win2_0.index t 0 = t.val ∧ win2_0.index t 1 = 0) t
  rw [← hP]; blk_ext [iblk2, e0, e1, xi, bk]
include hP in
theorem blk_1 (t : Fin cfg2.N) (r : Fin 256) (l : Fin 1536) :
    iblk2 V c 1 t (ix2 r l) = (P (xi ⟨t.val - 1, by have : t.val < 64 := t.isLt; omega⟩ r) l : EReal) := by
  obtain ⟨e0, e1⟩ := (by decide +kernel : ∀ t : Fin cfg2.N, win2_1.index t 0 = t.val - 1 ∧ win2_1.index t 1 = 0) t
  rw [← hP]; blk_ext [iblk2, e0, e1, xi]
include hP in
theorem blk_2 (t : Fin cfg2.N) (r : Fin 256) (l : Fin 1536) :
    iblk2 V c 2 t (ix2 r l) = (P (xi ⟨t.val - 2, by have : t.val < 64 := t.isLt; omega⟩ r) l : EReal) := by
  obtain ⟨e0, e1⟩ := (by decide +kernel : ∀ t : Fin cfg2.N, win2_2.index t 0 = t.val - 2 ∧ win2_2.index t 1 = 0) t
  rw [← hP]; blk_ext [iblk2, e0, e1, xi]
include hB in
theorem blk_3 (t : Fin cfg2.N) (h : Fin 8) (r : Fin 256) (n : Fin 768) :
    iblk2 V c 3 t (ix3 h r n) = if band r n then (B h (AttnSpec.dist (512 + r.val) n.val) : EReal) else ⊥ := by
  obtain ⟨e0, e1, e2⟩ := (by decide +kernel : ∀ t : Fin cfg2.N, win2_3.index t 0 = 0 ∧ win2_3.index t 1 = 0 ∧ win2_3.index t 2 = 0) t
  rw [← hB]; blk_ext [iblk2, e0, e1, e2]

include hP in
theorem qT_at (t : Fin cfg2.N) (r : Fin 256) (h : Fin 8) (d : Fin 64) :
    qT V c t (ix2 r ⟨64 * h.val + d.val, head_lt h d⟩) = (qs P (xi (bk t) r) h d * (1 / 8) : ℝ) := by
  have h0 := blk_0 V c hP t r ⟨64 * h.val + d.val, by omega⟩
  pointwise [qT, k2_pay49]
  rw [h0, AttnSoft.lit_eighth, ← EReal.coe_mul]
  unfold qs
  simp only [Nat.mul_comm]

theorem above_1 : ∀ t : Fin cfg2.N, Scalar.cmpi .sgt (BitVec.ofNat 32 (grid2.coords t 0).val) 1#32
    = if 1 < t.val then 1#1 else 0#1 := by decide +kernel
theorem above_0 : ∀ t : Fin cfg2.N, Scalar.cmpi .sgt (BitVec.ofNat 32 (grid2.coords t 0).val) 0#32
    = if 0 < t.val then 1#1 else 0#1 := by decide +kernel

include hP in
theorem low_at (t : Fin cfg2.N) (r : Fin 256) (l : Fin 1024) :
    k2_pay46 (grid2.coords t) (View.ld (Val := Elt Ideal) (e' := .f32) (iblk2 V c 2 t) (Rect.unit ![0, 512] ![256, 1024] inb_S256x1536_S256x1024_0_512))
      (ix2 r l) = (if 1 < t.val then (P (xi ⟨t.val - 2, by have : t.val < 64 := t.isLt; omega⟩ r) ⟨512 + l.val, by omega⟩) else 0 : ℝ) := by
  have h0 := blk_2 V c hP t r ⟨512 + l.val, by omega⟩
  unfold k2_pay46
  rw [above_1 t]
  split
  · pointwise
    exact h0
  · pointwise
    rfl

include hP in
theorem mid_at (t : Fin cfg2.N) (r : Fin 256) (l : Fin 1024) :
    k2_pay47 (grid2.coords t) (View.ld (Val := Elt Ideal) (e' := .f32) (iblk2 V c 1 t) (Rect.unit ![0, 512] ![256, 1024] inb_S256x1536_S256x1024_0_512))
      (ix2 r l) = (if 0 < t.val then (P (xi ⟨t.val - 1, by have : t.val < 64 := t.isLt; omega⟩ r) ⟨512 + l.val, by omega⟩) else 0 : ℝ) := by
  have h0 := blk_1 V c hP t r ⟨512 + l.val, by omega⟩
  unfold k2_pay47
  rw [above_0 t]
  split
  · pointwise
    exact h0
  · pointwise
    rfl

include hP in
theorem own_at (t : Fin cfg2.N) (r : Fin 256) (l : Fin 1024) :
    k2_pay48 (View.ld (Val := Elt Ideal) (e' := .f32) (iblk2 V c 0 t) (Rect.unit ![0, 512] ![256, 1024] inb_S256x1536_S256x1024_0_512))
      (ix2 r l) = (P (xi (bk t) r) ⟨512 + l.val, by omega⟩ : EReal) := by
  have h0 := blk_0 V c hP t r ⟨512 + l.val, by omega⟩
  pointwise [k2_pay48]
  exact h0

include hP in
theorem kvT_at (t : Fin cfg2.N) (n : Fin 768) (j : Fin 1024) :
    kvT V c t (ix2 n j) = (win (fun y => P y ⟨512 + j.val, by omega⟩) (bk t) n : EReal) := by
  have ht : t.val < 64 := t.isLt
  have hb : (bk t).val = t.val := rfl
  have key : ∀ (b : Fin 64) (r : Fin 256), 256 * b.val + r.val + 512 = 256 * t.val + n.val →
      win (fun y => P y ⟨512 + j.val, by omega⟩) (bk t) n = P (xi b r) ⟨512 + j.val, by omega⟩ := by
    intro b r h
    unfold win
    rw [dif_pos (show 512 ≤ 256 * (bk t).val + n.val by omega)]
    refine congrArg (fun y => P y _) (Fin.ext ?_)
    show 256 * t.val + n.val - 512 = 256 * b.val + r.val
    omega
  have none : 256 * t.val + n.val < 512 → win (fun y => P y ⟨512 + j.val, by omega⟩) (bk t) n = 0 := by
    intro h
    unfold win
    rw [dif_neg (show ¬ 512 ≤ 256 * (bk t).val + n.val by omega)]
  unfold kvT stack
  by_cases h0 : n.val < 256
  · rw [dif_pos (show ((ix2 n j : S768x1024.Idx) 0).val < 256 from h0)]
    refine (low_at V c hP t ⟨n.val, h0⟩ j).trans (congrArg _ ?_)
    split
    · exact (key _ _ (by show 256 * (t.val - 2) + n.val + 512 = _; omega)).symm
    · exact (none (by omega)).symm
  by_cases h1 : n.val < 512
  · rw [dif_neg (show ¬ ((ix2 n j : S768x1024.Idx) 0).val < 256 from h0), dif_pos (show ((ix2 n j : S768x1024.Idx) 0).val < 512 from h1)]
    refine (mid_at V c hP t ⟨n.val - 256, by omega⟩ j).trans (congrArg _ ?_)
    split
    · exact (key _ _ (by show 256 * (t.val - 1) + (n.val - 256) + 512 = _; omega)).symm
    · exact (none (by omega)).symm
  · rw [dif_neg (show ¬ ((ix2 n j : S768x1024.Idx) 0).val < 256 from h0), dif_neg (show ¬ ((ix2 n j : S768x1024.Idx) 0).val < 512 from h1)]
    refine (own_at V c hP t ⟨n.val - 512, by omega⟩ j).trans (congrArg _ ?_)
    exact (key _ _ (by show 256 * t.val + (n.val - 512) + 512 = _; omega)).symm

include hP in
theorem key_at (t : Fin cfg2.N) (n : Fin 768) (h : Fin 8) (d : Fin 64) :
    kvT V c t (ix2 n ⟨64 * h.val + d.val, key_lt h d⟩) = (win (fun y => ks P y h d) (bk t) n : EReal) := by
  rw [kvT_at V c hP]
  unfold ks
  simp only [Nat.mul_comm]

include hP in
theorem value_at (t : Fin cfg2.N) (n : Fin 768) (h : Fin 8) (d : Fin 64) :
    kvT V c t (ix2 n ⟨512 + 64 * h.val + d.val, value_lt h d⟩) = (win (fun y => vs P y h d) (bk t) n : EReal) := by
  rw [kvT_at V c hP]
  refine congrArg (fun f => ((win f (bk t) n : ℝ) : EReal)) (funext fun y => congrArg (P y) (Fin.ext ?_))
  show 512 + (512 + 64 * h.val + d.val) = 1024 + (h.val * 64 + d.val)
  omega

/-- The mask of a block is set where a place of the window is a key. -/
theorem okT_at (t : Fin cfg2.N) (r : Fin 256) (n : Fin 768) : okT t (ix2 r n) = 1#1 ↔ 512 ≤ 256 * t.val + n.val := by
  have e : ∀ t : Fin cfg2.N, (Scalar.muli (Scalar.subi 2#32 (BitVec.ofNat 32 (grid2.coords t 0).val)) 256#32).toInt
      = 512 - 256 * t.val := by decide +kernel
  have hn : (BitVec.ofNat 32 n.val).toInt = n.val := int_ofNat _ (by omega)
  have h : okT t (ix2 r n) = IntOp.cmpi .sge (BitVec.ofNat 32 n.val)
      (Scalar.muli (Scalar.subi 2#32 (BitVec.ofNat 32 (grid2.coords t 0).val)) 256#32) := by
    pointwise [okT, k2_pay1, k2_pay50]
  rw [h, sge_iff, e, hn]
  omega

include hP hB in
theorem score_at (t : Fin cfg2.N) (h : Fin 8) (r : Fin 256) (n : Fin 768) :
    scoreH (qT V c t) (kvT V c t) (iblk2 V c 3 t) h (ix2 r n) = AttnSoft.masked (band r) (scoreW P B (bk t) h r) n := by
  rw [scoreH_at (Q := fun r h d => qs P (xi (bk t) r) h d * (1 / 8)) (K := fun n h d => win (fun y => ks P y h d) (bk t) n)
    (B := fun h r n => B h (AttnSpec.dist (512 + r.val) n.val)) (band := band)
    (fun r h d => qT_at V c hP t r h d) (fun n h d => key_at V c hP t n h d) (fun h r n => blk_3 V c hB t h r n) h r n]
  refine congrArg (fun f => AttnSoft.masked (band r) f n) (funext fun n => ?_)
  unfold scoreW
  rw [Finset.sum_mul]
  refine congrArg (· + _) (Finset.sum_congr rfl fun d _ => by ring)

include hP hB in
/-- The scores of the first two blocks, where the places before the first key are masked too. -/
theorem hide_score (t : Fin cfg2.N) (h : Fin 8) (r : Fin 256) (n : Fin 768) :
    hide (okT t) (scoreH (qT V c t) (kvT V c t) (iblk2 V c 3 t) h) (ix2 r n)
      = AttnSoft.masked (nearW (bk t) r) (scoreW P B (bk t) h r) n := by
  rw [hide_at, score_at V c hP hB t h r n]
  unfold AttnSoft.masked
  have hi := okT_at t r n
  have hw := near_iff (bk t) r n
  have hb : (bk t).val = t.val := rfl
  rw [hb] at hw
  by_cases h1 : 512 ≤ 256 * t.val + n.val
  · rw [if_pos (hi.2 h1)]
    by_cases h2 : band r n
    · rw [if_pos h2, if_pos (hw.2 ⟨h2, h1⟩)]
    · rw [if_neg h2, if_neg fun e => h2 (hw.1 e).1]
  · rw [if_neg fun e => h1 (hi.1 e), if_neg fun e => h1 (hw.1 e).2]

include hP hB in
theorem far_score (t : Fin cfg2.N) (ht : 2 ≤ t.val) (h : Fin 8) (r : Fin 256) (n : Fin 768) :
    scoreH (qT V c t) (kvT V c t) (iblk2 V c 3 t) h (ix2 r n)
      = AttnSoft.masked (nearW (bk t) r) (scoreW P B (bk t) h r) n := by
  rw [score_at V c hP hB t h r n]
  unfold AttnSoft.masked
  have hw := near_iff (bk t) r n
  have hb : (bk t).val = t.val := rfl
  rw [hb] at hw
  by_cases h2 : band r n
  · rw [if_pos h2, if_pos (hw.2 ⟨h2, by omega⟩)]
  · rw [if_neg h2, if_neg fun e => h2 (hw.1 e).1]

/-- The attention's output. -/
def yS (P : Fin 16384 → Fin 1536 → ℝ) (B : Fin 8 → Fin 320 → ℝ) (x : Fin 16384) (j : Fin 512) : ℝ :=
  ∑ y, prob (qs P) (ks P) B ⟨j.val / 64, by omega⟩ x y * vs P y ⟨j.val / 64, by omega⟩ ⟨j.val % 64, by omega⟩

theorem yAll_at (q : FVec Ideal S256x512 .bf16) (kv : FVec Ideal S768x1024 .bf16) (b : FVec Ideal S8x256x768 .f32)
    (f : FVec Ideal S256x768 .f32 → FVec Ideal S256x768 .f32) (r : Fin 256) (j : Fin 512) : yAll q kv b f (ix2 r j)
      = outH kv ⟨j.val / 64, by omega⟩ (f (scoreH q kv b ⟨j.val / 64, by omega⟩)) (ix2 r ⟨j.val % 64, by omega⟩) :=
  concatenate_ofFn_apply (t := S256x512) 1 (fun h : Fin 8 => outH kv h (f (scoreH q kv b h)))
    concatenates_S256x64_S256x64_S256x64_S256x64_S256x64_S256x64_S256x64_S256x64_S256x512_d1 rfl 64 rfl (ix2 r j) ⟨j.val / 64, by omega⟩ rfl
    (ix2 r ⟨j.val % 64, by omega⟩) rfl (fun a ha => by fin_cases a; exacts [rfl, absurd rfl ha])

include hP in
/-- The heads of a block, where the scores that go into the softmax are known. -/
theorem y_of (t : Fin cfg2.N) (f : FVec Ideal S256x768 .f32 → FVec Ideal S256x768 .f32)
    (hf : ∀ h r n, f (scoreH (qT V c t) (kvT V c t) (iblk2 V c 3 t) h) (ix2 r n)
      = AttnSoft.masked (nearW (bk t) r) (scoreW P B (bk t) h r) n) (r : Fin 256) (j : Fin 512) :
    yAll (qT V c t) (kvT V c t) (iblk2 V c 3 t) f (ix2 r j) = (yS P B (xi (bk t) r) j : EReal) := by
  have h1 : ∀ (h : Fin 8) (d : Fin 64), outH (kvT V c t) h (f (scoreH (qT V c t) (kvT V c t) (iblk2 V c 3 t) h)) (ix2 r d)
      = ((∑ y, prob (qs P) (ks P) B h (xi (bk t) r) y * vs P y h d : ℝ) : EReal) := by
    intro h d
    rw [outH_at (W := fun r => nearW (bk t) r) (S := fun r => scoreW P B (bk t) h r)
      (V := fun n h d => win (fun y => vs P y h d) (bk t) n) (hf h) (fun r => ⟨_, near_own (bk t) r⟩)
      (fun n h d => value_at V c hP t n h d) h r d]
    refine congrArg Real.toEReal ?_
    simp only [share_win, win_mul]
    exact sum_win _ (bk t) r fun y hy => by rw [prob_far _ _ _ hy, zero_mul]
  exact (yAll_at _ _ _ f r j).trans (h1 _ _)

include hP hB in
theorem arr_y : (dat2 (F := Ideal) V c).arrAt 4 cfg2.N = fun i => (yS P B (i 0) (i 1) : EReal) := by
  refine (dat2 V c).arrAt_eq_of_covers 4 _ (by decide +kernel) fun t hf y => ?_
  obtain ⟨e0, e1⟩ := (by decide +kernel : ∀ t : Fin cfg2.N, win2_4.index t 0 = t.val ∧ win2_4.index t 1 = 0) t
  obtain ⟨r, k, rfl⟩ : ∃ (r : Fin 256) (k : Fin 512), y = ix2 r k := ⟨y 0, y 1, eq_ix2 y⟩
  refine at_place (fun r l => (yS P B r l : EReal)) (r := xi (bk t) r) (l := k) ?_ ?_ ?_
  · blk_simp
    rw [after2_4]
    by_cases h0 : t.val % 64 = 0
    · have h1 : t.val < 2 := by have : t.val < 64 := t.isLt; omega
      rw [out_A V c t h0 h1]
      exact y_of V c hP t _ (fun h r n => hide_score V c hP hB t h r n) r k
    by_cases h1 : t.val < 2
    · rw [out_B V c t h0 h1]
      exact y_of V c hP t _ (fun h r n => hide_score V c hP hB t h r n) r k
    · rw [out_C V c t h0 (by omega)]
      exact y_of V c hP t _ (fun h r n => far_score V c hP hB t (by omega) h r n) r k
  · blk_simp [e0, e1, xi, bk]; show 256 * t.val + r.val = t.val * 256 + r.val; omega
  · blk_simp [e0, e1, xi, bk]

end Cert.AttfIdeal
-- ==== Proof.Attf.Arrays.lean ====
module
public import proofs.«01_k».proof.Proof.Attf.Tile
public import proofs.«01_k».proof.Proof.Attf.Views

/-! The arrays that the two calls before the attention leave: the table at every place of a group's 576 keys, and the bias
    of a block of scores. -/

@[expose] public section

set_option maxRecDepth 16384

noncomputable section

namespace Cert.AttfIdeal

open Idealize.ShloMosaic Idealize.ShloMosaic.TcCoe Idealize.ShloMosaic.Tactic Cert.Reals
open Gen AttnSpec

/-- The row of the table for place `j` of the 64 by 576 places, row by row. -/
def place (j : Fin 36864) : Fin 320 := AttnSpec.dist (512 + j.val / 576) (j.val % 576)

variable {B : Fin 8 → Fin 320 → ℝ}
  (V : (c : Dev nD) → (b : Ref sig .tc) → Buf (Elt Ideal) ((c : Thread nD τ).loc b)) (c : Dev nD)

section Expand

variable (hB : ∀ h r, V c main_arg1 (ix2 h r) = (B h r : EReal))
  (hI : ∀ j, V c main_v12 (ix2 0 j) = BitVec.ofNat 32 (place j).val)

/-- Place `j` of the part that a point holds. -/
def spot (t : Fin cfg0.N) (j : Fin 4096) : Fin 36864 := ⟨4096 * t.val + j.val, by have : t.val < 9 := t.isLt; omega⟩

include hB in
theorem blk0_0 (t : Fin cfg0.N) (h : Fin 8) (r : Fin 320) : iblk0 V c 0 t (ix2 h r) = (B h r : EReal) := by
  obtain ⟨e0, e1⟩ := (by decide +kernel : ∀ t : Fin cfg0.N, win0_0.index t 0 = 0 ∧ win0_0.index t 1 = 0) t
  rw [← hB]; blk_ext [iblk0, e0, e1]
include hI in
theorem blk0_1 (t : Fin cfg0.N) (j : Fin 4096) : iblk0 V c 1 t (ix2 0 j) = BitVec.ofNat 32 (place (spot t j)).val := by
  obtain ⟨e0, e1⟩ := (by decide +kernel : ∀ t : Fin cfg0.N, win0_1.index t 0 = 0 ∧ win0_1.index t 1 = t.val) t
  rw [← hI]; blk_ext [iblk0, e0, e1, spot]

include hB hI in
theorem arr_expand : (dat0 (F := Ideal) V c).arrAt 2 cfg0.N = fun i => (B (i 0) (place (i 1)) : EReal) := by
  refine (dat0 V c).arrAt_eq_of_covers 2 _ (by decide +kernel) fun t hf y => ?_
  obtain ⟨e0, e1⟩ := (by decide +kernel : ∀ t : Fin cfg0.N, win0_2.index t 0 = 0 ∧ win0_2.index t 1 = t.val) t
  obtain ⟨h, j, rfl⟩ : ∃ (h : Fin 8) (j : Fin 4096), y = ix2 h j := ⟨y 0, y 1, eq_ix2 y⟩
  refine at_place (fun (h : Fin 8) j => (B h (place j) : EReal)) (r := h) (l := spot t j) ?_ ?_ ?_
  · blk_simp; rw [after0_2]
    frame_out
    exact expand_at _ _ B (fun j => place (spot t j)) (blk0_0 V c hB t) (blk0_1 V c hI t) h j
  · blk_simp [e0, e1, spot]
  · blk_simp [e0, e1, spot]; show 4096 * t.val + j.val = t.val * 4096 + j.val; omega

end Expand

section Tile

variable (hE : ∀ h (l : Fin 64) (n : Fin 576), V c main_v14 (ix3 h l n) = (B h (AttnSpec.dist (512 + l.val) n.val) : EReal))

/-- The head of a point. -/
def hd (t : Fin cfg1.N) : Fin 8 := t

include hE in
theorem blk1_0 (t : Fin cfg1.N) (l : Fin 64) (n : Fin 576) :
    iblk1 V c 0 t (ix3 0 l n) = (B (hd t) (AttnSpec.dist (512 + l.val) n.val) : EReal) := by
  obtain ⟨e0, e1, e2⟩ := (by decide +kernel : ∀ t : Fin cfg1.N, win1_0.index t 0 = t.val ∧ win1_0.index t 1 = 0 ∧ win1_0.index t 2 = 0) t
  rw [← hE]; blk_ext [iblk1, e0, e1, e2, hd]

/-- A place of an array of three dimensions, named by its coordinates. -/
theorem at_place3 {a n k : ℕ} (S : Fin a → Fin n → Fin k → EReal) {x : EReal} {h h' : Fin a} {r r' : Fin n} {l l' : Fin k}
    (e : x = S h r l) (hh : h.val = h'.val) (hr : r.val = r'.val) (hl : l.val = l'.val) : x = S h' r' l' := by
  rw [e, Fin.ext hh, Fin.ext hr, Fin.ext hl]

theorem dist_shift (g n : ℕ) (h : 64 * (g / 64) ≤ n) :
    AttnSpec.dist (512 + g % 64) (n - 64 * (g / 64)) = AttnSpec.dist (512 + g) n := by
  refine Fin.ext ?_
  unfold AttnSpec.dist
  dsimp only
  omega

include hE in
theorem tile_pt (t : Fin cfg1.N) (g : Fin 256) (n : Fin 768) : out1_1 (F := Ideal) (iblk1 V c 0 t) (ix3 0 g n)
    = if band g n then (B (hd t) (AttnSpec.dist (512 + g.val) n.val) : EReal) else ⊥ := by
  refine (tile_at _ g n).trans ?_
  unfold copyAt
  by_cases h : 64 * (g.val / 64) ≤ n.val ∧ n.val < 64 * (g.val / 64) + 576
  · rw [dif_pos h, if_pos (show band g n from ⟨by omega, by omega⟩), blk1_0 V c hE, dist_shift _ _ h.1]
  · rw [dif_neg h, if_neg (show ¬ band g n from fun e => by unfold band at e; omega)]

include hE in
theorem arr_tile : (dat1 (F := Ideal) V c).arrAt 1 cfg1.N
    = fun i => if band (i 1) (i 2) then (B (i 0) (AttnSpec.dist (512 + (i 1).val) (i 2).val) : EReal) else ⊥ := by
  refine (dat1 V c).arrAt_eq_of_covers 1 _ (by decide +kernel) fun t hf y => ?_
  obtain ⟨e0, e1, e2⟩ := (by decide +kernel : ∀ t : Fin cfg1.N, win1_1.index t 0 = t.val ∧ win1_1.index t 1 = 0 ∧ win1_1.index t 2 = 0) t
  obtain ⟨z, g, n, rfl⟩ : ∃ (z : Fin 1) (g : Fin 256) (n : Fin 768), y = ix3 z g n := ⟨y 0, y 1, y 2, eq_ix3 y⟩
  obtain rfl : z = 0 := Subsingleton.elim _ _
  refine at_place3 (fun (h : Fin 8) (g : Fin 256) (n : Fin 768) =>
    if band g n then (B h (AttnSpec.dist (512 + g.val) n.val) : EReal) else ⊥) (h := hd t) (r := g) (l := n) ?_ ?_ ?_ ?_
  · blk_simp; rw [after1_1]
    exact tile_pt V c hE t g n
  · blk_simp [e0, e1, e2, hd]; rfl
  · blk_simp [e0, e1, e2, hd]
  · blk_simp [e0, e1, e2, hd]

end Tile

end Cert.AttfIdeal
-- ==== Proof.Attf.Run.lean ====
module
public import proofs.«01_k».proof.Proof.Attf.Arrays
public import proofs.«01_k».proof.Proof.Words
public import Idealize.ShloMosaic.Lib.StableHlo.RunRead
public import Idealize.ShloMosaic.Lib.StableHlo.ReadAt

/-! The run of the three calls: every array of the machine ends at the contents that the last region leaves, and the
    result among them is the attention of `Spec`. -/

@[expose] public section

set_option maxRecDepth 16384

noncomputable section

namespace Cert.AttfIdeal

open Idealize.ShloMosaic Idealize.ShloMosaic.TcCoe Idealize.ShloMosaic.Tactic Cert.Reals
open Idealize.SL Idealize.SL.RA Idealize.SL.BI Idealize.SL.BI.BIBase Idealize.SL.BI.Laws Idealize.SL.ProofMode Idealize.SL.Sem
open scoped Idealize.SL.BI
open Idealize.ShloMosaic.Rounds
open Gen

section Run

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch's implicit arguments are found by unfolding definitions in a metavariable's type
set_option backward.isDefEq.respectTransparency.types false in
/-- Every buffer of the TensorCore ends at the contents after the last region. -/
theorem run_contents : θ_run defs (onTc (τ := τ) (main (F := F))) ⟨m, fun _ => 0, ρ⟩ (fun r => ∀ c : Dev nD,
    ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Run

section Values

variable (m : (ℓ : Loc nD τ sig) → Buf (Elt Ideal) ℓ) (ρ : Dev nD → PrngReg) (c : Dev nD)

variable {P : Fin 16384 → Fin 1536 → ℝ} {B : Fin 8 → Fin 320 → ℝ}
  (hP : ∀ r l, m ((c : Thread nD τ).loc main_arg0) (ix2 r l) = (P r l : EReal))
  (hB : ∀ h r, m ((c : Thread nD τ).loc main_arg1) (ix2 h r) = (B h r : EReal))

/-- The word that a place's row of the table is computed as. -/
theorem place_word (l : Fin 64) (n : Fin 576) :
    IntOp.addi (IntOp.minsi 256#32 (IntOp.maxsi 4294967233#32
      (IntOp.subi (IntOp.addi (BitVec.ofNat 32 l.val) 512#32) (BitVec.ofNat 32 n.val)))) 63#32
    = BitVec.ofNat 32 (AttnSpec.dist (512 + l.val) n.val).val := by
  have c1 : (256#32).toInt = 256 := by decide
  have c2 : (4294967233#32).toInt = -63 := by decide
  have c3 : (63#32).toInt = 63 := by decide
  have c4 : (512#32).toInt = 512 := by decide
  have hl := l.isLt
  have hn := n.isLt
  have il := int_ofNat l.val (by omega)
  have jn := int_ofNat n.val (by omega)
  have ha : (IntOp.addi (BitVec.ofNat 32 l.val) 512#32).toInt = (l.val : ℤ) + 512 := by
    rw [int_add _ _ (by rw [il, c4]; omega), il, c4]
  have hs : (IntOp.subi (IntOp.addi (BitVec.ofNat 32 l.val) 512#32) (BitVec.ofNat 32 n.val)).toInt = (l.val : ℤ) + 512 - n.val := by
    rw [int_sub _ _ (by rw [ha, jn]; omega), ha, jn]
  have hm : (IntOp.minsi 256#32 (IntOp.maxsi 4294967233#32
      (IntOp.subi (IntOp.addi (BitVec.ofNat 32 l.val) 512#32) (BitVec.ofNat 32 n.val)))).toInt
      = min 256 (max (-63) ((l.val : ℤ) + 512 - n.val)) := by
    rw [int_min, int_max, c1, c2, hs]
  refine BitVec.eq_of_toInt_eq ?_
  rw [int_add _ _ (by rw [hm, c3]; omega), hm, c3, int_ofNat _ (by have := (AttnSpec.dist (512 + l.val) n.val).isLt; omega),
    AttnSoft.dist_val]
  push_cast
  omega

theorem w2_clip (l : Fin 64) (n : Fin 576) : W2 m ρ c (Proc.devRef .tc main_v9) (ix2 l n)
    = IntOp.minsi 256#32 (IntOp.maxsi 4294967233#32
      (IntOp.subi (IntOp.addi (BitVec.ofNat 32 l.val) 512#32) (BitVec.ofNat 32 n.val))) := by
  unfold W2 W1
  after_reads_at
  rfl

theorem v3_place (j : Fin 36864) : V3 m ρ c main_v12 (ix2 0 j) = BitVec.ofNat 32 (place j).val := by
  have hl : j.val / 576 < 64 := by have := j.isLt; omega
  have hn : j.val % 576 < 576 := by omega
  have : V3 m ρ c main_v12 (ix2 0 j)
      = IntOp.addi (W2 m ρ c (Proc.devRef .tc main_v9) (ix2 ⟨j.val / 576, hl⟩ ⟨j.val % 576, hn⟩)) 63#32 := by
    rw [V3]; after_results_simp; pointwise
  rw [this, w2_clip]
  exact place_word ⟨j.val / 576, hl⟩ ⟨j.val % 576, hn⟩
include hB in
theorem v3_b (h : Fin 8) (r : Fin 320) : V3 m ρ c main_arg1 (ix2 h r) = (B h r : EReal) := by
  rw [V3, W3_args m ρ c main_arg1 (by decide), hB]

include hB in
theorem w4_expand : W4 m ρ c main_v13 = fun i => (B (i 0) (place (i 1)) : EReal) :=
  (W4_arr m ρ c 2).trans (arr_expand (V3 m ρ) c (v3_b m ρ c hB) (v3_place m ρ c))
include hB in
theorem v5_expand (h : Fin 8) (l : Fin 64) (n : Fin 576) :
    V5 m ρ c main_v14 (ix3 h l n) = (B h (AttnSpec.dist (512 + l.val) n.val) : EReal) := by
  have hj : l.val * 576 + n.val < 36864 := by omega
  have : V5 m ρ c main_v14 (ix3 h l n) = W4 m ρ c (Proc.devRef .tc main_v13) (ix2 h ⟨l.val * 576 + n.val, hj⟩) := by
    rw [V5]; after_results_simp; pointwise
  rw [this, show W4 m ρ c (Proc.devRef .tc main_v13) = _ from w4_expand m ρ c hB]
  have e : place ⟨l.val * 576 + n.val, hj⟩ = AttnSpec.dist (512 + l.val) n.val := by
    unfold place
    rw [show (l.val * 576 + n.val) / 576 = l.val by omega, show (l.val * 576 + n.val) % 576 = n.val by omega]
  rw [← e]; rfl
include hB in
theorem v6_bias (h : Fin 8) (r : Fin 256) (n : Fin 768) : V6 m ρ c main_v15 (ix3 h r n)
    = if band r n then (B h (AttnSpec.dist (512 + r.val) n.val) : EReal) else ⊥ := by
  rw [show V6 m ρ c main_v15 = _ from (W6_arr m ρ c 1).trans (arr_tile (V5 m ρ) c (v5_expand m ρ c hB))]
  rfl
include hP in
theorem v6_p (r : Fin 16384) (l : Fin 1536) : V6 m ρ c main_arg0 (ix2 r l) = (P r l : EReal) := by
  rw [V6, W6_args m ρ c main_arg0 (by decide), hP]

include hP hB in
theorem w7_y : W7 m ρ c main_v16_0 = fun i => (yS P B (i 0) (i 1) : EReal) :=
  (W7_arr m ρ c 4).trans (arr_y (V6 m ρ) c (v6_p m ρ c hP) (v6_bias m ρ c hB))

end Values

end Cert.AttfIdeal
-- ==== Proof.Attf.Ref.lean ====
module
public import proofs.«01_k».proof.Proof.Attn.Soft
public import proofs.«01_k».proof.Proof.Attn.Table
public import proofs.«01_k».proof.Proof.Gen.AttfRefIdeal.Run
public import proofs.«01_k».proof.Proof.Gen.AttfRefIdeal.Read

/-! What the reference of the forward attention computes, stage by stage, over the real numbers. -/

@[expose] public section

set_option maxRecDepth 16384

noncomputable section

namespace Cert.AttfRefIdeal

open Idealize.ShloMosaic Idealize.ShloMosaic.TcCoe Idealize.ShloMosaic.Tactic Idealize.SL.Sem Cert.Reals Cert.AttnSpec
open Cert.AttnSoft (masked wt lit_neg_inf lit_eighth lit_one exp_masked top_real share)
open Gen Read

theorem words (x y : Fin 16384) : (val_main_v25 (F := Ideal) (ix3 x y 0)).toInt = (dist x y).val := by
  pointwise [val_main_v25, val_main_v24, val_main_v21, val_main_v20, val_main_v23, val_main_v22, val_main_v19, val_main_v18, val_main_v17, val_main_call0_v0, val_main_call0_v1, val_main_call0_v2, val_main_call0_v3, val_main_call0_v4, val_main_v16, val_main_v15, val_main_v14, val_main_v4, val_main_v3, val_main_v6, val_main_v5, val_main_c_1, val_main_c_2, val_main_c_3, val_main_c_4, val_main_c_5]
  rw [AttnSoft.dist_val]
  refine AttnSoft.column (IntOp.subi (BitVec.ofNat 32 x.val) (BitVec.ofNat 32 y.val)) _ ?_
  rw [int_sub _ _ (by rw [int_ofNat _ (by omega), int_ofNat _ (by omega)]; omega), int_ofNat _ (by omega), int_ofNat _ (by omega)]

theorem seen (h : Fin 8) (x y : Fin 16384) : val_main_call1_v1 (F := Ideal) (ix3 h x y) = 1#1 ↔ near x y := by
  have hx : (BitVec.ofNat 32 x.val).toInt = x.val := int_ofNat _ (by omega)
  have hy : (BitVec.ofNat 32 y.val).toInt = y.val := int_ofNat _ (by omega)
  have dx : (IntOp.divsi .host (BitVec.ofNat 32 x.val) 64#32).toInt = x.val / 64 := by rw [int_div _ _ (by omega), hx]
  have dy : (IntOp.divsi .host (BitVec.ofNat 32 y.val) 64#32).toInt = y.val / 64 := by rw [int_div _ _ (by omega), hy]
  have hd : (IntOp.subi (IntOp.divsi .host (BitVec.ofNat 32 x.val) 64#32) (IntOp.divsi .host (BitVec.ofNat 32 y.val) 64#32)).toInt
      = (x.val / 64 : ℤ) - y.val / 64 := by rw [int_sub _ _ (by rw [dx, dy]; omega), dx, dy]
  pointwise [val_main_call1_v1, val_main_v37, val_main_v36, val_main_v35, val_main_v34, val_main_v33, val_main_v13, val_main_v12, val_main_v11, val_main_v10, val_main_v9, val_main_v8, val_main_v7, val_main_v4, val_main_v3, val_main_v6, val_main_v5, val_main_c, val_main_c_0, val_main_c_6, val_main_c_7]
  rw [IntOp.andi_eq_one]
  refine (and_congr ((sge_iff _ _).trans (iff_of_eq (congrArg₂ (· ≤ ·) (show (0#32).toInt = 0 by decide) hd)))
    ((sle_iff _ _).trans (iff_of_eq (congrArg₂ (· ≤ ·) hd (show (8#32).toInt = 8 by decide))))).trans ?_
  unfold near; omega

variable {P : Fin 16384 → Fin 1536 → ℝ} {B : Fin 8 → Fin 320 → ℝ}
  {x0 : FVec Ideal S16384x1536 .f32} {x1 : FVec Ideal S8x320 .f32}
  (hP : ∀ r l, x0 (ix2 r l) = (P r l : EReal)) (hB : ∀ h r, x1 (ix2 h r) = (B h r : EReal))

include hB in
theorem bias_ref (h : Fin 8) (x y : Fin 16384) : val_main_v26 (F := Ideal) x1 (ix3 h x y) = (B h (dist x y) : EReal) := by
  have hw := words x y
  refine (AttnTable.take_apply gather_S8x320_S16384x16384x1_S8x16384x16384_0_1_n_n_1_2_81.wf x1 val_main_v25 h x y).trans ?_
  rw [hB]
  refine congrArg (fun r => (B h r : EReal)) (Fin.ext ?_)
  dsimp only
  have := (dist x y).isLt
  omega

include hP hB in
theorem score_ref (h : Fin 8) (x y : Fin 16384) :
    val_main_v32 (F := Ideal) x0 x1 (ix3 h x y) = (score (qs P) (ks P) B h x y : EReal) := by
  have hb := bias_ref hB h x y
  pointwise [val_main_v32, val_main_v31, val_main_v30, val_main_v29, val_main_v27, val_main_v28, val_main_v0, val_main_v1, val_main_cst]
  simp only [hP, ← EReal.coe_mul, coe_sum, lit_eighth]
  rw [hb, ← EReal.coe_add]
  rfl

include hP hB in
theorem masked_ref (h : Fin 8) (x y : Fin 16384) :
    val_main_v38 (F := Ideal) x0 x1 (ix3 h x y) = masked (near x) (score (qs P) (ks P) B h x) y := by
  have hs := score_ref hP hB h x y
  have hn := seen h x y
  pointwise [val_main_v38, val_main_call1_v2, val_main_call1_v0, val_main_cst_8]
  rw [hs]
  unfold masked
  by_cases hc : near x y
  · rw [if_pos hc]; exact if_pos (hn.2 hc)
  · rw [if_neg hc]; exact (if_neg fun e => hc (hn.1 e)).trans lit_neg_inf

include hP hB in
theorem low_ref (h : Fin 8) (x : Fin 16384) : ∃ m : ℝ, val_main_v39 (F := Ideal) x0 x1 (ix2 h x) = m := by
  unfold val_main_v39
  pointwise []
  exact AttnSoft.fold_real (near x) (score (qs P) (ks P) B h x) _ _ lit_neg_inf (masked_ref hP hB h x) x (near_self x)

include hP hB in
theorem top_ref (h : Fin 8) (x : Fin 16384) : ∃ m : ℝ, val_main_v41 (F := Ideal) x0 x1 (ix2 h x) = m := by
  obtain ⟨m, hm⟩ := low_ref hP hB h x
  refine ⟨m, ?_⟩
  rw [val_main_v41_apply, hm]
  refine AttnSoft.max_low _ _ ?_
  pointwise [val_main_v40, val_main_cst_10]
  exact lit_neg_inf

/-- The exponentials of a row, and their sum, up to a common positive factor. -/
theorem exps_ref (hP : ∀ r l, x0 (ix2 r l) = (P r l : EReal)) (hB : ∀ h r, x1 (ix2 h r) = (B h r : EReal)) (h : Fin 8) (x : Fin 16384) :
    ∃ m : ℝ, 0 < m ∧ (∀ y, val_main_v45 (F := Ideal) x0 x1 (ix3 h x y) = ((weight (qs P) (ks P) B h x y * m : ℝ) : EReal))
      ∧ val_main_v46 (F := Ideal) x0 x1 (ix2 h x) = ((((∑ y, weight (qs P) (ks P) B h x y) * m : ℝ)) : EReal) := by
  obtain ⟨m, hm⟩ := top_ref hP hB h x
  have hs := masked_ref hP hB h x
  have he : ∀ y, val_main_v45 (F := Ideal) x0 x1 (ix3 h x y) = ((weight (qs P) (ks P) B h x y * Real.exp (-m) : ℝ) : EReal) := fun y => by
    have hy := hs y
    pointwise [val_main_v45, val_main_v44, val_main_v43, val_main_v42]
    rw [hy, hm]
    exact exp_masked _ _ m y
  refine ⟨Real.exp (-m), Real.exp_pos _, he, ?_⟩
  pointwise [val_main_v46, val_main_cst_11]
  simp only [he, coe_sum, ← Finset.sum_mul]

include hP hB in
theorem prob_ref (h : Fin 8) (x y : Fin 16384) : val_main_v49 (F := Ideal) x0 x1 (ix3 h x y) = (prob (qs P) (ks P) B h x y : EReal) := by
  obtain ⟨m, hm, he, hz⟩ := exps_ref hP hB h x
  have hy := he y
  have hp := total_pos (qs P) (ks P) B h x
  pointwise [val_main_v49, val_main_v48, val_main_v47]
  rw [hy, hz, div_real _ (mul_pos hp hm).ne', mul_div_mul_right _ _ hm.ne']
  rfl

include hP in
theorem v_ref (x : Fin 16384) (h : Fin 8) (d : Fin 64) : val_main_v50 (F := Ideal) x0 (ix3 x h d) = (vs P x h d : EReal) := by
  pointwise [val_main_v50, val_main_v2]; exact hP _ _

include hP hB in
theorem y_out (x : Fin 16384) (j : Fin 512) : val_main_v54 (F := Ideal) x0 x1 (ix2 x j)
    = ((∑ y, prob (qs P) (ks P) B ⟨j.val / 64, by omega⟩ x y * vs P y ⟨j.val / 64, by omega⟩ ⟨j.val % 64, by omega⟩ : ℝ) : EReal) := by
  have h1 := prob_ref hP hB
  have h2 := v_ref hP
  pointwise [val_main_v54, val_main_v53, val_main_v52, val_main_v51]
  simp only [h1, h2, ← EReal.coe_mul, coe_sum]
  exact congrArg Real.toEReal (Finset.sum_congr rfl fun y _ => mul_comm _ _)

/-- A buffer of a device's TensorCore. -/
abbrev at_ (m : (ℓ : Loc nD τ sig) → Buf (Elt Ideal) ℓ) (c : Dev nD) (b : Ref sig .tc) : Buf (Elt Ideal) ((c.tc : Thread nD τ).loc b) :=
  m ((c.tc : Thread nD τ).loc b)

/-- The reference's run: its result is the named value, its arguments end unchanged and it has no semaphore. -/
theorem ref_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      at_ r.2.mem c main_v54 = val_main_v54 (F := Ideal) (at_ m c main_arg0) (at_ m c main_arg1)
      ∧ at_ r.2.mem c main_arg0 = at_ m c main_arg0
      ∧ at_ r.2.mem c main_arg1 = at_ m c main_arg1) ∧ r.2.sem = fun _ => 0 :=
  (θ_run _ _ _).mono (fun r h => And.intro (fun c => ⟨(h c).1.trans (val_main_v54_eq _ c), (h c).2.1, (h c).2.2⟩)
    (sem_eq_zero_of_no_sems (by decide) r.2)) (Value.run m ρ)

end Cert.AttfRefIdeal
-- ==== Proof.Attf.Claim.lean ====
module
public import proofs.«01_k».proof.Defs
public import proofs.«01_k».proof.Proof.Gen.Attf.Frame
public import proofs.«01_k».proof.Proof.Gen.Pre_finite_attf
public import proofs.«01_k».proof.Proof.Attf.Run
public import proofs.«01_k».proof.Proof.Gen.AttfRefIdeal.Run
public import proofs.«01_k».proof.Proof.Attf.Ref

/-! The claims about the spatial gating: its frames, the two named constants, and that the two calls' results are the
    reference's at finite arguments. -/

@[expose] public section

set_option maxRecDepth 16384

noncomputable section

namespace Cert.AttfClaim

open Idealize.ShloMosaic Idealize.ShloMosaic.TcCoe Idealize.ShloMosaic.Tactic Idealize.SL.Sem Cert.Reals

/-- The named constant, the mask, is minus infinity where numbers are exact. -/
theorem preserves : Cert.preserves_Attf_AttfIdeal :=
  IdealRules.named_const.statement Cert.AttfIdeal.κ "mask" .f32 0xF149F2CA#32 ⊥ rfl

open Cert.Pre_finite_attf in
/-- Where the precondition holds the arguments are real numbers. -/
theorem finite_of_pre {x0 : FVec Ideal S16384x1536 .f32} {x1 : FVec Ideal S8x320 .f32} (h : fn x0 x1 = fun _ => 1#1) :
    x0 = (fun i => ((EReal.toReal (x0 i) : ℝ) : EReal)) ∧ x1 = (fun i => ((EReal.toReal (x1 i) : ℝ) : EReal)) := by
  have : Subsingleton S_.Idx := ⟨fun _ _ => funext fun a => a.elim0⟩
  have h := congrFun h (fun a => a.elim0)
  dsimp only [fn] at h
  obtain ⟨h0, h1⟩ := and_one h
  exact ⟨real_of_all _ _ (fun _ => lit_inf) _ _ _ _ h0, real_of_all _ _ (fun _ => lit_inf) _ _ _ _ h1⟩

/-- The reference leaves its arguments as they were. -/
theorem frame_ref (m : (ℓ : Loc AttfRefIdeal.nD AttfRefIdeal.τ AttfRefIdeal.sig) → Buf (Elt Ideal) ℓ)
    (ρ : Dev AttfRefIdeal.nD → PrngReg) :
    θ_run (AttfRefIdeal.defs (F := Ideal)) (onTc (τ := AttfRefIdeal.τ) (AttfRefIdeal.main (F := Ideal))) ⟨m, fun _ => 0, ρ⟩
      (fun r => (∀ c : Dev AttfRefIdeal.nD,
        r.2.mem ((c.tc : Thread AttfRefIdeal.nD AttfRefIdeal.τ).loc AttfRefIdeal.main_arg0) = m ((c.tc : Thread AttfRefIdeal.nD AttfRefIdeal.τ).loc AttfRefIdeal.main_arg0)
        ∧ r.2.mem ((c.tc : Thread AttfRefIdeal.nD AttfRefIdeal.τ).loc AttfRefIdeal.main_arg1) = m ((c.tc : Thread AttfRefIdeal.nD AttfRefIdeal.τ).loc AttfRefIdeal.main_arg1))
        ∧ r.2.sem = fun _ => 0) :=
  (θ_run _ _ _).mono (fun _ h => ⟨fun c => (h.1 c).2, h.2⟩) (AttfRefIdeal.ref_run m ρ)

theorem algebraic : Cert.algebraic_AttfIdeal_AttfRefIdeal_pre_finite_attf := by
  intro m g m' g' hpre hargs
  refine ⟨fun c => AttfIdeal.Gen.W7 m g c AttfIdeal.main_v16_0, ?_, ?_⟩
  · refine (θ_run _ _ _).mono (fun r h c => ?_) (AttfIdeal.run_contents m g)
    have hm := fun b hb => h c (Proc.devRef .tc b) (AttfIdeal.Gen.mem_uc b hb)
    exact ⟨hm _ (by decide), (hm _ (by decide)).trans (AttfIdeal.Gen.W7_main_arg0 m g c),
      (hm _ (by decide)).trans (AttfIdeal.Gen.W7_main_arg1 m g c)⟩
  · refine (θ_run _ _ _).mono (fun r h c => ?_) (AttfRefIdeal.ref_run m' g')
    obtain ⟨a0, a1⟩ := hargs c
    obtain ⟨f0, f1⟩ := finite_of_pre (hpre c)
    have H0 := fun r l => congrFun f0 (ix2 r l)
    have H1 := fun h r => congrFun f1 (ix2 h r)
    refine ⟨(h.1 c).1.trans ?_, (h.1 c).2⟩
    dsimp only [AttfRefIdeal.at_]
    rw [a0, a1, AttfIdeal.w7_y m g c H0 H1]
    funext i; rw [eq_ix2 i]
    exact AttfRefIdeal.y_out H0 H1 _ _

end Cert.AttfClaim
-- ==== Proof.Ffn.Spec.lean ====
module
public import proofs.«01_k».proof.Proof.Reals

/-! The squared-ReLU block and its gradients over the reals: `h + max (norm h · g · W₁) 0 ² · W₂`. -/

@[expose] public section

noncomputable section

namespace Cert.FfnSpec

open Idealize.ShloMosaic Cert.Reals

variable (H : Fin 16384 → Fin 1024 → ℝ) (g : Fin 1024 → ℝ) (W₁ : Fin 1024 → Fin 4096 → ℝ) (W₂ : Fin 4096 → Fin 1024 → ℝ)
  (D : Fin 16384 → Fin 1024 → ℝ)

/-- The normalised row times the norm's weight. -/
def hn (r : Fin 16384) (l : Fin 1024) : ℝ := H r l * rs (H r) * g l
/-- The argument of the squared ReLU. -/
def pre (r : Fin 16384) (j : Fin 4096) : ℝ := ∑ x, hn H g r x * W₁ x j
def ff (r : Fin 16384) (j : Fin 4096) : ℝ := max (pre H g W₁ r j) 0 * max (pre H g W₁ r j) 0
def out (r : Fin 16384) (l : Fin 1024) : ℝ := H r l + ∑ j, ff H g W₁ r j * W₂ j l
/-- The gradient at the argument of the squared ReLU. -/
def dpre (r : Fin 16384) (j : Fin 4096) : ℝ := (∑ l, D r l * W₂ j l) * (2 * max (pre H g W₁ r j) 0)
/-- The gradient at the norm's result. -/
def dn (r : Fin 16384) (k : Fin 1024) : ℝ := ∑ j, dpre H g W₁ W₂ D r j * W₁ k j
def dh (r : Fin 16384) (k : Fin 1024) : ℝ := D r k + rmsBack (H r) (fun l => dn H g W₁ W₂ D r l * g l) k
def dg (l : Fin 1024) : ℝ := ∑ r, dn H g W₁ W₂ D r l * (H r l * rs (H r))

/-- The four quarters of the 4096 columns. -/
def col (q : Fin 4) (k : Fin 1024) : Fin 4096 := ⟨q.val * 1024 + k.val, by omega⟩

theorem sum_col (f : Fin 4096 → ℝ) : ∑ k, f (col 0 k) + ∑ k, f (col 1 k) + ∑ k, f (col 2 k) + ∑ k, f (col 3 k) = ∑ j, f j := by
  rw [← sum_rows col (by norm_num) (fun _ _ => rfl) f, Fin.sum_univ_four]

theorem exists_col (j : Fin 4096) : ∃ q k, j = col q k :=
  ⟨⟨j.val / 1024, by omega⟩, ⟨j.val % 1024, by omega⟩, Fin.ext (by show j.val = j.val / 1024 * 1024 + j.val % 1024; omega)⟩

theorem max_coe (x : ℝ) : max (x : EReal) 0 = ((max x 0 : ℝ) : EReal) := by
  rw [← EReal.coe_zero]; exact (EReal.coe_strictMono.monotone.map_max).symm

theorem lit_two : (Ideal.ofBits .f32 1073741824#32 : EReal) = ((2 : ℝ) : EReal) := by
  simp [Ideal.ofBits, Ideal.ieee, -EReal.coe_mul]; norm_num

/-- The derivative of the squared ReLU vanishes where its argument is not positive. -/
theorem masked (x y : ℝ) : (if 0 < x then ((y * (2 * max x 0) : ℝ) : EReal) else 0) = ((y * (2 * max x 0) : ℝ) : EReal) := by
  split_ifs with h
  · rfl
  · rw [max_eq_right (not_lt.mp h)]; simp

end Cert.FfnSpec
-- ==== Proof.Ffn.Blocks.lean ====
module
public import proofs.«01_k».proof.Proof.Gen.FfnIdeal.Frame
public import proofs.«01_k».proof.Proof.Ffn.Spec

/-! What one grid point of the two calls computes from its blocks, at finite blocks. The weights and the argument of the squared
    ReLU come in quarters of 1024 columns. -/

@[expose] public section

set_option maxRecDepth 16384

noncomputable section

namespace Cert.FfnIdeal

open Idealize.ShloMosaic Idealize.ShloMosaic.TcCoe Idealize.ShloMosaic.Tactic Cert.Reals
open Gen FfnSpec

variable {H : Fin 16384 → Fin 1024 → ℝ} {g : Fin 1024 → ℝ} {W₁ : Fin 1024 → Fin 4096 → ℝ} {W₂ : Fin 4096 → Fin 1024 → ℝ}
  {D : Fin 16384 → Fin 1024 → ℝ}
  {g1 : FVec Ideal S1x1024 .f32} {a b : Fin 4 → FVec Ideal S1024x1024 .bf16}
  (hg : ∀ l, g1 (ix2 0 l) = (g l : EReal)) (ha : ∀ q r k, a q (ix2 r k) = (W₁ r (col q k) : EReal))
  (hb : ∀ q k l, b q (ix2 k l) = (W₂ (col q k) l : EReal))

section Forward

variable {h : FVec Ideal S512x1024 .f32} {row : Fin 512 → Fin 16384} (hh : ∀ r l, h (ix2 r l) = (H (row r) l : EReal))

include hh hg in
theorem hn_block (r : Fin 512) (l : Fin 1024) : k0_pay1 (F := Ideal) h g1 (ix2 r l) = (hn H g (row r) l : EReal) := by
  pointwise [k0_pay1]
  simp only [hh, hg, ← EReal.coe_mul, coe_sum, lit_1024, lit_eps, div_real _ (show (1024 : ℝ) ≠ 0 by norm_num),
    ← EReal.coe_add, rsqrt_ms]
  rfl

include hh hg ha in
theorem pre0_block (r : Fin 512) (k : Fin 1024) : k0_pay2 (F := Ideal) h g1 (a 0) (ix2 r k) = (pre H g W₁ (row r) (col 0 k) : EReal) := by
  have := hn_block hg hh
  pointwise [k0_pay2]
  simp only [this, ha, ← EReal.coe_mul, coe_sum]
  rfl

include hh hg ha in
theorem pre1_block (r : Fin 512) (k : Fin 1024) : k0_pay4 (F := Ideal) h g1 (a 1) (ix2 r k) = (pre H g W₁ (row r) (col 1 k) : EReal) := by
  have := hn_block hg hh
  pointwise [k0_pay4]
  simp only [this, ha, ← EReal.coe_mul, coe_sum]
  rfl

include hh hg ha in
theorem pre2_block (r : Fin 512) (k : Fin 1024) :
    k0_pay5 (F := Ideal) (k0_pay1 h g1) (a 2) (ix2 r k) = (pre H g W₁ (row r) (col 2 k) : EReal) := by
  have := hn_block hg hh
  pointwise [k0_pay5]
  simp only [this, ha, ← EReal.coe_mul, coe_sum]
  rfl

include hh hg ha in
theorem pre3_block (r : Fin 512) (k : Fin 1024) :
    k0_pay6 (F := Ideal) (k0_pay1 h g1) (a 3) (ix2 r k) = (pre H g W₁ (row r) (col 3 k) : EReal) := by
  have := hn_block hg hh
  pointwise [k0_pay6]
  simp only [this, ha, ← EReal.coe_mul, coe_sum]
  rfl

include hh hg ha hb in
theorem out_block (r : Fin 512) (l : Fin 1024) :
    k0_pay7 (F := Ideal) (k0_pay1 h g1) (k0_pay3 h g1 (a 0) (b 0)) (k0_pay4 h g1 (a 1)) (b 1) (a 2) (b 2) (a 3) (b 3) (ix2 r l)
      = (out H g W₁ W₂ (row r) l : EReal) := by
  have h0 := pre0_block hg ha hh
  have h1 := pre1_block hg ha hh
  have h2 := pre2_block hg ha hh
  have h3 := pre3_block hg ha hh
  pointwise [k0_pay7, k0_pay3]
  simp only [h0, h1, h2, h3, hh, hb, max_coe, ← EReal.coe_mul, coe_sum, ← EReal.coe_add]
  refine congrArg Real.toEReal ?_
  unfold out; rw [← sum_col]; unfold ff; ring

end Forward

section Backward

variable {h d : FVec Ideal S256x1024 .f32} {p : Fin 4 → FVec Ideal S256x1024 .f32} {row : Fin 256 → Fin 16384}
  (hh : ∀ r l, h (ix2 r l) = (H (row r) l : EReal)) (hd : ∀ r l, d (ix2 r l) = (D (row r) l : EReal))
  (hp : ∀ q r k, p q (ix2 r k) = (pre H g W₁ (row r) (col q k) : EReal))

/-- The literal zero that the second quarter's maximum takes. -/
abbrev zero : Ideal .f32 := FloatOps.ofBits (F := Ideal) .f32 0x00000000#32

theorem zero_eq : zero = (0 : EReal) := by have := lit_zero_add 0; rwa [add_zero] at this

/-- A quarter of the block of squares. -/
def ffP (p : Fin 4 → FVec Ideal S256x1024 .f32) : Fin 4 → FVec Ideal S256x1024 .bf16 :=
  ![k1_pay6 (p 0), k1_pay11 (k1_pay9 (p 1)) zero, k1_pay15 (p 2), k1_pay18 (p 3)]

/-- A quarter of the gradient at the argument. -/
def dpreP (d : FVec Ideal S256x1024 .f32) (p : Fin 4 → FVec Ideal S256x1024 .f32) (b : Fin 4 → FVec Ideal S1024x1024 .bf16) :
    Fin 4 → FVec Ideal S256x1024 .bf16 :=
  ![k1_pay7 d (p 0) (b 0), k1_pay12 (k1_pay4 d) (k1_pay9 (p 1)) zero (b 1), k1_pay16 (k1_pay4 d) (p 2) (b 2),
    k1_pay19 (k1_pay4 d) (p 3) (b 3)]

/-- The gradient at the norm's result, after the first two quarters. -/
def halfP (d : FVec Ideal S256x1024 .f32) (p : Fin 4 → FVec Ideal S256x1024 .f32) (a b : Fin 4 → FVec Ideal S1024x1024 .bf16) :
    FVec Ideal S256x1024 .f32 :=
  k1_pay13 (k1_pay4 d) (k1_pay8 d (p 0) (b 0) (a 0)) (k1_pay9 (p 1)) zero (b 1) (a 1)

/-- The gradient at the norm's result. -/
def dnP (d : FVec Ideal S256x1024 .f32) (p : Fin 4 → FVec Ideal S256x1024 .f32) (a b : Fin 4 → FVec Ideal S1024x1024 .bf16) :
    FVec Ideal S256x1024 .f32 :=
  k1_pay20 (k1_pay4 d) (halfP d p a b) (k1_pay16 (k1_pay4 d) (p 2) (b 2)) (a 2) (p 3) (b 3) (a 3)

/-- The gradient of the rows. -/
def dhP (d h : FVec Ideal S256x1024 .f32) (p : Fin 4 → FVec Ideal S256x1024 .f32) (g1 : FVec Ideal S1x1024 .f32)
    (a b : Fin 4 → FVec Ideal S1024x1024 .bf16) : FVec Ideal S256x1024 .f32 :=
  k1_pay1 d (k1_pay21 h) (k1_pay22 h)
    (k1_pay23 (k1_pay4 d) (halfP d p a b) (k1_pay16 (k1_pay4 d) (p 2) (b 2)) (a 2) (p 3) (b 3) (a 3) g1)
    (k1_pay24 h (k1_pay4 d) (halfP d p a b) (k1_pay16 (k1_pay4 d) (p 2) (b 2)) (a 2) (p 3) (b 3) (a 3) g1)

/-- The gradient of the norm's weight, added to what is there. -/
def dgP (d h : FVec Ideal S256x1024 .f32) (p : Fin 4 → FVec Ideal S256x1024 .f32)
    (a b : Fin 4 → FVec Ideal S1024x1024 .bf16) (o : FVec Ideal S1x1024 .f32) : FVec Ideal S1x1024 .f32 :=
  k1_pay2 (dnP d p a b) (k1_pay22 h) o

include hp in
theorem ff_block (q : Fin 4) (r : Fin 256) (k : Fin 1024) : ffP p q (ix2 r k) = (ff H g W₁ (row r) (col q k) : EReal) :=
  match q with
  | 0 => by
    show k1_pay6 (F := Ideal) (p 0) (ix2 r k) = _
    pointwise [k1_pay6, k1_pay5]; simp only [hp, max_coe, ← EReal.coe_mul]; rfl
  | 1 => by
    show k1_pay11 (F := Ideal) (k1_pay9 (p 1)) zero (ix2 r k) = _
    pointwise [k1_pay11, k1_pay10, k1_pay9]; simp only [hp, max_coe, ← EReal.coe_mul]; rfl
  | 2 => by
    show k1_pay15 (F := Ideal) (p 2) (ix2 r k) = _
    pointwise [k1_pay15, k1_pay14]; simp only [hp, max_coe, ← EReal.coe_mul]; rfl
  | 3 => by
    show k1_pay18 (F := Ideal) (p 3) (ix2 r k) = _
    pointwise [k1_pay18, k1_pay17]; simp only [hp, max_coe, ← EReal.coe_mul]; rfl

include hp hd hb in
theorem dpre_block (q : Fin 4) (r : Fin 256) (k : Fin 1024) : dpreP d p b q (ix2 r k) = (dpre H g W₁ W₂ D (row r) (col q k) : EReal) :=
  match q with
  | 0 => by
    show k1_pay7 (F := Ideal) d (p 0) (b 0) (ix2 r k) = _
    pointwise [k1_pay7, k1_pay5, k1_pay4]; simp only [hp, hd, hb, lit_two, max_coe, ← EReal.coe_mul, coe_sum]; rfl
  | 1 => by
    show k1_pay12 (F := Ideal) (k1_pay4 d) (k1_pay9 (p 1)) zero (b 1) (ix2 r k) = _
    pointwise [k1_pay12, k1_pay10, k1_pay9, k1_pay4]; simp only [hp, hd, hb, lit_two, max_coe, ← EReal.coe_mul, coe_sum]; rfl
  | 2 => by
    show k1_pay16 (F := Ideal) (k1_pay4 d) (p 2) (b 2) (ix2 r k) = _
    pointwise [k1_pay16, k1_pay14, k1_pay4]; simp only [hp, hd, hb, lit_two, max_coe, ← EReal.coe_mul, coe_sum]; rfl
  | 3 => by
    show k1_pay19 (F := Ideal) (k1_pay4 d) (p 3) (b 3) (ix2 r k) = _
    pointwise [k1_pay19, k1_pay17, k1_pay4]; simp only [hp, hd, hb, lit_two, max_coe, ← EReal.coe_mul, coe_sum]; rfl

include hp hd hb ha in
theorem dn_block (r : Fin 256) (l : Fin 1024) : dnP d p a b (ix2 r l) = (dn H g W₁ W₂ D (row r) l : EReal) := by
  have h0 : ∀ r k, k1_pay7 (F := Ideal) d (p 0) (b 0) (ix2 r k) = _ := dpre_block hb hd hp 0
  have h1 : ∀ r k, k1_pay12 (F := Ideal) (k1_pay4 d) (k1_pay9 (p 1)) zero (b 1) (ix2 r k) = _ := dpre_block hb hd hp 1
  have h2 : ∀ r k, k1_pay16 (F := Ideal) (k1_pay4 d) (p 2) (b 2) (ix2 r k) = _ := dpre_block hb hd hp 2
  have h3 : ∀ r k, k1_pay19 (F := Ideal) (k1_pay4 d) (p 3) (b 3) (ix2 r k) = _ := dpre_block hb hd hp 3
  rw [zero_eq] at h1
  unfold dnP halfP
  pointwise [k1_pay20, k1_pay13, k1_pay8]
  simp only [h0, h1, h2, h3, ha, zero_add, ← EReal.coe_mul, coe_sum, ← EReal.coe_add]
  refine congrArg Real.toEReal ?_
  unfold dn; rw [← sum_col]

include hh hp hd hb ha hg in
theorem dh_block (r : Fin 256) (l : Fin 1024) : dhP d h p g1 a b (ix2 r l) = (dh H g W₁ W₂ D (row r) l : EReal) := by
  have hn : ∀ r l, k1_pay20 (F := Ideal) (k1_pay4 d) (halfP d p a b) (k1_pay16 (k1_pay4 d) (p 2) (b 2)) (a 2) (p 3) (b 3) (a 3) (ix2 r l) = _ :=
    dn_block ha hb hd hp
  unfold dhP
  pointwise [k1_pay1, k1_pay21, k1_pay22, k1_pay23, k1_pay24]
  simp only [hn, hh, hg, hd, ← EReal.coe_mul, coe_sum, lit_1024, lit_eps, div_real _ (show (1024 : ℝ) ≠ 0 by norm_num),
    ← EReal.coe_add, rsqrt_ms, ← EReal.coe_sub]
  rfl

include hh hp hd hb ha in
theorem dg_block (o : FVec Ideal S1x1024 .f32) (l : Fin 1024) : dgP d h p a b o (ix2 0 l)
      = o (ix2 0 l) + ((∑ r, dn H g W₁ W₂ D (row r) l * (H (row r) l * rs (H (row r))) : ℝ) : EReal) := by
  have hn := dn_block ha hb hd hp
  unfold dgP
  pointwise [k1_pay2, k1_pay21, k1_pay22]
  simp only [hn, hh, ← EReal.coe_mul, coe_sum, lit_1024, lit_eps, div_real _ (show (1024 : ℝ) ≠ 0 by norm_num),
    ← EReal.coe_add, rsqrt_ms]

end Backward

end Cert.FfnIdeal
-- ==== Proof.Ffn.Cols.lean ====
module
public import proofs.«01_k».proof.Proof.Ffn.Blocks

/-! The quarters of a block of 4096 columns or rows, and a block that is stored quarter by quarter. -/

@[expose] public section

set_option maxRecDepth 16384

noncomputable section

namespace Cert.FfnIdeal

open Idealize.ShloMosaic Idealize.ShloMosaic.TcCoe Idealize.ShloMosaic.Tactic Cert.Reals
open Gen FfnSpec

section

variable {n : ℕ} (o : ℕ)

theorem col_emb (h : ∀ x, (![0, o] : Fin 2 → ℕ) x + (![n, 1024] : Fin 2 → ℕ) x ≤ (![n, 4096] : Fin 2 → ℕ) x) (q : Fin 4) (r : Fin n)
    (k : Fin 1024) (ho : o = q.val * 1024) :
    (Rect.unit (s := ⟨2, ![n, 4096]⟩) ![0, o] ![n, 1024] h).emb (ix2 r k) = ix2 r (col q k) := by
  funext x; apply Fin.ext
  fin_cases x
  · show 0 + 1 * r.val = r.val; omega
  · show o + 1 * k.val = q.val * 1024 + k.val; omega

theorem row_emb (h : ∀ x, (![o, 0] : Fin 2 → ℕ) x + (![1024, n] : Fin 2 → ℕ) x ≤ (![4096, n] : Fin 2 → ℕ) x) (q : Fin 4) (k : Fin 1024)
    (r : Fin n) (ho : o = q.val * 1024) :
    (Rect.unit (s := ⟨2, ![4096, n]⟩) ![o, 0] ![1024, n] h).emb (ix2 k r) = ix2 (col q k) r := by
  funext x; apply Fin.ext
  fin_cases x
  · show o + 1 * k.val = q.val * 1024 + k.val; omega
  · show 0 + 1 * r.val = r.val; omega

theorem col_out (h : ∀ x, (![0, o] : Fin 2 → ℕ) x + (![n, 1024] : Fin 2 → ℕ) x ≤ (![n, 4096] : Fin 2 → ℕ) x) (q : Fin 4) (r : Fin n)
    (k : Fin 1024) (ho : o + 1024 ≤ q.val * 1024 ∨ q.val * 1024 + 1024 ≤ o) :
    ix2 r (col q k) ∉ (Rect.unit (s := ⟨2, ![n, 4096]⟩) ![0, o] ![n, 1024] h).set := by
  intro hm
  rw [Rect.mem_set_unit] at hm
  obtain ⟨h1, h2⟩ : o ≤ q.val * 1024 + k.val ∧ q.val * 1024 + k.val < o + 1024 := hm 1
  omega

end

section

variable {n : ℕ} {e : EltTy} (o : ℕ) (h : ∀ x, (![0, o] : Fin 2 → ℕ) x + (![n, 1024] : Fin 2 → ℕ) x ≤ (![n, 4096] : Fin 2 → ℕ) x)
  (p : Vec Ideal ⟨2, ![n, 1024]⟩ e) (L : List (View.Piece (Elt Ideal) ⟨2, ![n, 4096]⟩ e)) (q : Fin 4) (r : Fin n) (k : Fin 1024)

/-- A store of the columns from `o` on. -/
abbrev piece : View.Piece (Elt Ideal) ⟨2, ![n, 4096]⟩ e := ⟨Rect.unit (s := ⟨2, ![n, 4096]⟩) ![0, o] ![n, 1024] h, p⟩

theorem hit (ho : o = q.val * 1024) : View.canon (piece o h p :: L) (ix2 r (col q k)) = p (ix2 r k) :=
  (congrArg (View.canon _) (col_emb o h q r k ho).symm).trans (View.canon_cons_emb (Rect.unit (s := ⟨2, ![n, 4096]⟩) ![0, o] ![n, 1024] h) p L (ix2 r k))

theorem skip (ho : o + 1024 ≤ q.val * 1024 ∨ q.val * 1024 + 1024 ≤ o) :
    View.canon (piece o h p :: L) (ix2 r (col q k)) = View.canon L (ix2 r (col q k)) :=
  View.canon_cons_of_not_mem (piece o h p) L (col_out o h q r k ho)

end

/-- Four stores of a quarter each, read at an element. -/
theorem canon_cols {n : ℕ} {e : EltTy} (i0 i1 i2 i3) (p0 p1 p2 p3 : Vec Ideal ⟨2, ![n, 1024]⟩ e) (q : Fin 4) (r : Fin n) (k : Fin 1024) :
    View.canon [piece 3072 i3 p3, piece 2048 i2 p2, piece 1024 i1 p1, piece 0 i0 p0] (ix2 r (col q k))
      = (![p0, p1, p2, p3] : Fin 4 → Vec Ideal ⟨2, ![n, 1024]⟩ e) q (ix2 r k) :=
  match q with
  | 0 => (skip 3072 i3 p3 _ 0 r k (by decide)).trans ((skip 2048 i2 p2 _ 0 r k (by decide)).trans
      ((skip 1024 i1 p1 _ 0 r k (by decide)).trans (hit 0 i0 p0 _ 0 r k rfl)))
  | 1 => (skip 3072 i3 p3 _ 1 r k (by decide)).trans ((skip 2048 i2 p2 _ 1 r k (by decide)).trans (hit 1024 i1 p1 _ 1 r k rfl))
  | 2 => (skip 3072 i3 p3 _ 2 r k (by decide)).trans (hit 2048 i2 p2 _ 2 r k rfl)
  | 3 => hit 3072 i3 p3 _ 3 r k rfl

end Cert.FfnIdeal
-- ==== Proof.Ffn.Outs.lean ====
module
public import proofs.«01_k».proof.Proof.Ffn.Cols

/-! What a grid point leaves in the output blocks, as terms of the blocks that it loads. -/

@[expose] public section

set_option maxRecDepth 16384

noncomputable section

namespace Cert.FfnIdeal

open Idealize.ShloMosaic Idealize.ShloMosaic.TcCoe Idealize.ShloMosaic.Tactic Cert.Reals
open Gen FfnSpec

/-- The quarters of the first weight's columns. -/
def wide (x : FVec Ideal S1024x4096 .bf16) : Fin 4 → FVec Ideal S1024x1024 .bf16 :=
  ![View.ld (Val := Elt Ideal) (e' := .bf16) x r0_2, View.ld (Val := Elt Ideal) (e' := .bf16) x r0_5,
    View.ld (Val := Elt Ideal) (e' := .bf16) x r0_8, View.ld (Val := Elt Ideal) (e' := .bf16) x r0_11]

/-- The quarters of the second weight's rows. -/
def tall (x : FVec Ideal S4096x1024 .bf16) : Fin 4 → FVec Ideal S1024x1024 .bf16 :=
  ![View.ld (Val := Elt Ideal) (e' := .bf16) x r0_4, View.ld (Val := Elt Ideal) (e' := .bf16) x r0_7,
    View.ld (Val := Elt Ideal) (e' := .bf16) x r0_10, View.ld (Val := Elt Ideal) (e' := .bf16) x r0_13]

/-- The quarters of the columns of a block of the squared ReLU's argument. -/
def parts (x : FVec Ideal S256x4096 .f32) : Fin 4 → FVec Ideal S256x1024 .f32 :=
  ![View.ld (Val := Elt Ideal) (e' := .f32) x (Rect.unit (s := S256x4096) ![0, 0] S256x1024.size inb_S256x4096_S256x1024_0_0),
    View.ld (Val := Elt Ideal) (e' := .f32) x (Rect.unit (s := S256x4096) ![0, 1024] S256x1024.size inb_S256x4096_S256x1024_0_1024),
    View.ld (Val := Elt Ideal) (e' := .f32) x (Rect.unit (s := S256x4096) ![0, 2048] S256x1024.size inb_S256x4096_S256x1024_0_2048),
    View.ld (Val := Elt Ideal) (e' := .f32) x (Rect.unit (s := S256x4096) ![0, 3072] S256x1024.size inb_S256x4096_S256x1024_0_3072)]

theorem wide_at (x : FVec Ideal S1024x4096 .bf16) (q : Fin 4) (r k : Fin 1024) : wide x q (ix2 r k) = x (ix2 r (col q k)) :=
  match q with
  | 0 => congrArg x (col_emb 0 inb_S1024x4096_S1024x1024_0_0 0 r k rfl)
  | 1 => congrArg x (col_emb 1024 inb_S1024x4096_S1024x1024_0_1024 1 r k rfl)
  | 2 => congrArg x (col_emb 2048 inb_S1024x4096_S1024x1024_0_2048 2 r k rfl)
  | 3 => congrArg x (col_emb 3072 inb_S1024x4096_S1024x1024_0_3072 3 r k rfl)

theorem tall_at (x : FVec Ideal S4096x1024 .bf16) (q : Fin 4) (k l : Fin 1024) : tall x q (ix2 k l) = x (ix2 (col q k) l) :=
  match q with
  | 0 => congrArg x (row_emb 0 inb_S4096x1024_S1024x1024_0_0 0 k l rfl)
  | 1 => congrArg x (row_emb 1024 inb_S4096x1024_S1024x1024_1024_0 1 k l rfl)
  | 2 => congrArg x (row_emb 2048 inb_S4096x1024_S1024x1024_2048_0 2 k l rfl)
  | 3 => congrArg x (row_emb 3072 inb_S4096x1024_S1024x1024_3072_0 3 k l rfl)

theorem parts_at (x : FVec Ideal S256x4096 .f32) (q : Fin 4) (r : Fin 256) (k : Fin 1024) : parts x q (ix2 r k) = x (ix2 r (col q k)) :=
  match q with
  | 0 => congrArg x (col_emb 0 inb_S256x4096_S256x1024_0_0 0 r k rfl)
  | 1 => congrArg x (col_emb 1024 inb_S256x4096_S256x1024_0_1024 1 r k rfl)
  | 2 => congrArg x (col_emb 2048 inb_S256x4096_S256x1024_0_2048 2 r k rfl)
  | 3 => congrArg x (col_emb 3072 inb_S256x4096_S256x1024_0_3072 3 r k rfl)

variable (V : (c : Dev nD) → (b : Ref sig .tc) → Buf (Elt Ideal) ((c : Thread nD τ).loc b)) (c : Dev nD)

section Forward

variable (t : Fin cfg0.N)

theorem pre_at (q : Fin 4) (r : Fin 512) (k : Fin 1024) :
    out0_5 (iblk0 V c 0 t) (iblk0 V c 1 t) (iblk0 V c 2 t) (iblk0 V c 3 t) (ix2 r (col q k))
      = (![k0_pay2 (iblk0 V c 0 t) (iblk0 V c 1 t) (wide (iblk0 V c 2 t) 0), k0_pay4 (iblk0 V c 0 t) (iblk0 V c 1 t) (wide (iblk0 V c 2 t) 1),
        k0_pay5 (k0_pay1 (iblk0 V c 0 t) (iblk0 V c 1 t)) (wide (iblk0 V c 2 t) 2),
        k0_pay6 (k0_pay1 (iblk0 V c 0 t) (iblk0 V c 1 t)) (wide (iblk0 V c 2 t) 3)] : Fin 4 → FVec Ideal S512x1024 .f32) q (ix2 r k) := by
  frame_out
  unfold k0_pay8
  simp only [ld_all]
  exact canon_cols _ _ _ _ _ _ _ _ q r k

theorem out_at : out0_6 (iblk0 V c 0 t) (iblk0 V c 1 t) (iblk0 V c 2 t) (iblk0 V c 3 t)
    = k0_pay7 (k0_pay1 (iblk0 V c 0 t) (iblk0 V c 1 t)) (k0_pay3 (iblk0 V c 0 t) (iblk0 V c 1 t) (wide (iblk0 V c 2 t) 0) (tall (iblk0 V c 3 t) 0))
      (k0_pay4 (iblk0 V c 0 t) (iblk0 V c 1 t) (wide (iblk0 V c 2 t) 1)) (tall (iblk0 V c 3 t) 1) (wide (iblk0 V c 2 t) 2)
      (tall (iblk0 V c 3 t) 2) (wide (iblk0 V c 2 t) 3) (tall (iblk0 V c 3 t) 3) := by
  frame_out
  unfold k0_pay8
  simp only [ld_all]
  rfl

end Forward

section Backward

variable (t : Fin cfg1.N)

theorem ff_A (h : t.val % 64 = 0) (q : Fin 4) (r : Fin 256) (k : Fin 1024) :
    (outsAt1 V c t.val t.isLt).2.1 (ix2 r (col q k)) = ffP (parts (iblk1 V c 2 t)) q (ix2 r k) := by
  rw [outsAt1_A V c t h]; frame_out
  repeat rw [Memref.IsWhole.read_unread]
  exact canon_cols _ _ _ _ _ _ _ _ q r k

theorem ff_B (h : ¬ t.val % 64 = 0) (q : Fin 4) (r : Fin 256) (k : Fin 1024) :
    (outsAt1 V c t.val t.isLt).2.1 (ix2 r (col q k)) = ffP (parts (iblk1 V c 2 t)) q (ix2 r k) := by
  rw [outsAt1_B V c t h]; frame_out
  repeat rw [Memref.IsWhole.read_unread]
  exact canon_cols _ _ _ _ _ _ _ _ q r k

theorem dpre_A (h : t.val % 64 = 0) (q : Fin 4) (r : Fin 256) (k : Fin 1024) :
    (outsAt1 V c t.val t.isLt).2.2.1 (ix2 r (col q k))
      = dpreP (iblk1 V c 0 t) (parts (iblk1 V c 2 t)) (tall (iblk1 V c 5 t)) q (ix2 r k) := by
  rw [outsAt1_A V c t h]; frame_out
  repeat rw [Memref.IsWhole.read_unread]
  repeat rw [ld_all]
  exact canon_cols _ _ _ _ _ _ _ _ q r k

theorem dpre_B (h : ¬ t.val % 64 = 0) (q : Fin 4) (r : Fin 256) (k : Fin 1024) :
    (outsAt1 V c t.val t.isLt).2.2.1 (ix2 r (col q k))
      = dpreP (iblk1 V c 0 t) (parts (iblk1 V c 2 t)) (tall (iblk1 V c 5 t)) q (ix2 r k) := by
  rw [outsAt1_B V c t h]; frame_out
  repeat rw [Memref.IsWhole.read_unread]
  repeat rw [ld_all]
  exact canon_cols _ _ _ _ _ _ _ _ q r k

theorem dh_A (h : t.val % 64 = 0) : (outsAt1 V c t.val t.isLt).2.2.2.1
    = dhP (iblk1 V c 0 t) (iblk1 V c 1 t) (parts (iblk1 V c 2 t)) (iblk1 V c 3 t) (wide (iblk1 V c 4 t)) (tall (iblk1 V c 5 t)) := by
  rw [outsAt1_A V c t h]; frame_out
  repeat rw [Memref.IsWhole.read_unread]
  repeat rw [ld_all]
  rfl

theorem dh_B (h : ¬ t.val % 64 = 0) : (outsAt1 V c t.val t.isLt).2.2.2.1
    = dhP (iblk1 V c 0 t) (iblk1 V c 1 t) (parts (iblk1 V c 2 t)) (iblk1 V c 3 t) (wide (iblk1 V c 4 t)) (tall (iblk1 V c 5 t)) := by
  rw [outsAt1_B V c t h]; frame_out
  repeat rw [Memref.IsWhole.read_unread]
  repeat rw [ld_all]
  rfl

theorem dg_A (h : t.val % 64 = 0) : (outsAt1 V c t.val t.isLt).2.2.2.2
    = dgP (iblk1 V c 0 t) (iblk1 V c 1 t) (parts (iblk1 V c 2 t)) (wide (iblk1 V c 4 t)) (tall (iblk1 V c 5 t)) k1_pay3 := by
  rw [outsAt1_A V c t h]; frame_out
  repeat rw [Memref.IsWhole.read_unread]
  repeat rw [ld_all]
  rfl

theorem dg_B (h : ¬ t.val % 64 = 0) : (outsAt1 V c t.val t.isLt).2.2.2.2
    = dgP (iblk1 V c 0 t) (iblk1 V c 1 t) (parts (iblk1 V c 2 t)) (wide (iblk1 V c 4 t)) (tall (iblk1 V c 5 t))
      (outsAt1 V c (t.val - 1) (Nat.lt_of_le_of_lt (Nat.sub_le _ _) t.isLt)).2.2.2.2 := by
  rw [outsAt1_B V c t h]; frame_out
  repeat rw [Memref.IsWhole.read_unread]
  repeat rw [ld_all]
  rfl

end Backward

end Cert.FfnIdeal
-- ==== Proof.Ffn.Arrays.lean ====
module
public import proofs.«01_k».proof.Proof.Ffn.Outs

/-! The arrays that the two calls leave, from the arrays they are entered with. -/

@[expose] public section

set_option maxRecDepth 16384

noncomputable section

namespace Cert.FfnIdeal

open Idealize.ShloMosaic Idealize.ShloMosaic.TcCoe Idealize.ShloMosaic.Tactic Cert.Reals
open Gen FfnSpec

variable {H : Fin 16384 → Fin 1024 → ℝ} {g : Fin 1024 → ℝ} {W₁ : Fin 1024 → Fin 4096 → ℝ} {W₂ : Fin 4096 → Fin 1024 → ℝ}
  {D : Fin 16384 → Fin 1024 → ℝ}
  (V : (c : Dev nD) → (b : Ref sig .tc) → Buf (Elt Ideal) ((c : Thread nD τ).loc b)) (c : Dev nD)

section Forward

variable (hh : ∀ r l, V c main_arg0 (ix2 r l) = (H r l : EReal)) (hg : ∀ l, V c main_v2 (ix2 0 l) = (g l : EReal))
  (hu : ∀ r j, V c main_v0 (ix2 r j) = (W₁ r j : EReal)) (hw : ∀ j l, V c main_v1 (ix2 j l) = (W₂ j l : EReal))

include hh in
theorem blk0_0 (t : Fin cfg0.N) (r : Fin 512) (l : Fin 1024) : iblk0 V c 0 t (ix2 r l) = (H (row t r) l : EReal) := by
  obtain ⟨e0, e1⟩ := (by decide +kernel : ∀ t : Fin cfg0.N, win0_0.index t 0 = t.val ∧ win0_0.index t 1 = 0) t
  rw [← hh]; blk_ext [iblk0, e0, e1, row]
include hg in
theorem blk0_1 (t : Fin cfg0.N) (l : Fin 1024) : iblk0 V c 1 t (ix2 0 l) = (g l : EReal) := by
  obtain ⟨e0, e1⟩ := (by decide +kernel : ∀ t : Fin cfg0.N, win0_1.index t 0 = 0 ∧ win0_1.index t 1 = 0) t
  rw [← hg]; blk_ext [iblk0, e0, e1]
include hu in
theorem blk0_2 (t : Fin cfg0.N) (r : Fin 1024) (l : Fin 4096) : iblk0 V c 2 t (ix2 r l) = (W₁ r l : EReal) := by
  obtain ⟨e0, e1⟩ := (by decide +kernel : ∀ t : Fin cfg0.N, win0_2.index t 0 = 0 ∧ win0_2.index t 1 = 0) t
  rw [← hu]; blk_ext [iblk0, e0, e1]
include hw in
theorem blk0_3 (t : Fin cfg0.N) (r : Fin 4096) (l : Fin 1024) : iblk0 V c 3 t (ix2 r l) = (W₂ r l : EReal) := by
  obtain ⟨e0, e1⟩ := (by decide +kernel : ∀ t : Fin cfg0.N, win0_3.index t 0 = 0 ∧ win0_3.index t 1 = 0) t
  rw [← hw]; blk_ext [iblk0, e0, e1]
include hu in
theorem wide0 (t : Fin cfg0.N) (q : Fin 4) (r k : Fin 1024) : wide (iblk0 V c 2 t) q (ix2 r k) = (W₁ r (col q k) : EReal) :=
  (wide_at _ q r k).trans (blk0_2 V c hu t r (col q k))
include hw in
theorem tall0 (t : Fin cfg0.N) (q : Fin 4) (k l : Fin 1024) : tall (iblk0 V c 3 t) q (ix2 k l) = (W₂ (col q k) l : EReal) :=
  (tall_at _ q k l).trans (blk0_3 V c hw t (col q k) l)

include hh hg hu in
theorem arr_pre : (dat0 (F := Ideal) V c).arrAt 5 cfg0.N = fun i => (pre H g W₁ (i 0) (i 1) : EReal) := by
  refine (dat0 V c).arrAt_eq_of_covers 5 _ (by decide +kernel) fun t hf y => ?_
  obtain ⟨e0, e1⟩ := (by decide +kernel : ∀ t : Fin cfg0.N, win0_5.index t 0 = t.val ∧ win0_5.index t 1 = 0) t
  obtain ⟨r, j, rfl⟩ : ∃ (r : Fin 512) (j : Fin 4096), y = ix2 r j := ⟨y 0, y 1, eq_ix2 y⟩
  obtain ⟨q, k, rfl⟩ := exists_col j
  refine at_place (fun r l => (pre H g W₁ r l : EReal)) (r := row t r) (l := col q k) ?_ ?_ ?_
  · blk_simp; rw [after0_5]
    refine (pre_at V c t q r k).trans ?_
    have h := blk0_0 V c hh t
    have g := blk0_1 V c hg t
    have a := wide0 V c hu t
    exact match q with
    | 0 => pre0_block g a h r k
    | 1 => pre1_block g a h r k
    | 2 => pre2_block g a h r k
    | 3 => pre3_block g a h r k
  · blk_simp [e0, e1, row]
  · blk_simp [e0, e1, row]

include hh hg hu hw in
theorem arr_out : (dat0 (F := Ideal) V c).arrAt 6 cfg0.N = fun i => (out H g W₁ W₂ (i 0) (i 1) : EReal) := by
  refine (dat0 V c).arrAt_eq_of_covers 6 _ (by decide +kernel) fun t hf y => ?_
  obtain ⟨e0, e1⟩ := (by decide +kernel : ∀ t : Fin cfg0.N, win0_6.index t 0 = t.val ∧ win0_6.index t 1 = 0) t
  obtain ⟨r, l, rfl⟩ : ∃ (r : Fin 512) (l : Fin 1024), y = ix2 r l := ⟨y 0, y 1, eq_ix2 y⟩
  refine at_place (fun r l => (out H g W₁ W₂ r l : EReal)) (r := row t r) (l := l) ?_ ?_ ?_
  · blk_simp; rw [after0_6, out_at]
    exact out_block (blk0_1 V c hg t) (wide0 V c hu t) (tall0 V c hw t) (blk0_0 V c hh t) r l
  · blk_simp [e0, e1, row]
  · blk_simp [e0, e1, row]

end Forward

section Backward

variable (hd : ∀ r l, V c main_arg4 (ix2 r l) = (D r l : EReal)) (hh : ∀ r l, V c main_arg0 (ix2 r l) = (H r l : EReal))
  (hp : ∀ r j, V c main_v3_1 (ix2 r j) = (pre H g W₁ r j : EReal)) (hg : ∀ l, V c main_v4 (ix2 0 l) = (g l : EReal))
  (hu : ∀ r j, V c main_v0 (ix2 r j) = (W₁ r j : EReal)) (hw : ∀ j l, V c main_v1 (ix2 j l) = (W₂ j l : EReal))

/-- Row `r` of block `t`, of blocks of 256 rows. -/
def row256 (t : Fin 64) (r : Fin 256) : Fin 16384 := ⟨t.val * 256 + r.val, by omega⟩

include hd in
theorem blk1_0 (t : Fin cfg1.N) (r : Fin 256) (l : Fin 1024) : iblk1 V c 0 t (ix2 r l) = (D (row256 t r) l : EReal) := by
  obtain ⟨e0, e1⟩ := (by decide +kernel : ∀ t : Fin cfg1.N, win1_0.index t 0 = t.val ∧ win1_0.index t 1 = 0) t
  rw [← hd]; blk_ext [iblk1, e0, e1, row256]
include hh in
theorem blk1_1 (t : Fin cfg1.N) (r : Fin 256) (l : Fin 1024) : iblk1 V c 1 t (ix2 r l) = (H (row256 t r) l : EReal) := by
  obtain ⟨e0, e1⟩ := (by decide +kernel : ∀ t : Fin cfg1.N, win1_1.index t 0 = t.val ∧ win1_1.index t 1 = 0) t
  rw [← hh]; blk_ext [iblk1, e0, e1, row256]
include hp in
theorem blk1_2 (t : Fin cfg1.N) (r : Fin 256) (l : Fin 4096) : iblk1 V c 2 t (ix2 r l) = (pre H g W₁ (row256 t r) l : EReal) := by
  obtain ⟨e0, e1⟩ := (by decide +kernel : ∀ t : Fin cfg1.N, win1_2.index t 0 = t.val ∧ win1_2.index t 1 = 0) t
  rw [← hp]; blk_ext [iblk1, e0, e1, row256]
include hg in
theorem blk1_3 (t : Fin cfg1.N) (l : Fin 1024) : iblk1 V c 3 t (ix2 0 l) = (g l : EReal) := by
  obtain ⟨e0, e1⟩ := (by decide +kernel : ∀ t : Fin cfg1.N, win1_3.index t 0 = 0 ∧ win1_3.index t 1 = 0) t
  rw [← hg]; blk_ext [iblk1, e0, e1]
include hu in
theorem blk1_4 (t : Fin cfg1.N) (r : Fin 1024) (l : Fin 4096) : iblk1 V c 4 t (ix2 r l) = (W₁ r l : EReal) := by
  obtain ⟨e0, e1⟩ := (by decide +kernel : ∀ t : Fin cfg1.N, win1_4.index t 0 = 0 ∧ win1_4.index t 1 = 0) t
  rw [← hu]; blk_ext [iblk1, e0, e1]
include hw in
theorem blk1_5 (t : Fin cfg1.N) (r : Fin 4096) (l : Fin 1024) : iblk1 V c 5 t (ix2 r l) = (W₂ r l : EReal) := by
  obtain ⟨e0, e1⟩ := (by decide +kernel : ∀ t : Fin cfg1.N, win1_5.index t 0 = 0 ∧ win1_5.index t 1 = 0) t
  rw [← hw]; blk_ext [iblk1, e0, e1]
include hu in
theorem wide1 (t : Fin cfg1.N) (q : Fin 4) (r k : Fin 1024) : wide (iblk1 V c 4 t) q (ix2 r k) = (W₁ r (col q k) : EReal) :=
  (wide_at _ q r k).trans (blk1_4 V c hu t r (col q k))
include hw in
theorem tall1 (t : Fin cfg1.N) (q : Fin 4) (k l : Fin 1024) : tall (iblk1 V c 5 t) q (ix2 k l) = (W₂ (col q k) l : EReal) :=
  (tall_at _ q k l).trans (blk1_5 V c hw t (col q k) l)

include hp in
theorem parts1 (t : Fin cfg1.N) (q : Fin 4) (r : Fin 256) (k : Fin 1024) :
    parts (iblk1 V c 2 t) q (ix2 r k) = (pre H g W₁ (row256 t r) (col q k) : EReal) :=
  (parts_at _ q r k).trans (blk1_2 V c hp t r (col q k))

include hp in
theorem arr_ff : (dat1 (F := Ideal) V c).arrAt 7 cfg1.N = fun i => (ff H g W₁ (i 0) (i 1) : EReal) := by
  refine (dat1 V c).arrAt_eq_of_covers 7 _ (by decide +kernel) fun t hf y => ?_
  obtain ⟨e0, e1⟩ := (by decide +kernel : ∀ t : Fin cfg1.N, win1_7.index t 0 = t.val ∧ win1_7.index t 1 = 0) t
  obtain ⟨r, j, rfl⟩ : ∃ (r : Fin 256) (j : Fin 4096), y = ix2 r j := ⟨y 0, y 1, eq_ix2 y⟩
  obtain ⟨q, k, rfl⟩ := exists_col j
  refine at_place (fun r l => (ff H g W₁ r l : EReal)) (r := row256 t r) (l := col q k) ?_ ?_ ?_
  · have key := ff_block (parts1 V c hp t) q r k
    blk_simp; rw [after1_7]
    by_cases h : t.val % 64 = 0
    · exact (ff_A V c t h q r k).trans key
    · exact (ff_B V c t h q r k).trans key
  · blk_simp [e0, e1, row256]
  · blk_simp [e0, e1, row256]

include hp hd hw in
theorem arr_dpre : (dat1 (F := Ideal) V c).arrAt 8 cfg1.N = fun i => (dpre H g W₁ W₂ D (i 0) (i 1) : EReal) := by
  refine (dat1 V c).arrAt_eq_of_covers 8 _ (by decide +kernel) fun t hf y => ?_
  obtain ⟨e0, e1⟩ := (by decide +kernel : ∀ t : Fin cfg1.N, win1_8.index t 0 = t.val ∧ win1_8.index t 1 = 0) t
  obtain ⟨r, j, rfl⟩ : ∃ (r : Fin 256) (j : Fin 4096), y = ix2 r j := ⟨y 0, y 1, eq_ix2 y⟩
  obtain ⟨q, k, rfl⟩ := exists_col j
  refine at_place (fun r l => (dpre H g W₁ W₂ D r l : EReal)) (r := row256 t r) (l := col q k) ?_ ?_ ?_
  · have key := dpre_block (tall1 V c hw t) (blk1_0 V c hd t) (parts1 V c hp t) q r k
    blk_simp; rw [after1_8]
    by_cases h : t.val % 64 = 0
    · exact (dpre_A V c t h q r k).trans key
    · exact (dpre_B V c t h q r k).trans key
  · blk_simp [e0, e1, row256]
  · blk_simp [e0, e1, row256]

include hp hd hw hh hg hu in
theorem arr_dh : (dat1 (F := Ideal) V c).arrAt 9 cfg1.N = fun i => (dh H g W₁ W₂ D (i 0) (i 1) : EReal) := by
  refine (dat1 V c).arrAt_eq_of_covers 9 _ (by decide +kernel) fun t hf y => ?_
  obtain ⟨e0, e1⟩ := (by decide +kernel : ∀ t : Fin cfg1.N, win1_9.index t 0 = t.val ∧ win1_9.index t 1 = 0) t
  obtain ⟨r, l, rfl⟩ : ∃ (r : Fin 256) (l : Fin 1024), y = ix2 r l := ⟨y 0, y 1, eq_ix2 y⟩
  refine at_place (fun r l => (dh H g W₁ W₂ D r l : EReal)) (r := row256 t r) (l := l) ?_ ?_ ?_
  · have key := dh_block (blk1_3 V c hg t) (wide1 V c hu t) (tall1 V c hw t) (blk1_1 V c hh t) (blk1_0 V c hd t) (parts1 V c hp t) r l
    blk_simp; rw [after1_9]
    by_cases h : t.val % 64 = 0
    · rw [dh_A V c t h]; exact key
    · rw [dh_B V c t h]; exact key
  · blk_simp [e0, e1, row256]
  · blk_simp [e0, e1, row256]

/-- The last grid point. -/
def last1 : Fin cfg1.N := ⟨63, by decide⟩

include hp hd hw hh hu in
theorem arr_dg : (dat1 (F := Ideal) V c).arrAt 10 cfg1.N = fun i => (dg H g W₁ W₂ D (i 1) : EReal) := by
  refine (dat1 V c).arrAt_eq_of_after_last 10 last1 (by decide +kernel) _ fun j => ?_
  obtain ⟨l, rfl⟩ : ∃ l : Fin 1024, j = ix2 0 l := one_row j
  blk_simp; rw [after1_10]
  refine (Pipeline.eq_sum_fin_of_reset_step_apply_last (fun n h => (outsAt1 V c n h).2.2.2.2) 64 (fun _ => (0 : EReal))
    (fun t j => ((∑ r, dn H g W₁ W₂ D (row256 t r) (j 1) * (H (row256 t r) (j 1) * rs (H (row256 t r))) : ℝ) : EReal))
    (fun t h j => ?_) (fun t h j => ?_) (by decide) last1 rfl (ix2 0 l)).trans ?_
  · obtain ⟨l, rfl⟩ : ∃ l : Fin 1024, j = ix2 0 l := one_row j
    beta_reduce; rw [dg_A V c t h]
    refine (dg_block (wide1 V c hu t) (tall1 V c hw t) (blk1_1 V c hh t) (blk1_0 V c hd t) (parts1 V c hp t) _ l).trans ?_
    pointwise [k1_pay3]
  · obtain ⟨l, rfl⟩ : ∃ l : Fin 1024, j = ix2 0 l := one_row j
    beta_reduce; rw [dg_B V c t h]
    exact dg_block (wide1 V c hu t) (tall1 V c hw t) (blk1_1 V c hh t) (blk1_0 V c hd t) (parts1 V c hp t) _ l
  · rw [coe_sum, zero_add]
    exact congrArg Real.toEReal (sum_rows row256 rfl (fun _ _ => rfl) (fun r => dn H g W₁ W₂ D r l * (H r l * rs (H r))))

end Backward

end Cert.FfnIdeal
-- ==== Proof.Ffn.Run.lean ====
module
public import proofs.«01_k».proof.Proof.Ffn.Arrays

/-! The run of the two calls: every array of the machine ends at the contents that the last region leaves, and the
    results among them are the real arrays of `Spec`. -/

@[expose] public section

set_option maxRecDepth 16384

noncomputable section

namespace Cert.FfnIdeal

open Idealize.ShloMosaic Idealize.ShloMosaic.TcCoe Idealize.ShloMosaic.Tactic Cert.Reals
open Idealize.SL Idealize.SL.RA Idealize.SL.BI Idealize.SL.BI.BIBase Idealize.SL.BI.Laws Idealize.SL.ProofMode Idealize.SL.Sem
open scoped Idealize.SL.BI
open Idealize.ShloMosaic.Rounds
open Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unfolding definitions in a metavariable's type
set_option backward.isDefEq.respectTransparency.types false in
/-- Every buffer of the TensorCore ends at the contents after the last region. -/
theorem run_contents : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Run

section Values

variable (m : (ℓ : Loc nD τ sig) → Buf (Elt Ideal) ℓ) (ρ : Dev nD → PrngReg) (c : Dev nD)

variable {H : Fin 16384 → Fin 1024 → ℝ} {g : Fin 1024 → ℝ} {U : Fin 1024 → Fin 4096 → ℝ} {W : Fin 4096 → Fin 1024 → ℝ}
  {D : Fin 16384 → Fin 1024 → ℝ}
  (hH : ∀ r l, m ((c : Thread nD τ).loc main_arg0) (ix2 r l) = (H r l : EReal))
  (hg : ∀ l, m ((c : Thread nD τ).loc main_arg1) (ix1 l) = (g l : EReal))
  (hU : ∀ r j, m ((c : Thread nD τ).loc main_arg2) (ix2 r j) = (U r j : EReal))
  (hW : ∀ j l, m ((c : Thread nD τ).loc main_arg3) (ix2 j l) = (W j l : EReal))
  (hD : ∀ r l, m ((c : Thread nD τ).loc main_arg4) (ix2 r l) = (D r l : EReal))

include hU in
theorem v1_u (r : Fin 1024) (j : Fin 4096) : V1 m ρ c main_v0 (ix2 r j) = (U r j : EReal) := by
  rw [← hU, V1]; after_results_simp; rfl
include hW in
theorem v1_w (j : Fin 4096) (l : Fin 1024) : V1 m ρ c main_v1 (ix2 j l) = (W j l : EReal) := by
  rw [← hW, V1]; after_results_simp; rfl
include hg in
theorem v1_g (l : Fin 1024) : V1 m ρ c main_v2 (ix2 0 l) = (g l : EReal) := by
  rw [← hg, V1]; after_results_simp; pointwise
include hg in
theorem v3_g (l : Fin 1024) : V3 m ρ c main_v4 (ix2 0 l) = (g l : EReal) := by
  have : V3 m ρ c main_v4 (ix2 0 l) = W2 m ρ c (Proc.devRef .tc main_arg1) (ix1 l) := by
    rw [V3]; after_results_simp; pointwise
  rw [this, W2_args m ρ c main_arg1 (by decide), hg]
include hH in
theorem v1_h (r : Fin 16384) (l : Fin 1024) : V1 m ρ c main_arg0 (ix2 r l) = (H r l : EReal) := by
  rw [V1, W1_args m ρ c main_arg0 (by decide), hH]
include hH in
theorem v3_h (r : Fin 16384) (l : Fin 1024) : V3 m ρ c main_arg0 (ix2 r l) = (H r l : EReal) := by
  rw [V3, W3_args m ρ c main_arg0 (by decide), hH]
include hD in
theorem v3_d (r : Fin 16384) (l : Fin 1024) : V3 m ρ c main_arg4 (ix2 r l) = (D r l : EReal) := by
  rw [V3, W3_args m ρ c main_arg4 (by decide), hD]
include hU in
theorem v3_u (r : Fin 1024) (j : Fin 4096) : V3 m ρ c main_v0 (ix2 r j) = (U r j : EReal) := by
  rw [show V3 m ρ c main_v0 = V1 m ρ c main_v0 from
    (W3_of m ρ c main_v0 (by decide)).trans (W2_of m ρ c main_v0 (by decide)), v1_u m ρ c hU]
include hW in
theorem v3_w (j : Fin 4096) (l : Fin 1024) : V3 m ρ c main_v1 (ix2 j l) = (W j l : EReal) := by
  rw [show V3 m ρ c main_v1 = V1 m ρ c main_v1 from
    (W3_of m ρ c main_v1 (by decide)).trans (W2_of m ρ c main_v1 (by decide)), v1_w m ρ c hW]
include hH hg hU in
theorem v3_p (r : Fin 16384) (j : Fin 4096) : V3 m ρ c main_v3_1 (ix2 r j) = (FfnSpec.pre H g U r j : EReal) := by
  rw [show V3 m ρ c main_v3_1 = (dat0 (V1 m ρ) c).arrAt 5 cfg0.N from
    (W3_of m ρ c main_v3_1 (by decide)).trans (W2_arr m ρ c 5),
    arr_pre (V1 m ρ) c (v1_h m ρ c hH) (v1_g m ρ c hg) (v1_u m ρ c hU)]; rfl

include hH hg hU hW in
theorem w4_out : W4 m ρ c main_v3_2 = fun i => (FfnSpec.out H g U W (i 0) (i 1) : EReal) := by
  rw [show W4 m ρ c main_v3_2 = (dat0 (V1 m ρ) c).arrAt 6 cfg0.N from
    (W4_of m ρ c main_v3_2 (by decide)).trans ((W3_of m ρ c main_v3_2 (by decide)).trans (W2_arr m ρ c 6)),
    arr_out (V1 m ρ) c (v1_h m ρ c hH) (v1_g m ρ c hg) (v1_u m ρ c hU) (v1_w m ρ c hW)]
include hH hg hU in
theorem w4_ff : W4 m ρ c main_v5_1 = fun i => (FfnSpec.ff H g U (i 0) (i 1) : EReal) :=
  (W4_arr m ρ c 7).trans (arr_ff (V3 m ρ) c (v3_p m ρ c hH hg hU))
include hH hg hU hW hD in
theorem w4_dpre : W4 m ρ c main_v5_2 = fun i => (FfnSpec.dpre H g U W D (i 0) (i 1) : EReal) :=
  (W4_arr m ρ c 8).trans (arr_dpre (V3 m ρ) c (v3_d m ρ c hD) (v3_p m ρ c hH hg hU) (v3_w m ρ c hW))
include hH hg hU hW hD in
theorem w4_dh : W4 m ρ c main_v5_3 = fun i => (FfnSpec.dh H g U W D (i 0) (i 1) : EReal) :=
  (W4_arr m ρ c 9).trans (arr_dh (V3 m ρ) c (v3_d m ρ c hD) (v3_h m ρ c hH) (v3_p m ρ c hH hg hU) (v3_g m ρ c hg) (v3_u m ρ c hU)
    (v3_w m ρ c hW))
include hH hg hU hW hD in
theorem w4_dg : W4 m ρ c main_v5_4 = fun i => (FfnSpec.dg H g U W D (i 1) : EReal) :=
  (W4_arr m ρ c 10).trans (arr_dg (V3 m ρ) c (v3_d m ρ c hD) (v3_h m ρ c hH) (v3_p m ρ c hH hg hU) (v3_u m ρ c hU) (v3_w m ρ c hW))

end Values

end Cert.FfnIdeal
-- ==== Proof.Ffn.Ref.lean ====
module
public import proofs.«01_k».proof.Proof.Gen.FfnRefIdeal.Run
public import proofs.«01_k».proof.Proof.Gen.FfnRefIdeal.Read
public import proofs.«01_k».proof.Proof.Ffn.Spec

/-! What the reference computes at finite arguments, value by value. -/

@[expose] public section

set_option maxRecDepth 16384

noncomputable section

namespace Cert.FfnRefIdeal

open Idealize.ShloMosaic Idealize.ShloMosaic.TcCoe Idealize.ShloMosaic.Tactic Idealize.SL.Sem Cert.Reals
open Gen Read

variable {H : Fin 16384 → Fin 1024 → ℝ} {g : Fin 1024 → ℝ} {W₁ : Fin 1024 → Fin 4096 → ℝ} {W₂ : Fin 4096 → Fin 1024 → ℝ}
  {D : Fin 16384 → Fin 1024 → ℝ}
  {x0 x4 : FVec Ideal S16384x1024 .f32} {x1 : FVec Ideal S1024 .f32} {x2 : FVec Ideal S1024x4096 .f32}
  {x3 : FVec Ideal S4096x1024 .f32}
  (hH : ∀ r l, x0 (ix2 r l) = (H r l : EReal)) (hg : ∀ l, x1 (ix1 l) = (g l : EReal))
  (hW : ∀ r l, x2 (ix2 r l) = (W₁ r l : EReal)) (hU : ∀ r l, x3 (ix2 r l) = (W₂ r l : EReal))
  (hD : ∀ r l, x4 (ix2 r l) = (D r l : EReal))

include hH in
theorem ms_ref (r : Fin 16384) :
    val_main_v7 (F := Ideal) x0 (ix2 r 0) = (((∑ x, H r x * H r x) / 1024 + eps : ℝ) : EReal) := by
  pointwise [val_main_v7, val_main_v6, val_main_v5, val_main_v4, val_main_v3, val_main_v2, val_main_v1, val_main_cst_0,
    val_main_cst_1, val_main_cst_2]
  simp only [hH, ← EReal.coe_mul, coe_sum, lit_1024, lit_eps, div_real _ (show (1024 : ℝ) ≠ 0 by norm_num),
    ← EReal.coe_add]

include hH in
theorem rs_ref (r : Fin 16384) : val_main_v8 (F := Ideal) x0 (ix2 r 0) = (rs (H r) : EReal) := by
  have := ms_ref hH r
  pointwise [val_main_v8]
  rw [this, rsqrt_ms]

include hH in
theorem drs_ref (r : Fin 16384) (k : Fin 1) :
    val_main_v11 (F := Ideal) x0 (ix2 r k) = ((-1 / 2 * (rs (H r) * (rs (H r) * rs (H r))) : ℝ) : EReal) := by
  have h7 := ms_ref hH r
  have h8 := rs_ref hH r
  obtain rfl := Subsingleton.elim k 0
  pointwise [val_main_v11, val_main_v10, val_main_v9, val_main_cst_3]
  rw [h7, h8, lit_neg_half, div_real _ (ms_pos (H r)).ne', rs_sq, ← EReal.coe_mul]

include hH hg hW in
theorem pre_ref (r : Fin 16384) (j : Fin 4096) :
    val_main_v18 (F := Ideal) x0 x1 x2 (ix2 r j) = (FfnSpec.pre H g W₁ r j : EReal) := by
  have h8 := rs_ref hH
  pointwise [val_main_v18, val_main_v17, val_main_v16, val_main_v15, val_main_v14, val_main_v13, val_main_v12, val_main_v0,
    val_main_cst]
  simp only [hH, hg, hW, h8, ← EReal.coe_mul, coe_sum]
  rfl

include hH hg hW in
theorem relu_ref (r : Fin 16384) (j : Fin 4096) :
    val_main_v19 (F := Ideal) x0 x1 x2 (ix2 r j) = (max (FfnSpec.pre H g W₁ r j) 0 : ℝ) := by
  have h := pre_ref hH hg hW r j
  pointwise [val_main_v19, val_main_call0_v0, val_main_call0_cst]
  rw [h, FfnSpec.max_coe]

include hH hg hW in
theorem ff_ref (r : Fin 16384) (j : Fin 4096) :
    val_main_v55 (F := Ideal) x0 x1 x2 (ix2 r j) = (FfnSpec.ff H g W₁ r j : EReal) := by
  have h := relu_ref hH hg hW r j
  pointwise [val_main_v55, val_main_v23]
  rw [h, ← EReal.coe_mul]
  rfl

include hH hg hW hU in
theorem out_ref (r : Fin 16384) (l : Fin 1024) :
    val_main_v27 (F := Ideal) x0 x1 x2 x3 (ix2 r l) = (FfnSpec.out H g W₁ W₂ r l : EReal) := by
  have h := relu_ref hH hg hW
  pointwise [val_main_v27, val_main_v26, val_main_v23]
  simp only [h, hH, hU, ← EReal.coe_mul, coe_sum, ← EReal.coe_add]
  rfl

include hH hg hW hU hD in
theorem dpre_f32_ref (r : Fin 16384) (j : Fin 4096) :
    val_main_v32 (F := Ideal) x0 x1 x2 x3 x4 (ix2 r j) = (FfnSpec.dpre H g W₁ W₂ D r j : EReal) := by
  have h1 := relu_ref hH hg hW r j
  have h2 := pre_ref hH hg hW r j
  pointwise [val_main_v32, val_main_v31, val_main_v30, val_main_v29, val_main_v28, val_main_v25, val_main_v24, val_main_v21,
    val_main_v20, val_main_cst_4, val_main_cst_6, val_main_cst_7]
  simp only [h1, h2, hD, hU, FfnSpec.lit_two, EReal.coe_pos, ← EReal.coe_mul, coe_sum]
  exact FfnSpec.masked _ _

include hH hg hW hU hD in
theorem dn_ref (r : Fin 16384) (l : Fin 1024) :
    val_main_v33 (F := Ideal) x0 x1 x2 x3 x4 (ix2 r l) = (FfnSpec.dn H g W₁ W₂ D r l : EReal) := by
  have h := dpre_f32_ref hH hg hW hU hD
  pointwise [val_main_v33]
  simp only [h, hW, ← EReal.coe_mul, coe_sum]
  rfl

include hH hg hW hU hD in
theorem dpre_ref (r : Fin 16384) (j : Fin 4096) :
    val_main_v56 (F := Ideal) x0 x1 x2 x3 x4 (ix2 r j) = (FfnSpec.dpre H g W₁ W₂ D r j : EReal) := by
  have h := dpre_f32_ref hH hg hW hU hD r j
  pointwise [val_main_v56]
  exact h

include hH hg hW hU hD in
theorem dh_ref (r : Fin 16384) (l : Fin 1024) :
    val_main_v54 (F := Ideal) x0 x1 x2 x3 x4 (ix2 r l) = (FfnSpec.dh H g W₁ W₂ D r l : EReal) := by
  have h1 := dn_ref hH hg hW hU hD
  have h8 := rs_ref hH
  have h11 := drs_ref hH
  pointwise [val_main_v54, val_main_v53, val_main_v52, val_main_v51, val_main_v50, val_main_v49, val_main_v48, val_main_v47,
    val_main_v46, val_main_v45, val_main_v44, val_main_v43, val_main_v42, val_main_v41, val_main_v40, val_main_v38,
    val_main_v37, val_main_v14, val_main_cst_10, val_main_cst_11, val_main_cst_12]
  simp only [h1, h8, h11, hH, hg, hD, ← EReal.coe_mul, coe_sum, lit_1024, div_real _ (show (1024 : ℝ) ≠ 0 by norm_num),
    ← EReal.coe_add, Fin.sum_univ_one]
  refine congrArg Real.toEReal ?_
  unfold FfnSpec.dh; rw [rmsBack_eq]; ring

include hH hg hW hU hD in
theorem dg_sum (l : Fin 1024) :
    val_main_v35 (F := Ideal) x0 x1 x2 x3 x4 (ix1 l) = (FfnSpec.dg H g W₁ W₂ D l : EReal) := by
  have h1 := dn_ref hH hg hW hU hD
  have h8 := rs_ref hH
  pointwise [val_main_v35, val_main_v34, val_main_v13, val_main_v12, val_main_cst_8]
  simp only [h1, h8, hH, ← EReal.coe_mul, coe_sum]
  exact congrArg Real.toEReal (Finset.sum_congr rfl fun r _ => mul_comm _ _)

include hH hg hW hU hD in
theorem dg_ref (l : Fin 1024) :
    val_main_v57 (F := Ideal) x0 x1 x2 x3 x4 (ix2 0 l) = (FfnSpec.dg H g W₁ W₂ D l : EReal) := by
  rw [val_main_v57_apply, val_main_v39_apply, Fin.sum_univ_one, val_main_v36_apply, val_main_cst_9_apply]
  refine (lit_zero_add _).trans (Eq.trans (congrArg _ ?_) (dg_sum hH hg hW hU hD l))
  rw [eq_ix1 (idx_main_v36 _)]
  exact congrArg ix1 (Fin.ext (by simp))

/-- A buffer of a device's TensorCore. -/
abbrev at_ (m : (ℓ : Loc nD τ sig) → Buf (Elt Ideal) ℓ) (c : Dev nD) (b : Ref sig .tc) : Buf (Elt Ideal) ((c.tc : Thread nD τ).loc b) :=
  m ((c.tc : Thread nD τ).loc b)

/-- The reference's run: its results are the named values, its arguments end unchanged and it has no semaphore. -/
theorem ref_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      at_ r.2.mem c main_v27 = val_main_v27 (F := Ideal) (at_ m c main_arg0) (at_ m c main_arg1) (at_ m c main_arg2) (at_ m c main_arg3)
      ∧ at_ r.2.mem c main_v55 = val_main_v55 (F := Ideal) (at_ m c main_arg0) (at_ m c main_arg1) (at_ m c main_arg2)
      ∧ at_ r.2.mem c main_v56 = val_main_v56 (F := Ideal) (at_ m c main_arg0) (at_ m c main_arg1) (at_ m c main_arg2) (at_ m c main_arg3) (at_ m c main_arg4)
      ∧ at_ r.2.mem c main_v54 = val_main_v54 (F := Ideal) (at_ m c main_arg0) (at_ m c main_arg1) (at_ m c main_arg2) (at_ m c main_arg3) (at_ m c main_arg4)
      ∧ at_ r.2.mem c main_v57 = val_main_v57 (F := Ideal) (at_ m c main_arg0) (at_ m c main_arg1) (at_ m c main_arg2) (at_ m c main_arg3) (at_ m c main_arg4)
      ∧ at_ r.2.mem c main_arg0 = at_ m c main_arg0
      ∧ at_ r.2.mem c main_arg1 = at_ m c main_arg1
      ∧ at_ r.2.mem c main_arg2 = at_ m c main_arg2
      ∧ at_ r.2.mem c main_arg3 = at_ m c main_arg3
      ∧ at_ r.2.mem c main_arg4 = at_ m c main_arg4) ∧ r.2.sem = fun _ => 0 :=
  (θ_run _ _ _).mono (fun r h => And.intro (fun c => by
      obtain ⟨h1, h2, h3, h4, h5, h6⟩ := h c
      exact ⟨h1.trans (val_main_v27_eq _ _ _ _), h2.trans (val_main_v55_eq _ _ _), h3.trans (val_main_v56_eq _ _ _ _ _),
        h4.trans (val_main_v54_eq _ _), h5.trans (val_main_v57_eq _ _ _ _ _), h6⟩)
    (sem_eq_zero_of_no_sems (by decide) r.2)) (Value.run m ρ)

end Cert.FfnRefIdeal
-- ==== Proof.Ffn.Claim.lean ====
module
public import proofs.«01_k».proof.Defs
public import proofs.«01_k».proof.Proof.Gen.Ffn.Frame
public import proofs.«01_k».proof.Proof.Gen.Pre_finite_ffn
public import proofs.«01_k».proof.Proof.Ffn.Run
public import proofs.«01_k».proof.Proof.Ffn.Ref

/-! The claims about the feed-forward block: the three frames, and that the two calls' results are the reference's at finite
    arguments. -/

@[expose] public section

set_option maxRecDepth 16384

noncomputable section

namespace Cert.FfnClaim

open Idealize.ShloMosaic Idealize.ShloMosaic.TcCoe Idealize.ShloMosaic.Tactic Idealize.SL.Sem Cert.Reals

open Cert.Pre_finite_ffn in
/-- Where the precondition holds the arguments are real numbers. -/
theorem finite_of_pre {x0 x4 : FVec Ideal S16384x1024 .f32} {x1 : FVec Ideal S1024 .f32} {x2 : FVec Ideal S1024x4096 .f32}
    {x3 : FVec Ideal S4096x1024 .f32} (h : fn x0 x1 x2 x3 x4 = fun _ => 1#1) :
    x0 = (fun i => ((EReal.toReal (x0 i) : ℝ) : EReal)) ∧ x1 = (fun i => ((EReal.toReal (x1 i) : ℝ) : EReal))
    ∧ x2 = (fun i => ((EReal.toReal (x2 i) : ℝ) : EReal)) ∧ x3 = (fun i => ((EReal.toReal (x3 i) : ℝ) : EReal))
    ∧ x4 = (fun i => ((EReal.toReal (x4 i) : ℝ) : EReal)) := by
  have : Subsingleton S_.Idx := ⟨fun _ _ => funext fun a => a.elim0⟩
  have h := congrFun h (fun a => a.elim0)
  dsimp only [fn, fn_part1] at h
  obtain ⟨h, h4⟩ := and_one h
  obtain ⟨h, h3⟩ := and_one h
  obtain ⟨h, h2⟩ := and_one h
  obtain ⟨h0, h1⟩ := and_one h
  exact ⟨real_of_all _ _ (fun _ => lit_inf) _ _ _ _ h0, real_of_all _ _ (fun _ => lit_inf) _ _ _ _ h1,
    real_of_all _ _ (fun _ => lit_inf) _ _ _ _ h2, real_of_all _ _ (fun _ => lit_inf) _ _ _ _ h3,
    real_of_all _ _ (fun _ => lit_inf) _ _ _ _ h4⟩

/-- The reference leaves its arguments as they were. -/
theorem frame_ref (m : (ℓ : Loc FfnRefIdeal.nD FfnRefIdeal.τ FfnRefIdeal.sig) → Buf (Elt Ideal) ℓ)
    (ρ : Dev FfnRefIdeal.nD → PrngReg) :
    θ_run (FfnRefIdeal.defs (F := Ideal)) (onTc (τ := FfnRefIdeal.τ) (FfnRefIdeal.main (F := Ideal))) ⟨m, fun _ => 0, ρ⟩
      (fun r => (∀ c : Dev FfnRefIdeal.nD,
        r.2.mem ((c.tc : Thread FfnRefIdeal.nD FfnRefIdeal.τ).loc FfnRefIdeal.main_arg0) = m ((c.tc : Thread FfnRefIdeal.nD FfnRefIdeal.τ).loc FfnRefIdeal.main_arg0)
        ∧ r.2.mem ((c.tc : Thread FfnRefIdeal.nD FfnRefIdeal.τ).loc FfnRefIdeal.main_arg1) = m ((c.tc : Thread FfnRefIdeal.nD FfnRefIdeal.τ).loc FfnRefIdeal.main_arg1)
        ∧ r.2.mem ((c.tc : Thread FfnRefIdeal.nD FfnRefIdeal.τ).loc FfnRefIdeal.main_arg2) = m ((c.tc : Thread FfnRefIdeal.nD FfnRefIdeal.τ).loc FfnRefIdeal.main_arg2)
        ∧ r.2.mem ((c.tc : Thread FfnRefIdeal.nD FfnRefIdeal.τ).loc FfnRefIdeal.main_arg3) = m ((c.tc : Thread FfnRefIdeal.nD FfnRefIdeal.τ).loc FfnRefIdeal.main_arg3)
        ∧ r.2.mem ((c.tc : Thread FfnRefIdeal.nD FfnRefIdeal.τ).loc FfnRefIdeal.main_arg4) = m ((c.tc : Thread FfnRefIdeal.nD FfnRefIdeal.τ).loc FfnRefIdeal.main_arg4)) ∧ r.2.sem = fun _ => 0) :=
  (θ_run _ _ _).mono (fun _ h => ⟨fun c => (h.1 c).2.2.2.2.2, h.2⟩) (FfnRefIdeal.ref_run m ρ)

theorem algebraic : Cert.algebraic_FfnIdeal_FfnRefIdeal_pre_finite_ffn := by
  intro m g m' g' hpre hargs
  refine ⟨fun c => FfnIdeal.Gen.W4 m g c FfnIdeal.main_v3_2, fun c => FfnIdeal.Gen.W4 m g c FfnIdeal.main_v5_1,
    fun c => FfnIdeal.Gen.W4 m g c FfnIdeal.main_v5_2, fun c => FfnIdeal.Gen.W4 m g c FfnIdeal.main_v5_3,
    fun c => FfnIdeal.Gen.W4 m g c FfnIdeal.main_v5_4, ?_, ?_⟩
  · refine (θ_run _ _ _).mono (fun r h c => ?_) (FfnIdeal.run_contents m g)
    have hm := fun b hb => h c (Proc.devRef .tc b) (FfnIdeal.Gen.mem_uc b hb)
    exact ⟨hm _ (by decide), hm _ (by decide), hm _ (by decide), hm _ (by decide), hm _ (by decide),
      (hm _ (by decide)).trans (FfnIdeal.Gen.W4_main_arg0 m g c), (hm _ (by decide)).trans (FfnIdeal.Gen.W4_main_arg1 m g c),
      (hm _ (by decide)).trans (FfnIdeal.Gen.W4_main_arg2 m g c), (hm _ (by decide)).trans (FfnIdeal.Gen.W4_main_arg3 m g c),
      (hm _ (by decide)).trans (FfnIdeal.Gen.W4_main_arg4 m g c)⟩
  · refine (θ_run _ _ _).mono (fun r h c => ?_) (FfnRefIdeal.ref_run m' g')
    obtain ⟨a0, a1, a2, a3, a4⟩ := hargs c
    obtain ⟨f0, f1, f2, f3, f4⟩ := finite_of_pre (hpre c)
    have H0 := fun r l => congrFun f0 (ix2 r l)
    have H1 := fun l => congrFun f1 (ix1 l)
    have H2 := fun r l => congrFun f2 (ix2 r l)
    have H3 := fun r l => congrFun f3 (ix2 r l)
    have H4 := fun r l => congrFun f4 (ix2 r l)
    obtain ⟨h1, h2, h3, h4, h5, hrest⟩ := h.1 c
    refine ⟨h1.trans ?_, h2.trans ?_, h3.trans ?_, h4.trans ?_, h5.trans ?_, hrest⟩
    · dsimp only [FfnRefIdeal.at_]
      rw [a0, a1, a2, a3, FfnIdeal.w4_out m g c H0 H1 H2 H3]
      funext i; rw [eq_ix2 i]
      exact FfnRefIdeal.out_ref H0 H1 H2 H3 _ _
    · dsimp only [FfnRefIdeal.at_]
      rw [a0, a1, a2, FfnIdeal.w4_ff m g c H0 H1 H2]
      funext i; rw [eq_ix2 i]
      exact FfnRefIdeal.ff_ref H0 H1 H2 _ _
    · dsimp only [FfnRefIdeal.at_]
      rw [a0, a1, a2, a3, a4, FfnIdeal.w4_dpre m g c H0 H1 H2 H3 H4]
      funext i; rw [eq_ix2 i]
      exact FfnRefIdeal.dpre_ref H0 H1 H2 H3 H4 _ _
    · dsimp only [FfnRefIdeal.at_]
      rw [a0, a1, a2, a3, a4, FfnIdeal.w4_dh m g c H0 H1 H2 H3 H4]
      funext i; rw [eq_ix2 i]
      exact FfnRefIdeal.dh_ref H0 H1 H2 H3 H4 _ _
    · dsimp only [FfnRefIdeal.at_]
      rw [a0, a1, a2, a3, a4, FfnIdeal.w4_dg m g c H0 H1 H2 H3 H4]
      funext i; obtain ⟨l, rfl⟩ := one_row i
      exact FfnRefIdeal.dg_ref H0 H1 H2 H3 H4 _

end Cert.FfnClaim
-- ==== Proof.Inproj.Spec.lean ====
module
public import proofs.«01_k».proof.Proof.Reals

/-! The input projection `norm h · g · W` of 5136 columns and its gradients over the reals. -/

@[expose] public section

set_option maxRecDepth 16384

noncomputable section

namespace Cert.InprojSpec

open Idealize.ShloMosaic Cert.Reals

variable (H : Fin 16384 → Fin 1024 → ℝ) (g : Fin 1024 → ℝ) (W : Fin 1024 → Fin 5136 → ℝ)
  (D E : Fin 16384 → Fin 1024 → ℝ) (Q : Fin 16384 → Fin 5136 → ℝ)

/-- The normalised row times the norm's weight. -/
def xn (r : Fin 16384) (l : Fin 1024) : ℝ := H r l * rs (H r) * g l
def proj (r : Fin 16384) (j : Fin 5136) : ℝ := ∑ x, xn H g r x * W x j
/-- The gradient at the norm's result: the gates' part and the projections'. -/
def dxn (r : Fin 16384) (k : Fin 1024) : ℝ := E r k + ∑ j, Q r j * W k j
def dh (r : Fin 16384) (k : Fin 1024) : ℝ := D r k + rmsBack (H r) (fun l => dxn W E Q r l * g l) k
def dg (l : Fin 1024) : ℝ := ∑ r, dxn W E Q r l * (H r l * rs (H r))

/-- Column `k` of the group of `n` columns from column `o` on. -/
def off (o : ℕ) {n : ℕ} (h : o + n ≤ 5136) (k : Fin n) : Fin 5136 := ⟨o + k.val, by omega⟩

theorem sum_join (f : Fin 5136 → ℝ) (o a b : ℕ) (h : o + (a + b) ≤ 5136) :
    ∑ k : Fin (a + b), f (off o h k) = ∑ k : Fin a, f (off o (by omega) k) + ∑ k : Fin b, f (off (o + a) (by omega) k) := by
  rw [Fin.sum_univ_add]
  exact congrArg₂ (· + ·) rfl (Finset.sum_congr rfl fun k _ => congrArg f (Fin.ext (Nat.add_assoc o a k.val).symm))

/-- The sum over all columns, group by group. -/
theorem sum_groups (f : Fin 5136 → ℝ) : ∑ j, f j = ∑ k : Fin 1024, f (off 0 (by omega) k) + ∑ k : Fin 1552, f (off 1024 (by omega) k)
    + ∑ k : Fin 512, f (off 2576 (by omega) k) + ∑ k : Fin 1024, f (off 3088 (by omega) k) + ∑ k : Fin 1024, f (off 4112 (by omega) k) := by
  have h : ∑ j, f j = ∑ k : Fin 5136, f (off 0 (by omega) k) := Finset.sum_congr rfl fun k _ => congrArg f (Fin.ext (Nat.zero_add k.val).symm)
  exact h.trans ((sum_join f 0 4112 1024 (by omega)).trans (congrArg (· + _) ((sum_join f 0 3088 1024 (by omega)).trans (congrArg (· + _)
    ((sum_join f 0 2576 512 (by omega)).trans (congrArg (· + _) (sum_join f 0 1024 1552 (by omega))))))))

end Cert.InprojSpec
-- ==== Proof.Inproj.Blocks.lean ====
module
public import proofs.«01_k».proof.Proof.Gen.InprojIdeal.Frame
public import proofs.«01_k».proof.Proof.Inproj.Spec

/-! What one grid point of the two calls computes from its blocks, at finite blocks. The weight comes transposed, in groups of rows. -/

@[expose] public section

set_option maxRecDepth 16384

noncomputable section

namespace Cert.InprojIdeal

open Idealize.ShloMosaic Idealize.ShloMosaic.TcCoe Idealize.ShloMosaic.Tactic Cert.Reals
open Gen InprojSpec

variable {H : Fin 16384 → Fin 1024 → ℝ} {g : Fin 1024 → ℝ} {W : Fin 1024 → Fin 5136 → ℝ}
  {D E : Fin 16384 → Fin 1024 → ℝ} {Q : Fin 16384 → Fin 5136 → ℝ}
  {g1 : FVec Ideal S1x1024 .f32} (hg : ∀ l, g1 (ix2 0 l) = (g l : EReal))
  {h : FVec Ideal S512x1024 .f32} (t : Fin 32) (hh : ∀ r l, h (ix2 r l) = (H (row t r) l : EReal))

section Forward

include hh hg in
theorem xn_block (r : Fin 512) (l : Fin 1024) : k0_pay3 (F := Ideal) h g1 (ix2 r l) = (xn H g (row t r) l : EReal) := by
  pointwise [k0_pay3]
  simp only [hh, hg, ← EReal.coe_mul, coe_sum, lit_1024, lit_eps, div_real _ (show (1024 : ℝ) ≠ 0 by norm_num),
    ← EReal.coe_add, rsqrt_ms]
  rfl

include hh hg in
theorem cols0_block {w : FVec Ideal S1024x1024 .bf16} (hw : ∀ k l, w (ix2 k l) = (W l (off 0 (by omega) k) : EReal)) (r : Fin 512)
    (k : Fin 1024) : k0_pay4 (F := Ideal) h g1 w (ix2 r k) = (proj H g W (row t r) (off 0 (by omega) k) : EReal) := by
  have := xn_block hg t hh
  pointwise [k0_pay4]
  simp only [this, hw, ← EReal.coe_mul, coe_sum]
  rfl

include hh hg in
theorem cols1024_block {w : FVec Ideal S1536x1024 .bf16} (hw : ∀ k l, w (ix2 k l) = (W l (off 1024 (by omega) k) : EReal)) (r : Fin 512)
    (k : Fin 1536) : k0_pay5 (F := Ideal) h g1 w (ix2 r k) = (proj H g W (row t r) (off 1024 (by omega) k) : EReal) := by
  have := xn_block hg t hh
  pointwise [k0_pay5]
  simp only [this, hw, ← EReal.coe_mul, coe_sum]
  rfl

include hh hg in
theorem cols2560_block {w : FVec Ideal S16x1024 .bf16} (hw : ∀ k l, w (ix2 k l) = (W l (off 2560 (by omega) k) : EReal)) (r : Fin 512)
    (k : Fin 16) : k0_pay6 (F := Ideal) h g1 w (ix2 r k) = (proj H g W (row t r) (off 2560 (by omega) k) : EReal) := by
  have := xn_block hg t hh
  pointwise [k0_pay6]
  simp only [this, hw, ← EReal.coe_mul, coe_sum]
  rfl

include hh hg in
theorem cols2576_block {w : FVec Ideal S1536x1024 .bf16} (hw : ∀ k l, w (ix2 k l) = (W l (off 2576 (by omega) k) : EReal)) (r : Fin 512)
    (k : Fin 1536) : k0_pay1 (F := Ideal) (k0_pay3 h g1) w (ix2 r k) = (proj H g W (row t r) (off 2576 (by omega) k) : EReal) := by
  have := xn_block hg t hh
  pointwise [k0_pay1]
  simp only [this, hw, ← EReal.coe_mul, coe_sum]
  rfl

include hh hg in
theorem cols4112_block {w : FVec Ideal S1024x1024 .bf16} (hw : ∀ k l, w (ix2 k l) = (W l (off 4112 (by omega) k) : EReal)) (r : Fin 512)
    (k : Fin 1024) : k0_pay2 (F := Ideal) (k0_pay3 h g1) w (ix2 r k) = (proj H g W (row t r) (off 4112 (by omega) k) : EReal) := by
  have := xn_block hg t hh
  pointwise [k0_pay2]
  simp only [this, hw, ← EReal.coe_mul, coe_sum]
  rfl

end Forward

section Backward

variable {d e : FVec Ideal S512x1024 .f32} (hd : ∀ r l, d (ix2 r l) = (D (row t r) l : EReal))
  (he : ∀ r l, e (ix2 r l) = (E (row t r) l : EReal))
  {q0 q3 q4 : FVec Ideal S512x1024 .bf16} {q1 : FVec Ideal S512x1552 .bf16} {q2 : FVec Ideal S512x512 .bf16}
  {w0 w3 w4 : FVec Ideal S1024x1024 .bf16} {w1 : FVec Ideal S1552x1024 .bf16} {w2 : FVec Ideal S512x1024 .bf16}
  (hq0 : ∀ r k, q0 (ix2 r k) = (Q (row t r) (off 0 (Nat.le_of_ble_eq_true rfl) k) : EReal))
  (hq1 : ∀ r k, q1 (ix2 r k) = (Q (row t r) (off 1024 (Nat.le_of_ble_eq_true rfl) k) : EReal))
  (hq2 : ∀ r k, q2 (ix2 r k) = (Q (row t r) (off 2576 (Nat.le_of_ble_eq_true rfl) k) : EReal))
  (hq3 : ∀ r k, q3 (ix2 r k) = (Q (row t r) (off 3088 (Nat.le_of_ble_eq_true rfl) k) : EReal))
  (hq4 : ∀ r k, q4 (ix2 r k) = (Q (row t r) (off 4112 (Nat.le_of_ble_eq_true rfl) k) : EReal))
  (hw0 : ∀ k l, w0 (ix2 k l) = (W l (off 0 (Nat.le_of_ble_eq_true rfl) k) : EReal))
  (hw1 : ∀ k l, w1 (ix2 k l) = (W l (off 1024 (Nat.le_of_ble_eq_true rfl) k) : EReal))
  (hw2 : ∀ k l, w2 (ix2 k l) = (W l (off 2576 (Nat.le_of_ble_eq_true rfl) k) : EReal))
  (hw3 : ∀ k l, w3 (ix2 k l) = (W l (off 3088 (Nat.le_of_ble_eq_true rfl) k) : EReal))
  (hw4 : ∀ k l, w4 (ix2 k l) = (W l (off 4112 (Nat.le_of_ble_eq_true rfl) k) : EReal))

include he hq0 hq1 hq2 hq3 hq4 hw0 hw1 hw2 hw3 hw4 in
theorem dxn_block (r : Fin 512) (l : Fin 1024) :
    k1_pay3 (F := Ideal) (k1_pay2 e q0 w0 q1 w1 q2 w2 q3 w3) q4 w4 (ix2 r l) = (dxn W E Q (row t r) l : EReal) := by
  pointwise [k1_pay3, k1_pay2]
  simp only [he, hq0, hq1, hq2, hq3, hq4, hw0, hw1, hw2, hw3, hw4, ← EReal.coe_mul, coe_sum, ← EReal.coe_add]
  refine congrArg Real.toEReal ?_
  unfold dxn; rw [sum_groups]; ring

variable {v : FVec Ideal S512x1024 .f32} (hx : ∀ r l, k1_pay3 (F := Ideal) v q4 w4 (ix2 r l) = (dxn W E Q (row t r) l : EReal))

include hh hg hd hx in
theorem dh_block (r : Fin 512) (l : Fin 1024) : k1_pay6 (F := Ideal) h v q4 w4 g1 d (ix2 r l) = (dh H g W D E Q (row t r) l : EReal) := by
  pointwise [k1_pay6, k1_pay5, k1_pay4]
  simp only [hx, hh, hg, hd, ← EReal.coe_mul, coe_sum, lit_1024, lit_eps, div_real _ (show (1024 : ℝ) ≠ 0 by norm_num),
    ← EReal.coe_add, rsqrt_ms, ← EReal.coe_sub]
  rfl

include hh hx in
theorem dg_block (o : FVec Ideal S1x1024 .f32) (l : Fin 1024) : k1_pay7 (F := Ideal) h v q4 w4 o (ix2 0 l)
      = o (ix2 0 l) + ((∑ r, dxn W E Q (row t r) l * (H (row t r) l * rs (H (row t r))) : ℝ) : EReal) := by
  pointwise [k1_pay7, k1_pay5, k1_pay4]
  simp only [hx, hh, ← EReal.coe_mul, coe_sum, lit_1024, lit_eps, div_real _ (show (1024 : ℝ) ≠ 0 by norm_num),
    ← EReal.coe_add, rsqrt_ms]

end Backward

end Cert.InprojIdeal
-- ==== Proof.Inproj.Outs.lean ====
module
public import proofs.«01_k».proof.Proof.Inproj.Blocks

/-! What a grid point leaves in the output blocks, as terms of the blocks that it loads. -/

@[expose] public section

set_option maxRecDepth 16384

noncomputable section

namespace Cert.InprojIdeal

open Idealize.ShloMosaic Idealize.ShloMosaic.TcCoe Idealize.ShloMosaic.Tactic Cert.Reals
open Gen InprojSpec

/-- The `n` rows from row `o` on of the transposed weight. -/
def grp {n : ℕ} (o : ℕ) (h : ∀ x, (![o, 0] : Fin 2 → ℕ) x + (![n, 1024] : Fin 2 → ℕ) x ≤ (![5136, 1024] : Fin 2 → ℕ) x)
    (x : FVec Ideal S5136x1024 .bf16) : FVec Ideal ⟨2, ![n, 1024]⟩ .bf16 :=
  View.ld (Val := Elt Ideal) (e' := .bf16) x (Rect.unit (s := ⟨2, ![5136, 1024]⟩) ![o, 0] ![n, 1024] h)

theorem grp_at {n : ℕ} (o : ℕ) (h : ∀ x, (![o, 0] : Fin 2 → ℕ) x + (![n, 1024] : Fin 2 → ℕ) x ≤ (![5136, 1024] : Fin 2 → ℕ) x)
    (ho : o + n ≤ 5136) (x : FVec Ideal S5136x1024 .bf16) (k : Fin n) (l : Fin 1024) : grp o h x (ix2 k l) = x (ix2 (off o ho k) l) :=
  congrArg x (by
    funext x; apply Fin.ext
    fin_cases x
    · show o + 1 * k.val = o + k.val; omega
    · show 0 + 1 * l.val = l.val; omega)

variable (V : (c : Dev nD) → (b : Ref sig .tc) → Buf (Elt Ideal) ((c : Thread nD τ).loc b)) (c : Dev nD)

section Forward

variable (t : Fin cfg0.N)

theorem xn_at : out0_3 (iblk0 V c 0 t) (iblk0 V c 1 t) (iblk0 V c 2 t) = k0_pay3 (iblk0 V c 0 t) (iblk0 V c 1 t) := by
  frame_out

theorem cols0_at : out0_4 (iblk0 V c 0 t) (iblk0 V c 1 t) (iblk0 V c 2 t)
    = k0_pay4 (iblk0 V c 0 t) (iblk0 V c 1 t) (grp 0 inb_S5136x1024_S1024x1024_0_0 (iblk0 V c 2 t)) := by
  frame_out
  repeat rw [ld_all]
  rfl

theorem cols1024_at : out0_5 (iblk0 V c 0 t) (iblk0 V c 1 t) (iblk0 V c 2 t)
    = k0_pay5 (iblk0 V c 0 t) (iblk0 V c 1 t) (grp 1024 inb_S5136x1024_S1536x1024_1024_0 (iblk0 V c 2 t)) := by
  frame_out
  repeat rw [ld_all]
  rfl

theorem cols2560_at : out0_6 (iblk0 V c 0 t) (iblk0 V c 1 t) (iblk0 V c 2 t)
    = k0_pay6 (iblk0 V c 0 t) (iblk0 V c 1 t) (grp 2560 inb_S5136x1024_S16x1024_2560_0 (iblk0 V c 2 t)) := by
  frame_out
  repeat rw [ld_all]
  rfl

theorem cols2576_at : out0_7 (iblk0 V c 0 t) (iblk0 V c 1 t) (iblk0 V c 2 t)
    = k0_pay1 (k0_pay3 (iblk0 V c 0 t) (iblk0 V c 1 t)) (grp 2576 inb_S5136x1024_S1536x1024_2576_0 (iblk0 V c 2 t)) := by
  frame_out
  unfold k0_pay7
  simp only [ld_all]
  rfl

theorem cols4112_at : out0_8 (iblk0 V c 0 t) (iblk0 V c 1 t) (iblk0 V c 2 t)
    = k0_pay2 (k0_pay3 (iblk0 V c 0 t) (iblk0 V c 1 t)) (grp 4112 inb_S5136x1024_S1024x1024_4112_0 (iblk0 V c 2 t)) := by
  frame_out
  unfold k0_pay7
  simp only [ld_all]
  rfl

end Forward

section Backward

variable (t : Fin cfg1.N)

/-- The gates' part and the first four groups' products. -/
abbrev four : FVec Ideal S512x1024 .f32 := k1_pay2 (iblk1 V c 2 t) (iblk1 V c 3 t) (grp 0 inb_S5136x1024_S1024x1024_0_0 (iblk1 V c 9 t)) (iblk1 V c 4 t) (grp 1024 inb_S5136x1024_S1552x1024_1024_0 (iblk1 V c 9 t)) (iblk1 V c 5 t) (grp 2576 inb_S5136x1024_S512x1024_2576_0 (iblk1 V c 9 t)) (iblk1 V c 6 t) (grp 3088 inb_S5136x1024_S1024x1024_3088_0 (iblk1 V c 9 t))

theorem dh_A (h : t.val % 32 = 0) : (outsAt1 V c t.val t.isLt).1
    = k1_pay6 (iblk1 V c 1 t) (four V c t) (iblk1 V c 7 t) (grp 4112 inb_S5136x1024_S1024x1024_4112_0 (iblk1 V c 9 t)) (iblk1 V c 8 t)
      (iblk1 V c 0 t) := by
  rw [outsAt1_A V c t h]; frame_out
  repeat rw [Memref.IsWhole.read_unread]
  repeat rw [ld_all]
  rfl

theorem dg_A (h : t.val % 32 = 0) : (outsAt1 V c t.val t.isLt).2
    = k1_pay7 (iblk1 V c 1 t) (four V c t) (iblk1 V c 7 t) (grp 4112 inb_S5136x1024_S1024x1024_4112_0 (iblk1 V c 9 t))
      (k1_pay1 (F := Ideal)) := by
  rw [outsAt1_A V c t h]; frame_out
  repeat rw [Memref.IsWhole.read_unread]
  repeat rw [ld_all]
  rfl

theorem dh_B (h : ¬ t.val % 32 = 0) : (outsAt1 V c t.val t.isLt).1
    = k1_pay6 (iblk1 V c 1 t) (four V c t) (iblk1 V c 7 t) (grp 4112 inb_S5136x1024_S1024x1024_4112_0 (iblk1 V c 9 t)) (iblk1 V c 8 t)
      (iblk1 V c 0 t) := by
  rw [outsAt1_B V c t h]; frame_out
  repeat rw [Memref.IsWhole.read_unread]
  repeat rw [ld_all]
  rfl

theorem dg_B (h : ¬ t.val % 32 = 0) : (outsAt1 V c t.val t.isLt).2
    = k1_pay7 (iblk1 V c 1 t) (four V c t) (iblk1 V c 7 t) (grp 4112 inb_S5136x1024_S1024x1024_4112_0 (iblk1 V c 9 t))
      (outsAt1 V c (t.val - 1) (Nat.lt_of_le_of_lt (Nat.sub_le _ _) t.isLt)).2 := by
  rw [outsAt1_B V c t h]; frame_out
  repeat rw [Memref.IsWhole.read_unread]
  repeat rw [ld_all]
  rfl

end Backward

end Cert.InprojIdeal
-- ==== Proof.Inproj.Arrays.lean ====
module
public import proofs.«01_k».proof.Proof.Inproj.Outs

/-! The arrays that the two calls leave, from the arrays they are entered with. -/

@[expose] public section

set_option maxRecDepth 16384

noncomputable section

namespace Cert.InprojIdeal

open Idealize.ShloMosaic Idealize.ShloMosaic.TcCoe Idealize.ShloMosaic.Tactic Cert.Reals
open Gen InprojSpec

variable {H : Fin 16384 → Fin 1024 → ℝ} {g : Fin 1024 → ℝ} {W : Fin 1024 → Fin 5136 → ℝ}
  {D E : Fin 16384 → Fin 1024 → ℝ} {Q : Fin 16384 → Fin 5136 → ℝ}
  (V : (c : Dev nD) → (b : Ref sig .tc) → Buf (Elt Ideal) ((c : Thread nD τ).loc b)) (c : Dev nD)
  (hw : ∀ k l, V c main_v1 (ix2 k l) = (W l k : EReal)) (hh : ∀ r l, V c main_arg0 (ix2 r l) = (H r l : EReal))

section Forward

variable (hg : ∀ l, V c main_v2 (ix2 0 l) = (g l : EReal))

include hh in
theorem blk0_0 (t : Fin cfg0.N) (r : Fin 512) (l : Fin 1024) : iblk0 V c 0 t (ix2 r l) = (H (row t r) l : EReal) := by
  obtain ⟨e0, e1⟩ := (by decide +kernel : ∀ t : Fin cfg0.N, win0_0.index t 0 = t.val ∧ win0_0.index t 1 = 0) t
  rw [← hh]; blk_ext [iblk0, e0, e1, row]
include hg in
theorem blk0_1 (t : Fin cfg0.N) (l : Fin 1024) : iblk0 V c 1 t (ix2 0 l) = (g l : EReal) := by
  obtain ⟨e0, e1⟩ := (by decide +kernel : ∀ t : Fin cfg0.N, win0_1.index t 0 = 0 ∧ win0_1.index t 1 = 0) t
  rw [← hg]; blk_ext [iblk0, e0, e1]
include hw in
theorem blk0_2 (t : Fin cfg0.N) (k : Fin 5136) (l : Fin 1024) : iblk0 V c 2 t (ix2 k l) = (W l k : EReal) := by
  obtain ⟨e0, e1⟩ := (by decide +kernel : ∀ t : Fin cfg0.N, win0_2.index t 0 = 0 ∧ win0_2.index t 1 = 0) t
  rw [← hw]; blk_ext [iblk0, e0, e1]
include hw in
theorem grp0 {n : ℕ} (o : ℕ) (h) (ho : o + n ≤ 5136) (t : Fin cfg0.N) (k : Fin n) (l : Fin 1024) :
    grp o h (iblk0 V c 2 t) (ix2 k l) = (W l (off o ho k) : EReal) :=
  (grp_at o h ho _ k l).trans (blk0_2 V c hw t _ l)

include hh hg in
theorem arr_xn : (dat0 (F := Ideal) V c).arrAt 3 cfg0.N = fun i => (xn H g (i 0) (i 1) : EReal) := by
  refine (dat0 V c).arrAt_eq_of_covers 3 _ (by decide +kernel) fun t hf y => ?_
  obtain ⟨e0, e1⟩ := (by decide +kernel : ∀ t : Fin cfg0.N, win0_3.index t 0 = t.val ∧ win0_3.index t 1 = 0) t
  obtain ⟨r, l, rfl⟩ : ∃ (r : Fin 512) (l : Fin 1024), y = ix2 r l := ⟨y 0, y 1, eq_ix2 y⟩
  refine at_place (fun r l => (xn H g r l : EReal)) (r := row t r) (l := l) ?_ ?_ ?_
  · blk_simp; rw [after0_3, xn_at]
    exact xn_block (blk0_1 V c hg t) t (blk0_0 V c hh t) r l
  · blk_simp [e0, e1, row]
  · blk_simp [e0, e1, row]

include hw hh hg in
theorem arr_cols0 : (dat0 (F := Ideal) V c).arrAt 4 cfg0.N = fun i => (proj H g W (i 0) (off 0 (n := 1024) (by omega) (i 1)) : EReal) := by
  refine (dat0 V c).arrAt_eq_of_covers 4 _ (by decide +kernel) fun t hf y => ?_
  obtain ⟨e0, e1⟩ := (by decide +kernel : ∀ t : Fin cfg0.N, win0_4.index t 0 = t.val ∧ win0_4.index t 1 = 0) t
  obtain ⟨r, l, rfl⟩ : ∃ (r : Fin 512) (l : Fin 1024), y = ix2 r l := ⟨y 0, y 1, eq_ix2 y⟩
  refine at_place (fun r l => (proj H g W r (off 0 (n := 1024) (by omega) l) : EReal)) (r := row t r) (l := l) ?_ ?_ ?_
  · blk_simp; rw [after0_4, cols0_at]
    exact cols0_block (blk0_1 V c hg t) t (blk0_0 V c hh t) (grp0 V c hw 0 inb_S5136x1024_S1024x1024_0_0 (by omega) t) r l
  · blk_simp [e0, e1, row]
  · blk_simp [e0, e1, row]

include hw hh hg in
theorem arr_cols1024 : (dat0 (F := Ideal) V c).arrAt 5 cfg0.N = fun i => (proj H g W (i 0) (off 1024 (n := 1536) (by omega) (i 1)) : EReal) := by
  refine (dat0 V c).arrAt_eq_of_covers 5 _ (by decide +kernel) fun t hf y => ?_
  obtain ⟨e0, e1⟩ := (by decide +kernel : ∀ t : Fin cfg0.N, win0_5.index t 0 = t.val ∧ win0_5.index t 1 = 0) t
  obtain ⟨r, l, rfl⟩ : ∃ (r : Fin 512) (l : Fin 1536), y = ix2 r l := ⟨y 0, y 1, eq_ix2 y⟩
  refine at_place (fun r l => (proj H g W r (off 1024 (n := 1536) (by omega) l) : EReal)) (r := row t r) (l := l) ?_ ?_ ?_
  · blk_simp; rw [after0_5, cols1024_at]
    exact cols1024_block (blk0_1 V c hg t) t (blk0_0 V c hh t) (grp0 V c hw 1024 inb_S5136x1024_S1536x1024_1024_0 (by omega) t) r l
  · blk_simp [e0, e1, row]
  · blk_simp [e0, e1, row]

include hw hh hg in
theorem arr_cols2560 : (dat0 (F := Ideal) V c).arrAt 6 cfg0.N = fun i => (proj H g W (i 0) (off 2560 (n := 16) (by omega) (i 1)) : EReal) := by
  refine (dat0 V c).arrAt_eq_of_covers 6 _ (by decide +kernel) fun t hf y => ?_
  obtain ⟨e0, e1⟩ := (by decide +kernel : ∀ t : Fin cfg0.N, win0_6.index t 0 = t.val ∧ win0_6.index t 1 = 0) t
  obtain ⟨r, l, rfl⟩ : ∃ (r : Fin 512) (l : Fin 16), y = ix2 r l := ⟨y 0, y 1, eq_ix2 y⟩
  refine at_place (fun r l => (proj H g W r (off 2560 (n := 16) (by omega) l) : EReal)) (r := row t r) (l := l) ?_ ?_ ?_
  · blk_simp; rw [after0_6, cols2560_at]
    exact cols2560_block (blk0_1 V c hg t) t (blk0_0 V c hh t) (grp0 V c hw 2560 inb_S5136x1024_S16x1024_2560_0 (by omega) t) r l
  · blk_simp [e0, e1, row]
  · blk_simp [e0, e1, row]

include hw hh hg in
theorem arr_cols2576 : (dat0 (F := Ideal) V c).arrAt 7 cfg0.N = fun i => (proj H g W (i 0) (off 2576 (n := 1536) (by omega) (i 1)) : EReal) := by
  refine (dat0 V c).arrAt_eq_of_covers 7 _ (by decide +kernel) fun t hf y => ?_
  obtain ⟨e0, e1⟩ := (by decide +kernel : ∀ t : Fin cfg0.N, win0_7.index t 0 = t.val ∧ win0_7.index t 1 = 0) t
  obtain ⟨r, l, rfl⟩ : ∃ (r : Fin 512) (l : Fin 1536), y = ix2 r l := ⟨y 0, y 1, eq_ix2 y⟩
  refine at_place (fun r l => (proj H g W r (off 2576 (n := 1536) (by omega) l) : EReal)) (r := row t r) (l := l) ?_ ?_ ?_
  · blk_simp; rw [after0_7, cols2576_at]
    exact cols2576_block (blk0_1 V c hg t) t (blk0_0 V c hh t) (grp0 V c hw 2576 inb_S5136x1024_S1536x1024_2576_0 (by omega) t) r l
  · blk_simp [e0, e1, row]
  · blk_simp [e0, e1, row]

include hw hh hg in
theorem arr_cols4112 : (dat0 (F := Ideal) V c).arrAt 8 cfg0.N = fun i => (proj H g W (i 0) (off 4112 (n := 1024) (by omega) (i 1)) : EReal) := by
  refine (dat0 V c).arrAt_eq_of_covers 8 _ (by decide +kernel) fun t hf y => ?_
  obtain ⟨e0, e1⟩ := (by decide +kernel : ∀ t : Fin cfg0.N, win0_8.index t 0 = t.val ∧ win0_8.index t 1 = 0) t
  obtain ⟨r, l, rfl⟩ : ∃ (r : Fin 512) (l : Fin 1024), y = ix2 r l := ⟨y 0, y 1, eq_ix2 y⟩
  refine at_place (fun r l => (proj H g W r (off 4112 (n := 1024) (by omega) l) : EReal)) (r := row t r) (l := l) ?_ ?_ ?_
  · blk_simp; rw [after0_8, cols4112_at]
    exact cols4112_block (blk0_1 V c hg t) t (blk0_0 V c hh t) (grp0 V c hw 4112 inb_S5136x1024_S1024x1024_4112_0 (by omega) t) r l
  · blk_simp [e0, e1, row]
  · blk_simp [e0, e1, row]

end Forward

section Backward

variable (hg : ∀ l, V c main_v14 (ix2 0 l) = (g l : EReal))
  (hd : ∀ r l, V c main_arg3 (ix2 r l) = (D r l : EReal)) (he : ∀ r l, V c main_arg4 (ix2 r l) = (E r l : EReal))
  (hq0 : ∀ r k, V c main_v5 (ix2 r k) = (Q r (off 0 (n := 1024) (Nat.le_of_ble_eq_true rfl) k) : EReal))
  (hq1 : ∀ r k, V c main_v7 (ix2 r k) = (Q r (off 1024 (n := 1552) (Nat.le_of_ble_eq_true rfl) k) : EReal))
  (hq2 : ∀ r k, V c main_v9 (ix2 r k) = (Q r (off 2576 (n := 512) (Nat.le_of_ble_eq_true rfl) k) : EReal))
  (hq3 : ∀ r k, V c main_v11 (ix2 r k) = (Q r (off 3088 (n := 1024) (Nat.le_of_ble_eq_true rfl) k) : EReal))
  (hq4 : ∀ r k, V c main_v13 (ix2 r k) = (Q r (off 4112 (n := 1024) (Nat.le_of_ble_eq_true rfl) k) : EReal))

include hd in
theorem blk1_0 (t : Fin cfg1.N) (r : Fin 512) (l : Fin 1024) : iblk1 V c 0 t (ix2 r l) = (D (row t r) l : EReal) := by
  obtain ⟨e0, e1⟩ := (by decide +kernel : ∀ t : Fin cfg1.N, win1_0.index t 0 = t.val ∧ win1_0.index t 1 = 0) t
  rw [← hd]; blk_ext [iblk1, e0, e1, row]
include hh in
theorem blk1_1 (t : Fin cfg1.N) (r : Fin 512) (l : Fin 1024) : iblk1 V c 1 t (ix2 r l) = (H (row t r) l : EReal) := by
  obtain ⟨e0, e1⟩ := (by decide +kernel : ∀ t : Fin cfg1.N, win1_1.index t 0 = t.val ∧ win1_1.index t 1 = 0) t
  rw [← hh]; blk_ext [iblk1, e0, e1, row]
include he in
theorem blk1_2 (t : Fin cfg1.N) (r : Fin 512) (l : Fin 1024) : iblk1 V c 2 t (ix2 r l) = (E (row t r) l : EReal) := by
  obtain ⟨e0, e1⟩ := (by decide +kernel : ∀ t : Fin cfg1.N, win1_2.index t 0 = t.val ∧ win1_2.index t 1 = 0) t
  rw [← he]; blk_ext [iblk1, e0, e1, row]
include hq0 in
theorem blk1_3 (t : Fin cfg1.N) (r : Fin 512) (k : Fin 1024) : iblk1 V c 3 t (ix2 r k) = (Q (row t r) (off 0 (by omega) k) : EReal) := by
  obtain ⟨e0, e1⟩ := (by decide +kernel : ∀ t : Fin cfg1.N, win1_3.index t 0 = t.val ∧ win1_3.index t 1 = 0) t
  rw [← hq0]; blk_ext [iblk1, e0, e1, row]
include hq1 in
theorem blk1_4 (t : Fin cfg1.N) (r : Fin 512) (k : Fin 1552) : iblk1 V c 4 t (ix2 r k) = (Q (row t r) (off 1024 (by omega) k) : EReal) := by
  obtain ⟨e0, e1⟩ := (by decide +kernel : ∀ t : Fin cfg1.N, win1_4.index t 0 = t.val ∧ win1_4.index t 1 = 0) t
  rw [← hq1]; blk_ext [iblk1, e0, e1, row]
include hq2 in
theorem blk1_5 (t : Fin cfg1.N) (r : Fin 512) (k : Fin 512) : iblk1 V c 5 t (ix2 r k) = (Q (row t r) (off 2576 (by omega) k) : EReal) := by
  obtain ⟨e0, e1⟩ := (by decide +kernel : ∀ t : Fin cfg1.N, win1_5.index t 0 = t.val ∧ win1_5.index t 1 = 0) t
  rw [← hq2]; blk_ext [iblk1, e0, e1, row]
include hq3 in
theorem blk1_6 (t : Fin cfg1.N) (r : Fin 512) (k : Fin 1024) : iblk1 V c 6 t (ix2 r k) = (Q (row t r) (off 3088 (by omega) k) : EReal) := by
  obtain ⟨e0, e1⟩ := (by decide +kernel : ∀ t : Fin cfg1.N, win1_6.index t 0 = t.val ∧ win1_6.index t 1 = 0) t
  rw [← hq3]; blk_ext [iblk1, e0, e1, row]
include hq4 in
theorem blk1_7 (t : Fin cfg1.N) (r : Fin 512) (k : Fin 1024) : iblk1 V c 7 t (ix2 r k) = (Q (row t r) (off 4112 (by omega) k) : EReal) := by
  obtain ⟨e0, e1⟩ := (by decide +kernel : ∀ t : Fin cfg1.N, win1_7.index t 0 = t.val ∧ win1_7.index t 1 = 0) t
  rw [← hq4]; blk_ext [iblk1, e0, e1, row]
include hg in
theorem blk1_8 (t : Fin cfg1.N) (l : Fin 1024) : iblk1 V c 8 t (ix2 0 l) = (g l : EReal) := by
  obtain ⟨e0, e1⟩ := (by decide +kernel : ∀ t : Fin cfg1.N, win1_8.index t 0 = 0 ∧ win1_8.index t 1 = 0) t
  rw [← hg]; blk_ext [iblk1, e0, e1]
include hw in
theorem blk1_9 (t : Fin cfg1.N) (k : Fin 5136) (l : Fin 1024) : iblk1 V c 9 t (ix2 k l) = (W l k : EReal) := by
  obtain ⟨e0, e1⟩ := (by decide +kernel : ∀ t : Fin cfg1.N, win1_9.index t 0 = 0 ∧ win1_9.index t 1 = 0) t
  rw [← hw]; blk_ext [iblk1, e0, e1]
include hw in
theorem grp1 {n : ℕ} (o : ℕ) (h) (ho : o + n ≤ 5136) (t : Fin cfg1.N) (k : Fin n) (l : Fin 1024) :
    grp o h (iblk1 V c 9 t) (ix2 k l) = (W l (off o ho k) : EReal) :=
  (grp_at o h ho _ k l).trans (blk1_9 V c hw t _ l)

include hw he hq0 hq1 hq2 hq3 hq4 in
theorem dxn1 (t : Fin cfg1.N) (r : Fin 512) (l : Fin 1024) : k1_pay3 (F := Ideal) (four V c t) (iblk1 V c 7 t) (grp 4112 inb_S5136x1024_S1024x1024_4112_0 (iblk1 V c 9 t))
      (ix2 r l) = (dxn W E Q (row t r) l : EReal) :=
  dxn_block t (blk1_2 V c he t) (blk1_3 V c hq0 t) (blk1_4 V c hq1 t) (blk1_5 V c hq2 t) (blk1_6 V c hq3 t) (blk1_7 V c hq4 t)
    (grp1 V c hw 0 inb_S5136x1024_S1024x1024_0_0 (by omega) t)
    (grp1 V c hw 1024 inb_S5136x1024_S1552x1024_1024_0 (by omega) t)
    (grp1 V c hw 2576 inb_S5136x1024_S512x1024_2576_0 (by omega) t)
    (grp1 V c hw 3088 inb_S5136x1024_S1024x1024_3088_0 (by omega) t)
    (grp1 V c hw 4112 inb_S5136x1024_S1024x1024_4112_0 (by omega) t) r l

include hw hh hg hd he hq0 hq1 hq2 hq3 hq4 in
theorem arr_dh : (dat1 (F := Ideal) V c).arrAt 10 cfg1.N = fun i => (dh H g W D E Q (i 0) (i 1) : EReal) := by
  refine (dat1 V c).arrAt_eq_of_covers 10 _ (by decide +kernel) fun t hf y => ?_
  obtain ⟨e0, e1⟩ := (by decide +kernel : ∀ t : Fin cfg1.N, win1_10.index t 0 = t.val ∧ win1_10.index t 1 = 0) t
  obtain ⟨r, l, rfl⟩ : ∃ (r : Fin 512) (l : Fin 1024), y = ix2 r l := ⟨y 0, y 1, eq_ix2 y⟩
  refine at_place (fun r l => (dh H g W D E Q r l : EReal)) (r := row t r) (l := l) ?_ ?_ ?_
  · have key := dh_block (blk1_8 V c hg t) t (blk1_1 V c hh t) (blk1_0 V c hd t) (dxn1 V c hw he hq0 hq1 hq2 hq3 hq4 t) r l
    blk_simp; rw [after1_10]
    by_cases h : t.val % 32 = 0
    · rw [dh_A V c t h]; exact key
    · rw [dh_B V c t h]; exact key
  · blk_simp [e0, e1, row]
  · blk_simp [e0, e1, row]

/-- The last grid point. -/
def last1 : Fin cfg1.N := ⟨31, by decide⟩

include hw hh he hq0 hq1 hq2 hq3 hq4 in
theorem arr_dg : (dat1 (F := Ideal) V c).arrAt 11 cfg1.N = fun i => (dg H W E Q (i 1) : EReal) := by
  refine (dat1 V c).arrAt_eq_of_after_last 11 last1 (by decide +kernel) _ fun j => ?_
  obtain ⟨l, rfl⟩ : ∃ l : Fin 1024, j = ix2 0 l := one_row j
  blk_simp; rw [after1_11]
  refine (Pipeline.eq_sum_fin_of_reset_step_apply_last (fun n h => (outsAt1 V c n h).2) 32 (fun _ => (0 : EReal))
    (fun t j => ((∑ r, dxn W E Q (row t r) (j 1) * (H (row t r) (j 1) * rs (H (row t r))) : ℝ) : EReal))
    (fun t h j => ?_) (fun t h j => ?_) (by decide) last1 rfl (ix2 0 l)).trans ?_
  · obtain ⟨l, rfl⟩ : ∃ l : Fin 1024, j = ix2 0 l := one_row j
    beta_reduce; rw [dg_A V c t h]
    refine (dg_block t (blk1_1 V c hh t) (dxn1 V c hw he hq0 hq1 hq2 hq3 hq4 t) _ l).trans ?_
    pointwise [k1_pay1]
  · obtain ⟨l, rfl⟩ : ∃ l : Fin 1024, j = ix2 0 l := one_row j
    beta_reduce; rw [dg_B V c t h]
    exact dg_block t (blk1_1 V c hh t) (dxn1 V c hw he hq0 hq1 hq2 hq3 hq4 t) _ l
  · rw [coe_sum, zero_add]
    exact congrArg Real.toEReal (sum_rows row rfl (fun _ _ => rfl) (fun r => dxn W E Q r l * (H r l * rs (H r))))

end Backward

end Cert.InprojIdeal
-- ==== Proof.Inproj.Run.lean ====
module
public import proofs.«01_k».proof.Proof.Inproj.Arrays

/-! The run of the two calls: every array of the machine ends at the contents that the last region leaves, and the
    results among them are the real arrays of `Spec`. -/

@[expose] public section

set_option maxRecDepth 16384

noncomputable section

namespace Cert.InprojIdeal

open Idealize.ShloMosaic Idealize.ShloMosaic.TcCoe Idealize.ShloMosaic.Tactic Cert.Reals
open Idealize.SL Idealize.SL.RA Idealize.SL.BI Idealize.SL.BI.BIBase Idealize.SL.BI.Laws Idealize.SL.ProofMode Idealize.SL.Sem
open scoped Idealize.SL.BI
open Idealize.ShloMosaic.Rounds
open Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unfolding definitions in a metavariable's type
set_option backward.isDefEq.respectTransparency.types false in
/-- Every buffer of the TensorCore ends at the contents after the last region. -/
theorem run_contents : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Run

section Values

variable (m : (ℓ : Loc nD τ sig) → Buf (Elt Ideal) ℓ) (ρ : Dev nD → PrngReg) (c : Dev nD)

variable {H : Fin 16384 → Fin 1024 → ℝ} {g : Fin 1024 → ℝ} {W : Fin 1024 → Fin 5136 → ℝ}
  {D E : Fin 16384 → Fin 1024 → ℝ} {Q : Fin 16384 → Fin 5136 → ℝ}
  (hH : ∀ r l, m ((c : Thread nD τ).loc main_arg0) (ix2 r l) = (H r l : EReal))
  (hg : ∀ l, m ((c : Thread nD τ).loc main_arg1) (ix1 l) = (g l : EReal))
  (hW : ∀ r j, m ((c : Thread nD τ).loc main_arg2) (ix2 r j) = (W r j : EReal))
  (hD : ∀ r l, m ((c : Thread nD τ).loc main_arg3) (ix2 r l) = (D r l : EReal))
  (hE : ∀ r l, m ((c : Thread nD τ).loc main_arg4) (ix2 r l) = (E r l : EReal))
  (hQ : ∀ r j, m ((c : Thread nD τ).loc main_arg5) (ix2 r j) = (Q r j : EReal))

include hW in
theorem v1_w (k : Fin 5136) (l : Fin 1024) : V1 m ρ c main_v1 (ix2 k l) = (W l k : EReal) := by
  rw [← hW, V1]; after_results_simp; pointwise
include hg in
theorem v1_g (l : Fin 1024) : V1 m ρ c main_v2 (ix2 0 l) = (g l : EReal) := by
  rw [← hg, V1]; after_results_simp; pointwise
include hg in
theorem v3_g (l : Fin 1024) : V3 m ρ c main_v14 (ix2 0 l) = (g l : EReal) := by
  have : V3 m ρ c main_v14 (ix2 0 l) = W2 m ρ c (Proc.devRef .tc main_arg1) (ix1 l) := by
    rw [V3]; after_results_simp; pointwise
  rw [this, W2_args m ρ c main_arg1 (by decide), hg]
include hH in
theorem v1_h (r : Fin 16384) (l : Fin 1024) : V1 m ρ c main_arg0 (ix2 r l) = (H r l : EReal) := by
  rw [V1, W1_args m ρ c main_arg0 (by decide), hH]
include hH in
theorem v3_h (r : Fin 16384) (l : Fin 1024) : V3 m ρ c main_arg0 (ix2 r l) = (H r l : EReal) := by
  rw [V3, W3_args m ρ c main_arg0 (by decide), hH]
include hD in
theorem v3_d (r : Fin 16384) (l : Fin 1024) : V3 m ρ c main_arg3 (ix2 r l) = (D r l : EReal) := by
  rw [V3, W3_args m ρ c main_arg3 (by decide), hD]
include hE in
theorem v3_e (r : Fin 16384) (l : Fin 1024) : V3 m ρ c main_arg4 (ix2 r l) = (E r l : EReal) := by
  rw [V3, W3_args m ρ c main_arg4 (by decide), hE]
include hW in
theorem v3_w (k : Fin 5136) (l : Fin 1024) : V3 m ρ c main_v1 (ix2 k l) = (W l k : EReal) := by
  rw [show V3 m ρ c main_v1 = V1 m ρ c main_v1 from
    (W3_of m ρ c main_v1 (by decide)).trans (W2_of m ρ c main_v1 (by decide)), v1_w m ρ c hW]
include hQ in
theorem v3_q0 (r : Fin 16384) (k : Fin 1024) :
    V3 m ρ c main_v5 (ix2 r k) = (Q r (InprojSpec.off 0 (by omega) k) : EReal) := by
  have : V3 m ρ c main_v5 (ix2 r k) = W2 m ρ c (Proc.devRef .tc main_arg5) (ix2 r (InprojSpec.off 0 (by omega) k)) := by
    rw [V3]; after_results_simp; pointwise [InprojSpec.off]
  rw [this, W2_args m ρ c main_arg5 (by decide), hQ]
include hQ in
theorem v3_q1 (r : Fin 16384) (k : Fin 1552) :
    V3 m ρ c main_v7 (ix2 r k) = (Q r (InprojSpec.off 1024 (by omega) k) : EReal) := by
  have : V3 m ρ c main_v7 (ix2 r k) = W2 m ρ c (Proc.devRef .tc main_arg5) (ix2 r (InprojSpec.off 1024 (by omega) k)) := by
    rw [V3]; after_results_simp; pointwise [InprojSpec.off]
  rw [this, W2_args m ρ c main_arg5 (by decide), hQ]
include hQ in
theorem v3_q2 (r : Fin 16384) (k : Fin 512) :
    V3 m ρ c main_v9 (ix2 r k) = (Q r (InprojSpec.off 2576 (by omega) k) : EReal) := by
  have : V3 m ρ c main_v9 (ix2 r k) = W2 m ρ c (Proc.devRef .tc main_arg5) (ix2 r (InprojSpec.off 2576 (by omega) k)) := by
    rw [V3]; after_results_simp; pointwise [InprojSpec.off]
  rw [this, W2_args m ρ c main_arg5 (by decide), hQ]
include hQ in
theorem v3_q3 (r : Fin 16384) (k : Fin 1024) :
    V3 m ρ c main_v11 (ix2 r k) = (Q r (InprojSpec.off 3088 (by omega) k) : EReal) := by
  have : V3 m ρ c main_v11 (ix2 r k) = W2 m ρ c (Proc.devRef .tc main_arg5) (ix2 r (InprojSpec.off 3088 (by omega) k)) := by
    rw [V3]; after_results_simp; pointwise [InprojSpec.off]
  rw [this, W2_args m ρ c main_arg5 (by decide), hQ]
include hQ in
theorem v3_q4 (r : Fin 16384) (k : Fin 1024) :
    V3 m ρ c main_v13 (ix2 r k) = (Q r (InprojSpec.off 4112 (by omega) k) : EReal) := by
  have : V3 m ρ c main_v13 (ix2 r k) = W2 m ρ c (Proc.devRef .tc main_arg5) (ix2 r (InprojSpec.off 4112 (by omega) k)) := by
    rw [V3]; after_results_simp; pointwise [InprojSpec.off]
  rw [this, W2_args m ρ c main_arg5 (by decide), hQ]

include hH hg in
theorem w4_xn : W4 m ρ c main_v3_0 = fun i => (InprojSpec.xn H g (i 0) (i 1) : EReal) := by
  rw [show W4 m ρ c main_v3_0 = (dat0 (V1 m ρ) c).arrAt 3 cfg0.N from
    (W4_of m ρ c main_v3_0 (by decide)).trans ((W3_of m ρ c main_v3_0 (by decide)).trans (W2_arr m ρ c 3)),
    arr_xn (V1 m ρ) c (v1_h m ρ c hH) (v1_g m ρ c hg)]
include hH hg hW in
theorem w4_cols0 : W4 m ρ c main_v3_1 = fun i => (InprojSpec.proj H g W (i 0) (InprojSpec.off 0 (n := 1024) (by omega) (i 1)) : EReal) := by
  rw [show W4 m ρ c main_v3_1 = (dat0 (V1 m ρ) c).arrAt 4 cfg0.N from
    (W4_of m ρ c main_v3_1 (by decide)).trans ((W3_of m ρ c main_v3_1 (by decide)).trans (W2_arr m ρ c 4)),
    arr_cols0 (V1 m ρ) c (v1_w m ρ c hW) (v1_h m ρ c hH) (v1_g m ρ c hg)]
include hH hg hW in
theorem w4_cols1024 : W4 m ρ c main_v3_2 = fun i => (InprojSpec.proj H g W (i 0) (InprojSpec.off 1024 (n := 1536) (by omega) (i 1)) : EReal) := by
  rw [show W4 m ρ c main_v3_2 = (dat0 (V1 m ρ) c).arrAt 5 cfg0.N from
    (W4_of m ρ c main_v3_2 (by decide)).trans ((W3_of m ρ c main_v3_2 (by decide)).trans (W2_arr m ρ c 5)),
    arr_cols1024 (V1 m ρ) c (v1_w m ρ c hW) (v1_h m ρ c hH) (v1_g m ρ c hg)]
include hH hg hW in
theorem w4_cols2560 : W4 m ρ c main_v3_3 = fun i => (InprojSpec.proj H g W (i 0) (InprojSpec.off 2560 (n := 16) (by omega) (i 1)) : EReal) := by
  rw [show W4 m ρ c main_v3_3 = (dat0 (V1 m ρ) c).arrAt 6 cfg0.N from
    (W4_of m ρ c main_v3_3 (by decide)).trans ((W3_of m ρ c main_v3_3 (by decide)).trans (W2_arr m ρ c 6)),
    arr_cols2560 (V1 m ρ) c (v1_w m ρ c hW) (v1_h m ρ c hH) (v1_g m ρ c hg)]
include hH hg hW in
theorem w4_cols2576 : W4 m ρ c main_v3_4 = fun i => (InprojSpec.proj H g W (i 0) (InprojSpec.off 2576 (n := 1536) (by omega) (i 1)) : EReal) := by
  rw [show W4 m ρ c main_v3_4 = (dat0 (V1 m ρ) c).arrAt 7 cfg0.N from
    (W4_of m ρ c main_v3_4 (by decide)).trans ((W3_of m ρ c main_v3_4 (by decide)).trans (W2_arr m ρ c 7)),
    arr_cols2576 (V1 m ρ) c (v1_w m ρ c hW) (v1_h m ρ c hH) (v1_g m ρ c hg)]
include hH hg hW in
theorem w4_cols4112 : W4 m ρ c main_v3_5 = fun i => (InprojSpec.proj H g W (i 0) (InprojSpec.off 4112 (n := 1024) (by omega) (i 1)) : EReal) := by
  rw [show W4 m ρ c main_v3_5 = (dat0 (V1 m ρ) c).arrAt 8 cfg0.N from
    (W4_of m ρ c main_v3_5 (by decide)).trans ((W3_of m ρ c main_v3_5 (by decide)).trans (W2_arr m ρ c 8)),
    arr_cols4112 (V1 m ρ) c (v1_w m ρ c hW) (v1_h m ρ c hH) (v1_g m ρ c hg)]
include hH hg hW hD hE hQ in
theorem w4_dh : W4 m ρ c main_v15_0 = fun i => (InprojSpec.dh H g W D E Q (i 0) (i 1) : EReal) :=
  (W4_arr m ρ c 10).trans (arr_dh (V3 m ρ) c (v3_w m ρ c hW) (v3_h m ρ c hH) (v3_g m ρ c hg) (v3_d m ρ c hD) (v3_e m ρ c hE)
    (v3_q0 m ρ c hQ) (v3_q1 m ρ c hQ) (v3_q2 m ρ c hQ) (v3_q3 m ρ c hQ) (v3_q4 m ρ c hQ))
include hH hW hE hQ in
theorem w4_dg : W4 m ρ c main_v15_1 = fun i => (InprojSpec.dg H W E Q (i 1) : EReal) :=
  (W4_arr m ρ c 11).trans (arr_dg (V3 m ρ) c (v3_w m ρ c hW) (v3_h m ρ c hH) (v3_e m ρ c hE)
    (v3_q0 m ρ c hQ) (v3_q1 m ρ c hQ) (v3_q2 m ρ c hQ) (v3_q3 m ρ c hQ) (v3_q4 m ρ c hQ))

end Values

end Cert.InprojIdeal
-- ==== Proof.Inproj.Ref.lean ====
module
public import proofs.«01_k».proof.Proof.Gen.InprojRefIdeal.Run
public import proofs.«01_k».proof.Proof.Gen.InprojRefIdeal.Read
public import proofs.«01_k».proof.Proof.Inproj.Spec

/-! What the reference computes at finite arguments, value by value. -/

@[expose] public section

set_option maxRecDepth 16384

noncomputable section

namespace Cert.InprojRefIdeal

open Idealize.ShloMosaic Idealize.ShloMosaic.TcCoe Idealize.ShloMosaic.Tactic Idealize.SL.Sem Cert.Reals
open Gen Read

variable {H : Fin 16384 → Fin 1024 → ℝ} {g : Fin 1024 → ℝ} {W : Fin 1024 → Fin 5136 → ℝ}
  {D E : Fin 16384 → Fin 1024 → ℝ} {Q : Fin 16384 → Fin 5136 → ℝ}
  {x0 x3 x4 : FVec Ideal S16384x1024 .f32} {x1 : FVec Ideal S1024 .f32} {x2 : FVec Ideal S1024x5136 .f32}
  {x5 : FVec Ideal S16384x5136 .f32}
  (hH : ∀ r l, x0 (ix2 r l) = (H r l : EReal)) (hg : ∀ l, x1 (ix1 l) = (g l : EReal))
  (hW : ∀ r l, x2 (ix2 r l) = (W r l : EReal)) (hD : ∀ r l, x3 (ix2 r l) = (D r l : EReal))
  (hE : ∀ r l, x4 (ix2 r l) = (E r l : EReal)) (hQ : ∀ r l, x5 (ix2 r l) = (Q r l : EReal))

include hH in
theorem ms_ref (r : Fin 16384) :
    val_main_v6 (F := Ideal) x0 (ix2 r 0) = (((∑ x, H r x * H r x) / 1024 + eps : ℝ) : EReal) := by
  pointwise [val_main_v6, val_main_v5, val_main_v4, val_main_v3, val_main_v2, val_main_v1, val_main_v0, val_main_cst,
    val_main_cst_0, val_main_cst_1]
  simp only [hH, ← EReal.coe_mul, coe_sum, lit_1024, lit_eps, div_real _ (show (1024 : ℝ) ≠ 0 by norm_num),
    ← EReal.coe_add]

include hH in
theorem rs_ref (r : Fin 16384) : val_main_v7 (F := Ideal) x0 (ix2 r 0) = (rs (H r) : EReal) := by
  have := ms_ref hH r
  pointwise [val_main_v7]
  rw [this, rsqrt_ms]

include hH in
theorem drs_ref (r : Fin 16384) (k : Fin 1) :
    val_main_v10 (F := Ideal) x0 (ix2 r k) = ((-1 / 2 * (rs (H r) * (rs (H r) * rs (H r))) : ℝ) : EReal) := by
  have h7 := ms_ref hH r
  have h8 := rs_ref hH r
  obtain rfl := Subsingleton.elim k 0
  pointwise [val_main_v10, val_main_v9, val_main_v8, val_main_cst_2]
  rw [h7, h8, lit_neg_half, div_real _ (ms_pos (H r)).ne', rs_sq, ← EReal.coe_mul]

include hH hg in
theorem xn_f32_ref (r : Fin 16384) (l : Fin 1024) :
    val_main_v15 (F := Ideal) x0 x1 (ix2 r l) = (InprojSpec.xn H g r l : EReal) := by
  have h8 := rs_ref hH
  pointwise [val_main_v15, val_main_v14, val_main_v13, val_main_v12, val_main_v11]
  simp only [hH, hg, h8, ← EReal.coe_mul]
  rfl

include hH hg in
theorem xn_ref (r : Fin 16384) (l : Fin 1024) :
    val_main_v40 (F := Ideal) x0 x1 (ix2 r l) = (InprojSpec.xn H g r l : EReal) := by
  have h := xn_f32_ref hH hg r l
  pointwise [val_main_v40]
  exact h

include hH hg hW in
theorem proj_ref (r : Fin 16384) (j : Fin 5136) :
    val_main_v16 (F := Ideal) x0 x1 x2 (ix2 r j) = (InprojSpec.proj H g W r j : EReal) := by
  have h := xn_f32_ref hH hg
  pointwise [val_main_v16]
  simp only [h, hW, ← EReal.coe_mul, coe_sum]
  rfl

include hH hg hW in
theorem cols0_ref (r : Fin 16384) (k : Fin 1024) :
    val_main_v41 (F := Ideal) x0 x1 x2 (ix2 r k) = (InprojSpec.proj H g W r (InprojSpec.off 0 (by omega) k) : EReal) := by
  rw [val_main_v41_apply, ← proj_ref hH hg hW]
  exact congrArg _ (by rw [eq_ix2 (idx_main_v41 _)]; exact congrArg₂ ix2 (Fin.ext (by simp)) (Fin.ext (by simp [InprojSpec.off]; try omega)))

include hH hg hW in
theorem cols1024_ref (r : Fin 16384) (k : Fin 1536) :
    val_main_v42 (F := Ideal) x0 x1 x2 (ix2 r k) = (InprojSpec.proj H g W r (InprojSpec.off 1024 (by omega) k) : EReal) := by
  rw [val_main_v42_apply, ← proj_ref hH hg hW]
  exact congrArg _ (by rw [eq_ix2 (idx_main_v42 _)]; exact congrArg₂ ix2 (Fin.ext (by simp)) (Fin.ext (by simp [InprojSpec.off]; try omega)))

include hH hg hW in
theorem cols2560_ref (r : Fin 16384) (k : Fin 16) :
    val_main_v43 (F := Ideal) x0 x1 x2 (ix2 r k) = (InprojSpec.proj H g W r (InprojSpec.off 2560 (by omega) k) : EReal) := by
  rw [val_main_v43_apply, ← proj_ref hH hg hW]
  exact congrArg _ (by rw [eq_ix2 (idx_main_v43 _)]; exact congrArg₂ ix2 (Fin.ext (by simp)) (Fin.ext (by simp [InprojSpec.off]; try omega)))

include hH hg hW in
theorem cols2576_ref (r : Fin 16384) (k : Fin 1536) :
    val_main_v44 (F := Ideal) x0 x1 x2 (ix2 r k) = (InprojSpec.proj H g W r (InprojSpec.off 2576 (by omega) k) : EReal) := by
  rw [val_main_v44_apply, ← proj_ref hH hg hW]
  exact congrArg _ (by rw [eq_ix2 (idx_main_v44 _)]; exact congrArg₂ ix2 (Fin.ext (by simp)) (Fin.ext (by simp [InprojSpec.off]; try omega)))

include hH hg hW in
theorem cols4112_ref (r : Fin 16384) (k : Fin 1024) :
    val_main_v45 (F := Ideal) x0 x1 x2 (ix2 r k) = (InprojSpec.proj H g W r (InprojSpec.off 4112 (by omega) k) : EReal) := by
  rw [val_main_v45_apply, ← proj_ref hH hg hW]
  exact congrArg _ (by rw [eq_ix2 (idx_main_v45 _)]; exact congrArg₂ ix2 (Fin.ext (by simp)) (Fin.ext (by simp [InprojSpec.off]; try omega)))

include hW hE hQ in
theorem dxn_ref (r : Fin 16384) (l : Fin 1024) :
    val_main_v18 (F := Ideal) x2 x4 x5 (ix2 r l) = (InprojSpec.dxn W E Q r l : EReal) := by
  pointwise [val_main_v18, val_main_v17]
  simp only [hW, hE, hQ, ← EReal.coe_mul, coe_sum, ← EReal.coe_add]
  rfl

include hH hg hW hD hE hQ in
theorem dh_ref (r : Fin 16384) (l : Fin 1024) :
    val_main_v39 (F := Ideal) x0 x1 x2 x3 x4 x5 (ix2 r l) = (InprojSpec.dh H g W D E Q r l : EReal) := by
  have h1 := dxn_ref hW hE hQ
  have h8 := rs_ref hH
  have h11 := drs_ref hH
  pointwise [val_main_v39, val_main_v38, val_main_v37, val_main_v36, val_main_v35, val_main_v34, val_main_v33, val_main_v32,
    val_main_v31, val_main_v30, val_main_v29, val_main_v28, val_main_v27, val_main_v26, val_main_v25, val_main_v23, val_main_v22,
    val_main_v13, val_main_cst_5, val_main_cst_6, val_main_cst_7]
  simp only [h1, h8, h11, hH, hg, hD, ← EReal.coe_mul, coe_sum, lit_1024, div_real _ (show (1024 : ℝ) ≠ 0 by norm_num),
    ← EReal.coe_add, Fin.sum_univ_one]
  refine congrArg Real.toEReal ?_
  unfold InprojSpec.dh; rw [rmsBack_eq]; ring

include hH hW hE hQ in
theorem dg_sum (l : Fin 1024) :
    val_main_v20 (F := Ideal) x0 x2 x4 x5 (ix1 l) = (InprojSpec.dg H W E Q l : EReal) := by
  have h1 := dxn_ref hW hE hQ
  have h8 := rs_ref hH
  pointwise [val_main_v20, val_main_v19, val_main_v12, val_main_v11, val_main_cst_3]
  simp only [h1, h8, hH, ← EReal.coe_mul, coe_sum]
  exact congrArg Real.toEReal (Finset.sum_congr rfl fun r _ => mul_comm _ _)

include hH hW hE hQ in
theorem dg_ref (l : Fin 1024) :
    val_main_v46 (F := Ideal) x0 x2 x4 x5 (ix2 0 l) = (InprojSpec.dg H W E Q l : EReal) := by
  rw [val_main_v46_apply, val_main_v24_apply, Fin.sum_univ_one, val_main_v21_apply, val_main_cst_4_apply]
  refine (lit_zero_add _).trans (Eq.trans (congrArg _ ?_) (dg_sum hH hW hE hQ l))
  rw [eq_ix1 (idx_main_v21 _)]
  exact congrArg ix1 (Fin.ext (by simp))

/-- A buffer of a device's TensorCore. -/
abbrev at_ (m : (ℓ : Loc nD τ sig) → Buf (Elt Ideal) ℓ) (c : Dev nD) (b : Ref sig .tc) : Buf (Elt Ideal) ((c.tc : Thread nD τ).loc b) :=
  m ((c.tc : Thread nD τ).loc b)

/-- The reference's run: its results are the named values, its arguments end unchanged and it has no semaphore. -/
theorem ref_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      at_ r.2.mem c main_v40 = val_main_v40 (F := Ideal) (at_ m c main_arg0) (at_ m c main_arg1)
      ∧ at_ r.2.mem c main_v41 = val_main_v41 (F := Ideal) (at_ m c main_arg0) (at_ m c main_arg1) (at_ m c main_arg2)
      ∧ at_ r.2.mem c main_v42 = val_main_v42 (F := Ideal) (at_ m c main_arg0) (at_ m c main_arg1) (at_ m c main_arg2)
      ∧ at_ r.2.mem c main_v43 = val_main_v43 (F := Ideal) (at_ m c main_arg0) (at_ m c main_arg1) (at_ m c main_arg2)
      ∧ at_ r.2.mem c main_v44 = val_main_v44 (F := Ideal) (at_ m c main_arg0) (at_ m c main_arg1) (at_ m c main_arg2)
      ∧ at_ r.2.mem c main_v45 = val_main_v45 (F := Ideal) (at_ m c main_arg0) (at_ m c main_arg1) (at_ m c main_arg2)
      ∧ at_ r.2.mem c main_v39 = val_main_v39 (F := Ideal) (at_ m c main_arg0) (at_ m c main_arg1) (at_ m c main_arg2) (at_ m c main_arg3) (at_ m c main_arg4) (at_ m c main_arg5)
      ∧ at_ r.2.mem c main_v46 = val_main_v46 (F := Ideal) (at_ m c main_arg0) (at_ m c main_arg2) (at_ m c main_arg4) (at_ m c main_arg5)
      ∧ at_ r.2.mem c main_arg0 = at_ m c main_arg0
      ∧ at_ r.2.mem c main_arg1 = at_ m c main_arg1
      ∧ at_ r.2.mem c main_arg2 = at_ m c main_arg2
      ∧ at_ r.2.mem c main_arg3 = at_ m c main_arg3
      ∧ at_ r.2.mem c main_arg4 = at_ m c main_arg4
      ∧ at_ r.2.mem c main_arg5 = at_ m c main_arg5) ∧ r.2.sem = fun _ => 0 :=
  (θ_run _ _ _).mono (fun r h => And.intro (fun c => by
      obtain ⟨h1, h2, h3, h4, h5, h6, h7, h8, h9⟩ := h c
      exact ⟨h1.trans (val_main_v40_eq _ _), h2.trans (val_main_v41_eq _ _ _), h3.trans (val_main_v42_eq _ _ _),
        h4.trans (val_main_v43_eq _ _ _), h5.trans (val_main_v44_eq _ _ _), h6.trans (val_main_v45_eq _ _ _),
        h7.trans (val_main_v39_eq _ _), h8.trans (val_main_v46_eq _ _ _ _), h9⟩)
    (sem_eq_zero_of_no_sems (by decide) r.2)) (Value.run m ρ)

end Cert.InprojRefIdeal
-- ==== Proof.Inproj.Claim.lean ====
module
public import proofs.«01_k».proof.Defs
public import proofs.«01_k».proof.Proof.Gen.Inproj.Frame
public import proofs.«01_k».proof.Proof.Gen.Pre_finite_inproj
public import proofs.«01_k».proof.Proof.Inproj.Run
public import proofs.«01_k».proof.Proof.Inproj.Ref

/-! The claims about the input projection: the three frames, and that the two calls' results are the reference's at finite
    arguments. -/

@[expose] public section

set_option maxRecDepth 16384

noncomputable section

namespace Cert.InprojClaim

open Idealize.ShloMosaic Idealize.ShloMosaic.TcCoe Idealize.ShloMosaic.Tactic Idealize.SL.Sem Cert.Reals

open Cert.Pre_finite_inproj in
/-- Where the precondition holds the arguments are real numbers. -/
theorem finite_of_pre {x0 x3 x4 : FVec Ideal S16384x1024 .f32} {x1 : FVec Ideal S1024 .f32} {x2 : FVec Ideal S1024x5136 .f32}
    {x5 : FVec Ideal S16384x5136 .f32} (h : fn x0 x1 x2 x3 x4 x5 = fun _ => 1#1) :
    x0 = (fun i => ((EReal.toReal (x0 i) : ℝ) : EReal))
    ∧ x1 = (fun i => ((EReal.toReal (x1 i) : ℝ) : EReal))
    ∧ x2 = (fun i => ((EReal.toReal (x2 i) : ℝ) : EReal))
    ∧ x3 = (fun i => ((EReal.toReal (x3 i) : ℝ) : EReal))
    ∧ x4 = (fun i => ((EReal.toReal (x4 i) : ℝ) : EReal))
    ∧ x5 = (fun i => ((EReal.toReal (x5 i) : ℝ) : EReal)) := by
  have : Subsingleton S_.Idx := ⟨fun _ _ => funext fun a => a.elim0⟩
  have h := congrFun h (fun a => a.elim0)
  dsimp only [fn, fn_part1] at h
  obtain ⟨h, h5⟩ := and_one h
  obtain ⟨h, h4⟩ := and_one h
  obtain ⟨h, h3⟩ := and_one h
  obtain ⟨h, h2⟩ := and_one h
  obtain ⟨h0, h1⟩ := and_one h
  exact ⟨real_of_all _ _ (fun _ => lit_inf) _ _ _ _ h0,
    real_of_all _ _ (fun _ => lit_inf) _ _ _ _ h1,
    real_of_all _ _ (fun _ => lit_inf) _ _ _ _ h2,
    real_of_all _ _ (fun _ => lit_inf) _ _ _ _ h3,
    real_of_all _ _ (fun _ => lit_inf) _ _ _ _ h4,
    real_of_all _ _ (fun _ => lit_inf) _ _ _ _ h5⟩

/-- The reference leaves its arguments as they were. -/
theorem frame_ref (m : (ℓ : Loc InprojRefIdeal.nD InprojRefIdeal.τ InprojRefIdeal.sig) → Buf (Elt Ideal) ℓ)
    (ρ : Dev InprojRefIdeal.nD → PrngReg) :
    θ_run (InprojRefIdeal.defs (F := Ideal)) (onTc (τ := InprojRefIdeal.τ) (InprojRefIdeal.main (F := Ideal))) ⟨m, fun _ => 0, ρ⟩
      (fun r => (∀ c : Dev InprojRefIdeal.nD,
        r.2.mem ((c.tc : Thread InprojRefIdeal.nD InprojRefIdeal.τ).loc InprojRefIdeal.main_arg0) = m ((c.tc : Thread InprojRefIdeal.nD InprojRefIdeal.τ).loc InprojRefIdeal.main_arg0)
        ∧ r.2.mem ((c.tc : Thread InprojRefIdeal.nD InprojRefIdeal.τ).loc InprojRefIdeal.main_arg1) = m ((c.tc : Thread InprojRefIdeal.nD InprojRefIdeal.τ).loc InprojRefIdeal.main_arg1)
        ∧ r.2.mem ((c.tc : Thread InprojRefIdeal.nD InprojRefIdeal.τ).loc InprojRefIdeal.main_arg2) = m ((c.tc : Thread InprojRefIdeal.nD InprojRefIdeal.τ).loc InprojRefIdeal.main_arg2)
        ∧ r.2.mem ((c.tc : Thread InprojRefIdeal.nD InprojRefIdeal.τ).loc InprojRefIdeal.main_arg3) = m ((c.tc : Thread InprojRefIdeal.nD InprojRefIdeal.τ).loc InprojRefIdeal.main_arg3)
        ∧ r.2.mem ((c.tc : Thread InprojRefIdeal.nD InprojRefIdeal.τ).loc InprojRefIdeal.main_arg4) = m ((c.tc : Thread InprojRefIdeal.nD InprojRefIdeal.τ).loc InprojRefIdeal.main_arg4)
        ∧ r.2.mem ((c.tc : Thread InprojRefIdeal.nD InprojRefIdeal.τ).loc InprojRefIdeal.main_arg5) = m ((c.tc : Thread InprojRefIdeal.nD InprojRefIdeal.τ).loc InprojRefIdeal.main_arg5)) ∧ r.2.sem = fun _ => 0) :=
  (θ_run _ _ _).mono (fun _ h => ⟨fun c => (h.1 c).2.2.2.2.2.2.2.2, h.2⟩) (InprojRefIdeal.ref_run m ρ)

theorem algebraic : Cert.algebraic_InprojIdeal_InprojRefIdeal_pre_finite_inproj := by
  intro m g m' g' hpre hargs
  refine ⟨fun c => InprojIdeal.Gen.W4 m g c InprojIdeal.main_v3_0,
    fun c => InprojIdeal.Gen.W4 m g c InprojIdeal.main_v3_1,
    fun c => InprojIdeal.Gen.W4 m g c InprojIdeal.main_v3_2,
    fun c => InprojIdeal.Gen.W4 m g c InprojIdeal.main_v3_3,
    fun c => InprojIdeal.Gen.W4 m g c InprojIdeal.main_v3_4,
    fun c => InprojIdeal.Gen.W4 m g c InprojIdeal.main_v3_5,
    fun c => InprojIdeal.Gen.W4 m g c InprojIdeal.main_v15_0,
    fun c => InprojIdeal.Gen.W4 m g c InprojIdeal.main_v15_1, ?_, ?_⟩
  · refine (θ_run _ _ _).mono (fun r h c => ?_) (InprojIdeal.run_contents m g)
    have hm := fun b hb => h c (Proc.devRef .tc b) (InprojIdeal.Gen.mem_uc b hb)
    exact ⟨hm _ (by decide), hm _ (by decide), hm _ (by decide), hm _ (by decide), hm _ (by decide), hm _ (by decide), hm _ (by decide), hm _ (by decide),
      (hm _ (by decide)).trans (InprojIdeal.Gen.W4_main_arg0 m g c),
      (hm _ (by decide)).trans (InprojIdeal.Gen.W4_main_arg1 m g c),
      (hm _ (by decide)).trans (InprojIdeal.Gen.W4_main_arg2 m g c),
      (hm _ (by decide)).trans (InprojIdeal.Gen.W4_main_arg3 m g c),
      (hm _ (by decide)).trans (InprojIdeal.Gen.W4_main_arg4 m g c),
      (hm _ (by decide)).trans (InprojIdeal.Gen.W4_main_arg5 m g c)⟩
  · refine (θ_run _ _ _).mono (fun r h c => ?_) (InprojRefIdeal.ref_run m' g')
    obtain ⟨a0, a1, a2, a3, a4, a5⟩ := hargs c
    obtain ⟨f0, f1, f2, f3, f4, f5⟩ := finite_of_pre (hpre c)
    have H0 := fun r l => congrFun f0 (ix2 r l)
    have H1 := fun l => congrFun f1 (ix1 l)
    have H2 := fun r l => congrFun f2 (ix2 r l)
    have H3 := fun r l => congrFun f3 (ix2 r l)
    have H4 := fun r l => congrFun f4 (ix2 r l)
    have H5 := fun r l => congrFun f5 (ix2 r l)
    obtain ⟨h1, h2, h3, h4, h5, h6, h7, h8, hrest⟩ := h.1 c
    refine ⟨h1.trans ?_, h2.trans ?_, h3.trans ?_, h4.trans ?_, h5.trans ?_, h6.trans ?_, h7.trans ?_, h8.trans ?_, hrest⟩
    · dsimp only [InprojRefIdeal.at_]
      rw [a0, a1, InprojIdeal.w4_xn m g c H0 H1]
      funext i; rw [eq_ix2 i]
      exact InprojRefIdeal.xn_ref H0 H1 _ _
    · dsimp only [InprojRefIdeal.at_]
      rw [a0, a1, a2, InprojIdeal.w4_cols0 m g c H0 H1 H2]
      funext i; rw [eq_ix2 i]
      exact InprojRefIdeal.cols0_ref H0 H1 H2 _ _
    · dsimp only [InprojRefIdeal.at_]
      rw [a0, a1, a2, InprojIdeal.w4_cols1024 m g c H0 H1 H2]
      funext i; rw [eq_ix2 i]
      exact InprojRefIdeal.cols1024_ref H0 H1 H2 _ _
    · dsimp only [InprojRefIdeal.at_]
      rw [a0, a1, a2, InprojIdeal.w4_cols2560 m g c H0 H1 H2]
      funext i; rw [eq_ix2 i]
      exact InprojRefIdeal.cols2560_ref H0 H1 H2 _ _
    · dsimp only [InprojRefIdeal.at_]
      rw [a0, a1, a2, InprojIdeal.w4_cols2576 m g c H0 H1 H2]
      funext i; rw [eq_ix2 i]
      exact InprojRefIdeal.cols2576_ref H0 H1 H2 _ _
    · dsimp only [InprojRefIdeal.at_]
      rw [a0, a1, a2, InprojIdeal.w4_cols4112 m g c H0 H1 H2]
      funext i; rw [eq_ix2 i]
      exact InprojRefIdeal.cols4112_ref H0 H1 H2 _ _
    · dsimp only [InprojRefIdeal.at_]
      rw [a0, a1, a2, a3, a4, a5, InprojIdeal.w4_dh m g c H0 H1 H2 H3 H4 H5]
      funext i; rw [eq_ix2 i]
      exact InprojRefIdeal.dh_ref H0 H1 H2 H3 H4 H5 _ _
    · dsimp only [InprojRefIdeal.at_]
      rw [a0, a2, a4, a5, InprojIdeal.w4_dg m g c H0 H2 H4 H5]
      funext i; obtain ⟨l, rfl⟩ := one_row i
      exact InprojRefIdeal.dg_ref H0 H2 H4 H5 _

end Cert.InprojClaim
-- ==== Proof.Merge.Spec.lean ====
module
public import proofs.«01_k».proof.Proof.Reals
public import proofs.«01_k».proof.Proof.Ffn.Spec

/-! The four gated branches put together, `h + (∑ n, sigmoid (x · G n + b n) * (y n · B n)) · O`, and the gradients over the reals. -/

@[expose] public section

set_option maxRecDepth 16384

noncomputable section

namespace Cert.MergeSpec

open Idealize.ShloMosaic Cert.Reals

variable (H X : Fin 16384 → Fin 1024 → ℝ) (Y : Fin 4 → Fin 16384 → Fin 512 → ℝ) (G : Fin 4 → Fin 1024 → Fin 1024 → ℝ)
  (b : Fin 4 → Fin 1024 → ℝ) (B : Fin 4 → Fin 512 → Fin 1024 → ℝ) (O : Fin 1024 → Fin 1024 → ℝ) (D : Fin 16384 → Fin 1024 → ℝ)

/-- The argument of the gate of branch `n`. -/
def z (n : Fin 4) (r : Fin 16384) (l : Fin 1024) : ℝ := ∑ x, X r x * G n x l + b n l
/-- The projected branch. -/
def bo (n : Fin 4) (r : Fin 16384) (l : Fin 1024) : ℝ := ∑ k, Y n r k * B n k l
def merged (r : Fin 16384) (l : Fin 1024) : ℝ := ∑ n, sig (z X G b n r l) * bo Y B n r l
def out (r : Fin 16384) (j : Fin 1024) : ℝ := H r j + ∑ l, merged X Y G b B r l * O l j
/-- The gradient at the merged branches. -/
def dm (r : Fin 16384) (l : Fin 1024) : ℝ := ∑ j, D r j * O l j
/-- The gradient at the projected branch. -/
def dbo (n : Fin 4) (r : Fin 16384) (l : Fin 1024) : ℝ := dm O D r l * sig (z X G b n r l)
/-- The gradient at the gate's argument. -/
def dz (n : Fin 4) (r : Fin 16384) (l : Fin 1024) : ℝ :=
  dm O D r l * bo Y B n r l * (sig (z X G b n r l) * (1 - sig (z X G b n r l)))
def dx (r : Fin 16384) (x : Fin 1024) : ℝ := ∑ n, ∑ l, dz X Y G b B O D n r l * G n x l
def dy (n : Fin 4) (r : Fin 16384) (k : Fin 512) : ℝ := ∑ l, dbo X G b O D n r l * B n k l
def db (n : Fin 4) (l : Fin 1024) : ℝ := ∑ r, dz X Y G b B O D n r l

theorem sig_coe (x : ℝ) : Ideal.div 1 (1 + Ideal.exp (-(x : EReal))) = (sig x : EReal) := by
  have h : (1 + Real.exp (-x)) ≠ 0 := by positivity
  rw [← EReal.coe_neg, Ideal.exp_coe, ← EReal.coe_one, ← EReal.coe_add, div_real _ h]; rfl

theorem sig_sub (x : ℝ) : Ideal.div 1 (1 + Ideal.exp (0 - (x : EReal))) = (sig x : EReal) := by
  rw [zero_sub, sig_coe]

theorem one_sub_coe (x : ℝ) : (1 : EReal) - (x : EReal) = ((1 - x : ℝ) : EReal) := by
  rw [← EReal.coe_one, ← EReal.coe_sub]

end Cert.MergeSpec
-- ==== Proof.Merge.Blocks.lean ====
module
public import proofs.«01_k».proof.Proof.Gen.MergeIdeal.Frame
public import proofs.«01_k».proof.Proof.Merge.Spec

/-! What one grid point of the two calls computes for one branch from its blocks, at finite blocks. -/

@[expose] public section

set_option maxRecDepth 16384

noncomputable section

namespace Cert.MergeIdeal

open Idealize.ShloMosaic Idealize.ShloMosaic.TcCoe Idealize.ShloMosaic.Tactic Cert.Reals
open Gen MergeSpec

theorem lit_one : (Scalar.ofBits .f32 0x3F800000#32 : Ideal .f32) = (1 : EReal) := by pointwise []

section Forward

variable {X Z O M R : Fin 512 → Fin 1024 → ℝ} {Y : Fin 512 → Fin 512 → ℝ} {G W : Fin 1024 → Fin 1024 → ℝ} {b : Fin 1024 → ℝ}
  {B : Fin 512 → Fin 1024 → ℝ} {x : FVec Ideal S512x1024 .bf16} {y : FVec Ideal S512x512 .bf16} {w : FVec Ideal S1x1024x1024 .bf16}
  {c : FVec Ideal S1x1024 .f32} {p : FVec Ideal S1x512x1024 .bf16} {z o m h : FVec Ideal S512x1024 .f32} {v : FVec Ideal S1024x1024 .bf16}
  (hx : ∀ r l, x (ix2 r l) = (X r l : EReal)) (hy : ∀ r k, y (ix2 r k) = (Y r k : EReal)) (hw : ∀ k l, w (ix3 0 k l) = (G k l : EReal))
  (hc : ∀ l, c (ix2 0 l) = (b l : EReal)) (hp : ∀ k l, p (ix3 0 k l) = (B k l : EReal)) (hz : ∀ r l, z (ix2 r l) = (Z r l : EReal))
  (ho : ∀ r l, o (ix2 r l) = (O r l : EReal)) (hm : ∀ r l, m (ix2 r l) = (M r l : EReal)) (hh : ∀ r l, h (ix2 r l) = (R r l : EReal))
  (hv : ∀ k l, v (ix2 k l) = (W k l : EReal))

include hx hw hc in
/-- The argument of a branch's gate. -/
theorem z_block (r : Fin 512) (l : Fin 1024) :
    k0_pay20 (F := Ideal) (k0_pay3 x) w c (ix2 r l) = ((∑ k, X r k * G k l + b l : ℝ) : EReal) := by
  pointwise [k0_pay20, k0_pay3]
  simp only [hx, hw, hc, ← EReal.coe_mul, coe_sum, ← EReal.coe_add]

include hx hw hc in
theorem zb_block (r : Fin 512) (l : Fin 1024) :
    k0_pay22 (F := Ideal) (k0_pay3 x) w c (ix2 r l) = ((∑ k, X r k * G k l + b l : ℝ) : EReal) := by
  have := z_block hx hw hc r l
  pointwise [k0_pay22]
  exact this

include hy hp in
/-- A projected branch. -/
theorem bo_block (r : Fin 512) (l : Fin 1024) : k0_pay21 (F := Ideal) y p (ix2 r l) = ((∑ k, Y r k * B k l : ℝ) : EReal) := by
  pointwise [k0_pay21]
  simp only [hy, hp, ← EReal.coe_mul, coe_sum]

include hy hp in
theorem bob_block (r : Fin 512) (l : Fin 1024) : k0_pay23 (F := Ideal) y p (ix2 r l) = ((∑ k, Y r k * B k l : ℝ) : EReal) := by
  have := bo_block hy hp r l
  pointwise [k0_pay23]
  exact this

include hm hz ho in
/-- A gated branch added to those before it. -/
theorem add_block (r : Fin 512) (l : Fin 1024) :
    k0_pay19 (F := Ideal) m z o (ix2 r l) = ((M r l + Cert.Reals.sig (Z r l) * O r l : ℝ) : EReal) := by
  pointwise [k0_pay19]
  simp only [hm, hz, ho, sig_sub, ← EReal.coe_mul, ← EReal.coe_add]

include hm ho hx hw hc in
/-- The last gated branch added. -/
theorem last_block (r : Fin 512) (l : Fin 1024) :
    k0_pay1 (F := Ideal) m o (k0_pay24 (k0_pay3 x) w c) (Scalar.ofBits .f32 0x3F800000#32) (ix2 r l)
      = ((M r l + Cert.Reals.sig (∑ k, X r k * G k l + b l) * O r l : ℝ) : EReal) := by
  have := z_block hx hw hc
  pointwise [k0_pay1, k0_pay24]
  simp only [hm, this, ho, sig_sub, ← EReal.coe_mul, ← EReal.coe_add]

include hm ho hx hw hc hh hv in
theorem out_block (r : Fin 512) (l : Fin 1024) :
    k0_pay2 (F := Ideal) m o (k0_pay24 (k0_pay3 x) w c) (Scalar.ofBits .f32 0x3F800000#32) h v (ix2 r l)
      = ((R r l + ∑ j, (M r j + Cert.Reals.sig (∑ k, X r k * G k j + b j) * O r j) * W j l : ℝ) : EReal) := by
  have := last_block hx hw hc ho hm
  simp only [lit_one] at this
  pointwise [k0_pay2]
  simp only [hh, hv, this, ← EReal.coe_mul, coe_sum, ← EReal.coe_add]

end Forward

section Backward

variable {D Z O M Q A : Fin 256 → Fin 1024 → ℝ} {W G : Fin 1024 → Fin 1024 → ℝ} {B : Fin 512 → Fin 1024 → ℝ}
  {d m a : FVec Ideal S256x1024 .f32} {z o q : FVec Ideal S256x1024 .bf16} {v : FVec Ideal S1024x1024 .bf16}
  {w : FVec Ideal S1x1024x1024 .bf16} {p : FVec Ideal S1x512x1024 .bf16}
  (hd : ∀ r l, d (ix2 r l) = (D r l : EReal)) (hv : ∀ k l, v (ix2 k l) = (W k l : EReal)) (hm : ∀ r l, m (ix2 r l) = (M r l : EReal))
  (hz : ∀ r l, z (ix2 r l) = (Z r l : EReal)) (ho : ∀ r l, o (ix2 r l) = (O r l : EReal)) (hq : ∀ r l, q (ix2 r l) = (Q r l : EReal))
  (ha : ∀ r l, a (ix2 r l) = (A r l : EReal)) (hw : ∀ k l, w (ix3 0 k l) = (G k l : EReal)) (hp : ∀ k l, p (ix3 0 k l) = (B k l : EReal))

include hd hv in
/-- The gradient at the merged branches. -/
theorem dm_block (r : Fin 256) (l : Fin 1024) : k1_pay6 (F := Ideal) d v (ix2 r l) = ((∑ j, D r j * W l j : ℝ) : EReal) := by
  pointwise [k1_pay6, k1_pay5]
  simp only [hd, hv, ← EReal.coe_mul, coe_sum]

include hz in
theorem sig_block (r : Fin 256) (l : Fin 1024) : k1_pay15 (F := Ideal) z (ix2 r l) = (Cert.Reals.sig (Z r l) : EReal) := by
  pointwise [k1_pay15]
  simp only [hz, sig_sub]

include hm hz in
/-- The gradient at a projected branch. -/
theorem dbo_block (r : Fin 256) (l : Fin 1024) : k1_pay16 (F := Ideal) m z (ix2 r l) = ((M r l * Cert.Reals.sig (Z r l) : ℝ) : EReal) := by
  have := sig_block hz r l
  pointwise [k1_pay16]
  rw [this, hm, ← EReal.coe_mul]

include hm hz ho in
/-- The gradient at a gate's argument. -/
theorem dz_block (r : Fin 256) (l : Fin 1024) : k1_pay17 (F := Ideal) m z o (ix2 r l)
    = ((M r l * O r l * (Cert.Reals.sig (Z r l) * (1 - Cert.Reals.sig (Z r l))) : ℝ) : EReal) := by
  have := sig_block hz r l
  pointwise [k1_pay17]
  simp only [this, hm, ho, one_sub_coe, ← EReal.coe_mul]

include hm hz ho in
theorem dzb_block (r : Fin 256) (l : Fin 1024) : k1_pay18 (F := Ideal) m z o (ix2 r l)
    = ((M r l * O r l * (Cert.Reals.sig (Z r l) * (1 - Cert.Reals.sig (Z r l))) : ℝ) : EReal) := by
  have := dz_block hm hz ho r l
  pointwise [k1_pay18]
  exact this

include hq hp in
/-- The gradient at a branch. -/
theorem dy_block (r : Fin 256) (k : Fin 512) : k1_pay12 (F := Ideal) q p (ix2 r k) = ((∑ l, Q r l * B k l : ℝ) : EReal) := by
  pointwise [k1_pay12]
  simp only [hq, hp, ← EReal.coe_mul, coe_sum]

include hq ha hw in
/-- A gate's part of the gradient at the normed row added to those before it. -/
theorem dx_block (r : Fin 256) (k : Fin 1024) : k1_pay13 (F := Ideal) a q w (ix2 r k) = ((A r k + ∑ l, Q r l * G k l : ℝ) : EReal) := by
  pointwise [k1_pay13]
  simp only [ha, hq, hw, ← EReal.coe_mul, coe_sum, ← EReal.coe_add]

include hm in
theorem sum_block (l : Fin 1024) : k1_pay14 (F := Ideal) m (ix2 0 l) = ((∑ r, M r l : ℝ) : EReal) := by
  pointwise [k1_pay14]
  simp only [hm, coe_sum]

end Backward

end Cert.MergeIdeal
-- ==== Proof.Merge.Outs.lean ====
module
public import proofs.«01_k».proof.Proof.Ffn.Cols
public import proofs.«01_k».proof.Proof.Merge.Blocks

/-! What a grid point leaves in the output blocks, as terms of the blocks that it loads: every branch takes its plane of the
    weights and its 1024 columns of the saved values. -/

@[expose] public section

set_option maxRecDepth 16384

noncomputable section

namespace Cert.MergeIdeal

open Idealize.ShloMosaic Idealize.ShloMosaic.TcCoe Idealize.ShloMosaic.Tactic Cert.Reals
open Gen MergeSpec

open FfnSpec (col)
open FfnIdeal (col_emb canon_cols)

theorem plane_emb {m k : ℕ} (o : ℕ) (h : ∀ x, (![o, 0, 0] : Fin 3 → ℕ) x + (![1, m, k] : Fin 3 → ℕ) x ≤ (![4, m, k] : Fin 3 → ℕ) x)
    (n : Fin 4) (ho : o = n.val) (i : Fin m) (j : Fin k) :
    (Rect.unit (s := ⟨3, ![4, m, k]⟩) ![o, 0, 0] ![1, m, k] h).emb (ix3 0 i j) = ix3 n i j := by
  funext x; apply Fin.ext
  fin_cases x
  · show o + 1 * 0 = n.val; omega
  · show 0 + 1 * i.val = i.val; omega
  · show 0 + 1 * j.val = j.val; omega

theorem line_emb {k : ℕ} (o : ℕ) (h : ∀ x, (![o, 0] : Fin 2 → ℕ) x + (![1, k] : Fin 2 → ℕ) x ≤ (![4, k] : Fin 2 → ℕ) x)
    (n : Fin 4) (ho : o = n.val) (j : Fin k) :
    (Rect.unit (s := ⟨2, ![4, k]⟩) ![o, 0] ![1, k] h).emb (ix2 0 j) = ix2 n j := by
  funext x; apply Fin.ext
  fin_cases x
  · show o + 1 * 0 = n.val; omega
  · show 0 + 1 * j.val = j.val; omega

/-- The gates' weights, branch by branch. -/
def gates (x : FVec Ideal S4x1024x1024 .bf16) : Fin 4 → FVec Ideal S1x1024x1024 .bf16 :=
  ![View.ld (Val := Elt Ideal) (e' := .bf16) x r0_1, View.ld (Val := Elt Ideal) (e' := .bf16) x r0_6,
    View.ld (Val := Elt Ideal) (e' := .bf16) x r0_10, View.ld (Val := Elt Ideal) (e' := .bf16) x r0_14]

/-- The gates' biases, branch by branch. -/
def biases (x : FVec Ideal S4x1024 .f32) : Fin 4 → FVec Ideal S1x1024 .f32 :=
  ![View.ld (Val := Elt Ideal) (e' := .f32) x r0_2, View.ld (Val := Elt Ideal) (e' := .f32) x r0_7,
    View.ld (Val := Elt Ideal) (e' := .f32) x r0_11, View.ld (Val := Elt Ideal) (e' := .f32) x r0_15]

/-- The branches' weights. -/
def projs (x : FVec Ideal S4x512x1024 .bf16) : Fin 4 → FVec Ideal S1x512x1024 .bf16 :=
  ![View.ld (Val := Elt Ideal) (e' := .bf16) x r0_4, View.ld (Val := Elt Ideal) (e' := .bf16) x r0_8,
    View.ld (Val := Elt Ideal) (e' := .bf16) x r0_12, View.ld (Val := Elt Ideal) (e' := .bf16) x r0_16]

/-- The quarters of the columns of a block of saved values. -/
def saved (x : FVec Ideal S256x4096 .bf16) : Fin 4 → FVec Ideal S256x1024 .bf16 :=
  ![View.ld (Val := Elt Ideal) (e' := .bf16) x (Rect.unit (s := S256x4096) ![0, 0] S256x1024.size inb_S256x4096_S256x1024_0_0),
    View.ld (Val := Elt Ideal) (e' := .bf16) x (Rect.unit (s := S256x4096) ![0, 1024] S256x1024.size inb_S256x4096_S256x1024_0_1024),
    View.ld (Val := Elt Ideal) (e' := .bf16) x (Rect.unit (s := S256x4096) ![0, 2048] S256x1024.size inb_S256x4096_S256x1024_0_2048),
    View.ld (Val := Elt Ideal) (e' := .bf16) x (Rect.unit (s := S256x4096) ![0, 3072] S256x1024.size inb_S256x4096_S256x1024_0_3072)]

theorem gates_at (x : FVec Ideal S4x1024x1024 .bf16) (n : Fin 4) (k l : Fin 1024) : gates x n (ix3 0 k l) = x (ix3 n k l) :=
  match n with
  | 0 => congrArg x (plane_emb 0 inb_S4x1024x1024_S1x1024x1024_0_0_0 0 rfl k l)
  | 1 => congrArg x (plane_emb 1 inb_S4x1024x1024_S1x1024x1024_1_0_0 1 rfl k l)
  | 2 => congrArg x (plane_emb 2 inb_S4x1024x1024_S1x1024x1024_2_0_0 2 rfl k l)
  | 3 => congrArg x (plane_emb 3 inb_S4x1024x1024_S1x1024x1024_3_0_0 3 rfl k l)

theorem biases_at (x : FVec Ideal S4x1024 .f32) (n : Fin 4) (l : Fin 1024) : biases x n (ix2 0 l) = x (ix2 n l) :=
  match n with
  | 0 => congrArg x (line_emb 0 inb_S4x1024_S1x1024_0_0 0 rfl l)
  | 1 => congrArg x (line_emb 1 inb_S4x1024_S1x1024_1_0 1 rfl l)
  | 2 => congrArg x (line_emb 2 inb_S4x1024_S1x1024_2_0 2 rfl l)
  | 3 => congrArg x (line_emb 3 inb_S4x1024_S1x1024_3_0 3 rfl l)

theorem projs_at (x : FVec Ideal S4x512x1024 .bf16) (n : Fin 4) (k : Fin 512) (l : Fin 1024) : projs x n (ix3 0 k l) = x (ix3 n k l) :=
  match n with
  | 0 => congrArg x (plane_emb 0 inb_S4x512x1024_S1x512x1024_0_0_0 0 rfl k l)
  | 1 => congrArg x (plane_emb 1 inb_S4x512x1024_S1x512x1024_1_0_0 1 rfl k l)
  | 2 => congrArg x (plane_emb 2 inb_S4x512x1024_S1x512x1024_2_0_0 2 rfl k l)
  | 3 => congrArg x (plane_emb 3 inb_S4x512x1024_S1x512x1024_3_0_0 3 rfl k l)

theorem saved_at (x : FVec Ideal S256x4096 .bf16) (n : Fin 4) (r : Fin 256) (k : Fin 1024) : saved x n (ix2 r k) = x (ix2 r (col n k)) :=
  match n with
  | 0 => congrArg x (col_emb 0 inb_S256x4096_S256x1024_0_0 0 r k rfl)
  | 1 => congrArg x (col_emb 1024 inb_S256x4096_S256x1024_0_1024 1 r k rfl)
  | 2 => congrArg x (col_emb 2048 inb_S256x4096_S256x1024_0_2048 2 r k rfl)
  | 3 => congrArg x (col_emb 3072 inb_S256x4096_S256x1024_0_3072 3 r k rfl)

variable (V : (c : Dev nD) → (b : Ref sig .tc) → Buf (Elt Ideal) ((c : Thread nD τ).loc b)) (c : Dev nD)

section Forward

variable (t : Fin cfg0.N)

/-- The branches' inputs. -/
def ins : Fin 4 → FVec Ideal S512x512 .bf16 := ![iblk0 V c 2 t, iblk0 V c 3 t, iblk0 V c 4 t, iblk0 V c 5 t]

/-- The argument of branch `n`'s gate. -/
def zP (n : Fin 4) : FVec Ideal S512x1024 .f32 := k0_pay20 (k0_pay3 (iblk0 V c 1 t)) (gates (iblk0 V c 6 t) n) (biases (iblk0 V c 7 t) n)
/-- The projected branch. -/
def boP (n : Fin 4) : FVec Ideal S512x1024 .f32 := k0_pay21 (ins V c t n) (projs (iblk0 V c 8 t) n)
/-- The first three branches gated and added. -/
def threeP : FVec Ideal S512x1024 .f32 :=
  k0_pay19 (k0_pay19 (k0_pay19 (broadcast S512x1024 (Scalar.ofBits .f32 0x00000000#32)) (zP V c t 0) (boP V c t 0)) (zP V c t 1) (boP V c t 1))
    (zP V c t 2) (boP V c t 2)
/-- The exponential of the last gate's negated argument. -/
def expP : FVec Ideal S512x1024 .f32 := k0_pay24 (k0_pay3 (iblk0 V c 1 t)) (gates (iblk0 V c 6 t) 3) (biases (iblk0 V c 7 t) 3)

theorem z_at (n : Fin 4) (r : Fin 512) (l : Fin 1024) :
    out0_10 (iblk0 V c 0 t) (iblk0 V c 1 t) (iblk0 V c 2 t) (iblk0 V c 3 t) (iblk0 V c 4 t) (iblk0 V c 5 t) (iblk0 V c 6 t) (iblk0 V c 7 t)
      (iblk0 V c 8 t) (iblk0 V c 9 t) (ix2 r (col n l))
      = k0_pay22 (F := Ideal) (k0_pay3 (iblk0 V c 1 t)) (gates (iblk0 V c 6 t) n) (biases (iblk0 V c 7 t) n) (ix2 r l) := by
  unfold_out out0_10
  simp only [ld_all]
  refine (canon_cols _ _ _ _ _ _ _ _ n r l).trans ?_
  match n with
  | 0 => rfl
  | 1 => rfl
  | 2 => rfl
  | 3 => rfl

theorem bo_at (n : Fin 4) (r : Fin 512) (l : Fin 1024) :
    out0_11 (iblk0 V c 0 t) (iblk0 V c 1 t) (iblk0 V c 2 t) (iblk0 V c 3 t) (iblk0 V c 4 t) (iblk0 V c 5 t) (iblk0 V c 6 t) (iblk0 V c 7 t)
      (iblk0 V c 8 t) (iblk0 V c 9 t) (ix2 r (col n l))
      = k0_pay23 (F := Ideal) (ins V c t n) (projs (iblk0 V c 8 t) n) (ix2 r l) := by
  unfold_out out0_11
  simp only [ld_all]
  refine (canon_cols _ _ _ _ _ _ _ _ n r l).trans ?_
  match n with
  | 0 => rfl
  | 1 => rfl
  | 2 => rfl
  | 3 => rfl

theorem merged_at :
    out0_12 (iblk0 V c 0 t) (iblk0 V c 1 t) (iblk0 V c 2 t) (iblk0 V c 3 t) (iblk0 V c 4 t) (iblk0 V c 5 t) (iblk0 V c 6 t) (iblk0 V c 7 t)
      (iblk0 V c 8 t) (iblk0 V c 9 t)
      = k0_pay1 (F := Ideal) (threeP V c t) (boP V c t 3) (expP V c t) (Scalar.ofBits .f32 0x3F800000#32) := by
  unfold_out out0_12
  simp only [ld_all]
  refine (View.canon_unit_zero (S := S512x1024) (off := ![0, 0]) (funext fun a => by fin_cases a <;> rfl) inb_S512x1024_S512x1024_0_0 _).trans ?_
  rfl

theorem out_at :
    out0_13 (iblk0 V c 0 t) (iblk0 V c 1 t) (iblk0 V c 2 t) (iblk0 V c 3 t) (iblk0 V c 4 t) (iblk0 V c 5 t) (iblk0 V c 6 t) (iblk0 V c 7 t)
      (iblk0 V c 8 t) (iblk0 V c 9 t)
      = k0_pay2 (F := Ideal) (threeP V c t) (boP V c t 3) (expP V c t) (Scalar.ofBits .f32 0x3F800000#32) (iblk0 V c 0 t) (iblk0 V c 9 t) := by
  unfold_out out0_13
  simp only [ld_all]
  refine (View.canon_unit_zero (S := S512x1024) (off := ![0, 0]) (funext fun a => by fin_cases a <;> rfl) inb_S512x1024_S512x1024_0_0 _).trans ?_
  rfl

end Forward

end Cert.MergeIdeal
-- ==== Proof.Merge.Arrays.lean ====
module
public import proofs.«01_k».proof.Proof.Merge.Outs

/-! The arrays that the forward call leaves, from the arrays it is entered with. -/

@[expose] public section

set_option maxRecDepth 16384

noncomputable section

namespace Cert.MergeIdeal

open Idealize.ShloMosaic Idealize.ShloMosaic.TcCoe Idealize.ShloMosaic.Tactic Cert.Reals
open Gen MergeSpec
open FfnSpec (col exists_col)

variable {H X : Fin 16384 → Fin 1024 → ℝ} {Y : Fin 4 → Fin 16384 → Fin 512 → ℝ} {G : Fin 4 → Fin 1024 → Fin 1024 → ℝ}
  {b : Fin 4 → Fin 1024 → ℝ} {B : Fin 4 → Fin 512 → Fin 1024 → ℝ} {O : Fin 1024 → Fin 1024 → ℝ} {D : Fin 16384 → Fin 1024 → ℝ}
  (V : (c : Dev nD) → (b : Ref sig .tc) → Buf (Elt Ideal) ((c : Thread nD τ).loc b)) (c : Dev nD)

/-- A row of 4096 entries, 1024 of each branch. -/
def flat (f : Fin 4 → Fin 1024 → ℝ) (j : Fin 4096) : ℝ := f ⟨j.val / 1024, by omega⟩ ⟨j.val % 1024, Nat.mod_lt _ (by decide)⟩

theorem flat_col (f : Fin 4 → Fin 1024 → ℝ) (n : Fin 4) (l : Fin 1024) : flat f (col n l) = f n l :=
  congr (congrArg f (Fin.ext (by simp only [FfnSpec.col]; have := l.isLt; omega)))
    (Fin.ext (by simp only [FfnSpec.col]; have := l.isLt; omega))

variable (hH : ∀ r l, V c main_arg0 (ix2 r l) = (H r l : EReal)) (hX : ∀ r l, V c main_v15 (ix2 r l) = (X r l : EReal))
  (hY0 : ∀ r k, V c main_v5 (ix2 r k) = (Y 0 r k : EReal)) (hY1 : ∀ r k, V c main_v8 (ix2 r k) = (Y 1 r k : EReal))
  (hY2 : ∀ r k, V c main_v11 (ix2 r k) = (Y 2 r k : EReal)) (hY3 : ∀ r k, V c main_v14 (ix2 r k) = (Y 3 r k : EReal))
  (hG : ∀ n k l, V c main_v0 (ix3 n k l) = (G n k l : EReal)) (hb : ∀ n l, V c main_arg4 (ix2 n l) = (b n l : EReal))
  (hB : ∀ n k l, V c main_v1 (ix3 n k l) = (B n k l : EReal)) (hO : ∀ l j, V c main_v2 (ix2 l j) = (O l j : EReal))

section Blocks

variable (t : Fin cfg0.N)

include hH in
theorem blk0_0 (r : Fin 512) (l : Fin 1024) : iblk0 V c 0 t (ix2 r l) = (H (row t r) l : EReal) := by
  obtain ⟨e0, e1⟩ := (by decide +kernel : ∀ t : Fin cfg0.N, win0_0.index t 0 = t.val ∧ win0_0.index t 1 = 0) t
  rw [← hH]; blk_ext [iblk0, e0, e1, row]
include hX in
theorem blk0_1 (r : Fin 512) (l : Fin 1024) : iblk0 V c 1 t (ix2 r l) = (X (row t r) l : EReal) := by
  obtain ⟨e0, e1⟩ := (by decide +kernel : ∀ t : Fin cfg0.N, win0_1.index t 0 = t.val ∧ win0_1.index t 1 = 0) t
  rw [← hX]; blk_ext [iblk0, e0, e1, row]
include hY0 in
theorem blk0_2 (r : Fin 512) (l : Fin 512) : iblk0 V c 2 t (ix2 r l) = (Y 0 (row t r) l : EReal) := by
  obtain ⟨e0, e1⟩ := (by decide +kernel : ∀ t : Fin cfg0.N, win0_2.index t 0 = t.val ∧ win0_2.index t 1 = 0) t
  rw [← hY0]; blk_ext [iblk0, e0, e1, row]
include hY1 in
theorem blk0_3 (r : Fin 512) (l : Fin 512) : iblk0 V c 3 t (ix2 r l) = (Y 1 (row t r) l : EReal) := by
  obtain ⟨e0, e1⟩ := (by decide +kernel : ∀ t : Fin cfg0.N, win0_3.index t 0 = t.val ∧ win0_3.index t 1 = 0) t
  rw [← hY1]; blk_ext [iblk0, e0, e1, row]
include hY2 in
theorem blk0_4 (r : Fin 512) (l : Fin 512) : iblk0 V c 4 t (ix2 r l) = (Y 2 (row t r) l : EReal) := by
  obtain ⟨e0, e1⟩ := (by decide +kernel : ∀ t : Fin cfg0.N, win0_4.index t 0 = t.val ∧ win0_4.index t 1 = 0) t
  rw [← hY2]; blk_ext [iblk0, e0, e1, row]
include hY3 in
theorem blk0_5 (r : Fin 512) (l : Fin 512) : iblk0 V c 5 t (ix2 r l) = (Y 3 (row t r) l : EReal) := by
  obtain ⟨e0, e1⟩ := (by decide +kernel : ∀ t : Fin cfg0.N, win0_5.index t 0 = t.val ∧ win0_5.index t 1 = 0) t
  rw [← hY3]; blk_ext [iblk0, e0, e1, row]
include hG in
theorem blk0_6 (n : Fin 4) (k : Fin 1024) (l : Fin 1024) : iblk0 V c 6 t (ix3 n k l) = (G n k l : EReal) := by
  obtain ⟨e0, e1, e2⟩ := (by decide +kernel : ∀ t : Fin cfg0.N,
    win0_6.index t 0 = 0 ∧ win0_6.index t 1 = 0 ∧ win0_6.index t 2 = 0) t
  rw [← hG]; blk_ext [iblk0, e0, e1, e2]
include hb in
theorem blk0_7 (r : Fin 4) (l : Fin 1024) : iblk0 V c 7 t (ix2 r l) = (b r l : EReal) := by
  obtain ⟨e0, e1⟩ := (by decide +kernel : ∀ t : Fin cfg0.N, win0_7.index t 0 = 0 ∧ win0_7.index t 1 = 0) t
  rw [← hb]; blk_ext [iblk0, e0, e1]
include hB in
theorem blk0_8 (n : Fin 4) (k : Fin 512) (l : Fin 1024) : iblk0 V c 8 t (ix3 n k l) = (B n k l : EReal) := by
  obtain ⟨e0, e1, e2⟩ := (by decide +kernel : ∀ t : Fin cfg0.N,
    win0_8.index t 0 = 0 ∧ win0_8.index t 1 = 0 ∧ win0_8.index t 2 = 0) t
  rw [← hB]; blk_ext [iblk0, e0, e1, e2]
include hO in
theorem blk0_9 (r : Fin 1024) (l : Fin 1024) : iblk0 V c 9 t (ix2 r l) = (O r l : EReal) := by
  obtain ⟨e0, e1⟩ := (by decide +kernel : ∀ t : Fin cfg0.N, win0_9.index t 0 = 0 ∧ win0_9.index t 1 = 0) t
  rw [← hO]; blk_ext [iblk0, e0, e1]

include hY0 hY1 hY2 hY3 in
theorem ins0 (n : Fin 4) (r : Fin 512) (k : Fin 512) : ins V c t n (ix2 r k) = (Y n (row t r) k : EReal) :=
  match n with
  | 0 => blk0_2 V c hY0 t r k
  | 1 => blk0_3 V c hY1 t r k
  | 2 => blk0_4 V c hY2 t r k
  | 3 => blk0_5 V c hY3 t r k

include hG in
theorem gates0 (n : Fin 4) (k l : Fin 1024) : gates (iblk0 V c 6 t) n (ix3 0 k l) = (G n k l : EReal) :=
  (gates_at _ n k l).trans (blk0_6 V c hG t n k l)
include hb in
theorem biases0 (n : Fin 4) (l : Fin 1024) : biases (iblk0 V c 7 t) n (ix2 0 l) = (b n l : EReal) :=
  (biases_at _ n l).trans (blk0_7 V c hb t n l)
include hB in
theorem projs0 (n : Fin 4) (k : Fin 512) (l : Fin 1024) : projs (iblk0 V c 8 t) n (ix3 0 k l) = (B n k l : EReal) :=
  (projs_at _ n k l).trans (blk0_8 V c hB t n k l)

include hX hG hb in
theorem zP0 (n : Fin 4) (r : Fin 512) (l : Fin 1024) : zP V c t n (ix2 r l) = (z X G b n (row t r) l : EReal) :=
  z_block (blk0_1 V c hX t) (gates0 V c hG t n) (biases0 V c hb t n) r l

include hY0 hY1 hY2 hY3 hB in
theorem boP0 (n : Fin 4) (r : Fin 512) (l : Fin 1024) : boP V c t n (ix2 r l) = (bo Y B n (row t r) l : EReal) :=
  bo_block (ins0 V c hY0 hY1 hY2 hY3 t n) (projs0 V c hB t n) r l

/-- The first three gated branches. -/
def three (X : Fin 16384 → Fin 1024 → ℝ) (Y : Fin 4 → Fin 16384 → Fin 512 → ℝ) (G : Fin 4 → Fin 1024 → Fin 1024 → ℝ)
    (b : Fin 4 → Fin 1024 → ℝ) (B : Fin 4 → Fin 512 → Fin 1024 → ℝ) (r : Fin 16384) (l : Fin 1024) : ℝ :=
  0 + Cert.Reals.sig (z X G b 0 r l) * bo Y B 0 r l + Cert.Reals.sig (z X G b 1 r l) * bo Y B 1 r l
    + Cert.Reals.sig (z X G b 2 r l) * bo Y B 2 r l

theorem merged_eq (r : Fin 16384) (l : Fin 1024) :
    three X Y G b B r l + Cert.Reals.sig (z X G b 3 r l) * bo Y B 3 r l = merged X Y G b B r l := by
  unfold merged three
  rw [Fin.sum_univ_four, zero_add]

include hX hG hb hY0 hY1 hY2 hY3 hB in
theorem three0 (r : Fin 512) (l : Fin 1024) : threeP V c t (ix2 r l) = (three X Y G b B (row t r) l : EReal) := by
  have z0 : ∀ r l, broadcast S512x1024 (Scalar.ofBits .f32 0x00000000#32 : Ideal .f32) (ix2 r l) = ((0 : ℝ) : EReal) := fun r l => by
    pointwise []
    exact EReal.coe_zero.symm
  have Z := zP0 V c hX hG hb t
  have W := boP0 V c hY0 hY1 hY2 hY3 hB t
  exact add_block (Z 2) (W 2) (add_block (Z 1) (W 1) (add_block (Z 0) (W 0) z0)) r l

end Blocks

include hX hG hb in
theorem arr_z : (dat0 (F := Ideal) V c).arrAt 10 cfg0.N = fun i => (flat (fun n l => z X G b n (i 0) l) (i 1) : EReal) := by
  refine (dat0 V c).arrAt_eq_of_covers 10 _ (by decide +kernel) fun t hf y => ?_
  obtain ⟨e0, e1⟩ := (by decide +kernel : ∀ t : Fin cfg0.N, win0_10.index t 0 = t.val ∧ win0_10.index t 1 = 0) t
  obtain ⟨r, j, rfl⟩ : ∃ (r : Fin 512) (j : Fin 4096), y = ix2 r j := ⟨y 0, y 1, eq_ix2 y⟩
  obtain ⟨q, l, rfl⟩ := exists_col j
  refine at_place (fun r l => (flat (fun n l => z X G b n (r) l) (l) : EReal)) (r := row t r) (l := col q l) ?_ ?_ ?_
  · blk_simp; rw [after0_10]; beta_reduce; rw [flat_col]
    exact (z_at V c t q r l).trans (zb_block (blk0_1 V c hX t) (gates0 V c hG t q) (biases0 V c hb t q) r l)
  · blk_simp [e0, e1, row]
  · blk_simp [e0, e1, row]

include hY0 hY1 hY2 hY3 hB in
theorem arr_bo : (dat0 (F := Ideal) V c).arrAt 11 cfg0.N = fun i => (flat (fun n l => bo Y B n (i 0) l) (i 1) : EReal) := by
  refine (dat0 V c).arrAt_eq_of_covers 11 _ (by decide +kernel) fun t hf y => ?_
  obtain ⟨e0, e1⟩ := (by decide +kernel : ∀ t : Fin cfg0.N, win0_11.index t 0 = t.val ∧ win0_11.index t 1 = 0) t
  obtain ⟨r, j, rfl⟩ : ∃ (r : Fin 512) (j : Fin 4096), y = ix2 r j := ⟨y 0, y 1, eq_ix2 y⟩
  obtain ⟨q, l, rfl⟩ := exists_col j
  refine at_place (fun r l => (flat (fun n l => bo Y B n (r) l) (l) : EReal)) (r := row t r) (l := col q l) ?_ ?_ ?_
  · blk_simp; rw [after0_11]; beta_reduce; rw [flat_col]
    exact (bo_at V c t q r l).trans (bob_block (ins0 V c hY0 hY1 hY2 hY3 t q) (projs0 V c hB t q) r l)
  · blk_simp [e0, e1, row]
  · blk_simp [e0, e1, row]

include hX hG hb hY0 hY1 hY2 hY3 hB in
theorem arr_merged : (dat0 (F := Ideal) V c).arrAt 12 cfg0.N = fun i => (merged X Y G b B (i 0) (i 1) : EReal) := by
  refine (dat0 V c).arrAt_eq_of_covers 12 _ (by decide +kernel) fun t hf y => ?_
  obtain ⟨e0, e1⟩ := (by decide +kernel : ∀ t : Fin cfg0.N, win0_12.index t 0 = t.val ∧ win0_12.index t 1 = 0) t
  obtain ⟨r, l, rfl⟩ : ∃ (r : Fin 512) (l : Fin 1024), y = ix2 r l := ⟨y 0, y 1, eq_ix2 y⟩
  refine at_place (fun r l => (merged X Y G b B (r) (l) : EReal)) (r := row t r) (l := l) ?_ ?_ ?_
  · blk_simp; rw [after0_12, merged_at]; beta_reduce; rw [← merged_eq]
    exact last_block (blk0_1 V c hX t) (gates0 V c hG t 3) (biases0 V c hb t 3) (boP0 V c hY0 hY1 hY2 hY3 hB t 3)
      (three0 V c hX hY0 hY1 hY2 hY3 hG hb hB t) r l
  · blk_simp [e0, e1, row]
  · blk_simp [e0, e1, row]

include hH hX hG hb hY0 hY1 hY2 hY3 hB hO in
theorem arr_out : (dat0 (F := Ideal) V c).arrAt 13 cfg0.N = fun i => (out H X Y G b B O (i 0) (i 1) : EReal) := by
  refine (dat0 V c).arrAt_eq_of_covers 13 _ (by decide +kernel) fun t hf y => ?_
  obtain ⟨e0, e1⟩ := (by decide +kernel : ∀ t : Fin cfg0.N, win0_13.index t 0 = t.val ∧ win0_13.index t 1 = 0) t
  obtain ⟨r, l, rfl⟩ : ∃ (r : Fin 512) (l : Fin 1024), y = ix2 r l := ⟨y 0, y 1, eq_ix2 y⟩
  refine at_place (fun r l => (out H X Y G b B O (r) (l) : EReal)) (r := row t r) (l := l) ?_ ?_ ?_
  · blk_simp; rw [after0_13, out_at]; beta_reduce; unfold out; simp only [← merged_eq]
    exact out_block (blk0_1 V c hX t) (gates0 V c hG t 3) (biases0 V c hb t 3) (boP0 V c hY0 hY1 hY2 hY3 hB t 3)
      (three0 V c hX hY0 hY1 hY2 hY3 hG hb hB t) (blk0_0 V c hH t) (blk0_9 V c hO t) r l
  · blk_simp [e0, e1, row]
  · blk_simp [e0, e1, row]

end Cert.MergeIdeal
-- ==== Proof.Merge.BackOuts.lean ====
module
public import proofs.«01_k».proof.Proof.Merge.Outs

/-! What a grid point of the backward call leaves in the output blocks. -/

@[expose] public section

set_option maxRecDepth 16384

noncomputable section

namespace Cert.MergeIdeal

open Idealize.ShloMosaic Idealize.ShloMosaic.TcCoe Idealize.ShloMosaic.Tactic Cert.Reals
open Gen MergeSpec

open FfnSpec (col)
open FfnIdeal (col_emb canon_cols)

variable (V : (c : Dev nD) → (b : Ref sig .tc) → Buf (Elt Ideal) ((c : Thread nD τ).loc b)) (c : Dev nD)

section Backward

variable (t : Fin cfg1.N)

/-- The gradient at the merged branches. -/
def dmP : FVec Ideal S256x1024 .f32 := k1_pay6 (iblk1 V c 0 t) (iblk1 V c 5 t)
/-- The gradient at the projected branch `n`. -/
def dboP (n : Fin 4) : FVec Ideal S256x1024 .bf16 := k1_pay16 (dmP V c t) (saved (iblk1 V c 1 t) n)
/-- The gradient at the argument of branch `n`'s gate, before and after the rounding. -/
def dzP (n : Fin 4) : FVec Ideal S256x1024 .f32 := k1_pay17 (dmP V c t) (saved (iblk1 V c 1 t) n) (saved (iblk1 V c 2 t) n)
def dzbP (n : Fin 4) : FVec Ideal S256x1024 .bf16 := k1_pay18 (dmP V c t) (saved (iblk1 V c 1 t) n) (saved (iblk1 V c 2 t) n)
/-- The gradient at the branch `n`. -/
def dyP (n : Fin 4) : FVec Ideal S256x512 .f32 := k1_pay12 (dboP V c t n) (projs (iblk1 V c 4 t) n)
/-- The gradient at the normed rows. -/
def dxP : FVec Ideal S256x1024 .f32 :=
  k1_pay13 (k1_pay13 (k1_pay13 (k1_pay13 k1_pay7 (dzbP V c t 0) (gates (iblk1 V c 3 t) 0)) (dzbP V c t 1) (gates (iblk1 V c 3 t) 1))
    (dzbP V c t 2) (gates (iblk1 V c 3 t) 2)) (dzbP V c t 3) (gates (iblk1 V c 3 t) 3)
/-- The biases' gradient, added to `a`. -/
def dbP (a : FVec Ideal S1x4096 .f32) : FVec Ideal S1x4096 .f32 :=
  k1_pay3 (k1_pay14 (dzP V c t 0)) (k1_pay14 (dzP V c t 1)) (k1_pay14 (dzP V c t 2)) (dzP V c t 3) a

theorem dbo_A (h : t.val % 64 = 0) (n : Fin 4) (r : Fin 256) (l : Fin 1024) :
    (outsAt1 V c t.val t.isLt).2.1 (ix2 r (col n l)) = dboP V c t n (ix2 r l) := by
  rw [outsAt1_A V c t h]; frame_out
  repeat rw [Memref.IsWhole.read_unread]
  repeat rw [ld_all]
  refine (canon_cols _ _ _ _ _ _ _ _ n r l).trans ?_
  match n with
  | 0 => rfl
  | 1 => rfl
  | 2 => rfl
  | 3 => rfl

theorem dbo_B (h : ¬ t.val % 64 = 0) (n : Fin 4) (r : Fin 256) (l : Fin 1024) :
    (outsAt1 V c t.val t.isLt).2.1 (ix2 r (col n l)) = dboP V c t n (ix2 r l) := by
  rw [outsAt1_B V c t h]; frame_out
  repeat rw [Memref.IsWhole.read_unread]
  repeat rw [ld_all]
  refine (canon_cols _ _ _ _ _ _ _ _ n r l).trans ?_
  match n with
  | 0 => rfl
  | 1 => rfl
  | 2 => rfl
  | 3 => rfl

theorem dz_A (h : t.val % 64 = 0) (n : Fin 4) (r : Fin 256) (l : Fin 1024) :
    (outsAt1 V c t.val t.isLt).2.2.1 (ix2 r (col n l)) = dzbP V c t n (ix2 r l) := by
  rw [outsAt1_A V c t h]; frame_out
  repeat rw [Memref.IsWhole.read_unread]
  repeat rw [ld_all]
  refine (canon_cols _ _ _ _ _ _ _ _ n r l).trans ?_
  match n with
  | 0 => rfl
  | 1 => rfl
  | 2 => rfl
  | 3 => rfl

theorem dz_B (h : ¬ t.val % 64 = 0) (n : Fin 4) (r : Fin 256) (l : Fin 1024) :
    (outsAt1 V c t.val t.isLt).2.2.1 (ix2 r (col n l)) = dzbP V c t n (ix2 r l) := by
  rw [outsAt1_B V c t h]; frame_out
  repeat rw [Memref.IsWhole.read_unread]
  repeat rw [ld_all]
  refine (canon_cols _ _ _ _ _ _ _ _ n r l).trans ?_
  match n with
  | 0 => rfl
  | 1 => rfl
  | 2 => rfl
  | 3 => rfl

theorem dx_A (h : t.val % 64 = 0) : (outsAt1 V c t.val t.isLt).2.2.2.1 = dxP V c t := by
  rw [outsAt1_A V c t h]; frame_out
  repeat rw [Memref.IsWhole.read_unread]
  repeat rw [ld_all]
  rfl

theorem dx_B (h : ¬ t.val % 64 = 0) : (outsAt1 V c t.val t.isLt).2.2.2.1 = dxP V c t := by
  rw [outsAt1_B V c t h]; frame_out
  repeat rw [Memref.IsWhole.read_unread]
  repeat rw [ld_all]
  rfl

theorem dy0_A (h : t.val % 64 = 0) : (outsAt1 V c t.val t.isLt).2.2.2.2.1 = dyP V c t 0 := by
  rw [outsAt1_A V c t h]; frame_out
  repeat rw [Memref.IsWhole.read_unread]
  repeat rw [ld_all]
  rfl

theorem dy0_B (h : ¬ t.val % 64 = 0) : (outsAt1 V c t.val t.isLt).2.2.2.2.1 = dyP V c t 0 := by
  rw [outsAt1_B V c t h]; frame_out
  repeat rw [Memref.IsWhole.read_unread]
  repeat rw [ld_all]
  rfl

theorem dy1_A (h : t.val % 64 = 0) : (outsAt1 V c t.val t.isLt).2.2.2.2.2.1 = dyP V c t 1 := by
  rw [outsAt1_A V c t h]; frame_out
  repeat rw [Memref.IsWhole.read_unread]
  repeat rw [ld_all]
  rfl

theorem dy1_B (h : ¬ t.val % 64 = 0) : (outsAt1 V c t.val t.isLt).2.2.2.2.2.1 = dyP V c t 1 := by
  rw [outsAt1_B V c t h]; frame_out
  repeat rw [Memref.IsWhole.read_unread]
  repeat rw [ld_all]
  rfl

theorem dy2_A (h : t.val % 64 = 0) : (outsAt1 V c t.val t.isLt).2.2.2.2.2.2.1 = dyP V c t 2 := by
  rw [outsAt1_A V c t h]; frame_out
  repeat rw [Memref.IsWhole.read_unread]
  repeat rw [ld_all]
  rfl

theorem dy2_B (h : ¬ t.val % 64 = 0) : (outsAt1 V c t.val t.isLt).2.2.2.2.2.2.1 = dyP V c t 2 := by
  rw [outsAt1_B V c t h]; frame_out
  repeat rw [Memref.IsWhole.read_unread]
  repeat rw [ld_all]
  rfl

theorem dy3_A (h : t.val % 64 = 0) : (outsAt1 V c t.val t.isLt).2.2.2.2.2.2.2.1 = dyP V c t 3 := by
  rw [outsAt1_A V c t h]; frame_out
  repeat rw [Memref.IsWhole.read_unread]
  repeat rw [ld_all]
  rfl

theorem dy3_B (h : ¬ t.val % 64 = 0) : (outsAt1 V c t.val t.isLt).2.2.2.2.2.2.2.1 = dyP V c t 3 := by
  rw [outsAt1_B V c t h]; frame_out
  repeat rw [Memref.IsWhole.read_unread]
  repeat rw [ld_all]
  rfl

theorem db_A (h : t.val % 64 = 0) : (outsAt1 V c t.val t.isLt).2.2.2.2.2.2.2.2 = dbP V c t k1_pay4 := by
  rw [outsAt1_A V c t h]; frame_out
  repeat rw [Memref.IsWhole.read_unread]
  repeat rw [ld_all]
  rfl

theorem db_B (h : ¬ t.val % 64 = 0) : (outsAt1 V c t.val t.isLt).2.2.2.2.2.2.2.2 = dbP V c t (outsAt1 V c (t.val - 1) (Nat.lt_of_le_of_lt (Nat.sub_le _ _) t.isLt)).2.2.2.2.2.2.2.2 := by
  rw [outsAt1_B V c t h]; frame_out
  repeat rw [Memref.IsWhole.read_unread]
  repeat rw [ld_all]
  rfl

end Backward

end Cert.MergeIdeal
-- ==== Proof.Merge.BackArrays.lean ====
module
public import proofs.«01_k».proof.Proof.Merge.Arrays
public import proofs.«01_k».proof.Proof.Merge.BackOuts

/-! The arrays that the backward call leaves, from the arrays it is entered with. -/

@[expose] public section

set_option maxRecDepth 16384

noncomputable section

namespace Cert.MergeIdeal

open Idealize.ShloMosaic Idealize.ShloMosaic.TcCoe Idealize.ShloMosaic.Tactic Cert.Reals
open Gen MergeSpec
open FfnSpec (col exists_col)

variable {H X : Fin 16384 → Fin 1024 → ℝ} {Y : Fin 4 → Fin 16384 → Fin 512 → ℝ} {G : Fin 4 → Fin 1024 → Fin 1024 → ℝ}
  {b : Fin 4 → Fin 1024 → ℝ} {B : Fin 4 → Fin 512 → Fin 1024 → ℝ} {O : Fin 1024 → Fin 1024 → ℝ} {D : Fin 16384 → Fin 1024 → ℝ}
  (V : (c : Dev nD) → (b : Ref sig .tc) → Buf (Elt Ideal) ((c : Thread nD τ).loc b)) (c : Dev nD)

variable (hD : ∀ r l, V c main_arg7 (ix2 r l) = (D r l : EReal))
  (hz : ∀ r j, V c main_v16_0 (ix2 r j) = (flat (fun n l => z X G b n r l) j : EReal))
  (ho : ∀ r j, V c main_v16_1 (ix2 r j) = (flat (fun n l => bo Y B n r l) j : EReal))
  (hG : ∀ n k l, V c main_v0 (ix3 n k l) = (G n k l : EReal)) (hB : ∀ n k l, V c main_v1 (ix3 n k l) = (B n k l : EReal))
  (hO : ∀ l j, V c main_v2 (ix2 l j) = (O l j : EReal))

/-- Row `r` of block `t`, of blocks of 256 rows. -/
def row256 (t : Fin 64) (r : Fin 256) : Fin 16384 := ⟨t.val * 256 + r.val, by omega⟩

section Blocks

variable (t : Fin cfg1.N)

include hD in
theorem blk1_0 (r : Fin 256) (l : Fin 1024) : iblk1 V c 0 t (ix2 r l) = (D (row256 t r) l : EReal) := by
  obtain ⟨e0, e1⟩ := (by decide +kernel : ∀ t : Fin cfg1.N, win1_0.index t 0 = t.val ∧ win1_0.index t 1 = 0) t
  rw [← hD]; blk_ext [iblk1, e0, e1, row256]
include hz in
theorem blk1_1 (r : Fin 256) (l : Fin 4096) : iblk1 V c 1 t (ix2 r l) = (flat (fun n l => z X G b n (row256 t r) l) l : EReal) := by
  obtain ⟨e0, e1⟩ := (by decide +kernel : ∀ t : Fin cfg1.N, win1_1.index t 0 = t.val ∧ win1_1.index t 1 = 0) t
  rw [← hz]; blk_ext [iblk1, e0, e1, row256]
include ho in
theorem blk1_2 (r : Fin 256) (l : Fin 4096) : iblk1 V c 2 t (ix2 r l) = (flat (fun n l => bo Y B n (row256 t r) l) l : EReal) := by
  obtain ⟨e0, e1⟩ := (by decide +kernel : ∀ t : Fin cfg1.N, win1_2.index t 0 = t.val ∧ win1_2.index t 1 = 0) t
  rw [← ho]; blk_ext [iblk1, e0, e1, row256]
include hG in
theorem blk1_3 (n : Fin 4) (k : Fin 1024) (l : Fin 1024) : iblk1 V c 3 t (ix3 n k l) = (G n k l : EReal) := by
  obtain ⟨e0, e1, e2⟩ := (by decide +kernel : ∀ t : Fin cfg1.N,
    win1_3.index t 0 = 0 ∧ win1_3.index t 1 = 0 ∧ win1_3.index t 2 = 0) t
  rw [← hG]; blk_ext [iblk1, e0, e1, e2]
include hB in
theorem blk1_4 (n : Fin 4) (k : Fin 512) (l : Fin 1024) : iblk1 V c 4 t (ix3 n k l) = (B n k l : EReal) := by
  obtain ⟨e0, e1, e2⟩ := (by decide +kernel : ∀ t : Fin cfg1.N,
    win1_4.index t 0 = 0 ∧ win1_4.index t 1 = 0 ∧ win1_4.index t 2 = 0) t
  rw [← hB]; blk_ext [iblk1, e0, e1, e2]
include hO in
theorem blk1_5 (r : Fin 1024) (l : Fin 1024) : iblk1 V c 5 t (ix2 r l) = (O r l : EReal) := by
  obtain ⟨e0, e1⟩ := (by decide +kernel : ∀ t : Fin cfg1.N, win1_5.index t 0 = 0 ∧ win1_5.index t 1 = 0) t
  rw [← hO]; blk_ext [iblk1, e0, e1]

include hz in
theorem z1 (n : Fin 4) (r : Fin 256) (l : Fin 1024) : saved (iblk1 V c 1 t) n (ix2 r l) = (z X G b n (row256 t r) l : EReal) :=
  ((saved_at _ n r l).trans (blk1_1 V c hz t r (col n l))).trans (congrArg Real.toEReal (flat_col _ n l))
include ho in
theorem bo1 (n : Fin 4) (r : Fin 256) (l : Fin 1024) : saved (iblk1 V c 2 t) n (ix2 r l) = (bo Y B n (row256 t r) l : EReal) :=
  ((saved_at _ n r l).trans (blk1_2 V c ho t r (col n l))).trans (congrArg Real.toEReal (flat_col _ n l))
include hG in
theorem gates1 (n : Fin 4) (k l : Fin 1024) : gates (iblk1 V c 3 t) n (ix3 0 k l) = (G n k l : EReal) :=
  (gates_at _ n k l).trans (blk1_3 V c hG t n k l)
include hB in
theorem projs1 (n : Fin 4) (k : Fin 512) (l : Fin 1024) : projs (iblk1 V c 4 t) n (ix3 0 k l) = (B n k l : EReal) :=
  (projs_at _ n k l).trans (blk1_4 V c hB t n k l)

include hD hO in
theorem dm1 (r : Fin 256) (l : Fin 1024) : dmP V c t (ix2 r l) = (dm O D (row256 t r) l : EReal) :=
  dm_block (blk1_0 V c hD t) (blk1_5 V c hO t) r l
include hD hO hz in
theorem dbo1 (n : Fin 4) (r : Fin 256) (l : Fin 1024) : dboP V c t n (ix2 r l) = (dbo X G b O D n (row256 t r) l : EReal) :=
  dbo_block (dm1 V c hD hO t) (z1 V c hz t n) r l
include hD hO hz ho in
theorem dz1 (n : Fin 4) (r : Fin 256) (l : Fin 1024) : dzP V c t n (ix2 r l) = (dz X Y G b B O D n (row256 t r) l : EReal) :=
  dz_block (dm1 V c hD hO t) (z1 V c hz t n) (bo1 V c ho t n) r l
include hD hO hz ho in
theorem dzb1 (n : Fin 4) (r : Fin 256) (l : Fin 1024) : dzbP V c t n (ix2 r l) = (dz X Y G b B O D n (row256 t r) l : EReal) :=
  dzb_block (dm1 V c hD hO t) (z1 V c hz t n) (bo1 V c ho t n) r l
include hD hO hz hB in
theorem dy1 (n : Fin 4) (r : Fin 256) (k : Fin 512) : dyP V c t n (ix2 r k) = (dy X G b B O D n (row256 t r) k : EReal) :=
  dy_block (dbo1 V c hD hz hO t n) (projs1 V c hB t n) r k
include hD hO hz ho hG in
theorem dx1 (r : Fin 256) (k : Fin 1024) : dxP V c t (ix2 r k) = (dx X Y G b B O D (row256 t r) k : EReal) := by
  have z0 : ∀ r l, k1_pay7 (F := Ideal) (ix2 r l) = ((0 : ℝ) : EReal) := fun r l => by
    pointwise [k1_pay7]
    exact EReal.coe_zero.symm
  have Z := dzb1 V c hD hz ho hO t
  have W := gates1 V c hG t
  refine (dx_block (Z 3) (dx_block (Z 2) (dx_block (Z 1) (dx_block (Z 0) z0 (W 0)) (W 1)) (W 2)) (W 3) r k).trans ?_
  unfold dx
  rw [Fin.sum_univ_four, zero_add]

/-- Four rows beside each other. -/
theorem beside (a0 a1 a2 a3 : FVec Ideal S1x1024 .f32) (h : Shape.Concatenates [S1x1024, S1x1024, S1x1024, S1x1024] S1x4096 1)
    (n : Fin 4) (l : Fin 1024) :
    concatenate S1x4096 1 [⟨S1x1024, a0⟩, ⟨S1x1024, a1⟩, ⟨S1x1024, a2⟩, ⟨S1x1024, a3⟩] h (ix2 0 (col n l))
      = (![a0, a1, a2, a3] : Fin 4 → FVec Ideal S1x1024 .f32) n (ix2 0 l) :=
  concatenate_ofFn_apply (t := S1x4096) 1 (![a0, a1, a2, a3] : Fin 4 → FVec Ideal S1x1024 .f32) h rfl 1024 rfl (ix2 0 (col n l)) n
    (by show (n.val * 1024 + l.val) / 1024 = n.val; have := l.isLt; omega) (ix2 0 l)
    (by show l.val = (n.val * 1024 + l.val) % 1024; have := l.isLt; omega) (fun a ha => by fin_cases a; exacts [rfl, absurd rfl ha])

include hD hO hz ho in
theorem db1 (a : FVec Ideal S1x4096 .f32) (n : Fin 4) (l : Fin 1024) :
    dbP V c t a (ix2 0 (col n l)) = a (ix2 0 (col n l)) + ((∑ r, dz X Y G b B O D n (row256 t r) l : ℝ) : EReal) := by
  have S := fun n => sum_block (dz1 V c hD hz ho hO t n) l
  unfold dbP k1_pay3
  refine congrArg₂ (fun a b : EReal => a + b) ?_ ?_
  · pointwise []
  refine (beside _ _ _ _ _ n l).trans ?_
  match n with
  | 0 => exact S 0
  | 1 => exact S 1
  | 2 => exact S 2
  | 3 => exact S 3

end Blocks

include hD hz hO in
theorem arr_dbo : (dat1 (F := Ideal) V c).arrAt 7 cfg1.N = fun i => (flat (fun n l => dbo X G b O D n (i 0) l) (i 1) : EReal) := by
  refine (dat1 V c).arrAt_eq_of_covers 7 _ (by decide +kernel) fun t hf y => ?_
  obtain ⟨e0, e1⟩ := (by decide +kernel : ∀ t : Fin cfg1.N, win1_7.index t 0 = t.val ∧ win1_7.index t 1 = 0) t
  obtain ⟨r, j, rfl⟩ : ∃ (r : Fin 256) (j : Fin 4096), y = ix2 r j := ⟨y 0, y 1, eq_ix2 y⟩
  obtain ⟨q, l, rfl⟩ := exists_col j
  refine at_place (fun r l => (flat (fun n l => dbo X G b O D n (r) l) (l) : EReal)) (r := row256 t r) (l := col q l) ?_ ?_ ?_
  · have key := dbo1 V c hD hz hO t q r l
    blk_simp; rw [after1_7]; beta_reduce; rw [flat_col]
    by_cases h : t.val % 64 = 0
    · exact (dbo_A V c t h q r l).trans key
    · exact (dbo_B V c t h q r l).trans key
  · blk_simp [e0, e1, row256]
  · blk_simp [e0, e1, row256]

include hD hz ho hO in
theorem arr_dz : (dat1 (F := Ideal) V c).arrAt 8 cfg1.N = fun i => (flat (fun n l => dz X Y G b B O D n (i 0) l) (i 1) : EReal) := by
  refine (dat1 V c).arrAt_eq_of_covers 8 _ (by decide +kernel) fun t hf y => ?_
  obtain ⟨e0, e1⟩ := (by decide +kernel : ∀ t : Fin cfg1.N, win1_8.index t 0 = t.val ∧ win1_8.index t 1 = 0) t
  obtain ⟨r, j, rfl⟩ : ∃ (r : Fin 256) (j : Fin 4096), y = ix2 r j := ⟨y 0, y 1, eq_ix2 y⟩
  obtain ⟨q, l, rfl⟩ := exists_col j
  refine at_place (fun r l => (flat (fun n l => dz X Y G b B O D n (r) l) (l) : EReal)) (r := row256 t r) (l := col q l) ?_ ?_ ?_
  · have key := dzb1 V c hD hz ho hO t q r l
    blk_simp; rw [after1_8]; beta_reduce; rw [flat_col]
    by_cases h : t.val % 64 = 0
    · exact (dz_A V c t h q r l).trans key
    · exact (dz_B V c t h q r l).trans key
  · blk_simp [e0, e1, row256]
  · blk_simp [e0, e1, row256]

include hD hz ho hG hO in
theorem arr_dx : (dat1 (F := Ideal) V c).arrAt 9 cfg1.N = fun i => (dx X Y G b B O D (i 0) (i 1) : EReal) := by
  refine (dat1 V c).arrAt_eq_of_covers 9 _ (by decide +kernel) fun t hf y => ?_
  obtain ⟨e0, e1⟩ := (by decide +kernel : ∀ t : Fin cfg1.N, win1_9.index t 0 = t.val ∧ win1_9.index t 1 = 0) t
  obtain ⟨r, l, rfl⟩ : ∃ (r : Fin 256) (l : Fin 1024), y = ix2 r l := ⟨y 0, y 1, eq_ix2 y⟩
  refine at_place (fun r l => (dx X Y G b B O D (r) (l) : EReal)) (r := row256 t r) (l := l) ?_ ?_ ?_
  · have key := dx1 V c hD hz ho hG hO t r l
    blk_simp; rw [after1_9]
    by_cases h : t.val % 64 = 0
    · rw [dx_A V c t h]; exact key
    · rw [dx_B V c t h]; exact key
  · blk_simp [e0, e1, row256]
  · blk_simp [e0, e1, row256]

include hD hz hB hO in
theorem arr_dy0 : (dat1 (F := Ideal) V c).arrAt 10 cfg1.N = fun i => (dy X G b B O D 0 (i 0) (i 1) : EReal) := by
  refine (dat1 V c).arrAt_eq_of_covers 10 _ (by decide +kernel) fun t hf y => ?_
  obtain ⟨e0, e1⟩ := (by decide +kernel : ∀ t : Fin cfg1.N, win1_10.index t 0 = t.val ∧ win1_10.index t 1 = 0) t
  obtain ⟨r, l, rfl⟩ : ∃ (r : Fin 256) (l : Fin 512), y = ix2 r l := ⟨y 0, y 1, eq_ix2 y⟩
  refine at_place (fun r l => (dy X G b B O D 0 (r) (l) : EReal)) (r := row256 t r) (l := l) ?_ ?_ ?_
  · have key := dy1 V c hD hz hB hO t 0 r l
    blk_simp; rw [after1_10]
    by_cases h : t.val % 64 = 0
    · rw [dy0_A V c t h]; exact key
    · rw [dy0_B V c t h]; exact key
  · blk_simp [e0, e1, row256]
  · blk_simp [e0, e1, row256]

include hD hz hB hO in
theorem arr_dy1 : (dat1 (F := Ideal) V c).arrAt 11 cfg1.N = fun i => (dy X G b B O D 1 (i 0) (i 1) : EReal) := by
  refine (dat1 V c).arrAt_eq_of_covers 11 _ (by decide +kernel) fun t hf y => ?_
  obtain ⟨e0, e1⟩ := (by decide +kernel : ∀ t : Fin cfg1.N, win1_11.index t 0 = t.val ∧ win1_11.index t 1 = 0) t
  obtain ⟨r, l, rfl⟩ : ∃ (r : Fin 256) (l : Fin 512), y = ix2 r l := ⟨y 0, y 1, eq_ix2 y⟩
  refine at_place (fun r l => (dy X G b B O D 1 (r) (l) : EReal)) (r := row256 t r) (l := l) ?_ ?_ ?_
  · have key := dy1 V c hD hz hB hO t 1 r l
    blk_simp; rw [after1_11]
    by_cases h : t.val % 64 = 0
    · rw [dy1_A V c t h]; exact key
    · rw [dy1_B V c t h]; exact key
  · blk_simp [e0, e1, row256]
  · blk_simp [e0, e1, row256]

include hD hz hB hO in
theorem arr_dy2 : (dat1 (F := Ideal) V c).arrAt 12 cfg1.N = fun i => (dy X G b B O D 2 (i 0) (i 1) : EReal) := by
  refine (dat1 V c).arrAt_eq_of_covers 12 _ (by decide +kernel) fun t hf y => ?_
  obtain ⟨e0, e1⟩ := (by decide +kernel : ∀ t : Fin cfg1.N, win1_12.index t 0 = t.val ∧ win1_12.index t 1 = 0) t
  obtain ⟨r, l, rfl⟩ : ∃ (r : Fin 256) (l : Fin 512), y = ix2 r l := ⟨y 0, y 1, eq_ix2 y⟩
  refine at_place (fun r l => (dy X G b B O D 2 (r) (l) : EReal)) (r := row256 t r) (l := l) ?_ ?_ ?_
  · have key := dy1 V c hD hz hB hO t 2 r l
    blk_simp; rw [after1_12]
    by_cases h : t.val % 64 = 0
    · rw [dy2_A V c t h]; exact key
    · rw [dy2_B V c t h]; exact key
  · blk_simp [e0, e1, row256]
  · blk_simp [e0, e1, row256]

include hD hz hB hO in
theorem arr_dy3 : (dat1 (F := Ideal) V c).arrAt 13 cfg1.N = fun i => (dy X G b B O D 3 (i 0) (i 1) : EReal) := by
  refine (dat1 V c).arrAt_eq_of_covers 13 _ (by decide +kernel) fun t hf y => ?_
  obtain ⟨e0, e1⟩ := (by decide +kernel : ∀ t : Fin cfg1.N, win1_13.index t 0 = t.val ∧ win1_13.index t 1 = 0) t
  obtain ⟨r, l, rfl⟩ : ∃ (r : Fin 256) (l : Fin 512), y = ix2 r l := ⟨y 0, y 1, eq_ix2 y⟩
  refine at_place (fun r l => (dy X G b B O D 3 (r) (l) : EReal)) (r := row256 t r) (l := l) ?_ ?_ ?_
  · have key := dy1 V c hD hz hB hO t 3 r l
    blk_simp; rw [after1_13]
    by_cases h : t.val % 64 = 0
    · rw [dy3_A V c t h]; exact key
    · rw [dy3_B V c t h]; exact key
  · blk_simp [e0, e1, row256]
  · blk_simp [e0, e1, row256]

/-- The last grid point. -/
def last1 : Fin cfg1.N := ⟨63, by decide⟩

theorem one_col (j : S1x4096.Idx) : ∃ (n : Fin 4) (l : Fin 1024), j = ix2 0 (col n l) := by
  obtain ⟨k, rfl⟩ := one_row j
  obtain ⟨n, l, rfl⟩ := exists_col k
  exact ⟨n, l, rfl⟩

include hD hz ho hO in
theorem arr_db : (dat1 (F := Ideal) V c).arrAt 14 cfg1.N = fun i => (flat (fun n l => db X Y G b B O D n l) (i 1) : EReal) := by
  refine (dat1 V c).arrAt_eq_of_after_last 14 last1 (by decide +kernel) _ fun j => ?_
  obtain ⟨n, l, rfl⟩ : ∃ (n : Fin 4) (l : Fin 1024), j = ix2 0 (col n l) := one_col j
  blk_simp; rw [after1_14]
  refine (Pipeline.eq_sum_fin_of_reset_step_apply_last (fun n h => (outsAt1 V c n h).2.2.2.2.2.2.2.2) 64 (fun _ => (0 : EReal))
    (fun t j => (flat (fun n l => ∑ r, dz X Y G b B O D n (row256 t r) l) (j 1) : EReal))
    (fun t h j => ?_) (fun t h j => ?_) (by decide) last1 rfl (ix2 0 (col n l))).trans ?_
  · obtain ⟨n, l, rfl⟩ := one_col j
    beta_reduce; rw [db_A V c t h]
    refine (db1 V c hD hz ho hO t _ n l).trans ?_
    refine congrArg₂ (fun a b : EReal => a + b) ?_ (congrArg Real.toEReal (flat_col (fun n l => ∑ r, dz X Y G b B O D n (row256 t r) l) n l).symm)
    pointwise [k1_pay4]
  · obtain ⟨n, l, rfl⟩ := one_col j
    beta_reduce; rw [db_B V c t h]
    exact (db1 V c hD hz ho hO t _ n l).trans (congrArg _ (congrArg Real.toEReal (flat_col (fun n l => ∑ r, dz X Y G b B O D n (row256 t r) l) n l).symm))
  · rw [coe_sum, zero_add]
    refine congrArg Real.toEReal ?_
    refine (Finset.sum_congr rfl fun t _ => flat_col _ n l).trans (Eq.trans ?_ (flat_col _ n l).symm)
    exact sum_rows row256 rfl (fun _ _ => rfl) (fun r => dz X Y G b B O D n r l)

end Cert.MergeIdeal
-- ==== Proof.Merge.Run.lean ====
module
public import proofs.«01_k».proof.Proof.Merge.BackArrays

/-! The run of the two calls: every array of the machine ends at the contents that the last region leaves, and the
    results among them are the real arrays of `Spec`. -/

@[expose] public section

set_option maxRecDepth 16384

noncomputable section

namespace Cert.MergeIdeal

open Idealize.ShloMosaic Idealize.ShloMosaic.TcCoe Idealize.ShloMosaic.Tactic Cert.Reals
open Idealize.SL Idealize.SL.RA Idealize.SL.BI Idealize.SL.BI.BIBase Idealize.SL.BI.Laws Idealize.SL.ProofMode Idealize.SL.Sem
open scoped Idealize.SL.BI
open Idealize.ShloMosaic.Rounds
open Gen
open FfnSpec (col exists_col)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unfolding definitions in a metavariable's type
set_option backward.isDefEq.respectTransparency.types false in
/-- Every buffer of the TensorCore ends at the contents after the last region. -/
theorem run_contents : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Run

section Values

variable (m : (ℓ : Loc nD τ sig) → Buf (Elt Ideal) ℓ) (ρ : Dev nD → PrngReg) (c : Dev nD)

variable {H X : Fin 16384 → Fin 1024 → ℝ} {Y : Fin 4 → Fin 16384 → Fin 512 → ℝ} {G : Fin 4 → Fin 1024 → Fin 1024 → ℝ}
  {b : Fin 4 → Fin 1024 → ℝ} {B : Fin 4 → Fin 512 → Fin 1024 → ℝ} {O : Fin 1024 → Fin 1024 → ℝ} {D : Fin 16384 → Fin 1024 → ℝ}
  (hH : ∀ r l, m ((c : Thread nD τ).loc main_arg0) (ix2 r l) = (H r l : EReal))
  (hX : ∀ r l, m ((c : Thread nD τ).loc main_arg1) (ix2 r l) = (X r l : EReal))
  (hY : ∀ n r k, m ((c : Thread nD τ).loc main_arg2) (ix3 n r k) = (Y n r k : EReal))
  (hG : ∀ n k l, m ((c : Thread nD τ).loc main_arg3) (ix3 n k l) = (G n k l : EReal))
  (hb : ∀ n l, m ((c : Thread nD τ).loc main_arg4) (ix2 n l) = (b n l : EReal))
  (hB : ∀ n k l, m ((c : Thread nD τ).loc main_arg5) (ix3 n k l) = (B n k l : EReal))
  (hO : ∀ l j, m ((c : Thread nD τ).loc main_arg6) (ix2 l j) = (O l j : EReal))
  (hD : ∀ r l, m ((c : Thread nD τ).loc main_arg7) (ix2 r l) = (D r l : EReal))

include hH in
theorem v1_h (r : Fin 16384) (l : Fin 1024) : V1 m ρ c main_arg0 (ix2 r l) = (H r l : EReal) := by
  rw [V1, W1_args m ρ c main_arg0 (by decide), hH]
include hb in
theorem v1_b (n : Fin 4) (l : Fin 1024) : V1 m ρ c main_arg4 (ix2 n l) = (b n l : EReal) := by
  rw [V1, W1_args m ρ c main_arg4 (by decide), hb]
include hX in
theorem v1_x (r : Fin 16384) (l : Fin 1024) : V1 m ρ c main_v15 (ix2 r l) = (X r l : EReal) := by
  rw [← hX, V1]; after_results_simp; rfl
include hG in
theorem v1_g (n : Fin 4) (k l : Fin 1024) : V1 m ρ c main_v0 (ix3 n k l) = (G n k l : EReal) := by
  rw [← hG, V1]; after_results_simp; rfl
include hB in
theorem v1_w (n : Fin 4) (k : Fin 512) (l : Fin 1024) : V1 m ρ c main_v1 (ix3 n k l) = (B n k l : EReal) := by
  rw [← hB, V1]; after_results_simp; rfl
include hO in
theorem v1_o (l j : Fin 1024) : V1 m ρ c main_v2 (ix2 l j) = (O l j : EReal) := by
  rw [← hO, V1]; after_results_simp; rfl
include hY in
theorem v1_y0 (r : Fin 16384) (k : Fin 512) : V1 m ρ c main_v5 (ix2 r k) = (Y 0 r k : EReal) := by
  rw [← hY, V1]; after_results_simp; pointwise
include hY in
theorem v1_y1 (r : Fin 16384) (k : Fin 512) : V1 m ρ c main_v8 (ix2 r k) = (Y 1 r k : EReal) := by
  rw [← hY, V1]; after_results_simp; pointwise
include hY in
theorem v1_y2 (r : Fin 16384) (k : Fin 512) : V1 m ρ c main_v11 (ix2 r k) = (Y 2 r k : EReal) := by
  rw [← hY, V1]; after_results_simp; pointwise
include hY in
theorem v1_y3 (r : Fin 16384) (k : Fin 512) : V1 m ρ c main_v14 (ix2 r k) = (Y 3 r k : EReal) := by
  rw [← hY, V1]; after_results_simp; pointwise
include hD in
theorem v2_d (r : Fin 16384) (l : Fin 1024) : V2 m ρ c main_arg7 (ix2 r l) = (D r l : EReal) := by
  rw [V2, W2_args m ρ c main_arg7 (by decide), hD]
include hG in
theorem v2_g (n : Fin 4) (k l : Fin 1024) : V2 m ρ c main_v0 (ix3 n k l) = (G n k l : EReal) := by
  rw [show V2 m ρ c main_v0 = V1 m ρ c main_v0 from W2_of m ρ c main_v0 (by decide), v1_g m ρ c hG]
include hB in
theorem v2_w (n : Fin 4) (k : Fin 512) (l : Fin 1024) : V2 m ρ c main_v1 (ix3 n k l) = (B n k l : EReal) := by
  rw [show V2 m ρ c main_v1 = V1 m ρ c main_v1 from W2_of m ρ c main_v1 (by decide), v1_w m ρ c hB]
include hO in
theorem v2_o (l j : Fin 1024) : V2 m ρ c main_v2 (ix2 l j) = (O l j : EReal) := by
  rw [show V2 m ρ c main_v2 = V1 m ρ c main_v2 from W2_of m ρ c main_v2 (by decide), v1_o m ρ c hO]
include hX hG hb in
theorem v2_z (r : Fin 16384) (j : Fin 4096) : V2 m ρ c main_v16_0 (ix2 r j) = (flat (fun n l => MergeSpec.z X G b n r l) j : EReal) := by
  rw [show V2 m ρ c main_v16_0 = (dat0 (V1 m ρ) c).arrAt 10 cfg0.N from W2_arr m ρ c 10,
    arr_z (V1 m ρ) c (v1_x m ρ c hX) (v1_g m ρ c hG) (v1_b m ρ c hb)]; rfl
include hY hB in
theorem v2_bo (r : Fin 16384) (j : Fin 4096) : V2 m ρ c main_v16_1 (ix2 r j) = (flat (fun n l => MergeSpec.bo Y B n r l) j : EReal) := by
  rw [show V2 m ρ c main_v16_1 = (dat0 (V1 m ρ) c).arrAt 11 cfg0.N from W2_arr m ρ c 11,
    arr_bo (V1 m ρ) c (v1_y0 m ρ c hY) (v1_y1 m ρ c hY) (v1_y2 m ρ c hY) (v1_y3 m ρ c hY) (v1_w m ρ c hB)]; rfl

include hX hY hG hb hB in
theorem w4_merged : W4 m ρ c main_v16_2 = fun i => (MergeSpec.merged X Y G b B (i 0) (i 1) : EReal) := by
  rw [show W4 m ρ c main_v16_2 = (dat0 (V1 m ρ) c).arrAt 12 cfg0.N from
    (W4_of m ρ c main_v16_2 (by decide)).trans ((W3_of m ρ c main_v16_2 (by decide)).trans (W2_arr m ρ c 12)),
    arr_merged (V1 m ρ) c (v1_x m ρ c hX) (v1_y0 m ρ c hY) (v1_y1 m ρ c hY) (v1_y2 m ρ c hY) (v1_y3 m ρ c hY) (v1_g m ρ c hG)
      (v1_b m ρ c hb) (v1_w m ρ c hB)]
include hH hX hY hG hb hB hO in
theorem w4_out : W4 m ρ c main_v16_3 = fun i => (MergeSpec.out H X Y G b B O (i 0) (i 1) : EReal) := by
  rw [show W4 m ρ c main_v16_3 = (dat0 (V1 m ρ) c).arrAt 13 cfg0.N from
    (W4_of m ρ c main_v16_3 (by decide)).trans ((W3_of m ρ c main_v16_3 (by decide)).trans (W2_arr m ρ c 13)),
    arr_out (V1 m ρ) c (v1_h m ρ c hH) (v1_x m ρ c hX) (v1_y0 m ρ c hY) (v1_y1 m ρ c hY) (v1_y2 m ρ c hY) (v1_y3 m ρ c hY)
      (v1_g m ρ c hG) (v1_b m ρ c hb) (v1_w m ρ c hB) (v1_o m ρ c hO)]
include hX hG hb hO hD in
theorem w4_dbo : W4 m ρ c main_v17_1 = fun i => (flat (fun n l => MergeSpec.dbo X G b O D n (i 0) l) (i 1) : EReal) :=
  (W4_of m ρ c main_v17_1 (by decide)).trans ((W3_arr m ρ c 7).trans
    (arr_dbo (V2 m ρ) c (v2_d m ρ c hD) (v2_z m ρ c hX hG hb) (v2_o m ρ c hO)))
include hX hY hG hb hB hO hD in
theorem w4_dz : W4 m ρ c main_v17_2 = fun i => (flat (fun n l => MergeSpec.dz X Y G b B O D n (i 0) l) (i 1) : EReal) :=
  (W4_of m ρ c main_v17_2 (by decide)).trans ((W3_arr m ρ c 8).trans
    (arr_dz (V2 m ρ) c (v2_d m ρ c hD) (v2_z m ρ c hX hG hb) (v2_bo m ρ c hY hB) (v2_o m ρ c hO)))
include hX hY hG hb hB hO hD in
theorem w4_dx : W4 m ρ c main_v17_3 = fun i => (MergeSpec.dx X Y G b B O D (i 0) (i 1) : EReal) :=
  (W4_of m ρ c main_v17_3 (by decide)).trans ((W3_arr m ρ c 9).trans
    (arr_dx (V2 m ρ) c (v2_d m ρ c hD) (v2_z m ρ c hX hG hb) (v2_bo m ρ c hY hB) (v2_g m ρ c hG) (v2_o m ρ c hO)))
include hX hG hb hB hO hD in
theorem w4_dy0 : W4 m ρ c main_v17_4 = fun i => (MergeSpec.dy X G b B O D 0 (i 0) (i 1) : EReal) :=
  (W4_of m ρ c main_v17_4 (by decide)).trans ((W3_arr m ρ c 10).trans
    (arr_dy0 (V2 m ρ) c (v2_d m ρ c hD) (v2_z m ρ c hX hG hb) (v2_w m ρ c hB) (v2_o m ρ c hO)))
include hX hG hb hB hO hD in
theorem w4_dy1 : W4 m ρ c main_v17_5 = fun i => (MergeSpec.dy X G b B O D 1 (i 0) (i 1) : EReal) :=
  (W4_of m ρ c main_v17_5 (by decide)).trans ((W3_arr m ρ c 11).trans
    (arr_dy1 (V2 m ρ) c (v2_d m ρ c hD) (v2_z m ρ c hX hG hb) (v2_w m ρ c hB) (v2_o m ρ c hO)))
include hX hG hb hB hO hD in
theorem w4_dy2 : W4 m ρ c main_v17_6 = fun i => (MergeSpec.dy X G b B O D 2 (i 0) (i 1) : EReal) :=
  (W4_of m ρ c main_v17_6 (by decide)).trans ((W3_arr m ρ c 12).trans
    (arr_dy2 (V2 m ρ) c (v2_d m ρ c hD) (v2_z m ρ c hX hG hb) (v2_w m ρ c hB) (v2_o m ρ c hO)))
include hX hG hb hB hO hD in
theorem w4_dy3 : W4 m ρ c main_v17_7 = fun i => (MergeSpec.dy X G b B O D 3 (i 0) (i 1) : EReal) :=
  (W4_of m ρ c main_v17_7 (by decide)).trans ((W3_arr m ρ c 13).trans
    (arr_dy3 (V2 m ρ) c (v2_d m ρ c hD) (v2_z m ρ c hX hG hb) (v2_w m ρ c hB) (v2_o m ρ c hO)))
include hX hY hG hb hB hO hD in
theorem w4_db (n : Fin 4) (l : Fin 1024) : W4 m ρ c main_v18 (ix2 n l) = (MergeSpec.db X Y G b B O D n l : EReal) := by
  have e : W4 m ρ c main_v18 (ix2 n l) = W3 m ρ c (Proc.devRef .tc main_v17_8) (ix2 0 (col n l)) := by
    unfold W4; after_results_simp; pointwise [FfnSpec.col]
  rw [e, show W3 m ρ c (Proc.devRef .tc main_v17_8) = _ from (W3_arr m ρ c 14).trans
    (arr_db (V2 m ρ) c (v2_d m ρ c hD) (v2_z m ρ c hX hG hb) (v2_bo m ρ c hY hB) (v2_o m ρ c hO))]
  exact congrArg Real.toEReal (flat_col (fun n l => MergeSpec.db X Y G b B O D n l) n l)

end Values

end Cert.MergeIdeal
-- ==== Proof.Merge.Ref.lean ====
module
public import proofs.«01_k».proof.Proof.Gen.MergeRefIdeal.Run
public import proofs.«01_k».proof.Proof.Gen.MergeRefIdeal.Read
public import proofs.«01_k».proof.Proof.Merge.Spec

/-! What the reference computes at finite arguments, value by value. -/

@[expose] public section

set_option maxRecDepth 16384

noncomputable section

namespace Cert.MergeRefIdeal

open Idealize.ShloMosaic Idealize.ShloMosaic.TcCoe Idealize.ShloMosaic.Tactic Idealize.SL.Sem Cert.Reals
open Gen Read MergeSpec

variable {H X : Fin 16384 → Fin 1024 → ℝ} {Y : Fin 4 → Fin 16384 → Fin 512 → ℝ} {G : Fin 4 → Fin 1024 → Fin 1024 → ℝ}
  {b : Fin 4 → Fin 1024 → ℝ} {B : Fin 4 → Fin 512 → Fin 1024 → ℝ} {O : Fin 1024 → Fin 1024 → ℝ} {D : Fin 16384 → Fin 1024 → ℝ}
  {x0 x1 x7 : FVec Ideal S16384x1024 .f32} {x2 : FVec Ideal S4x16384x512 .f32} {x3 : FVec Ideal S4x1024x1024 .f32}
  {x4 : FVec Ideal S4x1024 .f32} {x5 : FVec Ideal S4x512x1024 .f32} {x6 : FVec Ideal S1024x1024 .f32}
  (hH : ∀ r l, x0 (ix2 r l) = (H r l : EReal)) (hX : ∀ r l, x1 (ix2 r l) = (X r l : EReal))
  (hY : ∀ n r k, x2 (ix3 n r k) = (Y n r k : EReal)) (hG : ∀ n x l, x3 (ix3 n x l) = (G n x l : EReal))
  (hb : ∀ n l, x4 (ix2 n l) = (b n l : EReal)) (hB : ∀ n k l, x5 (ix3 n k l) = (B n k l : EReal))
  (hO : ∀ l j, x6 (ix2 l j) = (O l j : EReal)) (hD : ∀ r l, x7 (ix2 r l) = (D r l : EReal))

include hX hG hb in
theorem gate_ref (n : Fin 4) (r : Fin 16384) (l : Fin 1024) :
    val_main_v12 (F := Ideal) x1 x3 x4 (ix3 n r l) = (Cert.Reals.sig (z X G b n r l) : EReal) := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  simp only [hX, hG, hb, ← EReal.coe_mul, coe_sum, ← EReal.coe_add]
  exact sig_coe _

include hY hB in
theorem bo_ref (n : Fin 4) (r : Fin 16384) (l : Fin 1024) :
    val_main_v17 (F := Ideal) x2 x5 (ix3 n r l) = (bo Y B n r l : EReal) := by
  pointwise [val_main_v17, val_main_v16, val_main_v0, val_main_cst]
  simp only [hY, hB, ← EReal.coe_mul, coe_sum]
  rfl

include hX hG hb hY hB in
theorem merged_f32_ref (r : Fin 16384) (l : Fin 1024) :
    val_main_v19 (F := Ideal) x1 x2 x3 x4 x5 (ix2 r l) = (merged X Y G b B r l : EReal) := by
  have h1 := gate_ref hX hG hb
  have h2 := bo_ref hY hB
  pointwise [val_main_v19, val_main_v18, val_main_cst_3]
  simp only [h1, h2, ← EReal.coe_mul, coe_sum]
  rfl

include hX hG hb hY hB in
theorem merged_ref (r : Fin 16384) (l : Fin 1024) :
    val_main_v33 (F := Ideal) x1 x2 x3 x4 x5 (ix2 r l) = (merged X Y G b B r l : EReal) := by
  have h := merged_f32_ref hX hY hG hb hB r l
  pointwise [val_main_v33]
  exact h

include hH hX hG hb hY hB hO in
theorem out_ref (r : Fin 16384) (j : Fin 1024) :
    val_main_v21 (F := Ideal) x0 x1 x2 x3 x4 x5 x6 (ix2 r j) = (out H X Y G b B O r j : EReal) := by
  have h := merged_f32_ref hX hY hG hb hB
  pointwise [val_main_v21, val_main_v20]
  simp only [h, hH, hO, ← EReal.coe_mul, coe_sum, ← EReal.coe_add]
  rfl

include hO hD in
theorem dm_ref (n : Fin 4) (r : Fin 16384) (l : Fin 1024) :
    val_main_v23 (F := Ideal) x6 x7 (ix3 n r l) = (dm O D r l : EReal) := by
  pointwise [val_main_v23, val_main_v22]
  simp only [hO, hD, ← EReal.coe_mul, coe_sum]
  rfl

include hX hG hb hO hD in
theorem dbo_f32_ref (n : Fin 4) (r : Fin 16384) (l : Fin 1024) :
    val_main_v24 (F := Ideal) x1 x3 x4 x6 x7 (ix3 n r l) = (dbo X G b O D n r l : EReal) := by
  have h1 := gate_ref hX hG hb
  have h2 := dm_ref hO hD
  pointwise [val_main_v24]
  rw [h1, h2, ← EReal.coe_mul, mul_comm]
  rfl

include hX hY hG hb hB hO hD in
theorem dz_f32_ref (n : Fin 4) (r : Fin 16384) (l : Fin 1024) :
    val_main_v27 (F := Ideal) x1 x2 x3 x4 x5 x6 x7 (ix3 n r l) = (dz X Y G b B O D n r l : EReal) := by
  have h1 := gate_ref hX hG hb
  have h2 := dm_ref hO hD
  have h3 := bo_ref hY hB
  pointwise [val_main_v27, val_main_v25, val_main_v15, val_main_v14, val_main_v13, val_main_cst_2]
  simp only [h1, h2, h3, one_sub_coe, ← EReal.coe_mul]
  rfl

include hX hG hb hO hD in
theorem dbo_ref (n : Fin 4) (r : Fin 16384) (l : Fin 1024) :
    val_main_v36 (F := Ideal) x1 x3 x4 x6 x7 (ix2 r (FfnSpec.col n l)) = (dbo X G b O D n r l : EReal) := by
  rw [← dbo_f32_ref hX hG hb hO hD]
  pointwise [val_main_v36, val_main_v35, val_main_v34]
  have e : ix3 (⟨(FfnSpec.col n l).val / 1024, by have := n.isLt; have := l.isLt; simp only [FfnSpec.col]; omega⟩ : Fin 4) r
      (⟨(FfnSpec.col n l).val % 1024, Nat.mod_lt _ (by decide)⟩ : Fin 1024) = ix3 n r l :=
    congr (congrFun (congrArg ix3 (Fin.ext (by simp only [FfnSpec.col]; have := l.isLt; omega))) r)
      (Fin.ext (by simp only [FfnSpec.col]; have := l.isLt; omega))
  exact congrArg _ e

include hX hY hG hb hB hO hD in
theorem dz_ref (n : Fin 4) (r : Fin 16384) (l : Fin 1024) :
    val_main_v39 (F := Ideal) x1 x2 x3 x4 x5 x6 x7 (ix2 r (FfnSpec.col n l)) = (dz X Y G b B O D n r l : EReal) := by
  rw [← dz_f32_ref hX hY hG hb hB hO hD]
  pointwise [val_main_v39, val_main_v38, val_main_v37]
  have e : ix3 (⟨(FfnSpec.col n l).val / 1024, by have := n.isLt; have := l.isLt; simp only [FfnSpec.col]; omega⟩ : Fin 4) r
      (⟨(FfnSpec.col n l).val % 1024, Nat.mod_lt _ (by decide)⟩ : Fin 1024) = ix3 n r l :=
    congr (congrFun (congrArg ix3 (Fin.ext (by simp only [FfnSpec.col]; have := l.isLt; omega))) r)
      (Fin.ext (by simp only [FfnSpec.col]; have := l.isLt; omega))
  exact congrArg _ e

include hX hY hG hb hB hO hD in
theorem dx_ref (r : Fin 16384) (x : Fin 1024) :
    val_main_v32 (F := Ideal) x1 x2 x3 x4 x5 x6 x7 (ix2 r x) = (dx X Y G b B O D r x : EReal) := by
  have h := dz_f32_ref hX hY hG hb hB hO hD
  pointwise [val_main_v32, val_main_v31, val_main_cst_6]
  simp only [h, hG, ← EReal.coe_mul, coe_sum]
  rfl

include hX hG hb hB hO hD in
theorem dy_f32_ref (n : Fin 4) (r : Fin 16384) (k : Fin 512) :
    val_main_v26 (F := Ideal) x1 x3 x4 x5 x6 x7 (ix3 n r k) = (dy X G b B O D n r k : EReal) := by
  have h := dbo_f32_ref hX hG hb hO hD
  pointwise [val_main_v26]
  simp only [h, hB, ← EReal.coe_mul, coe_sum]
  rfl

include hX hG hb hB hO hD in
theorem dy0_ref (r : Fin 16384) (k : Fin 512) :
    val_main_v41 (F := Ideal) x1 x3 x4 x5 x6 x7 (ix2 r k) = (dy X G b B O D 0 r k : EReal) := by
  have h := dy_f32_ref hX hG hb hB hO hD 0 r k
  pointwise [val_main_v41, val_main_v40]
  exact h

include hX hG hb hB hO hD in
theorem dy1_ref (r : Fin 16384) (k : Fin 512) :
    val_main_v43 (F := Ideal) x1 x3 x4 x5 x6 x7 (ix2 r k) = (dy X G b B O D 1 r k : EReal) := by
  have h := dy_f32_ref hX hG hb hB hO hD 1 r k
  pointwise [val_main_v43, val_main_v42]
  exact h

include hX hG hb hB hO hD in
theorem dy2_ref (r : Fin 16384) (k : Fin 512) :
    val_main_v45 (F := Ideal) x1 x3 x4 x5 x6 x7 (ix2 r k) = (dy X G b B O D 2 r k : EReal) := by
  have h := dy_f32_ref hX hG hb hB hO hD 2 r k
  pointwise [val_main_v45, val_main_v44]
  exact h

include hX hG hb hB hO hD in
theorem dy3_ref (r : Fin 16384) (k : Fin 512) :
    val_main_v47 (F := Ideal) x1 x3 x4 x5 x6 x7 (ix2 r k) = (dy X G b B O D 3 r k : EReal) := by
  have h := dy_f32_ref hX hG hb hB hO hD 3 r k
  pointwise [val_main_v47, val_main_v46]
  exact h

include hX hY hG hb hB hO hD in
theorem db_ref (n : Fin 4) (l : Fin 1024) :
    val_main_v30 (F := Ideal) x1 x2 x3 x4 x5 x6 x7 (ix2 n l) = (db X Y G b B O D n l : EReal) := by
  have h := dz_f32_ref hX hY hG hb hB hO hD
  have h28 : ∀ n l, val_main_v28 (F := Ideal) x1 x2 x3 x4 x5 x6 x7 (ix2 n l) = (db X Y G b B O D n l : EReal) := fun n l => by
    pointwise [val_main_v28, val_main_cst_4]
    simp only [h, coe_sum]
    rfl
  pointwise [val_main_v30, val_main_v29, val_main_cst_5]
  rw [Fin.sum_univ_one]
  exact h28 n l

/-- A buffer of a device's TensorCore. -/
abbrev at_ (m : (ℓ : Loc nD τ sig) → Buf (Elt Ideal) ℓ) (c : Dev nD) (b : Ref sig .tc) : Buf (Elt Ideal) ((c.tc : Thread nD τ).loc b) :=
  m ((c.tc : Thread nD τ).loc b)

/-- The reference's run: its results are the named values, its arguments end unchanged and it has no semaphore. -/
theorem ref_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      at_ r.2.mem c main_v33 = val_main_v33 (F := Ideal) (at_ m c main_arg1) (at_ m c main_arg2) (at_ m c main_arg3) (at_ m c main_arg4) (at_ m c main_arg5)
      ∧ at_ r.2.mem c main_v21 = val_main_v21 (F := Ideal) (at_ m c main_arg0) (at_ m c main_arg1) (at_ m c main_arg2) (at_ m c main_arg3) (at_ m c main_arg4) (at_ m c main_arg5) (at_ m c main_arg6)
      ∧ at_ r.2.mem c main_v36 = val_main_v36 (F := Ideal) (at_ m c main_arg1) (at_ m c main_arg3) (at_ m c main_arg4) (at_ m c main_arg6) (at_ m c main_arg7)
      ∧ at_ r.2.mem c main_v39 = val_main_v39 (F := Ideal) (at_ m c main_arg1) (at_ m c main_arg2) (at_ m c main_arg3) (at_ m c main_arg4) (at_ m c main_arg5) (at_ m c main_arg6) (at_ m c main_arg7)
      ∧ at_ r.2.mem c main_v32 = val_main_v32 (F := Ideal) (at_ m c main_arg1) (at_ m c main_arg2) (at_ m c main_arg3) (at_ m c main_arg4) (at_ m c main_arg5) (at_ m c main_arg6) (at_ m c main_arg7)
      ∧ at_ r.2.mem c main_v41 = val_main_v41 (F := Ideal) (at_ m c main_arg1) (at_ m c main_arg3) (at_ m c main_arg4) (at_ m c main_arg5) (at_ m c main_arg6) (at_ m c main_arg7)
      ∧ at_ r.2.mem c main_v43 = val_main_v43 (F := Ideal) (at_ m c main_arg1) (at_ m c main_arg3) (at_ m c main_arg4) (at_ m c main_arg5) (at_ m c main_arg6) (at_ m c main_arg7)
      ∧ at_ r.2.mem c main_v45 = val_main_v45 (F := Ideal) (at_ m c main_arg1) (at_ m c main_arg3) (at_ m c main_arg4) (at_ m c main_arg5) (at_ m c main_arg6) (at_ m c main_arg7)
      ∧ at_ r.2.mem c main_v47 = val_main_v47 (F := Ideal) (at_ m c main_arg1) (at_ m c main_arg3) (at_ m c main_arg4) (at_ m c main_arg5) (at_ m c main_arg6) (at_ m c main_arg7)
      ∧ at_ r.2.mem c main_v30 = val_main_v30 (F := Ideal) (at_ m c main_arg1) (at_ m c main_arg2) (at_ m c main_arg3) (at_ m c main_arg4) (at_ m c main_arg5) (at_ m c main_arg6) (at_ m c main_arg7)
      ∧ at_ r.2.mem c main_arg0 = at_ m c main_arg0
      ∧ at_ r.2.mem c main_arg1 = at_ m c main_arg1
      ∧ at_ r.2.mem c main_arg2 = at_ m c main_arg2
      ∧ at_ r.2.mem c main_arg3 = at_ m c main_arg3
      ∧ at_ r.2.mem c main_arg4 = at_ m c main_arg4
      ∧ at_ r.2.mem c main_arg5 = at_ m c main_arg5
      ∧ at_ r.2.mem c main_arg6 = at_ m c main_arg6
      ∧ at_ r.2.mem c main_arg7 = at_ m c main_arg7) ∧ r.2.sem = fun _ => 0 :=
  (θ_run _ _ _).mono (fun r h => And.intro (fun c => by
      obtain ⟨h1, h2, h3, h4, h5, h6, h7, h8, h9, h10, hrest⟩ := h c
      exact ⟨h1.trans (val_main_v33_eq ..),
        h2.trans (val_main_v21_eq ..),
        h3.trans (val_main_v36_eq ..),
        h4.trans (val_main_v39_eq ..),
        h5.trans (val_main_v32_eq ..),
        h6.trans (val_main_v41_eq ..),
        h7.trans (val_main_v43_eq ..),
        h8.trans (val_main_v45_eq ..),
        h9.trans (val_main_v47_eq ..),
        h10.trans (val_main_v30_eq ..), hrest⟩)
    (sem_eq_zero_of_no_sems (by decide) r.2)) (Value.run m ρ)

end Cert.MergeRefIdeal
-- ==== Proof.Merge.Claim.lean ====
module
public import proofs.«01_k».proof.Defs
public import proofs.«01_k».proof.Proof.Gen.Merge.Frame
public import proofs.«01_k».proof.Proof.Gen.Pre_finite_merge
public import proofs.«01_k».proof.Proof.Merge.Run
public import proofs.«01_k».proof.Proof.Merge.Ref

/-! The claims about the gated merge of the branches: the reference's frame, and that the two calls' results are the
    reference's at finite arguments. -/

@[expose] public section

set_option maxRecDepth 16384

noncomputable section

namespace Cert.MergeClaim

open Idealize.ShloMosaic Idealize.ShloMosaic.TcCoe Idealize.ShloMosaic.Tactic Idealize.SL.Sem Cert.Reals

open Cert.Pre_finite_merge in
/-- Where the precondition holds the arguments are real numbers. -/
theorem finite_of_pre {x0 x1 x7 : FVec Ideal S16384x1024 .f32} {x2 : FVec Ideal S4x16384x512 .f32} {x3 : FVec Ideal S4x1024x1024 .f32}
    {x4 : FVec Ideal S4x1024 .f32} {x5 : FVec Ideal S4x512x1024 .f32} {x6 : FVec Ideal S1024x1024 .f32}
    (h : fn x0 x1 x2 x3 x4 x5 x6 x7 = fun _ => 1#1) :
    x0 = (fun i => ((EReal.toReal (x0 i) : ℝ) : EReal))
    ∧ x1 = (fun i => ((EReal.toReal (x1 i) : ℝ) : EReal))
    ∧ x2 = (fun i => ((EReal.toReal (x2 i) : ℝ) : EReal))
    ∧ x3 = (fun i => ((EReal.toReal (x3 i) : ℝ) : EReal))
    ∧ x4 = (fun i => ((EReal.toReal (x4 i) : ℝ) : EReal))
    ∧ x5 = (fun i => ((EReal.toReal (x5 i) : ℝ) : EReal))
    ∧ x6 = (fun i => ((EReal.toReal (x6 i) : ℝ) : EReal))
    ∧ x7 = (fun i => ((EReal.toReal (x7 i) : ℝ) : EReal)) := by
  have : Subsingleton S_.Idx := ⟨fun _ _ => funext fun a => a.elim0⟩
  have h := congrFun h (fun a => a.elim0)
  dsimp only [fn, fn_part1] at h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  exact ⟨real_of_all _ _ (fun _ => lit_inf) _ _ _ _ h0,
    real_of_all _ _ (fun _ => lit_inf) _ _ _ _ h1,
    real_of_all _ _ (fun _ => lit_inf) _ _ _ _ h2,
    real_of_all _ _ (fun _ => lit_inf) _ _ _ _ h3,
    real_of_all _ _ (fun _ => lit_inf) _ _ _ _ h4,
    real_of_all _ _ (fun _ => lit_inf) _ _ _ _ h5,
    real_of_all _ _ (fun _ => lit_inf) _ _ _ _ h6,
    real_of_all _ _ (fun _ => lit_inf) _ _ _ _ h7⟩

/-- The reference leaves its arguments as they were. -/
theorem frame_ref (m : (ℓ : Loc MergeRefIdeal.nD MergeRefIdeal.τ MergeRefIdeal.sig) → Buf (Elt Ideal) ℓ)
    (ρ : Dev MergeRefIdeal.nD → PrngReg) :
    θ_run (MergeRefIdeal.defs (F := Ideal)) (onTc (τ := MergeRefIdeal.τ) (MergeRefIdeal.main (F := Ideal))) ⟨m, fun _ => 0, ρ⟩
      (fun r => (∀ c : Dev MergeRefIdeal.nD,
        r.2.mem ((c.tc : Thread MergeRefIdeal.nD MergeRefIdeal.τ).loc MergeRefIdeal.main_arg0) = m ((c.tc : Thread MergeRefIdeal.nD MergeRefIdeal.τ).loc MergeRefIdeal.main_arg0)
        ∧ r.2.mem ((c.tc : Thread MergeRefIdeal.nD MergeRefIdeal.τ).loc MergeRefIdeal.main_arg1) = m ((c.tc : Thread MergeRefIdeal.nD MergeRefIdeal.τ).loc MergeRefIdeal.main_arg1)
        ∧ r.2.mem ((c.tc : Thread MergeRefIdeal.nD MergeRefIdeal.τ).loc MergeRefIdeal.main_arg2) = m ((c.tc : Thread MergeRefIdeal.nD MergeRefIdeal.τ).loc MergeRefIdeal.main_arg2)
        ∧ r.2.mem ((c.tc : Thread MergeRefIdeal.nD MergeRefIdeal.τ).loc MergeRefIdeal.main_arg3) = m ((c.tc : Thread MergeRefIdeal.nD MergeRefIdeal.τ).loc MergeRefIdeal.main_arg3)
        ∧ r.2.mem ((c.tc : Thread MergeRefIdeal.nD MergeRefIdeal.τ).loc MergeRefIdeal.main_arg4) = m ((c.tc : Thread MergeRefIdeal.nD MergeRefIdeal.τ).loc MergeRefIdeal.main_arg4)
        ∧ r.2.mem ((c.tc : Thread MergeRefIdeal.nD MergeRefIdeal.τ).loc MergeRefIdeal.main_arg5) = m ((c.tc : Thread MergeRefIdeal.nD MergeRefIdeal.τ).loc MergeRefIdeal.main_arg5)
        ∧ r.2.mem ((c.tc : Thread MergeRefIdeal.nD MergeRefIdeal.τ).loc MergeRefIdeal.main_arg6) = m ((c.tc : Thread MergeRefIdeal.nD MergeRefIdeal.τ).loc MergeRefIdeal.main_arg6)
        ∧ r.2.mem ((c.tc : Thread MergeRefIdeal.nD MergeRefIdeal.τ).loc MergeRefIdeal.main_arg7) = m ((c.tc : Thread MergeRefIdeal.nD MergeRefIdeal.τ).loc MergeRefIdeal.main_arg7)) ∧ r.2.sem = fun _ => 0) :=
  (θ_run _ _ _).mono (fun _ h => ⟨fun c => (h.1 c).2.2.2.2.2.2.2.2.2.2, h.2⟩) (MergeRefIdeal.ref_run m ρ)

/-- An argument of the device. -/
abbrev arg (m : (ℓ : Loc MergeIdeal.nD MergeIdeal.τ MergeIdeal.sig) → Buf (Elt Ideal) ℓ) (c : Dev MergeIdeal.nD) (b : Ref MergeIdeal.sig .tc) :
    Buf (Elt Ideal) ((c.tc : Thread MergeIdeal.nD MergeIdeal.τ).loc b) := m ((c.tc : Thread MergeIdeal.nD MergeIdeal.τ).loc b)

section Results

variable (m : (ℓ : Loc MergeIdeal.nD MergeIdeal.τ MergeIdeal.sig) → Buf (Elt Ideal) ℓ) (g : Dev MergeIdeal.nD → PrngReg) (c : Dev MergeIdeal.nD)

variable {H X : Fin 16384 → Fin 1024 → ℝ} {Y : Fin 4 → Fin 16384 → Fin 512 → ℝ} {G : Fin 4 → Fin 1024 → Fin 1024 → ℝ}
  {b : Fin 4 → Fin 1024 → ℝ} {B : Fin 4 → Fin 512 → Fin 1024 → ℝ} {O : Fin 1024 → Fin 1024 → ℝ} {D : Fin 16384 → Fin 1024 → ℝ}
  (H0 : ∀ r l, arg m c MergeIdeal.main_arg0 (ix2 r l) = (H r l : EReal))
  (H1 : ∀ r l, arg m c MergeIdeal.main_arg1 (ix2 r l) = (X r l : EReal))
  (H2 : ∀ n r k, arg m c MergeIdeal.main_arg2 (ix3 n r k) = (Y n r k : EReal))
  (H3 : ∀ n k l, arg m c MergeIdeal.main_arg3 (ix3 n k l) = (G n k l : EReal))
  (H4 : ∀ n l, arg m c MergeIdeal.main_arg4 (ix2 n l) = (b n l : EReal))
  (H5 : ∀ n k l, arg m c MergeIdeal.main_arg5 (ix3 n k l) = (B n k l : EReal))
  (H6 : ∀ l j, arg m c MergeIdeal.main_arg6 (ix2 l j) = (O l j : EReal))
  (H7 : ∀ r l, arg m c MergeIdeal.main_arg7 (ix2 r l) = (D r l : EReal))

variable {x0 : FVec Ideal MergeRefIdeal.S16384x1024 .f32} (E0 : x0 = arg m c MergeIdeal.main_arg0)
  {x1 : FVec Ideal MergeRefIdeal.S16384x1024 .f32} (E1 : x1 = arg m c MergeIdeal.main_arg1)
  {x2 : FVec Ideal MergeRefIdeal.S4x16384x512 .f32} (E2 : x2 = arg m c MergeIdeal.main_arg2)
  {x3 : FVec Ideal MergeRefIdeal.S4x1024x1024 .f32} (E3 : x3 = arg m c MergeIdeal.main_arg3)
  {x4 : FVec Ideal MergeRefIdeal.S4x1024 .f32} (E4 : x4 = arg m c MergeIdeal.main_arg4)
  {x5 : FVec Ideal MergeRefIdeal.S4x512x1024 .f32} (E5 : x5 = arg m c MergeIdeal.main_arg5)
  {x6 : FVec Ideal MergeRefIdeal.S1024x1024 .f32} (E6 : x6 = arg m c MergeIdeal.main_arg6)
  {x7 : FVec Ideal MergeRefIdeal.S16384x1024 .f32} (E7 : x7 = arg m c MergeIdeal.main_arg7)

include E1 E2 E3 E4 E5 H1 H2 H3 H4 H5 in
theorem merged_same : MergeRefIdeal.Read.val_main_v33 (F := Ideal) x1 x2 x3 x4 x5
    = MergeIdeal.Gen.W4 m g c MergeIdeal.main_v16_2 := by
  subst E1 E2 E3 E4 E5
  rw [MergeIdeal.w4_merged m g c H1 H2 H3 H4 H5]
  funext i; rw [eq_ix2 i]
  exact MergeRefIdeal.merged_ref H1 H2 H3 H4 H5 _ _

include E0 E1 E2 E3 E4 E5 E6 H0 H1 H2 H3 H4 H5 H6 in
theorem out_same : MergeRefIdeal.Read.val_main_v21 (F := Ideal) x0 x1 x2 x3 x4 x5 x6
    = MergeIdeal.Gen.W4 m g c MergeIdeal.main_v16_3 := by
  subst E0 E1 E2 E3 E4 E5 E6
  rw [MergeIdeal.w4_out m g c H0 H1 H2 H3 H4 H5 H6]
  funext i; rw [eq_ix2 i]
  exact MergeRefIdeal.out_ref H0 H1 H2 H3 H4 H5 H6 _ _

include E1 E3 E4 E6 E7 H1 H3 H4 H6 H7 in
theorem dbo_same : MergeRefIdeal.Read.val_main_v36 (F := Ideal) x1 x3 x4 x6 x7
    = MergeIdeal.Gen.W4 m g c MergeIdeal.main_v17_1 := by
  subst E1 E3 E4 E6 E7
  rw [MergeIdeal.w4_dbo m g c H1 H3 H4 H6 H7]
  funext i; obtain ⟨r, j, rfl⟩ : ∃ (r : Fin 16384) (j : Fin 4096), i = ix2 r j := ⟨i 0, i 1, eq_ix2 i⟩
  obtain ⟨n, l, rfl⟩ := FfnSpec.exists_col j
  exact (MergeRefIdeal.dbo_ref H1 H3 H4 H6 H7 n r l).trans (congrArg Real.toEReal (MergeIdeal.flat_col (fun n l => MergeSpec.dbo X G b O D n r l) n l).symm)

include E1 E2 E3 E4 E5 E6 E7 H1 H2 H3 H4 H5 H6 H7 in
theorem dz_same : MergeRefIdeal.Read.val_main_v39 (F := Ideal) x1 x2 x3 x4 x5 x6 x7
    = MergeIdeal.Gen.W4 m g c MergeIdeal.main_v17_2 := by
  subst E1 E2 E3 E4 E5 E6 E7
  rw [MergeIdeal.w4_dz m g c H1 H2 H3 H4 H5 H6 H7]
  funext i; obtain ⟨r, j, rfl⟩ : ∃ (r : Fin 16384) (j : Fin 4096), i = ix2 r j := ⟨i 0, i 1, eq_ix2 i⟩
  obtain ⟨n, l, rfl⟩ := FfnSpec.exists_col j
  exact (MergeRefIdeal.dz_ref H1 H2 H3 H4 H5 H6 H7 n r l).trans (congrArg Real.toEReal (MergeIdeal.flat_col (fun n l => MergeSpec.dz X Y G b B O D n r l) n l).symm)

include E1 E2 E3 E4 E5 E6 E7 H1 H2 H3 H4 H5 H6 H7 in
theorem dx_same : MergeRefIdeal.Read.val_main_v32 (F := Ideal) x1 x2 x3 x4 x5 x6 x7
    = MergeIdeal.Gen.W4 m g c MergeIdeal.main_v17_3 := by
  subst E1 E2 E3 E4 E5 E6 E7
  rw [MergeIdeal.w4_dx m g c H1 H2 H3 H4 H5 H6 H7]
  funext i; rw [eq_ix2 i]
  exact MergeRefIdeal.dx_ref H1 H2 H3 H4 H5 H6 H7 _ _

include E1 E3 E4 E5 E6 E7 H1 H3 H4 H5 H6 H7 in
theorem dy0_same : MergeRefIdeal.Read.val_main_v41 (F := Ideal) x1 x3 x4 x5 x6 x7
    = MergeIdeal.Gen.W4 m g c MergeIdeal.main_v17_4 := by
  subst E1 E3 E4 E5 E6 E7
  rw [MergeIdeal.w4_dy0 m g c H1 H3 H4 H5 H6 H7]
  funext i; rw [eq_ix2 i]
  exact MergeRefIdeal.dy0_ref H1 H3 H4 H5 H6 H7 _ _

include E1 E3 E4 E5 E6 E7 H1 H3 H4 H5 H6 H7 in
theorem dy1_same : MergeRefIdeal.Read.val_main_v43 (F := Ideal) x1 x3 x4 x5 x6 x7
    = MergeIdeal.Gen.W4 m g c MergeIdeal.main_v17_5 := by
  subst E1 E3 E4 E5 E6 E7
  rw [MergeIdeal.w4_dy1 m g c H1 H3 H4 H5 H6 H7]
  funext i; rw [eq_ix2 i]
  exact MergeRefIdeal.dy1_ref H1 H3 H4 H5 H6 H7 _ _

include E1 E3 E4 E5 E6 E7 H1 H3 H4 H5 H6 H7 in
theorem dy2_same : MergeRefIdeal.Read.val_main_v45 (F := Ideal) x1 x3 x4 x5 x6 x7
    = MergeIdeal.Gen.W4 m g c MergeIdeal.main_v17_6 := by
  subst E1 E3 E4 E5 E6 E7
  rw [MergeIdeal.w4_dy2 m g c H1 H3 H4 H5 H6 H7]
  funext i; rw [eq_ix2 i]
  exact MergeRefIdeal.dy2_ref H1 H3 H4 H5 H6 H7 _ _

include E1 E3 E4 E5 E6 E7 H1 H3 H4 H5 H6 H7 in
theorem dy3_same : MergeRefIdeal.Read.val_main_v47 (F := Ideal) x1 x3 x4 x5 x6 x7
    = MergeIdeal.Gen.W4 m g c MergeIdeal.main_v17_7 := by
  subst E1 E3 E4 E5 E6 E7
  rw [MergeIdeal.w4_dy3 m g c H1 H3 H4 H5 H6 H7]
  funext i; rw [eq_ix2 i]
  exact MergeRefIdeal.dy3_ref H1 H3 H4 H5 H6 H7 _ _

include E1 E2 E3 E4 E5 E6 E7 H1 H2 H3 H4 H5 H6 H7 in
theorem db_same : MergeRefIdeal.Read.val_main_v30 (F := Ideal) x1 x2 x3 x4 x5 x6 x7
    = MergeIdeal.Gen.W4 m g c MergeIdeal.main_v18 := by
  subst E1 E2 E3 E4 E5 E6 E7
  funext i; obtain ⟨n, l, rfl⟩ : ∃ (n : Fin 4) (l : Fin 1024), i = ix2 n l := ⟨i 0, i 1, eq_ix2 i⟩
  exact (MergeRefIdeal.db_ref H1 H2 H3 H4 H5 H6 H7 n l).trans (MergeIdeal.w4_db m g c H1 H2 H3 H4 H5 H6 H7 n l).symm

end Results

theorem algebraic : Cert.algebraic_MergeIdeal_MergeRefIdeal_pre_finite_merge := by
  intro m g m' g' hpre hargs
  refine ⟨fun c => MergeIdeal.Gen.W4 m g c MergeIdeal.main_v16_2,
    fun c => MergeIdeal.Gen.W4 m g c MergeIdeal.main_v16_3,
    fun c => MergeIdeal.Gen.W4 m g c MergeIdeal.main_v17_1,
    fun c => MergeIdeal.Gen.W4 m g c MergeIdeal.main_v17_2,
    fun c => MergeIdeal.Gen.W4 m g c MergeIdeal.main_v17_3,
    fun c => MergeIdeal.Gen.W4 m g c MergeIdeal.main_v17_4,
    fun c => MergeIdeal.Gen.W4 m g c MergeIdeal.main_v17_5,
    fun c => MergeIdeal.Gen.W4 m g c MergeIdeal.main_v17_6,
    fun c => MergeIdeal.Gen.W4 m g c MergeIdeal.main_v17_7,
    fun c => MergeIdeal.Gen.W4 m g c MergeIdeal.main_v18, ?_, ?_⟩
  · refine (θ_run _ _ _).mono (fun r h c => ?_) (MergeIdeal.run_contents m g)
    have hm := fun b hb => h c (Proc.devRef .tc b) (MergeIdeal.Gen.mem_uc b hb)
    exact ⟨hm _ (by decide), hm _ (by decide), hm _ (by decide), hm _ (by decide), hm _ (by decide), hm _ (by decide), hm _ (by decide), hm _ (by decide), hm _ (by decide), hm _ (by decide),
      (hm _ (by decide)).trans (MergeIdeal.Gen.W4_main_arg0 m g c),
      (hm _ (by decide)).trans (MergeIdeal.Gen.W4_main_arg1 m g c),
      (hm _ (by decide)).trans (MergeIdeal.Gen.W4_main_arg2 m g c),
      (hm _ (by decide)).trans (MergeIdeal.Gen.W4_main_arg3 m g c),
      (hm _ (by decide)).trans (MergeIdeal.Gen.W4_main_arg4 m g c),
      (hm _ (by decide)).trans (MergeIdeal.Gen.W4_main_arg5 m g c),
      (hm _ (by decide)).trans (MergeIdeal.Gen.W4_main_arg6 m g c),
      (hm _ (by decide)).trans (MergeIdeal.Gen.W4_main_arg7 m g c)⟩
  · refine (θ_run _ _ _).mono (fun r h c => ?_) (MergeRefIdeal.ref_run m' g')
    obtain ⟨a0, a1, a2, a3, a4, a5, a6, a7⟩ := hargs c
    obtain ⟨f0, f1, f2, f3, f4, f5, f6, f7⟩ := finite_of_pre (hpre c)
    have H0 := fun r l => congrFun f0 (ix2 r l)
    have H1 := fun r l => congrFun f1 (ix2 r l)
    have H2 := fun n r l => congrFun f2 (ix3 n r l)
    have H3 := fun n r l => congrFun f3 (ix3 n r l)
    have H4 := fun n l => congrFun f4 (ix2 n l)
    have H5 := fun n r l => congrFun f5 (ix3 n r l)
    have H6 := fun r l => congrFun f6 (ix2 r l)
    have H7 := fun r l => congrFun f7 (ix2 r l)
    obtain ⟨h1, h2, h3, h4, h5, h6, h7, h8, h9, h10, hrest⟩ := h.1 c
    refine ⟨h1.trans ?_, h2.trans ?_, h3.trans ?_, h4.trans ?_, h5.trans ?_, h6.trans ?_, h7.trans ?_, h8.trans ?_, h9.trans ?_, h10.trans ?_, hrest⟩
    · exact merged_same m g c H1 H2 H3 H4 H5 a1 a2 a3 a4 a5
    · exact out_same m g c H0 H1 H2 H3 H4 H5 H6 a0 a1 a2 a3 a4 a5 a6
    · exact dbo_same m g c H1 H3 H4 H6 H7 a1 a3 a4 a6 a7
    · exact dz_same m g c H1 H2 H3 H4 H5 H6 H7 a1 a2 a3 a4 a5 a6 a7
    · exact dx_same m g c H1 H2 H3 H4 H5 H6 H7 a1 a2 a3 a4 a5 a6 a7
    · exact dy0_same m g c H1 H3 H4 H5 H6 H7 a1 a3 a4 a5 a6 a7
    · exact dy1_same m g c H1 H3 H4 H5 H6 H7 a1 a3 a4 a5 a6 a7
    · exact dy2_same m g c H1 H3 H4 H5 H6 H7 a1 a3 a4 a5 a6 a7
    · exact dy3_same m g c H1 H3 H4 H5 H6 H7 a1 a3 a4 a5 a6 a7
    · exact db_same m g c H1 H2 H3 H4 H5 H6 H7 a1 a2 a3 a4 a5 a6 a7

end Cert.MergeClaim
-- ==== Proof.lean ====
/- The claims about the parts of the step: each program runs without fault and leaves its arguments and the semaphores as
   they were, and the results of the version's calls are the gradients of the problem's own lines. -/
module

public import proofs.«01_k».proof.Defs
public import proofs.«01_k».proof.Proof.Gen.PleRefIdeal.Run
public import proofs.«01_k».proof.Proof.Gen.PleRefIdeal.Read
public import proofs.«01_k».proof.Proof.Ple.Claim
public import proofs.«01_k».proof.Proof.Gen.AttnRefIdeal.Run
public import proofs.«01_k».proof.Proof.Gen.AttnRefIdeal.Read
public import proofs.«01_k».proof.Proof.Attn.Claim
public import proofs.«01_k».proof.Proof.Gen.SgRefIdeal.Run
public import proofs.«01_k».proof.Proof.Gen.SgRefIdeal.Read
public import proofs.«01_k».proof.Proof.Sg.Claim
public import proofs.«01_k».proof.Proof.Gen.AttfRefIdeal.Run
public import proofs.«01_k».proof.Proof.Gen.AttfRefIdeal.Read
public import proofs.«01_k».proof.Proof.Attf.Claim
public import proofs.«01_k».proof.Proof.Gen.FfnRefIdeal.Run
public import proofs.«01_k».proof.Proof.Gen.FfnRefIdeal.Read
public import proofs.«01_k».proof.Proof.Ffn.Claim
public import proofs.«01_k».proof.Proof.Gen.InprojRefIdeal.Run
public import proofs.«01_k».proof.Proof.Gen.InprojRefIdeal.Read
public import proofs.«01_k».proof.Proof.Inproj.Claim
public import proofs.«01_k».proof.Proof.Gen.MergeRefIdeal.Run
public import proofs.«01_k».proof.Proof.Gen.MergeRefIdeal.Read
public import proofs.«01_k».proof.Proof.Merge.Claim

@[expose] public section

noncomputable section

namespace Cert.Proof

open Idealize.ShloMosaic Idealize.SL.Sem

theorem claim : Cert.Claim := ⟨Cert.Ple.Gen.facts, Cert.PleIdeal.Gen.facts, Cert.PleRefIdeal.Gen.facts,
  Cert.Attn.Gen.facts, Cert.AttnIdeal.Gen.facts, Cert.AttnRefIdeal.Gen.facts,
  Cert.Sg.Gen.facts, Cert.SgIdeal.Gen.facts, Cert.SgRefIdeal.Gen.facts,
  Cert.Attf.Gen.facts, Cert.AttfIdeal.Gen.facts, Cert.AttfRefIdeal.Gen.facts,
  Cert.Ffn.Gen.facts, Cert.FfnIdeal.Gen.facts, Cert.FfnRefIdeal.Gen.facts,
  Cert.Inproj.Gen.facts, Cert.InprojIdeal.Gen.facts, Cert.InprojRefIdeal.Gen.facts,
  Cert.Merge.Gen.facts, Cert.MergeIdeal.Gen.facts, Cert.MergeRefIdeal.Gen.facts,
  Cert.Pre_finite_ple.Gen.facts, Cert.Pre_finite_attn.Gen.facts, Cert.Pre_finite_sg.Gen.facts, Cert.Pre_finite_attf.Gen.facts,
  Cert.Pre_finite_ffn.Gen.facts, Cert.Pre_finite_inproj.Gen.facts, Cert.Pre_finite_merge.Gen.facts,
  fun m ρ _ => Cert.Ple.Gen.frame m ρ, fun m ρ _ => Cert.PleIdeal.Gen.frame m ρ, fun m ρ _ => Cert.PleIdeal.Gen.frame m ρ,
  fun m ρ _ => Cert.PleClaim.frame_ref m ρ, fun m ρ _ => Cert.PleClaim.frame_ref m ρ,
  fun m ρ _ => Cert.Attn.Gen.frame m ρ, fun m ρ _ => Cert.AttnIdeal.Gen.frame m ρ, fun m ρ _ => Cert.AttnIdeal.Gen.frame m ρ,
  fun m ρ _ => Cert.AttnClaim.frame_ref m ρ, fun m ρ _ => Cert.AttnClaim.frame_ref m ρ,
  fun m ρ _ => Cert.Sg.Gen.frame m ρ, fun m ρ _ => Cert.SgIdeal.Gen.frame m ρ, fun m ρ _ => Cert.SgIdeal.Gen.frame m ρ,
  fun m ρ _ => Cert.SgClaim.frame_ref m ρ, fun m ρ _ => Cert.SgClaim.frame_ref m ρ,
  fun m ρ _ => Cert.Attf.Gen.frame m ρ, fun m ρ _ => Cert.AttfIdeal.Gen.frame m ρ, fun m ρ _ => Cert.AttfIdeal.Gen.frame m ρ,
  fun m ρ _ => Cert.AttfClaim.frame_ref m ρ, fun m ρ _ => Cert.AttfClaim.frame_ref m ρ,
  fun m ρ _ => Cert.Ffn.Gen.frame m ρ, fun m ρ _ => Cert.FfnIdeal.Gen.frame m ρ, fun m ρ _ => Cert.FfnIdeal.Gen.frame m ρ,
  fun m ρ _ => Cert.FfnClaim.frame_ref m ρ, fun m ρ _ => Cert.FfnClaim.frame_ref m ρ,
  fun m ρ _ => Cert.Inproj.Gen.frame m ρ, fun m ρ _ => Cert.InprojIdeal.Gen.frame m ρ, fun m ρ _ => Cert.InprojIdeal.Gen.frame m ρ,
  fun m ρ _ => Cert.InprojClaim.frame_ref m ρ, fun m ρ _ => Cert.InprojClaim.frame_ref m ρ,
  fun m ρ _ => Cert.Merge.Gen.frame m ρ, fun m ρ _ => Cert.MergeIdeal.Gen.frame m ρ, fun m ρ _ => Cert.MergeIdeal.Gen.frame m ρ,
  fun m ρ _ => Cert.MergeClaim.frame_ref m ρ, fun m ρ _ => Cert.MergeClaim.frame_ref m ρ,
  trivial, Cert.PleClaim.algebraic, trivial, Cert.AttnClaim.algebraic, Cert.SgClaim.preserves, Cert.SgClaim.algebraic,
  Cert.AttfClaim.preserves, Cert.AttfClaim.algebraic, trivial, Cert.FfnClaim.algebraic,
  trivial, Cert.InprojClaim.algebraic, trivial, Cert.MergeClaim.algebraic⟩

end Cert.Proof

end
